-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_UpY (m : (ℓ : Loc Cert.UpY.nD Cert.UpY.τ Cert.UpY.sig) → Buf (Elt Bits) ℓ) : Prop :=
  True

def Pre_UpYIdeal (m : (ℓ : Loc Cert.UpYIdeal.nD Cert.UpYIdeal.τ Cert.UpYIdeal.sig) → Buf (Elt Ideal) ℓ) : Prop :=
  True

def Pre_UpYRefIdeal (m : (ℓ : Loc Cert.UpYRefIdeal.nD Cert.UpYRefIdeal.τ Cert.UpYRefIdeal.sig) → Buf (Elt Ideal) ℓ) : Prop :=
  True

def Pre_DownY (m : (ℓ : Loc Cert.DownY.nD Cert.DownY.τ Cert.DownY.sig) → Buf (Elt Bits) ℓ) : Prop :=
  True

def Pre_DownYIdeal (m : (ℓ : Loc Cert.DownYIdeal.nD Cert.DownYIdeal.τ Cert.DownYIdeal.sig) → Buf (Elt Ideal) ℓ) : Prop :=
  True

def Pre_DownYRefIdeal (m : (ℓ : Loc Cert.DownYRefIdeal.nD Cert.DownYRefIdeal.τ Cert.DownYRefIdeal.sig) → Buf (Elt Ideal) ℓ) : Prop :=
  True

def Pre_ProjY (m : (ℓ : Loc Cert.ProjY.nD Cert.ProjY.τ Cert.ProjY.sig) → Buf (Elt Bits) ℓ) : Prop :=
  True

def Pre_ProjYIdeal (m : (ℓ : Loc Cert.ProjYIdeal.nD Cert.ProjYIdeal.τ Cert.ProjYIdeal.sig) → Buf (Elt Ideal) ℓ) : Prop :=
  True

def Pre_ProjYRefIdeal (m : (ℓ : Loc Cert.ProjYRefIdeal.nD Cert.ProjYRefIdeal.τ Cert.ProjYRefIdeal.sig) → Buf (Elt Ideal) ℓ) : Prop :=
  True

def Pre_OutY (m : (ℓ : Loc Cert.OutY.nD Cert.OutY.τ Cert.OutY.sig) → Buf (Elt Bits) ℓ) : Prop :=
  True

def Pre_OutYIdeal (m : (ℓ : Loc Cert.OutYIdeal.nD Cert.OutYIdeal.τ Cert.OutYIdeal.sig) → Buf (Elt Ideal) ℓ) : Prop :=
  True

def Pre_OutYRefIdeal (m : (ℓ : Loc Cert.OutYRefIdeal.nD Cert.OutYRefIdeal.τ Cert.OutYRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_GluY (m : (ℓ : Loc Cert.GluY.nD Cert.GluY.τ Cert.GluY.sig) → Buf (Elt Bits) ℓ) : Prop :=
  True

def Pre_GluYIdeal (m : (ℓ : Loc Cert.GluYIdeal.nD Cert.GluYIdeal.τ Cert.GluYIdeal.sig) → Buf (Elt Ideal) ℓ) : Prop :=
  True

def Pre_GluYRefIdeal (m : (ℓ : Loc Cert.GluYRefIdeal.nD Cert.GluYRefIdeal.τ Cert.GluYRefIdeal.sig) → Buf (Elt Ideal) ℓ) : Prop :=
  True

def Pre_GluX (m : (ℓ : Loc Cert.GluX.nD Cert.GluX.τ Cert.GluX.sig) → Buf (Elt Bits) ℓ) : Prop :=
  True

def Pre_GluXIdeal (m : (ℓ : Loc Cert.GluXIdeal.nD Cert.GluXIdeal.τ Cert.GluXIdeal.sig) → Buf (Elt Ideal) ℓ) : Prop :=
  True

def Pre_GluXRefIdeal (m : (ℓ : Loc Cert.GluXRefIdeal.nD Cert.GluXRefIdeal.τ Cert.GluXRefIdeal.sig) → Buf (Elt Ideal) ℓ) : Prop :=
  True

def Pre_GluW (m : (ℓ : Loc Cert.GluW.nD Cert.GluW.τ Cert.GluW.sig) → Buf (Elt Bits) ℓ) : Prop :=
  True

def Pre_GluWIdeal (m : (ℓ : Loc Cert.GluWIdeal.nD Cert.GluWIdeal.τ Cert.GluWIdeal.sig) → Buf (Elt Ideal) ℓ) : Prop :=
  True

def Pre_GluWRefIdeal (m : (ℓ : Loc Cert.GluWRefIdeal.nD Cert.GluWRefIdeal.τ Cert.GluWRefIdeal.sig) → Buf (Elt Ideal) ℓ) : Prop :=
  True

def Pre_DnY (m : (ℓ : Loc Cert.DnY.nD Cert.DnY.τ Cert.DnY.sig) → Buf (Elt Bits) ℓ) : Prop :=
  True

def Pre_DnYIdeal (m : (ℓ : Loc Cert.DnYIdeal.nD Cert.DnYIdeal.τ Cert.DnYIdeal.sig) → Buf (Elt Ideal) ℓ) : Prop :=
  True

def Pre_DnYRefIdeal (m : (ℓ : Loc Cert.DnYRefIdeal.nD Cert.DnYRefIdeal.τ Cert.DnYRefIdeal.sig) → Buf (Elt Ideal) ℓ) : Prop :=
  True

def Pre_DnX (m : (ℓ : Loc Cert.DnX.nD Cert.DnX.τ Cert.DnX.sig) → Buf (Elt Bits) ℓ) : Prop :=
  True

def Pre_DnXIdeal (m : (ℓ : Loc Cert.DnXIdeal.nD Cert.DnXIdeal.τ Cert.DnXIdeal.sig) → Buf (Elt Ideal) ℓ) : Prop :=
  True

def Pre_DnXRefIdeal (m : (ℓ : Loc Cert.DnXRefIdeal.nD Cert.DnXRefIdeal.τ Cert.DnXRefIdeal.sig) → Buf (Elt Ideal) ℓ) : Prop :=
  True

def Pre_DnW (m : (ℓ : Loc Cert.DnW.nD Cert.DnW.τ Cert.DnW.sig) → Buf (Elt Bits) ℓ) : Prop :=
  True

def Pre_DnWIdeal (m : (ℓ : Loc Cert.DnWIdeal.nD Cert.DnWIdeal.τ Cert.DnWIdeal.sig) → Buf (Elt Ideal) ℓ) : Prop :=
  True

def Pre_DnWRefIdeal (m : (ℓ : Loc Cert.DnWRefIdeal.nD Cert.DnWRefIdeal.τ Cert.DnWRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_PostB (m : (ℓ : Loc Cert.PostB.nD Cert.PostB.τ Cert.PostB.sig) → Buf (Elt Bits) ℓ) : Prop :=
  True

def Pre_PostBIdeal (m : (ℓ : Loc Cert.PostBIdeal.nD Cert.PostBIdeal.τ Cert.PostBIdeal.sig) → Buf (Elt Ideal) ℓ) : Prop :=
  True

def Pre_PostBRefIdeal (m : (ℓ : Loc Cert.PostBRefIdeal.nD Cert.PostBRefIdeal.τ Cert.PostBRefIdeal.sig) → Buf (Elt Ideal) ℓ) : Prop :=
  True

def Pre_PreB (m : (ℓ : Loc Cert.PreB.nD Cert.PreB.τ Cert.PreB.sig) → Buf (Elt Bits) ℓ) : Prop :=
  True

def Pre_PreBIdeal (m : (ℓ : Loc Cert.PreBIdeal.nD Cert.PreBIdeal.τ Cert.PreBIdeal.sig) → Buf (Elt Ideal) ℓ) : Prop :=
  True

def Pre_PreBRefIdeal (m : (ℓ : Loc Cert.PreBRefIdeal.nD Cert.PreBRefIdeal.τ Cert.PreBRefIdeal.sig) → Buf (Elt Ideal) ℓ) : Prop :=
  True

def Pre_FfnY (m : (ℓ : Loc Cert.FfnY.nD Cert.FfnY.τ Cert.FfnY.sig) → Buf (Elt Bits) ℓ) : Prop :=
  True

def Pre_FfnYIdeal (m : (ℓ : Loc Cert.FfnYIdeal.nD Cert.FfnYIdeal.τ Cert.FfnYIdeal.sig) → Buf (Elt Ideal) ℓ) : Prop :=
  True

def Pre_FfnYRefIdeal (m : (ℓ : Loc Cert.FfnYRefIdeal.nD Cert.FfnYRefIdeal.τ Cert.FfnYRefIdeal.sig) → Buf (Elt Ideal) ℓ) : Prop :=
  True

def Pre_NormY (m : (ℓ : Loc Cert.NormY.nD Cert.NormY.τ Cert.NormY.sig) → Buf (Elt Bits) ℓ) : Prop :=
  True

def Pre_NormYIdeal (m : (ℓ : Loc Cert.NormYIdeal.nD Cert.NormYIdeal.τ Cert.NormYIdeal.sig) → Buf (Elt Ideal) ℓ) : Prop :=
  True

def Pre_NormYRefIdeal (m : (ℓ : Loc Cert.NormYRefIdeal.nD Cert.NormYRefIdeal.τ Cert.NormYRefIdeal.sig) → Buf (Elt Ideal) ℓ) : Prop :=
  True

def Pre_MergeY (m : (ℓ : Loc Cert.MergeY.nD Cert.MergeY.τ Cert.MergeY.sig) → Buf (Elt Bits) ℓ) : Prop :=
  True

def Pre_MergeYIdeal (m : (ℓ : Loc Cert.MergeYIdeal.nD Cert.MergeYIdeal.τ Cert.MergeYIdeal.sig) → Buf (Elt Ideal) ℓ) : Prop :=
  True

def Pre_MergeYRefIdeal (m : (ℓ : Loc Cert.MergeYRefIdeal.nD Cert.MergeYRefIdeal.τ Cert.MergeYRefIdeal.sig) → Buf (Elt Ideal) ℓ) : Prop :=
  True

def Pre_LossB (m : (ℓ : Loc Cert.LossB.nD Cert.LossB.τ Cert.LossB.sig) → Buf (Elt Bits) ℓ) : Prop :=
  True

def Pre_LossBIdeal (m : (ℓ : Loc Cert.LossBIdeal.nD Cert.LossBIdeal.τ Cert.LossBIdeal.sig) → Buf (Elt Ideal) ℓ) : Prop :=
  True

def Pre_LossBRefIdeal (m : (ℓ : Loc Cert.LossBRefIdeal.nD Cert.LossBRefIdeal.τ Cert.LossBRefIdeal.sig) → Buf (Elt Ideal) ℓ) : Prop :=
  True

def Pre_PostY (m : (ℓ : Loc Cert.PostY.nD Cert.PostY.τ Cert.PostY.sig) → Buf (Elt Bits) ℓ) : Prop :=
  True

def Pre_PostYIdeal (m : (ℓ : Loc Cert.PostYIdeal.nD Cert.PostYIdeal.τ Cert.PostYIdeal.sig) → Buf (Elt Ideal) ℓ) : Prop :=
  True

def Pre_PostYRefIdeal (m : (ℓ : Loc Cert.PostYRefIdeal.nD Cert.PostYRefIdeal.τ Cert.PostYRefIdeal.sig) → Buf (Elt Ideal) ℓ) : Prop :=
  True

def Pre_PreY (m : (ℓ : Loc Cert.PreY.nD Cert.PreY.τ Cert.PreY.sig) → Buf (Elt Bits) ℓ) : Prop :=
  True

def Pre_PreYIdeal (m : (ℓ : Loc Cert.PreYIdeal.nD Cert.PreYIdeal.τ Cert.PreYIdeal.sig) → Buf (Elt Ideal) ℓ) : Prop :=
  True

def Pre_PreYRefIdeal (m : (ℓ : Loc Cert.PreYRefIdeal.nD Cert.PreYRefIdeal.τ Cert.PreYRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamDn (m : (ℓ : Loc Cert.AdamDn.nD Cert.AdamDn.τ Cert.AdamDn.sig) → Buf (Elt Bits) ℓ) : Prop :=
  True

def Pre_AdamDnIdeal (m : (ℓ : Loc Cert.AdamDnIdeal.nD Cert.AdamDnIdeal.τ Cert.AdamDnIdeal.sig) → Buf (Elt Ideal) ℓ) : Prop :=
  True

def Pre_AdamDnRefIdeal (m : (ℓ : Loc Cert.AdamDnRefIdeal.nD Cert.AdamDnRefIdeal.τ Cert.AdamDnRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamS (m : (ℓ : Loc Cert.AdamS.nD Cert.AdamS.τ Cert.AdamS.sig) → Buf (Elt Bits) ℓ) : Prop :=
  True

def Pre_AdamSIdeal (m : (ℓ : Loc Cert.AdamSIdeal.nD Cert.AdamSIdeal.τ Cert.AdamSIdeal.sig) → Buf (Elt Ideal) ℓ) : Prop :=
  True

def Pre_AdamSRefIdeal (m : (ℓ : Loc Cert.AdamSRefIdeal.nD Cert.AdamSRefIdeal.τ Cert.AdamSRefIdeal.sig) → Buf (Elt Ideal) ℓ) : Prop :=
  True

def Pre_SumS (m : (ℓ : Loc Cert.SumS.nD Cert.SumS.τ Cert.SumS.sig) → Buf (Elt Bits) ℓ) : Prop :=
  True

def Pre_SumSIdeal (m : (ℓ : Loc Cert.SumSIdeal.nD Cert.SumSIdeal.τ Cert.SumSIdeal.sig) → Buf (Elt Ideal) ℓ) : Prop :=
  True

def Pre_SumSRefIdeal (m : (ℓ : Loc Cert.SumSRefIdeal.nD Cert.SumSRefIdeal.τ Cert.SumSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2)
      ∧ r.2.mem ((c.tc : Thread Cert.UpW.nD Cert.UpW.τ).loc Cert.UpW.main_arg3) = m ((c.tc : Thread Cert.UpW.nD Cert.UpW.τ).loc Cert.UpW.main_arg3))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2)
      ∧ r.2.mem ((c.tc : Thread Cert.UpWIdeal.nD Cert.UpWIdeal.τ).loc Cert.UpWIdeal.main_arg3) = m ((c.tc : Thread Cert.UpWIdeal.nD Cert.UpWIdeal.τ).loc Cert.UpWIdeal.main_arg3))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2)
      ∧ r.2.mem ((c.tc : Thread Cert.UpWRefIdeal.nD Cert.UpWRefIdeal.τ).loc Cert.UpWRefIdeal.main_arg3) = m ((c.tc : Thread Cert.UpWRefIdeal.nD Cert.UpWRefIdeal.τ).loc Cert.UpWRefIdeal.main_arg3))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1)
      ∧ r.2.mem ((c.tc : Thread Cert.ProjX.nD Cert.ProjX.τ).loc Cert.ProjX.main_arg2) = m ((c.tc : Thread Cert.ProjX.nD Cert.ProjX.τ).loc Cert.ProjX.main_arg2))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
      ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1)
      ∧ r.2.mem ((c.tc : Thread Cert.ProjXRefIdeal.nD Cert.ProjXRefIdeal.τ).loc Cert.ProjXRefIdeal.main_arg2) = m ((c.tc : Thread Cert.ProjXRefIdeal.nD Cert.ProjXRefIdeal.τ).loc Cert.ProjXRefIdeal.main_arg2))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1)
      ∧ r.2.mem ((c.tc : Thread Cert.ProjW.nD Cert.ProjW.τ).loc Cert.ProjW.main_arg2) = m ((c.tc : Thread Cert.ProjW.nD Cert.ProjW.τ).loc Cert.ProjW.main_arg2))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1)
      ∧ r.2.mem ((c.tc : Thread Cert.ProjWIdeal.nD Cert.ProjWIdeal.τ).loc Cert.ProjWIdeal.main_arg2) = m ((c.tc : Thread Cert.ProjWIdeal.nD Cert.ProjWIdeal.τ).loc Cert.ProjWIdeal.main_arg2))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1)
      ∧ r.2.mem ((c.tc : Thread Cert.ProjWRefIdeal.nD Cert.ProjWRefIdeal.τ).loc Cert.ProjWRefIdeal.main_arg2) = m ((c.tc : Thread Cert.ProjWRefIdeal.nD Cert.ProjWRefIdeal.τ).loc Cert.ProjWRefIdeal.main_arg2))
      ∧ r.2.sem = fun _ => 0)

def quiescent_UpY [hUpY : Cert.UpY.Facts] : Prop :=
  ∀ (m : (ℓ : Loc Cert.UpY.nD Cert.UpY.τ Cert.UpY.sig) → Buf (Elt Bits) ℓ) (g : Dev Cert.UpY.nD → PrngReg), Pre_UpY m →
    θ_run (Cert.UpY.defs (F := Bits)) (onTc (τ := Cert.UpY.τ) (Cert.UpY.main (F := Bits))) ⟨m, fun _ => 0, g⟩ (fun r => (∀ c : Dev Cert.UpY.nD,
      r.2.mem ((c.tc : Thread Cert.UpY.nD Cert.UpY.τ).loc Cert.UpY.main_arg0) = m ((c.tc : Thread Cert.UpY.nD Cert.UpY.τ).loc Cert.UpY.main_arg0)
      ∧ r.2.mem ((c.tc : Thread Cert.UpY.nD Cert.UpY.τ).loc Cert.UpY.main_arg1) = m ((c.tc : Thread Cert.UpY.nD Cert.UpY.τ).loc Cert.UpY.main_arg1))
      ∧ r.2.sem = fun _ => 0)

def quiescent_UpYIdeal [hUpYIdeal : Cert.UpYIdeal.Facts] : Prop :=
  ∀ (m : (ℓ : Loc Cert.UpYIdeal.nD Cert.UpYIdeal.τ Cert.UpYIdeal.sig) → Buf (Elt Ideal) ℓ) (g : Dev Cert.UpYIdeal.nD → PrngReg), Pre_UpYIdeal m →
    θ_run (Cert.UpYIdeal.defs (F := Ideal)) (onTc (τ := Cert.UpYIdeal.τ) (Cert.UpYIdeal.main (F := Ideal))) ⟨m, fun _ => 0, g⟩ (fun r => (∀ c : Dev Cert.UpYIdeal.nD,
      r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
      ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ r.2.sem = fun _ => 0)

def quiescent_UpYRefIdeal [hUpYRefIdeal : Cert.UpYRefIdeal.Facts] : Prop :=
  ∀ (m : (ℓ : Loc Cert.UpYRefIdeal.nD Cert.UpYRefIdeal.τ Cert.UpYRefIdeal.sig) → Buf (Elt Ideal) ℓ) (g : Dev Cert.UpYRefIdeal.nD → PrngReg), Pre_UpYRefIdeal m →
    θ_run (Cert.UpYRefIdeal.defs (F := Ideal)) (onTc (τ := Cert.UpYRefIdeal.τ) (Cert.UpYRefIdeal.main (F := Ideal))) ⟨m, fun _ => 0, g⟩ (fun r => (∀ c : Dev Cert.UpYRefIdeal.nD,
      r.2.mem ((c.tc : Thread Cert.UpYRefIdeal.nD Cert.UpYRefIdeal.τ).loc Cert.UpYRefIdeal.main_arg0) = m ((c.tc : Thread Cert.UpYRefIdeal.nD Cert.UpYRefIdeal.τ).loc Cert.UpYRefIdeal.main_arg0)
      ∧ r.2.mem ((c.tc : Thread Cert.UpYRefIdeal.nD Cert.UpYRefIdeal.τ).loc Cert.UpYRefIdeal.main_arg1) = m ((c.tc : Thread Cert.UpYRefIdeal.nD Cert.UpYRefIdeal.τ).loc Cert.UpYRefIdeal.main_arg1))
      ∧ r.2.sem = fun _ => 0)

def quiescent_DownY [hDownY : Cert.DownY.Facts] : Prop :=
  ∀ (m : (ℓ : Loc Cert.DownY.nD Cert.DownY.τ Cert.DownY.sig) → Buf (Elt Bits) ℓ) (g : Dev Cert.DownY.nD → PrngReg), Pre_DownY m →
    θ_run (Cert.DownY.defs (F := Bits)) (onTc (τ := Cert.DownY.τ) (Cert.DownY.main (F := Bits))) ⟨m, fun _ => 0, g⟩ (fun r => (∀ c : Dev Cert.DownY.nD,
      r.2.mem ((c.tc : Thread Cert.DownY.nD Cert.DownY.τ).loc Cert.DownY.main_arg0) = m ((c.tc : Thread Cert.DownY.nD Cert.DownY.τ).loc Cert.DownY.main_arg0)
      ∧ r.2.mem ((c.tc : Thread Cert.DownY.nD Cert.DownY.τ).loc Cert.DownY.main_arg1) = m ((c.tc : Thread Cert.DownY.nD Cert.DownY.τ).loc Cert.DownY.main_arg1)
      ∧ r.2.mem ((c.tc : Thread Cert.DownY.nD Cert.DownY.τ).loc Cert.DownY.main_arg2) = m ((c.tc : Thread Cert.DownY.nD Cert.DownY.τ).loc Cert.DownY.main_arg2))
      ∧ r.2.sem = fun _ => 0)

def quiescent_DownYIdeal [hDownYIdeal : Cert.DownYIdeal.Facts] : Prop :=
  ∀ (m : (ℓ : Loc Cert.DownYIdeal.nD Cert.DownYIdeal.τ Cert.DownYIdeal.sig) → Buf (Elt Ideal) ℓ) (g : Dev Cert.DownYIdeal.nD → PrngReg), Pre_DownYIdeal m →
    θ_run (Cert.DownYIdeal.defs (F := Ideal)) (onTc (τ := Cert.DownYIdeal.τ) (Cert.DownYIdeal.main (F := Ideal))) ⟨m, fun _ => 0, g⟩ (fun r => (∀ c : Dev Cert.DownYIdeal.nD,
      r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
      ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
      ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2))
      ∧ r.2.sem = fun _ => 0)

def quiescent_DownYRefIdeal [hDownYRefIdeal : Cert.DownYRefIdeal.Facts] : Prop :=
  ∀ (m : (ℓ : Loc Cert.DownYRefIdeal.nD Cert.DownYRefIdeal.τ Cert.DownYRefIdeal.sig) → Buf (Elt Ideal) ℓ) (g : Dev Cert.DownYRefIdeal.nD → PrngReg), Pre_DownYRefIdeal m →
    θ_run (Cert.DownYRefIdeal.defs (F := Ideal)) (onTc (τ := Cert.DownYRefIdeal.τ) (Cert.DownYRefIdeal.main (F := Ideal))) ⟨m, fun _ => 0, g⟩ (fun r => (∀ c : Dev Cert.DownYRefIdeal.nD,
      r.2.mem ((c.tc : Thread Cert.DownYRefIdeal.nD Cert.DownYRefIdeal.τ).loc Cert.DownYRefIdeal.main_arg0) = m ((c.tc : Thread Cert.DownYRefIdeal.nD Cert.DownYRefIdeal.τ).loc Cert.DownYRefIdeal.main_arg0)
      ∧ r.2.mem ((c.tc : Thread Cert.DownYRefIdeal.nD Cert.DownYRefIdeal.τ).loc Cert.DownYRefIdeal.main_arg1) = m ((c.tc : Thread Cert.DownYRefIdeal.nD Cert.DownYRefIdeal.τ).loc Cert.DownYRefIdeal.main_arg1)
      ∧ r.2.mem ((c.tc : Thread Cert.DownYRefIdeal.nD Cert.DownYRefIdeal.τ).loc Cert.DownYRefIdeal.main_arg2) = m ((c.tc : Thread Cert.DownYRefIdeal.nD Cert.DownYRefIdeal.τ).loc Cert.DownYRefIdeal.main_arg2))
      ∧ r.2.sem = fun _ => 0)

def quiescent_ProjY [hProjY : Cert.ProjY.Facts] : Prop :=
  ∀ (m : (ℓ : Loc Cert.ProjY.nD Cert.ProjY.τ Cert.ProjY.sig) → Buf (Elt Bits) ℓ) (g : Dev Cert.ProjY.nD → PrngReg), Pre_ProjY m →
    θ_run (Cert.ProjY.defs (F := Bits)) (onTc (τ := Cert.ProjY.τ) (Cert.ProjY.main (F := Bits))) ⟨m, fun _ => 0, g⟩ (fun r => (∀ c : Dev Cert.ProjY.nD,
      r.2.mem ((c.tc : Thread Cert.ProjY.nD Cert.ProjY.τ).loc Cert.ProjY.main_arg0) = m ((c.tc : Thread Cert.ProjY.nD Cert.ProjY.τ).loc Cert.ProjY.main_arg0)
      ∧ r.2.mem ((c.tc : Thread Cert.ProjY.nD Cert.ProjY.τ).loc Cert.ProjY.main_arg1) = m ((c.tc : Thread Cert.ProjY.nD Cert.ProjY.τ).loc Cert.ProjY.main_arg1))
      ∧ r.2.sem = fun _ => 0)

def quiescent_ProjYIdeal [hProjYIdeal : Cert.ProjYIdeal.Facts] : Prop :=
  ∀ (m : (ℓ : Loc Cert.ProjYIdeal.nD Cert.ProjYIdeal.τ Cert.ProjYIdeal.sig) → Buf (Elt Ideal) ℓ) (g : Dev Cert.ProjYIdeal.nD → PrngReg), Pre_ProjYIdeal m →
    θ_run (Cert.ProjYIdeal.defs (F := Ideal)) (onTc (τ := Cert.ProjYIdeal.τ) (Cert.ProjYIdeal.main (F := Ideal))) ⟨m, fun _ => 0, g⟩ (fun r => (∀ c : Dev Cert.ProjYIdeal.nD,
      r.2.mem ((c.tc : Thread Cert.ProjYIdeal.nD Cert.ProjYIdeal.τ).loc Cert.ProjYIdeal.main_arg0) = m ((c.tc : Thread Cert.ProjYIdeal.nD Cert.ProjYIdeal.τ).loc Cert.ProjYIdeal.main_arg0)
      ∧ r.2.mem ((c.tc : Thread Cert.ProjYIdeal.nD Cert.ProjYIdeal.τ).loc Cert.ProjYIdeal.main_arg1) = m ((c.tc : Thread Cert.ProjYIdeal.nD Cert.ProjYIdeal.τ).loc Cert.ProjYIdeal.main_arg1))
      ∧ r.2.sem = fun _ => 0)

def quiescent_ProjYRefIdeal [hProjYRefIdeal : Cert.ProjYRefIdeal.Facts] : Prop :=
  ∀ (m : (ℓ : Loc Cert.ProjYRefIdeal.nD Cert.ProjYRefIdeal.τ Cert.ProjYRefIdeal.sig) → Buf (Elt Ideal) ℓ) (g : Dev Cert.ProjYRefIdeal.nD → PrngReg), Pre_ProjYRefIdeal m →
    θ_run (Cert.ProjYRefIdeal.defs (F := Ideal)) (onTc (τ := Cert.ProjYRefIdeal.τ) (Cert.ProjYRefIdeal.main (F := Ideal))) ⟨m, fun _ => 0, g⟩ (fun r => (∀ c : Dev Cert.ProjYRefIdeal.nD,
      r.2.mem ((c.tc : Thread Cert.ProjYRefIdeal.nD Cert.ProjYRefIdeal.τ).loc Cert.ProjYRefIdeal.main_arg0) = m ((c.tc : Thread Cert.ProjYRefIdeal.nD Cert.ProjYRefIdeal.τ).loc Cert.ProjYRefIdeal.main_arg0)
      ∧ r.2.mem ((c.tc : Thread Cert.ProjYRefIdeal.nD Cert.ProjYRefIdeal.τ).loc Cert.ProjYRefIdeal.main_arg1) = m ((c.tc : Thread Cert.ProjYRefIdeal.nD Cert.ProjYRefIdeal.τ).loc Cert.ProjYRefIdeal.main_arg1))
      ∧ r.2.sem = fun _ => 0)

def quiescent_OutY [hOutY : Cert.OutY.Facts] : Prop :=
  ∀ (m : (ℓ : Loc Cert.OutY.nD Cert.OutY.τ Cert.OutY.sig) → Buf (Elt Bits) ℓ) (g : Dev Cert.OutY.nD → PrngReg), Pre_OutY m →
    θ_run (Cert.OutY.defs (F := Bits)) (onTc (τ := Cert.OutY.τ) (Cert.OutY.main (F := Bits))) ⟨m, fun _ => 0, g⟩ (fun r => (∀ c : Dev Cert.OutY.nD,
      r.2.mem ((c.tc : Thread Cert.OutY.nD Cert.OutY.τ).loc Cert.OutY.main_arg0) = m ((c.tc : Thread Cert.OutY.nD Cert.OutY.τ).loc Cert.OutY.main_arg0)
      ∧ r.2.mem ((c.tc : Thread Cert.OutY.nD Cert.OutY.τ).loc Cert.OutY.main_arg1) = m ((c.tc : Thread Cert.OutY.nD Cert.OutY.τ).loc Cert.OutY.main_arg1)
      ∧ r.2.mem ((c.tc : Thread Cert.OutY.nD Cert.OutY.τ).loc Cert.OutY.main_arg2) = m ((c.tc : Thread Cert.OutY.nD Cert.OutY.τ).loc Cert.OutY.main_arg2))
      ∧ r.2.sem = fun _ => 0)

def quiescent_OutYIdeal [hOutYIdeal : Cert.OutYIdeal.Facts] : Prop :=
  ∀ (m : (ℓ : Loc Cert.OutYIdeal.nD Cert.OutYIdeal.τ Cert.OutYIdeal.sig) → Buf (Elt Ideal) ℓ) (g : Dev Cert.OutYIdeal.nD → PrngReg), Pre_OutYIdeal m →
    θ_run (Cert.OutYIdeal.defs (F := Ideal)) (onTc (τ := Cert.OutYIdeal.τ) (Cert.OutYIdeal.main (F := Ideal))) ⟨m, fun _ => 0, g⟩ (fun r => (∀ c : Dev Cert.OutYIdeal.nD,
      r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
      ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1)
      ∧ r.2.mem ((c.tc : Thread Cert.OutYIdeal.nD Cert.OutYIdeal.τ).loc Cert.OutYIdeal.main_arg2) = m ((c.tc : Thread Cert.OutYIdeal.nD Cert.OutYIdeal.τ).loc Cert.OutYIdeal.main_arg2))
      ∧ r.2.sem = fun _ => 0)

def quiescent_OutYRefIdeal [hOutYRefIdeal : Cert.OutYRefIdeal.Facts] : Prop :=
  ∀ (m : (ℓ : Loc Cert.OutYRefIdeal.nD Cert.OutYRefIdeal.τ Cert.OutYRefIdeal.sig) → Buf (Elt Ideal) ℓ) (g : Dev Cert.OutYRefIdeal.nD → PrngReg), Pre_OutYRefIdeal m →
    θ_run (Cert.OutYRefIdeal.defs (F := Ideal)) (onTc (τ := Cert.OutYRefIdeal.τ) (Cert.OutYRefIdeal.main (F := Ideal))) ⟨m, fun _ => 0, g⟩ (fun r => (∀ c : Dev Cert.OutYRefIdeal.nD,
      r.2.mem ((c.tc : Thread Cert.OutYRefIdeal.nD Cert.OutYRefIdeal.τ).loc Cert.OutYRefIdeal.main_arg0) = m ((c.tc : Thread Cert.OutYRefIdeal.nD Cert.OutYRefIdeal.τ).loc Cert.OutYRefIdeal.main_arg0)
      ∧ r.2.mem ((c.tc : Thread Cert.OutYRefIdeal.nD Cert.OutYRefIdeal.τ).loc Cert.OutYRefIdeal.main_arg1) = m ((c.tc : Thread Cert.OutYRefIdeal.nD Cert.OutYRefIdeal.τ).loc Cert.OutYRefIdeal.main_arg1)
      ∧ r.2.mem ((c.tc : Thread Cert.OutYRefIdeal.nD Cert.OutYRefIdeal.τ).loc Cert.OutYRefIdeal.main_arg2) = m ((c.tc : Thread Cert.OutYRefIdeal.nD Cert.OutYRefIdeal.τ).loc Cert.OutYRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2)
      ∧ r.2.mem ((c.tc : Thread Cert.OutW.nD Cert.OutW.τ).loc Cert.OutW.main_arg3) = m ((c.tc : Thread Cert.OutW.nD Cert.OutW.τ).loc Cert.OutW.main_arg3))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
      ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2)
      ∧ r.2.mem ((c.tc : Thread Cert.OutWRefIdeal.nD Cert.OutWRefIdeal.τ).loc Cert.OutWRefIdeal.main_arg3) = m ((c.tc : Thread Cert.OutWRefIdeal.nD Cert.OutWRefIdeal.τ).loc Cert.OutWRefIdeal.main_arg3))
      ∧ r.2.sem = fun _ => 0)

def quiescent_GluY [hGluY : Cert.GluY.Facts] : Prop :=
  ∀ (m : (ℓ : Loc Cert.GluY.nD Cert.GluY.τ Cert.GluY.sig) → Buf (Elt Bits) ℓ) (g : Dev Cert.GluY.nD → PrngReg), Pre_GluY m →
    θ_run (Cert.GluY.defs (F := Bits)) (onTc (τ := Cert.GluY.τ) (Cert.GluY.main (F := Bits))) ⟨m, fun _ => 0, g⟩ (fun r => (∀ c : Dev Cert.GluY.nD,
      r.2.mem ((c.tc : Thread Cert.GluY.nD Cert.GluY.τ).loc Cert.GluY.main_arg0) = m ((c.tc : Thread Cert.GluY.nD Cert.GluY.τ).loc Cert.GluY.main_arg0)
      ∧ r.2.mem ((c.tc : Thread Cert.GluY.nD Cert.GluY.τ).loc Cert.GluY.main_arg1) = m ((c.tc : Thread Cert.GluY.nD Cert.GluY.τ).loc Cert.GluY.main_arg1))
      ∧ r.2.sem = fun _ => 0)

def quiescent_GluYIdeal [hGluYIdeal : Cert.GluYIdeal.Facts] : Prop :=
  ∀ (m : (ℓ : Loc Cert.GluYIdeal.nD Cert.GluYIdeal.τ Cert.GluYIdeal.sig) → Buf (Elt Ideal) ℓ) (g : Dev Cert.GluYIdeal.nD → PrngReg), Pre_GluYIdeal m →
    θ_run (Cert.GluYIdeal.defs (F := Ideal)) (onTc (τ := Cert.GluYIdeal.τ) (Cert.GluYIdeal.main (F := Ideal))) ⟨m, fun _ => 0, g⟩ (fun r => (∀ c : Dev Cert.GluYIdeal.nD,
      r.2.mem ((c.tc : Thread Cert.GluYIdeal.nD Cert.GluYIdeal.τ).loc Cert.GluYIdeal.main_arg0) = m ((c.tc : Thread Cert.GluYIdeal.nD Cert.GluYIdeal.τ).loc Cert.GluYIdeal.main_arg0)
      ∧ r.2.mem ((c.tc : Thread Cert.GluYIdeal.nD Cert.GluYIdeal.τ).loc Cert.GluYIdeal.main_arg1) = m ((c.tc : Thread Cert.GluYIdeal.nD Cert.GluYIdeal.τ).loc Cert.GluYIdeal.main_arg1))
      ∧ r.2.sem = fun _ => 0)

def quiescent_GluYRefIdeal [hGluYRefIdeal : Cert.GluYRefIdeal.Facts] : Prop :=
  ∀ (m : (ℓ : Loc Cert.GluYRefIdeal.nD Cert.GluYRefIdeal.τ Cert.GluYRefIdeal.sig) → Buf (Elt Ideal) ℓ) (g : Dev Cert.GluYRefIdeal.nD → PrngReg), Pre_GluYRefIdeal m →
    θ_run (Cert.GluYRefIdeal.defs (F := Ideal)) (onTc (τ := Cert.GluYRefIdeal.τ) (Cert.GluYRefIdeal.main (F := Ideal))) ⟨m, fun _ => 0, g⟩ (fun r => (∀ c : Dev Cert.GluYRefIdeal.nD,
      r.2.mem ((c.tc : Thread Cert.GluYRefIdeal.nD Cert.GluYRefIdeal.τ).loc Cert.GluYRefIdeal.main_arg0) = m ((c.tc : Thread Cert.GluYRefIdeal.nD Cert.GluYRefIdeal.τ).loc Cert.GluYRefIdeal.main_arg0)
      ∧ r.2.mem ((c.tc : Thread Cert.GluYRefIdeal.nD Cert.GluYRefIdeal.τ).loc Cert.GluYRefIdeal.main_arg1) = m ((c.tc : Thread Cert.GluYRefIdeal.nD Cert.GluYRefIdeal.τ).loc Cert.GluYRefIdeal.main_arg1))
      ∧ r.2.sem = fun _ => 0)

def quiescent_GluX [hGluX : Cert.GluX.Facts] : Prop :=
  ∀ (m : (ℓ : Loc Cert.GluX.nD Cert.GluX.τ Cert.GluX.sig) → Buf (Elt Bits) ℓ) (g : Dev Cert.GluX.nD → PrngReg), Pre_GluX m →
    θ_run (Cert.GluX.defs (F := Bits)) (onTc (τ := Cert.GluX.τ) (Cert.GluX.main (F := Bits))) ⟨m, fun _ => 0, g⟩ (fun r => (∀ c : Dev Cert.GluX.nD,
      r.2.mem ((c.tc : Thread Cert.GluX.nD Cert.GluX.τ).loc Cert.GluX.main_arg0) = m ((c.tc : Thread Cert.GluX.nD Cert.GluX.τ).loc Cert.GluX.main_arg0)
      ∧ r.2.mem ((c.tc : Thread Cert.GluX.nD Cert.GluX.τ).loc Cert.GluX.main_arg1) = m ((c.tc : Thread Cert.GluX.nD Cert.GluX.τ).loc Cert.GluX.main_arg1)
      ∧ r.2.mem ((c.tc : Thread Cert.GluX.nD Cert.GluX.τ).loc Cert.GluX.main_arg2) = m ((c.tc : Thread Cert.GluX.nD Cert.GluX.τ).loc Cert.GluX.main_arg2))
      ∧ r.2.sem = fun _ => 0)

def quiescent_GluXIdeal [hGluXIdeal : Cert.GluXIdeal.Facts] : Prop :=
  ∀ (m : (ℓ : Loc Cert.GluXIdeal.nD Cert.GluXIdeal.τ Cert.GluXIdeal.sig) → Buf (Elt Ideal) ℓ) (g : Dev Cert.GluXIdeal.nD → PrngReg), Pre_GluXIdeal m →
    θ_run (Cert.GluXIdeal.defs (F := Ideal)) (onTc (τ := Cert.GluXIdeal.τ) (Cert.GluXIdeal.main (F := Ideal))) ⟨m, fun _ => 0, g⟩ (fun r => (∀ c : Dev Cert.GluXIdeal.nD,
      r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
      ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1)
      ∧ r.2.mem ((c.tc : Thread Cert.GluXIdeal.nD Cert.GluXIdeal.τ).loc Cert.GluXIdeal.main_arg2) = m ((c.tc : Thread Cert.GluXIdeal.nD Cert.GluXIdeal.τ).loc Cert.GluXIdeal.main_arg2))
      ∧ r.2.sem = fun _ => 0)

def quiescent_GluXRefIdeal [hGluXRefIdeal : Cert.GluXRefIdeal.Facts] : Prop :=
  ∀ (m : (ℓ : Loc Cert.GluXRefIdeal.nD Cert.GluXRefIdeal.τ Cert.GluXRefIdeal.sig) → Buf (Elt Ideal) ℓ) (g : Dev Cert.GluXRefIdeal.nD → PrngReg), Pre_GluXRefIdeal m →
    θ_run (Cert.GluXRefIdeal.defs (F := Ideal)) (onTc (τ := Cert.GluXRefIdeal.τ) (Cert.GluXRefIdeal.main (F := Ideal))) ⟨m, fun _ => 0, g⟩ (fun r => (∀ c : Dev Cert.GluXRefIdeal.nD,
      r.2.mem ((c.tc : Thread Cert.GluXRefIdeal.nD Cert.GluXRefIdeal.τ).loc Cert.GluXRefIdeal.main_arg0) = m ((c.tc : Thread Cert.GluXRefIdeal.nD Cert.GluXRefIdeal.τ).loc Cert.GluXRefIdeal.main_arg0)
      ∧ r.2.mem ((c.tc : Thread Cert.GluXRefIdeal.nD Cert.GluXRefIdeal.τ).loc Cert.GluXRefIdeal.main_arg1) = m ((c.tc : Thread Cert.GluXRefIdeal.nD Cert.GluXRefIdeal.τ).loc Cert.GluXRefIdeal.main_arg1)
      ∧ r.2.mem ((c.tc : Thread Cert.GluXRefIdeal.nD Cert.GluXRefIdeal.τ).loc Cert.GluXRefIdeal.main_arg2) = m ((c.tc : Thread Cert.GluXRefIdeal.nD Cert.GluXRefIdeal.τ).loc Cert.GluXRefIdeal.main_arg2))
      ∧ r.2.sem = fun _ => 0)

def quiescent_GluW [hGluW : Cert.GluW.Facts] : Prop :=
  ∀ (m : (ℓ : Loc Cert.GluW.nD Cert.GluW.τ Cert.GluW.sig) → Buf (Elt Bits) ℓ) (g : Dev Cert.GluW.nD → PrngReg), Pre_GluW m →
    θ_run (Cert.GluW.defs (F := Bits)) (onTc (τ := Cert.GluW.τ) (Cert.GluW.main (F := Bits))) ⟨m, fun _ => 0, g⟩ (fun r => (∀ c : Dev Cert.GluW.nD,
      r.2.mem ((c.tc : Thread Cert.GluW.nD Cert.GluW.τ).loc Cert.GluW.main_arg0) = m ((c.tc : Thread Cert.GluW.nD Cert.GluW.τ).loc Cert.GluW.main_arg0)
      ∧ r.2.mem ((c.tc : Thread Cert.GluW.nD Cert.GluW.τ).loc Cert.GluW.main_arg1) = m ((c.tc : Thread Cert.GluW.nD Cert.GluW.τ).loc Cert.GluW.main_arg1)
      ∧ r.2.mem ((c.tc : Thread Cert.GluW.nD Cert.GluW.τ).loc Cert.GluW.main_arg2) = m ((c.tc : Thread Cert.GluW.nD Cert.GluW.τ).loc Cert.GluW.main_arg2)
      ∧ r.2.mem ((c.tc : Thread Cert.GluW.nD Cert.GluW.τ).loc Cert.GluW.main_arg3) = m ((c.tc : Thread Cert.GluW.nD Cert.GluW.τ).loc Cert.GluW.main_arg3))
      ∧ r.2.sem = fun _ => 0)

def quiescent_GluWIdeal [hGluWIdeal : Cert.GluWIdeal.Facts] : Prop :=
  ∀ (m : (ℓ : Loc Cert.GluWIdeal.nD Cert.GluWIdeal.τ Cert.GluWIdeal.sig) → Buf (Elt Ideal) ℓ) (g : Dev Cert.GluWIdeal.nD → PrngReg), Pre_GluWIdeal m →
    θ_run (Cert.GluWIdeal.defs (F := Ideal)) (onTc (τ := Cert.GluWIdeal.τ) (Cert.GluWIdeal.main (F := Ideal))) ⟨m, fun _ => 0, g⟩ (fun r => (∀ c : Dev Cert.GluWIdeal.nD,
      r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
      ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
      ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2)
      ∧ r.2.mem ((c.tc : Thread Cert.GluWIdeal.nD Cert.GluWIdeal.τ).loc Cert.GluWIdeal.main_arg3) = m ((c.tc : Thread Cert.GluWIdeal.nD Cert.GluWIdeal.τ).loc Cert.GluWIdeal.main_arg3))
      ∧ r.2.sem = fun _ => 0)

def quiescent_GluWRefIdeal [hGluWRefIdeal : Cert.GluWRefIdeal.Facts] : Prop :=
  ∀ (m : (ℓ : Loc Cert.GluWRefIdeal.nD Cert.GluWRefIdeal.τ Cert.GluWRefIdeal.sig) → Buf (Elt Ideal) ℓ) (g : Dev Cert.GluWRefIdeal.nD → PrngReg), Pre_GluWRefIdeal m →
    θ_run (Cert.GluWRefIdeal.defs (F := Ideal)) (onTc (τ := Cert.GluWRefIdeal.τ) (Cert.GluWRefIdeal.main (F := Ideal))) ⟨m, fun _ => 0, g⟩ (fun r => (∀ c : Dev Cert.GluWRefIdeal.nD,
      r.2.mem ((c.tc : Thread Cert.GluWRefIdeal.nD Cert.GluWRefIdeal.τ).loc Cert.GluWRefIdeal.main_arg0) = m ((c.tc : Thread Cert.GluWRefIdeal.nD Cert.GluWRefIdeal.τ).loc Cert.GluWRefIdeal.main_arg0)
      ∧ r.2.mem ((c.tc : Thread Cert.GluWRefIdeal.nD Cert.GluWRefIdeal.τ).loc Cert.GluWRefIdeal.main_arg1) = m ((c.tc : Thread Cert.GluWRefIdeal.nD Cert.GluWRefIdeal.τ).loc Cert.GluWRefIdeal.main_arg1)
      ∧ r.2.mem ((c.tc : Thread Cert.GluWRefIdeal.nD Cert.GluWRefIdeal.τ).loc Cert.GluWRefIdeal.main_arg2) = m ((c.tc : Thread Cert.GluWRefIdeal.nD Cert.GluWRefIdeal.τ).loc Cert.GluWRefIdeal.main_arg2)
      ∧ r.2.mem ((c.tc : Thread Cert.GluWRefIdeal.nD Cert.GluWRefIdeal.τ).loc Cert.GluWRefIdeal.main_arg3) = m ((c.tc : Thread Cert.GluWRefIdeal.nD Cert.GluWRefIdeal.τ).loc Cert.GluWRefIdeal.main_arg3))
      ∧ r.2.sem = fun _ => 0)

def quiescent_DnY [hDnY : Cert.DnY.Facts] : Prop :=
  ∀ (m : (ℓ : Loc Cert.DnY.nD Cert.DnY.τ Cert.DnY.sig) → Buf (Elt Bits) ℓ) (g : Dev Cert.DnY.nD → PrngReg), Pre_DnY m →
    θ_run (Cert.DnY.defs (F := Bits)) (onTc (τ := Cert.DnY.τ) (Cert.DnY.main (F := Bits))) ⟨m, fun _ => 0, g⟩ (fun r => (∀ c : Dev Cert.DnY.nD,
      r.2.mem ((c.tc : Thread Cert.DnY.nD Cert.DnY.τ).loc Cert.DnY.main_arg0) = m ((c.tc : Thread Cert.DnY.nD Cert.DnY.τ).loc Cert.DnY.main_arg0)
      ∧ r.2.mem ((c.tc : Thread Cert.DnY.nD Cert.DnY.τ).loc Cert.DnY.main_arg1) = m ((c.tc : Thread Cert.DnY.nD Cert.DnY.τ).loc Cert.DnY.main_arg1))
      ∧ r.2.sem = fun _ => 0)

def quiescent_DnYIdeal [hDnYIdeal : Cert.DnYIdeal.Facts] : Prop :=
  ∀ (m : (ℓ : Loc Cert.DnYIdeal.nD Cert.DnYIdeal.τ Cert.DnYIdeal.sig) → Buf (Elt Ideal) ℓ) (g : Dev Cert.DnYIdeal.nD → PrngReg), Pre_DnYIdeal m →
    θ_run (Cert.DnYIdeal.defs (F := Ideal)) (onTc (τ := Cert.DnYIdeal.τ) (Cert.DnYIdeal.main (F := Ideal))) ⟨m, fun _ => 0, g⟩ (fun r => (∀ c : Dev Cert.DnYIdeal.nD,
      r.2.mem ((c.tc : Thread Cert.DnYIdeal.nD Cert.DnYIdeal.τ).loc Cert.DnYIdeal.main_arg0) = m ((c.tc : Thread Cert.DnYIdeal.nD Cert.DnYIdeal.τ).loc Cert.DnYIdeal.main_arg0)
      ∧ r.2.mem ((c.tc : Thread Cert.DnYIdeal.nD Cert.DnYIdeal.τ).loc Cert.DnYIdeal.main_arg1) = m ((c.tc : Thread Cert.DnYIdeal.nD Cert.DnYIdeal.τ).loc Cert.DnYIdeal.main_arg1))
      ∧ r.2.sem = fun _ => 0)

def quiescent_DnYRefIdeal [hDnYRefIdeal : Cert.DnYRefIdeal.Facts] : Prop :=
  ∀ (m : (ℓ : Loc Cert.DnYRefIdeal.nD Cert.DnYRefIdeal.τ Cert.DnYRefIdeal.sig) → Buf (Elt Ideal) ℓ) (g : Dev Cert.DnYRefIdeal.nD → PrngReg), Pre_DnYRefIdeal m →
    θ_run (Cert.DnYRefIdeal.defs (F := Ideal)) (onTc (τ := Cert.DnYRefIdeal.τ) (Cert.DnYRefIdeal.main (F := Ideal))) ⟨m, fun _ => 0, g⟩ (fun r => (∀ c : Dev Cert.DnYRefIdeal.nD,
      r.2.mem ((c.tc : Thread Cert.DnYRefIdeal.nD Cert.DnYRefIdeal.τ).loc Cert.DnYRefIdeal.main_arg0) = m ((c.tc : Thread Cert.DnYRefIdeal.nD Cert.DnYRefIdeal.τ).loc Cert.DnYRefIdeal.main_arg0)
      ∧ r.2.mem ((c.tc : Thread Cert.DnYRefIdeal.nD Cert.DnYRefIdeal.τ).loc Cert.DnYRefIdeal.main_arg1) = m ((c.tc : Thread Cert.DnYRefIdeal.nD Cert.DnYRefIdeal.τ).loc Cert.DnYRefIdeal.main_arg1))
      ∧ r.2.sem = fun _ => 0)

def quiescent_DnX [hDnX : Cert.DnX.Facts] : Prop :=
  ∀ (m : (ℓ : Loc Cert.DnX.nD Cert.DnX.τ Cert.DnX.sig) → Buf (Elt Bits) ℓ) (g : Dev Cert.DnX.nD → PrngReg), Pre_DnX m →
    θ_run (Cert.DnX.defs (F := Bits)) (onTc (τ := Cert.DnX.τ) (Cert.DnX.main (F := Bits))) ⟨m, fun _ => 0, g⟩ (fun r => (∀ c : Dev Cert.DnX.nD,
      r.2.mem ((c.tc : Thread Cert.DnX.nD Cert.DnX.τ).loc Cert.DnX.main_arg0) = m ((c.tc : Thread Cert.DnX.nD Cert.DnX.τ).loc Cert.DnX.main_arg0)
      ∧ r.2.mem ((c.tc : Thread Cert.DnX.nD Cert.DnX.τ).loc Cert.DnX.main_arg1) = m ((c.tc : Thread Cert.DnX.nD Cert.DnX.τ).loc Cert.DnX.main_arg1)
      ∧ r.2.mem ((c.tc : Thread Cert.DnX.nD Cert.DnX.τ).loc Cert.DnX.main_arg2) = m ((c.tc : Thread Cert.DnX.nD Cert.DnX.τ).loc Cert.DnX.main_arg2))
      ∧ r.2.sem = fun _ => 0)

def quiescent_DnXIdeal [hDnXIdeal : Cert.DnXIdeal.Facts] : Prop :=
  ∀ (m : (ℓ : Loc Cert.DnXIdeal.nD Cert.DnXIdeal.τ Cert.DnXIdeal.sig) → Buf (Elt Ideal) ℓ) (g : Dev Cert.DnXIdeal.nD → PrngReg), Pre_DnXIdeal m →
    θ_run (Cert.DnXIdeal.defs (F := Ideal)) (onTc (τ := Cert.DnXIdeal.τ) (Cert.DnXIdeal.main (F := Ideal))) ⟨m, fun _ => 0, g⟩ (fun r => (∀ c : Dev Cert.DnXIdeal.nD,
      r.2.mem ((c.tc : Thread Cert.DnXIdeal.nD Cert.DnXIdeal.τ).loc Cert.DnXIdeal.main_arg0) = m ((c.tc : Thread Cert.DnXIdeal.nD Cert.DnXIdeal.τ).loc Cert.DnXIdeal.main_arg0)
      ∧ r.2.mem ((c.tc : Thread Cert.DnXIdeal.nD Cert.DnXIdeal.τ).loc Cert.DnXIdeal.main_arg1) = m ((c.tc : Thread Cert.DnXIdeal.nD Cert.DnXIdeal.τ).loc Cert.DnXIdeal.main_arg1)
      ∧ r.2.mem ((c.tc : Thread Cert.DnXIdeal.nD Cert.DnXIdeal.τ).loc Cert.DnXIdeal.main_arg2) = m ((c.tc : Thread Cert.DnXIdeal.nD Cert.DnXIdeal.τ).loc Cert.DnXIdeal.main_arg2))
      ∧ r.2.sem = fun _ => 0)

def quiescent_DnXRefIdeal [hDnXRefIdeal : Cert.DnXRefIdeal.Facts] : Prop :=
  ∀ (m : (ℓ : Loc Cert.DnXRefIdeal.nD Cert.DnXRefIdeal.τ Cert.DnXRefIdeal.sig) → Buf (Elt Ideal) ℓ) (g : Dev Cert.DnXRefIdeal.nD → PrngReg), Pre_DnXRefIdeal m →
    θ_run (Cert.DnXRefIdeal.defs (F := Ideal)) (onTc (τ := Cert.DnXRefIdeal.τ) (Cert.DnXRefIdeal.main (F := Ideal))) ⟨m, fun _ => 0, g⟩ (fun r => (∀ c : Dev Cert.DnXRefIdeal.nD,
      r.2.mem ((c.tc : Thread Cert.DnXRefIdeal.nD Cert.DnXRefIdeal.τ).loc Cert.DnXRefIdeal.main_arg0) = m ((c.tc : Thread Cert.DnXRefIdeal.nD Cert.DnXRefIdeal.τ).loc Cert.DnXRefIdeal.main_arg0)
      ∧ r.2.mem ((c.tc : Thread Cert.DnXRefIdeal.nD Cert.DnXRefIdeal.τ).loc Cert.DnXRefIdeal.main_arg1) = m ((c.tc : Thread Cert.DnXRefIdeal.nD Cert.DnXRefIdeal.τ).loc Cert.DnXRefIdeal.main_arg1)
      ∧ r.2.mem ((c.tc : Thread Cert.DnXRefIdeal.nD Cert.DnXRefIdeal.τ).loc Cert.DnXRefIdeal.main_arg2) = m ((c.tc : Thread Cert.DnXRefIdeal.nD Cert.DnXRefIdeal.τ).loc Cert.DnXRefIdeal.main_arg2))
      ∧ r.2.sem = fun _ => 0)

def quiescent_DnW [hDnW : Cert.DnW.Facts] : Prop :=
  ∀ (m : (ℓ : Loc Cert.DnW.nD Cert.DnW.τ Cert.DnW.sig) → Buf (Elt Bits) ℓ) (g : Dev Cert.DnW.nD → PrngReg), Pre_DnW m →
    θ_run (Cert.DnW.defs (F := Bits)) (onTc (τ := Cert.DnW.τ) (Cert.DnW.main (F := Bits))) ⟨m, fun _ => 0, g⟩ (fun r => (∀ c : Dev Cert.DnW.nD,
      r.2.mem ((c.tc : Thread Cert.DnW.nD Cert.DnW.τ).loc Cert.DnW.main_arg0) = m ((c.tc : Thread Cert.DnW.nD Cert.DnW.τ).loc Cert.DnW.main_arg0)
      ∧ r.2.mem ((c.tc : Thread Cert.DnW.nD Cert.DnW.τ).loc Cert.DnW.main_arg1) = m ((c.tc : Thread Cert.DnW.nD Cert.DnW.τ).loc Cert.DnW.main_arg1)
      ∧ r.2.mem ((c.tc : Thread Cert.DnW.nD Cert.DnW.τ).loc Cert.DnW.main_arg2) = m ((c.tc : Thread Cert.DnW.nD Cert.DnW.τ).loc Cert.DnW.main_arg2)
      ∧ r.2.mem ((c.tc : Thread Cert.DnW.nD Cert.DnW.τ).loc Cert.DnW.main_arg3) = m ((c.tc : Thread Cert.DnW.nD Cert.DnW.τ).loc Cert.DnW.main_arg3))
      ∧ r.2.sem = fun _ => 0)

def quiescent_DnWIdeal [hDnWIdeal : Cert.DnWIdeal.Facts] : Prop :=
  ∀ (m : (ℓ : Loc Cert.DnWIdeal.nD Cert.DnWIdeal.τ Cert.DnWIdeal.sig) → Buf (Elt Ideal) ℓ) (g : Dev Cert.DnWIdeal.nD → PrngReg), Pre_DnWIdeal m →
    θ_run (Cert.DnWIdeal.defs (F := Ideal)) (onTc (τ := Cert.DnWIdeal.τ) (Cert.DnWIdeal.main (F := Ideal))) ⟨m, fun _ => 0, g⟩ (fun r => (∀ c : Dev Cert.DnWIdeal.nD,
      r.2.mem ((c.tc : Thread Cert.DnWIdeal.nD Cert.DnWIdeal.τ).loc Cert.DnWIdeal.main_arg0) = m ((c.tc : Thread Cert.DnWIdeal.nD Cert.DnWIdeal.τ).loc Cert.DnWIdeal.main_arg0)
      ∧ r.2.mem ((c.tc : Thread Cert.DnWIdeal.nD Cert.DnWIdeal.τ).loc Cert.DnWIdeal.main_arg1) = m ((c.tc : Thread Cert.DnWIdeal.nD Cert.DnWIdeal.τ).loc Cert.DnWIdeal.main_arg1)
      ∧ r.2.mem ((c.tc : Thread Cert.DnWIdeal.nD Cert.DnWIdeal.τ).loc Cert.DnWIdeal.main_arg2) = m ((c.tc : Thread Cert.DnWIdeal.nD Cert.DnWIdeal.τ).loc Cert.DnWIdeal.main_arg2)
      ∧ r.2.mem ((c.tc : Thread Cert.DnWIdeal.nD Cert.DnWIdeal.τ).loc Cert.DnWIdeal.main_arg3) = m ((c.tc : Thread Cert.DnWIdeal.nD Cert.DnWIdeal.τ).loc Cert.DnWIdeal.main_arg3))
      ∧ r.2.sem = fun _ => 0)

def quiescent_DnWRefIdeal [hDnWRefIdeal : Cert.DnWRefIdeal.Facts] : Prop :=
  ∀ (m : (ℓ : Loc Cert.DnWRefIdeal.nD Cert.DnWRefIdeal.τ Cert.DnWRefIdeal.sig) → Buf (Elt Ideal) ℓ) (g : Dev Cert.DnWRefIdeal.nD → PrngReg), Pre_DnWRefIdeal m →
    θ_run (Cert.DnWRefIdeal.defs (F := Ideal)) (onTc (τ := Cert.DnWRefIdeal.τ) (Cert.DnWRefIdeal.main (F := Ideal))) ⟨m, fun _ => 0, g⟩ (fun r => (∀ c : Dev Cert.DnWRefIdeal.nD,
      r.2.mem ((c.tc : Thread Cert.DnWRefIdeal.nD Cert.DnWRefIdeal.τ).loc Cert.DnWRefIdeal.main_arg0) = m ((c.tc : Thread Cert.DnWRefIdeal.nD Cert.DnWRefIdeal.τ).loc Cert.DnWRefIdeal.main_arg0)
      ∧ r.2.mem ((c.tc : Thread Cert.DnWRefIdeal.nD Cert.DnWRefIdeal.τ).loc Cert.DnWRefIdeal.main_arg1) = m ((c.tc : Thread Cert.DnWRefIdeal.nD Cert.DnWRefIdeal.τ).loc Cert.DnWRefIdeal.main_arg1)
      ∧ r.2.mem ((c.tc : Thread Cert.DnWRefIdeal.nD Cert.DnWRefIdeal.τ).loc Cert.DnWRefIdeal.main_arg2) = m ((c.tc : Thread Cert.DnWRefIdeal.nD Cert.DnWRefIdeal.τ).loc Cert.DnWRefIdeal.main_arg2)
      ∧ r.2.mem ((c.tc : Thread Cert.DnWRefIdeal.nD Cert.DnWRefIdeal.τ).loc Cert.DnWRefIdeal.main_arg3) = m ((c.tc : Thread Cert.DnWRefIdeal.nD Cert.DnWRefIdeal.τ).loc Cert.DnWRefIdeal.main_arg3))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3))
      ∧ r.2.sem = fun _ => 0)

def quiescent_PostB [hPostB : Cert.PostB.Facts] : Prop :=
  ∀ (m : (ℓ : Loc Cert.PostB.nD Cert.PostB.τ Cert.PostB.sig) → Buf (Elt Bits) ℓ) (g : Dev Cert.PostB.nD → PrngReg), Pre_PostB m →
    θ_run (Cert.PostB.defs (F := Bits)) (onTc (τ := Cert.PostB.τ) (Cert.PostB.main (F := Bits))) ⟨m, fun _ => 0, g⟩ (fun r => (∀ c : Dev Cert.PostB.nD,
      r.2.mem ((c.tc : Thread Cert.PostB.nD Cert.PostB.τ).loc Cert.PostB.main_arg0) = m ((c.tc : Thread Cert.PostB.nD Cert.PostB.τ).loc Cert.PostB.main_arg0)
      ∧ r.2.mem ((c.tc : Thread Cert.PostB.nD Cert.PostB.τ).loc Cert.PostB.main_arg1) = m ((c.tc : Thread Cert.PostB.nD Cert.PostB.τ).loc Cert.PostB.main_arg1)
      ∧ r.2.mem ((c.tc : Thread Cert.PostB.nD Cert.PostB.τ).loc Cert.PostB.main_arg2) = m ((c.tc : Thread Cert.PostB.nD Cert.PostB.τ).loc Cert.PostB.main_arg2)
      ∧ r.2.mem ((c.tc : Thread Cert.PostB.nD Cert.PostB.τ).loc Cert.PostB.main_arg3) = m ((c.tc : Thread Cert.PostB.nD Cert.PostB.τ).loc Cert.PostB.main_arg3))
      ∧ r.2.sem = fun _ => 0)

def quiescent_PostBIdeal [hPostBIdeal : Cert.PostBIdeal.Facts] : Prop :=
  ∀ (m : (ℓ : Loc Cert.PostBIdeal.nD Cert.PostBIdeal.τ Cert.PostBIdeal.sig) → Buf (Elt Ideal) ℓ) (g : Dev Cert.PostBIdeal.nD → PrngReg), Pre_PostBIdeal m →
    θ_run (Cert.PostBIdeal.defs (F := Ideal)) (onTc (τ := Cert.PostBIdeal.τ) (Cert.PostBIdeal.main (F := Ideal))) ⟨m, fun _ => 0, g⟩ (fun r => (∀ c : Dev Cert.PostBIdeal.nD,
      r.2.mem ((c.tc : Thread Cert.PostBIdeal.nD Cert.PostBIdeal.τ).loc Cert.PostBIdeal.main_arg0) = m ((c.tc : Thread Cert.PostBIdeal.nD Cert.PostBIdeal.τ).loc Cert.PostBIdeal.main_arg0)
      ∧ r.2.mem ((c.tc : Thread Cert.PostBIdeal.nD Cert.PostBIdeal.τ).loc Cert.PostBIdeal.main_arg1) = m ((c.tc : Thread Cert.PostBIdeal.nD Cert.PostBIdeal.τ).loc Cert.PostBIdeal.main_arg1)
      ∧ r.2.mem ((c.tc : Thread Cert.PostBIdeal.nD Cert.PostBIdeal.τ).loc Cert.PostBIdeal.main_arg2) = m ((c.tc : Thread Cert.PostBIdeal.nD Cert.PostBIdeal.τ).loc Cert.PostBIdeal.main_arg2)
      ∧ r.2.mem ((c.tc : Thread Cert.PostBIdeal.nD Cert.PostBIdeal.τ).loc Cert.PostBIdeal.main_arg3) = m ((c.tc : Thread Cert.PostBIdeal.nD Cert.PostBIdeal.τ).loc Cert.PostBIdeal.main_arg3))
      ∧ r.2.sem = fun _ => 0)

def quiescent_PostBRefIdeal [hPostBRefIdeal : Cert.PostBRefIdeal.Facts] : Prop :=
  ∀ (m : (ℓ : Loc Cert.PostBRefIdeal.nD Cert.PostBRefIdeal.τ Cert.PostBRefIdeal.sig) → Buf (Elt Ideal) ℓ) (g : Dev Cert.PostBRefIdeal.nD → PrngReg), Pre_PostBRefIdeal m →
    θ_run (Cert.PostBRefIdeal.defs (F := Ideal)) (onTc (τ := Cert.PostBRefIdeal.τ) (Cert.PostBRefIdeal.main (F := Ideal))) ⟨m, fun _ => 0, g⟩ (fun r => (∀ c : Dev Cert.PostBRefIdeal.nD,
      r.2.mem ((c.tc : Thread Cert.PostBRefIdeal.nD Cert.PostBRefIdeal.τ).loc Cert.PostBRefIdeal.main_arg0) = m ((c.tc : Thread Cert.PostBRefIdeal.nD Cert.PostBRefIdeal.τ).loc Cert.PostBRefIdeal.main_arg0)
      ∧ r.2.mem ((c.tc : Thread Cert.PostBRefIdeal.nD Cert.PostBRefIdeal.τ).loc Cert.PostBRefIdeal.main_arg1) = m ((c.tc : Thread Cert.PostBRefIdeal.nD Cert.PostBRefIdeal.τ).loc Cert.PostBRefIdeal.main_arg1)
      ∧ r.2.mem ((c.tc : Thread Cert.PostBRefIdeal.nD Cert.PostBRefIdeal.τ).loc Cert.PostBRefIdeal.main_arg2) = m ((c.tc : Thread Cert.PostBRefIdeal.nD Cert.PostBRefIdeal.τ).loc Cert.PostBRefIdeal.main_arg2)
      ∧ r.2.mem ((c.tc : Thread Cert.PostBRefIdeal.nD Cert.PostBRefIdeal.τ).loc Cert.PostBRefIdeal.main_arg3) = m ((c.tc : Thread Cert.PostBRefIdeal.nD Cert.PostBRefIdeal.τ).loc Cert.PostBRefIdeal.main_arg3))
      ∧ r.2.sem = fun _ => 0)

def quiescent_PreB [hPreB : Cert.PreB.Facts] : Prop :=
  ∀ (m : (ℓ : Loc Cert.PreB.nD Cert.PreB.τ Cert.PreB.sig) → Buf (Elt Bits) ℓ) (g : Dev Cert.PreB.nD → PrngReg), Pre_PreB m →
    θ_run (Cert.PreB.defs (F := Bits)) (onTc (τ := Cert.PreB.τ) (Cert.PreB.main (F := Bits))) ⟨m, fun _ => 0, g⟩ (fun r => (∀ c : Dev Cert.PreB.nD,
      r.2.mem ((c.tc : Thread Cert.PreB.nD Cert.PreB.τ).loc Cert.PreB.main_arg0) = m ((c.tc : Thread Cert.PreB.nD Cert.PreB.τ).loc Cert.PreB.main_arg0)
      ∧ r.2.mem ((c.tc : Thread Cert.PreB.nD Cert.PreB.τ).loc Cert.PreB.main_arg1) = m ((c.tc : Thread Cert.PreB.nD Cert.PreB.τ).loc Cert.PreB.main_arg1)
      ∧ r.2.mem ((c.tc : Thread Cert.PreB.nD Cert.PreB.τ).loc Cert.PreB.main_arg2) = m ((c.tc : Thread Cert.PreB.nD Cert.PreB.τ).loc Cert.PreB.main_arg2)
      ∧ r.2.mem ((c.tc : Thread Cert.PreB.nD Cert.PreB.τ).loc Cert.PreB.main_arg3) = m ((c.tc : Thread Cert.PreB.nD Cert.PreB.τ).loc Cert.PreB.main_arg3)
      ∧ r.2.mem ((c.tc : Thread Cert.PreB.nD Cert.PreB.τ).loc Cert.PreB.main_arg4) = m ((c.tc : Thread Cert.PreB.nD Cert.PreB.τ).loc Cert.PreB.main_arg4))
      ∧ r.2.sem = fun _ => 0)

def quiescent_PreBIdeal [hPreBIdeal : Cert.PreBIdeal.Facts] : Prop :=
  ∀ (m : (ℓ : Loc Cert.PreBIdeal.nD Cert.PreBIdeal.τ Cert.PreBIdeal.sig) → Buf (Elt Ideal) ℓ) (g : Dev Cert.PreBIdeal.nD → PrngReg), Pre_PreBIdeal m →
    θ_run (Cert.PreBIdeal.defs (F := Ideal)) (onTc (τ := Cert.PreBIdeal.τ) (Cert.PreBIdeal.main (F := Ideal))) ⟨m, fun _ => 0, g⟩ (fun r => (∀ c : Dev Cert.PreBIdeal.nD,
      r.2.mem ((c.tc : Thread Cert.PreBIdeal.nD Cert.PreBIdeal.τ).loc Cert.PreBIdeal.main_arg0) = m ((c.tc : Thread Cert.PreBIdeal.nD Cert.PreBIdeal.τ).loc Cert.PreBIdeal.main_arg0)
      ∧ r.2.mem ((c.tc : Thread Cert.PreBIdeal.nD Cert.PreBIdeal.τ).loc Cert.PreBIdeal.main_arg1) = m ((c.tc : Thread Cert.PreBIdeal.nD Cert.PreBIdeal.τ).loc Cert.PreBIdeal.main_arg1)
      ∧ r.2.mem ((c.tc : Thread Cert.PreBIdeal.nD Cert.PreBIdeal.τ).loc Cert.PreBIdeal.main_arg2) = m ((c.tc : Thread Cert.PreBIdeal.nD Cert.PreBIdeal.τ).loc Cert.PreBIdeal.main_arg2)
      ∧ r.2.mem ((c.tc : Thread Cert.PreBIdeal.nD Cert.PreBIdeal.τ).loc Cert.PreBIdeal.main_arg3) = m ((c.tc : Thread Cert.PreBIdeal.nD Cert.PreBIdeal.τ).loc Cert.PreBIdeal.main_arg3)
      ∧ r.2.mem ((c.tc : Thread Cert.PreBIdeal.nD Cert.PreBIdeal.τ).loc Cert.PreBIdeal.main_arg4) = m ((c.tc : Thread Cert.PreBIdeal.nD Cert.PreBIdeal.τ).loc Cert.PreBIdeal.main_arg4))
      ∧ r.2.sem = fun _ => 0)

def quiescent_PreBRefIdeal [hPreBRefIdeal : Cert.PreBRefIdeal.Facts] : Prop :=
  ∀ (m : (ℓ : Loc Cert.PreBRefIdeal.nD Cert.PreBRefIdeal.τ Cert.PreBRefIdeal.sig) → Buf (Elt Ideal) ℓ) (g : Dev Cert.PreBRefIdeal.nD → PrngReg), Pre_PreBRefIdeal m →
    θ_run (Cert.PreBRefIdeal.defs (F := Ideal)) (onTc (τ := Cert.PreBRefIdeal.τ) (Cert.PreBRefIdeal.main (F := Ideal))) ⟨m, fun _ => 0, g⟩ (fun r => (∀ c : Dev Cert.PreBRefIdeal.nD,
      r.2.mem ((c.tc : Thread Cert.PreBRefIdeal.nD Cert.PreBRefIdeal.τ).loc Cert.PreBRefIdeal.main_arg0) = m ((c.tc : Thread Cert.PreBRefIdeal.nD Cert.PreBRefIdeal.τ).loc Cert.PreBRefIdeal.main_arg0)
      ∧ r.2.mem ((c.tc : Thread Cert.PreBRefIdeal.nD Cert.PreBRefIdeal.τ).loc Cert.PreBRefIdeal.main_arg1) = m ((c.tc : Thread Cert.PreBRefIdeal.nD Cert.PreBRefIdeal.τ).loc Cert.PreBRefIdeal.main_arg1)
      ∧ r.2.mem ((c.tc : Thread Cert.PreBRefIdeal.nD Cert.PreBRefIdeal.τ).loc Cert.PreBRefIdeal.main_arg2) = m ((c.tc : Thread Cert.PreBRefIdeal.nD Cert.PreBRefIdeal.τ).loc Cert.PreBRefIdeal.main_arg2)
      ∧ r.2.mem ((c.tc : Thread Cert.PreBRefIdeal.nD Cert.PreBRefIdeal.τ).loc Cert.PreBRefIdeal.main_arg3) = m ((c.tc : Thread Cert.PreBRefIdeal.nD Cert.PreBRefIdeal.τ).loc Cert.PreBRefIdeal.main_arg3)
      ∧ r.2.mem ((c.tc : Thread Cert.PreBRefIdeal.nD Cert.PreBRefIdeal.τ).loc Cert.PreBRefIdeal.main_arg4) = m ((c.tc : Thread Cert.PreBRefIdeal.nD Cert.PreBRefIdeal.τ).loc Cert.PreBRefIdeal.main_arg4))
      ∧ r.2.sem = fun _ => 0)

def quiescent_FfnY [hFfnY : Cert.FfnY.Facts] : Prop :=
  ∀ (m : (ℓ : Loc Cert.FfnY.nD Cert.FfnY.τ Cert.FfnY.sig) → Buf (Elt Bits) ℓ) (g : Dev Cert.FfnY.nD → PrngReg), Pre_FfnY m →
    θ_run (Cert.FfnY.defs (F := Bits)) (onTc (τ := Cert.FfnY.τ) (Cert.FfnY.main (F := Bits))) ⟨m, fun _ => 0, g⟩ (fun r => (∀ c : Dev Cert.FfnY.nD,
      r.2.mem ((c.tc : Thread Cert.FfnY.nD Cert.FfnY.τ).loc Cert.FfnY.main_arg0) = m ((c.tc : Thread Cert.FfnY.nD Cert.FfnY.τ).loc Cert.FfnY.main_arg0)
      ∧ r.2.mem ((c.tc : Thread Cert.FfnY.nD Cert.FfnY.τ).loc Cert.FfnY.main_arg1) = m ((c.tc : Thread Cert.FfnY.nD Cert.FfnY.τ).loc Cert.FfnY.main_arg1))
      ∧ r.2.sem = fun _ => 0)

def quiescent_FfnYIdeal [hFfnYIdeal : Cert.FfnYIdeal.Facts] : Prop :=
  ∀ (m : (ℓ : Loc Cert.FfnYIdeal.nD Cert.FfnYIdeal.τ Cert.FfnYIdeal.sig) → Buf (Elt Ideal) ℓ) (g : Dev Cert.FfnYIdeal.nD → PrngReg), Pre_FfnYIdeal m →
    θ_run (Cert.FfnYIdeal.defs (F := Ideal)) (onTc (τ := Cert.FfnYIdeal.τ) (Cert.FfnYIdeal.main (F := Ideal))) ⟨m, fun _ => 0, g⟩ (fun r => (∀ c : Dev Cert.FfnYIdeal.nD,
      r.2.mem ((c.tc : Thread Cert.FfnYIdeal.nD Cert.FfnYIdeal.τ).loc Cert.FfnYIdeal.main_arg0) = m ((c.tc : Thread Cert.FfnYIdeal.nD Cert.FfnYIdeal.τ).loc Cert.FfnYIdeal.main_arg0)
      ∧ r.2.mem ((c.tc : Thread Cert.FfnYIdeal.nD Cert.FfnYIdeal.τ).loc Cert.FfnYIdeal.main_arg1) = m ((c.tc : Thread Cert.FfnYIdeal.nD Cert.FfnYIdeal.τ).loc Cert.FfnYIdeal.main_arg1))
      ∧ r.2.sem = fun _ => 0)

def quiescent_FfnYRefIdeal [hFfnYRefIdeal : Cert.FfnYRefIdeal.Facts] : Prop :=
  ∀ (m : (ℓ : Loc Cert.FfnYRefIdeal.nD Cert.FfnYRefIdeal.τ Cert.FfnYRefIdeal.sig) → Buf (Elt Ideal) ℓ) (g : Dev Cert.FfnYRefIdeal.nD → PrngReg), Pre_FfnYRefIdeal m →
    θ_run (Cert.FfnYRefIdeal.defs (F := Ideal)) (onTc (τ := Cert.FfnYRefIdeal.τ) (Cert.FfnYRefIdeal.main (F := Ideal))) ⟨m, fun _ => 0, g⟩ (fun r => (∀ c : Dev Cert.FfnYRefIdeal.nD,
      r.2.mem ((c.tc : Thread Cert.FfnYRefIdeal.nD Cert.FfnYRefIdeal.τ).loc Cert.FfnYRefIdeal.main_arg0) = m ((c.tc : Thread Cert.FfnYRefIdeal.nD Cert.FfnYRefIdeal.τ).loc Cert.FfnYRefIdeal.main_arg0)
      ∧ r.2.mem ((c.tc : Thread Cert.FfnYRefIdeal.nD Cert.FfnYRefIdeal.τ).loc Cert.FfnYRefIdeal.main_arg1) = m ((c.tc : Thread Cert.FfnYRefIdeal.nD Cert.FfnYRefIdeal.τ).loc Cert.FfnYRefIdeal.main_arg1))
      ∧ r.2.sem = fun _ => 0)

def quiescent_NormY [hNormY : Cert.NormY.Facts] : Prop :=
  ∀ (m : (ℓ : Loc Cert.NormY.nD Cert.NormY.τ Cert.NormY.sig) → Buf (Elt Bits) ℓ) (g : Dev Cert.NormY.nD → PrngReg), Pre_NormY m →
    θ_run (Cert.NormY.defs (F := Bits)) (onTc (τ := Cert.NormY.τ) (Cert.NormY.main (F := Bits))) ⟨m, fun _ => 0, g⟩ (fun r => (∀ c : Dev Cert.NormY.nD,
      r.2.mem ((c.tc : Thread Cert.NormY.nD Cert.NormY.τ).loc Cert.NormY.main_arg0) = m ((c.tc : Thread Cert.NormY.nD Cert.NormY.τ).loc Cert.NormY.main_arg0)
      ∧ r.2.mem ((c.tc : Thread Cert.NormY.nD Cert.NormY.τ).loc Cert.NormY.main_arg1) = m ((c.tc : Thread Cert.NormY.nD Cert.NormY.τ).loc Cert.NormY.main_arg1))
      ∧ r.2.sem = fun _ => 0)

def quiescent_NormYIdeal [hNormYIdeal : Cert.NormYIdeal.Facts] : Prop :=
  ∀ (m : (ℓ : Loc Cert.NormYIdeal.nD Cert.NormYIdeal.τ Cert.NormYIdeal.sig) → Buf (Elt Ideal) ℓ) (g : Dev Cert.NormYIdeal.nD → PrngReg), Pre_NormYIdeal m →
    θ_run (Cert.NormYIdeal.defs (F := Ideal)) (onTc (τ := Cert.NormYIdeal.τ) (Cert.NormYIdeal.main (F := Ideal))) ⟨m, fun _ => 0, g⟩ (fun r => (∀ c : Dev Cert.NormYIdeal.nD,
      r.2.mem ((c.tc : Thread Cert.NormYIdeal.nD Cert.NormYIdeal.τ).loc Cert.NormYIdeal.main_arg0) = m ((c.tc : Thread Cert.NormYIdeal.nD Cert.NormYIdeal.τ).loc Cert.NormYIdeal.main_arg0)
      ∧ r.2.mem ((c.tc : Thread Cert.NormYIdeal.nD Cert.NormYIdeal.τ).loc Cert.NormYIdeal.main_arg1) = m ((c.tc : Thread Cert.NormYIdeal.nD Cert.NormYIdeal.τ).loc Cert.NormYIdeal.main_arg1))
      ∧ r.2.sem = fun _ => 0)

def quiescent_NormYRefIdeal [hNormYRefIdeal : Cert.NormYRefIdeal.Facts] : Prop :=
  ∀ (m : (ℓ : Loc Cert.NormYRefIdeal.nD Cert.NormYRefIdeal.τ Cert.NormYRefIdeal.sig) → Buf (Elt Ideal) ℓ) (g : Dev Cert.NormYRefIdeal.nD → PrngReg), Pre_NormYRefIdeal m →
    θ_run (Cert.NormYRefIdeal.defs (F := Ideal)) (onTc (τ := Cert.NormYRefIdeal.τ) (Cert.NormYRefIdeal.main (F := Ideal))) ⟨m, fun _ => 0, g⟩ (fun r => (∀ c : Dev Cert.NormYRefIdeal.nD,
      r.2.mem ((c.tc : Thread Cert.NormYRefIdeal.nD Cert.NormYRefIdeal.τ).loc Cert.NormYRefIdeal.main_arg0) = m ((c.tc : Thread Cert.NormYRefIdeal.nD Cert.NormYRefIdeal.τ).loc Cert.NormYRefIdeal.main_arg0)
      ∧ r.2.mem ((c.tc : Thread Cert.NormYRefIdeal.nD Cert.NormYRefIdeal.τ).loc Cert.NormYRefIdeal.main_arg1) = m ((c.tc : Thread Cert.NormYRefIdeal.nD Cert.NormYRefIdeal.τ).loc Cert.NormYRefIdeal.main_arg1))
      ∧ r.2.sem = fun _ => 0)

def quiescent_MergeY [hMergeY : Cert.MergeY.Facts] : Prop :=
  ∀ (m : (ℓ : Loc Cert.MergeY.nD Cert.MergeY.τ Cert.MergeY.sig) → Buf (Elt Bits) ℓ) (g : Dev Cert.MergeY.nD → PrngReg), Pre_MergeY m →
    θ_run (Cert.MergeY.defs (F := Bits)) (onTc (τ := Cert.MergeY.τ) (Cert.MergeY.main (F := Bits))) ⟨m, fun _ => 0, g⟩ (fun r => (∀ c : Dev Cert.MergeY.nD,
      r.2.mem ((c.tc : Thread Cert.MergeY.nD Cert.MergeY.τ).loc Cert.MergeY.main_arg0) = m ((c.tc : Thread Cert.MergeY.nD Cert.MergeY.τ).loc Cert.MergeY.main_arg0)
      ∧ r.2.mem ((c.tc : Thread Cert.MergeY.nD Cert.MergeY.τ).loc Cert.MergeY.main_arg1) = m ((c.tc : Thread Cert.MergeY.nD Cert.MergeY.τ).loc Cert.MergeY.main_arg1)
      ∧ r.2.mem ((c.tc : Thread Cert.MergeY.nD Cert.MergeY.τ).loc Cert.MergeY.main_arg2) = m ((c.tc : Thread Cert.MergeY.nD Cert.MergeY.τ).loc Cert.MergeY.main_arg2))
      ∧ r.2.sem = fun _ => 0)

def quiescent_MergeYIdeal [hMergeYIdeal : Cert.MergeYIdeal.Facts] : Prop :=
  ∀ (m : (ℓ : Loc Cert.MergeYIdeal.nD Cert.MergeYIdeal.τ Cert.MergeYIdeal.sig) → Buf (Elt Ideal) ℓ) (g : Dev Cert.MergeYIdeal.nD → PrngReg), Pre_MergeYIdeal m →
    θ_run (Cert.MergeYIdeal.defs (F := Ideal)) (onTc (τ := Cert.MergeYIdeal.τ) (Cert.MergeYIdeal.main (F := Ideal))) ⟨m, fun _ => 0, g⟩ (fun r => (∀ c : Dev Cert.MergeYIdeal.nD,
      r.2.mem ((c.tc : Thread Cert.MergeYIdeal.nD Cert.MergeYIdeal.τ).loc Cert.MergeYIdeal.main_arg0) = m ((c.tc : Thread Cert.MergeYIdeal.nD Cert.MergeYIdeal.τ).loc Cert.MergeYIdeal.main_arg0)
      ∧ r.2.mem ((c.tc : Thread Cert.MergeYIdeal.nD Cert.MergeYIdeal.τ).loc Cert.MergeYIdeal.main_arg1) = m ((c.tc : Thread Cert.MergeYIdeal.nD Cert.MergeYIdeal.τ).loc Cert.MergeYIdeal.main_arg1)
      ∧ r.2.mem ((c.tc : Thread Cert.MergeYIdeal.nD Cert.MergeYIdeal.τ).loc Cert.MergeYIdeal.main_arg2) = m ((c.tc : Thread Cert.MergeYIdeal.nD Cert.MergeYIdeal.τ).loc Cert.MergeYIdeal.main_arg2))
      ∧ r.2.sem = fun _ => 0)

def quiescent_MergeYRefIdeal [hMergeYRefIdeal : Cert.MergeYRefIdeal.Facts] : Prop :=
  ∀ (m : (ℓ : Loc Cert.MergeYRefIdeal.nD Cert.MergeYRefIdeal.τ Cert.MergeYRefIdeal.sig) → Buf (Elt Ideal) ℓ) (g : Dev Cert.MergeYRefIdeal.nD → PrngReg), Pre_MergeYRefIdeal m →
    θ_run (Cert.MergeYRefIdeal.defs (F := Ideal)) (onTc (τ := Cert.MergeYRefIdeal.τ) (Cert.MergeYRefIdeal.main (F := Ideal))) ⟨m, fun _ => 0, g⟩ (fun r => (∀ c : Dev Cert.MergeYRefIdeal.nD,
      r.2.mem ((c.tc : Thread Cert.MergeYRefIdeal.nD Cert.MergeYRefIdeal.τ).loc Cert.MergeYRefIdeal.main_arg0) = m ((c.tc : Thread Cert.MergeYRefIdeal.nD Cert.MergeYRefIdeal.τ).loc Cert.MergeYRefIdeal.main_arg0)
      ∧ r.2.mem ((c.tc : Thread Cert.MergeYRefIdeal.nD Cert.MergeYRefIdeal.τ).loc Cert.MergeYRefIdeal.main_arg1) = m ((c.tc : Thread Cert.MergeYRefIdeal.nD Cert.MergeYRefIdeal.τ).loc Cert.MergeYRefIdeal.main_arg1)
      ∧ r.2.mem ((c.tc : Thread Cert.MergeYRefIdeal.nD Cert.MergeYRefIdeal.τ).loc Cert.MergeYRefIdeal.main_arg2) = m ((c.tc : Thread Cert.MergeYRefIdeal.nD Cert.MergeYRefIdeal.τ).loc Cert.MergeYRefIdeal.main_arg2))
      ∧ r.2.sem = fun _ => 0)

def quiescent_LossB [hLossB : Cert.LossB.Facts] : Prop :=
  ∀ (m : (ℓ : Loc Cert.LossB.nD Cert.LossB.τ Cert.LossB.sig) → Buf (Elt Bits) ℓ) (g : Dev Cert.LossB.nD → PrngReg), Pre_LossB m →
    θ_run (Cert.LossB.defs (F := Bits)) (onTc (τ := Cert.LossB.τ) (Cert.LossB.main (F := Bits))) ⟨m, fun _ => 0, g⟩ (fun r => (∀ c : Dev Cert.LossB.nD,
      r.2.mem ((c.tc : Thread Cert.LossB.nD Cert.LossB.τ).loc Cert.LossB.main_arg0) = m ((c.tc : Thread Cert.LossB.nD Cert.LossB.τ).loc Cert.LossB.main_arg0)
      ∧ r.2.mem ((c.tc : Thread Cert.LossB.nD Cert.LossB.τ).loc Cert.LossB.main_arg1) = m ((c.tc : Thread Cert.LossB.nD Cert.LossB.τ).loc Cert.LossB.main_arg1)
      ∧ r.2.mem ((c.tc : Thread Cert.LossB.nD Cert.LossB.τ).loc Cert.LossB.main_arg2) = m ((c.tc : Thread Cert.LossB.nD Cert.LossB.τ).loc Cert.LossB.main_arg2))
      ∧ r.2.sem = fun _ => 0)

def quiescent_LossBIdeal [hLossBIdeal : Cert.LossBIdeal.Facts] : Prop :=
  ∀ (m : (ℓ : Loc Cert.LossBIdeal.nD Cert.LossBIdeal.τ Cert.LossBIdeal.sig) → Buf (Elt Ideal) ℓ) (g : Dev Cert.LossBIdeal.nD → PrngReg), Pre_LossBIdeal m →
    θ_run (Cert.LossBIdeal.defs (F := Ideal)) (onTc (τ := Cert.LossBIdeal.τ) (Cert.LossBIdeal.main (F := Ideal))) ⟨m, fun _ => 0, g⟩ (fun r => (∀ c : Dev Cert.LossBIdeal.nD,
      r.2.mem ((c.tc : Thread Cert.LossBIdeal.nD Cert.LossBIdeal.τ).loc Cert.LossBIdeal.main_arg0) = m ((c.tc : Thread Cert.LossBIdeal.nD Cert.LossBIdeal.τ).loc Cert.LossBIdeal.main_arg0)
      ∧ r.2.mem ((c.tc : Thread Cert.LossBIdeal.nD Cert.LossBIdeal.τ).loc Cert.LossBIdeal.main_arg1) = m ((c.tc : Thread Cert.LossBIdeal.nD Cert.LossBIdeal.τ).loc Cert.LossBIdeal.main_arg1)
      ∧ r.2.mem ((c.tc : Thread Cert.LossBIdeal.nD Cert.LossBIdeal.τ).loc Cert.LossBIdeal.main_arg2) = m ((c.tc : Thread Cert.LossBIdeal.nD Cert.LossBIdeal.τ).loc Cert.LossBIdeal.main_arg2))
      ∧ r.2.sem = fun _ => 0)

def quiescent_LossBRefIdeal [hLossBRefIdeal : Cert.LossBRefIdeal.Facts] : Prop :=
  ∀ (m : (ℓ : Loc Cert.LossBRefIdeal.nD Cert.LossBRefIdeal.τ Cert.LossBRefIdeal.sig) → Buf (Elt Ideal) ℓ) (g : Dev Cert.LossBRefIdeal.nD → PrngReg), Pre_LossBRefIdeal m →
    θ_run (Cert.LossBRefIdeal.defs (F := Ideal)) (onTc (τ := Cert.LossBRefIdeal.τ) (Cert.LossBRefIdeal.main (F := Ideal))) ⟨m, fun _ => 0, g⟩ (fun r => (∀ c : Dev Cert.LossBRefIdeal.nD,
      r.2.mem ((c.tc : Thread Cert.LossBRefIdeal.nD Cert.LossBRefIdeal.τ).loc Cert.LossBRefIdeal.main_arg0) = m ((c.tc : Thread Cert.LossBRefIdeal.nD Cert.LossBRefIdeal.τ).loc Cert.LossBRefIdeal.main_arg0)
      ∧ r.2.mem ((c.tc : Thread Cert.LossBRefIdeal.nD Cert.LossBRefIdeal.τ).loc Cert.LossBRefIdeal.main_arg1) = m ((c.tc : Thread Cert.LossBRefIdeal.nD Cert.LossBRefIdeal.τ).loc Cert.LossBRefIdeal.main_arg1)
      ∧ r.2.mem ((c.tc : Thread Cert.LossBRefIdeal.nD Cert.LossBRefIdeal.τ).loc Cert.LossBRefIdeal.main_arg2) = m ((c.tc : Thread Cert.LossBRefIdeal.nD Cert.LossBRefIdeal.τ).loc Cert.LossBRefIdeal.main_arg2))
      ∧ r.2.sem = fun _ => 0)

def quiescent_PostY [hPostY : Cert.PostY.Facts] : Prop :=
  ∀ (m : (ℓ : Loc Cert.PostY.nD Cert.PostY.τ Cert.PostY.sig) → Buf (Elt Bits) ℓ) (g : Dev Cert.PostY.nD → PrngReg), Pre_PostY m →
    θ_run (Cert.PostY.defs (F := Bits)) (onTc (τ := Cert.PostY.τ) (Cert.PostY.main (F := Bits))) ⟨m, fun _ => 0, g⟩ (fun r => (∀ c : Dev Cert.PostY.nD,
      r.2.mem ((c.tc : Thread Cert.PostY.nD Cert.PostY.τ).loc Cert.PostY.main_arg0) = m ((c.tc : Thread Cert.PostY.nD Cert.PostY.τ).loc Cert.PostY.main_arg0)
      ∧ r.2.mem ((c.tc : Thread Cert.PostY.nD Cert.PostY.τ).loc Cert.PostY.main_arg1) = m ((c.tc : Thread Cert.PostY.nD Cert.PostY.τ).loc Cert.PostY.main_arg1)
      ∧ r.2.mem ((c.tc : Thread Cert.PostY.nD Cert.PostY.τ).loc Cert.PostY.main_arg2) = m ((c.tc : Thread Cert.PostY.nD Cert.PostY.τ).loc Cert.PostY.main_arg2))
      ∧ r.2.sem = fun _ => 0)

def quiescent_PostYIdeal [hPostYIdeal : Cert.PostYIdeal.Facts] : Prop :=
  ∀ (m : (ℓ : Loc Cert.PostYIdeal.nD Cert.PostYIdeal.τ Cert.PostYIdeal.sig) → Buf (Elt Ideal) ℓ) (g : Dev Cert.PostYIdeal.nD → PrngReg), Pre_PostYIdeal m →
    θ_run (Cert.PostYIdeal.defs (F := Ideal)) (onTc (τ := Cert.PostYIdeal.τ) (Cert.PostYIdeal.main (F := Ideal))) ⟨m, fun _ => 0, g⟩ (fun r => (∀ c : Dev Cert.PostYIdeal.nD,
      r.2.mem ((c.tc : Thread Cert.PostYIdeal.nD Cert.PostYIdeal.τ).loc Cert.PostYIdeal.main_arg0) = m ((c.tc : Thread Cert.PostYIdeal.nD Cert.PostYIdeal.τ).loc Cert.PostYIdeal.main_arg0)
      ∧ r.2.mem ((c.tc : Thread Cert.PostYIdeal.nD Cert.PostYIdeal.τ).loc Cert.PostYIdeal.main_arg1) = m ((c.tc : Thread Cert.PostYIdeal.nD Cert.PostYIdeal.τ).loc Cert.PostYIdeal.main_arg1)
      ∧ r.2.mem ((c.tc : Thread Cert.PostYIdeal.nD Cert.PostYIdeal.τ).loc Cert.PostYIdeal.main_arg2) = m ((c.tc : Thread Cert.PostYIdeal.nD Cert.PostYIdeal.τ).loc Cert.PostYIdeal.main_arg2))
      ∧ r.2.sem = fun _ => 0)

def quiescent_PostYRefIdeal [hPostYRefIdeal : Cert.PostYRefIdeal.Facts] : Prop :=
  ∀ (m : (ℓ : Loc Cert.PostYRefIdeal.nD Cert.PostYRefIdeal.τ Cert.PostYRefIdeal.sig) → Buf (Elt Ideal) ℓ) (g : Dev Cert.PostYRefIdeal.nD → PrngReg), Pre_PostYRefIdeal m →
    θ_run (Cert.PostYRefIdeal.defs (F := Ideal)) (onTc (τ := Cert.PostYRefIdeal.τ) (Cert.PostYRefIdeal.main (F := Ideal))) ⟨m, fun _ => 0, g⟩ (fun r => (∀ c : Dev Cert.PostYRefIdeal.nD,
      r.2.mem ((c.tc : Thread Cert.PostYRefIdeal.nD Cert.PostYRefIdeal.τ).loc Cert.PostYRefIdeal.main_arg0) = m ((c.tc : Thread Cert.PostYRefIdeal.nD Cert.PostYRefIdeal.τ).loc Cert.PostYRefIdeal.main_arg0)
      ∧ r.2.mem ((c.tc : Thread Cert.PostYRefIdeal.nD Cert.PostYRefIdeal.τ).loc Cert.PostYRefIdeal.main_arg1) = m ((c.tc : Thread Cert.PostYRefIdeal.nD Cert.PostYRefIdeal.τ).loc Cert.PostYRefIdeal.main_arg1)
      ∧ r.2.mem ((c.tc : Thread Cert.PostYRefIdeal.nD Cert.PostYRefIdeal.τ).loc Cert.PostYRefIdeal.main_arg2) = m ((c.tc : Thread Cert.PostYRefIdeal.nD Cert.PostYRefIdeal.τ).loc Cert.PostYRefIdeal.main_arg2))
      ∧ r.2.sem = fun _ => 0)

def quiescent_PreY [hPreY : Cert.PreY.Facts] : Prop :=
  ∀ (m : (ℓ : Loc Cert.PreY.nD Cert.PreY.τ Cert.PreY.sig) → Buf (Elt Bits) ℓ) (g : Dev Cert.PreY.nD → PrngReg), Pre_PreY m →
    θ_run (Cert.PreY.defs (F := Bits)) (onTc (τ := Cert.PreY.τ) (Cert.PreY.main (F := Bits))) ⟨m, fun _ => 0, g⟩ (fun r => (∀ c : Dev Cert.PreY.nD,
      r.2.mem ((c.tc : Thread Cert.PreY.nD Cert.PreY.τ).loc Cert.PreY.main_arg0) = m ((c.tc : Thread Cert.PreY.nD Cert.PreY.τ).loc Cert.PreY.main_arg0)
      ∧ r.2.mem ((c.tc : Thread Cert.PreY.nD Cert.PreY.τ).loc Cert.PreY.main_arg1) = m ((c.tc : Thread Cert.PreY.nD Cert.PreY.τ).loc Cert.PreY.main_arg1))
      ∧ r.2.sem = fun _ => 0)

def quiescent_PreYIdeal [hPreYIdeal : Cert.PreYIdeal.Facts] : Prop :=
  ∀ (m : (ℓ : Loc Cert.PreYIdeal.nD Cert.PreYIdeal.τ Cert.PreYIdeal.sig) → Buf (Elt Ideal) ℓ) (g : Dev Cert.PreYIdeal.nD → PrngReg), Pre_PreYIdeal m →
    θ_run (Cert.PreYIdeal.defs (F := Ideal)) (onTc (τ := Cert.PreYIdeal.τ) (Cert.PreYIdeal.main (F := Ideal))) ⟨m, fun _ => 0, g⟩ (fun r => (∀ c : Dev Cert.PreYIdeal.nD,
      r.2.mem ((c.tc : Thread Cert.PreYIdeal.nD Cert.PreYIdeal.τ).loc Cert.PreYIdeal.main_arg0) = m ((c.tc : Thread Cert.PreYIdeal.nD Cert.PreYIdeal.τ).loc Cert.PreYIdeal.main_arg0)
      ∧ r.2.mem ((c.tc : Thread Cert.PreYIdeal.nD Cert.PreYIdeal.τ).loc Cert.PreYIdeal.main_arg1) = m ((c.tc : Thread Cert.PreYIdeal.nD Cert.PreYIdeal.τ).loc Cert.PreYIdeal.main_arg1))
      ∧ r.2.sem = fun _ => 0)

def quiescent_PreYRefIdeal [hPreYRefIdeal : Cert.PreYRefIdeal.Facts] : Prop :=
  ∀ (m : (ℓ : Loc Cert.PreYRefIdeal.nD Cert.PreYRefIdeal.τ Cert.PreYRefIdeal.sig) → Buf (Elt Ideal) ℓ) (g : Dev Cert.PreYRefIdeal.nD → PrngReg), Pre_PreYRefIdeal m →
    θ_run (Cert.PreYRefIdeal.defs (F := Ideal)) (onTc (τ := Cert.PreYRefIdeal.τ) (Cert.PreYRefIdeal.main (F := Ideal))) ⟨m, fun _ => 0, g⟩ (fun r => (∀ c : Dev Cert.PreYRefIdeal.nD,
      r.2.mem ((c.tc : Thread Cert.PreYRefIdeal.nD Cert.PreYRefIdeal.τ).loc Cert.PreYRefIdeal.main_arg0) = m ((c.tc : Thread Cert.PreYRefIdeal.nD Cert.PreYRefIdeal.τ).loc Cert.PreYRefIdeal.main_arg0)
      ∧ r.2.mem ((c.tc : Thread Cert.PreYRefIdeal.nD Cert.PreYRefIdeal.τ).loc Cert.PreYRefIdeal.main_arg1) = m ((c.tc : Thread Cert.PreYRefIdeal.nD Cert.PreYRefIdeal.τ).loc Cert.PreYRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamDn [hAdamDn : Cert.AdamDn.Facts] : Prop :=
  ∀ (m : (ℓ : Loc Cert.AdamDn.nD Cert.AdamDn.τ Cert.AdamDn.sig) → Buf (Elt Bits) ℓ) (g : Dev Cert.AdamDn.nD → PrngReg), Pre_AdamDn m →
    θ_run (Cert.AdamDn.defs (F := Bits)) (onTc (τ := Cert.AdamDn.τ) (Cert.AdamDn.main (F := Bits))) ⟨m, fun _ => 0, g⟩ (fun r => (∀ c : Dev Cert.AdamDn.nD,
      r.2.mem ((c.tc : Thread Cert.AdamDn.nD Cert.AdamDn.τ).loc Cert.AdamDn.main_arg0) = m ((c.tc : Thread Cert.AdamDn.nD Cert.AdamDn.τ).loc Cert.AdamDn.main_arg0)
      ∧ r.2.mem ((c.tc : Thread Cert.AdamDn.nD Cert.AdamDn.τ).loc Cert.AdamDn.main_arg1) = m ((c.tc : Thread Cert.AdamDn.nD Cert.AdamDn.τ).loc Cert.AdamDn.main_arg1)
      ∧ r.2.mem ((c.tc : Thread Cert.AdamDn.nD Cert.AdamDn.τ).loc Cert.AdamDn.main_arg2) = m ((c.tc : Thread Cert.AdamDn.nD Cert.AdamDn.τ).loc Cert.AdamDn.main_arg2)
      ∧ r.2.mem ((c.tc : Thread Cert.AdamDn.nD Cert.AdamDn.τ).loc Cert.AdamDn.main_arg3) = m ((c.tc : Thread Cert.AdamDn.nD Cert.AdamDn.τ).loc Cert.AdamDn.main_arg3))
      ∧ r.2.sem = fun _ => 0)

def quiescent_AdamDnIdeal [hAdamDnIdeal : Cert.AdamDnIdeal.Facts] : Prop :=
  ∀ (m : (ℓ : Loc Cert.AdamDnIdeal.nD Cert.AdamDnIdeal.τ Cert.AdamDnIdeal.sig) → Buf (Elt Ideal) ℓ) (g : Dev Cert.AdamDnIdeal.nD → PrngReg), Pre_AdamDnIdeal m →
    θ_run (Cert.AdamDnIdeal.defs (F := Ideal)) (onTc (τ := Cert.AdamDnIdeal.τ) (Cert.AdamDnIdeal.main (F := Ideal))) ⟨m, fun _ => 0, g⟩ (fun r => (∀ c : Dev Cert.AdamDnIdeal.nD,
      r.2.mem ((c.tc : Thread Cert.AdamDnIdeal.nD Cert.AdamDnIdeal.τ).loc Cert.AdamDnIdeal.main_arg0) = m ((c.tc : Thread Cert.AdamDnIdeal.nD Cert.AdamDnIdeal.τ).loc Cert.AdamDnIdeal.main_arg0)
      ∧ r.2.mem ((c.tc : Thread Cert.AdamDnIdeal.nD Cert.AdamDnIdeal.τ).loc Cert.AdamDnIdeal.main_arg1) = m ((c.tc : Thread Cert.AdamDnIdeal.nD Cert.AdamDnIdeal.τ).loc Cert.AdamDnIdeal.main_arg1)
      ∧ r.2.mem ((c.tc : Thread Cert.AdamDnIdeal.nD Cert.AdamDnIdeal.τ).loc Cert.AdamDnIdeal.main_arg2) = m ((c.tc : Thread Cert.AdamDnIdeal.nD Cert.AdamDnIdeal.τ).loc Cert.AdamDnIdeal.main_arg2)
      ∧ r.2.mem ((c.tc : Thread Cert.AdamDnIdeal.nD Cert.AdamDnIdeal.τ).loc Cert.AdamDnIdeal.main_arg3) = m ((c.tc : Thread Cert.AdamDnIdeal.nD Cert.AdamDnIdeal.τ).loc Cert.AdamDnIdeal.main_arg3))
      ∧ r.2.sem = fun _ => 0)

def quiescent_AdamDnRefIdeal [hAdamDnRefIdeal : Cert.AdamDnRefIdeal.Facts] : Prop :=
  ∀ (m : (ℓ : Loc Cert.AdamDnRefIdeal.nD Cert.AdamDnRefIdeal.τ Cert.AdamDnRefIdeal.sig) → Buf (Elt Ideal) ℓ) (g : Dev Cert.AdamDnRefIdeal.nD → PrngReg), Pre_AdamDnRefIdeal m →
    θ_run (Cert.AdamDnRefIdeal.defs (F := Ideal)) (onTc (τ := Cert.AdamDnRefIdeal.τ) (Cert.AdamDnRefIdeal.main (F := Ideal))) ⟨m, fun _ => 0, g⟩ (fun r => (∀ c : Dev Cert.AdamDnRefIdeal.nD,
      r.2.mem ((c.tc : Thread Cert.AdamDnRefIdeal.nD Cert.AdamDnRefIdeal.τ).loc Cert.AdamDnRefIdeal.main_arg0) = m ((c.tc : Thread Cert.AdamDnRefIdeal.nD Cert.AdamDnRefIdeal.τ).loc Cert.AdamDnRefIdeal.main_arg0)
      ∧ r.2.mem ((c.tc : Thread Cert.AdamDnRefIdeal.nD Cert.AdamDnRefIdeal.τ).loc Cert.AdamDnRefIdeal.main_arg1) = m ((c.tc : Thread Cert.AdamDnRefIdeal.nD Cert.AdamDnRefIdeal.τ).loc Cert.AdamDnRefIdeal.main_arg1)
      ∧ r.2.mem ((c.tc : Thread Cert.AdamDnRefIdeal.nD Cert.AdamDnRefIdeal.τ).loc Cert.AdamDnRefIdeal.main_arg2) = m ((c.tc : Thread Cert.AdamDnRefIdeal.nD Cert.AdamDnRefIdeal.τ).loc Cert.AdamDnRefIdeal.main_arg2)
      ∧ r.2.mem ((c.tc : Thread Cert.AdamDnRefIdeal.nD Cert.AdamDnRefIdeal.τ).loc Cert.AdamDnRefIdeal.main_arg3) = m ((c.tc : Thread Cert.AdamDnRefIdeal.nD Cert.AdamDnRefIdeal.τ).loc Cert.AdamDnRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamS [hAdamS : Cert.AdamS.Facts] : Prop :=
  ∀ (m : (ℓ : Loc Cert.AdamS.nD Cert.AdamS.τ Cert.AdamS.sig) → Buf (Elt Bits) ℓ) (g : Dev Cert.AdamS.nD → PrngReg), Pre_AdamS m →
    θ_run (Cert.AdamS.defs (F := Bits)) (onTc (τ := Cert.AdamS.τ) (Cert.AdamS.main (F := Bits))) ⟨m, fun _ => 0, g⟩ (fun r => (∀ c : Dev Cert.AdamS.nD,
      r.2.mem ((c.tc : Thread Cert.AdamS.nD Cert.AdamS.τ).loc Cert.AdamS.main_arg0) = m ((c.tc : Thread Cert.AdamS.nD Cert.AdamS.τ).loc Cert.AdamS.main_arg0)
      ∧ r.2.mem ((c.tc : Thread Cert.AdamS.nD Cert.AdamS.τ).loc Cert.AdamS.main_arg1) = m ((c.tc : Thread Cert.AdamS.nD Cert.AdamS.τ).loc Cert.AdamS.main_arg1)
      ∧ r.2.mem ((c.tc : Thread Cert.AdamS.nD Cert.AdamS.τ).loc Cert.AdamS.main_arg2) = m ((c.tc : Thread Cert.AdamS.nD Cert.AdamS.τ).loc Cert.AdamS.main_arg2)
      ∧ r.2.mem ((c.tc : Thread Cert.AdamS.nD Cert.AdamS.τ).loc Cert.AdamS.main_arg3) = m ((c.tc : Thread Cert.AdamS.nD Cert.AdamS.τ).loc Cert.AdamS.main_arg3))
      ∧ r.2.sem = fun _ => 0)

def quiescent_AdamSIdeal [hAdamSIdeal : Cert.AdamSIdeal.Facts] : Prop :=
  ∀ (m : (ℓ : Loc Cert.AdamSIdeal.nD Cert.AdamSIdeal.τ Cert.AdamSIdeal.sig) → Buf (Elt Ideal) ℓ) (g : Dev Cert.AdamSIdeal.nD → PrngReg), Pre_AdamSIdeal m →
    θ_run (Cert.AdamSIdeal.defs (F := Ideal)) (onTc (τ := Cert.AdamSIdeal.τ) (Cert.AdamSIdeal.main (F := Ideal))) ⟨m, fun _ => 0, g⟩ (fun r => (∀ c : Dev Cert.AdamSIdeal.nD,
      r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
      ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
      ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
      ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ r.2.sem = fun _ => 0)

def quiescent_AdamSRefIdeal [hAdamSRefIdeal : Cert.AdamSRefIdeal.Facts] : Prop :=
  ∀ (m : (ℓ : Loc Cert.AdamSRefIdeal.nD Cert.AdamSRefIdeal.τ Cert.AdamSRefIdeal.sig) → Buf (Elt Ideal) ℓ) (g : Dev Cert.AdamSRefIdeal.nD → PrngReg), Pre_AdamSRefIdeal m →
    θ_run (Cert.AdamSRefIdeal.defs (F := Ideal)) (onTc (τ := Cert.AdamSRefIdeal.τ) (Cert.AdamSRefIdeal.main (F := Ideal))) ⟨m, fun _ => 0, g⟩ (fun r => (∀ c : Dev Cert.AdamSRefIdeal.nD,
      r.2.mem ((c.tc : Thread Cert.AdamSRefIdeal.nD Cert.AdamSRefIdeal.τ).loc Cert.AdamSRefIdeal.main_arg0) = m ((c.tc : Thread Cert.AdamSRefIdeal.nD Cert.AdamSRefIdeal.τ).loc Cert.AdamSRefIdeal.main_arg0)
      ∧ r.2.mem ((c.tc : Thread Cert.AdamSRefIdeal.nD Cert.AdamSRefIdeal.τ).loc Cert.AdamSRefIdeal.main_arg1) = m ((c.tc : Thread Cert.AdamSRefIdeal.nD Cert.AdamSRefIdeal.τ).loc Cert.AdamSRefIdeal.main_arg1)
      ∧ r.2.mem ((c.tc : Thread Cert.AdamSRefIdeal.nD Cert.AdamSRefIdeal.τ).loc Cert.AdamSRefIdeal.main_arg2) = m ((c.tc : Thread Cert.AdamSRefIdeal.nD Cert.AdamSRefIdeal.τ).loc Cert.AdamSRefIdeal.main_arg2)
      ∧ r.2.mem ((c.tc : Thread Cert.AdamSRefIdeal.nD Cert.AdamSRefIdeal.τ).loc Cert.AdamSRefIdeal.main_arg3) = m ((c.tc : Thread Cert.AdamSRefIdeal.nD Cert.AdamSRefIdeal.τ).loc Cert.AdamSRefIdeal.main_arg3))
      ∧ r.2.sem = fun _ => 0)

def quiescent_SumS [hSumS : Cert.SumS.Facts] : Prop :=
  ∀ (m : (ℓ : Loc Cert.SumS.nD Cert.SumS.τ Cert.SumS.sig) → Buf (Elt Bits) ℓ) (g : Dev Cert.SumS.nD → PrngReg), Pre_SumS m →
    θ_run (Cert.SumS.defs (F := Bits)) (onTc (τ := Cert.SumS.τ) (Cert.SumS.main (F := Bits))) ⟨m, fun _ => 0, g⟩ (fun r => (∀ c : Dev Cert.SumS.nD,
      r.2.mem ((c.tc : Thread Cert.SumS.nD Cert.SumS.τ).loc Cert.SumS.main_arg0) = m ((c.tc : Thread Cert.SumS.nD Cert.SumS.τ).loc Cert.SumS.main_arg0))
      ∧ r.2.sem = fun _ => 0)

def quiescent_SumSIdeal [hSumSIdeal : Cert.SumSIdeal.Facts] : Prop :=
  ∀ (m : (ℓ : Loc Cert.SumSIdeal.nD Cert.SumSIdeal.τ Cert.SumSIdeal.sig) → Buf (Elt Ideal) ℓ) (g : Dev Cert.SumSIdeal.nD → PrngReg), Pre_SumSIdeal m →
    θ_run (Cert.SumSIdeal.defs (F := Ideal)) (onTc (τ := Cert.SumSIdeal.τ) (Cert.SumSIdeal.main (F := Ideal))) ⟨m, fun _ => 0, g⟩ (fun r => (∀ c : Dev Cert.SumSIdeal.nD,
      r.2.mem ((c.tc : Thread Cert.SumSIdeal.nD Cert.SumSIdeal.τ).loc Cert.SumSIdeal.main_arg0) = m ((c.tc : Thread Cert.SumSIdeal.nD Cert.SumSIdeal.τ).loc Cert.SumSIdeal.main_arg0))
      ∧ r.2.sem = fun _ => 0)

def quiescent_SumSRefIdeal [hSumSRefIdeal : Cert.SumSRefIdeal.Facts] : Prop :=
  ∀ (m : (ℓ : Loc Cert.SumSRefIdeal.nD Cert.SumSRefIdeal.τ Cert.SumSRefIdeal.sig) → Buf (Elt Ideal) ℓ) (g : Dev Cert.SumSRefIdeal.nD → PrngReg), Pre_SumSRefIdeal m →
    θ_run (Cert.SumSRefIdeal.defs (F := Ideal)) (onTc (τ := Cert.SumSRefIdeal.τ) (Cert.SumSRefIdeal.main (F := Ideal))) ⟨m, fun _ => 0, g⟩ (fun r => (∀ c : Dev Cert.SumSRefIdeal.nD,
      r.2.mem ((c.tc : Thread Cert.SumSRefIdeal.nD Cert.SumSRefIdeal.τ).loc Cert.SumSRefIdeal.main_arg0) = m ((c.tc : Thread Cert.SumSRefIdeal.nD Cert.SumSRefIdeal.τ).loc Cert.SumSRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)) →
    ∃ (v0 : (c : Dev Cert.UpXIdeal.nD) → Buf (Elt Ideal) ((c.tc : Thread Cert.UpXIdeal.nD Cert.UpXIdeal.τ).loc Cert.UpXIdeal.main_v2)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v2) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v3) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)
      ∧ m' ((c.tc : Thread Cert.UpWRefIdeal.nD Cert.UpWRefIdeal.τ).loc Cert.UpWRefIdeal.main_arg3) = m ((c.tc : Thread Cert.UpWIdeal.nD Cert.UpWIdeal.τ).loc Cert.UpWIdeal.main_arg3)) →
    ∃ (v0 : (c : Dev Cert.UpWIdeal.nD) → Buf (Elt Ideal) ((c.tc : Thread Cert.UpWIdeal.nD Cert.UpWIdeal.τ).loc Cert.UpWIdeal.main_v2)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v2) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2)
          ∧ r.2.mem ((c.tc : Thread Cert.UpWIdeal.nD Cert.UpWIdeal.τ).loc Cert.UpWIdeal.main_arg3) = m ((c.tc : Thread Cert.UpWIdeal.nD Cert.UpWIdeal.τ).loc Cert.UpWIdeal.main_arg3))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v7) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2)
          ∧ r.2.mem ((c.tc : Thread Cert.UpWRefIdeal.nD Cert.UpWRefIdeal.τ).loc Cert.UpWRefIdeal.main_arg3) = m' ((c.tc : Thread Cert.UpWRefIdeal.nD Cert.UpWRefIdeal.τ).loc Cert.UpWRefIdeal.main_arg3))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)
      ∧ m' ((c.tc : Thread Cert.DownXRefIdeal.nD Cert.DownXRefIdeal.τ).loc Cert.DownXRefIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v2)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v2) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v3) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1)
          ∧ r.2.mem ((c.tc : Thread Cert.DownXRefIdeal.nD Cert.DownXRefIdeal.τ).loc Cert.DownXRefIdeal.main_arg2) = m' ((c.tc : Thread Cert.DownXRefIdeal.nD Cert.DownXRefIdeal.τ).loc Cert.DownXRefIdeal.main_arg2))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)
      ∧ m' ((c.tc : Thread Cert.ProjXRefIdeal.nD Cert.ProjXRefIdeal.τ).loc Cert.ProjXRefIdeal.main_arg2) = m ((c.tc : Thread Cert.ProjXIdeal.nD Cert.ProjXIdeal.τ).loc Cert.ProjXIdeal.main_arg2)) →
    ∃ (v0 : (c : Dev Cert.ProjXIdeal.nD) → Buf (Elt Ideal) ((c.tc : Thread Cert.ProjXIdeal.nD Cert.ProjXIdeal.τ).loc Cert.ProjXIdeal.main_v2)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v2) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
          ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v3) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1)
          ∧ r.2.mem ((c.tc : Thread Cert.ProjXRefIdeal.nD Cert.ProjXRefIdeal.τ).loc Cert.ProjXRefIdeal.main_arg2) = m' ((c.tc : Thread Cert.ProjXRefIdeal.nD Cert.ProjXRefIdeal.τ).loc Cert.ProjXRefIdeal.main_arg2))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)
      ∧ m' ((c.tc : Thread Cert.ProjWRefIdeal.nD Cert.ProjWRefIdeal.τ).loc Cert.ProjWRefIdeal.main_arg2) = m ((c.tc : Thread Cert.ProjWIdeal.nD Cert.ProjWIdeal.τ).loc Cert.ProjWIdeal.main_arg2)) →
    ∃ (v0 : (c : Dev Cert.ProjWIdeal.nD) → Buf (Elt Ideal) ((c.tc : Thread Cert.ProjWIdeal.nD Cert.ProjWIdeal.τ).loc Cert.ProjWIdeal.main_v2)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v2) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1)
          ∧ r.2.mem ((c.tc : Thread Cert.ProjWIdeal.nD Cert.ProjWIdeal.τ).loc Cert.ProjWIdeal.main_arg2) = m ((c.tc : Thread Cert.ProjWIdeal.nD Cert.ProjWIdeal.τ).loc Cert.ProjWIdeal.main_arg2))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v4) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1)
          ∧ r.2.mem ((c.tc : Thread Cert.ProjWRefIdeal.nD Cert.ProjWRefIdeal.τ).loc Cert.ProjWRefIdeal.main_arg2) = m' ((c.tc : Thread Cert.ProjWRefIdeal.nD Cert.ProjWRefIdeal.τ).loc Cert.ProjWRefIdeal.main_arg2))

def preserves_UpY_UpYIdeal : Prop :=
  True

def algebraic_UpYIdeal_UpYRefIdeal [hUpYIdeal : Cert.UpYIdeal.Facts] [hUpYRefIdeal : Cert.UpYRefIdeal.Facts] : Prop :=
  ∀ (m : (ℓ : Loc Cert.UpYIdeal.nD Cert.UpYIdeal.τ Cert.UpYIdeal.sig) → Buf (Elt Ideal) ℓ) (g : Dev Cert.UpYIdeal.nD → PrngReg)
    (m' : (ℓ : Loc Cert.UpYRefIdeal.nD Cert.UpYRefIdeal.τ Cert.UpYRefIdeal.sig) → Buf (Elt Ideal) ℓ) (g' : Dev Cert.UpYRefIdeal.nD → PrngReg), Pre_UpYIdeal m →
    (∀ c : Dev Cert.UpYIdeal.nD,
      m' ((c.tc : Thread Cert.UpYRefIdeal.nD Cert.UpYRefIdeal.τ).loc Cert.UpYRefIdeal.main_arg0) = m ((c.tc : Thread Cert.UpYIdeal.nD Cert.UpYIdeal.τ).loc Cert.UpYIdeal.main_arg0)
      ∧ m' ((c.tc : Thread Cert.UpYRefIdeal.nD Cert.UpYRefIdeal.τ).loc Cert.UpYRefIdeal.main_arg1) = m ((c.tc : Thread Cert.UpYIdeal.nD Cert.UpYIdeal.τ).loc Cert.UpYIdeal.main_arg1)) →
    ∃ (v0 : (c : Dev Cert.UpYIdeal.nD) → Buf (Elt Ideal) ((c.tc : Thread Cert.UpYIdeal.nD Cert.UpYIdeal.τ).loc Cert.UpYIdeal.main_v2)),
      θ_run (Cert.UpYIdeal.defs (F := Ideal)) (onTc (τ := Cert.UpYIdeal.τ) (Cert.UpYIdeal.main (F := Ideal))) ⟨m, fun _ => 0, g⟩ (fun r => ∀ c : Dev Cert.UpYIdeal.nD,
          r.2.mem ((c.tc : Thread Cert.UpYIdeal.nD Cert.UpYIdeal.τ).loc Cert.UpYIdeal.main_v2) = v0 c
          ∧ r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
          ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ θ_run (Cert.UpYRefIdeal.defs (F := Ideal)) (onTc (τ := Cert.UpYRefIdeal.τ) (Cert.UpYRefIdeal.main (F := Ideal))) ⟨m', fun _ => 0, g'⟩ (fun r => ∀ c : Dev Cert.UpYRefIdeal.nD,
          r.2.mem ((c.tc : Thread Cert.UpYRefIdeal.nD Cert.UpYRefIdeal.τ).loc Cert.UpYRefIdeal.main_v0) = v0 c
          ∧ r.2.mem ((c.tc : Thread Cert.UpYRefIdeal.nD Cert.UpYRefIdeal.τ).loc Cert.UpYRefIdeal.main_arg0) = m' ((c.tc : Thread Cert.UpYRefIdeal.nD Cert.UpYRefIdeal.τ).loc Cert.UpYRefIdeal.main_arg0)
          ∧ r.2.mem ((c.tc : Thread Cert.UpYRefIdeal.nD Cert.UpYRefIdeal.τ).loc Cert.UpYRefIdeal.main_arg1) = m' ((c.tc : Thread Cert.UpYRefIdeal.nD Cert.UpYRefIdeal.τ).loc Cert.UpYRefIdeal.main_arg1))

def preserves_DownY_DownYIdeal : Prop :=
  True

def algebraic_DownYIdeal_DownYRefIdeal [hDownYIdeal : Cert.DownYIdeal.Facts] [hDownYRefIdeal : Cert.DownYRefIdeal.Facts] : Prop :=
  ∀ (m : (ℓ : Loc Cert.DownYIdeal.nD Cert.DownYIdeal.τ Cert.DownYIdeal.sig) → Buf (Elt Ideal) ℓ) (g : Dev Cert.DownYIdeal.nD → PrngReg)
    (m' : (ℓ : Loc Cert.DownYRefIdeal.nD Cert.DownYRefIdeal.τ Cert.DownYRefIdeal.sig) → Buf (Elt Ideal) ℓ) (g' : Dev Cert.DownYRefIdeal.nD → PrngReg), Pre_DownYIdeal m →
    (∀ c : Dev Cert.DownYIdeal.nD,
      m' ((c.tc : Thread Cert.DownYRefIdeal.nD Cert.DownYRefIdeal.τ).loc Cert.DownYRefIdeal.main_arg0) = m ((c.tc : Thread Cert.DownYIdeal.nD Cert.DownYIdeal.τ).loc Cert.DownYIdeal.main_arg0)
      ∧ m' ((c.tc : Thread Cert.DownYRefIdeal.nD Cert.DownYRefIdeal.τ).loc Cert.DownYRefIdeal.main_arg1) = m ((c.tc : Thread Cert.DownYIdeal.nD Cert.DownYIdeal.τ).loc Cert.DownYIdeal.main_arg1)
      ∧ m' ((c.tc : Thread Cert.DownYRefIdeal.nD Cert.DownYRefIdeal.τ).loc Cert.DownYRefIdeal.main_arg2) = m ((c.tc : Thread Cert.DownYIdeal.nD Cert.DownYIdeal.τ).loc Cert.DownYIdeal.main_arg2)) →
    ∃ (v0 : (c : Dev Cert.DownYIdeal.nD) → Buf (Elt Ideal) ((c.tc : Thread Cert.DownYIdeal.nD Cert.DownYIdeal.τ).loc Cert.DownYIdeal.main_v2)),
      θ_run (Cert.DownYIdeal.defs (F := Ideal)) (onTc (τ := Cert.DownYIdeal.τ) (Cert.DownYIdeal.main (F := Ideal))) ⟨m, fun _ => 0, g⟩ (fun r => ∀ c : Dev Cert.DownYIdeal.nD,
          r.2.mem ((c.tc : Thread Cert.DownYIdeal.nD Cert.DownYIdeal.τ).loc Cert.DownYIdeal.main_v2) = v0 c
          ∧ r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
          ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
          ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2))
      ∧ θ_run (Cert.DownYRefIdeal.defs (F := Ideal)) (onTc (τ := Cert.DownYRefIdeal.τ) (Cert.DownYRefIdeal.main (F := Ideal))) ⟨m', fun _ => 0, g'⟩ (fun r => ∀ c : Dev Cert.DownYRefIdeal.nD,
          r.2.mem ((c.tc : Thread Cert.DownYRefIdeal.nD Cert.DownYRefIdeal.τ).loc Cert.DownYRefIdeal.main_v1) = v0 c
          ∧ r.2.mem ((c.tc : Thread Cert.DownYRefIdeal.nD Cert.DownYRefIdeal.τ).loc Cert.DownYRefIdeal.main_arg0) = m' ((c.tc : Thread Cert.DownYRefIdeal.nD Cert.DownYRefIdeal.τ).loc Cert.DownYRefIdeal.main_arg0)
          ∧ r.2.mem ((c.tc : Thread Cert.DownYRefIdeal.nD Cert.DownYRefIdeal.τ).loc Cert.DownYRefIdeal.main_arg1) = m' ((c.tc : Thread Cert.DownYRefIdeal.nD Cert.DownYRefIdeal.τ).loc Cert.DownYRefIdeal.main_arg1)
          ∧ r.2.mem ((c.tc : Thread Cert.DownYRefIdeal.nD Cert.DownYRefIdeal.τ).loc Cert.DownYRefIdeal.main_arg2) = m' ((c.tc : Thread Cert.DownYRefIdeal.nD Cert.DownYRefIdeal.τ).loc Cert.DownYRefIdeal.main_arg2))

def preserves_ProjY_ProjYIdeal : Prop :=
  True

def algebraic_ProjYIdeal_ProjYRefIdeal [hProjYIdeal : Cert.ProjYIdeal.Facts] [hProjYRefIdeal : Cert.ProjYRefIdeal.Facts] : Prop :=
  ∀ (m : (ℓ : Loc Cert.ProjYIdeal.nD Cert.ProjYIdeal.τ Cert.ProjYIdeal.sig) → Buf (Elt Ideal) ℓ) (g : Dev Cert.ProjYIdeal.nD → PrngReg)
    (m' : (ℓ : Loc Cert.ProjYRefIdeal.nD Cert.ProjYRefIdeal.τ Cert.ProjYRefIdeal.sig) → Buf (Elt Ideal) ℓ) (g' : Dev Cert.ProjYRefIdeal.nD → PrngReg), Pre_ProjYIdeal m →
    (∀ c : Dev Cert.ProjYIdeal.nD,
      m' ((c.tc : Thread Cert.ProjYRefIdeal.nD Cert.ProjYRefIdeal.τ).loc Cert.ProjYRefIdeal.main_arg0) = m ((c.tc : Thread Cert.ProjYIdeal.nD Cert.ProjYIdeal.τ).loc Cert.ProjYIdeal.main_arg0)
      ∧ m' ((c.tc : Thread Cert.ProjYRefIdeal.nD Cert.ProjYRefIdeal.τ).loc Cert.ProjYRefIdeal.main_arg1) = m ((c.tc : Thread Cert.ProjYIdeal.nD Cert.ProjYIdeal.τ).loc Cert.ProjYIdeal.main_arg1)) →
    ∃ (v0 : (c : Dev Cert.ProjYIdeal.nD) → Buf (Elt Ideal) ((c.tc : Thread Cert.ProjYIdeal.nD Cert.ProjYIdeal.τ).loc Cert.ProjYIdeal.main_v2)),
      θ_run (Cert.ProjYIdeal.defs (F := Ideal)) (onTc (τ := Cert.ProjYIdeal.τ) (Cert.ProjYIdeal.main (F := Ideal))) ⟨m, fun _ => 0, g⟩ (fun r => ∀ c : Dev Cert.ProjYIdeal.nD,
          r.2.mem ((c.tc : Thread Cert.ProjYIdeal.nD Cert.ProjYIdeal.τ).loc Cert.ProjYIdeal.main_v2) = v0 c
          ∧ r.2.mem ((c.tc : Thread Cert.ProjYIdeal.nD Cert.ProjYIdeal.τ).loc Cert.ProjYIdeal.main_arg0) = m ((c.tc : Thread Cert.ProjYIdeal.nD Cert.ProjYIdeal.τ).loc Cert.ProjYIdeal.main_arg0)
          ∧ r.2.mem ((c.tc : Thread Cert.ProjYIdeal.nD Cert.ProjYIdeal.τ).loc Cert.ProjYIdeal.main_arg1) = m ((c.tc : Thread Cert.ProjYIdeal.nD Cert.ProjYIdeal.τ).loc Cert.ProjYIdeal.main_arg1))
      ∧ θ_run (Cert.ProjYRefIdeal.defs (F := Ideal)) (onTc (τ := Cert.ProjYRefIdeal.τ) (Cert.ProjYRefIdeal.main (F := Ideal))) ⟨m', fun _ => 0, g'⟩ (fun r => ∀ c : Dev Cert.ProjYRefIdeal.nD,
          r.2.mem ((c.tc : Thread Cert.ProjYRefIdeal.nD Cert.ProjYRefIdeal.τ).loc Cert.ProjYRefIdeal.main_v0) = v0 c
          ∧ r.2.mem ((c.tc : Thread Cert.ProjYRefIdeal.nD Cert.ProjYRefIdeal.τ).loc Cert.ProjYRefIdeal.main_arg0) = m' ((c.tc : Thread Cert.ProjYRefIdeal.nD Cert.ProjYRefIdeal.τ).loc Cert.ProjYRefIdeal.main_arg0)
          ∧ r.2.mem ((c.tc : Thread Cert.ProjYRefIdeal.nD Cert.ProjYRefIdeal.τ).loc Cert.ProjYRefIdeal.main_arg1) = m' ((c.tc : Thread Cert.ProjYRefIdeal.nD Cert.ProjYRefIdeal.τ).loc Cert.ProjYRefIdeal.main_arg1))

def preserves_OutY_OutYIdeal : Prop :=
  True

def algebraic_OutYIdeal_OutYRefIdeal [hOutYIdeal : Cert.OutYIdeal.Facts] [hOutYRefIdeal : Cert.OutYRefIdeal.Facts] : Prop :=
  ∀ (m : (ℓ : Loc Cert.OutYIdeal.nD Cert.OutYIdeal.τ Cert.OutYIdeal.sig) → Buf (Elt Ideal) ℓ) (g : Dev Cert.OutYIdeal.nD → PrngReg)
    (m' : (ℓ : Loc Cert.OutYRefIdeal.nD Cert.OutYRefIdeal.τ Cert.OutYRefIdeal.sig) → Buf (Elt Ideal) ℓ) (g' : Dev Cert.OutYRefIdeal.nD → PrngReg), Pre_OutYIdeal m →
    (∀ c : Dev Cert.OutYIdeal.nD,
      m' ((c.tc : Thread Cert.OutYRefIdeal.nD Cert.OutYRefIdeal.τ).loc Cert.OutYRefIdeal.main_arg0) = m ((c.tc : Thread Cert.OutYIdeal.nD Cert.OutYIdeal.τ).loc Cert.OutYIdeal.main_arg0)
      ∧ m' ((c.tc : Thread Cert.OutYRefIdeal.nD Cert.OutYRefIdeal.τ).loc Cert.OutYRefIdeal.main_arg1) = m ((c.tc : Thread Cert.OutYIdeal.nD Cert.OutYIdeal.τ).loc Cert.OutYIdeal.main_arg1)
      ∧ m' ((c.tc : Thread Cert.OutYRefIdeal.nD Cert.OutYRefIdeal.τ).loc Cert.OutYRefIdeal.main_arg2) = m ((c.tc : Thread Cert.OutYIdeal.nD Cert.OutYIdeal.τ).loc Cert.OutYIdeal.main_arg2)) →
    ∃ (v0 : (c : Dev Cert.OutYIdeal.nD) → Buf (Elt Ideal) ((c.tc : Thread Cert.OutYIdeal.nD Cert.OutYIdeal.τ).loc Cert.OutYIdeal.main_v2)),
      θ_run (Cert.OutYIdeal.defs (F := Ideal)) (onTc (τ := Cert.OutYIdeal.τ) (Cert.OutYIdeal.main (F := Ideal))) ⟨m, fun _ => 0, g⟩ (fun r => ∀ c : Dev Cert.OutYIdeal.nD,
          r.2.mem ((c.tc : Thread Cert.OutYIdeal.nD Cert.OutYIdeal.τ).loc Cert.OutYIdeal.main_v2) = v0 c
          ∧ r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
          ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1)
          ∧ r.2.mem ((c.tc : Thread Cert.OutYIdeal.nD Cert.OutYIdeal.τ).loc Cert.OutYIdeal.main_arg2) = m ((c.tc : Thread Cert.OutYIdeal.nD Cert.OutYIdeal.τ).loc Cert.OutYIdeal.main_arg2))
      ∧ θ_run (Cert.OutYRefIdeal.defs (F := Ideal)) (onTc (τ := Cert.OutYRefIdeal.τ) (Cert.OutYRefIdeal.main (F := Ideal))) ⟨m', fun _ => 0, g'⟩ (fun r => ∀ c : Dev Cert.OutYRefIdeal.nD,
          r.2.mem ((c.tc : Thread Cert.OutYRefIdeal.nD Cert.OutYRefIdeal.τ).loc Cert.OutYRefIdeal.main_v1) = v0 c
          ∧ r.2.mem ((c.tc : Thread Cert.OutYRefIdeal.nD Cert.OutYRefIdeal.τ).loc Cert.OutYRefIdeal.main_arg0) = m' ((c.tc : Thread Cert.OutYRefIdeal.nD Cert.OutYRefIdeal.τ).loc Cert.OutYRefIdeal.main_arg0)
          ∧ r.2.mem ((c.tc : Thread Cert.OutYRefIdeal.nD Cert.OutYRefIdeal.τ).loc Cert.OutYRefIdeal.main_arg1) = m' ((c.tc : Thread Cert.OutYRefIdeal.nD Cert.OutYRefIdeal.τ).loc Cert.OutYRefIdeal.main_arg1)
          ∧ r.2.mem ((c.tc : Thread Cert.OutYRefIdeal.nD Cert.OutYRefIdeal.τ).loc Cert.OutYRefIdeal.main_arg2) = m' ((c.tc : Thread Cert.OutYRefIdeal.nD Cert.OutYRefIdeal.τ).loc Cert.OutYRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)) →
    ∃ (v0 : (c : Dev Cert.OutXIdeal.nD) → Buf (Elt Ideal) ((c.tc : Thread Cert.OutXIdeal.nD Cert.OutXIdeal.τ).loc Cert.OutXIdeal.main_v2)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v2) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v3) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)
      ∧ m' ((c.tc : Thread Cert.OutWRefIdeal.nD Cert.OutWRefIdeal.τ).loc Cert.OutWRefIdeal.main_arg3) = m ((c.tc : Thread Cert.OutWIdeal.nD Cert.OutWIdeal.τ).loc Cert.OutWIdeal.main_arg3)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
          ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v7) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2)
          ∧ r.2.mem ((c.tc : Thread Cert.OutWRefIdeal.nD Cert.OutWRefIdeal.τ).loc Cert.OutWRefIdeal.main_arg3) = m' ((c.tc : Thread Cert.OutWRefIdeal.nD Cert.OutWRefIdeal.τ).loc Cert.OutWRefIdeal.main_arg3))

def preserves_GluY_GluYIdeal : Prop :=
  True

def algebraic_GluYIdeal_GluYRefIdeal [hGluYIdeal : Cert.GluYIdeal.Facts] [hGluYRefIdeal : Cert.GluYRefIdeal.Facts] : Prop :=
  ∀ (m : (ℓ : Loc Cert.GluYIdeal.nD Cert.GluYIdeal.τ Cert.GluYIdeal.sig) → Buf (Elt Ideal) ℓ) (g : Dev Cert.GluYIdeal.nD → PrngReg)
    (m' : (ℓ : Loc Cert.GluYRefIdeal.nD Cert.GluYRefIdeal.τ Cert.GluYRefIdeal.sig) → Buf (Elt Ideal) ℓ) (g' : Dev Cert.GluYRefIdeal.nD → PrngReg), Pre_GluYIdeal m →
    (∀ c : Dev Cert.GluYIdeal.nD,
      m' ((c.tc : Thread Cert.GluYRefIdeal.nD Cert.GluYRefIdeal.τ).loc Cert.GluYRefIdeal.main_arg0) = m ((c.tc : Thread Cert.GluYIdeal.nD Cert.GluYIdeal.τ).loc Cert.GluYIdeal.main_arg0)
      ∧ m' ((c.tc : Thread Cert.GluYRefIdeal.nD Cert.GluYRefIdeal.τ).loc Cert.GluYRefIdeal.main_arg1) = m ((c.tc : Thread Cert.GluYIdeal.nD Cert.GluYIdeal.τ).loc Cert.GluYIdeal.main_arg1)) →
    ∃ (v0 : (c : Dev Cert.GluYIdeal.nD) → Buf (Elt Ideal) ((c.tc : Thread Cert.GluYIdeal.nD Cert.GluYIdeal.τ).loc Cert.GluYIdeal.main_v2)),
      θ_run (Cert.GluYIdeal.defs (F := Ideal)) (onTc (τ := Cert.GluYIdeal.τ) (Cert.GluYIdeal.main (F := Ideal))) ⟨m, fun _ => 0, g⟩ (fun r => ∀ c : Dev Cert.GluYIdeal.nD,
          r.2.mem ((c.tc : Thread Cert.GluYIdeal.nD Cert.GluYIdeal.τ).loc Cert.GluYIdeal.main_v2) = v0 c
          ∧ r.2.mem ((c.tc : Thread Cert.GluYIdeal.nD Cert.GluYIdeal.τ).loc Cert.GluYIdeal.main_arg0) = m ((c.tc : Thread Cert.GluYIdeal.nD Cert.GluYIdeal.τ).loc Cert.GluYIdeal.main_arg0)
          ∧ r.2.mem ((c.tc : Thread Cert.GluYIdeal.nD Cert.GluYIdeal.τ).loc Cert.GluYIdeal.main_arg1) = m ((c.tc : Thread Cert.GluYIdeal.nD Cert.GluYIdeal.τ).loc Cert.GluYIdeal.main_arg1))
      ∧ θ_run (Cert.GluYRefIdeal.defs (F := Ideal)) (onTc (τ := Cert.GluYRefIdeal.τ) (Cert.GluYRefIdeal.main (F := Ideal))) ⟨m', fun _ => 0, g'⟩ (fun r => ∀ c : Dev Cert.GluYRefIdeal.nD,
          r.2.mem ((c.tc : Thread Cert.GluYRefIdeal.nD Cert.GluYRefIdeal.τ).loc Cert.GluYRefIdeal.main_v0) = v0 c
          ∧ r.2.mem ((c.tc : Thread Cert.GluYRefIdeal.nD Cert.GluYRefIdeal.τ).loc Cert.GluYRefIdeal.main_arg0) = m' ((c.tc : Thread Cert.GluYRefIdeal.nD Cert.GluYRefIdeal.τ).loc Cert.GluYRefIdeal.main_arg0)
          ∧ r.2.mem ((c.tc : Thread Cert.GluYRefIdeal.nD Cert.GluYRefIdeal.τ).loc Cert.GluYRefIdeal.main_arg1) = m' ((c.tc : Thread Cert.GluYRefIdeal.nD Cert.GluYRefIdeal.τ).loc Cert.GluYRefIdeal.main_arg1))

def preserves_GluX_GluXIdeal : Prop :=
  True

def algebraic_GluXIdeal_GluXRefIdeal [hGluXIdeal : Cert.GluXIdeal.Facts] [hGluXRefIdeal : Cert.GluXRefIdeal.Facts] : Prop :=
  ∀ (m : (ℓ : Loc Cert.GluXIdeal.nD Cert.GluXIdeal.τ Cert.GluXIdeal.sig) → Buf (Elt Ideal) ℓ) (g : Dev Cert.GluXIdeal.nD → PrngReg)
    (m' : (ℓ : Loc Cert.GluXRefIdeal.nD Cert.GluXRefIdeal.τ Cert.GluXRefIdeal.sig) → Buf (Elt Ideal) ℓ) (g' : Dev Cert.GluXRefIdeal.nD → PrngReg), Pre_GluXIdeal m →
    (∀ c : Dev Cert.GluXIdeal.nD,
      m' ((c.tc : Thread Cert.GluXRefIdeal.nD Cert.GluXRefIdeal.τ).loc Cert.GluXRefIdeal.main_arg0) = m ((c.tc : Thread Cert.GluXIdeal.nD Cert.GluXIdeal.τ).loc Cert.GluXIdeal.main_arg0)
      ∧ m' ((c.tc : Thread Cert.GluXRefIdeal.nD Cert.GluXRefIdeal.τ).loc Cert.GluXRefIdeal.main_arg1) = m ((c.tc : Thread Cert.GluXIdeal.nD Cert.GluXIdeal.τ).loc Cert.GluXIdeal.main_arg1)
      ∧ m' ((c.tc : Thread Cert.GluXRefIdeal.nD Cert.GluXRefIdeal.τ).loc Cert.GluXRefIdeal.main_arg2) = m ((c.tc : Thread Cert.GluXIdeal.nD Cert.GluXIdeal.τ).loc Cert.GluXIdeal.main_arg2)) →
    ∃ (v0 : (c : Dev Cert.GluXIdeal.nD) → Buf (Elt Ideal) ((c.tc : Thread Cert.GluXIdeal.nD Cert.GluXIdeal.τ).loc Cert.GluXIdeal.main_v2)),
      θ_run (Cert.GluXIdeal.defs (F := Ideal)) (onTc (τ := Cert.GluXIdeal.τ) (Cert.GluXIdeal.main (F := Ideal))) ⟨m, fun _ => 0, g⟩ (fun r => ∀ c : Dev Cert.GluXIdeal.nD,
          r.2.mem ((c.tc : Thread Cert.GluXIdeal.nD Cert.GluXIdeal.τ).loc Cert.GluXIdeal.main_v2) = v0 c
          ∧ r.2.mem ((c.tc : Thread Cert.GluXIdeal.nD Cert.GluXIdeal.τ).loc Cert.GluXIdeal.main_arg0) = m ((c.tc : Thread Cert.GluXIdeal.nD Cert.GluXIdeal.τ).loc Cert.GluXIdeal.main_arg0)
          ∧ r.2.mem ((c.tc : Thread Cert.GluXIdeal.nD Cert.GluXIdeal.τ).loc Cert.GluXIdeal.main_arg1) = m ((c.tc : Thread Cert.GluXIdeal.nD Cert.GluXIdeal.τ).loc Cert.GluXIdeal.main_arg1)
          ∧ r.2.mem ((c.tc : Thread Cert.GluXIdeal.nD Cert.GluXIdeal.τ).loc Cert.GluXIdeal.main_arg2) = m ((c.tc : Thread Cert.GluXIdeal.nD Cert.GluXIdeal.τ).loc Cert.GluXIdeal.main_arg2))
      ∧ θ_run (Cert.GluXRefIdeal.defs (F := Ideal)) (onTc (τ := Cert.GluXRefIdeal.τ) (Cert.GluXRefIdeal.main (F := Ideal))) ⟨m', fun _ => 0, g'⟩ (fun r => ∀ c : Dev Cert.GluXRefIdeal.nD,
          r.2.mem ((c.tc : Thread Cert.GluXRefIdeal.nD Cert.GluXRefIdeal.τ).loc Cert.GluXRefIdeal.main_v3) = v0 c
          ∧ r.2.mem ((c.tc : Thread Cert.GluXRefIdeal.nD Cert.GluXRefIdeal.τ).loc Cert.GluXRefIdeal.main_arg0) = m' ((c.tc : Thread Cert.GluXRefIdeal.nD Cert.GluXRefIdeal.τ).loc Cert.GluXRefIdeal.main_arg0)
          ∧ r.2.mem ((c.tc : Thread Cert.GluXRefIdeal.nD Cert.GluXRefIdeal.τ).loc Cert.GluXRefIdeal.main_arg1) = m' ((c.tc : Thread Cert.GluXRefIdeal.nD Cert.GluXRefIdeal.τ).loc Cert.GluXRefIdeal.main_arg1)
          ∧ r.2.mem ((c.tc : Thread Cert.GluXRefIdeal.nD Cert.GluXRefIdeal.τ).loc Cert.GluXRefIdeal.main_arg2) = m' ((c.tc : Thread Cert.GluXRefIdeal.nD Cert.GluXRefIdeal.τ).loc Cert.GluXRefIdeal.main_arg2))

def preserves_GluW_GluWIdeal : Prop :=
  True

def algebraic_GluWIdeal_GluWRefIdeal [hGluWIdeal : Cert.GluWIdeal.Facts] [hGluWRefIdeal : Cert.GluWRefIdeal.Facts] : Prop :=
  ∀ (m : (ℓ : Loc Cert.GluWIdeal.nD Cert.GluWIdeal.τ Cert.GluWIdeal.sig) → Buf (Elt Ideal) ℓ) (g : Dev Cert.GluWIdeal.nD → PrngReg)
    (m' : (ℓ : Loc Cert.GluWRefIdeal.nD Cert.GluWRefIdeal.τ Cert.GluWRefIdeal.sig) → Buf (Elt Ideal) ℓ) (g' : Dev Cert.GluWRefIdeal.nD → PrngReg), Pre_GluWIdeal m →
    (∀ c : Dev Cert.GluWIdeal.nD,
      m' ((c.tc : Thread Cert.GluWRefIdeal.nD Cert.GluWRefIdeal.τ).loc Cert.GluWRefIdeal.main_arg0) = m ((c.tc : Thread Cert.GluWIdeal.nD Cert.GluWIdeal.τ).loc Cert.GluWIdeal.main_arg0)
      ∧ m' ((c.tc : Thread Cert.GluWRefIdeal.nD Cert.GluWRefIdeal.τ).loc Cert.GluWRefIdeal.main_arg1) = m ((c.tc : Thread Cert.GluWIdeal.nD Cert.GluWIdeal.τ).loc Cert.GluWIdeal.main_arg1)
      ∧ m' ((c.tc : Thread Cert.GluWRefIdeal.nD Cert.GluWRefIdeal.τ).loc Cert.GluWRefIdeal.main_arg2) = m ((c.tc : Thread Cert.GluWIdeal.nD Cert.GluWIdeal.τ).loc Cert.GluWIdeal.main_arg2)
      ∧ m' ((c.tc : Thread Cert.GluWRefIdeal.nD Cert.GluWRefIdeal.τ).loc Cert.GluWRefIdeal.main_arg3) = m ((c.tc : Thread Cert.GluWIdeal.nD Cert.GluWIdeal.τ).loc Cert.GluWIdeal.main_arg3)) →
    ∃ (v0 : (c : Dev Cert.GluWIdeal.nD) → Buf (Elt Ideal) ((c.tc : Thread Cert.GluWIdeal.nD Cert.GluWIdeal.τ).loc Cert.GluWIdeal.main_v2)),
      θ_run (Cert.GluWIdeal.defs (F := Ideal)) (onTc (τ := Cert.GluWIdeal.τ) (Cert.GluWIdeal.main (F := Ideal))) ⟨m, fun _ => 0, g⟩ (fun r => ∀ c : Dev Cert.GluWIdeal.nD,
          r.2.mem ((c.tc : Thread Cert.GluWIdeal.nD Cert.GluWIdeal.τ).loc Cert.GluWIdeal.main_v2) = v0 c
          ∧ r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
          ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
          ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2)
          ∧ r.2.mem ((c.tc : Thread Cert.GluWIdeal.nD Cert.GluWIdeal.τ).loc Cert.GluWIdeal.main_arg3) = m ((c.tc : Thread Cert.GluWIdeal.nD Cert.GluWIdeal.τ).loc Cert.GluWIdeal.main_arg3))
      ∧ θ_run (Cert.GluWRefIdeal.defs (F := Ideal)) (onTc (τ := Cert.GluWRefIdeal.τ) (Cert.GluWRefIdeal.main (F := Ideal))) ⟨m', fun _ => 0, g'⟩ (fun r => ∀ c : Dev Cert.GluWRefIdeal.nD,
          r.2.mem ((c.tc : Thread Cert.GluWRefIdeal.nD Cert.GluWRefIdeal.τ).loc Cert.GluWRefIdeal.main_v7) = v0 c
          ∧ r.2.mem ((c.tc : Thread Cert.GluWRefIdeal.nD Cert.GluWRefIdeal.τ).loc Cert.GluWRefIdeal.main_arg0) = m' ((c.tc : Thread Cert.GluWRefIdeal.nD Cert.GluWRefIdeal.τ).loc Cert.GluWRefIdeal.main_arg0)
          ∧ r.2.mem ((c.tc : Thread Cert.GluWRefIdeal.nD Cert.GluWRefIdeal.τ).loc Cert.GluWRefIdeal.main_arg1) = m' ((c.tc : Thread Cert.GluWRefIdeal.nD Cert.GluWRefIdeal.τ).loc Cert.GluWRefIdeal.main_arg1)
          ∧ r.2.mem ((c.tc : Thread Cert.GluWRefIdeal.nD Cert.GluWRefIdeal.τ).loc Cert.GluWRefIdeal.main_arg2) = m' ((c.tc : Thread Cert.GluWRefIdeal.nD Cert.GluWRefIdeal.τ).loc Cert.GluWRefIdeal.main_arg2)
          ∧ r.2.mem ((c.tc : Thread Cert.GluWRefIdeal.nD Cert.GluWRefIdeal.τ).loc Cert.GluWRefIdeal.main_arg3) = m' ((c.tc : Thread Cert.GluWRefIdeal.nD Cert.GluWRefIdeal.τ).loc Cert.GluWRefIdeal.main_arg3))

def preserves_DnY_DnYIdeal : Prop :=
  True

def algebraic_DnYIdeal_DnYRefIdeal [hDnYIdeal : Cert.DnYIdeal.Facts] [hDnYRefIdeal : Cert.DnYRefIdeal.Facts] : Prop :=
  ∀ (m : (ℓ : Loc Cert.DnYIdeal.nD Cert.DnYIdeal.τ Cert.DnYIdeal.sig) → Buf (Elt Ideal) ℓ) (g : Dev Cert.DnYIdeal.nD → PrngReg)
    (m' : (ℓ : Loc Cert.DnYRefIdeal.nD Cert.DnYRefIdeal.τ Cert.DnYRefIdeal.sig) → Buf (Elt Ideal) ℓ) (g' : Dev Cert.DnYRefIdeal.nD → PrngReg), Pre_DnYIdeal m →
    (∀ c : Dev Cert.DnYIdeal.nD,
      m' ((c.tc : Thread Cert.DnYRefIdeal.nD Cert.DnYRefIdeal.τ).loc Cert.DnYRefIdeal.main_arg0) = m ((c.tc : Thread Cert.DnYIdeal.nD Cert.DnYIdeal.τ).loc Cert.DnYIdeal.main_arg0)
      ∧ m' ((c.tc : Thread Cert.DnYRefIdeal.nD Cert.DnYRefIdeal.τ).loc Cert.DnYRefIdeal.main_arg1) = m ((c.tc : Thread Cert.DnYIdeal.nD Cert.DnYIdeal.τ).loc Cert.DnYIdeal.main_arg1)) →
    ∃ (v0 : (c : Dev Cert.DnYIdeal.nD) → Buf (Elt Ideal) ((c.tc : Thread Cert.DnYIdeal.nD Cert.DnYIdeal.τ).loc Cert.DnYIdeal.main_v2)),
      θ_run (Cert.DnYIdeal.defs (F := Ideal)) (onTc (τ := Cert.DnYIdeal.τ) (Cert.DnYIdeal.main (F := Ideal))) ⟨m, fun _ => 0, g⟩ (fun r => ∀ c : Dev Cert.DnYIdeal.nD,
          r.2.mem ((c.tc : Thread Cert.DnYIdeal.nD Cert.DnYIdeal.τ).loc Cert.DnYIdeal.main_v2) = v0 c
          ∧ r.2.mem ((c.tc : Thread Cert.DnYIdeal.nD Cert.DnYIdeal.τ).loc Cert.DnYIdeal.main_arg0) = m ((c.tc : Thread Cert.DnYIdeal.nD Cert.DnYIdeal.τ).loc Cert.DnYIdeal.main_arg0)
          ∧ r.2.mem ((c.tc : Thread Cert.DnYIdeal.nD Cert.DnYIdeal.τ).loc Cert.DnYIdeal.main_arg1) = m ((c.tc : Thread Cert.DnYIdeal.nD Cert.DnYIdeal.τ).loc Cert.DnYIdeal.main_arg1))
      ∧ θ_run (Cert.DnYRefIdeal.defs (F := Ideal)) (onTc (τ := Cert.DnYRefIdeal.τ) (Cert.DnYRefIdeal.main (F := Ideal))) ⟨m', fun _ => 0, g'⟩ (fun r => ∀ c : Dev Cert.DnYRefIdeal.nD,
          r.2.mem ((c.tc : Thread Cert.DnYRefIdeal.nD Cert.DnYRefIdeal.τ).loc Cert.DnYRefIdeal.main_v0) = v0 c
          ∧ r.2.mem ((c.tc : Thread Cert.DnYRefIdeal.nD Cert.DnYRefIdeal.τ).loc Cert.DnYRefIdeal.main_arg0) = m' ((c.tc : Thread Cert.DnYRefIdeal.nD Cert.DnYRefIdeal.τ).loc Cert.DnYRefIdeal.main_arg0)
          ∧ r.2.mem ((c.tc : Thread Cert.DnYRefIdeal.nD Cert.DnYRefIdeal.τ).loc Cert.DnYRefIdeal.main_arg1) = m' ((c.tc : Thread Cert.DnYRefIdeal.nD Cert.DnYRefIdeal.τ).loc Cert.DnYRefIdeal.main_arg1))

def preserves_DnX_DnXIdeal : Prop :=
  True

def algebraic_DnXIdeal_DnXRefIdeal [hDnXIdeal : Cert.DnXIdeal.Facts] [hDnXRefIdeal : Cert.DnXRefIdeal.Facts] : Prop :=
  ∀ (m : (ℓ : Loc Cert.DnXIdeal.nD Cert.DnXIdeal.τ Cert.DnXIdeal.sig) → Buf (Elt Ideal) ℓ) (g : Dev Cert.DnXIdeal.nD → PrngReg)
    (m' : (ℓ : Loc Cert.DnXRefIdeal.nD Cert.DnXRefIdeal.τ Cert.DnXRefIdeal.sig) → Buf (Elt Ideal) ℓ) (g' : Dev Cert.DnXRefIdeal.nD → PrngReg), Pre_DnXIdeal m →
    (∀ c : Dev Cert.DnXIdeal.nD,
      m' ((c.tc : Thread Cert.DnXRefIdeal.nD Cert.DnXRefIdeal.τ).loc Cert.DnXRefIdeal.main_arg0) = m ((c.tc : Thread Cert.DnXIdeal.nD Cert.DnXIdeal.τ).loc Cert.DnXIdeal.main_arg0)
      ∧ m' ((c.tc : Thread Cert.DnXRefIdeal.nD Cert.DnXRefIdeal.τ).loc Cert.DnXRefIdeal.main_arg1) = m ((c.tc : Thread Cert.DnXIdeal.nD Cert.DnXIdeal.τ).loc Cert.DnXIdeal.main_arg1)
      ∧ m' ((c.tc : Thread Cert.DnXRefIdeal.nD Cert.DnXRefIdeal.τ).loc Cert.DnXRefIdeal.main_arg2) = m ((c.tc : Thread Cert.DnXIdeal.nD Cert.DnXIdeal.τ).loc Cert.DnXIdeal.main_arg2)) →
    ∃ (v0 : (c : Dev Cert.DnXIdeal.nD) → Buf (Elt Ideal) ((c.tc : Thread Cert.DnXIdeal.nD Cert.DnXIdeal.τ).loc Cert.DnXIdeal.main_v2)),
      θ_run (Cert.DnXIdeal.defs (F := Ideal)) (onTc (τ := Cert.DnXIdeal.τ) (Cert.DnXIdeal.main (F := Ideal))) ⟨m, fun _ => 0, g⟩ (fun r => ∀ c : Dev Cert.DnXIdeal.nD,
          r.2.mem ((c.tc : Thread Cert.DnXIdeal.nD Cert.DnXIdeal.τ).loc Cert.DnXIdeal.main_v2) = v0 c
          ∧ r.2.mem ((c.tc : Thread Cert.DnXIdeal.nD Cert.DnXIdeal.τ).loc Cert.DnXIdeal.main_arg0) = m ((c.tc : Thread Cert.DnXIdeal.nD Cert.DnXIdeal.τ).loc Cert.DnXIdeal.main_arg0)
          ∧ r.2.mem ((c.tc : Thread Cert.DnXIdeal.nD Cert.DnXIdeal.τ).loc Cert.DnXIdeal.main_arg1) = m ((c.tc : Thread Cert.DnXIdeal.nD Cert.DnXIdeal.τ).loc Cert.DnXIdeal.main_arg1)
          ∧ r.2.mem ((c.tc : Thread Cert.DnXIdeal.nD Cert.DnXIdeal.τ).loc Cert.DnXIdeal.main_arg2) = m ((c.tc : Thread Cert.DnXIdeal.nD Cert.DnXIdeal.τ).loc Cert.DnXIdeal.main_arg2))
      ∧ θ_run (Cert.DnXRefIdeal.defs (F := Ideal)) (onTc (τ := Cert.DnXRefIdeal.τ) (Cert.DnXRefIdeal.main (F := Ideal))) ⟨m', fun _ => 0, g'⟩ (fun r => ∀ c : Dev Cert.DnXRefIdeal.nD,
          r.2.mem ((c.tc : Thread Cert.DnXRefIdeal.nD Cert.DnXRefIdeal.τ).loc Cert.DnXRefIdeal.main_v3) = v0 c
          ∧ r.2.mem ((c.tc : Thread Cert.DnXRefIdeal.nD Cert.DnXRefIdeal.τ).loc Cert.DnXRefIdeal.main_arg0) = m' ((c.tc : Thread Cert.DnXRefIdeal.nD Cert.DnXRefIdeal.τ).loc Cert.DnXRefIdeal.main_arg0)
          ∧ r.2.mem ((c.tc : Thread Cert.DnXRefIdeal.nD Cert.DnXRefIdeal.τ).loc Cert.DnXRefIdeal.main_arg1) = m' ((c.tc : Thread Cert.DnXRefIdeal.nD Cert.DnXRefIdeal.τ).loc Cert.DnXRefIdeal.main_arg1)
          ∧ r.2.mem ((c.tc : Thread Cert.DnXRefIdeal.nD Cert.DnXRefIdeal.τ).loc Cert.DnXRefIdeal.main_arg2) = m' ((c.tc : Thread Cert.DnXRefIdeal.nD Cert.DnXRefIdeal.τ).loc Cert.DnXRefIdeal.main_arg2))

def preserves_DnW_DnWIdeal : Prop :=
  True

def algebraic_DnWIdeal_DnWRefIdeal [hDnWIdeal : Cert.DnWIdeal.Facts] [hDnWRefIdeal : Cert.DnWRefIdeal.Facts] : Prop :=
  ∀ (m : (ℓ : Loc Cert.DnWIdeal.nD Cert.DnWIdeal.τ Cert.DnWIdeal.sig) → Buf (Elt Ideal) ℓ) (g : Dev Cert.DnWIdeal.nD → PrngReg)
    (m' : (ℓ : Loc Cert.DnWRefIdeal.nD Cert.DnWRefIdeal.τ Cert.DnWRefIdeal.sig) → Buf (Elt Ideal) ℓ) (g' : Dev Cert.DnWRefIdeal.nD → PrngReg), Pre_DnWIdeal m →
    (∀ c : Dev Cert.DnWIdeal.nD,
      m' ((c.tc : Thread Cert.DnWRefIdeal.nD Cert.DnWRefIdeal.τ).loc Cert.DnWRefIdeal.main_arg0) = m ((c.tc : Thread Cert.DnWIdeal.nD Cert.DnWIdeal.τ).loc Cert.DnWIdeal.main_arg0)
      ∧ m' ((c.tc : Thread Cert.DnWRefIdeal.nD Cert.DnWRefIdeal.τ).loc Cert.DnWRefIdeal.main_arg1) = m ((c.tc : Thread Cert.DnWIdeal.nD Cert.DnWIdeal.τ).loc Cert.DnWIdeal.main_arg1)
      ∧ m' ((c.tc : Thread Cert.DnWRefIdeal.nD Cert.DnWRefIdeal.τ).loc Cert.DnWRefIdeal.main_arg2) = m ((c.tc : Thread Cert.DnWIdeal.nD Cert.DnWIdeal.τ).loc Cert.DnWIdeal.main_arg2)
      ∧ m' ((c.tc : Thread Cert.DnWRefIdeal.nD Cert.DnWRefIdeal.τ).loc Cert.DnWRefIdeal.main_arg3) = m ((c.tc : Thread Cert.DnWIdeal.nD Cert.DnWIdeal.τ).loc Cert.DnWIdeal.main_arg3)) →
    ∃ (v0 : (c : Dev Cert.DnWIdeal.nD) → Buf (Elt Ideal) ((c.tc : Thread Cert.DnWIdeal.nD Cert.DnWIdeal.τ).loc Cert.DnWIdeal.main_v2)),
      θ_run (Cert.DnWIdeal.defs (F := Ideal)) (onTc (τ := Cert.DnWIdeal.τ) (Cert.DnWIdeal.main (F := Ideal))) ⟨m, fun _ => 0, g⟩ (fun r => ∀ c : Dev Cert.DnWIdeal.nD,
          r.2.mem ((c.tc : Thread Cert.DnWIdeal.nD Cert.DnWIdeal.τ).loc Cert.DnWIdeal.main_v2) = v0 c
          ∧ r.2.mem ((c.tc : Thread Cert.DnWIdeal.nD Cert.DnWIdeal.τ).loc Cert.DnWIdeal.main_arg0) = m ((c.tc : Thread Cert.DnWIdeal.nD Cert.DnWIdeal.τ).loc Cert.DnWIdeal.main_arg0)
          ∧ r.2.mem ((c.tc : Thread Cert.DnWIdeal.nD Cert.DnWIdeal.τ).loc Cert.DnWIdeal.main_arg1) = m ((c.tc : Thread Cert.DnWIdeal.nD Cert.DnWIdeal.τ).loc Cert.DnWIdeal.main_arg1)
          ∧ r.2.mem ((c.tc : Thread Cert.DnWIdeal.nD Cert.DnWIdeal.τ).loc Cert.DnWIdeal.main_arg2) = m ((c.tc : Thread Cert.DnWIdeal.nD Cert.DnWIdeal.τ).loc Cert.DnWIdeal.main_arg2)
          ∧ r.2.mem ((c.tc : Thread Cert.DnWIdeal.nD Cert.DnWIdeal.τ).loc Cert.DnWIdeal.main_arg3) = m ((c.tc : Thread Cert.DnWIdeal.nD Cert.DnWIdeal.τ).loc Cert.DnWIdeal.main_arg3))
      ∧ θ_run (Cert.DnWRefIdeal.defs (F := Ideal)) (onTc (τ := Cert.DnWRefIdeal.τ) (Cert.DnWRefIdeal.main (F := Ideal))) ⟨m', fun _ => 0, g'⟩ (fun r => ∀ c : Dev Cert.DnWRefIdeal.nD,
          r.2.mem ((c.tc : Thread Cert.DnWRefIdeal.nD Cert.DnWRefIdeal.τ).loc Cert.DnWRefIdeal.main_v7) = v0 c
          ∧ r.2.mem ((c.tc : Thread Cert.DnWRefIdeal.nD Cert.DnWRefIdeal.τ).loc Cert.DnWRefIdeal.main_arg0) = m' ((c.tc : Thread Cert.DnWRefIdeal.nD Cert.DnWRefIdeal.τ).loc Cert.DnWRefIdeal.main_arg0)
          ∧ r.2.mem ((c.tc : Thread Cert.DnWRefIdeal.nD Cert.DnWRefIdeal.τ).loc Cert.DnWRefIdeal.main_arg1) = m' ((c.tc : Thread Cert.DnWRefIdeal.nD Cert.DnWRefIdeal.τ).loc Cert.DnWRefIdeal.main_arg1)
          ∧ r.2.mem ((c.tc : Thread Cert.DnWRefIdeal.nD Cert.DnWRefIdeal.τ).loc Cert.DnWRefIdeal.main_arg2) = m' ((c.tc : Thread Cert.DnWRefIdeal.nD Cert.DnWRefIdeal.τ).loc Cert.DnWRefIdeal.main_arg2)
          ∧ r.2.mem ((c.tc : Thread Cert.DnWRefIdeal.nD Cert.DnWRefIdeal.τ).loc Cert.DnWRefIdeal.main_arg3) = m' ((c.tc : Thread Cert.DnWRefIdeal.nD Cert.DnWRefIdeal.τ).loc Cert.DnWRefIdeal.main_arg3))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v1_0)) (v1 : (c : Dev Cert.NormBIdeal.nD) → Buf (Elt Ideal) ((c.tc : Thread Cert.NormBIdeal.nD Cert.NormBIdeal.τ).loc Cert.NormBIdeal.main_v1_1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v1_0) = v0 c
          ∧ r.2.mem ((c.tc : Thread Cert.NormBIdeal.nD Cert.NormBIdeal.τ).loc Cert.NormBIdeal.main_v1_1) = v1 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v36) = v0 c
          ∧ r.2.mem ((c.tc : Thread Cert.NormBRefIdeal.nD Cert.NormBRefIdeal.τ).loc Cert.NormBRefIdeal.main_v37) = v1 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)) (v3 : (c : Dev Cert.MergeBIdeal.nD) → Buf (Elt Ideal) ((c.tc : Thread Cert.MergeBIdeal.nD Cert.MergeBIdeal.τ).loc Cert.MergeBIdeal.main_v0_3)) (v4 : (c : Dev Cert.MergeBIdeal.nD) → Buf (Elt Ideal) ((c.tc : Thread Cert.MergeBIdeal.nD Cert.MergeBIdeal.τ).loc Cert.MergeBIdeal.main_v0_4)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_v0_3) = v3 c
          ∧ r.2.mem ((c.tc : Thread Cert.MergeBIdeal.nD Cert.MergeBIdeal.τ).loc Cert.MergeBIdeal.main_v0_4) = v4 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v46) = v0 c
          ∧ r.2.mem ((c.tc : Thread Cert.MergeBRefIdeal.nD Cert.MergeBRefIdeal.τ).loc Cert.MergeBRefIdeal.main_v47) = v1 c
          ∧ r.2.mem ((c.tc : Thread Cert.MergeBRefIdeal.nD Cert.MergeBRefIdeal.τ).loc Cert.MergeBRefIdeal.main_v48) = v2 c
          ∧ r.2.mem ((c.tc : Thread Cert.MergeBRefIdeal.nD Cert.MergeBRefIdeal.τ).loc Cert.MergeBRefIdeal.main_v49) = v3 c
          ∧ r.2.mem ((c.tc : Thread Cert.MergeBRefIdeal.nD Cert.MergeBRefIdeal.τ).loc Cert.MergeBRefIdeal.main_v50) = v4 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3))

def preserves_PostB_PostBIdeal : Prop :=
  True

def algebraic_PostBIdeal_PostBRefIdeal [hPostBIdeal : Cert.PostBIdeal.Facts] [hPostBRefIdeal : Cert.PostBRefIdeal.Facts] : Prop :=
  ∀ (m : (ℓ : Loc Cert.PostBIdeal.nD Cert.PostBIdeal.τ Cert.PostBIdeal.sig) → Buf (Elt Ideal) ℓ) (g : Dev Cert.PostBIdeal.nD → PrngReg)
    (m' : (ℓ : Loc Cert.PostBRefIdeal.nD Cert.PostBRefIdeal.τ Cert.PostBRefIdeal.sig) → Buf (Elt Ideal) ℓ) (g' : Dev Cert.PostBRefIdeal.nD → PrngReg), Pre_PostBIdeal m →
    (∀ c : Dev Cert.PostBIdeal.nD,
      m' ((c.tc : Thread Cert.PostBRefIdeal.nD Cert.PostBRefIdeal.τ).loc Cert.PostBRefIdeal.main_arg0) = m ((c.tc : Thread Cert.PostBIdeal.nD Cert.PostBIdeal.τ).loc Cert.PostBIdeal.main_arg0)
      ∧ m' ((c.tc : Thread Cert.PostBRefIdeal.nD Cert.PostBRefIdeal.τ).loc Cert.PostBRefIdeal.main_arg1) = m ((c.tc : Thread Cert.PostBIdeal.nD Cert.PostBIdeal.τ).loc Cert.PostBIdeal.main_arg1)
      ∧ m' ((c.tc : Thread Cert.PostBRefIdeal.nD Cert.PostBRefIdeal.τ).loc Cert.PostBRefIdeal.main_arg2) = m ((c.tc : Thread Cert.PostBIdeal.nD Cert.PostBIdeal.τ).loc Cert.PostBIdeal.main_arg2)
      ∧ m' ((c.tc : Thread Cert.PostBRefIdeal.nD Cert.PostBRefIdeal.τ).loc Cert.PostBRefIdeal.main_arg3) = m ((c.tc : Thread Cert.PostBIdeal.nD Cert.PostBIdeal.τ).loc Cert.PostBIdeal.main_arg3)) →
    ∃ (v0 : (c : Dev Cert.PostBIdeal.nD) → Buf (Elt Ideal) ((c.tc : Thread Cert.PostBIdeal.nD Cert.PostBIdeal.τ).loc Cert.PostBIdeal.main_v1_0)) (v1 : (c : Dev Cert.PostBIdeal.nD) → Buf (Elt Ideal) ((c.tc : Thread Cert.PostBIdeal.nD Cert.PostBIdeal.τ).loc Cert.PostBIdeal.main_v1_1)) (v2 : (c : Dev Cert.PostBIdeal.nD) → Buf (Elt Ideal) ((c.tc : Thread Cert.PostBIdeal.nD Cert.PostBIdeal.τ).loc Cert.PostBIdeal.main_v1_2)),
      θ_run (Cert.PostBIdeal.defs (F := Ideal)) (onTc (τ := Cert.PostBIdeal.τ) (Cert.PostBIdeal.main (F := Ideal))) ⟨m, fun _ => 0, g⟩ (fun r => ∀ c : Dev Cert.PostBIdeal.nD,
          r.2.mem ((c.tc : Thread Cert.PostBIdeal.nD Cert.PostBIdeal.τ).loc Cert.PostBIdeal.main_v1_0) = v0 c
          ∧ r.2.mem ((c.tc : Thread Cert.PostBIdeal.nD Cert.PostBIdeal.τ).loc Cert.PostBIdeal.main_v1_1) = v1 c
          ∧ r.2.mem ((c.tc : Thread Cert.PostBIdeal.nD Cert.PostBIdeal.τ).loc Cert.PostBIdeal.main_v1_2) = v2 c
          ∧ r.2.mem ((c.tc : Thread Cert.PostBIdeal.nD Cert.PostBIdeal.τ).loc Cert.PostBIdeal.main_arg0) = m ((c.tc : Thread Cert.PostBIdeal.nD Cert.PostBIdeal.τ).loc Cert.PostBIdeal.main_arg0)
          ∧ r.2.mem ((c.tc : Thread Cert.PostBIdeal.nD Cert.PostBIdeal.τ).loc Cert.PostBIdeal.main_arg1) = m ((c.tc : Thread Cert.PostBIdeal.nD Cert.PostBIdeal.τ).loc Cert.PostBIdeal.main_arg1)
          ∧ r.2.mem ((c.tc : Thread Cert.PostBIdeal.nD Cert.PostBIdeal.τ).loc Cert.PostBIdeal.main_arg2) = m ((c.tc : Thread Cert.PostBIdeal.nD Cert.PostBIdeal.τ).loc Cert.PostBIdeal.main_arg2)
          ∧ r.2.mem ((c.tc : Thread Cert.PostBIdeal.nD Cert.PostBIdeal.τ).loc Cert.PostBIdeal.main_arg3) = m ((c.tc : Thread Cert.PostBIdeal.nD Cert.PostBIdeal.τ).loc Cert.PostBIdeal.main_arg3))
      ∧ θ_run (Cert.PostBRefIdeal.defs (F := Ideal)) (onTc (τ := Cert.PostBRefIdeal.τ) (Cert.PostBRefIdeal.main (F := Ideal))) ⟨m', fun _ => 0, g'⟩ (fun r => ∀ c : Dev Cert.PostBRefIdeal.nD,
          r.2.mem ((c.tc : Thread Cert.PostBRefIdeal.nD Cert.PostBRefIdeal.τ).loc Cert.PostBRefIdeal.main_v45) = v0 c
          ∧ r.2.mem ((c.tc : Thread Cert.PostBRefIdeal.nD Cert.PostBRefIdeal.τ).loc Cert.PostBRefIdeal.main_v47) = v1 c
          ∧ r.2.mem ((c.tc : Thread Cert.PostBRefIdeal.nD Cert.PostBRefIdeal.τ).loc Cert.PostBRefIdeal.main_v48) = v2 c
          ∧ r.2.mem ((c.tc : Thread Cert.PostBRefIdeal.nD Cert.PostBRefIdeal.τ).loc Cert.PostBRefIdeal.main_arg0) = m' ((c.tc : Thread Cert.PostBRefIdeal.nD Cert.PostBRefIdeal.τ).loc Cert.PostBRefIdeal.main_arg0)
          ∧ r.2.mem ((c.tc : Thread Cert.PostBRefIdeal.nD Cert.PostBRefIdeal.τ).loc Cert.PostBRefIdeal.main_arg1) = m' ((c.tc : Thread Cert.PostBRefIdeal.nD Cert.PostBRefIdeal.τ).loc Cert.PostBRefIdeal.main_arg1)
          ∧ r.2.mem ((c.tc : Thread Cert.PostBRefIdeal.nD Cert.PostBRefIdeal.τ).loc Cert.PostBRefIdeal.main_arg2) = m' ((c.tc : Thread Cert.PostBRefIdeal.nD Cert.PostBRefIdeal.τ).loc Cert.PostBRefIdeal.main_arg2)
          ∧ r.2.mem ((c.tc : Thread Cert.PostBRefIdeal.nD Cert.PostBRefIdeal.τ).loc Cert.PostBRefIdeal.main_arg3) = m' ((c.tc : Thread Cert.PostBRefIdeal.nD Cert.PostBRefIdeal.τ).loc Cert.PostBRefIdeal.main_arg3))

def preserves_PreB_PreBIdeal : Prop :=
  True

def algebraic_PreBIdeal_PreBRefIdeal [hPreBIdeal : Cert.PreBIdeal.Facts] [hPreBRefIdeal : Cert.PreBRefIdeal.Facts] : Prop :=
  ∀ (m : (ℓ : Loc Cert.PreBIdeal.nD Cert.PreBIdeal.τ Cert.PreBIdeal.sig) → Buf (Elt Ideal) ℓ) (g : Dev Cert.PreBIdeal.nD → PrngReg)
    (m' : (ℓ : Loc Cert.PreBRefIdeal.nD Cert.PreBRefIdeal.τ Cert.PreBRefIdeal.sig) → Buf (Elt Ideal) ℓ) (g' : Dev Cert.PreBRefIdeal.nD → PrngReg), Pre_PreBIdeal m →
    (∀ c : Dev Cert.PreBIdeal.nD,
      m' ((c.tc : Thread Cert.PreBRefIdeal.nD Cert.PreBRefIdeal.τ).loc Cert.PreBRefIdeal.main_arg0) = m ((c.tc : Thread Cert.PreBIdeal.nD Cert.PreBIdeal.τ).loc Cert.PreBIdeal.main_arg0)
      ∧ m' ((c.tc : Thread Cert.PreBRefIdeal.nD Cert.PreBRefIdeal.τ).loc Cert.PreBRefIdeal.main_arg1) = m ((c.tc : Thread Cert.PreBIdeal.nD Cert.PreBIdeal.τ).loc Cert.PreBIdeal.main_arg1)
      ∧ m' ((c.tc : Thread Cert.PreBRefIdeal.nD Cert.PreBRefIdeal.τ).loc Cert.PreBRefIdeal.main_arg2) = m ((c.tc : Thread Cert.PreBIdeal.nD Cert.PreBIdeal.τ).loc Cert.PreBIdeal.main_arg2)
      ∧ m' ((c.tc : Thread Cert.PreBRefIdeal.nD Cert.PreBRefIdeal.τ).loc Cert.PreBRefIdeal.main_arg3) = m ((c.tc : Thread Cert.PreBIdeal.nD Cert.PreBIdeal.τ).loc Cert.PreBIdeal.main_arg3)
      ∧ m' ((c.tc : Thread Cert.PreBRefIdeal.nD Cert.PreBRefIdeal.τ).loc Cert.PreBRefIdeal.main_arg4) = m ((c.tc : Thread Cert.PreBIdeal.nD Cert.PreBIdeal.τ).loc Cert.PreBIdeal.main_arg4)) →
    ∃ (v0 : (c : Dev Cert.PreBIdeal.nD) → Buf (Elt Ideal) ((c.tc : Thread Cert.PreBIdeal.nD Cert.PreBIdeal.τ).loc Cert.PreBIdeal.main_v0_0)) (v1 : (c : Dev Cert.PreBIdeal.nD) → Buf (Elt Ideal) ((c.tc : Thread Cert.PreBIdeal.nD Cert.PreBIdeal.τ).loc Cert.PreBIdeal.main_v0_1)),
      θ_run (Cert.PreBIdeal.defs (F := Ideal)) (onTc (τ := Cert.PreBIdeal.τ) (Cert.PreBIdeal.main (F := Ideal))) ⟨m, fun _ => 0, g⟩ (fun r => ∀ c : Dev Cert.PreBIdeal.nD,
          r.2.mem ((c.tc : Thread Cert.PreBIdeal.nD Cert.PreBIdeal.τ).loc Cert.PreBIdeal.main_v0_0) = v0 c
          ∧ r.2.mem ((c.tc : Thread Cert.PreBIdeal.nD Cert.PreBIdeal.τ).loc Cert.PreBIdeal.main_v0_1) = v1 c
          ∧ r.2.mem ((c.tc : Thread Cert.PreBIdeal.nD Cert.PreBIdeal.τ).loc Cert.PreBIdeal.main_arg0) = m ((c.tc : Thread Cert.PreBIdeal.nD Cert.PreBIdeal.τ).loc Cert.PreBIdeal.main_arg0)
          ∧ r.2.mem ((c.tc : Thread Cert.PreBIdeal.nD Cert.PreBIdeal.τ).loc Cert.PreBIdeal.main_arg1) = m ((c.tc : Thread Cert.PreBIdeal.nD Cert.PreBIdeal.τ).loc Cert.PreBIdeal.main_arg1)
          ∧ r.2.mem ((c.tc : Thread Cert.PreBIdeal.nD Cert.PreBIdeal.τ).loc Cert.PreBIdeal.main_arg2) = m ((c.tc : Thread Cert.PreBIdeal.nD Cert.PreBIdeal.τ).loc Cert.PreBIdeal.main_arg2)
          ∧ r.2.mem ((c.tc : Thread Cert.PreBIdeal.nD Cert.PreBIdeal.τ).loc Cert.PreBIdeal.main_arg3) = m ((c.tc : Thread Cert.PreBIdeal.nD Cert.PreBIdeal.τ).loc Cert.PreBIdeal.main_arg3)
          ∧ r.2.mem ((c.tc : Thread Cert.PreBIdeal.nD Cert.PreBIdeal.τ).loc Cert.PreBIdeal.main_arg4) = m ((c.tc : Thread Cert.PreBIdeal.nD Cert.PreBIdeal.τ).loc Cert.PreBIdeal.main_arg4))
      ∧ θ_run (Cert.PreBRefIdeal.defs (F := Ideal)) (onTc (τ := Cert.PreBRefIdeal.τ) (Cert.PreBRefIdeal.main (F := Ideal))) ⟨m', fun _ => 0, g'⟩ (fun r => ∀ c : Dev Cert.PreBRefIdeal.nD,
          r.2.mem ((c.tc : Thread Cert.PreBRefIdeal.nD Cert.PreBRefIdeal.τ).loc Cert.PreBRefIdeal.main_v140) = v0 c
          ∧ r.2.mem ((c.tc : Thread Cert.PreBRefIdeal.nD Cert.PreBRefIdeal.τ).loc Cert.PreBRefIdeal.main_v142) = v1 c
          ∧ r.2.mem ((c.tc : Thread Cert.PreBRefIdeal.nD Cert.PreBRefIdeal.τ).loc Cert.PreBRefIdeal.main_arg0) = m' ((c.tc : Thread Cert.PreBRefIdeal.nD Cert.PreBRefIdeal.τ).loc Cert.PreBRefIdeal.main_arg0)
          ∧ r.2.mem ((c.tc : Thread Cert.PreBRefIdeal.nD Cert.PreBRefIdeal.τ).loc Cert.PreBRefIdeal.main_arg1) = m' ((c.tc : Thread Cert.PreBRefIdeal.nD Cert.PreBRefIdeal.τ).loc Cert.PreBRefIdeal.main_arg1)
          ∧ r.2.mem ((c.tc : Thread Cert.PreBRefIdeal.nD Cert.PreBRefIdeal.τ).loc Cert.PreBRefIdeal.main_arg2) = m' ((c.tc : Thread Cert.PreBRefIdeal.nD Cert.PreBRefIdeal.τ).loc Cert.PreBRefIdeal.main_arg2)
          ∧ r.2.mem ((c.tc : Thread Cert.PreBRefIdeal.nD Cert.PreBRefIdeal.τ).loc Cert.PreBRefIdeal.main_arg3) = m' ((c.tc : Thread Cert.PreBRefIdeal.nD Cert.PreBRefIdeal.τ).loc Cert.PreBRefIdeal.main_arg3)
          ∧ r.2.mem ((c.tc : Thread Cert.PreBRefIdeal.nD Cert.PreBRefIdeal.τ).loc Cert.PreBRefIdeal.main_arg4) = m' ((c.tc : Thread Cert.PreBRefIdeal.nD Cert.PreBRefIdeal.τ).loc Cert.PreBRefIdeal.main_arg4))

def preserves_FfnY_FfnYIdeal : Prop :=
  True

def algebraic_FfnYIdeal_FfnYRefIdeal [hFfnYIdeal : Cert.FfnYIdeal.Facts] [hFfnYRefIdeal : Cert.FfnYRefIdeal.Facts] : Prop :=
  ∀ (m : (ℓ : Loc Cert.FfnYIdeal.nD Cert.FfnYIdeal.τ Cert.FfnYIdeal.sig) → Buf (Elt Ideal) ℓ) (g : Dev Cert.FfnYIdeal.nD → PrngReg)
    (m' : (ℓ : Loc Cert.FfnYRefIdeal.nD Cert.FfnYRefIdeal.τ Cert.FfnYRefIdeal.sig) → Buf (Elt Ideal) ℓ) (g' : Dev Cert.FfnYRefIdeal.nD → PrngReg), Pre_FfnYIdeal m →
    (∀ c : Dev Cert.FfnYIdeal.nD,
      m' ((c.tc : Thread Cert.FfnYRefIdeal.nD Cert.FfnYRefIdeal.τ).loc Cert.FfnYRefIdeal.main_arg0) = m ((c.tc : Thread Cert.FfnYIdeal.nD Cert.FfnYIdeal.τ).loc Cert.FfnYIdeal.main_arg0)
      ∧ m' ((c.tc : Thread Cert.FfnYRefIdeal.nD Cert.FfnYRefIdeal.τ).loc Cert.FfnYRefIdeal.main_arg1) = m ((c.tc : Thread Cert.FfnYIdeal.nD Cert.FfnYIdeal.τ).loc Cert.FfnYIdeal.main_arg1)) →
    ∃ (v0 : (c : Dev Cert.FfnYIdeal.nD) → Buf (Elt Ideal) ((c.tc : Thread Cert.FfnYIdeal.nD Cert.FfnYIdeal.τ).loc Cert.FfnYIdeal.main_v0)),
      θ_run (Cert.FfnYIdeal.defs (F := Ideal)) (onTc (τ := Cert.FfnYIdeal.τ) (Cert.FfnYIdeal.main (F := Ideal))) ⟨m, fun _ => 0, g⟩ (fun r => ∀ c : Dev Cert.FfnYIdeal.nD,
          r.2.mem ((c.tc : Thread Cert.FfnYIdeal.nD Cert.FfnYIdeal.τ).loc Cert.FfnYIdeal.main_v0) = v0 c
          ∧ r.2.mem ((c.tc : Thread Cert.FfnYIdeal.nD Cert.FfnYIdeal.τ).loc Cert.FfnYIdeal.main_arg0) = m ((c.tc : Thread Cert.FfnYIdeal.nD Cert.FfnYIdeal.τ).loc Cert.FfnYIdeal.main_arg0)
          ∧ r.2.mem ((c.tc : Thread Cert.FfnYIdeal.nD Cert.FfnYIdeal.τ).loc Cert.FfnYIdeal.main_arg1) = m ((c.tc : Thread Cert.FfnYIdeal.nD Cert.FfnYIdeal.τ).loc Cert.FfnYIdeal.main_arg1))
      ∧ θ_run (Cert.FfnYRefIdeal.defs (F := Ideal)) (onTc (τ := Cert.FfnYRefIdeal.τ) (Cert.FfnYRefIdeal.main (F := Ideal))) ⟨m', fun _ => 0, g'⟩ (fun r => ∀ c : Dev Cert.FfnYRefIdeal.nD,
          r.2.mem ((c.tc : Thread Cert.FfnYRefIdeal.nD Cert.FfnYRefIdeal.τ).loc Cert.FfnYRefIdeal.main_v28) = v0 c
          ∧ r.2.mem ((c.tc : Thread Cert.FfnYRefIdeal.nD Cert.FfnYRefIdeal.τ).loc Cert.FfnYRefIdeal.main_arg0) = m' ((c.tc : Thread Cert.FfnYRefIdeal.nD Cert.FfnYRefIdeal.τ).loc Cert.FfnYRefIdeal.main_arg0)
          ∧ r.2.mem ((c.tc : Thread Cert.FfnYRefIdeal.nD Cert.FfnYRefIdeal.τ).loc Cert.FfnYRefIdeal.main_arg1) = m' ((c.tc : Thread Cert.FfnYRefIdeal.nD Cert.FfnYRefIdeal.τ).loc Cert.FfnYRefIdeal.main_arg1))

def preserves_NormY_NormYIdeal : Prop :=
  True

def algebraic_NormYIdeal_NormYRefIdeal [hNormYIdeal : Cert.NormYIdeal.Facts] [hNormYRefIdeal : Cert.NormYRefIdeal.Facts] : Prop :=
  ∀ (m : (ℓ : Loc Cert.NormYIdeal.nD Cert.NormYIdeal.τ Cert.NormYIdeal.sig) → Buf (Elt Ideal) ℓ) (g : Dev Cert.NormYIdeal.nD → PrngReg)
    (m' : (ℓ : Loc Cert.NormYRefIdeal.nD Cert.NormYRefIdeal.τ Cert.NormYRefIdeal.sig) → Buf (Elt Ideal) ℓ) (g' : Dev Cert.NormYRefIdeal.nD → PrngReg), Pre_NormYIdeal m →
    (∀ c : Dev Cert.NormYIdeal.nD,
      m' ((c.tc : Thread Cert.NormYRefIdeal.nD Cert.NormYRefIdeal.τ).loc Cert.NormYRefIdeal.main_arg0) = m ((c.tc : Thread Cert.NormYIdeal.nD Cert.NormYIdeal.τ).loc Cert.NormYIdeal.main_arg0)
      ∧ m' ((c.tc : Thread Cert.NormYRefIdeal.nD Cert.NormYRefIdeal.τ).loc Cert.NormYRefIdeal.main_arg1) = m ((c.tc : Thread Cert.NormYIdeal.nD Cert.NormYIdeal.τ).loc Cert.NormYIdeal.main_arg1)) →
    ∃ (v0 : (c : Dev Cert.NormYIdeal.nD) → Buf (Elt Ideal) ((c.tc : Thread Cert.NormYIdeal.nD Cert.NormYIdeal.τ).loc Cert.NormYIdeal.main_v1)),
      θ_run (Cert.NormYIdeal.defs (F := Ideal)) (onTc (τ := Cert.NormYIdeal.τ) (Cert.NormYIdeal.main (F := Ideal))) ⟨m, fun _ => 0, g⟩ (fun r => ∀ c : Dev Cert.NormYIdeal.nD,
          r.2.mem ((c.tc : Thread Cert.NormYIdeal.nD Cert.NormYIdeal.τ).loc Cert.NormYIdeal.main_v1) = v0 c
          ∧ r.2.mem ((c.tc : Thread Cert.NormYIdeal.nD Cert.NormYIdeal.τ).loc Cert.NormYIdeal.main_arg0) = m ((c.tc : Thread Cert.NormYIdeal.nD Cert.NormYIdeal.τ).loc Cert.NormYIdeal.main_arg0)
          ∧ r.2.mem ((c.tc : Thread Cert.NormYIdeal.nD Cert.NormYIdeal.τ).loc Cert.NormYIdeal.main_arg1) = m ((c.tc : Thread Cert.NormYIdeal.nD Cert.NormYIdeal.τ).loc Cert.NormYIdeal.main_arg1))
      ∧ θ_run (Cert.NormYRefIdeal.defs (F := Ideal)) (onTc (τ := Cert.NormYRefIdeal.τ) (Cert.NormYRefIdeal.main (F := Ideal))) ⟨m', fun _ => 0, g'⟩ (fun r => ∀ c : Dev Cert.NormYRefIdeal.nD,
          r.2.mem ((c.tc : Thread Cert.NormYRefIdeal.nD Cert.NormYRefIdeal.τ).loc Cert.NormYRefIdeal.main_v13) = v0 c
          ∧ r.2.mem ((c.tc : Thread Cert.NormYRefIdeal.nD Cert.NormYRefIdeal.τ).loc Cert.NormYRefIdeal.main_arg0) = m' ((c.tc : Thread Cert.NormYRefIdeal.nD Cert.NormYRefIdeal.τ).loc Cert.NormYRefIdeal.main_arg0)
          ∧ r.2.mem ((c.tc : Thread Cert.NormYRefIdeal.nD Cert.NormYRefIdeal.τ).loc Cert.NormYRefIdeal.main_arg1) = m' ((c.tc : Thread Cert.NormYRefIdeal.nD Cert.NormYRefIdeal.τ).loc Cert.NormYRefIdeal.main_arg1))

def preserves_MergeY_MergeYIdeal : Prop :=
  True

def algebraic_MergeYIdeal_MergeYRefIdeal [hMergeYIdeal : Cert.MergeYIdeal.Facts] [hMergeYRefIdeal : Cert.MergeYRefIdeal.Facts] : Prop :=
  ∀ (m : (ℓ : Loc Cert.MergeYIdeal.nD Cert.MergeYIdeal.τ Cert.MergeYIdeal.sig) → Buf (Elt Ideal) ℓ) (g : Dev Cert.MergeYIdeal.nD → PrngReg)
    (m' : (ℓ : Loc Cert.MergeYRefIdeal.nD Cert.MergeYRefIdeal.τ Cert.MergeYRefIdeal.sig) → Buf (Elt Ideal) ℓ) (g' : Dev Cert.MergeYRefIdeal.nD → PrngReg), Pre_MergeYIdeal m →
    (∀ c : Dev Cert.MergeYIdeal.nD,
      m' ((c.tc : Thread Cert.MergeYRefIdeal.nD Cert.MergeYRefIdeal.τ).loc Cert.MergeYRefIdeal.main_arg0) = m ((c.tc : Thread Cert.MergeYIdeal.nD Cert.MergeYIdeal.τ).loc Cert.MergeYIdeal.main_arg0)
      ∧ m' ((c.tc : Thread Cert.MergeYRefIdeal.nD Cert.MergeYRefIdeal.τ).loc Cert.MergeYRefIdeal.main_arg1) = m ((c.tc : Thread Cert.MergeYIdeal.nD Cert.MergeYIdeal.τ).loc Cert.MergeYIdeal.main_arg1)
      ∧ m' ((c.tc : Thread Cert.MergeYRefIdeal.nD Cert.MergeYRefIdeal.τ).loc Cert.MergeYRefIdeal.main_arg2) = m ((c.tc : Thread Cert.MergeYIdeal.nD Cert.MergeYIdeal.τ).loc Cert.MergeYIdeal.main_arg2)) →
    ∃ (v0 : (c : Dev Cert.MergeYIdeal.nD) → Buf (Elt Ideal) ((c.tc : Thread Cert.MergeYIdeal.nD Cert.MergeYIdeal.τ).loc Cert.MergeYIdeal.main_v0)),
      θ_run (Cert.MergeYIdeal.defs (F := Ideal)) (onTc (τ := Cert.MergeYIdeal.τ) (Cert.MergeYIdeal.main (F := Ideal))) ⟨m, fun _ => 0, g⟩ (fun r => ∀ c : Dev Cert.MergeYIdeal.nD,
          r.2.mem ((c.tc : Thread Cert.MergeYIdeal.nD Cert.MergeYIdeal.τ).loc Cert.MergeYIdeal.main_v0) = v0 c
          ∧ r.2.mem ((c.tc : Thread Cert.MergeYIdeal.nD Cert.MergeYIdeal.τ).loc Cert.MergeYIdeal.main_arg0) = m ((c.tc : Thread Cert.MergeYIdeal.nD Cert.MergeYIdeal.τ).loc Cert.MergeYIdeal.main_arg0)
          ∧ r.2.mem ((c.tc : Thread Cert.MergeYIdeal.nD Cert.MergeYIdeal.τ).loc Cert.MergeYIdeal.main_arg1) = m ((c.tc : Thread Cert.MergeYIdeal.nD Cert.MergeYIdeal.τ).loc Cert.MergeYIdeal.main_arg1)
          ∧ r.2.mem ((c.tc : Thread Cert.MergeYIdeal.nD Cert.MergeYIdeal.τ).loc Cert.MergeYIdeal.main_arg2) = m ((c.tc : Thread Cert.MergeYIdeal.nD Cert.MergeYIdeal.τ).loc Cert.MergeYIdeal.main_arg2))
      ∧ θ_run (Cert.MergeYRefIdeal.defs (F := Ideal)) (onTc (τ := Cert.MergeYRefIdeal.τ) (Cert.MergeYRefIdeal.main (F := Ideal))) ⟨m', fun _ => 0, g'⟩ (fun r => ∀ c : Dev Cert.MergeYRefIdeal.nD,
          r.2.mem ((c.tc : Thread Cert.MergeYRefIdeal.nD Cert.MergeYRefIdeal.τ).loc Cert.MergeYRefIdeal.main_v26) = v0 c
          ∧ r.2.mem ((c.tc : Thread Cert.MergeYRefIdeal.nD Cert.MergeYRefIdeal.τ).loc Cert.MergeYRefIdeal.main_arg0) = m' ((c.tc : Thread Cert.MergeYRefIdeal.nD Cert.MergeYRefIdeal.τ).loc Cert.MergeYRefIdeal.main_arg0)
          ∧ r.2.mem ((c.tc : Thread Cert.MergeYRefIdeal.nD Cert.MergeYRefIdeal.τ).loc Cert.MergeYRefIdeal.main_arg1) = m' ((c.tc : Thread Cert.MergeYRefIdeal.nD Cert.MergeYRefIdeal.τ).loc Cert.MergeYRefIdeal.main_arg1)
          ∧ r.2.mem ((c.tc : Thread Cert.MergeYRefIdeal.nD Cert.MergeYRefIdeal.τ).loc Cert.MergeYRefIdeal.main_arg2) = m' ((c.tc : Thread Cert.MergeYRefIdeal.nD Cert.MergeYRefIdeal.τ).loc Cert.MergeYRefIdeal.main_arg2))

def preserves_LossB_LossBIdeal : Prop :=
  True

def algebraic_LossBIdeal_LossBRefIdeal [hLossBIdeal : Cert.LossBIdeal.Facts] [hLossBRefIdeal : Cert.LossBRefIdeal.Facts] : Prop :=
  ∀ (m : (ℓ : Loc Cert.LossBIdeal.nD Cert.LossBIdeal.τ Cert.LossBIdeal.sig) → Buf (Elt Ideal) ℓ) (g : Dev Cert.LossBIdeal.nD → PrngReg)
    (m' : (ℓ : Loc Cert.LossBRefIdeal.nD Cert.LossBRefIdeal.τ Cert.LossBRefIdeal.sig) → Buf (Elt Ideal) ℓ) (g' : Dev Cert.LossBRefIdeal.nD → PrngReg), Pre_LossBIdeal m →
    (∀ c : Dev Cert.LossBIdeal.nD,
      m' ((c.tc : Thread Cert.LossBRefIdeal.nD Cert.LossBRefIdeal.τ).loc Cert.LossBRefIdeal.main_arg0) = m ((c.tc : Thread Cert.LossBIdeal.nD Cert.LossBIdeal.τ).loc Cert.LossBIdeal.main_arg0)
      ∧ m' ((c.tc : Thread Cert.LossBRefIdeal.nD Cert.LossBRefIdeal.τ).loc Cert.LossBRefIdeal.main_arg1) = m ((c.tc : Thread Cert.LossBIdeal.nD Cert.LossBIdeal.τ).loc Cert.LossBIdeal.main_arg1)
      ∧ m' ((c.tc : Thread Cert.LossBRefIdeal.nD Cert.LossBRefIdeal.τ).loc Cert.LossBRefIdeal.main_arg2) = m ((c.tc : Thread Cert.LossBIdeal.nD Cert.LossBIdeal.τ).loc Cert.LossBIdeal.main_arg2)) →
    ∃ (v0 : (c : Dev Cert.LossBIdeal.nD) → Buf (Elt Ideal) ((c.tc : Thread Cert.LossBIdeal.nD Cert.LossBIdeal.τ).loc Cert.LossBIdeal.main_v1_0)) (v1 : (c : Dev Cert.LossBIdeal.nD) → Buf (Elt Ideal) ((c.tc : Thread Cert.LossBIdeal.nD Cert.LossBIdeal.τ).loc Cert.LossBIdeal.main_v1_1)) (v2 : (c : Dev Cert.LossBIdeal.nD) → Buf (Elt Ideal) ((c.tc : Thread Cert.LossBIdeal.nD Cert.LossBIdeal.τ).loc Cert.LossBIdeal.main_v1_2)),
      θ_run (Cert.LossBIdeal.defs (F := Ideal)) (onTc (τ := Cert.LossBIdeal.τ) (Cert.LossBIdeal.main (F := Ideal))) ⟨m, fun _ => 0, g⟩ (fun r => ∀ c : Dev Cert.LossBIdeal.nD,
          r.2.mem ((c.tc : Thread Cert.LossBIdeal.nD Cert.LossBIdeal.τ).loc Cert.LossBIdeal.main_v1_0) = v0 c
          ∧ r.2.mem ((c.tc : Thread Cert.LossBIdeal.nD Cert.LossBIdeal.τ).loc Cert.LossBIdeal.main_v1_1) = v1 c
          ∧ r.2.mem ((c.tc : Thread Cert.LossBIdeal.nD Cert.LossBIdeal.τ).loc Cert.LossBIdeal.main_v1_2) = v2 c
          ∧ r.2.mem ((c.tc : Thread Cert.LossBIdeal.nD Cert.LossBIdeal.τ).loc Cert.LossBIdeal.main_arg0) = m ((c.tc : Thread Cert.LossBIdeal.nD Cert.LossBIdeal.τ).loc Cert.LossBIdeal.main_arg0)
          ∧ r.2.mem ((c.tc : Thread Cert.LossBIdeal.nD Cert.LossBIdeal.τ).loc Cert.LossBIdeal.main_arg1) = m ((c.tc : Thread Cert.LossBIdeal.nD Cert.LossBIdeal.τ).loc Cert.LossBIdeal.main_arg1)
          ∧ r.2.mem ((c.tc : Thread Cert.LossBIdeal.nD Cert.LossBIdeal.τ).loc Cert.LossBIdeal.main_arg2) = m ((c.tc : Thread Cert.LossBIdeal.nD Cert.LossBIdeal.τ).loc Cert.LossBIdeal.main_arg2))
      ∧ θ_run (Cert.LossBRefIdeal.defs (F := Ideal)) (onTc (τ := Cert.LossBRefIdeal.τ) (Cert.LossBRefIdeal.main (F := Ideal))) ⟨m', fun _ => 0, g'⟩ (fun r => ∀ c : Dev Cert.LossBRefIdeal.nD,
          r.2.mem ((c.tc : Thread Cert.LossBRefIdeal.nD Cert.LossBRefIdeal.τ).loc Cert.LossBRefIdeal.main_v50) = v0 c
          ∧ r.2.mem ((c.tc : Thread Cert.LossBRefIdeal.nD Cert.LossBRefIdeal.τ).loc Cert.LossBRefIdeal.main_v51) = v1 c
          ∧ r.2.mem ((c.tc : Thread Cert.LossBRefIdeal.nD Cert.LossBRefIdeal.τ).loc Cert.LossBRefIdeal.main_v52) = v2 c
          ∧ r.2.mem ((c.tc : Thread Cert.LossBRefIdeal.nD Cert.LossBRefIdeal.τ).loc Cert.LossBRefIdeal.main_arg0) = m' ((c.tc : Thread Cert.LossBRefIdeal.nD Cert.LossBRefIdeal.τ).loc Cert.LossBRefIdeal.main_arg0)
          ∧ r.2.mem ((c.tc : Thread Cert.LossBRefIdeal.nD Cert.LossBRefIdeal.τ).loc Cert.LossBRefIdeal.main_arg1) = m' ((c.tc : Thread Cert.LossBRefIdeal.nD Cert.LossBRefIdeal.τ).loc Cert.LossBRefIdeal.main_arg1)
          ∧ r.2.mem ((c.tc : Thread Cert.LossBRefIdeal.nD Cert.LossBRefIdeal.τ).loc Cert.LossBRefIdeal.main_arg2) = m' ((c.tc : Thread Cert.LossBRefIdeal.nD Cert.LossBRefIdeal.τ).loc Cert.LossBRefIdeal.main_arg2))

def preserves_PostY_PostYIdeal : Prop :=
  True

def algebraic_PostYIdeal_PostYRefIdeal [hPostYIdeal : Cert.PostYIdeal.Facts] [hPostYRefIdeal : Cert.PostYRefIdeal.Facts] : Prop :=
  ∀ (m : (ℓ : Loc Cert.PostYIdeal.nD Cert.PostYIdeal.τ Cert.PostYIdeal.sig) → Buf (Elt Ideal) ℓ) (g : Dev Cert.PostYIdeal.nD → PrngReg)
    (m' : (ℓ : Loc Cert.PostYRefIdeal.nD Cert.PostYRefIdeal.τ Cert.PostYRefIdeal.sig) → Buf (Elt Ideal) ℓ) (g' : Dev Cert.PostYRefIdeal.nD → PrngReg), Pre_PostYIdeal m →
    (∀ c : Dev Cert.PostYIdeal.nD,
      m' ((c.tc : Thread Cert.PostYRefIdeal.nD Cert.PostYRefIdeal.τ).loc Cert.PostYRefIdeal.main_arg0) = m ((c.tc : Thread Cert.PostYIdeal.nD Cert.PostYIdeal.τ).loc Cert.PostYIdeal.main_arg0)
      ∧ m' ((c.tc : Thread Cert.PostYRefIdeal.nD Cert.PostYRefIdeal.τ).loc Cert.PostYRefIdeal.main_arg1) = m ((c.tc : Thread Cert.PostYIdeal.nD Cert.PostYIdeal.τ).loc Cert.PostYIdeal.main_arg1)
      ∧ m' ((c.tc : Thread Cert.PostYRefIdeal.nD Cert.PostYRefIdeal.τ).loc Cert.PostYRefIdeal.main_arg2) = m ((c.tc : Thread Cert.PostYIdeal.nD Cert.PostYIdeal.τ).loc Cert.PostYIdeal.main_arg2)) →
    ∃ (v0 : (c : Dev Cert.PostYIdeal.nD) → Buf (Elt Ideal) ((c.tc : Thread Cert.PostYIdeal.nD Cert.PostYIdeal.τ).loc Cert.PostYIdeal.main_v1)),
      θ_run (Cert.PostYIdeal.defs (F := Ideal)) (onTc (τ := Cert.PostYIdeal.τ) (Cert.PostYIdeal.main (F := Ideal))) ⟨m, fun _ => 0, g⟩ (fun r => ∀ c : Dev Cert.PostYIdeal.nD,
          r.2.mem ((c.tc : Thread Cert.PostYIdeal.nD Cert.PostYIdeal.τ).loc Cert.PostYIdeal.main_v1) = v0 c
          ∧ r.2.mem ((c.tc : Thread Cert.PostYIdeal.nD Cert.PostYIdeal.τ).loc Cert.PostYIdeal.main_arg0) = m ((c.tc : Thread Cert.PostYIdeal.nD Cert.PostYIdeal.τ).loc Cert.PostYIdeal.main_arg0)
          ∧ r.2.mem ((c.tc : Thread Cert.PostYIdeal.nD Cert.PostYIdeal.τ).loc Cert.PostYIdeal.main_arg1) = m ((c.tc : Thread Cert.PostYIdeal.nD Cert.PostYIdeal.τ).loc Cert.PostYIdeal.main_arg1)
          ∧ r.2.mem ((c.tc : Thread Cert.PostYIdeal.nD Cert.PostYIdeal.τ).loc Cert.PostYIdeal.main_arg2) = m ((c.tc : Thread Cert.PostYIdeal.nD Cert.PostYIdeal.τ).loc Cert.PostYIdeal.main_arg2))
      ∧ θ_run (Cert.PostYRefIdeal.defs (F := Ideal)) (onTc (τ := Cert.PostYRefIdeal.τ) (Cert.PostYRefIdeal.main (F := Ideal))) ⟨m', fun _ => 0, g'⟩ (fun r => ∀ c : Dev Cert.PostYRefIdeal.nD,
          r.2.mem ((c.tc : Thread Cert.PostYRefIdeal.nD Cert.PostYRefIdeal.τ).loc Cert.PostYRefIdeal.main_v19) = v0 c
          ∧ r.2.mem ((c.tc : Thread Cert.PostYRefIdeal.nD Cert.PostYRefIdeal.τ).loc Cert.PostYRefIdeal.main_arg0) = m' ((c.tc : Thread Cert.PostYRefIdeal.nD Cert.PostYRefIdeal.τ).loc Cert.PostYRefIdeal.main_arg0)
          ∧ r.2.mem ((c.tc : Thread Cert.PostYRefIdeal.nD Cert.PostYRefIdeal.τ).loc Cert.PostYRefIdeal.main_arg1) = m' ((c.tc : Thread Cert.PostYRefIdeal.nD Cert.PostYRefIdeal.τ).loc Cert.PostYRefIdeal.main_arg1)
          ∧ r.2.mem ((c.tc : Thread Cert.PostYRefIdeal.nD Cert.PostYRefIdeal.τ).loc Cert.PostYRefIdeal.main_arg2) = m' ((c.tc : Thread Cert.PostYRefIdeal.nD Cert.PostYRefIdeal.τ).loc Cert.PostYRefIdeal.main_arg2))

def preserves_PreY_PreYIdeal : Prop :=
  True

def algebraic_PreYIdeal_PreYRefIdeal [hPreYIdeal : Cert.PreYIdeal.Facts] [hPreYRefIdeal : Cert.PreYRefIdeal.Facts] : Prop :=
  ∀ (m : (ℓ : Loc Cert.PreYIdeal.nD Cert.PreYIdeal.τ Cert.PreYIdeal.sig) → Buf (Elt Ideal) ℓ) (g : Dev Cert.PreYIdeal.nD → PrngReg)
    (m' : (ℓ : Loc Cert.PreYRefIdeal.nD Cert.PreYRefIdeal.τ Cert.PreYRefIdeal.sig) → Buf (Elt Ideal) ℓ) (g' : Dev Cert.PreYRefIdeal.nD → PrngReg), Pre_PreYIdeal m →
    (∀ c : Dev Cert.PreYIdeal.nD,
      m' ((c.tc : Thread Cert.PreYRefIdeal.nD Cert.PreYRefIdeal.τ).loc Cert.PreYRefIdeal.main_arg0) = m ((c.tc : Thread Cert.PreYIdeal.nD Cert.PreYIdeal.τ).loc Cert.PreYIdeal.main_arg0)
      ∧ m' ((c.tc : Thread Cert.PreYRefIdeal.nD Cert.PreYRefIdeal.τ).loc Cert.PreYRefIdeal.main_arg1) = m ((c.tc : Thread Cert.PreYIdeal.nD Cert.PreYIdeal.τ).loc Cert.PreYIdeal.main_arg1)) →
    ∃ (v0 : (c : Dev Cert.PreYIdeal.nD) → Buf (Elt Ideal) ((c.tc : Thread Cert.PreYIdeal.nD Cert.PreYIdeal.τ).loc Cert.PreYIdeal.main_v0)),
      θ_run (Cert.PreYIdeal.defs (F := Ideal)) (onTc (τ := Cert.PreYIdeal.τ) (Cert.PreYIdeal.main (F := Ideal))) ⟨m, fun _ => 0, g⟩ (fun r => ∀ c : Dev Cert.PreYIdeal.nD,
          r.2.mem ((c.tc : Thread Cert.PreYIdeal.nD Cert.PreYIdeal.τ).loc Cert.PreYIdeal.main_v0) = v0 c
          ∧ r.2.mem ((c.tc : Thread Cert.PreYIdeal.nD Cert.PreYIdeal.τ).loc Cert.PreYIdeal.main_arg0) = m ((c.tc : Thread Cert.PreYIdeal.nD Cert.PreYIdeal.τ).loc Cert.PreYIdeal.main_arg0)
          ∧ r.2.mem ((c.tc : Thread Cert.PreYIdeal.nD Cert.PreYIdeal.τ).loc Cert.PreYIdeal.main_arg1) = m ((c.tc : Thread Cert.PreYIdeal.nD Cert.PreYIdeal.τ).loc Cert.PreYIdeal.main_arg1))
      ∧ θ_run (Cert.PreYRefIdeal.defs (F := Ideal)) (onTc (τ := Cert.PreYRefIdeal.τ) (Cert.PreYRefIdeal.main (F := Ideal))) ⟨m', fun _ => 0, g'⟩ (fun r => ∀ c : Dev Cert.PreYRefIdeal.nD,
          r.2.mem ((c.tc : Thread Cert.PreYRefIdeal.nD Cert.PreYRefIdeal.τ).loc Cert.PreYRefIdeal.main_v58) = v0 c
          ∧ r.2.mem ((c.tc : Thread Cert.PreYRefIdeal.nD Cert.PreYRefIdeal.τ).loc Cert.PreYRefIdeal.main_arg0) = m' ((c.tc : Thread Cert.PreYRefIdeal.nD Cert.PreYRefIdeal.τ).loc Cert.PreYRefIdeal.main_arg0)
          ∧ r.2.mem ((c.tc : Thread Cert.PreYRefIdeal.nD Cert.PreYRefIdeal.τ).loc Cert.PreYRefIdeal.main_arg1) = m' ((c.tc : Thread Cert.PreYRefIdeal.nD Cert.PreYRefIdeal.τ).loc Cert.PreYRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v3_0)) (v1 : (c : Dev Cert.AdamGluIdeal.nD) → Buf (Elt Ideal) ((c.tc : Thread Cert.AdamGluIdeal.nD Cert.AdamGluIdeal.τ).loc Cert.AdamGluIdeal.main_v3_1)) (v2 : (c : Dev Cert.AdamGluIdeal.nD) → Buf (Elt Ideal) ((c.tc : Thread Cert.AdamGluIdeal.nD Cert.AdamGluIdeal.τ).loc Cert.AdamGluIdeal.main_v3_2)) (v3 : (c : Dev Cert.AdamGluIdeal.nD) → Buf (Elt Ideal) ((c.tc : Thread Cert.AdamGluIdeal.nD Cert.AdamGluIdeal.τ).loc Cert.AdamGluIdeal.main_v3_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v3_0) = v0 c
          ∧ r.2.mem ((c.tc : Thread Cert.AdamGluIdeal.nD Cert.AdamGluIdeal.τ).loc Cert.AdamGluIdeal.main_v3_1) = v1 c
          ∧ r.2.mem ((c.tc : Thread Cert.AdamGluIdeal.nD Cert.AdamGluIdeal.τ).loc Cert.AdamGluIdeal.main_v3_2) = v2 c
          ∧ r.2.mem ((c.tc : Thread Cert.AdamGluIdeal.nD Cert.AdamGluIdeal.τ).loc Cert.AdamGluIdeal.main_v3_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v28) = v1 c
          ∧ r.2.mem ((c.tc : Thread Cert.AdamGluRefIdeal.nD Cert.AdamGluRefIdeal.τ).loc Cert.AdamGluRefIdeal.main_v9) = v2 c
          ∧ r.2.mem ((c.tc : Thread Cert.AdamGluRefIdeal.nD Cert.AdamGluRefIdeal.τ).loc Cert.AdamGluRefIdeal.main_v15) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamDn_AdamDnIdeal : Prop :=
  True

def algebraic_AdamDnIdeal_AdamDnRefIdeal [hAdamDnIdeal : Cert.AdamDnIdeal.Facts] [hAdamDnRefIdeal : Cert.AdamDnRefIdeal.Facts] : Prop :=
  ∀ (m : (ℓ : Loc Cert.AdamDnIdeal.nD Cert.AdamDnIdeal.τ Cert.AdamDnIdeal.sig) → Buf (Elt Ideal) ℓ) (g : Dev Cert.AdamDnIdeal.nD → PrngReg)
    (m' : (ℓ : Loc Cert.AdamDnRefIdeal.nD Cert.AdamDnRefIdeal.τ Cert.AdamDnRefIdeal.sig) → Buf (Elt Ideal) ℓ) (g' : Dev Cert.AdamDnRefIdeal.nD → PrngReg), Pre_AdamDnIdeal m →
    (∀ c : Dev Cert.AdamDnIdeal.nD,
      m' ((c.tc : Thread Cert.AdamDnRefIdeal.nD Cert.AdamDnRefIdeal.τ).loc Cert.AdamDnRefIdeal.main_arg0) = m ((c.tc : Thread Cert.AdamDnIdeal.nD Cert.AdamDnIdeal.τ).loc Cert.AdamDnIdeal.main_arg0)
      ∧ m' ((c.tc : Thread Cert.AdamDnRefIdeal.nD Cert.AdamDnRefIdeal.τ).loc Cert.AdamDnRefIdeal.main_arg1) = m ((c.tc : Thread Cert.AdamDnIdeal.nD Cert.AdamDnIdeal.τ).loc Cert.AdamDnIdeal.main_arg1)
      ∧ m' ((c.tc : Thread Cert.AdamDnRefIdeal.nD Cert.AdamDnRefIdeal.τ).loc Cert.AdamDnRefIdeal.main_arg2) = m ((c.tc : Thread Cert.AdamDnIdeal.nD Cert.AdamDnIdeal.τ).loc Cert.AdamDnIdeal.main_arg2)
      ∧ m' ((c.tc : Thread Cert.AdamDnRefIdeal.nD Cert.AdamDnRefIdeal.τ).loc Cert.AdamDnRefIdeal.main_arg3) = m ((c.tc : Thread Cert.AdamDnIdeal.nD Cert.AdamDnIdeal.τ).loc Cert.AdamDnIdeal.main_arg3)) →
    ∃ (v0 : (c : Dev Cert.AdamDnIdeal.nD) → Buf (Elt Ideal) ((c.tc : Thread Cert.AdamDnIdeal.nD Cert.AdamDnIdeal.τ).loc Cert.AdamDnIdeal.main_v3_0)) (v1 : (c : Dev Cert.AdamDnIdeal.nD) → Buf (Elt Ideal) ((c.tc : Thread Cert.AdamDnIdeal.nD Cert.AdamDnIdeal.τ).loc Cert.AdamDnIdeal.main_v3_1)) (v2 : (c : Dev Cert.AdamDnIdeal.nD) → Buf (Elt Ideal) ((c.tc : Thread Cert.AdamDnIdeal.nD Cert.AdamDnIdeal.τ).loc Cert.AdamDnIdeal.main_v3_2)) (v3 : (c : Dev Cert.AdamDnIdeal.nD) → Buf (Elt Ideal) ((c.tc : Thread Cert.AdamDnIdeal.nD Cert.AdamDnIdeal.τ).loc Cert.AdamDnIdeal.main_v3_3)),
      θ_run (Cert.AdamDnIdeal.defs (F := Ideal)) (onTc (τ := Cert.AdamDnIdeal.τ) (Cert.AdamDnIdeal.main (F := Ideal))) ⟨m, fun _ => 0, g⟩ (fun r => ∀ c : Dev Cert.AdamDnIdeal.nD,
          r.2.mem ((c.tc : Thread Cert.AdamDnIdeal.nD Cert.AdamDnIdeal.τ).loc Cert.AdamDnIdeal.main_v3_0) = v0 c
          ∧ r.2.mem ((c.tc : Thread Cert.AdamDnIdeal.nD Cert.AdamDnIdeal.τ).loc Cert.AdamDnIdeal.main_v3_1) = v1 c
          ∧ r.2.mem ((c.tc : Thread Cert.AdamDnIdeal.nD Cert.AdamDnIdeal.τ).loc Cert.AdamDnIdeal.main_v3_2) = v2 c
          ∧ r.2.mem ((c.tc : Thread Cert.AdamDnIdeal.nD Cert.AdamDnIdeal.τ).loc Cert.AdamDnIdeal.main_v3_3) = v3 c
          ∧ r.2.mem ((c.tc : Thread Cert.AdamDnIdeal.nD Cert.AdamDnIdeal.τ).loc Cert.AdamDnIdeal.main_arg0) = m ((c.tc : Thread Cert.AdamDnIdeal.nD Cert.AdamDnIdeal.τ).loc Cert.AdamDnIdeal.main_arg0)
          ∧ r.2.mem ((c.tc : Thread Cert.AdamDnIdeal.nD Cert.AdamDnIdeal.τ).loc Cert.AdamDnIdeal.main_arg1) = m ((c.tc : Thread Cert.AdamDnIdeal.nD Cert.AdamDnIdeal.τ).loc Cert.AdamDnIdeal.main_arg1)
          ∧ r.2.mem ((c.tc : Thread Cert.AdamDnIdeal.nD Cert.AdamDnIdeal.τ).loc Cert.AdamDnIdeal.main_arg2) = m ((c.tc : Thread Cert.AdamDnIdeal.nD Cert.AdamDnIdeal.τ).loc Cert.AdamDnIdeal.main_arg2)
          ∧ r.2.mem ((c.tc : Thread Cert.AdamDnIdeal.nD Cert.AdamDnIdeal.τ).loc Cert.AdamDnIdeal.main_arg3) = m ((c.tc : Thread Cert.AdamDnIdeal.nD Cert.AdamDnIdeal.τ).loc Cert.AdamDnIdeal.main_arg3))
      ∧ θ_run (Cert.AdamDnRefIdeal.defs (F := Ideal)) (onTc (τ := Cert.AdamDnRefIdeal.τ) (Cert.AdamDnRefIdeal.main (F := Ideal))) ⟨m', fun _ => 0, g'⟩ (fun r => ∀ c : Dev Cert.AdamDnRefIdeal.nD,
          r.2.mem ((c.tc : Thread Cert.AdamDnRefIdeal.nD Cert.AdamDnRefIdeal.τ).loc Cert.AdamDnRefIdeal.main_v1) = v0 c
          ∧ r.2.mem ((c.tc : Thread Cert.AdamDnRefIdeal.nD Cert.AdamDnRefIdeal.τ).loc Cert.AdamDnRefIdeal.main_v28) = v1 c
          ∧ r.2.mem ((c.tc : Thread Cert.AdamDnRefIdeal.nD Cert.AdamDnRefIdeal.τ).loc Cert.AdamDnRefIdeal.main_v9) = v2 c
          ∧ r.2.mem ((c.tc : Thread Cert.AdamDnRefIdeal.nD Cert.AdamDnRefIdeal.τ).loc Cert.AdamDnRefIdeal.main_v15) = v3 c
          ∧ r.2.mem ((c.tc : Thread Cert.AdamDnRefIdeal.nD Cert.AdamDnRefIdeal.τ).loc Cert.AdamDnRefIdeal.main_arg0) = m' ((c.tc : Thread Cert.AdamDnRefIdeal.nD Cert.AdamDnRefIdeal.τ).loc Cert.AdamDnRefIdeal.main_arg0)
          ∧ r.2.mem ((c.tc : Thread Cert.AdamDnRefIdeal.nD Cert.AdamDnRefIdeal.τ).loc Cert.AdamDnRefIdeal.main_arg1) = m' ((c.tc : Thread Cert.AdamDnRefIdeal.nD Cert.AdamDnRefIdeal.τ).loc Cert.AdamDnRefIdeal.main_arg1)
          ∧ r.2.mem ((c.tc : Thread Cert.AdamDnRefIdeal.nD Cert.AdamDnRefIdeal.τ).loc Cert.AdamDnRefIdeal.main_arg2) = m' ((c.tc : Thread Cert.AdamDnRefIdeal.nD Cert.AdamDnRefIdeal.τ).loc Cert.AdamDnRefIdeal.main_arg2)
          ∧ r.2.mem ((c.tc : Thread Cert.AdamDnRefIdeal.nD Cert.AdamDnRefIdeal.τ).loc Cert.AdamDnRefIdeal.main_arg3) = m' ((c.tc : Thread Cert.AdamDnRefIdeal.nD Cert.AdamDnRefIdeal.τ).loc Cert.AdamDnRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v3_0)) (v1 : (c : Dev Cert.AdamOutIdeal.nD) → Buf (Elt Ideal) ((c.tc : Thread Cert.AdamOutIdeal.nD Cert.AdamOutIdeal.τ).loc Cert.AdamOutIdeal.main_v3_1)) (v2 : (c : Dev Cert.AdamOutIdeal.nD) → Buf (Elt Ideal) ((c.tc : Thread Cert.AdamOutIdeal.nD Cert.AdamOutIdeal.τ).loc Cert.AdamOutIdeal.main_v3_2)) (v3 : (c : Dev Cert.AdamOutIdeal.nD) → Buf (Elt Ideal) ((c.tc : Thread Cert.AdamOutIdeal.nD Cert.AdamOutIdeal.τ).loc Cert.AdamOutIdeal.main_v3_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v3_0) = v0 c
          ∧ r.2.mem ((c.tc : Thread Cert.AdamOutIdeal.nD Cert.AdamOutIdeal.τ).loc Cert.AdamOutIdeal.main_v3_1) = v1 c
          ∧ r.2.mem ((c.tc : Thread Cert.AdamOutIdeal.nD Cert.AdamOutIdeal.τ).loc Cert.AdamOutIdeal.main_v3_2) = v2 c
          ∧ r.2.mem ((c.tc : Thread Cert.AdamOutIdeal.nD Cert.AdamOutIdeal.τ).loc Cert.AdamOutIdeal.main_v3_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v9) = v2 c
          ∧ r.2.mem ((c.tc : Thread Cert.AdamOutRefIdeal.nD Cert.AdamOutRefIdeal.τ).loc Cert.AdamOutRefIdeal.main_v15) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v3_0)) (v1 : (c : Dev Cert.AdamUpIdeal.nD) → Buf (Elt Ideal) ((c.tc : Thread Cert.AdamUpIdeal.nD Cert.AdamUpIdeal.τ).loc Cert.AdamUpIdeal.main_v3_1)) (v2 : (c : Dev Cert.AdamUpIdeal.nD) → Buf (Elt Ideal) ((c.tc : Thread Cert.AdamUpIdeal.nD Cert.AdamUpIdeal.τ).loc Cert.AdamUpIdeal.main_v3_2)) (v3 : (c : Dev Cert.AdamUpIdeal.nD) → Buf (Elt Ideal) ((c.tc : Thread Cert.AdamUpIdeal.nD Cert.AdamUpIdeal.τ).loc Cert.AdamUpIdeal.main_v3_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v3_0) = v0 c
          ∧ r.2.mem ((c.tc : Thread Cert.AdamUpIdeal.nD Cert.AdamUpIdeal.τ).loc Cert.AdamUpIdeal.main_v3_1) = v1 c
          ∧ r.2.mem ((c.tc : Thread Cert.AdamUpIdeal.nD Cert.AdamUpIdeal.τ).loc Cert.AdamUpIdeal.main_v3_2) = v2 c
          ∧ r.2.mem ((c.tc : Thread Cert.AdamUpIdeal.nD Cert.AdamUpIdeal.τ).loc Cert.AdamUpIdeal.main_v3_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v28) = v1 c
          ∧ r.2.mem ((c.tc : Thread Cert.AdamUpRefIdeal.nD Cert.AdamUpRefIdeal.τ).loc Cert.AdamUpRefIdeal.main_v9) = v2 c
          ∧ r.2.mem ((c.tc : Thread Cert.AdamUpRefIdeal.nD Cert.AdamUpRefIdeal.τ).loc Cert.AdamUpRefIdeal.main_v15) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)) (v3 : (c : Dev Cert.AdamDownIdeal.nD) → Buf (Elt Ideal) ((c.tc : Thread Cert.AdamDownIdeal.nD Cert.AdamDownIdeal.τ).loc Cert.AdamDownIdeal.main_v3_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_v3_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v28) = v1 c
          ∧ r.2.mem ((c.tc : Thread Cert.AdamDownRefIdeal.nD Cert.AdamDownRefIdeal.τ).loc Cert.AdamDownRefIdeal.main_v9) = v2 c
          ∧ r.2.mem ((c.tc : Thread Cert.AdamDownRefIdeal.nD Cert.AdamDownRefIdeal.τ).loc Cert.AdamDownRefIdeal.main_v15) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamS_AdamSIdeal : Prop :=
  True

def algebraic_AdamSIdeal_AdamSRefIdeal [hAdamSIdeal : Cert.AdamSIdeal.Facts] [hAdamSRefIdeal : Cert.AdamSRefIdeal.Facts] : Prop :=
  ∀ (m : (ℓ : Loc Cert.AdamSIdeal.nD Cert.AdamSIdeal.τ Cert.AdamSIdeal.sig) → Buf (Elt Ideal) ℓ) (g : Dev Cert.AdamSIdeal.nD → PrngReg)
    (m' : (ℓ : Loc Cert.AdamSRefIdeal.nD Cert.AdamSRefIdeal.τ Cert.AdamSRefIdeal.sig) → Buf (Elt Ideal) ℓ) (g' : Dev Cert.AdamSRefIdeal.nD → PrngReg), Pre_AdamSIdeal m →
    (∀ c : Dev Cert.AdamSIdeal.nD,
      m' ((c.tc : Thread Cert.AdamSRefIdeal.nD Cert.AdamSRefIdeal.τ).loc Cert.AdamSRefIdeal.main_arg0) = m ((c.tc : Thread Cert.AdamSIdeal.nD Cert.AdamSIdeal.τ).loc Cert.AdamSIdeal.main_arg0)
      ∧ m' ((c.tc : Thread Cert.AdamSRefIdeal.nD Cert.AdamSRefIdeal.τ).loc Cert.AdamSRefIdeal.main_arg1) = m ((c.tc : Thread Cert.AdamSIdeal.nD Cert.AdamSIdeal.τ).loc Cert.AdamSIdeal.main_arg1)
      ∧ m' ((c.tc : Thread Cert.AdamSRefIdeal.nD Cert.AdamSRefIdeal.τ).loc Cert.AdamSRefIdeal.main_arg2) = m ((c.tc : Thread Cert.AdamSIdeal.nD Cert.AdamSIdeal.τ).loc Cert.AdamSIdeal.main_arg2)
      ∧ m' ((c.tc : Thread Cert.AdamSRefIdeal.nD Cert.AdamSRefIdeal.τ).loc Cert.AdamSRefIdeal.main_arg3) = m ((c.tc : Thread Cert.AdamSIdeal.nD Cert.AdamSIdeal.τ).loc Cert.AdamSIdeal.main_arg3)) →
    ∃ (v0 : (c : Dev Cert.AdamSIdeal.nD) → Buf (Elt Ideal) ((c.tc : Thread Cert.AdamSIdeal.nD Cert.AdamSIdeal.τ).loc Cert.AdamSIdeal.main_v0_0)) (v1 : (c : Dev Cert.AdamSIdeal.nD) → Buf (Elt Ideal) ((c.tc : Thread Cert.AdamSIdeal.nD Cert.AdamSIdeal.τ).loc Cert.AdamSIdeal.main_v0_1)) (v2 : (c : Dev Cert.AdamSIdeal.nD) → Buf (Elt Ideal) ((c.tc : Thread Cert.AdamSIdeal.nD Cert.AdamSIdeal.τ).loc Cert.AdamSIdeal.main_v0_2)),
      θ_run (Cert.AdamSIdeal.defs (F := Ideal)) (onTc (τ := Cert.AdamSIdeal.τ) (Cert.AdamSIdeal.main (F := Ideal))) ⟨m, fun _ => 0, g⟩ (fun r => ∀ c : Dev Cert.AdamSIdeal.nD,
          r.2.mem ((c.tc : Thread Cert.AdamSIdeal.nD Cert.AdamSIdeal.τ).loc Cert.AdamSIdeal.main_v0_0) = v0 c
          ∧ r.2.mem ((c.tc : Thread Cert.AdamSIdeal.nD Cert.AdamSIdeal.τ).loc Cert.AdamSIdeal.main_v0_1) = v1 c
          ∧ r.2.mem ((c.tc : Thread Cert.AdamSIdeal.nD Cert.AdamSIdeal.τ).loc Cert.AdamSIdeal.main_v0_2) = v2 c
          ∧ r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
          ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
          ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
          ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ θ_run (Cert.AdamSRefIdeal.defs (F := Ideal)) (onTc (τ := Cert.AdamSRefIdeal.τ) (Cert.AdamSRefIdeal.main (F := Ideal))) ⟨m', fun _ => 0, g'⟩ (fun r => ∀ c : Dev Cert.AdamSRefIdeal.nD,
          r.2.mem ((c.tc : Thread Cert.AdamSRefIdeal.nD Cert.AdamSRefIdeal.τ).loc Cert.AdamSRefIdeal.main_v23) = v0 c
          ∧ r.2.mem ((c.tc : Thread Cert.AdamSRefIdeal.nD Cert.AdamSRefIdeal.τ).loc Cert.AdamSRefIdeal.main_v4) = v1 c
          ∧ r.2.mem ((c.tc : Thread Cert.AdamSRefIdeal.nD Cert.AdamSRefIdeal.τ).loc Cert.AdamSRefIdeal.main_v10) = v2 c
          ∧ r.2.mem ((c.tc : Thread Cert.AdamSRefIdeal.nD Cert.AdamSRefIdeal.τ).loc Cert.AdamSRefIdeal.main_arg0) = m' ((c.tc : Thread Cert.AdamSRefIdeal.nD Cert.AdamSRefIdeal.τ).loc Cert.AdamSRefIdeal.main_arg0)
          ∧ r.2.mem ((c.tc : Thread Cert.AdamSRefIdeal.nD Cert.AdamSRefIdeal.τ).loc Cert.AdamSRefIdeal.main_arg1) = m' ((c.tc : Thread Cert.AdamSRefIdeal.nD Cert.AdamSRefIdeal.τ).loc Cert.AdamSRefIdeal.main_arg1)
          ∧ r.2.mem ((c.tc : Thread Cert.AdamSRefIdeal.nD Cert.AdamSRefIdeal.τ).loc Cert.AdamSRefIdeal.main_arg2) = m' ((c.tc : Thread Cert.AdamSRefIdeal.nD Cert.AdamSRefIdeal.τ).loc Cert.AdamSRefIdeal.main_arg2)
          ∧ r.2.mem ((c.tc : Thread Cert.AdamSRefIdeal.nD Cert.AdamSRefIdeal.τ).loc Cert.AdamSRefIdeal.main_arg3) = m' ((c.tc : Thread Cert.AdamSRefIdeal.nD Cert.AdamSRefIdeal.τ).loc Cert.AdamSRefIdeal.main_arg3))

def preserves_SumS_SumSIdeal : Prop :=
  True

def algebraic_SumSIdeal_SumSRefIdeal [hSumSIdeal : Cert.SumSIdeal.Facts] [hSumSRefIdeal : Cert.SumSRefIdeal.Facts] : Prop :=
  ∀ (m : (ℓ : Loc Cert.SumSIdeal.nD Cert.SumSIdeal.τ Cert.SumSIdeal.sig) → Buf (Elt Ideal) ℓ) (g : Dev Cert.SumSIdeal.nD → PrngReg)
    (m' : (ℓ : Loc Cert.SumSRefIdeal.nD Cert.SumSRefIdeal.τ Cert.SumSRefIdeal.sig) → Buf (Elt Ideal) ℓ) (g' : Dev Cert.SumSRefIdeal.nD → PrngReg), Pre_SumSIdeal m →
    (∀ c : Dev Cert.SumSIdeal.nD,
      m' ((c.tc : Thread Cert.SumSRefIdeal.nD Cert.SumSRefIdeal.τ).loc Cert.SumSRefIdeal.main_arg0) = m ((c.tc : Thread Cert.SumSIdeal.nD Cert.SumSIdeal.τ).loc Cert.SumSIdeal.main_arg0)) →
    ∃ (v0 : (c : Dev Cert.SumSIdeal.nD) → Buf (Elt Ideal) ((c.tc : Thread Cert.SumSIdeal.nD Cert.SumSIdeal.τ).loc Cert.SumSIdeal.main_v0)),
      θ_run (Cert.SumSIdeal.defs (F := Ideal)) (onTc (τ := Cert.SumSIdeal.τ) (Cert.SumSIdeal.main (F := Ideal))) ⟨m, fun _ => 0, g⟩ (fun r => ∀ c : Dev Cert.SumSIdeal.nD,
          r.2.mem ((c.tc : Thread Cert.SumSIdeal.nD Cert.SumSIdeal.τ).loc Cert.SumSIdeal.main_v0) = v0 c
          ∧ r.2.mem ((c.tc : Thread Cert.SumSIdeal.nD Cert.SumSIdeal.τ).loc Cert.SumSIdeal.main_arg0) = m ((c.tc : Thread Cert.SumSIdeal.nD Cert.SumSIdeal.τ).loc Cert.SumSIdeal.main_arg0))
      ∧ θ_run (Cert.SumSRefIdeal.defs (F := Ideal)) (onTc (τ := Cert.SumSRefIdeal.τ) (Cert.SumSRefIdeal.main (F := Ideal))) ⟨m', fun _ => 0, g'⟩ (fun r => ∀ c : Dev Cert.SumSRefIdeal.nD,
          r.2.mem ((c.tc : Thread Cert.SumSRefIdeal.nD Cert.SumSRefIdeal.τ).loc Cert.SumSRefIdeal.main_v0) = v0 c
          ∧ r.2.mem ((c.tc : Thread Cert.SumSRefIdeal.nD Cert.SumSRefIdeal.τ).loc Cert.SumSRefIdeal.main_arg0) = m' ((c.tc : Thread Cert.SumSRefIdeal.nD Cert.SumSRefIdeal.τ).loc Cert.SumSRefIdeal.main_arg0))

def Claim : Prop :=
  ∃ (hKernel : Cert.Kernel.Facts) (hKernelIdeal : Cert.KernelIdeal.Facts) (hReferenceIdeal : Cert.ReferenceIdeal.Facts) (hUpX : Cert.UpX.Facts) (hUpXIdeal : Cert.UpXIdeal.Facts) (hUpXRefIdeal : Cert.UpXRefIdeal.Facts) (hUpW : Cert.UpW.Facts) (hUpWIdeal : Cert.UpWIdeal.Facts) (hUpWRefIdeal : Cert.UpWRefIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hProjX : Cert.ProjX.Facts) (hProjXIdeal : Cert.ProjXIdeal.Facts) (hProjXRefIdeal : Cert.ProjXRefIdeal.Facts) (hProjW : Cert.ProjW.Facts) (hProjWIdeal : Cert.ProjWIdeal.Facts) (hProjWRefIdeal : Cert.ProjWRefIdeal.Facts) (hUpY : Cert.UpY.Facts) (hUpYIdeal : Cert.UpYIdeal.Facts) (hUpYRefIdeal : Cert.UpYRefIdeal.Facts) (hDownY : Cert.DownY.Facts) (hDownYIdeal : Cert.DownYIdeal.Facts) (hDownYRefIdeal : Cert.DownYRefIdeal.Facts) (hProjY : Cert.ProjY.Facts) (hProjYIdeal : Cert.ProjYIdeal.Facts) (hProjYRefIdeal : Cert.ProjYRefIdeal.Facts) (hOutY : Cert.OutY.Facts) (hOutYIdeal : Cert.OutYIdeal.Facts) (hOutYRefIdeal : Cert.OutYRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hGluY : Cert.GluY.Facts) (hGluYIdeal : Cert.GluYIdeal.Facts) (hGluYRefIdeal : Cert.GluYRefIdeal.Facts) (hGluX : Cert.GluX.Facts) (hGluXIdeal : Cert.GluXIdeal.Facts) (hGluXRefIdeal : Cert.GluXRefIdeal.Facts) (hGluW : Cert.GluW.Facts) (hGluWIdeal : Cert.GluWIdeal.Facts) (hGluWRefIdeal : Cert.GluWRefIdeal.Facts) (hDnY : Cert.DnY.Facts) (hDnYIdeal : Cert.DnYIdeal.Facts) (hDnYRefIdeal : Cert.DnYRefIdeal.Facts) (hDnX : Cert.DnX.Facts) (hDnXIdeal : Cert.DnXIdeal.Facts) (hDnXRefIdeal : Cert.DnXRefIdeal.Facts) (hDnW : Cert.DnW.Facts) (hDnWIdeal : Cert.DnWIdeal.Facts) (hDnWRefIdeal : Cert.DnWRefIdeal.Facts) (hNormB : Cert.NormB.Facts) (hNormBIdeal : Cert.NormBIdeal.Facts) (hNormBRefIdeal : Cert.NormBRefIdeal.Facts) (hMergeB : Cert.MergeB.Facts) (hMergeBIdeal : Cert.MergeBIdeal.Facts) (hMergeBRefIdeal : Cert.MergeBRefIdeal.Facts) (hPostB : Cert.PostB.Facts) (hPostBIdeal : Cert.PostBIdeal.Facts) (hPostBRefIdeal : Cert.PostBRefIdeal.Facts) (hPreB : Cert.PreB.Facts) (hPreBIdeal : Cert.PreBIdeal.Facts) (hPreBRefIdeal : Cert.PreBRefIdeal.Facts) (hFfnY : Cert.FfnY.Facts) (hFfnYIdeal : Cert.FfnYIdeal.Facts) (hFfnYRefIdeal : Cert.FfnYRefIdeal.Facts) (hNormY : Cert.NormY.Facts) (hNormYIdeal : Cert.NormYIdeal.Facts) (hNormYRefIdeal : Cert.NormYRefIdeal.Facts) (hMergeY : Cert.MergeY.Facts) (hMergeYIdeal : Cert.MergeYIdeal.Facts) (hMergeYRefIdeal : Cert.MergeYRefIdeal.Facts) (hLossB : Cert.LossB.Facts) (hLossBIdeal : Cert.LossBIdeal.Facts) (hLossBRefIdeal : Cert.LossBRefIdeal.Facts) (hPostY : Cert.PostY.Facts) (hPostYIdeal : Cert.PostYIdeal.Facts) (hPostYRefIdeal : Cert.PostYRefIdeal.Facts) (hPreY : Cert.PreY.Facts) (hPreYIdeal : Cert.PreYIdeal.Facts) (hPreYRefIdeal : Cert.PreYRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamDn : Cert.AdamDn.Facts) (hAdamDnIdeal : Cert.AdamDnIdeal.Facts) (hAdamDnRefIdeal : Cert.AdamDnRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamS : Cert.AdamS.Facts) (hAdamSIdeal : Cert.AdamSIdeal.Facts) (hAdamSRefIdeal : Cert.AdamSRefIdeal.Facts) (hSumS : Cert.SumS.Facts) (hSumSIdeal : Cert.SumSIdeal.Facts) (hSumSRefIdeal : Cert.SumSRefIdeal.Facts),
    quiescent_Kernel (hKernel := hKernel)
    ∧ quiescent_KernelIdeal (hKernelIdeal := hKernelIdeal)
    ∧ quiescent_ReferenceIdeal (hReferenceIdeal := hReferenceIdeal)
    ∧ quiescent_UpX (hUpX := hUpX)
    ∧ quiescent_UpXIdeal (hUpXIdeal := hUpXIdeal)
    ∧ quiescent_UpXRefIdeal (hUpXRefIdeal := hUpXRefIdeal)
    ∧ quiescent_UpW (hUpW := hUpW)
    ∧ quiescent_UpWIdeal (hUpWIdeal := hUpWIdeal)
    ∧ quiescent_UpWRefIdeal (hUpWRefIdeal := hUpWRefIdeal)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_UpY (hUpY := hUpY)
    ∧ quiescent_UpYIdeal (hUpYIdeal := hUpYIdeal)
    ∧ quiescent_UpYRefIdeal (hUpYRefIdeal := hUpYRefIdeal)
    ∧ quiescent_DownY (hDownY := hDownY)
    ∧ quiescent_DownYIdeal (hDownYIdeal := hDownYIdeal)
    ∧ quiescent_DownYRefIdeal (hDownYRefIdeal := hDownYRefIdeal)
    ∧ quiescent_ProjY (hProjY := hProjY)
    ∧ quiescent_ProjYIdeal (hProjYIdeal := hProjYIdeal)
    ∧ quiescent_ProjYRefIdeal (hProjYRefIdeal := hProjYRefIdeal)
    ∧ quiescent_OutY (hOutY := hOutY)
    ∧ quiescent_OutYIdeal (hOutYIdeal := hOutYIdeal)
    ∧ quiescent_OutYRefIdeal (hOutYRefIdeal := hOutYRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_GluY (hGluY := hGluY)
    ∧ quiescent_GluYIdeal (hGluYIdeal := hGluYIdeal)
    ∧ quiescent_GluYRefIdeal (hGluYRefIdeal := hGluYRefIdeal)
    ∧ quiescent_GluX (hGluX := hGluX)
    ∧ quiescent_GluXIdeal (hGluXIdeal := hGluXIdeal)
    ∧ quiescent_GluXRefIdeal (hGluXRefIdeal := hGluXRefIdeal)
    ∧ quiescent_GluW (hGluW := hGluW)
    ∧ quiescent_GluWIdeal (hGluWIdeal := hGluWIdeal)
    ∧ quiescent_GluWRefIdeal (hGluWRefIdeal := hGluWRefIdeal)
    ∧ quiescent_DnY (hDnY := hDnY)
    ∧ quiescent_DnYIdeal (hDnYIdeal := hDnYIdeal)
    ∧ quiescent_DnYRefIdeal (hDnYRefIdeal := hDnYRefIdeal)
    ∧ quiescent_DnX (hDnX := hDnX)
    ∧ quiescent_DnXIdeal (hDnXIdeal := hDnXIdeal)
    ∧ quiescent_DnXRefIdeal (hDnXRefIdeal := hDnXRefIdeal)
    ∧ quiescent_DnW (hDnW := hDnW)
    ∧ quiescent_DnWIdeal (hDnWIdeal := hDnWIdeal)
    ∧ quiescent_DnWRefIdeal (hDnWRefIdeal := hDnWRefIdeal)
    ∧ quiescent_NormB (hNormB := hNormB)
    ∧ quiescent_NormBIdeal (hNormBIdeal := hNormBIdeal)
    ∧ quiescent_NormBRefIdeal (hNormBRefIdeal := hNormBRefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_PostB (hPostB := hPostB)
    ∧ quiescent_PostBIdeal (hPostBIdeal := hPostBIdeal)
    ∧ quiescent_PostBRefIdeal (hPostBRefIdeal := hPostBRefIdeal)
    ∧ quiescent_PreB (hPreB := hPreB)
    ∧ quiescent_PreBIdeal (hPreBIdeal := hPreBIdeal)
    ∧ quiescent_PreBRefIdeal (hPreBRefIdeal := hPreBRefIdeal)
    ∧ quiescent_FfnY (hFfnY := hFfnY)
    ∧ quiescent_FfnYIdeal (hFfnYIdeal := hFfnYIdeal)
    ∧ quiescent_FfnYRefIdeal (hFfnYRefIdeal := hFfnYRefIdeal)
    ∧ quiescent_NormY (hNormY := hNormY)
    ∧ quiescent_NormYIdeal (hNormYIdeal := hNormYIdeal)
    ∧ quiescent_NormYRefIdeal (hNormYRefIdeal := hNormYRefIdeal)
    ∧ quiescent_MergeY (hMergeY := hMergeY)
    ∧ quiescent_MergeYIdeal (hMergeYIdeal := hMergeYIdeal)
    ∧ quiescent_MergeYRefIdeal (hMergeYRefIdeal := hMergeYRefIdeal)
    ∧ quiescent_LossB (hLossB := hLossB)
    ∧ quiescent_LossBIdeal (hLossBIdeal := hLossBIdeal)
    ∧ quiescent_LossBRefIdeal (hLossBRefIdeal := hLossBRefIdeal)
    ∧ quiescent_PostY (hPostY := hPostY)
    ∧ quiescent_PostYIdeal (hPostYIdeal := hPostYIdeal)
    ∧ quiescent_PostYRefIdeal (hPostYRefIdeal := hPostYRefIdeal)
    ∧ quiescent_PreY (hPreY := hPreY)
    ∧ quiescent_PreYIdeal (hPreYIdeal := hPreYIdeal)
    ∧ quiescent_PreYRefIdeal (hPreYRefIdeal := hPreYRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamDn (hAdamDn := hAdamDn)
    ∧ quiescent_AdamDnIdeal (hAdamDnIdeal := hAdamDnIdeal)
    ∧ quiescent_AdamDnRefIdeal (hAdamDnRefIdeal := hAdamDnRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamS (hAdamS := hAdamS)
    ∧ quiescent_AdamSIdeal (hAdamSIdeal := hAdamSIdeal)
    ∧ quiescent_AdamSRefIdeal (hAdamSRefIdeal := hAdamSRefIdeal)
    ∧ quiescent_SumS (hSumS := hSumS)
    ∧ quiescent_SumSIdeal (hSumSIdeal := hSumSIdeal)
    ∧ quiescent_SumSRefIdeal (hSumSRefIdeal := hSumSRefIdeal)
    ∧ preserves_Kernel_KernelIdeal
    ∧ algebraic_KernelIdeal_ReferenceIdeal (hKernelIdeal := hKernelIdeal) (hReferenceIdeal := hReferenceIdeal)
    ∧ preserves_UpX_UpXIdeal
    ∧ algebraic_UpXIdeal_UpXRefIdeal (hUpXIdeal := hUpXIdeal) (hUpXRefIdeal := hUpXRefIdeal)
    ∧ preserves_UpW_UpWIdeal
    ∧ algebraic_UpWIdeal_UpWRefIdeal (hUpWIdeal := hUpWIdeal) (hUpWRefIdeal := hUpWRefIdeal)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_ProjX_ProjXIdeal
    ∧ algebraic_ProjXIdeal_ProjXRefIdeal (hProjXIdeal := hProjXIdeal) (hProjXRefIdeal := hProjXRefIdeal)
    ∧ preserves_ProjW_ProjWIdeal
    ∧ algebraic_ProjWIdeal_ProjWRefIdeal (hProjWIdeal := hProjWIdeal) (hProjWRefIdeal := hProjWRefIdeal)
    ∧ preserves_UpY_UpYIdeal
    ∧ algebraic_UpYIdeal_UpYRefIdeal (hUpYIdeal := hUpYIdeal) (hUpYRefIdeal := hUpYRefIdeal)
    ∧ preserves_DownY_DownYIdeal
    ∧ algebraic_DownYIdeal_DownYRefIdeal (hDownYIdeal := hDownYIdeal) (hDownYRefIdeal := hDownYRefIdeal)
    ∧ preserves_ProjY_ProjYIdeal
    ∧ algebraic_ProjYIdeal_ProjYRefIdeal (hProjYIdeal := hProjYIdeal) (hProjYRefIdeal := hProjYRefIdeal)
    ∧ preserves_OutY_OutYIdeal
    ∧ algebraic_OutYIdeal_OutYRefIdeal (hOutYIdeal := hOutYIdeal) (hOutYRefIdeal := hOutYRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_GluY_GluYIdeal
    ∧ algebraic_GluYIdeal_GluYRefIdeal (hGluYIdeal := hGluYIdeal) (hGluYRefIdeal := hGluYRefIdeal)
    ∧ preserves_GluX_GluXIdeal
    ∧ algebraic_GluXIdeal_GluXRefIdeal (hGluXIdeal := hGluXIdeal) (hGluXRefIdeal := hGluXRefIdeal)
    ∧ preserves_GluW_GluWIdeal
    ∧ algebraic_GluWIdeal_GluWRefIdeal (hGluWIdeal := hGluWIdeal) (hGluWRefIdeal := hGluWRefIdeal)
    ∧ preserves_DnY_DnYIdeal
    ∧ algebraic_DnYIdeal_DnYRefIdeal (hDnYIdeal := hDnYIdeal) (hDnYRefIdeal := hDnYRefIdeal)
    ∧ preserves_DnX_DnXIdeal
    ∧ algebraic_DnXIdeal_DnXRefIdeal (hDnXIdeal := hDnXIdeal) (hDnXRefIdeal := hDnXRefIdeal)
    ∧ preserves_DnW_DnWIdeal
    ∧ algebraic_DnWIdeal_DnWRefIdeal (hDnWIdeal := hDnWIdeal) (hDnWRefIdeal := hDnWRefIdeal)
    ∧ preserves_NormB_NormBIdeal
    ∧ algebraic_NormBIdeal_NormBRefIdeal (hNormBIdeal := hNormBIdeal) (hNormBRefIdeal := hNormBRefIdeal)
    ∧ preserves_MergeB_MergeBIdeal
    ∧ algebraic_MergeBIdeal_MergeBRefIdeal (hMergeBIdeal := hMergeBIdeal) (hMergeBRefIdeal := hMergeBRefIdeal)
    ∧ preserves_PostB_PostBIdeal
    ∧ algebraic_PostBIdeal_PostBRefIdeal (hPostBIdeal := hPostBIdeal) (hPostBRefIdeal := hPostBRefIdeal)
    ∧ preserves_PreB_PreBIdeal
    ∧ algebraic_PreBIdeal_PreBRefIdeal (hPreBIdeal := hPreBIdeal) (hPreBRefIdeal := hPreBRefIdeal)
    ∧ preserves_FfnY_FfnYIdeal
    ∧ algebraic_FfnYIdeal_FfnYRefIdeal (hFfnYIdeal := hFfnYIdeal) (hFfnYRefIdeal := hFfnYRefIdeal)
    ∧ preserves_NormY_NormYIdeal
    ∧ algebraic_NormYIdeal_NormYRefIdeal (hNormYIdeal := hNormYIdeal) (hNormYRefIdeal := hNormYRefIdeal)
    ∧ preserves_MergeY_MergeYIdeal
    ∧ algebraic_MergeYIdeal_MergeYRefIdeal (hMergeYIdeal := hMergeYIdeal) (hMergeYRefIdeal := hMergeYRefIdeal)
    ∧ preserves_LossB_LossBIdeal
    ∧ algebraic_LossBIdeal_LossBRefIdeal (hLossBIdeal := hLossBIdeal) (hLossBRefIdeal := hLossBRefIdeal)
    ∧ preserves_PostY_PostYIdeal
    ∧ algebraic_PostYIdeal_PostYRefIdeal (hPostYIdeal := hPostYIdeal) (hPostYRefIdeal := hPostYRefIdeal)
    ∧ preserves_PreY_PreYIdeal
    ∧ algebraic_PreYIdeal_PreYRefIdeal (hPreYIdeal := hPreYIdeal) (hPreYRefIdeal := hPreYRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamDn_AdamDnIdeal
    ∧ algebraic_AdamDnIdeal_AdamDnRefIdeal (hAdamDnIdeal := hAdamDnIdeal) (hAdamDnRefIdeal := hAdamDnRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamS_AdamSIdeal
    ∧ algebraic_AdamSIdeal_AdamSRefIdeal (hAdamSIdeal := hAdamSIdeal) (hAdamSRefIdeal := hAdamSRefIdeal)
    ∧ preserves_SumS_SumSIdeal
    ∧ algebraic_SumSIdeal_SumSRefIdeal (hSumSIdeal := hSumSIdeal) (hSumSRefIdeal := hSumSRefIdeal)
-- ==== Kernel.lean ====
abbrev S8192x11264 : Shape := ⟨2, ![8192, 11264]⟩
abbrev S3x11264 : Shape := ⟨2, ![3, 11264]⟩
abbrev S8192x5632 : Shape := ⟨2, ![8192, 5632]⟩
abbrev S8x5632 : Shape := ⟨2, ![8, 5632]⟩
abbrev S512x512 : Shape := ⟨2, ![512, 512]⟩
abbrev S8x512 : Shape := ⟨2, ![8, 512]⟩
abbrev S3x512 : Shape := ⟨2, ![3, 512]⟩
abbrev S520x512 : Shape := ⟨2, ![520, 512]⟩
abbrev S1x512 : Shape := ⟨2, ![1, 512]⟩
abbrev S512 : Shape := ⟨1, ![512]⟩
abbrev S504x512 : Shape := ⟨2, ![504, 512]⟩

abbrev nBuf : Space → Nat
  | .hbm => 7
  | .vmem => 28
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S8192x5632, .f32⟩
  | .hbm, ⟨3, _⟩ => ⟨S8192x5632, .bf16⟩
  | .hbm, ⟨4, _⟩ => ⟨S8192x5632, .bf16⟩
  | .hbm, ⟨5, _⟩ => ⟨S8x5632, .f32⟩
  | .hbm, ⟨6, _⟩ => ⟨S8x5632, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S512x512, .f32⟩
  | .local _ .vmem, ⟨17, _⟩ => ⟨S512x512, .f32⟩
  | .local _ .vmem, ⟨18, _⟩ => ⟨S8x512, .f32⟩
  | .local _ .vmem, ⟨19, _⟩ => ⟨S8x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S8x512, .f32⟩
  | .local _ .vmem, ⟨25, _⟩ => ⟨S8x512, .f32⟩
  | .local _ .vmem, ⟨26, _⟩ => ⟨S8x512, .f32⟩
  | .local _ .vmem, ⟨27, _⟩ => ⟨S8x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi arg0 c0_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c11_i32 : BitVec 32 := 11#32
  let v3 : BitVec 32 := Scalar.addi arg0 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi arg0 c0_i32
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8192x11264 : Shape := ⟨2, ![8192, 11264]⟩
abbrev S3x11264 : Shape := ⟨2, ![3, 11264]⟩
abbrev S8192x5632 : Shape := ⟨2, ![8192, 5632]⟩
abbrev S_ : Shape := ⟨0, ![]⟩
abbrev S2x11264 : Shape := ⟨2, ![2, 11264]⟩
abbrev S8194x11264 : Shape := ⟨2, ![8194, 11264]⟩
abbrev S1x11264 : Shape := ⟨2, ![1, 11264]⟩
abbrev S11264 : Shape := ⟨1, ![11264]⟩
abbrev S8x11264 : Shape := ⟨2, ![8, 11264]⟩
abbrev S8x5632 : Shape := ⟨2, ![8, 5632]⟩

abbrev nBuf : Space → Nat
  | .hbm => 107
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S8192x5632, .f32⟩
  | .hbm, ⟨3, _⟩ => ⟨S_, .f32⟩
  | .hbm, ⟨4, _⟩ => ⟨S2x11264, .f32⟩
  | .hbm, ⟨5, _⟩ => ⟨S8194x11264, .f32⟩
  | .hbm, ⟨6, _⟩ => ⟨S_, .f32⟩
  | .hbm, ⟨7, _⟩ => ⟨S2x11264, .f32⟩
  | .hbm, ⟨8, _⟩ => ⟨S1x11264, .f32⟩
  | .hbm, ⟨9, _⟩ => ⟨S11264, .f32⟩
  | .hbm, ⟨10, _⟩ => ⟨S1x11264, .f32⟩
  | .hbm, ⟨11, _⟩ => ⟨S8192x11264, .f32⟩
  | .hbm, ⟨12, _⟩ => ⟨S8192x11264, .f32⟩
  | .hbm, ⟨13, _⟩ => ⟨S8192x11264, .f32⟩
  | .hbm, ⟨14, _⟩ => ⟨S_, .f32⟩
  | .hbm, ⟨15, _⟩ => ⟨S8192x11264, .f32⟩
  | .hbm, ⟨16, _⟩ => ⟨S8192x11264, .f32⟩
  | .hbm, ⟨17, _⟩ => ⟨S1x11264, .f32⟩
  | .hbm, ⟨18, _⟩ => ⟨S11264, .f32⟩
  | .hbm, ⟨19, _⟩ => ⟨S1x11264, .f32⟩
  | .hbm, ⟨20, _⟩ => ⟨S8192x11264, .f32⟩
  | .hbm, ⟨21, _⟩ => ⟨S8192x11264, .f32⟩
  | .hbm, ⟨22, _⟩ => ⟨S8192x11264, .f32⟩
  | .hbm, ⟨23, _⟩ => ⟨S8192x11264, .f32⟩
  | .hbm, ⟨24, _⟩ => ⟨S1x11264, .f32⟩
  | .hbm, ⟨25, _⟩ => ⟨S11264, .f32⟩
  | .hbm, ⟨26, _⟩ => ⟨S1x11264, .f32⟩
  | .hbm, ⟨27, _⟩ => ⟨S8192x11264, .f32⟩
  | .hbm, ⟨28, _⟩ => ⟨S8192x11264, .f32⟩
  | .hbm, ⟨29, _⟩ => ⟨S8192x11264, .f32⟩
  | .hbm, ⟨30, _⟩ => ⟨S8192x11264, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x11264, .f32⟩
  | .hbm, ⟨54, _⟩ => ⟨S8192x11264, .f32⟩
  | .hbm, ⟨55, _⟩ => ⟨S8192x11264, .f32⟩
  | .hbm, ⟨56, _⟩ => ⟨S8192x11264, .f32⟩
  | .hbm, ⟨57, _⟩ => ⟨S_, .f32⟩
  | .hbm, ⟨58, _⟩ => ⟨S11264, .f32⟩
  | .hbm, ⟨59, _⟩ => ⟨S1x11264, .f32⟩
  | .hbm, ⟨60, _⟩ => ⟨S_, .f32⟩
  | .hbm, ⟨61, _⟩ => ⟨S8194x11264, .f32⟩
  | .hbm, ⟨62, _⟩ => ⟨S_, .f32⟩
  | .hbm, ⟨63, _⟩ => ⟨S11264, .f32⟩
  | .hbm, ⟨64, _⟩ => ⟨S1x11264, .f32⟩
  | .hbm, ⟨65, _⟩ => ⟨S_, .f32⟩
  | .hbm, ⟨66, _⟩ => ⟨S3x11264, .f32⟩
  | .hbm, ⟨67, _⟩ => ⟨S8192x11264, .f32⟩
  | .hbm, ⟨68, _⟩ => ⟨S8192x11264, .f32⟩
  | .hbm, ⟨69, _⟩ => ⟨S8192x11264, .f32⟩
  | .hbm, ⟨70, _⟩ => ⟨S_, .f32⟩
  | .hbm, ⟨71, _⟩ => ⟨S11264, .f32⟩
  | .hbm, ⟨72, _⟩ => ⟨S1x11264, .f32⟩
  | .hbm, ⟨73, _⟩ => ⟨S_, .f32⟩
  | .hbm, ⟨74, _⟩ => ⟨S8194x11264, .f32⟩
  | .hbm, ⟨75, _⟩ => ⟨S8194x11264, .f32⟩
  | .hbm, ⟨76, _⟩ => ⟨S_, .f32⟩
  | .hbm, ⟨77, _⟩ => ⟨S11264, .f32⟩
  | .hbm, ⟨78, _⟩ => ⟨S1x11264, .f32⟩
  | .hbm, ⟨79, _⟩ => ⟨S_, .f32⟩
  | .hbm, ⟨80, _⟩ => ⟨S3x11264, .f32⟩
  | .hbm, ⟨81, _⟩ => ⟨S3x11264, .f32⟩
  | .hbm, ⟨82, _⟩ => ⟨S8192x11264, .f32⟩
  | .hbm, ⟨83, _⟩ => ⟨S8192x11264, .f32⟩
  | .hbm, ⟨84, _⟩ => ⟨S8192x11264, .f32⟩
  | .hbm, ⟨85, _⟩ => ⟨S_, .f32⟩
  | .hbm, ⟨86, _⟩ => ⟨S11264, .f32⟩
  | .hbm, ⟨87, _⟩ => ⟨S1x11264, .f32⟩
  | .hbm, ⟨88, _⟩ => ⟨S_, .f32⟩
  | .hbm, ⟨89, _⟩ => ⟨S8194x11264, .f32⟩
  | .hbm, ⟨90, _⟩ => ⟨S8194x11264, .f32⟩
  | .hbm, ⟨91, _⟩ => ⟨S_, .f32⟩
  | .hbm, ⟨92, _⟩ => ⟨S11264, .f32⟩
  | .hbm, ⟨93, _⟩ => ⟨S1x11264, .f32⟩
  | .hbm, ⟨94, _⟩ => ⟨S_, .f32⟩
  | .hbm, ⟨95, _⟩ => ⟨S3x11264, .f32⟩
  | .hbm, ⟨96, _⟩ => ⟨S3x11264, .f32⟩
  | .hbm, ⟨97, _⟩ => ⟨S2x11264, .f32⟩
  | .hbm, ⟨98, _⟩ => ⟨S8192x11264, .f32⟩
  | .hbm, ⟨99, _⟩ => ⟨S8192x11264, .bf16⟩
  | .hbm, ⟨100, _⟩ => ⟨S_, .i32⟩
  | .hbm, ⟨101, _⟩ => ⟨S_, .f32⟩
  | .hbm, ⟨102, _⟩ => ⟨S8x11264, .f32⟩
  | .hbm, ⟨103, _⟩ => ⟨S8192x5632, .bf16⟩
  | .hbm, ⟨104, _⟩ => ⟨S8192x5632, .bf16⟩
  | .hbm, ⟨105, _⟩ => ⟨S8x5632, .f32⟩
  | .hbm, ⟨106, _⟩ => ⟨S8x5632, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c : Ref sig .tc := ⟨.hbm, 100, rfl⟩
abbrev main_call2_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== UpX.lean ====
abbrev S8192x2048 : Shape := ⟨2, ![8192, 2048]⟩
abbrev S2048x11264 : Shape := ⟨2, ![2048, 11264]⟩
abbrev S8192x11264 : Shape := ⟨2, ![8192, 11264]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .bf16⟩
  | .hbm, ⟨4, _⟩ => ⟨S2048x11264, .bf16⟩
  | .hbm, ⟨5, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S11264x2048, .f32⟩
  | .hbm, ⟨5, _⟩ => ⟨S2048x11264, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpW.lean ====
abbrev S8192x2048 : Shape := ⟨2, ![8192, 2048]⟩
abbrev S2048x11264 : Shape := ⟨2, ![2048, 11264]⟩
abbrev S8192x11264 : Shape := ⟨2, ![8192, 11264]⟩
abbrev S2x4x8192x1408 : Shape := ⟨4, ![2, 4, 8192, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S2x4x8192x1408, .bf16⟩
  | .hbm, ⟨4, _⟩ => ⟨S8192x2048, .bf16⟩
  | .hbm, ⟨5, _⟩ => ⟨S8192x11264, .bf16⟩
  | .hbm, ⟨6, _⟩ => ⟨S2x4x8192x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.addi c4_i32 arg0
  let c0_i32_10 : BitVec 32 := 0#32
  let c0_i32_11 : BitVec 32 := 0#32
  ![v9.toNat, v26.toNat, v27.toNat, c0_i32_10.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8192x2048 : Shape := ⟨2, ![8192, 2048]⟩
abbrev S2048x11264 : Shape := ⟨2, ![2048, 11264]⟩
abbrev S8192x11264 : Shape := ⟨2, ![8192, 11264]⟩
abbrev S2x4x8192x1408 : Shape := ⟨4, ![2, 4, 8192, 1408]⟩
abbrev S11264x2048 : Shape := ⟨2, ![11264, 2048]⟩
abbrev S2048x4x2x1408 : Shape := ⟨4, ![2048, 4, 2, 1408]⟩
abbrev S2x4x2048x1408 : Shape := ⟨4, ![2, 4, 2048, 1408]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S2x4x8192x1408, .bf16⟩
  | .hbm, ⟨4, _⟩ => ⟨S8192x11264, .f32⟩
  | .hbm, ⟨5, _⟩ => ⟨S11264x2048, .f32⟩
  | .hbm, ⟨6, _⟩ => ⟨S2048x11264, .f32⟩
  | .hbm, ⟨7, _⟩ => ⟨S8192x2048, .f32⟩
  | .hbm, ⟨8, _⟩ => ⟨S2048x11264, .bf16⟩
  | .hbm, ⟨9, _⟩ => ⟨S2048x4x2x1408, .bf16⟩
  | .hbm, ⟨10, _⟩ => ⟨S2x4x2048x1408, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2x4x8192x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== DownX.lean ====
abbrev S8192x5632 : Shape := ⟨2, ![8192, 5632]⟩
abbrev S5632x2048 : Shape := ⟨2, ![5632, 2048]⟩
abbrev S8192x2048 : Shape := ⟨2, ![8192, 2048]⟩
abbrev S1024x2048 : Shape := ⟨2, ![1024, 2048]⟩
abbrev S1408x2048 : Shape := ⟨2, ![1408, 2048]⟩
abbrev S1024x1408 : Shape := ⟨2, ![1024, 1408]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .bf16⟩
  | .hbm, ⟨4, _⟩ => ⟨S5632x2048, .bf16⟩
  | .hbm, ⟨5, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownW.lean ====
abbrev S8192x5632 : Shape := ⟨2, ![8192, 5632]⟩
abbrev S5632x2048 : Shape := ⟨2, ![5632, 2048]⟩
abbrev S8192x2048 : Shape := ⟨2, ![8192, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S8192x5632, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjX.lean ====
abbrev S8192x2048 : Shape := ⟨2, ![8192, 2048]⟩
abbrev S2048x9216 : Shape := ⟨2, ![2048, 9216]⟩
abbrev S8192x9216 : Shape := ⟨2, ![8192, 9216]⟩
abbrev S1024x2304 : Shape := ⟨2, ![1024, 2304]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x9216, .f32⟩
  | .hbm, ⟨3, _⟩ => ⟨S8192x9216, .bf16⟩
  | .hbm, ⟨4, _⟩ => ⟨S2048x9216, .bf16⟩
  | .hbm, ⟨5, _⟩ => ⟨S8192x2048, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXRefIdeal.lean ====
abbrev S8192x2048 : Shape := ⟨2, ![8192, 2048]⟩
abbrev S2048x9216 : Shape := ⟨2, ![2048, 9216]⟩
abbrev S8192x9216 : Shape := ⟨2, ![8192, 9216]⟩
abbrev S9216x2048 : Shape := ⟨2, ![9216, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x9216, .f32⟩
  | .hbm, ⟨3, _⟩ => ⟨S8192x9216, .f32⟩
  | .hbm, ⟨4, _⟩ => ⟨S9216x2048, .f32⟩
  | .hbm, ⟨5, _⟩ => ⟨S2048x9216, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjW.lean ====
abbrev S8192x2048 : Shape := ⟨2, ![8192, 2048]⟩
abbrev S2048x9216 : Shape := ⟨2, ![2048, 9216]⟩
abbrev S8192x9216 : Shape := ⟨2, ![8192, 9216]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x9216, .f32⟩
  | .hbm, ⟨3, _⟩ => ⟨S8192x2048, .bf16⟩
  | .hbm, ⟨4, _⟩ => ⟨S8192x9216, .bf16⟩
  | .hbm, ⟨5, _⟩ => ⟨S2048x9216, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWRefIdeal.lean ====
abbrev S8192x2048 : Shape := ⟨2, ![8192, 2048]⟩
abbrev S2048x9216 : Shape := ⟨2, ![2048, 9216]⟩
abbrev S8192x9216 : Shape := ⟨2, ![8192, 9216]⟩
abbrev S9216x2048 : Shape := ⟨2, ![9216, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x9216, .f32⟩
  | .hbm, ⟨3, _⟩ => ⟨S8192x9216, .f32⟩
  | .hbm, ⟨4, _⟩ => ⟨S9216x2048, .f32⟩
  | .hbm, ⟨5, _⟩ => ⟨S2048x9216, .f32⟩
  | .hbm, ⟨6, _⟩ => ⟨S8192x2048, .f32⟩
  | .hbm, ⟨7, _⟩ => ⟨S2048x9216, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpY.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x11264, .bf16⟩
  | .hbm, ⟨4, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpYRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownY.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownYRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjY.lean ====
abbrev S8192x2048 : Shape := ⟨2, ![8192, 2048]⟩
abbrev S2048x9216 : Shape := ⟨2, ![2048, 9216]⟩
abbrev S8192x9216 : Shape := ⟨2, ![8192, 9216]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x2048, .bf16⟩
  | .hbm, ⟨3, _⟩ => ⟨S2048x9216, .bf16⟩
  | .hbm, ⟨4, _⟩ => ⟨S8192x9216, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjYRefIdeal.lean ====
abbrev S8192x2048 : Shape := ⟨2, ![8192, 2048]⟩
abbrev S2048x9216 : Shape := ⟨2, ![2048, 9216]⟩
abbrev S8192x9216 : Shape := ⟨2, ![8192, 9216]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x9216, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutY.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutYRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutX.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutW.lean ====
abbrev S8192x2048 : Shape := ⟨2, ![8192, 2048]⟩
abbrev S2048x2048 : Shape := ⟨2, ![2048, 2048]⟩
abbrev S2x4x1024x2048 : Shape := ⟨4, ![2, 4, 1024, 2048]⟩
abbrev S2048x256 : Shape := ⟨2, ![2048, 256]⟩
abbrev S2048x1024 : Shape := ⟨2, ![2048, 1024]⟩
abbrev S1x1x256x1024 : Shape := ⟨4, ![1, 1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2x4x1024x2048, .bf16⟩
  | .hbm, ⟨4, _⟩ => ⟨S8192x2048, .bf16⟩
  | .hbm, ⟨5, _⟩ => ⟨S8192x2048, .bf16⟩
  | .hbm, ⟨6, _⟩ => ⟨S2x4x1024x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32_10 : BitVec 32 := 2#32
  let c0_i32_11 : BitVec 32 := 0#32
  ![v9.toNat, v26.toNat, c2_i32_10.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S8192x2048 : Shape := ⟨2, ![8192, 2048]⟩
abbrev S2048x2048 : Shape := ⟨2, ![2048, 2048]⟩
abbrev S2x4x1024x2048 : Shape := ⟨4, ![2, 4, 1024, 2048]⟩
abbrev S4x2x256x2048 : Shape := ⟨4, ![4, 2, 256, 2048]⟩
abbrev S2x4x256x2048 : Shape := ⟨4, ![2, 4, 256, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2x4x1024x2048, .bf16⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S2048x2048, .bf16⟩
  | .hbm, ⟨9, _⟩ => ⟨S4x2x256x2048, .bf16⟩
  | .hbm, ⟨10, _⟩ => ⟨S2x4x256x2048, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2x4x1024x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== GluY.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluYRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluX.lean ====
abbrev S8192x1024 : Shape := ⟨2, ![8192, 1024]⟩
abbrev S1024x4096 : Shape := ⟨2, ![1024, 4096]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S1024x4096, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluXRefIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluW.lean ====
abbrev S8192x1024 : Shape := ⟨2, ![8192, 1024]⟩
abbrev S1024x4096 : Shape := ⟨2, ![1024, 4096]⟩
abbrev S8192x4096 : Shape := ⟨2, ![8192, 4096]⟩
abbrev S2x4x4096x512 : Shape := ⟨4, ![2, 4, 4096, 512]⟩
abbrev S2048x1024 : Shape := ⟨2, ![2048, 1024]⟩
abbrev S2048x512 : Shape := ⟨2, ![2048, 512]⟩
abbrev S1x1x1024x512 : Shape := ⟨4, ![1, 1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S2x4x4096x512, .bf16⟩
  | .hbm, ⟨4, _⟩ => ⟨S8192x1024, .bf16⟩
  | .hbm, ⟨5, _⟩ => ⟨S8192x4096, .bf16⟩
  | .hbm, ⟨6, _⟩ => ⟨S2x4x4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32_10 : BitVec 32 := 2#32
  let v27 : BitVec 32 := Scalar.addi c2_i32_10 arg0
  let c0_i32_11 : BitVec 32 := 0#32
  let c0_i32_12 : BitVec 32 := 0#32
  ![v9.toNat, v26.toNat, v27.toNat, c0_i32_11.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluWRefIdeal.lean ====
abbrev S8192x1024 : Shape := ⟨2, ![8192, 1024]⟩
abbrev S1024x4096 : Shape := ⟨2, ![1024, 4096]⟩
abbrev S8192x4096 : Shape := ⟨2, ![8192, 4096]⟩
abbrev S2x4x4096x512 : Shape := ⟨4, ![2, 4, 4096, 512]⟩
abbrev S4096x1024 : Shape := ⟨2, ![4096, 1024]⟩
abbrev S1024x4x2x512 : Shape := ⟨4, ![1024, 4, 2, 512]⟩
abbrev S2x4x1024x512 : Shape := ⟨4, ![2, 4, 1024, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S2x4x4096x512, .bf16⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S8192x1024, .f32⟩
  | .hbm, ⟨8, _⟩ => ⟨S1024x4096, .bf16⟩
  | .hbm, ⟨9, _⟩ => ⟨S1024x4x2x512, .bf16⟩
  | .hbm, ⟨10, _⟩ => ⟨S2x4x1024x512, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2x4x4096x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== DnY.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnYRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DnX.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | .hbm, ⟨4, _⟩ => ⟨S1024x2048, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnXRefIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DnW.lean ====
abbrev S8192x1024 : Shape := ⟨2, ![8192, 1024]⟩
abbrev S1024x2048 : Shape := ⟨2, ![1024, 2048]⟩
abbrev S8192x2048 : Shape := ⟨2, ![8192, 2048]⟩
abbrev S2x4x4096x256 : Shape := ⟨4, ![2, 4, 4096, 256]⟩
abbrev S2048x1024 : Shape := ⟨2, ![2048, 1024]⟩
abbrev S2048x256 : Shape := ⟨2, ![2048, 256]⟩
abbrev S1x1x1024x256 : Shape := ⟨4, ![1, 1, 1024, 256]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S2x4x4096x256, .bf16⟩
  | .hbm, ⟨4, _⟩ => ⟨S8192x1024, .bf16⟩
  | .hbm, ⟨5, _⟩ => ⟨S8192x2048, .bf16⟩
  | .hbm, ⟨6, _⟩ => ⟨S2x4x4096x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1x1x1024x256, .bf16⟩
  | .local _ .vmem, ⟨5, _⟩ => ⟨S1x1x1024x256, .bf16⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32_10 : BitVec 32 := 2#32
  let v27 : BitVec 32 := Scalar.addi c2_i32_10 arg0
  let c0_i32_11 : BitVec 32 := 0#32
  let c0_i32_12 : BitVec 32 := 0#32
  ![v9.toNat, v26.toNat, v27.toNat, c0_i32_11.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnWRefIdeal.lean ====
abbrev S8192x1024 : Shape := ⟨2, ![8192, 1024]⟩
abbrev S1024x2048 : Shape := ⟨2, ![1024, 2048]⟩
abbrev S8192x2048 : Shape := ⟨2, ![8192, 2048]⟩
abbrev S2x4x4096x256 : Shape := ⟨4, ![2, 4, 4096, 256]⟩
abbrev S2048x1024 : Shape := ⟨2, ![2048, 1024]⟩
abbrev S1024x4x2x256 : Shape := ⟨4, ![1024, 4, 2, 256]⟩
abbrev S2x4x1024x256 : Shape := ⟨4, ![2, 4, 1024, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S2x4x4096x256, .bf16⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S1024x2048, .bf16⟩
  | .hbm, ⟨9, _⟩ => ⟨S1024x4x2x256, .bf16⟩
  | .hbm, ⟨10, _⟩ => ⟨S2x4x1024x256, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2x4x4096x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== NormB.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg1 : BitVec 32 := BitVec.ofNat 32 (i 1).val
  let c0_i32 : BitVec 32 := 0#32
  let v40 : BitVec 1 := Scalar.cmpi .eq arg1 c0_i32
  let arg0 : BitVec 32 := BitVec.ofNat 32 (i 0).val
  let c0_i32_16 : BitVec 32 := 0#32
  let v41 : BitVec 1 := Scalar.cmpi .eq arg0 c0_i32_16
  let v42 : BitVec 1 := Scalar.andi v40 v41
  let v43 : BitVec 32 := Scalar.extui v42
  let c0_i32_17 : BitVec 32 := 0#32
  let v44 : BitVec 1 := Scalar.cmpi .ne v43 c0_i32_17
  v44

def k0_cond2 (i : grid0.Coords) : BitVec 1 :=
  let arg1 : BitVec 32 := BitVec.ofNat 32 (i 1).val
  let c0_i32 : BitVec 32 := 0#32
  let v40 : BitVec 1 := Scalar.cmpi .eq arg1 c0_i32
  let arg0 : BitVec 32 := BitVec.ofNat 32 (i 0).val
  let c0_i32_16 : BitVec 32 := 0#32
  let v41 : BitVec 1 := Scalar.cmpi .eq arg0 c0_i32_16
  let v42 : BitVec 1 := Scalar.andi v40 v41
  let v_true : BitVec 1 := 1#1
  let v45 : BitVec 1 := Scalar.xori v42 v_true
  let v46 : BitVec 32 := Scalar.extui v45
  let c0_i32_18 : BitVec 32 := 0#32
  let v47 : BitVec 1 := Scalar.cmpi .ne v46 c0_i32_18
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== NormBRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MergeB.lean ====
abbrev S8192x4096 : Shape := ⟨2, ![8192, 4096]⟩
abbrev S8192x2048 : Shape := ⟨2, ![8192, 2048]⟩
abbrev S8192x9216 : Shape := ⟨2, ![8192, 9216]⟩
abbrev S512x512 : Shape := ⟨2, ![512, 512]⟩

abbrev nBuf : Space → Nat
  | .hbm => 9
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x9216, .f32⟩
  | .hbm, ⟨3, _⟩ => ⟨S8192x2048, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeBRefIdeal.lean ====
abbrev S8192x4096 : Shape := ⟨2, ![8192, 4096]⟩
abbrev S8192x2048 : Shape := ⟨2, ![8192, 2048]⟩
abbrev S8192x9216 : Shape := ⟨2, ![8192, 9216]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x9216, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | .hbm, ⟨60, _⟩ => ⟨S8192x2048, .bf16⟩
  | .hbm, ⟨61, _⟩ => ⟨S8192x2048, .bf16⟩
  | .hbm, ⟨62, _⟩ => ⟨S8192x2048, .bf16⟩
  | .hbm, ⟨63, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== PostB.lean ====
abbrev S8192x1024 : Shape := ⟨2, ![8192, 1024]⟩
abbrev S8192x9216 : Shape := ⟨2, ![8192, 9216]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S128, .f32⟩
  | .hbm, ⟨3, _⟩ => ⟨S8192x1024, .f32⟩
  | .hbm, ⟨4, _⟩ => ⟨S1x128, .f32⟩
  | .hbm, ⟨5, _⟩ => ⟨S8192x1024, .f32⟩
  | .hbm, ⟨6, _⟩ => ⟨S8192x1024, .bf16⟩
  | .hbm, ⟨7, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .bf16⟩
  | .local _ .vmem, ⟨10, _⟩ => ⟨S512x128, .bf16⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v67 : BitVec 1 := Scalar.cmpi .eq arg1 c0_i32
  let arg0 : BitVec 32 := BitVec.ofNat 32 (i 0).val
  let c0_i32_25 : BitVec 32 := 0#32
  let v68 : BitVec 1 := Scalar.cmpi .eq arg0 c0_i32_25
  let v69 : BitVec 1 := Scalar.andi v67 v68
  let v70 : BitVec 32 := Scalar.extui v69
  let c0_i32_26 : BitVec 32 := 0#32
  let v71 : BitVec 1 := Scalar.cmpi .ne v70 c0_i32_26
  v71

def k0_cond2 (i : grid0.Coords) : BitVec 1 :=
  let arg1 : BitVec 32 := BitVec.ofNat 32 (i 1).val
  let c0_i32 : BitVec 32 := 0#32
  let v67 : BitVec 1 := Scalar.cmpi .eq arg1 c0_i32
  let arg0 : BitVec 32 := BitVec.ofNat 32 (i 0).val
  let c0_i32_25 : BitVec 32 := 0#32
  let v68 : BitVec 1 := Scalar.cmpi .eq arg0 c0_i32_25
  let v69 : BitVec 1 := Scalar.andi v67 v68
  let v_true : BitVec 1 := 1#1
  let v72 : BitVec 1 := Scalar.xori v69 v_true
  let v73 : BitVec 32 := Scalar.extui v72
  let c0_i32_27 : BitVec 32 := 0#32
  let v74 : BitVec 1 := Scalar.cmpi .ne v73 c0_i32_27
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== PostBRefIdeal.lean ====
abbrev S8192x1024 : Shape := ⟨2, ![8192, 1024]⟩
abbrev S8192x9216 : Shape := ⟨2, ![8192, 9216]⟩
abbrev S128 : Shape := ⟨1, ![128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S128, .f32⟩
  | .hbm, ⟨3, _⟩ => ⟨S8192x1024, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S8192x8x128, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S1x1x128, .f32⟩
  | .hbm, ⟨25, _⟩ => ⟨S8192x8x128, .f32⟩
  | .hbm, ⟨26, _⟩ => ⟨S8192x8x128, .f32⟩
  | .hbm, ⟨27, _⟩ => ⟨S8192x8x128, .f32⟩
  | .hbm, ⟨28, _⟩ => ⟨S8192x8x128, .f32⟩
  | .hbm, ⟨29, _⟩ => ⟨S_, .f32⟩
  | .hbm, ⟨30, _⟩ => ⟨S8192x8x128, .f32⟩
  | .hbm, ⟨31, _⟩ => ⟨S8192x8x128, .f32⟩
  | .hbm, ⟨32, _⟩ => ⟨S_, .f32⟩
  | .hbm, ⟨33, _⟩ => ⟨S8192x8x128, .f32⟩
  | .hbm, ⟨34, _⟩ => ⟨S8192x8x128, .f32⟩
  | .hbm, ⟨35, _⟩ => ⟨S_, .f32⟩
  | .hbm, ⟨36, _⟩ => ⟨S8192x8x128, .f32⟩
  | .hbm, ⟨37, _⟩ => ⟨S8192x8x128, .f32⟩
  | .hbm, ⟨38, _⟩ => ⟨S8192x8x128, .f32⟩
  | .hbm, ⟨39, _⟩ => ⟨S8192x8x128, .f32⟩
  | .hbm, ⟨40, _⟩ => ⟨S8192x8x128, .f32⟩
  | .hbm, ⟨41, _⟩ => ⟨S8192x8x128, .f32⟩
  | .hbm, ⟨42, _⟩ => ⟨S8192x8x128, .f32⟩
  | .hbm, ⟨43, _⟩ => ⟨S8192x8x128, .f32⟩
  | .hbm, ⟨44, _⟩ => ⟨S8192x8x128, .f32⟩
  | .hbm, ⟨45, _⟩ => ⟨S8192x8x128, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S_, .f32⟩
  | .hbm, ⟨50, _⟩ => ⟨S128, .f32⟩
  | .hbm, ⟨51, _⟩ => ⟨S1x1x128, .f32⟩
  | .hbm, ⟨52, _⟩ => ⟨S8192x8x128, .f32⟩
  | .hbm, ⟨53, _⟩ => ⟨S8192x8x128, .f32⟩
  | .hbm, ⟨54, _⟩ => ⟨S_, .f32⟩
  | .hbm, ⟨55, _⟩ => ⟨S128, .f32⟩
  | .hbm, ⟨56, _⟩ => ⟨S8192x8x128, .f32⟩
  | .hbm, ⟨57, _⟩ => ⟨S_, .f32⟩
  | .hbm, ⟨58, _⟩ => ⟨S8192x8, .f32⟩
  | .hbm, ⟨59, _⟩ => ⟨S8192x8x1, .f32⟩
  | .hbm, ⟨60, _⟩ => ⟨S8192x8x128, .f32⟩
  | .hbm, ⟨61, _⟩ => ⟨S8192x8x128, .f32⟩
  | .hbm, ⟨62, _⟩ => ⟨S8192x8x1, .f32⟩
  | .hbm, ⟨63, _⟩ => ⟨S_, .f32⟩
  | .hbm, ⟨64, _⟩ => ⟨S8192x8x1, .f32⟩
  | .hbm, ⟨65, _⟩ => ⟨S8192x8x1, .f32⟩
  | .hbm, ⟨66, _⟩ => ⟨S_, .f32⟩
  | .hbm, ⟨67, _⟩ => ⟨S8192x8, .f32⟩
  | .hbm, ⟨68, _⟩ => ⟨S8192x8x128, .f32⟩
  | .hbm, ⟨69, _⟩ => ⟨S8192x8x128, .f32⟩
  | .hbm, ⟨70, _⟩ => ⟨S8192x8x128, .f32⟩
  | .hbm, ⟨71, _⟩ => ⟨S8192x8x128, .f32⟩
  | .hbm, ⟨72, _⟩ => ⟨S8192x8x128, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== PreB.lean ====
abbrev S8192x9216 : Shape := ⟨2, ![8192, 9216]⟩
abbrev S4x3072 : Shape := ⟨2, ![4, 3072]⟩
abbrev S8192x1024 : Shape := ⟨2, ![8192, 1024]⟩
abbrev S8192x3072 : Shape := ⟨2, ![8192, 3072]⟩
abbrev S8x3072 : Shape := ⟨2, ![8, 3072]⟩
abbrev S1024x128 : Shape := ⟨2, ![1024, 128]⟩
abbrev S8x128 : Shape := ⟨2, ![8, 128]⟩
abbrev S4x128 : Shape := ⟨2, ![4, 128]⟩
abbrev S1032x128 : Shape := ⟨2, ![1032, 128]⟩
abbrev S1x128 : Shape := ⟨2, ![1, 128]⟩
abbrev S1032 : Shape := ⟨1, ![1032]⟩
abbrev S1032x1 : Shape := ⟨2, ![1032, 1]⟩
abbrev S128 : Shape := ⟨1, ![128]⟩
abbrev S1016x128 : Shape := ⟨2, ![1016, 128]⟩

abbrev nBuf : Space → Nat
  | .hbm => 7
  | .vmem => 24
  | .smem => 0
  | _ => 0

abbrev bufTy : (tb : Table) → Fin (tcTables nBuf tb) → BufTy
  | .hbm, ⟨0, _⟩ => ⟨S8192x9216, .f32⟩
  | .hbm, ⟨1, _⟩ => ⟨S4x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x3072, .bf16⟩
  | .hbm, ⟨6, _⟩ => ⟨S8x3072, .f32⟩
  | .local _ .vmem, ⟨0, _⟩ => ⟨S1024x128, .f32⟩
  | .local _ .vmem, ⟨1, _⟩ => ⟨S1024x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S4x128, .f32⟩
  | .local _ .vmem, ⟨7, _⟩ => ⟨S4x128, .f32⟩
  | .local _ .vmem, ⟨8, _⟩ => ⟨S1024x128, .f32⟩
  | .local _ .vmem, ⟨9, _⟩ => ⟨S1024x128, .f32⟩
  | .local _ .vmem, ⟨10, _⟩ => ⟨S8x128, .f32⟩
  | .local _ .vmem, ⟨11, _⟩ => ⟨S8x128, .f32⟩
  | .local _ .vmem, ⟨12, _⟩ => ⟨S1024x128, .f32⟩
  | .local _ .vmem, ⟨13, _⟩ => ⟨S1024x128, .f32⟩
  | .local _ .vmem, ⟨14, _⟩ => ⟨S8x128, .f32⟩
  | .local _ .vmem, ⟨15, _⟩ => ⟨S8x128, .f32⟩
  | .local _ .vmem, ⟨16, _⟩ => ⟨S1024x128, .f32⟩
  | .local _ .vmem, ⟨17, _⟩ => ⟨S1024x128, .f32⟩
  | .local _ .vmem, ⟨18, _⟩ => ⟨S8x128, .f32⟩
  | .local _ .vmem, ⟨19, _⟩ => ⟨S8x128, .f32⟩
  | .local _ .vmem, ⟨20, _⟩ => ⟨S1024x128, .bf16⟩
  | .local _ .vmem, ⟨21, _⟩ => ⟨S1024x128, .bf16⟩
  | .local _ .vmem, ⟨22, _⟩ => ⟨S8x128, .f32⟩
  | .local _ .vmem, ⟨23, _⟩ => ⟨S8x128, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![24, 8], ![false, false]⟩

def k0_cond2 (i : grid0.Coords) : BitVec 1 :=
  let arg0 : BitVec 32 := BitVec.ofNat 32 (i 0).val
  let c8_i32 : BitVec 32 := 8#32
  let v54 : BitVec 1 := Scalar.cmpi .slt arg0 c8_i32
  let v55 : BitVec 32 := Scalar.extui v54
  let c0_i32_18 : BitVec 32 := 0#32
  let v56 : BitVec 1 := Scalar.cmpi .ne v55 c0_i32_18
  v56

def k0_cond3 (i : grid0.Coords) : BitVec 1 :=
  let arg0 : BitVec 32 := BitVec.ofNat 32 (i 0).val
  let c8_i32_19 : BitVec 32 := 8#32
  let v57 : BitVec 1 := Scalar.cmpi .sge arg0 c8_i32_19
  let c16_i32 : BitVec 32 := 16#32
  let v58 : BitVec 1 := Scalar.cmpi .slt arg0 c16_i32
  let v59 : BitVec 1 := Scalar.andi v57 v58
  let v60 : BitVec 32 := Scalar.extui v59
  let c0_i32_20 : BitVec 32 := 0#32
  let v61 : BitVec 1 := Scalar.cmpi .ne v60 c0_i32_20
  v61

def k0_cond4 (i : grid0.Coords) : BitVec 1 :=
  let arg0 : BitVec 32 := BitVec.ofNat 32 (i 0).val
  let c16_i32_21 : BitVec 32 := 16#32
  let v62 : BitVec 1 := Scalar.cmpi .sge arg0 c16_i32_21
  let v63 : BitVec 32 := Scalar.extui v62
  let c0_i32_22 : BitVec 32 := 0#32
  let v64 : BitVec 1 := Scalar.cmpi .ne v63 c0_i32_22
  v64

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v2 : BitVec 32 := Scalar.extui v0
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi arg0 c8_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c8_i32 : BitVec 32 := 8#32
  let v3 : BitVec 32 := Scalar.addi arg0 c8_i32
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let v3 : BitVec 32 := Scalar.subi arg0 c0_i32
  let c0_i32_0 : BitVec 32 := 0#32
  let c7_i32 : BitVec 32 := 7#32
  let v4 : BitVec 32 := Scalar.maxsi c0_i32_0 v3
  let v5 : BitVec 32 := Scalar.minsi c7_i32 v4
  let c0_i32_1 : BitVec 32 := 0#32
  ![v2.toNat, v5.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg1.toNat, v2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c8_i32 : BitVec 32 := 8#32
  let v3 : BitVec 32 := Scalar.subi arg0 c8_i32
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  ![v2.toNat, v5.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg1.toNat, v2.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c16_i32 : BitVec 32 := 16#32
  let v3 : BitVec 32 := Scalar.subi arg0 c16_i32
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  ![v2.toNat, v5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PreBRefIdeal.lean ====
abbrev S8192x9216 : Shape := ⟨2, ![8192, 9216]⟩
abbrev S4x3072 : Shape := ⟨2, ![4, 3072]⟩
abbrev S8192x1024 : Shape := ⟨2, ![8192, 1024]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8192x8x128 : Shape := ⟨3, ![8192, 8, 128]⟩
abbrev S8192x8 : Shape := ⟨2, ![8192, 8]⟩
abbrev S8192x8x1 : Shape := ⟨3, ![8192, 8, 1]⟩
abbrev S8x3072 : Shape := ⟨2, ![8, 3072]⟩

abbrev nBuf : Space → Nat
  | .hbm => 194
  | .vmem => 0
  | .smem => 0
  | _ => 0

abbrev hbmTy0_0 (i : Nat) : BufTy := match i % 128 with
  | 0 => ⟨S8192x9216, .f32⟩
  | 1 => ⟨S4x3072, .f32⟩
  | 2 => ⟨S8192x1024, .f32⟩
  | 3 => ⟨S8192x1024, .f32⟩
  | 4 => ⟨S8192x1024, .f32⟩
  | 5 => ⟨S8192x3072, .f32⟩
  | 6 => ⟨S_, .f32⟩
  | 7 => ⟨S3x3072, .f32⟩
  | 8 => ⟨S8195x3072, .f32⟩
  | 9 => ⟨S_, .f32⟩
  | 10 => ⟨S3x3072, .f32⟩
  | 11 => ⟨S1x3072, .f32⟩
  | 12 => ⟨S3072, .f32⟩
  | 13 => ⟨S8192x3072, .f32⟩
  | 14 => ⟨S1x3072, .f32⟩
  | 15 => ⟨S8192x3072, .f32⟩
  | 16 => ⟨S8192x3072, .f32⟩
  | 17 => ⟨S1x3072, .f32⟩
  | 18 => ⟨S3072, .f32⟩
  | 19 => ⟨S8192x3072, .f32⟩
  | 20 => ⟨S1x3072, .f32⟩
  | 21 => ⟨S8192x3072, .f32⟩
  | 22 => ⟨S8192x3072, .f32⟩
  | 23 => ⟨S8192x3072, .f32⟩
  | 24 => ⟨S1x3072, .f32⟩
  | 25 => ⟨S3072, .f32⟩
  | 26 => ⟨S8192x3072, .f32⟩
  | 27 => ⟨S1x3072, .f32⟩
  | 28 => ⟨S8192x3072, .f32⟩
  | 29 => ⟨S8192x3072, .f32⟩
  | 30 => ⟨S8192x3072, .f32⟩
  | 31 => ⟨S1x3072, .f32⟩
  | 32 => ⟨S3072, .f32⟩
  | 33 => ⟨S8192x3072, .f32⟩
  | 34 => ⟨S1x3072, .f32⟩
  | 35 => ⟨S8192x3072, .f32⟩
  | 36 => ⟨S8192x3072, .f32⟩
  | 37 => ⟨S8192x3072, .f32⟩
  | 38 => ⟨S8192x3072, .f32⟩
  | 39 => ⟨S8192x3072, .f32⟩
  | 40 => ⟨S_, .f32⟩
  | 41 => ⟨S8192x3072, .f32⟩
  | 42 => ⟨S8192x3072, .f32⟩
  | 43 => ⟨S_, .f32⟩
  | 44 => ⟨S8192x3072, .f32⟩
  | 45 => ⟨S8192x3072, .f32⟩
  | 46 => ⟨S_, .f32⟩
  | 47 => ⟨S8192x3072, .f32⟩
  | 48 => ⟨S8192x3072, .f32⟩
  | 49 => ⟨S8192x3072, .f32⟩
  | 50 => ⟨S8192x3072, .f32⟩
  | 51 => ⟨S8192x1024, .f32⟩
  | 52 => ⟨S8192x1024, .f32⟩
  | 53 => ⟨S8192x1024, .f32⟩
  | 54 => ⟨S8192x8x128, .f32⟩
  | 55 => ⟨S8192x8x128, .f32⟩
  | 56 => ⟨S_, .f32⟩
  | 57 => ⟨S8192x8, .f32⟩
  | 58 => ⟨S8192x8x1, .f32⟩
  | 59 => ⟨S_, .f32⟩
  | 60 => ⟨S8192x8x1, .f32⟩
  | 61 => ⟨S8192x8x1, .f32⟩
  | 62 => ⟨S8192x8x1, .f32⟩
  | 63 => ⟨S8192x8x1, .f32⟩
  | 64 => ⟨S_, .f32⟩
  | 65 => ⟨S8192x8x1, .f32⟩
  | 66 => ⟨S8192x8x1, .f32⟩
  | 67 => ⟨S8192x8x128, .f32⟩
  | 68 => ⟨S8192x8x128, .f32⟩
  | 69 => ⟨S_, .f32⟩
  | 70 => ⟨S8192x8x128, .f32⟩
  | 71 => ⟨S8192x8x128, .f32⟩
  | 72 => ⟨S8192x8x128, .f32⟩
  | 73 => ⟨S8192x8x128, .f32⟩
  | 74 => ⟨S_, .f32⟩
  | 75 => ⟨S8192x8, .f32⟩
  | 76 => ⟨S8192x8x1, .f32⟩
  | 77 => ⟨S_, .f32⟩
  | 78 => ⟨S8192x8x1, .f32⟩
  | 79 => ⟨S8192x8x1, .f32⟩
  | 80 => ⟨S8192x8x1, .f32⟩
  | 81 => ⟨S8192x8x1, .f32⟩
  | 82 => ⟨S_, .f32⟩
  | 83 => ⟨S8192x8x1, .f32⟩
  | 84 => ⟨S8192x8x1, .f32⟩
  | 85 => ⟨S8192x8x128, .f32⟩
  | 86 => ⟨S8192x8x128, .f32⟩
  | 87 => ⟨S8192x8x128, .f32⟩
  | 88 => ⟨S8192x8x128, .f32⟩
  | 89 => ⟨S8192x8x128, .f32⟩
  | 90 => ⟨S8192x8x128, .f32⟩
  | 91 => ⟨S8192x1024, .f32⟩
  | 92 => ⟨S8192x8x128, .f32⟩
  | 93 => ⟨S_, .f32⟩
  | 94 => ⟨S8192x8, .f32⟩
  | 95 => ⟨S8192x8x1, .f32⟩
  | 96 => ⟨S8192x8x128, .f32⟩
  | 97 => ⟨S8192x8x128, .f32⟩
  | 98 => ⟨S8192x8x1, .f32⟩
  | 99 => ⟨S_, .f32⟩
  | 100 => ⟨S8192x8, .f32⟩
  | 101 => ⟨S8192x8x128, .f32⟩
  | 102 => ⟨S8192x8x128, .f32⟩
  | 103 => ⟨S8192x8x128, .f32⟩
  | 104 => ⟨S8192x8x128, .f32⟩
  | 105 => ⟨S8192x8x128, .f32⟩
  | 106 => ⟨S8192x1024, .f32⟩
  | 107 => ⟨S_, .f32⟩
  | 108 => ⟨S8192x8x128, .f32⟩
  | 109 => ⟨S8192x8x128, .f32⟩
  | 110 => ⟨S8192x8x128, .f32⟩
  | 111 => ⟨S_, .f32⟩
  | 112 => ⟨S8192x8, .f32⟩
  | 113 => ⟨S8192x8x1, .f32⟩
  | 114 => ⟨S8192x8x128, .f32⟩
  | 115 => ⟨S8192x8x128, .f32⟩
  | 116 => ⟨S8192x8x1, .f32⟩
  | 117 => ⟨S_, .f32⟩
  | 118 => ⟨S8192x8, .f32⟩
  | 119 => ⟨S8192x8x128, .f32⟩
  | 120 => ⟨S8192x8x128, .f32⟩
  | 121 => ⟨S8192x8x128, .f32⟩
  | 122 => ⟨S8192x8x128, .f32⟩
  | 123 => ⟨S8192x8x128, .f32⟩
  | 124 => ⟨S8192x1024, .f32⟩
  | 125 => ⟨S8192x3072, .f32⟩
  | 126 => ⟨S8192x3072, .f32⟩
  | 127 => ⟨S8192x3072, .f32⟩
  | _ => ⟨S8192x9216, .f32⟩

abbrev hbmTy0_1 (i : Nat) : BufTy := match i % 128 with
  | 0 => ⟨S8192x3072, .f32⟩
  | 1 => ⟨S8192x3072, .f32⟩
  | 2 => ⟨S8192x3072, .f32⟩
  | 3 => ⟨S8192x3072, .f32⟩
  | 4 => ⟨S8192x3072, .f32⟩
  | 5 => ⟨S_, .f32⟩
  | 6 => ⟨S3072, .f32⟩
  | 7 => ⟨S1x3072, .f32⟩
  | 8 => ⟨S_, .f32⟩
  | 9 => ⟨S3072, .f32⟩
  | 10 => ⟨S_, .f32⟩
  | 11 => ⟨S8195x3072, .f32⟩
  | 12 => ⟨S1x3072, .f32⟩
  | 13 => ⟨S_, .f32⟩
  | 14 => ⟨S4x3072, .f32⟩
  | 15 => ⟨S8192x3072, .f32⟩
  | 16 => ⟨S8192x3072, .f32⟩
  | 17 => ⟨S8192x3072, .f32⟩
  | 18 => ⟨S_, .f32⟩
  | 19 => ⟨S3072, .f32⟩
  | 20 => ⟨S1x3072, .f32⟩
  | 21 => ⟨S_, .f32⟩
  | 22 => ⟨S3072, .f32⟩
  | 23 => ⟨S_, .f32⟩
  | 24 => ⟨S8195x3072, .f32⟩
  | 25 => ⟨S8195x3072, .f32⟩
  | 26 => ⟨S1x3072, .f32⟩
  | 27 => ⟨S_, .f32⟩
  | 28 => ⟨S4x3072, .f32⟩
  | 29 => ⟨S4x3072, .f32⟩
  | 30 => ⟨S8192x3072, .f32⟩
  | 31 => ⟨S8192x3072, .f32⟩
  | 32 => ⟨S8192x3072, .f32⟩
  | 33 => ⟨S_, .f32⟩
  | 34 => ⟨S3072, .f32⟩
  | 35 => ⟨S1x3072, .f32⟩
  | 36 => ⟨S_, .f32⟩
  | 37 => ⟨S3072, .f32⟩
  | 38 => ⟨S_, .f32⟩
  | 39 => ⟨S8195x3072, .f32⟩
  | 40 => ⟨S8195x3072, .f32⟩
  | 41 => ⟨S1x3072, .f32⟩
  | 42 => ⟨S_, .f32⟩
  | 43 => ⟨S4x3072, .f32⟩
  | 44 => ⟨S4x3072, .f32⟩
  | 45 => ⟨S8192x3072, .f32⟩
  | 46 => ⟨S8192x3072, .f32⟩
  | 47 => ⟨S8192x3072, .f32⟩
  | 48 => ⟨S_, .f32⟩
  | 49 => ⟨S3072, .f32⟩
  | 50 => ⟨S1x3072, .f32⟩
  | 51 => ⟨S_, .f32⟩
  | 52 => ⟨S3072, .f32⟩
  | 53 => ⟨S_, .f32⟩
  | 54 => ⟨S8195x3072, .f32⟩
  | 55 => ⟨S8195x3072, .f32⟩
  | 56 => ⟨S1x3072, .f32⟩
  | 57 => ⟨S_, .f32⟩
  | 58 => ⟨S4x3072, .f32⟩
  | 59 => ⟨S4x3072, .f32⟩
  | 60 => ⟨S3x3072, .f32⟩
  | 61 => ⟨S8192x3072, .f32⟩
  | 62 => ⟨S8192x3072, .bf16⟩
  | 63 => ⟨S_, .f32⟩
  | 64 => ⟨S4x3072, .f32⟩
  | 65 => ⟨S8x3072, .f32⟩
  | _ => ⟨S8192x9216, .f32⟩

abbrev hbmTy (i : Nat) : BufTy := match i / 128 with
  | 0 => hbmTy0_0 i
  | 1 => hbmTy0_1 i
  | _ => ⟨S8192x9216, .f32⟩

abbrev bufTy : (tb : Table) → Fin (tcTables nBuf tb) → BufTy
  | .hbm, ⟨i, _⟩ => hbmTy i
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_8 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_9 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_12 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_13 : Ref sig .tc := ⟨.hbm, 133, rfl⟩
abbrev main_v99 : Ref sig .tc := ⟨.hbm, 134, rfl⟩
abbrev main_v100 : Ref sig .tc := ⟨.hbm, 135, rfl⟩
abbrev main_cst_14 : Ref sig .tc := ⟨.hbm, 136, rfl⟩
abbrev main_v101 : Ref sig .tc := ⟨.hbm, 137, rfl⟩
abbrev main_cst_15 : Ref sig .tc := ⟨.hbm, 138, rfl⟩
abbrev main_v102 : Ref sig .tc := ⟨.hbm, 139, rfl⟩
abbrev main_v103 : Ref sig .tc := ⟨.hbm, 140, rfl⟩
abbrev main_cst_16 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_cst_18 : Ref sig .tc := ⟨.hbm, 149, rfl⟩
abbrev main_v110 : Ref sig .tc := ⟨.hbm, 150, rfl⟩
abbrev main_cst_19 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_20 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_21 : Ref sig .tc := ⟨.hbm, 161, rfl⟩
abbrev main_v119 : Ref sig .tc := ⟨.hbm, 162, rfl⟩
abbrev main_v120 : Ref sig .tc := ⟨.hbm, 163, rfl⟩
abbrev main_cst_22 : Ref sig .tc := ⟨.hbm, 164, rfl⟩
abbrev main_v121 : Ref sig .tc := ⟨.hbm, 165, rfl⟩
abbrev main_cst_23 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_24 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_25 : Ref sig .tc := ⟨.hbm, 176, rfl⟩
abbrev main_v130 : Ref sig .tc := ⟨.hbm, 177, rfl⟩
abbrev main_v131 : Ref sig .tc := ⟨.hbm, 178, rfl⟩
abbrev main_cst_26 : Ref sig .tc := ⟨.hbm, 179, rfl⟩
abbrev main_v132 : Ref sig .tc := ⟨.hbm, 180, rfl⟩
abbrev main_cst_27 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_28 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_29 : Ref sig .tc := ⟨.hbm, 191, rfl⟩
abbrev main_v141 : Ref sig .tc := ⟨.hbm, 192, rfl⟩
abbrev main_v142 : Ref sig .tc := ⟨.hbm, 193, rfl⟩

abbrev nD : Nat := 1
abbrev τ : Topo := Topo.v7x

variable {F : FTy → Type} [FloatOps F]
-- ==== FfnY.lean ====
abbrev S8192x11264 : Shape := ⟨2, ![8192, 11264]⟩
abbrev S3x11264 : Shape := ⟨2, ![3, 11264]⟩
abbrev S8192x5632 : Shape := ⟨2, ![8192, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S504x512 : Shape := ⟨2, ![504, 512]⟩

abbrev nBuf : Space → Nat
  | .hbm => 3
  | .vmem => 14
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S8192x5632, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S512x512, .bf16⟩
  | .local _ .vmem, ⟨13, _⟩ => ⟨S512x512, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnYRefIdeal.lean ====
abbrev S8192x11264 : Shape := ⟨2, ![8192, 11264]⟩
abbrev S3x11264 : Shape := ⟨2, ![3, 11264]⟩
abbrev S_ : Shape := ⟨0, ![]⟩
abbrev S2x11264 : Shape := ⟨2, ![2, 11264]⟩
abbrev S8194x11264 : Shape := ⟨2, ![8194, 11264]⟩
abbrev S1x11264 : Shape := ⟨2, ![1, 11264]⟩
abbrev S11264 : Shape := ⟨1, ![11264]⟩
abbrev S8192x5632 : Shape := ⟨2, ![8192, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S_, .f32⟩
  | .hbm, ⟨3, _⟩ => ⟨S2x11264, .f32⟩
  | .hbm, ⟨4, _⟩ => ⟨S8194x11264, .f32⟩
  | .hbm, ⟨5, _⟩ => ⟨S1x11264, .f32⟩
  | .hbm, ⟨6, _⟩ => ⟨S11264, .f32⟩
  | .hbm, ⟨7, _⟩ => ⟨S1x11264, .f32⟩
  | .hbm, ⟨8, _⟩ => ⟨S8192x11264, .f32⟩
  | .hbm, ⟨9, _⟩ => ⟨S8192x11264, .f32⟩
  | .hbm, ⟨10, _⟩ => ⟨S8192x11264, .f32⟩
  | .hbm, ⟨11, _⟩ => ⟨S_, .f32⟩
  | .hbm, ⟨12, _⟩ => ⟨S8192x11264, .f32⟩
  | .hbm, ⟨13, _⟩ => ⟨S8192x11264, .f32⟩
  | .hbm, ⟨14, _⟩ => ⟨S1x11264, .f32⟩
  | .hbm, ⟨15, _⟩ => ⟨S11264, .f32⟩
  | .hbm, ⟨16, _⟩ => ⟨S1x11264, .f32⟩
  | .hbm, ⟨17, _⟩ => ⟨S8192x11264, .f32⟩
  | .hbm, ⟨18, _⟩ => ⟨S8192x11264, .f32⟩
  | .hbm, ⟨19, _⟩ => ⟨S8192x11264, .f32⟩
  | .hbm, ⟨20, _⟩ => ⟨S8192x11264, .f32⟩
  | .hbm, ⟨21, _⟩ => ⟨S1x11264, .f32⟩
  | .hbm, ⟨22, _⟩ => ⟨S11264, .f32⟩
  | .hbm, ⟨23, _⟩ => ⟨S1x11264, .f32⟩
  | .hbm, ⟨24, _⟩ => ⟨S8192x11264, .f32⟩
  | .hbm, ⟨25, _⟩ => ⟨S8192x11264, .f32⟩
  | .hbm, ⟨26, _⟩ => ⟨S8192x11264, .f32⟩
  | .hbm, ⟨27, _⟩ => ⟨S8192x11264, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== NormY.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== NormYRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MergeY.lean ====
abbrev S8192x4096 : Shape := ⟨2, ![8192, 4096]⟩
abbrev S8192x2048 : Shape := ⟨2, ![8192, 2048]⟩
abbrev S8192x9216 : Shape := ⟨2, ![8192, 9216]⟩
abbrev S512x512 : Shape := ⟨2, ![512, 512]⟩

abbrev nBuf : Space → Nat
  | .hbm => 4
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x9216, .f32⟩
  | .hbm, ⟨3, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeYRefIdeal.lean ====
abbrev S8192x4096 : Shape := ⟨2, ![8192, 4096]⟩
abbrev S8192x2048 : Shape := ⟨2, ![8192, 2048]⟩
abbrev S8192x9216 : Shape := ⟨2, ![8192, 9216]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x9216, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== LossB.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_19 : BitVec 32 := 0#32
  let v54 : BitVec 1 := Scalar.cmpi .ne v53 c0_i32_19
  v54

def k0_cond2 (i : grid0.Coords) : BitVec 1 :=
  let arg0 : BitVec 32 := BitVec.ofNat 32 (i 0).val
  let c0_i32_20 : BitVec 32 := 0#32
  let v55 : BitVec 1 := Scalar.cmpi .sgt arg0 c0_i32_20
  let v56 : BitVec 32 := Scalar.extui v55
  let c0_i32_21 : BitVec 32 := 0#32
  let v57 : BitVec 1 := Scalar.cmpi .ne v56 c0_i32_21
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossBRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== PostY.lean ====
abbrev S8192x1024 : Shape := ⟨2, ![8192, 1024]⟩
abbrev S8192x9216 : Shape := ⟨2, ![8192, 9216]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S128, .f32⟩
  | .hbm, ⟨3, _⟩ => ⟨S1x128, .f32⟩
  | .hbm, ⟨4, _⟩ => ⟨S8192x1024, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PostYRefIdeal.lean ====
abbrev S8192x1024 : Shape := ⟨2, ![8192, 1024]⟩
abbrev S8192x9216 : Shape := ⟨2, ![8192, 9216]⟩
abbrev S128 : Shape := ⟨1, ![128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S128, .f32⟩
  | .hbm, ⟨3, _⟩ => ⟨S8192x8x128, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x128, .f32⟩
  | .hbm, ⟨18, _⟩ => ⟨S8192x8x128, .f32⟩
  | .hbm, ⟨19, _⟩ => ⟨S1x1x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== PreY.lean ====
abbrev S8192x9216 : Shape := ⟨2, ![8192, 9216]⟩
abbrev S4x3072 : Shape := ⟨2, ![4, 3072]⟩
abbrev S8192x3072 : Shape := ⟨2, ![8192, 3072]⟩
abbrev S1024x128 : Shape := ⟨2, ![1024, 128]⟩
abbrev S8x128 : Shape := ⟨2, ![8, 128]⟩
abbrev S4x128 : Shape := ⟨2, ![4, 128]⟩
abbrev S1x128 : Shape := ⟨2, ![1, 128]⟩
abbrev S1016x128 : Shape := ⟨2, ![1016, 128]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x9216, .f32⟩
  | .hbm, ⟨1, _⟩ => ⟨S4x3072, .f32⟩
  | .hbm, ⟨2, _⟩ => ⟨S8192x3072, .f32⟩
  | .local _ .vmem, ⟨0, _⟩ => ⟨S1024x128, .f32⟩
  | .local _ .vmem, ⟨1, _⟩ => ⟨S1024x128, .f32⟩
  | .local _ .vmem, ⟨2, _⟩ => ⟨S8x128, .f32⟩
  | .local _ .vmem, ⟨3, _⟩ => ⟨S8x128, .f32⟩
  | .local _ .vmem, ⟨4, _⟩ => ⟨S4x128, .f32⟩
  | .local _ .vmem, ⟨5, _⟩ => ⟨S4x128, .f32⟩
  | .local _ .vmem, ⟨6, _⟩ => ⟨S1024x128, .f32⟩
  | .local _ .vmem, ⟨7, _⟩ => ⟨S1024x128, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 8], ![false, false]⟩

def k0_cond1 (i : grid0.Coords) : BitVec 1 :=
  let arg0 : BitVec 32 := BitVec.ofNat 32 (i 0).val
  let c8_i32 : BitVec 32 := 8#32
  let v47 : BitVec 1 := Scalar.cmpi .slt arg0 c8_i32
  let v48 : BitVec 32 := Scalar.extui v47
  let c0_i32_14 : BitVec 32 := 0#32
  let v49 : BitVec 1 := Scalar.cmpi .ne v48 c0_i32_14
  v49

def k0_cond2 (i : grid0.Coords) : BitVec 1 :=
  let arg0 : BitVec 32 := BitVec.ofNat 32 (i 0).val
  let c8_i32_15 : BitVec 32 := 8#32
  let v50 : BitVec 1 := Scalar.cmpi .sge arg0 c8_i32_15
  let c16_i32 : BitVec 32 := 16#32
  let v51 : BitVec 1 := Scalar.cmpi .slt arg0 c16_i32
  let v52 : BitVec 1 := Scalar.andi v50 v51
  let v53 : BitVec 32 := Scalar.extui v52
  let c0_i32_16 : BitVec 32 := 0#32
  let v54 : BitVec 1 := Scalar.cmpi .ne v53 c0_i32_16
  v54

def k0_cond3 (i : grid0.Coords) : BitVec 1 :=
  let arg0 : BitVec 32 := BitVec.ofNat 32 (i 0).val
  let c16_i32_17 : BitVec 32 := 16#32
  let v55 : BitVec 1 := Scalar.cmpi .sge arg0 c16_i32_17
  let v56 : BitVec 32 := Scalar.extui v55
  let c0_i32_18 : BitVec 32 := 0#32
  let v57 : BitVec 1 := Scalar.cmpi .ne v56 c0_i32_18
  v57

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi arg0 c8_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PreYRefIdeal.lean ====
abbrev S8192x9216 : Shape := ⟨2, ![8192, 9216]⟩
abbrev S4x3072 : Shape := ⟨2, ![4, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S4x3072, .f32⟩
  | .hbm, ⟨2, _⟩ => ⟨S8192x3072, .f32⟩
  | .hbm, ⟨3, _⟩ => ⟨S_, .f32⟩
  | .hbm, ⟨4, _⟩ => ⟨S3x3072, .f32⟩
  | .hbm, ⟨5, _⟩ => ⟨S8195x3072, .f32⟩
  | .hbm, ⟨6, _⟩ => ⟨S1x3072, .f32⟩
  | .hbm, ⟨7, _⟩ => ⟨S3072, .f32⟩
  | .hbm, ⟨8, _⟩ => ⟨S8192x3072, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S1x3072, .f32⟩
  | .hbm, ⟨13, _⟩ => ⟨S3072, .f32⟩
  | .hbm, ⟨14, _⟩ => ⟨S8192x3072, .f32⟩
  | .hbm, ⟨15, _⟩ => ⟨S1x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S1x3072, .f32⟩
  | .hbm, ⟨27, _⟩ => ⟨S3072, .f32⟩
  | .hbm, ⟨28, _⟩ => ⟨S8192x3072, .f32⟩
  | .hbm, ⟨29, _⟩ => ⟨S1x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S_, .f32⟩
  | .hbm, ⟨36, _⟩ => ⟨S8192x3072, .f32⟩
  | .hbm, ⟨37, _⟩ => ⟨S8192x3072, .f32⟩
  | .hbm, ⟨38, _⟩ => ⟨S_, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x8x128, .f32⟩
  | .hbm, ⟨46, _⟩ => ⟨S8192x8x128, .f32⟩
  | .hbm, ⟨47, _⟩ => ⟨S_, .f32⟩
  | .hbm, ⟨48, _⟩ => ⟨S8192x8, .f32⟩
  | .hbm, ⟨49, _⟩ => ⟨S8192x8x1, .f32⟩
  | .hbm, ⟨50, _⟩ => ⟨S_, .f32⟩
  | .hbm, ⟨51, _⟩ => ⟨S8192x8x1, .f32⟩
  | .hbm, ⟨52, _⟩ => ⟨S8192x8x1, .f32⟩
  | .hbm, ⟨53, _⟩ => ⟨S8192x8x1, .f32⟩
  | .hbm, ⟨54, _⟩ => ⟨S8192x8x128, .f32⟩
  | .hbm, ⟨55, _⟩ => ⟨S8192x8x128, .f32⟩
  | .hbm, ⟨56, _⟩ => ⟨S_, .f32⟩
  | .hbm, ⟨57, _⟩ => ⟨S8192x8x128, .f32⟩
  | .hbm, ⟨58, _⟩ => ⟨S8192x8x128, .f32⟩
  | .hbm, ⟨59, _⟩ => ⟨S8192x8x128, .f32⟩
  | .hbm, ⟨60, _⟩ => ⟨S8192x8x128, .f32⟩
  | .hbm, ⟨61, _⟩ => ⟨S_, .f32⟩
  | .hbm, ⟨62, _⟩ => ⟨S8192x8, .f32⟩
  | .hbm, ⟨63, _⟩ => ⟨S8192x8x1, .f32⟩
  | .hbm, ⟨64, _⟩ => ⟨S_, .f32⟩
  | .hbm, ⟨65, _⟩ => ⟨S8192x8x1, .f32⟩
  | .hbm, ⟨66, _⟩ => ⟨S8192x8x1, .f32⟩
  | .hbm, ⟨67, _⟩ => ⟨S8192x8x1, .f32⟩
  | .hbm, ⟨68, _⟩ => ⟨S8192x8x128, .f32⟩
  | .hbm, ⟨69, _⟩ => ⟨S8192x8x128, .f32⟩
  | .hbm, ⟨70, _⟩ => ⟨S8192x8x128, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x3072, .f32⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== AdamIn.lean ====
abbrev S4x8192x1154 : Shape := ⟨3, ![4, 8192, 1154]⟩
abbrev S4x2048x1154 : Shape := ⟨3, ![4, 2048, 1154]⟩
abbrev S8192x1154 : Shape := ⟨2, ![8192, 1154]⟩
abbrev S4x64x1154 : Shape := ⟨3, ![4, 64, 1154]⟩
abbrev S64x1154 : Shape := ⟨2, ![64, 1154]⟩
abbrev S1x64x1154 : Shape := ⟨3, ![1, 64, 1154]⟩

abbrev nBuf : Space → Nat
  | .hbm => 11
  | .vmem => 16
  | .smem => 0
  | _ => 0

abbrev bufTy : (tb : Table) → Fin (tcTables nBuf tb) → BufTy
  | .hbm, ⟨0, _⟩ => ⟨S4x8192x1154, .bf16⟩
  | .hbm, ⟨1, _⟩ => ⟨S4x2048x1154, .f32⟩
  | .hbm, ⟨2, _⟩ => ⟨S4x2048x1154, .f32⟩
  | .hbm, ⟨3, _⟩ => ⟨S4x2048x1154, .f32⟩
  | .hbm, ⟨4, _⟩ => ⟨S8192x1154, .f32⟩
  | .hbm, ⟨5, _⟩ => ⟨S8192x1154, .f32⟩
  | .hbm, ⟨6, _⟩ => ⟨S8192x1154, .f32⟩
  | .hbm, ⟨7, _⟩ => ⟨S8192x1154, .f32⟩
  | .hbm, ⟨8, _⟩ => ⟨S8192x1154, .f32⟩
  | .hbm, ⟨9, _⟩ => ⟨S8192x1154, .f32⟩
  | .hbm, ⟨10, _⟩ => ⟨S8192x1154, .f32⟩
  | .local _ .vmem, ⟨0, _⟩ => ⟨S4x64x1154, .bf16⟩
  | .local _ .vmem, ⟨1, _⟩ => ⟨S4x64x1154, .bf16⟩
  | .local _ .vmem, ⟨2, _⟩ => ⟨S64x1154, .f32⟩
  | .local _ .vmem, ⟨3, _⟩ => ⟨S64x1154, .f32⟩
  | .local _ .vmem, ⟨4, _⟩ => ⟨S64x1154, .f32⟩
  | .local _ .vmem, ⟨5, _⟩ => ⟨S64x1154, .f32⟩
  | .local _ .vmem, ⟨6, _⟩ => ⟨S64x1154, .f32⟩
  | .local _ .vmem, ⟨7, _⟩ => ⟨S64x1154, .f32⟩
  | .local _ .vmem, ⟨8, _⟩ => ⟨S64x1154, .f32⟩
  | .local _ .vmem, ⟨9, _⟩ => ⟨S64x1154, .f32⟩
  | .local _ .vmem, ⟨10, _⟩ => ⟨S64x1154, .f32⟩
  | .local _ .vmem, ⟨11, _⟩ => ⟨S64x1154, .f32⟩
  | .local _ .vmem, ⟨12, _⟩ => ⟨S64x1154, .f32⟩
  | .local _ .vmem, ⟨13, _⟩ => ⟨S64x1154, .f32⟩
  | .local _ .vmem, ⟨14, _⟩ => ⟨S64x1154, .f32⟩
  | .local _ .vmem, ⟨15, _⟩ => ⟨S64x1154, .f32⟩
  | _, _ => ⟨S4x8192x1154, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1154 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x8192x1154 : Shape := ⟨3, ![4, 8192, 1154]⟩
abbrev S4x2048x1154 : Shape := ⟨3, ![4, 2048, 1154]⟩
abbrev S_ : Shape := ⟨0, ![]⟩
abbrev S8192x1154 : Shape := ⟨2, ![8192, 1154]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1154, .bf16⟩
  | .hbm, ⟨1, _⟩ => ⟨S4x2048x1154, .f32⟩
  | .hbm, ⟨2, _⟩ => ⟨S4x2048x1154, .f32⟩
  | .hbm, ⟨3, _⟩ => ⟨S4x2048x1154, .f32⟩
  | .hbm, ⟨4, _⟩ => ⟨S4x8192x1154, .f32⟩
  | .hbm, ⟨5, _⟩ => ⟨S_, .f32⟩
  | .hbm, ⟨6, _⟩ => ⟨S8192x1154, .f32⟩
  | .hbm, ⟨7, _⟩ => ⟨S8192x1154, .f32⟩
  | .hbm, ⟨8, _⟩ => ⟨S8192x1154, .f32⟩
  | .hbm, ⟨9, _⟩ => ⟨S8192x1154, .f32⟩
  | .hbm, ⟨10, _⟩ => ⟨S_, .f32⟩
  | .hbm, ⟨11, _⟩ => ⟨S8192x1154, .f32⟩
  | .hbm, ⟨12, _⟩ => ⟨S8192x1154, .f32⟩
  | .hbm, ⟨13, _⟩ => ⟨S_, .f32⟩
  | .hbm, ⟨14, _⟩ => ⟨S8192x1154, .f32⟩
  | .hbm, ⟨15, _⟩ => ⟨S8192x1154, .f32⟩
  | .hbm, ⟨16, _⟩ => ⟨S8192x1154, .f32⟩
  | .hbm, ⟨17, _⟩ => ⟨S_, .f32⟩
  | .hbm, ⟨18, _⟩ => ⟨S8192x1154, .f32⟩
  | .hbm, ⟨19, _⟩ => ⟨S8192x1154, .f32⟩
  | .hbm, ⟨20, _⟩ => ⟨S8192x1154, .f32⟩
  | .hbm, ⟨21, _⟩ => ⟨S_, .f32⟩
  | .hbm, ⟨22, _⟩ => ⟨S8192x1154, .f32⟩
  | .hbm, ⟨23, _⟩ => ⟨S8192x1154, .f32⟩
  | .hbm, ⟨24, _⟩ => ⟨S8192x1154, .f32⟩
  | .hbm, ⟨25, _⟩ => ⟨S_, .f32⟩
  | .hbm, ⟨26, _⟩ => ⟨S8192x1154, .f32⟩
  | .hbm, ⟨27, _⟩ => ⟨S8192x1154, .f32⟩
  | .hbm, ⟨28, _⟩ => ⟨S_, .f32⟩
  | .hbm, ⟨29, _⟩ => ⟨S8192x1154, .f32⟩
  | .hbm, ⟨30, _⟩ => ⟨S8192x1154, .f32⟩
  | .hbm, ⟨31, _⟩ => ⟨S8192x1154, .f32⟩
  | .hbm, ⟨32, _⟩ => ⟨S_, .f32⟩
  | .hbm, ⟨33, _⟩ => ⟨S8192x1154, .f32⟩
  | .hbm, ⟨34, _⟩ => ⟨S8192x1154, .f32⟩
  | .hbm, ⟨35, _⟩ => ⟨S8192x1154, .f32⟩
  | .hbm, ⟨36, _⟩ => ⟨S_, .f32⟩
  | .hbm, ⟨37, _⟩ => ⟨S8192x1154, .f32⟩
  | .hbm, ⟨38, _⟩ => ⟨S8192x1154, .f32⟩
  | .hbm, ⟨39, _⟩ => ⟨S8192x1154, .f32⟩
  | .hbm, ⟨40, _⟩ => ⟨S_, .f32⟩
  | .hbm, ⟨41, _⟩ => ⟨S8192x1154, .f32⟩
  | .hbm, ⟨42, _⟩ => ⟨S8192x1154, .f32⟩
  | _, _ => ⟨S4x8192x1154, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamGlu.lean ====
abbrev S4x4096x512 : Shape := ⟨3, ![4, 4096, 512]⟩
abbrev S4x1024x512 : Shape := ⟨3, ![4, 1024, 512]⟩
abbrev S4096x512 : Shape := ⟨2, ![4096, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 11
  | .vmem => 16
  | .smem => 0
  | _ => 0

abbrev bufTy : (tb : Table) → Fin (tcTables nBuf tb) → BufTy
  | .hbm, ⟨0, _⟩ => ⟨S4x4096x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGluRefIdeal.lean ====
abbrev S4x4096x512 : Shape := ⟨3, ![4, 4096, 512]⟩
abbrev S4x1024x512 : Shape := ⟨3, ![4, 1024, 512]⟩
abbrev S_ : Shape := ⟨0, ![]⟩
abbrev S4096x512 : Shape := ⟨2, ![4096, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamDn.lean ====
abbrev S4x4096x256 : Shape := ⟨3, ![4, 4096, 256]⟩
abbrev S4x1024x256 : Shape := ⟨3, ![4, 1024, 256]⟩
abbrev S4096x256 : Shape := ⟨2, ![4096, 256]⟩
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 11
  | .vmem => 16
  | .smem => 0
  | _ => 0

abbrev bufTy : (tb : Table) → Fin (tcTables nBuf tb) → BufTy
  | .hbm, ⟨0, _⟩ => ⟨S4x4096x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .local _ .vmem, ⟨0, _⟩ => ⟨S4x512x256, .bf16⟩
  | .local _ .vmem, ⟨1, _⟩ => ⟨S4x512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDnRefIdeal.lean ====
abbrev S4x4096x256 : Shape := ⟨3, ![4, 4096, 256]⟩
abbrev S4x1024x256 : Shape := ⟨3, ![4, 1024, 256]⟩
abbrev S_ : Shape := ⟨0, ![]⟩
abbrev S4096x256 : Shape := ⟨2, ![4096, 256]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x4096x256, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamOut.lean ====
abbrev S4x1024x2048 : Shape := ⟨3, ![4, 1024, 2048]⟩
abbrev S4x256x2048 : Shape := ⟨3, ![4, 256, 2048]⟩
abbrev S1024x2048 : Shape := ⟨2, ![1024, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 11
  | .vmem => 16
  | .smem => 0
  | _ => 0

abbrev bufTy : (tb : Table) → Fin (tcTables nBuf tb) → BufTy
  | .hbm, ⟨0, _⟩ => ⟨S4x1024x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x1024x2048 : Shape := ⟨3, ![4, 1024, 2048]⟩
abbrev S4x256x2048 : Shape := ⟨3, ![4, 256, 2048]⟩
abbrev S_ : Shape := ⟨0, ![]⟩
abbrev S1024x2048 : Shape := ⟨2, ![1024, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x1024x2048, .f32⟩
  | .hbm, ⟨5, _⟩ => ⟨S_, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamUp.lean ====
abbrev S4x8192x1408 : Shape := ⟨3, ![4, 8192, 1408]⟩
abbrev S4x2048x1408 : Shape := ⟨3, ![4, 2048, 1408]⟩
abbrev S8192x1408 : Shape := ⟨2, ![8192, 1408]⟩
abbrev S4x64x1408 : Shape := ⟨3, ![4, 64, 1408]⟩
abbrev S64x1408 : Shape := ⟨2, ![64, 1408]⟩
abbrev S1x64x1408 : Shape := ⟨3, ![1, 64, 1408]⟩

abbrev nBuf : Space → Nat
  | .hbm => 11
  | .vmem => 16
  | .smem => 0
  | _ => 0

abbrev bufTy : (tb : Table) → Fin (tcTables nBuf tb) → BufTy
  | .hbm, ⟨0, _⟩ => ⟨S4x8192x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .local _ .vmem, ⟨0, _⟩ => ⟨S4x64x1408, .bf16⟩
  | .local _ .vmem, ⟨1, _⟩ => ⟨S4x64x1408, .bf16⟩
  | .local _ .vmem, ⟨2, _⟩ => ⟨S64x1408, .f32⟩
  | .local _ .vmem, ⟨3, _⟩ => ⟨S64x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S64x1408, .f32⟩
  | .local _ .vmem, ⟨9, _⟩ => ⟨S64x1408, .f32⟩
  | .local _ .vmem, ⟨10, _⟩ => ⟨S64x1408, .f32⟩
  | .local _ .vmem, ⟨11, _⟩ => ⟨S64x1408, .f32⟩
  | .local _ .vmem, ⟨12, _⟩ => ⟨S64x1408, .f32⟩
  | .local _ .vmem, ⟨13, _⟩ => ⟨S64x1408, .f32⟩
  | .local _ .vmem, ⟨14, _⟩ => ⟨S64x1408, .f32⟩
  | .local _ .vmem, ⟨15, _⟩ => ⟨S64x1408, .f32⟩
  | _, _ => ⟨S4x8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4x8192x1408 : Shape := ⟨3, ![4, 8192, 1408]⟩
abbrev S4x2048x1408 : Shape := ⟨3, ![4, 2048, 1408]⟩
abbrev S_ : Shape := ⟨0, ![]⟩
abbrev S8192x1408 : Shape := ⟨2, ![8192, 1408]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x8192x1408, .f32⟩
  | .hbm, ⟨5, _⟩ => ⟨S_, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S_, .f32⟩
  | .hbm, ⟨11, _⟩ => ⟨S8192x1408, .f32⟩
  | .hbm, ⟨12, _⟩ => ⟨S8192x1408, .f32⟩
  | .hbm, ⟨13, _⟩ => ⟨S_, .f32⟩
  | .hbm, ⟨14, _⟩ => ⟨S8192x1408, .f32⟩
  | .hbm, ⟨15, _⟩ => ⟨S8192x1408, .f32⟩
  | .hbm, ⟨16, _⟩ => ⟨S8192x1408, .f32⟩
  | .hbm, ⟨17, _⟩ => ⟨S_, .f32⟩
  | .hbm, ⟨18, _⟩ => ⟨S8192x1408, .f32⟩
  | .hbm, ⟨19, _⟩ => ⟨S8192x1408, .f32⟩
  | .hbm, ⟨20, _⟩ => ⟨S8192x1408, .f32⟩
  | .hbm, ⟨21, _⟩ => ⟨S_, .f32⟩
  | .hbm, ⟨22, _⟩ => ⟨S8192x1408, .f32⟩
  | .hbm, ⟨23, _⟩ => ⟨S8192x1408, .f32⟩
  | .hbm, ⟨24, _⟩ => ⟨S8192x1408, .f32⟩
  | .hbm, ⟨25, _⟩ => ⟨S_, .f32⟩
  | .hbm, ⟨26, _⟩ => ⟨S8192x1408, .f32⟩
  | .hbm, ⟨27, _⟩ => ⟨S8192x1408, .f32⟩
  | .hbm, ⟨28, _⟩ => ⟨S_, .f32⟩
  | .hbm, ⟨29, _⟩ => ⟨S8192x1408, .f32⟩
  | .hbm, ⟨30, _⟩ => ⟨S8192x1408, .f32⟩
  | .hbm, ⟨31, _⟩ => ⟨S8192x1408, .f32⟩
  | .hbm, ⟨32, _⟩ => ⟨S_, .f32⟩
  | .hbm, ⟨33, _⟩ => ⟨S8192x1408, .f32⟩
  | .hbm, ⟨34, _⟩ => ⟨S8192x1408, .f32⟩
  | .hbm, ⟨35, _⟩ => ⟨S8192x1408, .f32⟩
  | .hbm, ⟨36, _⟩ => ⟨S_, .f32⟩
  | .hbm, ⟨37, _⟩ => ⟨S8192x1408, .f32⟩
  | .hbm, ⟨38, _⟩ => ⟨S8192x1408, .f32⟩
  | .hbm, ⟨39, _⟩ => ⟨S8192x1408, .f32⟩
  | .hbm, ⟨40, _⟩ => ⟨S_, .f32⟩
  | .hbm, ⟨41, _⟩ => ⟨S8192x1408, .f32⟩
  | .hbm, ⟨42, _⟩ => ⟨S8192x1408, .f32⟩
  | _, _ => ⟨S4x8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamDown.lean ====
abbrev S4x2816x2048 : Shape := ⟨3, ![4, 2816, 2048]⟩
abbrev S4x704x2048 : Shape := ⟨3, ![4, 704, 2048]⟩
abbrev S2816x2048 : Shape := ⟨2, ![2816, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 11
  | .vmem => 16
  | .smem => 0
  | _ => 0

abbrev bufTy : (tb : Table) → Fin (tcTables nBuf tb) → BufTy
  | .hbm, ⟨0, _⟩ => ⟨S4x2816x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S4x2816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![44], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S4x2816x2048 : Shape := ⟨3, ![4, 2816, 2048]⟩
abbrev S4x704x2048 : Shape := ⟨3, ![4, 704, 2048]⟩
abbrev S_ : Shape := ⟨0, ![]⟩
abbrev S2816x2048 : Shape := ⟨2, ![2816, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2816x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x2816x2048, .f32⟩
  | .hbm, ⟨5, _⟩ => ⟨S_, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S_, .f32⟩
  | .hbm, ⟨11, _⟩ => ⟨S2816x2048, .f32⟩
  | .hbm, ⟨12, _⟩ => ⟨S2816x2048, .f32⟩
  | .hbm, ⟨13, _⟩ => ⟨S_, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S_, .f32⟩
  | .hbm, ⟨18, _⟩ => ⟨S2816x2048, .f32⟩
  | .hbm, ⟨19, _⟩ => ⟨S2816x2048, .f32⟩
  | .hbm, ⟨20, _⟩ => ⟨S2816x2048, .f32⟩
  | .hbm, ⟨21, _⟩ => ⟨S_, .f32⟩
  | .hbm, ⟨22, _⟩ => ⟨S2816x2048, .f32⟩
  | .hbm, ⟨23, _⟩ => ⟨S2816x2048, .f32⟩
  | .hbm, ⟨24, _⟩ => ⟨S2816x2048, .f32⟩
  | .hbm, ⟨25, _⟩ => ⟨S_, .f32⟩
  | .hbm, ⟨26, _⟩ => ⟨S2816x2048, .f32⟩
  | .hbm, ⟨27, _⟩ => ⟨S2816x2048, .f32⟩
  | .hbm, ⟨28, _⟩ => ⟨S_, .f32⟩
  | .hbm, ⟨29, _⟩ => ⟨S2816x2048, .f32⟩
  | .hbm, ⟨30, _⟩ => ⟨S2816x2048, .f32⟩
  | .hbm, ⟨31, _⟩ => ⟨S2816x2048, .f32⟩
  | .hbm, ⟨32, _⟩ => ⟨S_, .f32⟩
  | .hbm, ⟨33, _⟩ => ⟨S2816x2048, .f32⟩
  | .hbm, ⟨34, _⟩ => ⟨S2816x2048, .f32⟩
  | .hbm, ⟨35, _⟩ => ⟨S2816x2048, .f32⟩
  | .hbm, ⟨36, _⟩ => ⟨S_, .f32⟩
  | .hbm, ⟨37, _⟩ => ⟨S2816x2048, .f32⟩
  | .hbm, ⟨38, _⟩ => ⟨S2816x2048, .f32⟩
  | .hbm, ⟨39, _⟩ => ⟨S2816x2048, .f32⟩
  | .hbm, ⟨40, _⟩ => ⟨S_, .f32⟩
  | .hbm, ⟨41, _⟩ => ⟨S2816x2048, .f32⟩
  | .hbm, ⟨42, _⟩ => ⟨S2816x2048, .f32⟩
  | _, _ => ⟨S4x2816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamS.lean ====
abbrev S9216x128 : Shape := ⟨2, ![9216, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S9216x128, .f32⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S9216x128, .f32⟩
  | .hbm, ⟨5, _⟩ => ⟨S9216x128, .f32⟩
  | .hbm, ⟨6, _⟩ => ⟨S9216x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S9216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSRefIdeal.lean ====
abbrev S9216x128 : Shape := ⟨2, ![9216, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S9216x128, .f32⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S_, .f32⟩
  | .hbm, ⟨5, _⟩ => ⟨S9216x128, .f32⟩
  | .hbm, ⟨6, _⟩ => ⟨S9216x128, .f32⟩
  | .hbm, ⟨7, _⟩ => ⟨S_, .f32⟩
  | .hbm, ⟨8, _⟩ => ⟨S9216x128, .f32⟩
  | .hbm, ⟨9, _⟩ => ⟨S9216x128, .f32⟩
  | .hbm, ⟨10, _⟩ => ⟨S9216x128, .f32⟩
  | .hbm, ⟨11, _⟩ => ⟨S_, .f32⟩
  | .hbm, ⟨12, _⟩ => ⟨S9216x128, .f32⟩
  | .hbm, ⟨13, _⟩ => ⟨S9216x128, .f32⟩
  | .hbm, ⟨14, _⟩ => ⟨S9216x128, .f32⟩
  | .hbm, ⟨15, _⟩ => ⟨S_, .f32⟩
  | .hbm, ⟨16, _⟩ => ⟨S9216x128, .f32⟩
  | .hbm, ⟨17, _⟩ => ⟨S9216x128, .f32⟩
  | .hbm, ⟨18, _⟩ => ⟨S9216x128, .f32⟩
  | .hbm, ⟨19, _⟩ => ⟨S_, .f32⟩
  | .hbm, ⟨20, _⟩ => ⟨S9216x128, .f32⟩
  | .hbm, ⟨21, _⟩ => ⟨S9216x128, .f32⟩
  | .hbm, ⟨22, _⟩ => ⟨S_, .f32⟩
  | .hbm, ⟨23, _⟩ => ⟨S9216x128, .f32⟩
  | .hbm, ⟨24, _⟩ => ⟨S9216x128, .f32⟩
  | .hbm, ⟨25, _⟩ => ⟨S9216x128, .f32⟩
  | .hbm, ⟨26, _⟩ => ⟨S_, .f32⟩
  | .hbm, ⟨27, _⟩ => ⟨S9216x128, .f32⟩
  | .hbm, ⟨28, _⟩ => ⟨S9216x128, .f32⟩
  | .hbm, ⟨29, _⟩ => ⟨S9216x128, .f32⟩
  | .hbm, ⟨30, _⟩ => ⟨S_, .f32⟩
  | .hbm, ⟨31, _⟩ => ⟨S9216x128, .f32⟩
  | .hbm, ⟨32, _⟩ => ⟨S9216x128, .f32⟩
  | .hbm, ⟨33, _⟩ => ⟨S9216x128, .f32⟩
  | .hbm, ⟨34, _⟩ => ⟨S_, .f32⟩
  | .hbm, ⟨35, _⟩ => ⟨S9216x128, .f32⟩
  | .hbm, ⟨36, _⟩ => ⟨S9216x128, .f32⟩
  | _, _ => ⟨S9216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumS.lean ====
abbrev S8x10240x128 : Shape := ⟨3, ![8, 10240, 128]⟩
abbrev S10240x128 : Shape := ⟨2, ![10240, 128]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x10240x128, .f32⟩
  | .hbm, ⟨1, _⟩ => ⟨S10240x128, .f32⟩
  | .local _ .vmem, ⟨0, _⟩ => ⟨S8x1024x128, .f32⟩
  | .local _ .vmem, ⟨1, _⟩ => ⟨S8x1024x128, .f32⟩
  | .local _ .vmem, ⟨2, _⟩ => ⟨S1024x128, .f32⟩
  | .local _ .vmem, ⟨3, _⟩ => ⟨S1024x128, .f32⟩
  | _, _ => ⟨S8x10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSRefIdeal.lean ====
abbrev S8x10240x128 : Shape := ⟨3, ![8, 10240, 128]⟩
abbrev S_ : Shape := ⟨0, ![]⟩
abbrev S10240x128 : Shape := ⟨2, ![10240, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x10240x128, .f32⟩
  | .hbm, ⟨1, _⟩ => ⟨S_, .f32⟩
  | .hbm, ⟨2, _⟩ => ⟨S10240x128, .f32⟩
  | _, _ => ⟨S8x10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shift.lean ====
/-
  A column block shifted down by `k` rows with the rows of the block before it put in front, read at an index; and a
  block rotated up by `k` rows, cut to its first rows. Both are stated for any number of rows and columns.
-/
module

public import Idealize.ShloMosaic.Lib.Pipeline.Value
public import Idealize.ShloMosaic.Lib.KernelVsHost
public import Idealize.ShloMosaic.Lib.Pointwise

@[expose] public section

namespace Cert.Shift

open Idealize.ShloMosaic

variable {α : Type}

/-- A row number below 8 is signed-less than a row count below 8 exactly when it is less. -/
theorem slt_small (a k : ℕ) (ha : a < 8) (hk : k < 8) :
    IntOp.cmpi .slt (BitVec.ofNat 32 a) (BitVec.ofNat 32 k) = if a < k then 1#1 else 0#1 := by
  interval_cases a <;> interval_cases k <;> rfl

/-- A block of `N` rows rotated down by `k < 8` rows, its first `k` rows replaced by the last `k` rows of the eight-row
    block `P`: row `e` is row `8 - k + e` of `P` for `e < k`, else row `e - k` of the block. -/
theorem shift_apply {N M L k : ℕ} (hM : M + 8 = N) (hk : k < 8) (X : (⟨2, ![N, L]⟩ : Shape).Idx → α)
    (P : (⟨2, ![8, L]⟩ : Shape).Idx → α)
    (hi : (⟨2, ![8, L]⟩ : Shape).Iotas .tc 32 [0]) (hr8 : (⟨2, ![8, L]⟩ : Shape).Rotates 0 none)
    (hr : (⟨2, ![N, L]⟩ : Shape).Rotates 0 none)
    (h0 : (⟨2, ![N, L]⟩ : Shape).Slices ![0, 0] ⟨2, ![8, L]⟩)
    (h8 : (⟨2, ![N, L]⟩ : Shape).Slices ![8, 0] ⟨2, ![M, L]⟩)
    (hc : Shape.Concatenates [(⟨2, ![8, L]⟩ : Shape), ⟨2, ![M, L]⟩] ⟨2, ![N, L]⟩ 0)
    (e : Fin N) (l : Fin L) :
    concatenate ⟨2, ![N, L]⟩ 0
        [⟨⟨2, ![8, L]⟩, select (cmpi .slt (iota .tc ⟨2, ![8, L]⟩ 32 [0] hi) (broadcast ⟨2, ![8, L]⟩ (BitVec.ofNat 32 k)))
            (dynamicRotate 0 (BitVec.ofNat 32 k) none P hr8)
            (extractStridedSlice ⟨2, ![8, L]⟩ ![0, 0] (dynamicRotate 0 (BitVec.ofNat 32 k) none X hr) h0)⟩,
          ⟨⟨2, ![M, L]⟩, extractStridedSlice ⟨2, ![M, L]⟩ ![8, 0] (dynamicRotate 0 (BitVec.ofNat 32 k) none X hr) h8⟩] hc (ix2 e l)
      = if h : e.val < k then P (ix2 (⟨8 - k + e.val, by omega⟩ : Fin 8) l)
        else X (ix2 (⟨e.val - k, by omega⟩ : Fin N) l) := by
  have he := e.isLt
  have hkn : (BitVec.ofNat 32 k).toNat = k := by rw [BitVec.toNat_ofNat]; exact Nat.mod_eq_of_lt (by omega)
  have hX : ∀ (q : Fin N), k ≤ q.val → dynamicRotate 0 (BitVec.ofNat 32 k) none X hr (ix2 q l)
      = X (ix2 (⟨q.val - k, by omega⟩ : Fin N) l) := fun q hq =>
    dynamicRotate_apply (0 : Fin 2) _ X hr _ _ (by
      intro b
      match b with
      | ⟨0, _⟩ =>
        have hq' := q.isLt
        show q.val - k = (q.val + N - (BitVec.ofNat 32 k).toNat % N) % N
        rw [hkn, Nat.mod_eq_of_lt (show k < N by omega), show q.val + N - k = (q.val - k) + N by omega, Nat.add_mod_right,
          Nat.mod_eq_of_lt (by omega)]
      | ⟨1, _⟩ => rfl)
  by_cases h8e : e.val < 8
  · refine (concatenate_pair_apply_left (t := ⟨2, ![N, L]⟩) (s₁ := ⟨2, ![8, L]⟩) (s₂ := ⟨2, ![M, L]⟩) (0 : Fin 2) _ _ hc _ rfl
      (ix2 (⟨e.val, h8e⟩ : Fin 8) l) (by
        intro b
        match b with
        | ⟨0, _⟩ => rfl
        | ⟨1, _⟩ => rfl)).trans ?_
    rw [show ∀ (c : IVec (⟨2, ![8, L]⟩ : Shape) 1) (a b : (⟨2, ![8, L]⟩ : Shape).Idx → α) (i : (⟨2, ![8, L]⟩ : Shape).Idx),
      select c a b i = Scalar.select (c i) (a i) (b i) from fun _ _ _ _ => rfl]
    have hcmp : cmpi .slt (iota .tc ⟨2, ![8, L]⟩ 32 [0] hi) (broadcast ⟨2, ![8, L]⟩ (BitVec.ofNat 32 k)) (ix2 (⟨e.val, h8e⟩ : Fin 8) l)
        = if e.val < k then 1#1 else 0#1 := by
      rw [← slt_small e.val k h8e hk]
      show IntOp.cmpi .slt (iota .tc ⟨2, ![8, L]⟩ 32 [0] hi (ix2 (⟨e.val, h8e⟩ : Fin 8) l)) _ = _
      rw [iota_single_apply]; rfl
    rw [hcmp]
    by_cases hek : e.val < k
    · rw [if_pos hek, dif_pos hek, show ∀ a b : α, Scalar.select 1#1 a b = a from fun _ _ => rfl]
      exact dynamicRotate_apply (0 : Fin 2) (BitVec.ofNat 32 k) P hr8 (ix2 (⟨e.val, h8e⟩ : Fin 8) l)
        (ix2 (⟨8 - k + e.val, by omega⟩ : Fin 8) l) (by
        intro b
        match b with
        | ⟨0, _⟩ =>
          show 8 - k + e.val = (e.val + 8 - (BitVec.ofNat 32 k).toNat % 8) % 8
          rw [hkn]; omega
        | ⟨1, _⟩ => rfl)
    · rw [if_neg hek, dif_neg hek, show ∀ a b : α, Scalar.select 0#1 a b = b from fun _ _ => rfl]
      refine (extractStridedSlice_apply _ _ h0 _ (ix2 e l) (by
        intro b
        match b with
        | ⟨0, _⟩ => exact (Nat.zero_add _).symm
        | ⟨1, _⟩ => exact (Nat.zero_add _).symm)).trans (hX e (by omega))
  · refine (concatenate_pair_apply_right (t := ⟨2, ![N, L]⟩) (s₁ := ⟨2, ![8, L]⟩) (s₂ := ⟨2, ![M, L]⟩) (0 : Fin 2) _ _ hc _ rfl rfl
      (ix2 (⟨e.val - 8, by omega⟩ : Fin M) l) (by
        intro b hb
        match b with
        | ⟨0, _⟩ => exact absurd rfl hb
        | ⟨1, _⟩ => rfl) (by show e.val - 8 + 8 = e.val; omega)).trans ?_
    rw [dif_neg (by omega)]
    refine (extractStridedSlice_apply _ _ h8 _ (ix2 e l) (by
      intro b
      match b with
      | ⟨0, _⟩ => show e.val = 8 + (e.val - 8); omega
      | ⟨1, _⟩ => exact (Nat.zero_add _).symm)).trans (hX e (by omega))

/-- A block of `N` rows rotated by `N - k`, that is up by `k`, and cut to its first `M ≤ N - k` rows: row `e` is the
    block's row `e + k`. -/
theorem up_apply {N M L k : ℕ} (hM : M + k ≤ N) (hk : 0 < k) (hN : N < 2 ^ 32) (X : (⟨2, ![N, L]⟩ : Shape).Idx → α)
    (hr : (⟨2, ![N, L]⟩ : Shape).Rotates 0 none) (h0 : (⟨2, ![N, L]⟩ : Shape).Slices ![0, 0] ⟨2, ![M, L]⟩)
    (e : Fin M) (l : Fin L) :
    extractStridedSlice ⟨2, ![M, L]⟩ ![0, 0] (dynamicRotate 0 (BitVec.ofNat 32 (N - k)) none X hr) h0 (ix2 e l)
      = X (ix2 (⟨e.val + k, by omega⟩ : Fin N) l) := by
  have he := e.isLt
  have hkn : (BitVec.ofNat 32 (N - k)).toNat = N - k := by rw [BitVec.toNat_ofNat]; exact Nat.mod_eq_of_lt (by omega)
  refine (extractStridedSlice_apply _ _ h0 _ (ix2 (⟨e.val, by omega⟩ : Fin N) l) (by
    intro b
    match b with
    | ⟨0, _⟩ => exact (Nat.zero_add _).symm
    | ⟨1, _⟩ => exact (Nat.zero_add _).symm)).trans ?_
  exact dynamicRotate_apply (0 : Fin 2) (BitVec.ofNat 32 (N - k)) X hr (ix2 (⟨e.val, by omega⟩ : Fin N) l)
    (ix2 (⟨e.val + k, by omega⟩ : Fin N) l) (by
    intro b
    match b with
    | ⟨0, _⟩ =>
      show e.val + k = (e.val + N - (BitVec.ofNat 32 (N - k)).toNat % N) % N
      rw [hkn, Nat.mod_eq_of_lt (show N - k < N by omega), Nat.mod_eq_of_lt (by omega)]; omega
    | ⟨1, _⟩ => rfl)

end Cert.Shift

end
-- ==== Proof.Silu.lean ====
/-
  The gate's scalar mathematics over the extended reals: the logistic function, and the derivative of `a ↦ a * logistic a`
  in the two forms it is computed in, which agree at every extended real.
-/
module

public import Idealize.ShloMosaic.Lib.Pointwise

@[expose] public section

noncomputable section

namespace Cert.Silu

open Idealize.ShloMosaic

/-- The logistic function `1 / (1 + e^(-a))`. -/
def sg (a : EReal) : EReal := Ideal.div 1 (1 + Ideal.exp (-a))

/-- The cotangent of `a` in `(a * sg a) * v` at cotangent `g`, in the form `z * s + (a * z) * (s * (1 - s))`, `z = g * v`. -/
def dact (a z : EReal) : EReal := z * sg a + (a * z) * (sg a * (1 - sg a))

/-- The derivative of the logistic function as `e^(-a) / (1 + e^(-a))^2` is `s * (1 - s)`, at every extended real. -/
theorem deriv_eq (a : EReal) :
    Ideal.div 1 ((1 + Ideal.exp (-a)) * (1 + Ideal.exp (-a))) * Ideal.exp (-a) = sg a * (1 - sg a) := by
  unfold sg
  induction a with
  | bot =>
    rw [EReal.neg_bot, Ideal.exp_top, show (1 : EReal) + ⊤ = ⊤ from EReal.coe_add_top 1, EReal.top_mul_top]
    rw [show Ideal.div 1 ⊤ = 0 by rw [Ideal.div, if_neg (by decide)]; simp]
    simp
  | top =>
    rw [EReal.neg_top, Ideal.exp_bot, add_zero, mul_one, mul_zero]
    rw [show Ideal.div 1 1 = 1 by rw [Ideal.div, if_neg one_ne_zero]; rw [show (1 : EReal)⁻¹ = 1 from inv_one, mul_one]]
    rw [show (1 : EReal) - 1 = 0 from by rw [← EReal.coe_one, ← EReal.coe_sub, sub_self, EReal.coe_zero], mul_zero]
  | coe r =>
    rw [← EReal.coe_neg, Ideal.exp_coe]
    have he : 0 < Real.exp (-r) := Real.exp_pos _
    have h1 : (1 + Real.exp (-r)) ≠ 0 := by positivity
    rw [show (1 : EReal) + (Real.exp (-r) : EReal) = ((1 + Real.exp (-r) : ℝ) : EReal) by rw [EReal.coe_add, EReal.coe_one],
      ← EReal.coe_mul, Ideal.div_coe h1, Ideal.div_coe (mul_ne_zero h1 h1), ← EReal.coe_one, ← EReal.coe_mul, ← EReal.coe_mul,
      ← EReal.coe_mul, ← EReal.coe_sub, ← EReal.coe_mul]
    congr 1
    field_simp
    ring

/-- The form with the quotient of squares and two changes of sign is `dact`. -/
theorem dact_eq (a z : EReal) :
    z * Ideal.div 1 (1 + Ideal.exp (0 - a))
        + (0 - (0 - (a * z) * Ideal.div 1 ((1 + Ideal.exp (0 - a)) * (1 + Ideal.exp (0 - a))) * 1) * Ideal.exp (0 - a))
      = dact a z := by
  unfold dact
  rw [zero_sub, zero_sub, zero_sub, EReal.neg_mul, neg_neg, mul_one, mul_assoc (a * z), deriv_eq]
  rfl

/-- The logistic function with the change of sign written as a difference from zero. -/
theorem sg_eq (a : EReal) : Ideal.div 1 (1 + Ideal.exp (0 - a)) = sg a := by rw [zero_sub]; rfl

/-- What arrives at `a` through `sg a` from `z`, in the form with the quotient of squares and two changes of sign. -/
theorem back_eq (a z : EReal) :
    0 - (0 - z * Ideal.div 1 ((1 + Ideal.exp (0 - a)) * (1 + Ideal.exp (0 - a)))) * Ideal.exp (0 - a) = z * (sg a * (1 - sg a)) := by
  rw [zero_sub, zero_sub, zero_sub, EReal.neg_mul, neg_neg, mul_assoc z, deriv_eq]

/-- Without a cotangent nothing arrives. -/
theorem dact_zero (a : EReal) : dact a 0 = 0 := by
  unfold dact; rw [zero_mul, mul_zero, zero_mul, add_zero]

end Cert.Silu

end
-- ==== Proof.FfnPay.lean ====
/-
  The kernel's payloads of one grid point read at an index, over extended reals: the block with the next rows appended, the
  convolution on it, the cotangents of the two convolution outputs, their transposed convolution, and the row sums of the
  taps' gradients.
-/
module

public import proofs.«01_k».proof.Proof.Gen.KernelIdeal.Value
public import proofs.«01_k».proof.Proof.Shift
public import proofs.«01_k».proof.Proof.Silu

@[expose] public section

noncomputable section

open Idealize.ShloMosaic Idealize.ShloMosaic.TcCoe Idealize.SL.Sem

namespace Cert.KernelIdeal.Blk

open Cert.KernelIdeal Cert.KernelIdeal.Gen

/-- A block of 512 rows with eight more rows below it, read at an index. -/
theorem cat_apply (X : FVec Ideal S512x512 .f32) (Y : FVec Ideal S8x512 .f32)
    (hc : Shape.Concatenates [S512x512, S8x512] S520x512 0) (e : Fin 520) (l : Fin 512) :
    concatenate S520x512 0 [⟨S512x512, X⟩, ⟨S8x512, Y⟩] hc (ix2 e l)
      = if h : e.val < 512 then X (ix2 (⟨e.val, h⟩ : Fin 512) l) else Y (ix2 (⟨e.val - 512, by omega⟩ : Fin 8) l) := by
  by_cases h : e.val < 512
  · rw [dif_pos h]
    exact concatenate_pair_apply_left (t := S520x512) (s₁ := S512x512) (s₂ := S8x512) (0 : Fin 2) _ _ hc _ rfl
      (ix2 (⟨e.val, h⟩ : Fin 512) l) (by
        intro b
        match b with
        | ⟨0, _⟩ => rfl
        | ⟨1, _⟩ => rfl)
  · rw [dif_neg h]
    exact concatenate_pair_apply_right (t := S520x512) (s₁ := S512x512) (s₂ := S8x512) (0 : Fin 2) _ _ hc _ rfl rfl
      (ix2 (⟨e.val - 512, by omega⟩ : Fin 8) l) (by
        intro b hb
        match b with
        | ⟨0, _⟩ => exact absurd rfl hb
        | ⟨1, _⟩ => rfl) (by show e.val - 512 + 512 = e.val; omega)

/-- A choice between two vectors on one bit, read at an index. -/
theorem sel_apply {s : Shape} (b : BitVec 1) (X Y : FVec Ideal s .f32) (i : s.Idx) :
    Scalar.select b X Y i = Scalar.select b (X i) (Y i) := by
  unfold Scalar.select; split <;> rfl

/-- Rows `X` followed by `Y` or by zeros hold the column `f` from its row `o`, when each part does. -/
theorem ext_apply (b : BitVec 1) (X : FVec Ideal S512x512 .f32) (Y : FVec Ideal S8x512 .f32)
    (hc : Shape.Concatenates [S512x512, S8x512] S520x512 0) (f : Fin 512 → ℕ → EReal) (o : ℕ)
    (hX : ∀ (e : Fin 512) (l : Fin 512), X (ix2 e l) = f l (e.val + o))
    (hY : ∀ (e : Fin 8) (l : Fin 512), Scalar.select b 0 (Y (ix2 e l)) = f l (512 + e.val + o))
    (e : Fin 520) (l : Fin 512) :
    concatenate S520x512 0 [⟨S512x512, X⟩, ⟨S8x512, Scalar.select b (broadcast S8x512 (Scalar.ofBits (F := Ideal) .f32 0x00000000#32)) Y⟩] hc
        (ix2 e l)
      = f l (e.val + o) := by
  rw [cat_apply]
  by_cases h : e.val < 512
  · rw [dif_pos h, hX]
  · rw [dif_neg h, sel_apply]
    refine Eq.trans ?_ ((hY ⟨e.val - 512, by omega⟩ l).trans ?_)
    · show Scalar.select b (Ideal.ofBits .f32 0x00000000#32) _ = _
      rw [Ideal.ofBits_zero_f32]
    · congr 1; show 512 + (e.val - 512) + o = _; omega

/-- The taps' convolution of the column `f` as it runs: row `e` sees rows `e + 2`, `e + 1`, `e`. -/
def cvl (w2 w1 w0 : FVec Ideal S1x512 .f32) (f : Fin 512 → ℕ → EReal) (l : Fin 512) (e : ℕ) : EReal :=
  w2 (ix2 (0 : Fin 1) l) * f l (e + 2) + w1 (ix2 (0 : Fin 1) l) * f l (e + 1) + w0 (ix2 (0 : Fin 1) l) * f l e

/-- The printed shift by one row of a 520-row block holding the column `f` from its row 2 on. -/
theorem shift520 {k : ℕ} (hk : k < 3) (E : FVec Ideal S520x512 .f32) (P : FVec Ideal S8x512 .f32)
    (f : Fin 512 → ℕ → EReal)
    (hE : ∀ (e : Fin 520) (l : Fin 512), E (ix2 e l) = f l (e.val + 2))
    (hP : ∀ (e : Fin 8) (l : Fin 512), 6 ≤ e.val → P (ix2 e l) = f l (e.val - 6))
    (e : Fin 520) (l : Fin 512) :
    concatenate S520x512 0 [⟨S8x512, select (cmpi .slt (iota .tc S8x512 32 [0] iota_S8x512_d0_w32) (broadcast S8x512 (BitVec.ofNat 32 k)))
            (dynamicRotate 0 (BitVec.ofNat 32 k) none P rotates_S8x512_d0)
            (extractStridedSlice S8x512 ![0, 0] (dynamicRotate 0 (BitVec.ofNat 32 k) none E rotates_S520x512_d0) slices_S520x512_o0_0_S8x512)⟩,
          ⟨S512x512, extractStridedSlice S512x512 ![8, 0] (dynamicRotate 0 (BitVec.ofNat 32 k) none E rotates_S520x512_d0) slices_S520x512_o8_0_S512x512⟩]
          concatenates_S8x512_S512x512_S520x512_d0 (ix2 e l)
      = f l (e.val + 2 - k) := by
  refine (Cert.Shift.shift_apply (N := 520) (M := 512) (L := 512) rfl (by omega) E P _ _ _ _ _ _ e l).trans ?_
  by_cases h : e.val < k
  · rw [dif_pos h, hP _ _ (by show 6 ≤ 8 - k + e.val; omega)]
    congr 1; show 8 - k + e.val - 6 = _; omega
  · rw [dif_neg h, hE]
    congr 1; show e.val - k + 2 = _; omega

/-- The printed shift of a 512-row block. -/
theorem shift512 {k : ℕ} (hk : k < 3) (E : FVec Ideal S512x512 .f32) (P : FVec Ideal S8x512 .f32)
    (f : Fin 512 → ℕ → EReal)
    (hE : ∀ (e : Fin 512) (l : Fin 512), E (ix2 e l) = f l (e.val + 2))
    (hP : ∀ (e : Fin 8) (l : Fin 512), 6 ≤ e.val → P (ix2 e l) = f l (e.val - 6))
    (e : Fin 512) (l : Fin 512) :
    concatenate S512x512 0 [⟨S8x512, select (cmpi .slt (iota .tc S8x512 32 [0] iota_S8x512_d0_w32) (broadcast S8x512 (BitVec.ofNat 32 k)))
            (dynamicRotate 0 (BitVec.ofNat 32 k) none P rotates_S8x512_d0)
            (extractStridedSlice S8x512 ![0, 0] (dynamicRotate 0 (BitVec.ofNat 32 k) none E rotates_S512x512_d0) slices_S512x512_o0_0_S8x512)⟩,
          ⟨S504x512, extractStridedSlice S504x512 ![8, 0] (dynamicRotate 0 (BitVec.ofNat 32 k) none E rotates_S512x512_d0) slices_S512x512_o8_0_S504x512⟩]
          concatenates_S8x512_S504x512_S512x512_d0 (ix2 e l)
      = f l (e.val + 2 - k) := by
  refine (Cert.Shift.shift_apply (N := 512) (M := 504) (L := 512) rfl (by omega) E P _ _ _ _ _ _ e l).trans ?_
  by_cases h : e.val < k
  · rw [dif_pos h, hP _ _ (by show 6 ≤ 8 - k + e.val; omega)]
    congr 1; show 8 - k + e.val - 6 = _; omega
  · rw [dif_neg h, hE]
    congr 1; show e.val - k + 2 = _; omega

/-- A row broadcast down a block. -/
theorem row520 (w : FVec Ideal S1x512 .f32) (e : Fin 520) (l : Fin 512) :
    broadcastTo S520x512 w broadcasts_S1x512_S520x512 (ix2 e l) = w (ix2 (0 : Fin 1) l) := by
  pointwise
theorem row512 (w : FVec Ideal S1x512 .f32) (e : Fin 512) (l : Fin 512) :
    broadcastTo S512x512 w broadcasts_S1x512_S512x512 (ix2 e l) = w (ix2 (0 : Fin 1) l) := by
  pointwise

/-- The convolution that feeds the gate, over a 520-row block. -/
theorem convA_apply (i : grid0.Coords) (x0 : Vec Ideal S512x512 .f32) (x4 x2 : Vec Ideal S8x512 .f32) (w2 w1 w0 : Vec Ideal S1x512 .f32)
    (f : Fin 512 → ℕ → EReal)
    (hE : ∀ (e : Fin 520) (l : Fin 512), k0_pay5 i x0 x4 (ix2 e l) = f l (e.val + 2))
    (hP : ∀ (e : Fin 8) (l : Fin 512), 6 ≤ e.val → k0_pay6 i x2 (ix2 e l) = f l (e.val - 6))
    (e : Fin 520) (l : Fin 512) :
    k0_pay8 (k0_pay5 i x0 x4) (k0_pay6 i x2) (k0_pay7 i x0 x4 x2 w2 w1) w0 (ix2 e l) = cvl w2 w1 w0 f l e.val := by
  have h1 := shift520 (k := 1) (by omega) _ _ f hE hP e l
  have h2 := shift520 (k := 2) (by omega) _ _ f hE hP e l
  unfold cvl
  rw [← row520 w2 e l, ← row520 w1 e l, ← row520 w0 e l, ← hE e l]
  rw [show e.val + 2 - 1 = e.val + 1 from rfl] at h1
  rw [show e.val + 2 - 2 = e.val from rfl] at h2
  rw [← h1, ← h2]
  rfl

/-- The value half's convolution. -/
theorem convV_apply (b0 b1 : BitVec 1) (x1 : Vec Ideal S512x512 .f32) (x5 x3 : Vec Ideal S8x512 .f32) (w2 w1 w0 : Vec Ideal S1x512 .f32)
    (f : Fin 512 → ℕ → EReal)
    (hE : ∀ (e : Fin 520) (l : Fin 512), k0_pay9 b1 x1 x5 (ix2 e l) = f l (e.val + 2))
    (hP : ∀ (e : Fin 8) (l : Fin 512), 6 ≤ e.val → k0_pay10 b0 x3 (ix2 e l) = f l (e.val - 6))
    (e : Fin 520) (l : Fin 512) (A G : FVec Ideal S520x512 .f32) :
    k0_pay16 G A (k0_pay9 b1 x1 x5) (k0_pay10 b0 x3) (k0_pay11 b0 b1 x1 x5 x3 w2 w1) w0 2#32 (ix2 e l)
      = Cert.Silu.dact (A (ix2 e l)) (G (ix2 e l) * cvl w2 w1 w0 f l e.val) := by
  have h1 := shift520 (k := 1) (by omega) _ _ f hE hP e l
  have h2 := shift520 (k := 2) (by omega) _ _ f hE hP e l
  rw [← Cert.Silu.dact_eq]
  unfold cvl
  rw [← row520 w2 e l, ← row520 w1 e l, ← row520 w0 e l, ← hE e l]
  rw [show e.val + 2 - 1 = e.val + 1 from rfl] at h1
  rw [show e.val + 2 - 2 = e.val from rfl] at h2
  rw [← h1, ← h2, ← Ideal.ofBits_zero_f32, ← Ideal.ofBits_one_f32]
  rfl

/-- The value half's cotangent. -/
theorem dV_apply (A G : FVec Ideal S520x512 .f32) (i : S520x512.Idx) :
    k0_pay15 G A i = (A i * Cert.Silu.sg (A i)) * G i := by
  unfold Cert.Silu.sg
  rw [← zero_sub, ← Ideal.ofBits_zero_f32, ← Ideal.ofBits_one_f32]
  rfl

/-- The transposed convolution of a cotangent `D`: row `e` sees its rows `e`, `e + 1`, `e + 2`. -/
def dxl (w2 w1 w0 : FVec Ideal S1x512 .f32) (D : Fin 512 → ℕ → EReal) (l : Fin 512) (e : ℕ) : EReal :=
  w2 (ix2 (0 : Fin 1) l) * D l e + w1 (ix2 (0 : Fin 1) l) * D l (e + 1) + w0 (ix2 (0 : Fin 1) l) * D l (e + 2)

/-- The first 512 rows of a 520-row block. -/
theorem top512 (D : FVec Ideal S520x512 .f32) (e : Fin 512) (l : Fin 512) :
    extractStridedSlice S512x512 ![0, 0] D slices_S520x512_o0_0_S512x512 (ix2 e l) = D (ix2 (⟨e.val, by omega⟩ : Fin 520) l) :=
  extractStridedSlice_apply ![0, 0] D _ (ix2 e l) (ix2 (⟨e.val, by omega⟩ : Fin 520) l) (by
    intro b
    match b with
    | ⟨0, _⟩ => exact (Nat.zero_add _).symm
    | ⟨1, _⟩ => exact (Nat.zero_add _).symm)

theorem up1 (D : FVec Ideal S520x512 .f32) (e : Fin 512) (l : Fin 512) :
    extractStridedSlice S512x512 ![0, 0] (dynamicRotate 0 519#32 none D rotates_S520x512_d0) slices_S520x512_o0_0_S512x512 (ix2 e l)
      = D (ix2 (⟨e.val + 1, by omega⟩ : Fin 520) l) :=
  Cert.Shift.up_apply (N := 520) (M := 512) (L := 512) (k := 1) (by omega) (by omega) (by omega) D _ _ e l

theorem up2 (D : FVec Ideal S520x512 .f32) (e : Fin 512) (l : Fin 512) :
    extractStridedSlice S512x512 ![0, 0] (dynamicRotate 0 518#32 none D rotates_S520x512_d0) slices_S520x512_o0_0_S512x512 (ix2 e l)
      = D (ix2 (⟨e.val + 2, by omega⟩ : Fin 520) l) :=
  Cert.Shift.up_apply (N := 520) (M := 512) (L := 512) (k := 2) (by omega) (by omega) (by omega) D _ _ e l

/-- The transposed convolution of a 520-row cotangent that holds `D`, at one of the block's own rows. -/
theorem dx_apply (X : FVec Ideal S520x512 .f32) (w2 w1 w0 : Vec Ideal S1x512 .f32) (D : Fin 512 → ℕ → EReal)
    (hX : ∀ (e : Fin 520) (l : Fin 512), X (ix2 e l) = D l e.val) (e : Fin 512) (l : Fin 512) :
    addf (addf (mulf (broadcastTo S512x512 w2 broadcasts_S1x512_S512x512) (extractStridedSlice S512x512 ![0, 0] X slices_S520x512_o0_0_S512x512))
      (mulf (broadcastTo S512x512 w1 broadcasts_S1x512_S512x512)
        (extractStridedSlice S512x512 ![0, 0] (dynamicRotate 0 519#32 none X rotates_S520x512_d0) slices_S520x512_o0_0_S512x512)))
      (mulf (broadcastTo S512x512 w0 broadcasts_S1x512_S512x512)
        (extractStridedSlice S512x512 ![0, 0] (dynamicRotate 0 518#32 none X rotates_S520x512_d0) slices_S520x512_o0_0_S512x512)) (ix2 e l)
      = dxl w2 w1 w0 D l e.val := by
  unfold dxl
  rw [← row512 w2 e l, ← row512 w1 e l, ← row512 w0 e l]
  have h0 := (top512 X e l).trans (hX _ l)
  have h1 := (up1 X e l).trans (hX _ l)
  have h2 := (up2 X e l).trans (hX _ l)
  dsimp only at h0 h1 h2
  rw [← h0, ← h1, ← h2]
  rfl

/-- A row of the taps' gradient: what it held plus the column's sum of products. -/
theorem dw_apply (acc : Vec Ideal S1x512 .f32) (X : FVec Ideal S512x512 .f32) (l : Fin 512) :
    addf (shapeCast S1x512 acc shapeCasts_S1x512_S1x512)
      (shapeCast S1x512 (multiReduction .add [0] S512 X 0x00000000#32 reduces_S512x512_S512 (.inl rfl) rfl) shapeCasts_S512_S1x512)
      (ix2 (0 : Fin 1) l)
      = acc (ix2 (0 : Fin 1) l) + ∑ e : Fin 512, X (ix2 e l) := by
  pointwise

end Cert.KernelIdeal.Blk

end
-- ==== Proof.FfnOut.lean ====
/-
  What the kernel leaves in its four output blocks at one grid point, read at an index, given what its ten input blocks hold:
  two columns of the up-projection and one of the cotangent, each as a function of the row counted from the block's first.
-/
module

public import proofs.«01_k».proof.Proof.FfnPay
public import Idealize.ShloMosaic.Lib.WritesUnit
public import Idealize.ShloMosaic.Lib.Tactic

@[expose] public section

noncomputable section

open Idealize.ShloMosaic Idealize.ShloMosaic.TcCoe Idealize.SL.Sem

namespace Cert.KernelIdeal.Blk

open Cert.KernelIdeal Cert.KernelIdeal.Gen

theorem hz : (![0, 0] : Fin 2 → Nat) = fun _ => 0 := funext fun a => by fin_cases a <;> rfl

/-- Whether a grid point is the last of its column. -/
abbrev lastB (i : grid0.Coords) : BitVec 1 := Scalar.cmpi .eq (BitVec.ofNat 32 (i 1).val) 15#32

/-- Whether a grid point is the first of its column. -/
abbrev firstB (i : grid0.Coords) : BitVec 1 := Scalar.cmpi .eq (BitVec.ofNat 32 (i 1).val) 0#32

/-- The ten input blocks of a point: `fA l n`, `fV l n` are the two up-projection columns, row `n` counted from two rows above
    the block; `G l n` the cotangent's column counted from the block's first row. -/
structure Facts (i : grid0.Coords) (x0 x1 : Vec Ideal S512x512 .f32) (x2 x3 x4 x5 : Vec Ideal S8x512 .f32)
    (x8 : Vec Ideal S512x512 .f32) (x9 : Vec Ideal S8x512 .f32) (fA fV G : Fin 512 → ℕ → EReal) : Prop where
  a0 : ∀ (e : Fin 512) (l : Fin 512), x0 (ix2 e l) = fA l (e.val + 2)
  a4 : ∀ (e : Fin 8) (l : Fin 512), Scalar.select (lastB i) 0 (x4 (ix2 e l)) = fA l (512 + e.val + 2)
  a2 : ∀ (e : Fin 8) (l : Fin 512), 6 ≤ e.val → Scalar.select (firstB i) 0 (x2 (ix2 e l)) = fA l (e.val - 6)
  v1 : ∀ (e : Fin 512) (l : Fin 512), x1 (ix2 e l) = fV l (e.val + 2)
  v5 : ∀ (e : Fin 8) (l : Fin 512), Scalar.select (lastB i) 0 (x5 (ix2 e l)) = fV l (512 + e.val + 2)
  v3 : ∀ (e : Fin 8) (l : Fin 512), 6 ≤ e.val → Scalar.select (firstB i) 0 (x3 (ix2 e l)) = fV l (e.val - 6)
  g8 : ∀ (e : Fin 512) (l : Fin 512), x8 (ix2 e l) = G l e.val
  g9 : ∀ (e : Fin 8) (l : Fin 512), Scalar.select (lastB i) 0 (x9 (ix2 e l)) = G l (512 + e.val)

/-- Row `k` of a block of taps. -/
abbrev tapRow2 (x : Vec Ideal S3x512 .f32) : Vec Ideal S1x512 .f32 := View.ld x (Rect.unit ![2, 0] ![1, 512] inb_S3x512_S1x512_2_0)
abbrev tapRow1 (x : Vec Ideal S3x512 .f32) : Vec Ideal S1x512 .f32 := View.ld x (Rect.unit ![1, 0] ![1, 512] inb_S3x512_S1x512_1_0)
abbrev tapRow0 (x : Vec Ideal S3x512 .f32) : Vec Ideal S1x512 .f32 := View.ld x (Rect.unit ![0, 0] ![1, 512] inb_S3x512_S1x512_0_0)

/-- The cotangent of the gate's convolution output, row `e` of a block. -/
def DAl (x6 x7 : Vec Ideal S3x512 .f32) (fA fV G : Fin 512 → ℕ → EReal) (l : Fin 512) (e : ℕ) : EReal :=
  Cert.Silu.dact (cvl (tapRow2 x6) (tapRow1 x6) (tapRow0 x6) fA l e)
    (G l e * cvl (tapRow2 x7) (tapRow1 x7) (tapRow0 x7) fV l e)

/-- The cotangent of the value's convolution output, row `e` of a block. -/
def DVl (x6 : Vec Ideal S3x512 .f32) (fA G : Fin 512 → ℕ → EReal) (l : Fin 512) (e : ℕ) : EReal :=
  (cvl (tapRow2 x6) (tapRow1 x6) (tapRow0 x6) fA l e * Cert.Silu.sg (cvl (tapRow2 x6) (tapRow1 x6) (tapRow0 x6) fA l e)) * G l e

/-- Row `k` of the taps' gradient pairs the cotangent's row `e` with row `e + k` of the column; the other rows stay. -/
def tapl (f : Fin 512 → ℕ → EReal) (k : Fin 8) (l : Fin 512) (e : ℕ) : EReal := if k.val < 3 then f l (e + k.val) else 0

/-- The gate's convolution output, as the kernel computes it. -/
abbrev kA (i : grid0.Coords) (x0 : Vec Ideal S512x512 .f32) (x2 x4 : Vec Ideal S8x512 .f32) (x6 : Vec Ideal S3x512 .f32) :
    FVec Ideal S520x512 .f32 :=
  k0_pay8 (k0_pay5 i x0 x4) (k0_pay6 i x2) (k0_pay7 i x0 x4 x2 (tapRow2 x6) (tapRow1 x6)) (tapRow0 x6)

/-- The cotangent of the gate's convolution output, as the kernel computes it. -/
abbrev kDA (i : grid0.Coords) (x0 x1 : Vec Ideal S512x512 .f32) (x2 x3 x4 x5 : Vec Ideal S8x512 .f32) (x6 x7 : Vec Ideal S3x512 .f32)
    (x8 : Vec Ideal S512x512 .f32) (x9 : Vec Ideal S8x512 .f32) : FVec Ideal S520x512 .f32 :=
  k0_pay16 (k0_pay4 i x8 x9) (kA i x0 x2 x4 x6) (k0_pay9 (lastB i) x1 x5) (k0_pay10 (firstB i) x3)
    (k0_pay11 (firstB i) (lastB i) x1 x5 x3 (tapRow2 x7) (tapRow1 x7)) (tapRow0 x7) 2#32

/-- The cotangent of the value's convolution output, as the kernel computes it. -/
abbrev kDV (i : grid0.Coords) (x0 : Vec Ideal S512x512 .f32) (x2 x4 : Vec Ideal S8x512 .f32) (x6 : Vec Ideal S3x512 .f32)
    (x8 : Vec Ideal S512x512 .f32) (x9 : Vec Ideal S8x512 .f32) : FVec Ideal S520x512 .f32 :=
  k0_pay15 (k0_pay4 i x8 x9) (kA i x0 x2 x4 x6)

section Read

variable {i : grid0.Coords} {x0 x1 : Vec Ideal S512x512 .f32} {x2 x3 x4 x5 : Vec Ideal S8x512 .f32}
  {x8 : Vec Ideal S512x512 .f32} {x9 : Vec Ideal S8x512 .f32} {fA fV G : Fin 512 → ℕ → EReal}
  (h : Facts i x0 x1 x2 x3 x4 x5 x8 x9 fA fV G) (x6 x7 : Vec Ideal S3x512 .f32)

include h

theorem ext_A (e : Fin 520) (l : Fin 512) : k0_pay5 i x0 x4 (ix2 e l) = fA l (e.val + 2) :=
  ext_apply (lastB i) x0 x4 concatenates_S512x512_S8x512_S520x512_d0 fA 2 h.a0 h.a4 e l

theorem ext_V (e : Fin 520) (l : Fin 512) : k0_pay9 (lastB i) x1 x5 (ix2 e l) = fV l (e.val + 2) :=
  ext_apply (lastB i) x1 x5 concatenates_S512x512_S8x512_S520x512_d0 fV 2 h.v1 h.v5 e l

theorem ext_G (e : Fin 520) (l : Fin 512) : k0_pay4 i x8 x9 (ix2 e l) = G l e.val :=
  ext_apply (lastB i) x8 x9 concatenates_S512x512_S8x512_S520x512_d0 G 0 h.g8 h.g9 e l

theorem prev_A (e : Fin 8) (l : Fin 512) (he : 6 ≤ e.val) : k0_pay6 i x2 (ix2 e l) = fA l (e.val - 6) := by
  refine Eq.trans ?_ (h.a2 e l he)
  show Scalar.select (firstB i) (broadcast S8x512 (Ideal.ofBits .f32 0x00000000#32)) x2 (ix2 e l) = _
  rw [sel_apply, ← Ideal.ofBits_zero_f32]; rfl

theorem prev_V (e : Fin 8) (l : Fin 512) (he : 6 ≤ e.val) : k0_pay10 (firstB i) x3 (ix2 e l) = fV l (e.val - 6) := by
  refine Eq.trans ?_ (h.v3 e l he)
  show Scalar.select (firstB i) (broadcast S8x512 (Ideal.ofBits .f32 0x00000000#32)) x3 (ix2 e l) = _
  rw [sel_apply, ← Ideal.ofBits_zero_f32]; rfl

theorem kA_apply (e : Fin 520) (l : Fin 512) :
    kA i x0 x2 x4 x6 (ix2 e l) = cvl (tapRow2 x6) (tapRow1 x6) (tapRow0 x6) fA l e.val :=
  convA_apply i x0 x4 x2 _ _ _ fA (ext_A h) (prev_A h) e l

theorem kDA_apply (e : Fin 520) (l : Fin 512) :
    kDA i x0 x1 x2 x3 x4 x5 x6 x7 x8 x9 (ix2 e l) = DAl x6 x7 fA fV G l e.val := by
  refine (convV_apply (firstB i) (lastB i) x1 x5 x3 _ _ _ fV (ext_V h) (prev_V h) e l _ _).trans ?_
  rw [kA_apply h, ext_G h]
  rfl

theorem kDV_apply (e : Fin 520) (l : Fin 512) :
    kDV i x0 x2 x4 x6 x8 x9 (ix2 e l) = DVl x6 fA G l e.val := by
  refine (dV_apply _ _ _).trans ?_
  rw [kA_apply h, ext_G h]
  rfl

/-- The input gradient of the gate's half. -/
theorem dxA_apply (e : Fin 512) (l : Fin 512) :
    k0_pay25 (k0_pay22 (kDA i x0 x1 x2 x3 x4 x5 x6 x7 x8 x9)
        (k0_pay19 (k0_pay4 i x8 x9) (kA i x0 x2 x4 x6) (k0_pay9 (lastB i) x1 x5) (k0_pay10 (firstB i) x3)
          (k0_pay11 (firstB i) (lastB i) x1 x5 x3 (tapRow2 x7) (tapRow1 x7)) (tapRow0 x7) 2#32 (tapRow2 x6))
        (tapRow1 x6) (tapRow0 x6)) (ix2 e l)
      = dxl (tapRow2 x6) (tapRow1 x6) (tapRow0 x6) (DAl x6 x7 fA fV G) l e.val :=
  dx_apply (kDA i x0 x1 x2 x3 x4 x5 x6 x7 x8 x9) _ _ _ _ (kDA_apply h x6 x7) e l

/-- The input gradient of the value's half. -/
theorem dxV_apply (e : Fin 512) (l : Fin 512) :
    k0_pay1 (k0_pay32 (kDV i x0 x2 x4 x6 x8 x9) (k0_pay28 (kDV i x0 x2 x4 x6 x8 x9) (tapRow2 x7)) (tapRow1 x7) (k0_pay30 (kDV i x0 x2 x4 x6 x8 x9))
        (tapRow0 x7)) (ix2 e l)
      = dxl (tapRow2 x7) (tapRow1 x7) (tapRow0 x7) (DVl x6 fA G) l e.val :=
  dx_apply (kDV i x0 x2 x4 x6 x8 x9) _ _ _ _ (kDV_apply h x6) e l

/-- A row of the gate's tap gradient without a shift, with one, and with two. -/
theorem dwA2_apply (acc : Vec Ideal S1x512 .f32) (l : Fin 512) :
    k0_pay20 (extractStridedSlice S512x512 ![0, 0] (kDA i x0 x1 x2 x3 x4 x5 x6 x7 x8 x9) slices_S520x512_o0_0_S512x512) x0 acc
        (ix2 (0 : Fin 1) l)
      = acc (ix2 (0 : Fin 1) l) + ∑ e : Fin 512, DAl x6 x7 fA fV G l e.val * fA l (e.val + 2) := by
  refine (dw_apply acc _ l).trans (congrArg _ (Finset.sum_congr rfl fun e _ => ?_))
  rw [← h.a0 e l]
  exact congrArg (· * x0 (ix2 e l)) ((top512 _ e l).trans (kDA_apply h x6 x7 _ l))

theorem dwA1_apply (acc : Vec Ideal S1x512 .f32) (l : Fin 512) :
    k0_pay21 (extractStridedSlice S512x512 ![0, 0] (kDA i x0 x1 x2 x3 x4 x5 x6 x7 x8 x9) slices_S520x512_o0_0_S512x512) x0
        (k0_pay18 (firstB i) x2) acc (ix2 (0 : Fin 1) l)
      = acc (ix2 (0 : Fin 1) l) + ∑ e : Fin 512, DAl x6 x7 fA fV G l e.val * fA l (e.val + 1) := by
  refine (dw_apply acc _ l).trans (congrArg _ (Finset.sum_congr rfl fun e _ => ?_))
  exact congrArg₂ (fun a b : EReal => a * b) ((top512 _ e l).trans (kDA_apply h x6 x7 _ l))
    (shift512 (k := 1) (by omega) x0 (k0_pay6 i x2) fA h.a0 (prev_A h) e l)

theorem dwA0_apply (acc : Vec Ideal S1x512 .f32) (l : Fin 512) :
    k0_pay24 (extractStridedSlice S512x512 ![0, 0] (kDA i x0 x1 x2 x3 x4 x5 x6 x7 x8 x9) slices_S520x512_o0_0_S512x512) x0
        (k0_pay18 (firstB i) x2) (k0_pay23 acc) (ix2 (0 : Fin 1) l)
      = acc (ix2 (0 : Fin 1) l) + ∑ e : Fin 512, DAl x6 x7 fA fV G l e.val * fA l e.val := by
  refine (dw_apply acc _ l).trans (congrArg _ (Finset.sum_congr rfl fun e _ => ?_))
  exact congrArg₂ (fun a b : EReal => a * b) ((top512 _ e l).trans (kDA_apply h x6 x7 _ l))
    (shift512 (k := 2) (by omega) x0 (k0_pay6 i x2) fA h.a0 (prev_A h) e l)

/-- A row of the value's tap gradient without a shift, with one, and with two. -/
theorem dwV2_apply (acc : Vec Ideal S1x512 .f32) (l : Fin 512) :
    k0_pay29 (kDV i x0 x2 x4 x6 x8 x9) x1 acc (ix2 (0 : Fin 1) l)
      = acc (ix2 (0 : Fin 1) l) + ∑ e : Fin 512, DVl x6 fA G l e.val * fV l (e.val + 2) := by
  refine (dw_apply acc _ l).trans (congrArg _ (Finset.sum_congr rfl fun e _ => ?_))
  rw [← h.v1 e l]
  exact congrArg (· * x1 (ix2 e l)) ((top512 _ e l).trans (kDV_apply h x6 _ l))

theorem dwV1_apply (acc : Vec Ideal S1x512 .f32) (l : Fin 512) :
    k0_pay31 (k0_pay26 (kDV i x0 x2 x4 x6 x8 x9)) x1 (k0_pay27 (firstB i) x3) acc (ix2 (0 : Fin 1) l)
      = acc (ix2 (0 : Fin 1) l) + ∑ e : Fin 512, DVl x6 fA G l e.val * fV l (e.val + 1) := by
  refine (dw_apply acc _ l).trans (congrArg _ (Finset.sum_congr rfl fun e _ => ?_))
  exact congrArg₂ (fun a b : EReal => a * b) ((top512 _ e l).trans (kDV_apply h x6 _ l))
    (shift512 (k := 1) (by omega) x1 (k0_pay10 (firstB i) x3) fV h.v1 (prev_V h) e l)

theorem dwV0_apply (acc : Vec Ideal S1x512 .f32) (l : Fin 512) :
    k0_pay33 (k0_pay26 (kDV i x0 x2 x4 x6 x8 x9)) x1 (k0_pay27 (firstB i) x3) acc (ix2 (0 : Fin 1) l)
      = acc (ix2 (0 : Fin 1) l) + ∑ e : Fin 512, DVl x6 fA G l e.val * fV l e.val := by
  refine (dw_apply acc _ l).trans (congrArg _ (Finset.sum_congr rfl fun e _ => ?_))
  exact congrArg₂ (fun a b : EReal => a * b) ((top512 _ e l).trans (kDV_apply h x6 _ l))
    (shift512 (k := 2) (by omega) x1 (k0_pay10 (firstB i) x3) fV h.v1 (prev_V h) e l)

end Read

/-- Three rows of an eight-row block stored over what it held, newest first: the rows read the stores, the others what was there. -/
theorem three_rows {κ : Kind} {sp : Space} (v : View sig κ sp S8x512 .f32) (f : v.ty.Contents (Elt Ideal))
    (L : List (View.Piece (Elt Ideal) S8x512 .f32)) (p0 p1 p2 : Vec Ideal S1x512 .f32) (k : Fin 8) (l : Fin 512) :
    v.read (Elt Ideal) (v.writes (Elt Ideal) f
      (⟨Rect.unit ![0, 0] ![1, 512] inb_S8x512_S1x512_0_0, p0⟩ :: ⟨Rect.unit ![1, 0] ![1, 512] inb_S8x512_S1x512_1_0, p1⟩
        :: ⟨Rect.unit ![2, 0] ![1, 512] inb_S8x512_S1x512_2_0, p2⟩ :: L)) (ix2 k l)
      = if k.val = 0 then p0 (ix2 (0 : Fin 1) l) else if k.val = 1 then p1 (ix2 (0 : Fin 1) l)
        else if k.val = 2 then p2 (ix2 (0 : Fin 1) l) else v.read (Elt Ideal) (v.writes (Elt Ideal) f L) (ix2 k l) := by
  by_cases h0 : k.val = 0
  · rw [if_pos h0]
    exact View.read_writes_cons_rows_of_mem v f (o := 0) inb_S8x512_S1x512_0_0 p0 _ (ix2 k l) (ix2 (0 : Fin 1) l) rfl h0 rfl
  rw [if_neg h0]
  refine (View.read_writes_cons_rows_of_not_mem v f (o := 0) (W := 1) inb_S8x512_S1x512_0_0 p0 _ (ix2 k l) rfl rfl
    (Or.inr (by show 0 + 1 ≤ k.val; omega))).trans ?_
  by_cases h1 : k.val = 1
  · rw [if_pos h1]
    exact View.read_writes_cons_rows_of_mem v f (o := 1) inb_S8x512_S1x512_1_0 p1 _ (ix2 k l) (ix2 (0 : Fin 1) l) rfl h1 rfl
  rw [if_neg h1]
  refine (View.read_writes_cons_rows_of_not_mem v f (o := 1) (W := 1) inb_S8x512_S1x512_1_0 p1 _ (ix2 k l) rfl rfl
    (Or.inr (by show 1 + 1 ≤ k.val; omega))).trans ?_
  by_cases h2 : k.val = 2
  · rw [if_pos h2]
    exact View.read_writes_cons_rows_of_mem v f (o := 2) inb_S8x512_S1x512_2_0 p2 _ (ix2 k l) (ix2 (0 : Fin 1) l) rfl h2 rfl
  rw [if_neg h2]
  exact View.read_writes_cons_rows_of_not_mem v f (o := 2) (W := 1) inb_S8x512_S1x512_2_0 p2 _ (ix2 k l) rfl rfl
    (Or.inr (by show 2 + 1 ≤ k.val; omega))

/-- The choice by row number is one sum whose pairing depends on the row. -/
theorem rows_sum (D : ℕ → EReal) (f : Fin 512 → ℕ → EReal) (base : Fin 8 → EReal) (k : Fin 8) (l : Fin 512) (r0 r1 r2 z : EReal)
    (h0 : r0 = base 0 + ∑ e : Fin 512, D e.val * f l e.val) (h1 : r1 = base 1 + ∑ e : Fin 512, D e.val * f l (e.val + 1))
    (h2 : r2 = base 2 + ∑ e : Fin 512, D e.val * f l (e.val + 2)) (hz : z = base k) :
    (if k.val = 0 then r0 else if k.val = 1 then r1 else if k.val = 2 then r2 else z)
      = base k + ∑ e : Fin 512, D e.val * tapl f k l e.val := by
  obtain ⟨k, hk⟩ := k
  dsimp only
  by_cases e0 : k = 0
  · subst e0; rw [if_pos rfl, h0]; rfl
  rw [if_neg e0]
  by_cases e1 : k = 1
  · subst e1; rw [if_pos rfl, h1]; rfl
  rw [if_neg e1]
  by_cases e2 : k = 2
  · subst e2; rw [if_pos rfl, h2]; rfl
  rw [if_neg e2, hz]
  have : ∀ e : Fin 512, D e.val * tapl f ⟨k, hk⟩ l e.val = 0 := fun e => by
    unfold tapl; rw [if_neg (by dsimp only; omega), mul_zero]
  rw [Finset.sum_congr rfl fun e _ => this e, Finset.sum_const_zero, add_zero]

/-- An eight-row block filled with zeros reads zero. -/
theorem zero_read {κ : Kind} {sp : Space} (v : View sig κ sp S8x512 .f32) (inb : ∀ a, (![0, 0] : Fin 2 → Nat) a + (![8, 512] : Fin 2 → Nat) a ≤ S8x512.size a)
    (w : Vec Ideal S8x512 .f32) (hw : ∀ j, w j = 0) (j : S8x512.Idx) :
    v.read (Elt Ideal) (v.writes (Elt Ideal) v.junk [⟨Rect.unit ![0, 0] ![8, 512] inb, w⟩]) j = 0 := by
  rw [View.read_writes_junk_apply_eq_canon]
  refine (congrFun (View.canon_unit_zero (S := S8x512) hz inb w) j).trans (hw j)

/-- So it does through a box of one row. -/
theorem zero_cov2 {κ : Kind} {sp : Space} (v : View sig κ sp S8x512 .f32) (inb : ∀ a, (![0, 0] : Fin 2 → Nat) a + (![8, 512] : Fin 2 → Nat) a ≤ S8x512.size a)
    (w : Vec Ideal S8x512 .f32) (hw : ∀ j, w j = 0) (B : LoadRect S8x512) (j : B.shape.Idx) :
    v.readCov [⟨Rect.unit ![0, 0] ![8, 512] inb, w⟩] B j = 0 :=
  zero_read v inb w hw _

/-- Also after row 2 is stored, when row 1 is read; -/
theorem zero_cov1 {κ : Kind} {sp : Space} (v : View sig κ sp S8x512 .f32) (inb : ∀ a, (![0, 0] : Fin 2 → Nat) a + (![8, 512] : Fin 2 → Nat) a ≤ S8x512.size a)
    (w : Vec Ideal S8x512 .f32) (hw : ∀ j, w j = 0) (p2 : Vec Ideal S1x512 .f32) (j : (Rect.unit (s := S8x512) ![1, 0] ![1, 512] inb_S8x512_S1x512_1_0).shape.Idx) :
    v.readCov [⟨Rect.unit ![2, 0] ![1, 512] inb_S8x512_S1x512_2_0, p2⟩, ⟨Rect.unit ![0, 0] ![8, 512] inb, w⟩]
      (Rect.unit ![1, 0] ![1, 512] inb_S8x512_S1x512_1_0).toLoadRect j = 0 := by
  refine Eq.trans ?_ (zero_read v inb w hw ((Rect.unit ![1, 0] ![1, 512] inb_S8x512_S1x512_1_0).toLoadRect.idx j))
  have hj : (j 0).val < 1 := (j 0).isLt
  exact View.read_writes_cons_rows_of_not_mem v _ (o := 2) (W := 1) inb_S8x512_S1x512_2_0 p2 _ _ rfl rfl
    (Or.inl (by show 1 + 1 * (j 0).val < 2; omega))

/-- and after rows 2 and 1 are stored, when row 0 is read. -/
theorem zero_cov0 {κ : Kind} {sp : Space} (v : View sig κ sp S8x512 .f32) (inb : ∀ a, (![0, 0] : Fin 2 → Nat) a + (![8, 512] : Fin 2 → Nat) a ≤ S8x512.size a)
    (w : Vec Ideal S8x512 .f32) (hw : ∀ j, w j = 0) (p1 p2 : Vec Ideal S1x512 .f32) (j : (Rect.unit (s := S8x512) ![0, 0] ![1, 512] inb_S8x512_S1x512_0_0).shape.Idx) :
    v.readCov [⟨Rect.unit ![1, 0] ![1, 512] inb_S8x512_S1x512_1_0, p1⟩, ⟨Rect.unit ![2, 0] ![1, 512] inb_S8x512_S1x512_2_0, p2⟩,
        ⟨Rect.unit ![0, 0] ![8, 512] inb, w⟩]
      (Rect.unit ![0, 0] ![1, 512] inb_S8x512_S1x512_0_0).toLoadRect j = 0 := by
  refine Eq.trans ?_ (zero_read v inb w hw ((Rect.unit ![0, 0] ![1, 512] inb_S8x512_S1x512_0_0).toLoadRect.idx j))
  have hj : (j 0).val < 1 := (j 0).isLt
  refine (View.read_writes_cons_rows_of_not_mem v _ (o := 1) (W := 1) inb_S8x512_S1x512_1_0 p1 _ _ rfl rfl
    (Or.inl (by show 0 + 1 * (j 0).val < 1; omega))).trans ?_
  exact View.read_writes_cons_rows_of_not_mem v _ (o := 2) (W := 1) inb_S8x512_S1x512_2_0 p2 _ _ rfl rfl
    (Or.inl (by show 0 + 1 * (j 0).val < 2; omega))

theorem pay2_zero (j : S8x512.Idx) : (k0_pay2 : FVec Ideal S8x512 .f32) j = 0 := Ideal.ofBits_zero_f32
theorem pay3_zero (j : S8x512.Idx) : (k0_pay3 : FVec Ideal S8x512 .f32) j = 0 := Ideal.ofBits_zero_f32

end Cert.KernelIdeal.Blk

end
-- ==== Proof.FfnCase.lean ====
/-
  The two cases of the kernel's body, at a column's first block and at a later one: what each leaves in the four output
  blocks, read at an index.
-/
module

public import proofs.«01_k».proof.Proof.FfnOut

@[expose] public section

noncomputable section

open Idealize.ShloMosaic Idealize.ShloMosaic.TcCoe Idealize.SL.Sem

namespace Cert.KernelIdeal.Blk

open Cert.KernelIdeal Cert.KernelIdeal.Gen

section Cases

variable (c : Dev nD) (i : grid0.Coords)
  (a2 : Memref sig .tc .vmem S512x512 .f32) (h2 : a2.IsWhole)
  (a3 : Memref sig .tc .vmem S512x512 .f32) (h3 : a3.IsWhole)
  (a4 : Memref sig .tc .vmem S8x512 .f32) (h4 : a4.IsWhole)
  (a5 : Memref sig .tc .vmem S8x512 .f32) (h5 : a5.IsWhole)
  (a6 : Memref sig .tc .vmem S8x512 .f32) (h6 : a6.IsWhole)
  (a7 : Memref sig .tc .vmem S8x512 .f32) (h7 : a7.IsWhole)
  (a8 : Memref sig .tc .vmem S3x512 .f32) (h8 : a8.IsWhole)
  (a9 : Memref sig .tc .vmem S3x512 .f32) (h9 : a9.IsWhole)
  (a10 : Memref sig .tc .vmem S512x512 .f32) (h10 : a10.IsWhole)
  (a11 : Memref sig .tc .vmem S8x512 .f32) (h11 : a11.IsWhole)
  (a12 : Memref sig .tc .vmem S512x512 .bf16) (h12 : a12.IsWhole)
  (a13 : Memref sig .tc .vmem S512x512 .bf16) (h13 : a13.IsWhole)
  (a14 : Memref sig .tc .vmem S8x512 .f32) (h14 : a14.IsWhole)
  (a15 : Memref sig .tc .vmem S8x512 .f32) (h15 : a15.IsWhole)
  {x0 x1 : Vec Ideal S512x512 .f32} {x2 x3 x4 x5 : Vec Ideal S8x512 .f32} (x6 x7 : Vec Ideal S3x512 .f32)
  {x8 : Vec Ideal S512x512 .f32} {x9 : Vec Ideal S8x512 .f32} {fA fV G : Fin 512 → ℕ → EReal}
  (h : Facts i x0 x1 x2 x3 x4 x5 x8 x9 fA fV G)

include h

/-- Output 0 at a first block. -/
theorem out_A_10 (hc : cond0_0 i) (e : Fin 512) (l : Fin 512) :
    out0_A_10 c i a2 h2 a3 h3 a4 h4 a5 h5 a6 h6 a7 h7 a8 h8 a9 h9 a10 h10 a11 h11 a12 h12 a13 h13 a14 h14 a15 h15 hc x0 x1 x2 x3 x4 x5 x6 x7 x8 x9 (ix2 e l)
      = dxl (tapRow2 x6) (tapRow1 x6) (tapRow0 x6) (DAl x6 x7 fA fV G) l e.val := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 hc x0 x1 x2 x3 x4 x5 x6 x7 x8 x9)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  exact dxA_apply h x6 x7 e l

/-- Output 1 at a first block. -/
theorem out_A_11 (hc : cond0_0 i) (e : Fin 512) (l : Fin 512) :
    out0_A_11 c i a2 h2 a3 h3 a4 h4 a5 h5 a6 h6 a7 h7 a8 h8 a9 h9 a10 h10 a11 h11 a12 h12 a13 h13 a14 h14 a15 h15 hc x0 x1 x2 x3 x4 x5 x6 x7 x8 x9 (ix2 e l)
      = dxl (tapRow2 x7) (tapRow1 x7) (tapRow0 x7) (DVl x6 fA G) l e.val := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 hc x0 x1 x2 x3 x4 x5 x6 x7 x8 x9)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  exact dxV_apply h x6 x7 e l

/-- Output 2 at a first block. -/
theorem out_A_12 (hc : cond0_0 i) (k : Fin 8) (l : Fin 512) :
    out0_A_12 c i a2 h2 a3 h3 a4 h4 a5 h5 a6 h6 a7 h7 a8 h8 a9 h9 a10 h10 a11 h11 a12 h12 a13 h13 a14 h14 a15 h15 hc x0 x1 x2 x3 x4 x5 x6 x7 x8 x9 (ix2 k l)
      = 0 + ∑ e : Fin 512, DAl x6 x7 fA fV G l e.val * tapl fA k l e.val := by
  unfold out0_A_12
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  refine (three_rows _ _ _ _ _ _ k l).trans (rows_sum (DAl x6 x7 fA fV G l) fA (fun _ => 0) k l _ _ _ _ ?_ ?_ ?_ ?_)
  · exact (dwA0_apply h x6 x7 _ l).trans (congrArg (· + _) (zero_cov0 _ _ _ pay2_zero _ _ _))
  · exact (dwA1_apply h x6 x7 _ l).trans (congrArg (· + _) (zero_cov1 _ _ _ pay2_zero _ _))
  · exact (dwA2_apply h x6 x7 _ l).trans (congrArg (· + _) (zero_cov2 _ _ _ pay2_zero _ _))
  · exact zero_read _ _ _ pay2_zero _

/-- Output 3 at a first block. -/
theorem out_A_13 (hc : cond0_0 i) (k : Fin 8) (l : Fin 512) :
    out0_A_13 c i a2 h2 a3 h3 a4 h4 a5 h5 a6 h6 a7 h7 a8 h8 a9 h9 a10 h10 a11 h11 a12 h12 a13 h13 a14 h14 a15 h15 hc x0 x1 x2 x3 x4 x5 x6 x7 x8 x9 (ix2 k l)
      = 0 + ∑ e : Fin 512, DVl x6 fA G l e.val * tapl fV k l e.val := by
  unfold out0_A_13
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  refine (three_rows _ _ _ _ _ _ k l).trans (rows_sum (DVl x6 fA G l) fV (fun _ => 0) k l _ _ _ _ ?_ ?_ ?_ ?_)
  · exact (dwV0_apply h x6 _ l).trans (congrArg (· + _) (zero_cov0 _ _ _ pay3_zero _ _ _))
  · exact (dwV1_apply h x6 _ l).trans (congrArg (· + _) (zero_cov1 _ _ _ pay3_zero _ _))
  · exact (dwV2_apply h x6 _ l).trans (congrArg (· + _) (zero_cov2 _ _ _ pay3_zero _ _))
  · exact zero_read _ _ _ pay3_zero _

/-- Output 0 at a later block. -/
theorem out_B_10 (hc : ¬cond0_0 i) (y12 y13 : Vec Ideal S8x512 .f32) (e : Fin 512) (l : Fin 512) :
    out0_B_10 c i a2 h2 a3 h3 a4 h4 a5 h5 a6 h6 a7 h7 a8 h8 a9 h9 a10 h10 a11 h11 a12 h12 a13 h13 a14 h14 a15 h15 hc x0 x1 x2 x3 x4 x5 x6 x7 x8 x9 y12 y13 (ix2 e l)
      = dxl (tapRow2 x6) (tapRow1 x6) (tapRow0 x6) (DAl x6 x7 fA fV G) l e.val := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 hc x0 x1 x2 x3 x4 x5 x6 x7 x8 x9 y12 y13)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  exact dxA_apply h x6 x7 e l

/-- Output 1 at a later block. -/
theorem out_B_11 (hc : ¬cond0_0 i) (y12 y13 : Vec Ideal S8x512 .f32) (e : Fin 512) (l : Fin 512) :
    out0_B_11 c i a2 h2 a3 h3 a4 h4 a5 h5 a6 h6 a7 h7 a8 h8 a9 h9 a10 h10 a11 h11 a12 h12 a13 h13 a14 h14 a15 h15 hc x0 x1 x2 x3 x4 x5 x6 x7 x8 x9 y12 y13 (ix2 e l)
      = dxl (tapRow2 x7) (tapRow1 x7) (tapRow0 x7) (DVl x6 fA G) l e.val := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 hc x0 x1 x2 x3 x4 x5 x6 x7 x8 x9 y12 y13)]
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  exact dxV_apply h x6 x7 e l

/-- Output 2 at a later block. -/
theorem out_B_12 (hc : ¬cond0_0 i) (y12 y13 : Vec Ideal S8x512 .f32) (k : Fin 8) (l : Fin 512) :
    out0_B_12 c i a2 h2 a3 h3 a4 h4 a5 h5 a6 h6 a7 h7 a8 h8 a9 h9 a10 h10 a11 h11 a12 h12 a13 h13 a14 h14 a15 h15 hc x0 x1 x2 x3 x4 x5 x6 x7 x8 x9 y12 y13 (ix2 k l)
      = y12 (ix2 k l) + ∑ e : Fin 512, DAl x6 x7 fA fV G l e.val * tapl fA k l e.val := by
  unfold out0_B_12
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  refine (three_rows _ _ _ _ _ _ k l).trans (rows_sum (DAl x6 x7 fA fV G l) fA (fun r => y12 (ix2 r l)) k l _ _ _ _ ?_ ?_ ?_ ?_)
  · refine (dwA0_apply h x6 x7 _ l).trans (congrArg (· + _) (congrArg y12 (funext fun a => Fin.ext ?_)))
    match a with
    | ⟨0, _⟩ => rfl
    | ⟨1, _⟩ => show 0 + 1 * l.val = l.val; omega
  · refine (dwA1_apply h x6 x7 _ l).trans (congrArg (· + _) (congrArg y12 (funext fun a => Fin.ext ?_)))
    match a with
    | ⟨0, _⟩ => rfl
    | ⟨1, _⟩ => show 0 + 1 * l.val = l.val; omega
  · refine (dwA2_apply h x6 x7 _ l).trans (congrArg (· + _) (congrArg y12 (funext fun a => Fin.ext ?_)))
    match a with
    | ⟨0, _⟩ => rfl
    | ⟨1, _⟩ => show 0 + 1 * l.val = l.val; omega
  · exact congrFun (h14.read_unread _) _

/-- Output 3 at a later block. -/
theorem out_B_13 (hc : ¬cond0_0 i) (y12 y13 : Vec Ideal S8x512 .f32) (k : Fin 8) (l : Fin 512) :
    out0_B_13 c i a2 h2 a3 h3 a4 h4 a5 h5 a6 h6 a7 h7 a8 h8 a9 h9 a10 h10 a11 h11 a12 h12 a13 h13 a14 h14 a15 h15 hc x0 x1 x2 x3 x4 x5 x6 x7 x8 x9 y12 y13 (ix2 k l)
      = y13 (ix2 k l) + ∑ e : Fin 512, DVl x6 fA G l e.val * tapl fV k l e.val := by
  unfold out0_B_13
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x512) hz, View.ld_unit_zero (S := S8x512) hz, View.canon_unit_zero (S := S512x512) hz]
  refine (three_rows _ _ _ _ _ _ k l).trans (rows_sum (DVl x6 fA G l) fV (fun r => y13 (ix2 r l)) k l _ _ _ _ ?_ ?_ ?_ ?_)
  · refine (dwV0_apply h x6 _ l).trans (congrArg (· + _) (congrArg y13 (funext fun a => Fin.ext ?_)))
    match a with
    | ⟨0, _⟩ => rfl
    | ⟨1, _⟩ => show 0 + 1 * l.val = l.val; omega
  · refine (dwV1_apply h x6 _ l).trans (congrArg (· + _) (congrArg y13 (funext fun a => Fin.ext ?_)))
    match a with
    | ⟨0, _⟩ => rfl
    | ⟨1, _⟩ => show 0 + 1 * l.val = l.val; omega
  · refine (dwV2_apply h x6 _ l).trans (congrArg (· + _) (congrArg y13 (funext fun a => Fin.ext ?_)))
    match a with
    | ⟨0, _⟩ => rfl
    | ⟨1, _⟩ => show 0 + 1 * l.val = l.val; omega
  · exact congrFun (h15.read_unread _) _

end Cases

end Cert.KernelIdeal.Blk

end
-- ==== Proof.FfnSpec.lean ====
/-
  The mathematics both programs compute, over extended reals: a gated feed-forward mix is a causal three-tap convolution of
  every column of the up-projection, the logistic-gated product of the two halves' columns, and its backward pass. Here are
  the gradients of the up-projection and of the taps, one column at a time, as sums and products of the arguments' entries.
-/
module

public import proofs.«01_k».proof.Proof.Silu

@[expose] public section

noncomputable section

namespace Cert.FfnSpec

open Idealize.ShloMosaic

/-- The up-projection, the taps and the cotangent of the gated product, as functions of an index. -/
abbrev Up := (⟨2, ![8192, 11264]⟩ : Shape).Idx → EReal
abbrev Taps := (⟨2, ![3, 11264]⟩ : Shape).Idx → EReal
abbrev Ct := (⟨2, ![8192, 5632]⟩ : Shape).Idx → EReal

/-- Column `q` of the up-projection with two zero rows above it (row `n` is the array's row `n - 2`) and zeros below. -/
def xs (up : Up) (q : Fin 11264) (n : ℕ) : EReal := if h : 2 ≤ n ∧ n < 8194 then up (ix2 (⟨n - 2, by omega⟩ : Fin 8192) q) else 0

/-- Column `p` of the cotangent, zero below the last row. -/
def gt (g : Ct) (p : Fin 5632) (r : ℕ) : EReal := if h : r < 8192 then g (ix2 (⟨r, h⟩ : Fin 8192) p) else 0

theorem xs_in (up : Up) (q : Fin 11264) (n : ℕ) (r : Fin 8192) (h : n = r.val + 2) : xs up q n = up (ix2 r q) := by
  subst h; unfold xs; rw [dif_pos (by omega)]; rfl
theorem xs_out (up : Up) (q : Fin 11264) (n : ℕ) (h : n < 2 ∨ 8194 ≤ n) : xs up q n = 0 := by
  unfold xs; rw [dif_neg (by omega)]
theorem gt_in (g : Ct) (p : Fin 5632) (n : ℕ) (r : Fin 8192) (h : n = r.val) : gt g p n = g (ix2 r p) := by
  subst h; unfold gt; rw [dif_pos r.isLt]
theorem gt_out (g : Ct) (p : Fin 5632) (n : ℕ) (h : 8192 ≤ n) : gt g p n = 0 := by
  unfold gt; rw [dif_neg (by omega)]

/-- The causal convolution of column `q`, at row `r`. -/
def cv (up : Up) (w : Taps) (q : Fin 11264) (r : ℕ) : EReal :=
  w (ix2 (2 : Fin 3) q) * xs up q (r + 2) + w (ix2 (1 : Fin 3) q) * xs up q (r + 1) + w (ix2 (0 : Fin 3) q) * xs up q r

/-- The columns of the gate's half and of the value's half. -/
def qa (p : Fin 5632) : Fin 11264 := ⟨p.val, by omega⟩
def qv (p : Fin 5632) : Fin 11264 := ⟨5632 + p.val, by omega⟩

/-- The cotangents of the gate's and the value's convolution outputs. -/
def DA (up : Up) (w : Taps) (g : Ct) (p : Fin 5632) (r : ℕ) : EReal :=
  Cert.Silu.dact (cv up w (qa p) r) (gt g p r * cv up w (qv p) r)
def DV (up : Up) (w : Taps) (g : Ct) (p : Fin 5632) (r : ℕ) : EReal :=
  (cv up w (qa p) r * Cert.Silu.sg (cv up w (qa p) r)) * gt g p r

/-- The transposed convolution of a cotangent column. -/
def dx (w : Taps) (q : Fin 11264) (D : ℕ → EReal) (r : ℕ) : EReal :=
  w (ix2 (2 : Fin 3) q) * D r + w (ix2 (1 : Fin 3) q) * D (r + 1) + w (ix2 (0 : Fin 3) q) * D (r + 2)

/-- What row `k` of the taps' gradient pairs with row `r` of the cotangent. -/
def tap (up : Up) (q : Fin 11264) (k : Fin 8) (r : ℕ) : EReal := if k.val < 3 then xs up q (r + k.val) else 0

/-- Row `k` of the taps' gradient: the sum over the rows (rows 3 to 7 are zero). -/
def dw (up : Up) (q : Fin 11264) (D : ℕ → EReal) (k : Fin 8) (n : ℕ) : EReal := ∑ r ∈ Finset.range n, D r * tap up q k r

/-- The four results. -/
def o0 (up : Up) (w : Taps) (g : Ct) (i : (⟨2, ![8192, 5632]⟩ : Shape).Idx) : EReal := dx w (qa (i 1)) (DA up w g (i 1)) (i 0).val
def o1 (up : Up) (w : Taps) (g : Ct) (i : (⟨2, ![8192, 5632]⟩ : Shape).Idx) : EReal := dx w (qv (i 1)) (DV up w g (i 1)) (i 0).val
def o2 (up : Up) (w : Taps) (g : Ct) (i : (⟨2, ![8, 5632]⟩ : Shape).Idx) : EReal := dw up (qa (i 1)) (DA up w g (i 1)) (i 0) 8192
def o3 (up : Up) (w : Taps) (g : Ct) (i : (⟨2, ![8, 5632]⟩ : Shape).Idx) : EReal := dw up (qv (i 1)) (DV up w g (i 1)) (i 0) 8192

/-- Below the last row there is no cotangent. -/
theorem DA_zero (up : Up) (w : Taps) (g : Ct) (p : Fin 5632) (r : ℕ) (hr : 8192 ≤ r) : DA up w g p r = 0 := by
  unfold DA gt; rw [dif_neg (by omega), zero_mul, Cert.Silu.dact_zero]
theorem DV_zero (up : Up) (w : Taps) (g : Ct) (p : Fin 5632) (r : ℕ) (hr : 8192 ≤ r) : DV up w g p r = 0 := by
  unfold DV gt; rw [dif_neg (by omega), mul_zero]

/-- 512 more rows of a tap's gradient. -/
theorem dw_block (up : Up) (q : Fin 11264) (D : ℕ → EReal) (k : Fin 8) (o : ℕ) :
    dw up q D k (o + 512) = dw up q D k o + ∑ e : Fin 512, D (o + e.val) * tap up q k (o + e.val) := by
  unfold dw
  rw [Finset.sum_range_add, ← Finset.sum_range fun e => D (o + e) * tap up q k (o + e)]

end Cert.FfnSpec

end
-- ==== Proof.FfnBlk.lean ====
/-
  The kernel's input blocks as parts of its argument arrays: which rows and columns each window holds at a grid point, and so
  what `FfnOut`'s columns are at that point.
-/
module

public import proofs.«01_k».proof.Proof.FfnOut
public import proofs.«01_k».proof.Proof.FfnSpec

@[expose] public section

noncomputable section

open Idealize.ShloMosaic Idealize.ShloMosaic.TcCoe Idealize.SL.Sem

namespace Cert.KernelIdeal.Blk

open Cert.KernelIdeal Cert.KernelIdeal.Gen Cert.FfnSpec

variable (m : (ℓ : Loc nD τ sig) → Buf (Elt Ideal) ℓ) (c : Dev nD)

/-- The three arguments of a device. -/
abbrev mUp : Up := m ((c.tc : Thread nD τ).loc main_arg0)
abbrev mW : Taps := m ((c.tc : Thread nD τ).loc main_arg1)
abbrev mG : Ct := m ((c.tc : Thread nD τ).loc main_arg2)

/-- The block indices of the input windows at a grid point, decided over the grid. -/
theorem idx_in : ∀ t : Fin grid0.N,
    (win0_0.index t 0 = t.val % 16 ∧ win0_0.index t 1 = t.val / 16)
    ∧ (win0_1.index t 0 = t.val % 16 ∧ win0_1.index t 1 = t.val / 16 + 11)
    ∧ (win0_2.index t 0 = t.val % 16 * 64 - 1 ∧ win0_2.index t 1 = t.val / 16)
    ∧ (win0_3.index t 0 = t.val % 16 * 64 - 1 ∧ win0_3.index t 1 = t.val / 16 + 11)
    ∧ (win0_4.index t 0 = min (t.val % 16 * 64 + 64) 1023 ∧ win0_4.index t 1 = t.val / 16)
    ∧ (win0_5.index t 0 = min (t.val % 16 * 64 + 64) 1023 ∧ win0_5.index t 1 = t.val / 16 + 11)
    ∧ (win0_6.index t 0 = 0 ∧ win0_6.index t 1 = t.val / 16)
    ∧ (win0_7.index t 0 = 0 ∧ win0_7.index t 1 = t.val / 16 + 11)
    ∧ (win0_8.index t 0 = t.val % 16 ∧ win0_8.index t 1 = t.val / 16)
    ∧ (win0_9.index t 0 = min (t.val % 16 * 64 + 64) 1023 ∧ win0_9.index t 1 = t.val / 16) := by
  decide +kernel

/-- The block indices of the output windows. -/
theorem idx_out : ∀ t : Fin grid0.N,
    (win0_10.index t 0 = t.val % 16 ∧ win0_10.index t 1 = t.val / 16)
    ∧ (win0_11.index t 0 = t.val % 16 ∧ win0_11.index t 1 = t.val / 16)
    ∧ (win0_12.index t 0 = 0 ∧ win0_12.index t 1 = t.val / 16)
    ∧ (win0_13.index t 0 = 0 ∧ win0_13.index t 1 = t.val / 16) := by
  decide +kernel

/-- The second grid coordinate, and the two tests on it. -/
theorem bits_in : ∀ t : Fin grid0.N,
    lastB (grid0.coords t) = (if t.val % 16 = 15 then 1#1 else 0#1) ∧ firstB (grid0.coords t) = (if t.val % 16 = 0 then 1#1 else 0#1) := by
  decide +kernel

section Reads

variable (t : Fin cfg0.N)

/-- Input window 0 at a point. -/
theorem blk0 (e : Fin 512) (l : Fin 512) (r : Fin 8192) (q : Fin 11264) (hr : r.val = 512 * (t.val % 16) + e.val)
    (hq : q.val = 512 * (t.val / 16) + l.val) :
    (iblk m c 0 t : Vec Ideal S512x512 .f32) (ix2 e l) = mUp m c (ix2 r q) := by
  unfold iblk
  rw [View.read_apply]
  show V m c main_arg0 _ = _
  unfold V
  refine congrArg (m _) (funext fun a => Fin.ext ?_)
  have hi := (idx_in t).1
  match a with
  | ⟨0, _⟩ => show win0_0.index t 0 * 512 + 1 * e.val = r.val; rw [hi.1]; omega
  | ⟨1, _⟩ => show win0_0.index t 1 * 512 + 1 * l.val = q.val; rw [hi.2]; omega

/-- Input window 1 at a point. -/
theorem blk1 (e : Fin 512) (l : Fin 512) (r : Fin 8192) (q : Fin 11264) (hr : r.val = 512 * (t.val % 16) + e.val)
    (hq : q.val = 512 * (t.val / 16) + 5632 + l.val) :
    (iblk m c 1 t : Vec Ideal S512x512 .f32) (ix2 e l) = mUp m c (ix2 r q) := by
  unfold iblk
  rw [View.read_apply]
  show V m c main_arg0 _ = _
  unfold V
  refine congrArg (m _) (funext fun a => Fin.ext ?_)
  have hi := (idx_in t).2.1
  match a with
  | ⟨0, _⟩ => show win0_1.index t 0 * 512 + 1 * e.val = r.val; rw [hi.1]; omega
  | ⟨1, _⟩ => show win0_1.index t 1 * 512 + 1 * l.val = q.val; rw [hi.2]; omega

/-- Input window 2 at a point. -/
theorem blk2 (e : Fin 8) (l : Fin 512) (r : Fin 8192) (q : Fin 11264) (hr : r.val = 8 * (t.val % 16 * 64 - 1) + e.val)
    (hq : q.val = 512 * (t.val / 16) + l.val) :
    (iblk m c 2 t : Vec Ideal S8x512 .f32) (ix2 e l) = mUp m c (ix2 r q) := by
  unfold iblk
  rw [View.read_apply]
  show V m c main_arg0 _ = _
  unfold V
  refine congrArg (m _) (funext fun a => Fin.ext ?_)
  have hi := (idx_in t).2.2.1
  match a with
  | ⟨0, _⟩ => show win0_2.index t 0 * 8 + 1 * e.val = r.val; rw [hi.1]; omega
  | ⟨1, _⟩ => show win0_2.index t 1 * 512 + 1 * l.val = q.val; rw [hi.2]; omega

/-- Input window 3 at a point. -/
theorem blk3 (e : Fin 8) (l : Fin 512) (r : Fin 8192) (q : Fin 11264) (hr : r.val = 8 * (t.val % 16 * 64 - 1) + e.val)
    (hq : q.val = 512 * (t.val / 16) + 5632 + l.val) :
    (iblk m c 3 t : Vec Ideal S8x512 .f32) (ix2 e l) = mUp m c (ix2 r q) := by
  unfold iblk
  rw [View.read_apply]
  show V m c main_arg0 _ = _
  unfold V
  refine congrArg (m _) (funext fun a => Fin.ext ?_)
  have hi := (idx_in t).2.2.2.1
  match a with
  | ⟨0, _⟩ => show win0_3.index t 0 * 8 + 1 * e.val = r.val; rw [hi.1]; omega
  | ⟨1, _⟩ => show win0_3.index t 1 * 512 + 1 * l.val = q.val; rw [hi.2]; omega

/-- Input window 4 at a point. -/
theorem blk4 (e : Fin 8) (l : Fin 512) (r : Fin 8192) (q : Fin 11264) (hr : r.val = 8 * min (t.val % 16 * 64 + 64) 1023 + e.val)
    (hq : q.val = 512 * (t.val / 16) + l.val) :
    (iblk m c 4 t : Vec Ideal S8x512 .f32) (ix2 e l) = mUp m c (ix2 r q) := by
  unfold iblk
  rw [View.read_apply]
  show V m c main_arg0 _ = _
  unfold V
  refine congrArg (m _) (funext fun a => Fin.ext ?_)
  have hi := (idx_in t).2.2.2.2.1
  match a with
  | ⟨0, _⟩ => show win0_4.index t 0 * 8 + 1 * e.val = r.val; rw [hi.1]; omega
  | ⟨1, _⟩ => show win0_4.index t 1 * 512 + 1 * l.val = q.val; rw [hi.2]; omega

/-- Input window 5 at a point. -/
theorem blk5 (e : Fin 8) (l : Fin 512) (r : Fin 8192) (q : Fin 11264) (hr : r.val = 8 * min (t.val % 16 * 64 + 64) 1023 + e.val)
    (hq : q.val = 512 * (t.val / 16) + 5632 + l.val) :
    (iblk m c 5 t : Vec Ideal S8x512 .f32) (ix2 e l) = mUp m c (ix2 r q) := by
  unfold iblk
  rw [View.read_apply]
  show V m c main_arg0 _ = _
  unfold V
  refine congrArg (m _) (funext fun a => Fin.ext ?_)
  have hi := (idx_in t).2.2.2.2.2.1
  match a with
  | ⟨0, _⟩ => show win0_5.index t 0 * 8 + 1 * e.val = r.val; rw [hi.1]; omega
  | ⟨1, _⟩ => show win0_5.index t 1 * 512 + 1 * l.val = q.val; rw [hi.2]; omega

/-- Input window 6 at a point. -/
theorem blk6 (e : Fin 3) (l : Fin 512) (r : Fin 3) (q : Fin 11264) (hr : r.val = 0 + e.val)
    (hq : q.val = 512 * (t.val / 16) + l.val) :
    (iblk m c 6 t : Vec Ideal S3x512 .f32) (ix2 e l) = mW m c (ix2 r q) := by
  unfold iblk
  rw [View.read_apply]
  show V m c main_arg1 _ = _
  unfold V
  refine congrArg (m _) (funext fun a => Fin.ext ?_)
  have hi := (idx_in t).2.2.2.2.2.2.1
  match a with
  | ⟨0, _⟩ => show win0_6.index t 0 * 3 + 1 * e.val = r.val; rw [hi.1]; omega
  | ⟨1, _⟩ => show win0_6.index t 1 * 512 + 1 * l.val = q.val; rw [hi.2]; omega

/-- Input window 7 at a point. -/
theorem blk7 (e : Fin 3) (l : Fin 512) (r : Fin 3) (q : Fin 11264) (hr : r.val = 0 + e.val)
    (hq : q.val = 512 * (t.val / 16) + 5632 + l.val) :
    (iblk m c 7 t : Vec Ideal S3x512 .f32) (ix2 e l) = mW m c (ix2 r q) := by
  unfold iblk
  rw [View.read_apply]
  show V m c main_arg1 _ = _
  unfold V
  refine congrArg (m _) (funext fun a => Fin.ext ?_)
  have hi := (idx_in t).2.2.2.2.2.2.2.1
  match a with
  | ⟨0, _⟩ => show win0_7.index t 0 * 3 + 1 * e.val = r.val; rw [hi.1]; omega
  | ⟨1, _⟩ => show win0_7.index t 1 * 512 + 1 * l.val = q.val; rw [hi.2]; omega

/-- Input window 8 at a point. -/
theorem blk8 (e : Fin 512) (l : Fin 512) (r : Fin 8192) (q : Fin 5632) (hr : r.val = 512 * (t.val % 16) + e.val)
    (hq : q.val = 512 * (t.val / 16) + l.val) :
    (iblk m c 8 t : Vec Ideal S512x512 .f32) (ix2 e l) = mG m c (ix2 r q) := by
  unfold iblk
  rw [View.read_apply]
  show V m c main_arg2 _ = _
  unfold V
  refine congrArg (m _) (funext fun a => Fin.ext ?_)
  have hi := (idx_in t).2.2.2.2.2.2.2.2.1
  match a with
  | ⟨0, _⟩ => show win0_8.index t 0 * 512 + 1 * e.val = r.val; rw [hi.1]; omega
  | ⟨1, _⟩ => show win0_8.index t 1 * 512 + 1 * l.val = q.val; rw [hi.2]; omega

/-- Input window 9 at a point. -/
theorem blk9 (e : Fin 8) (l : Fin 512) (r : Fin 8192) (q : Fin 5632) (hr : r.val = 8 * min (t.val % 16 * 64 + 64) 1023 + e.val)
    (hq : q.val = 512 * (t.val / 16) + l.val) :
    (iblk m c 9 t : Vec Ideal S8x512 .f32) (ix2 e l) = mG m c (ix2 r q) := by
  unfold iblk
  rw [View.read_apply]
  show V m c main_arg2 _ = _
  unfold V
  refine congrArg (m _) (funext fun a => Fin.ext ?_)
  have hi := (idx_in t).2.2.2.2.2.2.2.2.2
  match a with
  | ⟨0, _⟩ => show win0_9.index t 0 * 8 + 1 * e.val = r.val; rw [hi.1]; omega
  | ⟨1, _⟩ => show win0_9.index t 1 * 512 + 1 * l.val = q.val; rw [hi.2]; omega

/-- The column of the gated product that a point's column `l` is. -/
def col (l : Fin 512) : Fin 5632 := ⟨512 * (t.val / 16) + l.val, by
  have h : t.val < 176 := lt_of_lt_of_eq t.isLt N_0; omega⟩

theorem qa_col (l : Fin 512) : (qa (col t l)).val = 512 * (t.val / 16) + l.val := rfl
theorem qv_col (l : Fin 512) : (qv (col t l)).val = 512 * (t.val / 16) + 5632 + l.val := by
  rw [show (qv (col t l)).val = 5632 + (col t l).val from rfl, show (col t l).val = 512 * (t.val / 16) + l.val from rfl]; omega

omit m c t in
/-- Where the eight rows after and before a block begin. -/
theorem halo_next (i e : ℕ) (h : ¬i = 15) (hi : i < 16) : 512 * i + 512 + e = 8 * min (i * 64 + 64) 1023 + e := by omega
omit m c t in
theorem halo_next' (i e : ℕ) : 512 * i + (512 + e + 2) = 512 * i + 512 + e + 2 := by omega
omit m c t in
theorem halo_prev (i e : ℕ) (h : ¬i = 0) : 512 * i + e - 8 = 8 * (i * 64 - 1) + e := by omega
omit m c t in
theorem halo_prev' (i e : ℕ) (h : ¬i = 0) (he : 6 ≤ e) : 512 * i + (e - 6) = 512 * i + e - 8 + 2 := by omega

/-- The input blocks of point `t` hold the columns from row `512 * (t % 16)` on. -/
theorem facts : Facts (grid0.coords t) (iblk m c 0 t) (iblk m c 1 t) (iblk m c 2 t) (iblk m c 3 t) (iblk m c 4 t) (iblk m c 5 t)
    (iblk m c 8 t) (iblk m c 9 t)
    (fun l n => xs (mUp m c) (qa (col t l)) (512 * (t.val % 16) + n)) (fun l n => xs (mUp m c) (qv (col t l)) (512 * (t.val % 16) + n))
    (fun l n => gt (mG m c) (col t l) (512 * (t.val % 16) + n)) := by
  have hN : t.val < 176 := lt_of_lt_of_eq t.isLt N_0
  have hb := bits_in t
  have one : ∀ x y : EReal, Scalar.select 1#1 x y = x := fun _ _ => rfl
  have zero : ∀ x y : EReal, Scalar.select 0#1 x y = y := fun _ _ => rfl
  refine ⟨?_, ?_, ?_, ?_, ?_, ?_, ?_, ?_⟩
  · intro e l
    have he := e.isLt
    exact (blk0 m c t e l ⟨512 * (t.val % 16) + e.val, by omega⟩ (qa (col t l)) rfl (qa_col t l)).trans
      (xs_in _ _ _ _ rfl).symm
  · intro e l
    have he := e.isLt
    rw [hb.1]
    by_cases h : t.val % 16 = 15
    · rw [if_pos h, one]
      exact (xs_out _ _ _ (by omega)).symm
    · rw [if_neg h, zero]
      exact (blk4 m c t e l ⟨512 * (t.val % 16) + 512 + e.val, by omega⟩ (qa (col t l)) (halo_next _ _ h (by omega)) (qa_col t l)).trans
        (xs_in _ _ _ _ (halo_next' _ _)).symm
  · intro e l h6
    have he := e.isLt
    rw [hb.2]
    by_cases h : t.val % 16 = 0
    · rw [if_pos h, one]
      exact (xs_out _ _ _ (by omega)).symm
    · rw [if_neg h, zero]
      exact (blk2 m c t e l ⟨512 * (t.val % 16) + e.val - 8, by omega⟩ (qa (col t l)) (halo_prev _ _ h) (qa_col t l)).trans
        (xs_in _ _ _ _ (halo_prev' _ _ h h6)).symm
  · intro e l
    have he := e.isLt
    exact (blk1 m c t e l ⟨512 * (t.val % 16) + e.val, by omega⟩ (qv (col t l)) rfl (qv_col t l)).trans
      (xs_in _ _ _ _ rfl).symm
  · intro e l
    have he := e.isLt
    rw [hb.1]
    by_cases h : t.val % 16 = 15
    · rw [if_pos h, one]
      exact (xs_out _ _ _ (by omega)).symm
    · rw [if_neg h, zero]
      exact (blk5 m c t e l ⟨512 * (t.val % 16) + 512 + e.val, by omega⟩ (qv (col t l)) (halo_next _ _ h (by omega)) (qv_col t l)).trans
        (xs_in _ _ _ _ (halo_next' _ _)).symm
  · intro e l h6
    have he := e.isLt
    rw [hb.2]
    by_cases h : t.val % 16 = 0
    · rw [if_pos h, one]
      exact (xs_out _ _ _ (by omega)).symm
    · rw [if_neg h, zero]
      exact (blk3 m c t e l ⟨512 * (t.val % 16) + e.val - 8, by omega⟩ (qv (col t l)) (halo_prev _ _ h) (qv_col t l)).trans
        (xs_in _ _ _ _ (halo_prev' _ _ h h6)).symm
  · intro e l
    have he := e.isLt
    exact (blk8 m c t e l ⟨512 * (t.val % 16) + e.val, by omega⟩ (col t l) rfl rfl).trans (gt_in _ _ _ _ rfl).symm
  · intro e l
    have he := e.isLt
    rw [hb.1]
    by_cases h : t.val % 16 = 15
    · rw [if_pos h, one]
      exact (gt_out _ _ _ (by omega)).symm
    · rw [if_neg h, zero]
      exact (blk9 m c t e l ⟨512 * (t.val % 16) + 512 + e.val, by omega⟩ (col t l) (halo_next _ _ h (by omega)) rfl).trans
        (gt_in _ _ _ _ (Nat.add_assoc _ _ _).symm).symm

theorem tap6_0 (l : Fin 512) : tapRow0 (iblk m c 6 t) (ix2 (0 : Fin 1) l) = mW m c (ix2 (0 : Fin 3) (qa (col t l))) := by
  refine Eq.trans (congrArg (iblk m c 6 t : Vec Ideal S3x512 .f32) (funext fun a => Fin.ext ?_)) (blk6 m c t (0 : Fin 3) l _ _ rfl (qa_col t l))
  match a with
  | ⟨0, _⟩ => rfl
  | ⟨1, _⟩ => show 0 + 1 * l.val = l.val; omega

theorem tap6_1 (l : Fin 512) : tapRow1 (iblk m c 6 t) (ix2 (0 : Fin 1) l) = mW m c (ix2 (1 : Fin 3) (qa (col t l))) := by
  refine Eq.trans (congrArg (iblk m c 6 t : Vec Ideal S3x512 .f32) (funext fun a => Fin.ext ?_)) (blk6 m c t (1 : Fin 3) l _ _ rfl (qa_col t l))
  match a with
  | ⟨0, _⟩ => rfl
  | ⟨1, _⟩ => show 0 + 1 * l.val = l.val; omega

theorem tap6_2 (l : Fin 512) : tapRow2 (iblk m c 6 t) (ix2 (0 : Fin 1) l) = mW m c (ix2 (2 : Fin 3) (qa (col t l))) := by
  refine Eq.trans (congrArg (iblk m c 6 t : Vec Ideal S3x512 .f32) (funext fun a => Fin.ext ?_)) (blk6 m c t (2 : Fin 3) l _ _ rfl (qa_col t l))
  match a with
  | ⟨0, _⟩ => rfl
  | ⟨1, _⟩ => show 0 + 1 * l.val = l.val; omega

theorem tap7_0 (l : Fin 512) : tapRow0 (iblk m c 7 t) (ix2 (0 : Fin 1) l) = mW m c (ix2 (0 : Fin 3) (qv (col t l))) := by
  refine Eq.trans (congrArg (iblk m c 7 t : Vec Ideal S3x512 .f32) (funext fun a => Fin.ext ?_)) (blk7 m c t (0 : Fin 3) l _ _ rfl (qv_col t l))
  match a with
  | ⟨0, _⟩ => rfl
  | ⟨1, _⟩ => show 0 + 1 * l.val = l.val; omega

theorem tap7_1 (l : Fin 512) : tapRow1 (iblk m c 7 t) (ix2 (0 : Fin 1) l) = mW m c (ix2 (1 : Fin 3) (qv (col t l))) := by
  refine Eq.trans (congrArg (iblk m c 7 t : Vec Ideal S3x512 .f32) (funext fun a => Fin.ext ?_)) (blk7 m c t (1 : Fin 3) l _ _ rfl (qv_col t l))
  match a with
  | ⟨0, _⟩ => rfl
  | ⟨1, _⟩ => show 0 + 1 * l.val = l.val; omega

theorem tap7_2 (l : Fin 512) : tapRow2 (iblk m c 7 t) (ix2 (0 : Fin 1) l) = mW m c (ix2 (2 : Fin 3) (qv (col t l))) := by
  refine Eq.trans (congrArg (iblk m c 7 t : Vec Ideal S3x512 .f32) (funext fun a => Fin.ext ?_)) (blk7 m c t (2 : Fin 3) l _ _ rfl (qv_col t l))
  match a with
  | ⟨0, _⟩ => rfl
  | ⟨1, _⟩ => show 0 + 1 * l.val = l.val; omega

/-- The convolution of a block's column is the array's column's. -/
theorem cvl_A (l : Fin 512) (e : ℕ) :
    cvl (tapRow2 (iblk m c 6 t)) (tapRow1 (iblk m c 6 t)) (tapRow0 (iblk m c 6 t))
        (fun l n => xs (mUp m c) (qa (col t l)) (512 * (t.val % 16) + n)) l e
      = cv (mUp m c) (mW m c) (qa (col t l)) (512 * (t.val % 16) + e) := by
  unfold cvl cv
  rw [tap6_2, tap6_1, tap6_0]
  rfl

/-- The convolution of a block's column is the array's column's. -/
theorem cvl_V (l : Fin 512) (e : ℕ) :
    cvl (tapRow2 (iblk m c 7 t)) (tapRow1 (iblk m c 7 t)) (tapRow0 (iblk m c 7 t))
        (fun l n => xs (mUp m c) (qv (col t l)) (512 * (t.val % 16) + n)) l e
      = cv (mUp m c) (mW m c) (qv (col t l)) (512 * (t.val % 16) + e) := by
  unfold cvl cv
  rw [tap7_2, tap7_1, tap7_0]
  rfl

/-- The cotangents of a block's columns. -/
theorem DAl_eq (l : Fin 512) (e : ℕ) :
    DAl (iblk m c 6 t) (iblk m c 7 t) (fun l n => xs (mUp m c) (qa (col t l)) (512 * (t.val % 16) + n))
        (fun l n => xs (mUp m c) (qv (col t l)) (512 * (t.val % 16) + n)) (fun l n => gt (mG m c) (col t l) (512 * (t.val % 16) + n)) l e
      = DA (mUp m c) (mW m c) (mG m c) (col t l) (512 * (t.val % 16) + e) := by
  unfold DAl DA
  rw [cvl_A, cvl_V]

theorem DVl_eq (l : Fin 512) (e : ℕ) :
    DVl (iblk m c 6 t) (fun l n => xs (mUp m c) (qa (col t l)) (512 * (t.val % 16) + n))
        (fun l n => gt (mG m c) (col t l) (512 * (t.val % 16) + n)) l e
      = DV (mUp m c) (mW m c) (mG m c) (col t l) (512 * (t.val % 16) + e) := by
  unfold DVl DV
  rw [cvl_A]

/-- Their transposed convolutions. -/
theorem dxl_A (l : Fin 512) (e : ℕ) :
    dxl (tapRow2 (iblk m c 6 t)) (tapRow1 (iblk m c 6 t)) (tapRow0 (iblk m c 6 t))
        (DAl (iblk m c 6 t) (iblk m c 7 t) (fun l n => xs (mUp m c) (qa (col t l)) (512 * (t.val % 16) + n))
          (fun l n => xs (mUp m c) (qv (col t l)) (512 * (t.val % 16) + n)) (fun l n => gt (mG m c) (col t l) (512 * (t.val % 16) + n))) l e
      = dx (mW m c) (qa (col t l)) (DA (mUp m c) (mW m c) (mG m c) (col t l)) (512 * (t.val % 16) + e) := by
  unfold dxl dx
  rw [DAl_eq, DAl_eq, DAl_eq, tap6_2, tap6_1, tap6_0]
  rfl

theorem dxl_V (l : Fin 512) (e : ℕ) :
    dxl (tapRow2 (iblk m c 7 t)) (tapRow1 (iblk m c 7 t)) (tapRow0 (iblk m c 7 t))
        (DVl (iblk m c 6 t) (fun l n => xs (mUp m c) (qa (col t l)) (512 * (t.val % 16) + n))
          (fun l n => gt (mG m c) (col t l) (512 * (t.val % 16) + n))) l e
      = dx (mW m c) (qv (col t l)) (DV (mUp m c) (mW m c) (mG m c) (col t l)) (512 * (t.val % 16) + e) := by
  unfold dxl dx
  rw [DVl_eq, DVl_eq, DVl_eq, tap7_2, tap7_1, tap7_0]
  rfl

/-- One block's share of the taps' gradients. -/
theorem sum_A (k : Fin 8) (l : Fin 512) :
    (∑ e : Fin 512, DAl (iblk m c 6 t) (iblk m c 7 t) (fun l n => xs (mUp m c) (qa (col t l)) (512 * (t.val % 16) + n))
          (fun l n => xs (mUp m c) (qv (col t l)) (512 * (t.val % 16) + n)) (fun l n => gt (mG m c) (col t l) (512 * (t.val % 16) + n)) l e.val
        * tapl (fun l n => xs (mUp m c) (qa (col t l)) (512 * (t.val % 16) + n)) k l e.val)
      = ∑ e : Fin 512, DA (mUp m c) (mW m c) (mG m c) (col t l) (512 * (t.val % 16) + e.val)
          * tap (mUp m c) (qa (col t l)) k (512 * (t.val % 16) + e.val) :=
  Finset.sum_congr rfl fun e _ => by rw [DAl_eq]; unfold tapl tap; rw [Nat.add_assoc]

theorem sum_V (k : Fin 8) (l : Fin 512) :
    (∑ e : Fin 512, DVl (iblk m c 6 t) (fun l n => xs (mUp m c) (qa (col t l)) (512 * (t.val % 16) + n))
          (fun l n => gt (mG m c) (col t l) (512 * (t.val % 16) + n)) l e.val
        * tapl (fun l n => xs (mUp m c) (qv (col t l)) (512 * (t.val % 16) + n)) k l e.val)
      = ∑ e : Fin 512, DV (mUp m c) (mW m c) (mG m c) (col t l) (512 * (t.val % 16) + e.val)
          * tap (mUp m c) (qv (col t l)) k (512 * (t.val % 16) + e.val) :=
  Finset.sum_congr rfl fun e _ => by rw [DVl_eq]; unfold tapl tap; rw [Nat.add_assoc]

end Reads

end Cert.KernelIdeal.Blk

end
-- ==== Proof.FfnKernel.lean ====
/-
  The kernel's four results as functions of the arguments: what each grid point leaves in its output blocks, the running sums
  of the taps' gradients down a column of blocks, and the arrays the blocks make up.
-/
module

public import proofs.«01_k».proof.Proof.FfnCase
public import proofs.«01_k».proof.Proof.FfnBlk
public import proofs.«01_k».proof.Proof.Gen.KernelIdeal.Value

@[expose] public section

noncomputable section

open Idealize.ShloMosaic Idealize.ShloMosaic.TcCoe Idealize.SL.Sem

namespace Cert.KernelIdeal.Blk

open Cert.KernelIdeal Cert.KernelIdeal.Gen Cert.FfnSpec Cert.KernelIdeal.Value
open Idealize.ShloMosaic.Pipeline (Dat)

variable (m : (ℓ : Loc nD τ sig) → Buf (Elt Ideal) ℓ) (c : Dev nD)

/-- What point `t` leaves in the block of the gradient of the gate's columns. -/
theorem at10 (t : Fin cfg0.N) (e l : Fin 512) : ((outsAt0 m c t.val t.isLt).1 : Vec Ideal S512x512 .bf16) (ix2 e l)
    = dx (mW m c) (qa (col t l)) (DA (mUp m c) (mW m c) (mG m c) (col t l)) (512 * (t.val % 16) + e.val) := by
  by_cases h0 : t.val % 16 = 0
  · have H := out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) ((hcond0_0 t).mpr h0) e l
    rw [outsAt0_A m c t h0]
    dsimp only
    rw [H, dxl_A]
  · have H := fun y12 y13 => out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) (fun h => h0 ((hcond0_0 t).mp h)) y12 y13 e l
    rw [outsAt0_B m c t h0]
    dsimp only
    rw [H, dxl_A]

/-- What point `t` leaves in the block of the gradient of the value's columns. -/
theorem at11 (t : Fin cfg0.N) (e l : Fin 512) : ((outsAt0 m c t.val t.isLt).2.1 : Vec Ideal S512x512 .bf16) (ix2 e l)
    = dx (mW m c) (qv (col t l)) (DV (mUp m c) (mW m c) (mG m c) (col t l)) (512 * (t.val % 16) + e.val) := by
  by_cases h0 : t.val % 16 = 0
  · have H := out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) ((hcond0_0 t).mpr h0) e l
    rw [outsAt0_A m c t h0]
    dsimp only
    rw [H, dxl_V]
  · have H := fun y12 y13 => out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) (fun h => h0 ((hcond0_0 t).mp h)) y12 y13 e l
    rw [outsAt0_B m c t h0]
    dsimp only
    rw [H, dxl_V]

/-- Two points of one column of blocks stand over the same array columns. -/
theorem col_succ (n : ℕ) (h : n + 1 < cfg0.N) (h' : n < cfg0.N) (h0 : ¬(n + 1) % 16 = 0) (l : Fin 512) : col ⟨n, h'⟩ l = col ⟨n + 1, h⟩ l :=
  Fin.ext (by show 512 * (n / 16) + l.val = 512 * ((n + 1) / 16) + l.val; omega)
theorem row_succ (n : ℕ) (h0 : ¬(n + 1) % 16 = 0) : 512 * (n % 16) + 512 = 512 * ((n + 1) % 16) := by omega
theorem dw_none (up : Up) (q : Fin 11264) (D : ℕ → EReal) (k : Fin 8) (n : ℕ) (h0 : n % 16 = 0) : dw up q D k (512 * (n % 16)) = 0 := by
  rw [h0]; exact Finset.sum_range_zero _

/-- The first point of a column of blocks leaves the sum over its own rows. -/
theorem first12 (t : Fin cfg0.N) (h0 : t.val % 16 = 0) (k : Fin 8) (l : Fin 512) :
    ((outsAt0 m c t.val t.isLt).2.2.1 : Vec Ideal S8x512 .f32) (ix2 k l)
      = dw (mUp m c) (qa (col t l)) (DA (mUp m c) (mW m c) (mG m c) (col t l)) k (512 * (t.val % 16) + 512) := by
  have H := out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) ((hcond0_0 t).mpr h0) k l
  rw [outsAt0_A m c t h0, dw_block, dw_none _ _ _ _ _ h0]
  dsimp only
  rw [H, sum_A]

/-- A later one adds its rows to what the point before left. -/
theorem later12 (t : Fin cfg0.N) (h0 : ¬t.val % 16 = 0) (k : Fin 8) (l : Fin 512)
    (ih : ((outsAt0 m c (t.val - 1) (lt_of_le_of_lt (Nat.sub_le _ _) t.isLt)).2.2.1 : Vec Ideal S8x512 .f32) (ix2 k l)
      = dw (mUp m c) (qa (col t l)) (DA (mUp m c) (mW m c) (mG m c) (col t l)) k (512 * (t.val % 16))) :
    ((outsAt0 m c t.val t.isLt).2.2.1 : Vec Ideal S8x512 .f32) (ix2 k l)
      = dw (mUp m c) (qa (col t l)) (DA (mUp m c) (mW m c) (mG m c) (col t l)) k (512 * (t.val % 16) + 512) := by
  have H := fun y12 y13 => out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) (fun h => h0 ((hcond0_0 t).mp h)) y12 y13 k l
  rw [outsAt0_B m c t h0, dw_block]
  dsimp only
  rw [H, sum_A, ih]

/-- So after point `n` the block holds the sum over the rows so far. -/
theorem at12 : ∀ (n : ℕ) (h : n < cfg0.N) (k : Fin 8) (l : Fin 512),
    ((outsAt0 m c n h).2.2.1 : Vec Ideal S8x512 .f32) (ix2 k l)
      = dw (mUp m c) (qa (col ⟨n, h⟩ l)) (DA (mUp m c) (mW m c) (mG m c) (col ⟨n, h⟩ l)) k (512 * (n % 16) + 512)
  | 0, h, k, l => first12 m c ⟨0, h⟩ rfl k l
  | n + 1, h, k, l => by
    by_cases h0 : (n + 1) % 16 = 0
    · exact first12 m c ⟨n + 1, h⟩ h0 k l
    · refine later12 m c ⟨n + 1, h⟩ h0 k l ?_
      have h' : n < cfg0.N := Nat.lt_of_succ_lt h
      have ih := at12 n h' k l
      rw [col_succ n h h' h0 l, row_succ n h0] at ih
      exact ih

/-- The first point of a column of blocks leaves the sum over its own rows. -/
theorem first13 (t : Fin cfg0.N) (h0 : t.val % 16 = 0) (k : Fin 8) (l : Fin 512) :
    ((outsAt0 m c t.val t.isLt).2.2.2 : Vec Ideal S8x512 .f32) (ix2 k l)
      = dw (mUp m c) (qv (col t l)) (DV (mUp m c) (mW m c) (mG m c) (col t l)) k (512 * (t.val % 16) + 512) := by
  have H := out_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) ((hcond0_0 t).mpr h0) k l
  rw [outsAt0_A m c t h0, dw_block, dw_none _ _ _ _ _ h0]
  dsimp only
  rw [H, sum_V]

/-- A later one adds its rows to what the point before left. -/
theorem later13 (t : Fin cfg0.N) (h0 : ¬t.val % 16 = 0) (k : Fin 8) (l : Fin 512)
    (ih : ((outsAt0 m c (t.val - 1) (lt_of_le_of_lt (Nat.sub_le _ _) t.isLt)).2.2.2 : Vec Ideal S8x512 .f32) (ix2 k l)
      = dw (mUp m c) (qv (col t l)) (DV (mUp m c) (mW m c) (mG m c) (col t l)) k (512 * (t.val % 16))) :
    ((outsAt0 m c t.val t.isLt).2.2.2 : Vec Ideal S8x512 .f32) (ix2 k l)
      = dw (mUp m c) (qv (col t l)) (DV (mUp m c) (mW m c) (mG m c) (col t l)) k (512 * (t.val % 16) + 512) := by
  have H := fun y12 y13 => out_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 6 t) (iblk m c 7 t)
      (facts m c t) (fun h => h0 ((hcond0_0 t).mp h)) y12 y13 k l
  rw [outsAt0_B m c t h0, dw_block]
  dsimp only
  rw [H, sum_V, ih]

/-- So after point `n` the block holds the sum over the rows so far. -/
theorem at13 : ∀ (n : ℕ) (h : n < cfg0.N) (k : Fin 8) (l : Fin 512),
    ((outsAt0 m c n h).2.2.2 : Vec Ideal S8x512 .f32) (ix2 k l)
      = dw (mUp m c) (qv (col ⟨n, h⟩ l)) (DV (mUp m c) (mW m c) (mG m c) (col ⟨n, h⟩ l)) k (512 * (n % 16) + 512)
  | 0, h, k, l => first13 m c ⟨0, h⟩ rfl k l
  | n + 1, h, k, l => by
    by_cases h0 : (n + 1) % 16 = 0
    · exact first13 m c ⟨n + 1, h⟩ h0 k l
    · refine later13 m c ⟨n + 1, h⟩ h0 k l ?_
      have h' : n < cfg0.N := Nat.lt_of_succ_lt h
      have ih := at13 n h' k l
      rw [col_succ n h h' h0 l, row_succ n h0] at ih
      exact ih

/-- Reading a result's formula at an index with given coordinates. -/
theorem o0_at (up : Up) (w : Taps) (g : Ct) (i : (⟨2, ![8192, 5632]⟩ : Shape).Idx) (r : ℕ) (p : Fin 5632) (h0 : (i 0).val = r) (h1 : i 1 = p) :
    dx w (qa p) (DA up w g p) r = o0 up w g i := by subst h0 h1; rfl
theorem o1_at (up : Up) (w : Taps) (g : Ct) (i : (⟨2, ![8192, 5632]⟩ : Shape).Idx) (r : ℕ) (p : Fin 5632) (h0 : (i 0).val = r) (h1 : i 1 = p) :
    dx w (qv p) (DV up w g p) r = o1 up w g i := by subst h0 h1; rfl
theorem o2_at (up : Up) (w : Taps) (g : Ct) (i : (⟨2, ![8, 5632]⟩ : Shape).Idx) (k : Fin 8) (p : Fin 5632) (n : ℕ) (hn : n = 8192) (h0 : i 0 = k) (h1 : i 1 = p) :
    dw up (qa p) (DA up w g p) k n = o2 up w g i := by subst h0 h1 hn; rfl
theorem o3_at (up : Up) (w : Taps) (g : Ct) (i : (⟨2, ![8, 5632]⟩ : Shape).Idx) (k : Fin 8) (p : Fin 5632) (n : ℕ) (hn : n = 8192) (h0 : i 0 = k) (h1 : i 1 = p) :
    dw up (qv p) (DV up w g p) k n = o3 up w g i := by subst h0 h1 hn; rfl

/-- Every index is the pair of its coordinates. -/
theorem pair512 (j : S512x512.Idx) : j = ix2 (j 0) (j 1) := funext fun a => by fin_cases a <;> rfl
theorem pair8 (j : S8x512.Idx) : j = ix2 (j 0) (j 1) := funext fun a => by fin_cases a <;> rfl

/-- Point `t` writes back its block of result 0. -/
theorem fl10 (t : Fin cfg0.N) : (dats m 0 c).flushed 10 t
    = ((cfg0.win 10).blk t).view.read (Elt Ideal) (fun i => o0 (mUp m c) (mW m c) (mG m c) i : Buf (Elt Ideal) ((c : Thread nD τ).loc main_v0_0)) := by
  rw [flushed10]
  refine funext fun (j : S512x512.Idx) => ?_
  rw [View.read_apply]
  have hi := (idx_out t).1
  refine (congrArg ((outsAt0 m c t.val t.isLt).1 : Vec Ideal S512x512 .bf16) (pair512 j)).trans ((at10 m c t (j 0) (j 1)).trans ?_)
  refine o0_at _ _ _ _ _ _ ?_ (Fin.ext ?_)
  · show win0_10.index t 0 * 512 + 1 * (j 0).val = 512 * (t.val % 16) + (j 0).val; rw [hi.1]; omega
  · show win0_10.index t 1 * 512 + 1 * (j 1).val = 512 * (t.val / 16) + (j 1).val; rw [hi.2]; omega

/-- Result 0: the blocks cover the array. -/
theorem fin10 : (dats m 0 c).arrAt 10 cfg0.N = (fun i => o0 (mUp m c) (mW m c) (mG m c) i : Buf (Elt Ideal) ((c : Thread nD τ).loc main_v0_0)) :=
  (dats m 0 c).arrAt_eq_of_cover 10 _ (fun t _ => fl10 m c t) fun i => by
    have b0 : (i 0).val < 8192 := (i 0).isLt
    have b1 : (i 1).val < 5632 := (i 1).isLt
    have hN : cfg0.N = 176 := N_0
    let t : Fin cfg0.N := ⟨(i 1).val / 512 * 16 + (i 0).val / 512, by rw [hN]; omega⟩
    have hi := (idx_out t).1
    have e0 : t.val % 16 = (i 0).val / 512 := by show ((i 1).val / 512 * 16 + (i 0).val / 512) % 16 = _; omega
    have e1 : t.val / 16 = (i 1).val / 512 := by show ((i 1).val / 512 * 16 + (i 0).val / 512) / 16 = _; omega
    refine ⟨t, flush0_10 t, ?_⟩
    show i ∈ ((View.whole main_v0_0).slice (win0_10.rect t)).set
    rw [View.set_slice_whole, Rect.mem_set_unit]
    intro a
    match a with
    | ⟨0, _⟩ => show win0_10.index t 0 * 512 ≤ (i 0).val ∧ (i 0).val < win0_10.index t 0 * 512 + 512; rw [hi.1, e0]; omega
    | ⟨1, _⟩ => show win0_10.index t 1 * 512 ≤ (i 1).val ∧ (i 1).val < win0_10.index t 1 * 512 + 512; rw [hi.2, e1]; omega

/-- Point `t` writes back its block of result 1. -/
theorem fl11 (t : Fin cfg0.N) : (dats m 0 c).flushed 11 t
    = ((cfg0.win 11).blk t).view.read (Elt Ideal) (fun i => o1 (mUp m c) (mW m c) (mG m c) i : Buf (Elt Ideal) ((c : Thread nD τ).loc main_v0_1)) := by
  rw [flushed11]
  refine funext fun (j : S512x512.Idx) => ?_
  rw [View.read_apply]
  have hi := (idx_out t).2.1
  refine (congrArg ((outsAt0 m c t.val t.isLt).2.1 : Vec Ideal S512x512 .bf16) (pair512 j)).trans ((at11 m c t (j 0) (j 1)).trans ?_)
  refine o1_at _ _ _ _ _ _ ?_ (Fin.ext ?_)
  · show win0_11.index t 0 * 512 + 1 * (j 0).val = 512 * (t.val % 16) + (j 0).val; rw [hi.1]; omega
  · show win0_11.index t 1 * 512 + 1 * (j 1).val = 512 * (t.val / 16) + (j 1).val; rw [hi.2]; omega

/-- Result 1: the blocks cover the array. -/
theorem fin11 : (dats m 0 c).arrAt 11 cfg0.N = (fun i => o1 (mUp m c) (mW m c) (mG m c) i : Buf (Elt Ideal) ((c : Thread nD τ).loc main_v0_1)) :=
  (dats m 0 c).arrAt_eq_of_cover 11 _ (fun t _ => fl11 m c t) fun i => by
    have b0 : (i 0).val < 8192 := (i 0).isLt
    have b1 : (i 1).val < 5632 := (i 1).isLt
    have hN : cfg0.N = 176 := N_0
    let t : Fin cfg0.N := ⟨(i 1).val / 512 * 16 + (i 0).val / 512, by rw [hN]; omega⟩
    have hi := (idx_out t).2.1
    have e0 : t.val % 16 = (i 0).val / 512 := by show ((i 1).val / 512 * 16 + (i 0).val / 512) % 16 = _; omega
    have e1 : t.val / 16 = (i 1).val / 512 := by show ((i 1).val / 512 * 16 + (i 0).val / 512) / 16 = _; omega
    refine ⟨t, flush0_11 t, ?_⟩
    show i ∈ ((View.whole main_v0_1).slice (win0_11.rect t)).set
    rw [View.set_slice_whole, Rect.mem_set_unit]
    intro a
    match a with
    | ⟨0, _⟩ => show win0_11.index t 0 * 512 ≤ (i 0).val ∧ (i 0).val < win0_11.index t 0 * 512 + 512; rw [hi.1, e0]; omega
    | ⟨1, _⟩ => show win0_11.index t 1 * 512 ≤ (i 1).val ∧ (i 1).val < win0_11.index t 1 * 512 + 512; rw [hi.2, e1]; omega

/-- The last point of a column of blocks writes back its block of result 2. -/
theorem fl12 (t : Fin cfg0.N) (hf : (cfg0.win 12).flush t = true) : (dats m 0 c).flushed 12 t
    = ((cfg0.win 12).blk t).view.read (Elt Ideal) (fun i => o2 (mUp m c) (mW m c) (mG m c) i : Buf (Elt Ideal) ((c : Thread nD τ).loc main_v0_2)) := by
  have h15 := (flush0_12 t).mp hf
  rw [flushed12]
  refine funext fun (j : S8x512.Idx) => ?_
  rw [View.read_apply]
  have hi := (idx_out t).2.2.1
  refine (congrArg ((outsAt0 m c t.val t.isLt).2.2.1 : Vec Ideal S8x512 .f32) (pair8 j)).trans ((at12 m c t.val t.isLt (j 0) (j 1)).trans ?_)
  have hn : 512 * (t.val % 16) + 512 = 8192 := by omega
  refine Eq.trans ?_ (cast_eq _ _).symm
  refine o2_at (mUp m c) (mW m c) (mG m c) (((cfg0.win 12).blk t).view.emb j) (j 0) (col t (j 1)) (512 * (t.val % 16) + 512) hn ?_ ?_
  all_goals refine Fin.ext ?_
  · show win0_12.index t 0 * 8 + 1 * (j 0).val = (j 0).val; rw [hi.1]; omega
  · show win0_12.index t 1 * 512 + 1 * (j 1).val = 512 * (t.val / 16) + (j 1).val; rw [hi.2]; omega

/-- Result 2: those blocks cover the array. -/
theorem fin12 : (dats m 0 c).arrAt 12 cfg0.N = (fun i => o2 (mUp m c) (mW m c) (mG m c) i : Buf (Elt Ideal) ((c : Thread nD τ).loc main_v0_2)) :=
  (dats m 0 c).arrAt_eq_of_cover 12 _ (fl12 m c) fun i => by
    have b0 : (i 0).val < 8 := (i 0).isLt
    have b1 : (i 1).val < 5632 := (i 1).isLt
    have hN : cfg0.N = 176 := N_0
    let t : Fin cfg0.N := ⟨(i 1).val / 512 * 16 + 15, by rw [hN]; omega⟩
    have hi := (idx_out t).2.2.1
    have e0 : t.val % 16 = 15 := by show ((i 1).val / 512 * 16 + 15) % 16 = _; omega
    have e1 : t.val / 16 = (i 1).val / 512 := by show ((i 1).val / 512 * 16 + 15) / 16 = _; omega
    refine ⟨t, (flush0_12 t).mpr e0, ?_⟩
    show i ∈ ((View.whole main_v0_2).slice (win0_12.rect t)).set
    rw [View.set_slice_whole, Rect.mem_set_unit]
    intro a
    match a with
    | ⟨0, _⟩ => show win0_12.index t 0 * 8 ≤ (i 0).val ∧ (i 0).val < win0_12.index t 0 * 8 + 8; rw [hi.1]; omega
    | ⟨1, _⟩ => show win0_12.index t 1 * 512 ≤ (i 1).val ∧ (i 1).val < win0_12.index t 1 * 512 + 512; rw [hi.2, e1]; omega

/-- The last point of a column of blocks writes back its block of result 3. -/
theorem fl13 (t : Fin cfg0.N) (hf : (cfg0.win 13).flush t = true) : (dats m 0 c).flushed 13 t
    = ((cfg0.win 13).blk t).view.read (Elt Ideal) (fun i => o3 (mUp m c) (mW m c) (mG m c) i : Buf (Elt Ideal) ((c : Thread nD τ).loc main_v0_3)) := by
  have h15 := (flush0_13 t).mp hf
  rw [flushed13]
  refine funext fun (j : S8x512.Idx) => ?_
  rw [View.read_apply]
  have hi := (idx_out t).2.2.2
  refine (congrArg ((outsAt0 m c t.val t.isLt).2.2.2 : Vec Ideal S8x512 .f32) (pair8 j)).trans ((at13 m c t.val t.isLt (j 0) (j 1)).trans ?_)
  have hn : 512 * (t.val % 16) + 512 = 8192 := by omega
  refine Eq.trans ?_ (cast_eq _ _).symm
  refine o3_at (mUp m c) (mW m c) (mG m c) (((cfg0.win 13).blk t).view.emb j) (j 0) (col t (j 1)) (512 * (t.val % 16) + 512) hn ?_ ?_
  all_goals refine Fin.ext ?_
  · show win0_13.index t 0 * 8 + 1 * (j 0).val = (j 0).val; rw [hi.1]; omega
  · show win0_13.index t 1 * 512 + 1 * (j 1).val = 512 * (t.val / 16) + (j 1).val; rw [hi.2]; omega

/-- Result 3: those blocks cover the array. -/
theorem fin13 : (dats m 0 c).arrAt 13 cfg0.N = (fun i => o3 (mUp m c) (mW m c) (mG m c) i : Buf (Elt Ideal) ((c : Thread nD τ).loc main_v0_3)) :=
  (dats m 0 c).arrAt_eq_of_cover 13 _ (fl13 m c) fun i => by
    have b0 : (i 0).val < 8 := (i 0).isLt
    have b1 : (i 1).val < 5632 := (i 1).isLt
    have hN : cfg0.N = 176 := N_0
    let t : Fin cfg0.N := ⟨(i 1).val / 512 * 16 + 15, by rw [hN]; omega⟩
    have hi := (idx_out t).2.2.2
    have e0 : t.val % 16 = 15 := by show ((i 1).val / 512 * 16 + 15) % 16 = _; omega
    have e1 : t.val / 16 = (i 1).val / 512 := by show ((i 1).val / 512 * 16 + 15) / 16 = _; omega
    refine ⟨t, (flush0_13 t).mpr e0, ?_⟩
    show i ∈ ((View.whole main_v0_3).slice (win0_13.rect t)).set
    rw [View.set_slice_whole, Rect.mem_set_unit]
    intro a
    match a with
    | ⟨0, _⟩ => show win0_13.index t 0 * 8 ≤ (i 0).val ∧ (i 0).val < win0_13.index t 0 * 8 + 8; rw [hi.1]; omega
    | ⟨1, _⟩ => show win0_13.index t 1 * 512 ≤ (i 1).val ∧ (i 1).val < win0_13.index t 1 * 512 + 512; rw [hi.2, e1]; omega

end Cert.KernelIdeal.Blk

end
-- ==== Proof.FfnRef.lean ====
/-
  The reference's four results, read at an index: the causal convolution, the logistic-gated product's derivative, the
  transposed convolution (three rows-padded products added, two rows dropped) and the taps' gradients (sums over the rows).
-/
module

public import proofs.«01_k».proof.Proof.FfnSpec
public import proofs.«01_k».proof.Proof.Gen.ReferenceIdeal.Read
public import Idealize.ShloMosaic.Lib.Pipeline.Value
public import Idealize.ShloMosaic.Lib.KernelVsHost

@[expose] public section

noncomputable section

open Idealize.ShloMosaic Idealize.ShloMosaic.TcCoe Idealize.SL.Sem

namespace Cert.ReferenceIdeal.RefRead

open Cert.ReferenceIdeal Cert.ReferenceIdeal.Gen Cert.ReferenceIdeal.Read Cert.FfnSpec

/-- Padding the rows of a matrix, read at a row that was there. -/
theorem pad_in {M N C lo hi : ℕ} {u : Shape} (x : (⟨2, ![M, C]⟩ : Shape).Idx → EReal) (v : u.Idx → EReal)
    (h : (⟨2, ![M, C]⟩ : Shape).Pads (![lo, 0] : Fin 2 → ℕ) ![hi, 0] ![0, 0] ⟨2, ![N, C]⟩) (hu : 0 < u.numel)
    (j : (⟨2, ![N, C]⟩ : Shape).Idx) (r : Fin M) (q : Fin C) (hr : (j 0).val = lo + r.val) (hq : (j 1).val = q.val) :
    pad ⟨2, ![N, C]⟩ ![lo, 0] ![hi, 0] ![0, 0] x v h hu j = x (ix2 r q) :=
  pad_apply_of_inside _ _ _ x v h hu j (ix2 r q) fun a => match a with
    | ⟨0, _⟩ => by show (j 0).val = lo + r.val * (0 + 1); omega
    | ⟨1, _⟩ => by show (j 1).val = 0 + q.val * (0 + 1); omega

/-- And at a row of the padding. -/
theorem pad_out {M N C lo hi : ℕ} {u : Shape} (x : (⟨2, ![M, C]⟩ : Shape).Idx → EReal) (v : u.Idx → EReal)
    (h : (⟨2, ![M, C]⟩ : Shape).Pads (![lo, 0] : Fin 2 → ℕ) ![hi, 0] ![0, 0] ⟨2, ![N, C]⟩) (hu : 0 < u.numel)
    (j : (⟨2, ![N, C]⟩ : Shape).Idx) (hr : (j 0).val < lo ∨ lo + M ≤ (j 0).val) :
    pad ⟨2, ![N, C]⟩ ![lo, 0] ![hi, 0] ![0, 0] x v h hu j = v (Shape.Idx.first hu) :=
  pad_apply_of_not_inside _ _ _ x v h hu j (0 : Fin 2) fun hin => by
    have h1 : lo ≤ (j 0).val := hin.1
    have h2 : ((j 0).val - lo) / (0 + 1) < M := hin.2.2
    rw [Nat.zero_add, Nat.div_one] at h2
    omega

/-- The argument with two zero rows above it. -/
theorem v1_at (x0 : Up) (i : S8194x11264.Idx) : val_main_v1 (F := Ideal) x0 i = xs x0 (i 1) (i 0).val := by
  have h0 : (i 0).val < 8194 := (i 0).isLt
  unfold val_main_v1
  by_cases h : (i 0).val < 2
  · refine Eq.trans ?_ (xs_out x0 (i 1) (i 0).val (Or.inl h)).symm
    refine (concatenate_pair_apply_left (t := S8194x11264) (s₁ := S2x11264) (s₂ := S8192x11264) (0 : Fin 2) _ _
      concatenates_S2x11264_S8192x11264_S8194x11264_d0 i rfl (ix2 (⟨(i 0).val, h⟩ : Fin 2) (i 1)) (fun b => match b with
        | ⟨0, _⟩ => rfl
        | ⟨1, _⟩ => rfl)).trans ?_
    rw [val_main_v0_apply, val_main_cst_apply]
    exact Ideal.ofBits_zero_f32
  · have hr : (i 0).val - 2 < 8192 := by omega
    refine (concatenate_pair_apply_right (t := S8194x11264) (s₁ := S2x11264) (s₂ := S8192x11264) (0 : Fin 2) _ _
      concatenates_S2x11264_S8192x11264_S8194x11264_d0 i rfl rfl (ix2 (⟨(i 0).val - 2, hr⟩ : Fin 8192) (i 1)) (fun b => match b with
        | ⟨0, _⟩ => fun hne => absurd rfl hne
        | ⟨1, _⟩ => fun _ => rfl) (by show (i 0).val - 2 + 2 = (i 0).val; omega)).trans ?_
    exact (xs_in _ _ _ (⟨(i 0).val - 2, hr⟩ : Fin 8192) (by show (i 0).val = (i 0).val - 2 + 2; omega)).symm

theorem v6_at (x0 : Up) (i : S8192x11264.Idx) : val_main_v6 (F := Ideal) x0 i = xs x0 (i 1) ((i 0).val + 0) := by
  rw [val_main_v6_apply, v1_at]
  exact congrArg (xs x0 (i 1)) (by show (i 0).val = (i 0).val + 0; omega)
theorem v14_at (x0 : Up) (i : S8192x11264.Idx) : val_main_v14 (F := Ideal) x0 i = xs x0 (i 1) ((i 0).val + 1) := by
  rw [val_main_v14_apply, v1_at]
  exact congrArg (xs x0 (i 1)) (by show 1 + (i 0).val = (i 0).val + 1; omega)
theorem v21_at (x0 : Up) (i : S8192x11264.Idx) : val_main_v21 (F := Ideal) x0 i = xs x0 (i 1) ((i 0).val + 2) := by
  rw [val_main_v21_apply, v1_at]
  exact congrArg (xs x0 (i 1)) (by show 2 + (i 0).val = (i 0).val + 2; omega)
theorem v7_at (x1 : Taps) (i : S8192x11264.Idx) : val_main_v7 (F := Ideal) x1 i = x1 (ix2 (0 : Fin 3) (i 1)) := by
  have h1 : (i 1).val < 11264 := (i 1).isLt
  rw [val_main_v7_apply, val_main_v5_apply, val_main_v4_apply, val_main_v3_apply]
  refine congrArg x1 (funext fun a => Fin.ext ?_)
  match a with
  | ⟨0, _⟩ => rfl
  | ⟨1, _⟩ => show (i 1).val % 11264 = (i 1).val; omega
theorem v53_at (x1 : Taps) (i : S8192x11264.Idx) : val_main_v53 (F := Ideal) x1 i = x1 (ix2 (0 : Fin 3) (i 1)) := by
  have h1 : (i 1).val < 11264 := (i 1).isLt
  rw [val_main_v53_apply, val_main_v5_apply, val_main_v4_apply, val_main_v3_apply]
  refine congrArg x1 (funext fun a => Fin.ext ?_)
  match a with
  | ⟨0, _⟩ => rfl
  | ⟨1, _⟩ => show (i 1).val % 11264 = (i 1).val; omega
theorem v15_at (x1 : Taps) (i : S8192x11264.Idx) : val_main_v15 (F := Ideal) x1 i = x1 (ix2 (1 : Fin 3) (i 1)) := by
  have h1 : (i 1).val < 11264 := (i 1).isLt
  rw [val_main_v15_apply, val_main_v13_apply, val_main_v12_apply, val_main_v11_apply]
  refine congrArg x1 (funext fun a => Fin.ext ?_)
  match a with
  | ⟨0, _⟩ => rfl
  | ⟨1, _⟩ => show (i 1).val % 11264 = (i 1).val; omega
theorem v42_at (x1 : Taps) (i : S8192x11264.Idx) : val_main_v42 (F := Ideal) x1 i = x1 (ix2 (1 : Fin 3) (i 1)) := by
  have h1 : (i 1).val < 11264 := (i 1).isLt
  rw [val_main_v42_apply, val_main_v13_apply, val_main_v12_apply, val_main_v11_apply]
  refine congrArg x1 (funext fun a => Fin.ext ?_)
  match a with
  | ⟨0, _⟩ => rfl
  | ⟨1, _⟩ => show (i 1).val % 11264 = (i 1).val; omega
theorem v22_at (x1 : Taps) (i : S8192x11264.Idx) : val_main_v22 (F := Ideal) x1 i = x1 (ix2 (2 : Fin 3) (i 1)) := by
  have h1 : (i 1).val < 11264 := (i 1).isLt
  rw [val_main_v22_apply, val_main_v20_apply, val_main_v19_apply, val_main_v18_apply]
  refine congrArg x1 (funext fun a => Fin.ext ?_)
  match a with
  | ⟨0, _⟩ => rfl
  | ⟨1, _⟩ => show (i 1).val % 11264 = (i 1).val; omega
theorem v33_at (x1 : Taps) (i : S8192x11264.Idx) : val_main_v33 (F := Ideal) x1 i = x1 (ix2 (2 : Fin 3) (i 1)) := by
  have h1 : (i 1).val < 11264 := (i 1).isLt
  rw [val_main_v33_apply, val_main_v20_apply, val_main_v19_apply, val_main_v18_apply]
  refine congrArg x1 (funext fun a => Fin.ext ?_)
  match a with
  | ⟨0, _⟩ => rfl
  | ⟨1, _⟩ => show (i 1).val % 11264 = (i 1).val; omega

theorem v9_at (i : S8192x11264.Idx) : val_main_v9 (F := Ideal) i = 0 := by
  rw [val_main_v9_apply, val_main_cst_1_apply]; exact Ideal.ofBits_zero_f32

/-- The causal convolution. -/
theorem v24_at (x0 : Up) (x1 : Taps) (i : S8192x11264.Idx) : val_main_v24 (F := Ideal) x0 x1 i = cv x0 x1 (i 1) (i 0).val := by
  rw [val_main_v24_apply, val_main_v17_apply, val_main_v10_apply, val_main_v8_apply, val_main_v16_apply, val_main_v23_apply,
    v9_at, v7_at, v15_at, v22_at, v6_at, v14_at, v21_at]
  have key : ∀ a b c : EReal, 0 + a + b + c = c + b + a := fun a b c => by
    rw [zero_add, add_comm, add_comm a, ← add_assoc]
  exact key _ _ _

theorem v25_at (x0 : Up) (x1 : Taps) (i : S8192x5632.Idx) : val_main_v25 (F := Ideal) x0 x1 i = cv x0 x1 (qa (i 1)) (i 0).val := by
  rw [val_main_v25_apply, v24_at]; rfl
theorem v26_at (x0 : Up) (x1 : Taps) (i : S8192x5632.Idx) : val_main_v26 (F := Ideal) x0 x1 i = cv x0 x1 (qv (i 1)) (i 0).val := by
  rw [val_main_v26_apply, v24_at]; rfl

/-- The logistic of the gate. -/
theorem v27_2_at (x0 : Up) (x1 : Taps) (i : S8192x5632.Idx) :
    val_main_v27_2 (F := Ideal) x0 x1 i = Cert.Silu.sg (cv x0 x1 (qa (i 1)) (i 0).val) := by
  rw [val_main_v27_2_apply, val_main_call0_v3_apply, val_main_call0_v1_apply, val_main_call0_v0_apply, val_main_call0_v4_apply,
    val_main_call0_cst_0_apply, val_main_call0_v2_apply, val_main_call0_cst_apply, v25_at]
  show Ideal.div (Ideal.ofBits .f32 0x3F800000#32) (Ideal.ofBits .f32 0x3F800000#32 + Ideal.exp (-_)) = _
  rw [Ideal.ofBits_one_f32]
  rfl

/-- One less the logistic, times it. -/
theorem v27_1_at (x0 : Up) (x1 : Taps) (i : S8192x5632.Idx) :
    val_main_v27_1 (F := Ideal) x0 x1 i
      = Cert.Silu.sg (cv x0 x1 (qa (i 1)) (i 0).val) * (1 - Cert.Silu.sg (cv x0 x1 (qa (i 1)) (i 0).val)) := by
  rw [val_main_v27_1_apply, val_main_call0_v7_apply, val_main_call0_v6_apply, val_main_call0_cst_1_apply, v27_2_at]
  show _ * (Ideal.ofBits .f32 0x3F800000#32 - _) = _
  rw [Ideal.ofBits_one_f32]

/-- The cotangents of the two halves of the convolution. -/
theorem v31_at (x0 : Up) (x1 : Taps) (x2 : Ct) (i : S8192x5632.Idx) : val_main_v31 (F := Ideal) x0 x1 x2 i = DA x0 x1 x2 (i 1) (i 0).val := by
  rw [val_main_v31_apply, val_main_call1_v1_apply, val_main_call1_v2_apply, val_main_call1_v0_apply, val_main_v30_apply,
    v27_1_at, v27_2_at, v25_at, v26_at]
  unfold DA
  rw [gt_in x2 (i 1) (i 0).val (i 0) rfl]
  have hi : x2 i = x2 (ix2 (i 0) (i 1)) := congrArg x2 (funext fun a => by fin_cases a <;> rfl)
  rw [← hi]
  rfl
theorem v29_at (x0 : Up) (x1 : Taps) (x2 : Ct) (i : S8192x5632.Idx) : val_main_v29 (F := Ideal) x0 x1 x2 i = DV x0 x1 x2 (i 1) (i 0).val := by
  rw [val_main_v29_apply, val_main_v27_0_apply, v27_2_at, v25_at]
  unfold DV
  rw [gt_in x2 (i 1) (i 0).val (i 0) rfl]
  have hi : x2 i = x2 (ix2 (i 0) (i 1)) := congrArg x2 (funext fun a => by fin_cases a <;> rfl)
  rw [← hi]
  rfl

/-- Side by side: column `p` and column `5632 + p`. -/
theorem v32_a (x0 : Up) (x1 : Taps) (x2 : Ct) (r : Fin 8192) (p : Fin 5632) : val_main_v32 (F := Ideal) x0 x1 x2 (ix2 r (qa p)) = DA x0 x1 x2 p r.val := by
  unfold val_main_v32
  refine (concatenate_pair_apply_left (t := S8192x11264) (s₁ := S8192x5632) (s₂ := S8192x5632) (1 : Fin 2) _ _
    concatenates_S8192x5632_S8192x5632_S8192x11264_d1 _ rfl (ix2 r p) (fun b => match b with
      | ⟨0, _⟩ => rfl
      | ⟨1, _⟩ => rfl)).trans ?_
  rw [v31_at]
  rfl
theorem v32_v (x0 : Up) (x1 : Taps) (x2 : Ct) (r : Fin 8192) (p : Fin 5632) : val_main_v32 (F := Ideal) x0 x1 x2 (ix2 r (qv p)) = DV x0 x1 x2 p r.val := by
  unfold val_main_v32
  refine (concatenate_pair_apply_right (t := S8192x11264) (s₁ := S8192x5632) (s₂ := S8192x5632) (1 : Fin 2) _ _
    concatenates_S8192x5632_S8192x5632_S8192x11264_d1 _ rfl rfl (ix2 r p) (fun b => match b with
      | ⟨0, _⟩ => fun _ => rfl
      | ⟨1, _⟩ => fun hne => absurd rfl hne) (by show p.val + 5632 = 5632 + p.val; omega)).trans ?_
  rw [v29_at]
  rfl

/-- The padding value: the integer zero as a float. -/
theorem call2_v0_at (i : S_.Idx) : val_main_call2_v0 (F := Ideal) i = 0 := by
  rw [val_main_call2_v0_apply, val_main_c_apply]
  show (((0#32 : BitVec 32).toInt : ℝ) : EReal) = 0
  simp

section Column

variable (x0 : Up) (x1 : Taps) (x2 : Ct) (q : Fin 11264) (D : ℕ → EReal) (hD : ∀ r : Fin 8192, val_main_v32 (F := Ideal) x0 x1 x2 (ix2 r q) = D r.val)
  (hz : ∀ r, 8192 ≤ r → D r = 0)

include hD hz in
/-- Tap 2's share of the transposed convolution, at row `r + 2` of the padded array. -/
theorem v38_at (r : Fin 8192) (j : S8194x11264.Idx) (h0 : (j 0).val = 2 + r.val) (h1 : j 1 = q) :
    val_main_v38 (F := Ideal) x0 x1 x2 j = x1 (ix2 (2 : Fin 3) q) * D (r.val + 0) := by
  unfold val_main_v38
  by_cases h : r.val + 0 < 8192
  · refine (pad_in (lo := 2) _ _ _ _ j (⟨r.val + 0, h⟩ : Fin 8192) q (by show (j 0).val = 2 + (r.val + 0); omega) (congrArg Fin.val h1)).trans ?_
    rw [val_main_v34_apply, v33_at, hD]
    rfl
  · rw [hz _ (by omega), mul_zero]
    refine (pad_out (lo := 2) _ _ _ _ j (by omega)).trans ?_
    rw [val_main_cst_3_apply]
    exact Ideal.ofBits_zero_f32

include hD hz in
/-- Tap 1's share of the transposed convolution, at row `r + 2` of the padded array. -/
theorem v47_at (r : Fin 8192) (j : S8194x11264.Idx) (h0 : (j 0).val = 2 + r.val) (h1 : j 1 = q) :
    val_main_v47 (F := Ideal) x0 x1 x2 j = x1 (ix2 (1 : Fin 3) q) * D (r.val + 1) := by
  unfold val_main_v47
  by_cases h : r.val + 1 < 8192
  · refine (pad_in (lo := 1) _ _ _ _ j (⟨r.val + 1, h⟩ : Fin 8192) q (by show (j 0).val = 1 + (r.val + 1); omega) (congrArg Fin.val h1)).trans ?_
    rw [val_main_v43_apply, v42_at, hD]
    rfl
  · rw [hz _ (by omega), mul_zero]
    refine (pad_out (lo := 1) _ _ _ _ j (by omega)).trans ?_
    rw [val_main_cst_7_apply]
    exact Ideal.ofBits_zero_f32

include hD hz in
/-- Tap 0's share of the transposed convolution, at row `r + 2` of the padded array. -/
theorem v58_at (r : Fin 8192) (j : S8194x11264.Idx) (h0 : (j 0).val = 2 + r.val) (h1 : j 1 = q) :
    val_main_v58 (F := Ideal) x0 x1 x2 j = x1 (ix2 (0 : Fin 3) q) * D (r.val + 2) := by
  unfold val_main_v58
  by_cases h : r.val + 2 < 8192
  · refine (pad_in (lo := 0) _ _ _ _ j (⟨r.val + 2, h⟩ : Fin 8192) q (by show (j 0).val = 0 + (r.val + 2); omega) (congrArg Fin.val h1)).trans ?_
    rw [val_main_v54_apply, v53_at, hD]
    rfl
  · rw [hz _ (by omega), mul_zero]
    refine (pad_out (lo := 0) _ _ _ _ j (by omega)).trans ?_
    rw [val_main_cst_11_apply]
    exact Ideal.ofBits_zero_f32

include hD hz in
/-- The transposed convolution. -/
theorem v66_at (r : Fin 8192) : val_main_v66 (F := Ideal) x0 x1 x2 (ix2 r q) = dx x1 q D r.val := by
  rw [val_main_v66_apply, val_main_v65_apply, val_main_v59_apply, val_main_v48_apply,
    v38_at x0 x1 x2 q D hD hz r _ rfl rfl, v47_at x0 x1 x2 q D hD hz r _ rfl rfl, v58_at x0 x1 x2 q D hD hz r _ rfl rfl]
  rfl

include hD in
/-- The sum over the rows for tap 2. -/
theorem v40_at : val_main_v40 (F := Ideal) x0 x1 x2 (ix2 (0 : Fin 1) q) = dw x0 q D (2 : Fin 8) 8192 := by
  rw [val_main_v40_apply, val_main_v39_apply, Fin.sum_univ_one, val_main_v37_apply, val_main_v36_apply, val_main_cst_4_apply, val_main_cst_2_apply]
  show Ideal.ofBits .f32 0#32 + (Ideal.ofBits .f32 0#32 + _) = _
  rw [Ideal.ofBits_zero_f32, zero_add, zero_add]
  unfold dw
  rw [Finset.sum_range]
  refine Finset.sum_congr rfl fun r _ => ?_
  have hidx : (idx_main_v36 (idx_main_v37 (idx_main_v39 (idx_main_v40 (ix2 (0 : Fin 1) q)) (0 : Fin 1))) r : S8192x11264.Idx) = ix2 r q :=
    funext fun a => Fin.ext (match a with
      | ⟨0, _⟩ => rfl
      | ⟨1, _⟩ => by show 0 * 11264 + q.val = q.val; omega)
  rw [hidx, val_main_v35_apply, hD, v21_at]
  rfl
include hD in
/-- Placed in its row of the three. -/
theorem v41_at (k : Fin 3) : val_main_v41 (F := Ideal) x0 x1 x2 (ix2 k q) = if k.val = 2 then dw x0 q D (2 : Fin 8) 8192 else 0 := by
  unfold val_main_v41
  have hk := k.isLt
  by_cases h : k.val = 2
  · rw [if_pos h, ← v40_at x0 x1 x2 q D hD]
    exact pad_in (lo := 2) _ _ _ _ _ (0 : Fin 1) q h rfl
  · rw [if_neg h]
    refine (pad_out (lo := 2) _ _ _ _ _ (by show k.val < 2 ∨ 2 + 1 ≤ k.val; omega)).trans ?_
    rw [val_main_cst_5_apply]
    exact Ideal.ofBits_zero_f32

include hD in
/-- The sum over the rows for tap 1. -/
theorem v50_at : val_main_v50 (F := Ideal) x0 x1 x2 (ix2 (0 : Fin 1) q) = dw x0 q D (1 : Fin 8) 8192 := by
  rw [val_main_v50_apply, val_main_v49_apply, Fin.sum_univ_one, val_main_v46_apply, val_main_v45_apply, val_main_cst_8_apply, val_main_cst_6_apply]
  show Ideal.ofBits .f32 0#32 + (Ideal.ofBits .f32 0#32 + _) = _
  rw [Ideal.ofBits_zero_f32, zero_add, zero_add]
  unfold dw
  rw [Finset.sum_range]
  refine Finset.sum_congr rfl fun r _ => ?_
  have hidx : (idx_main_v45 (idx_main_v46 (idx_main_v49 (idx_main_v50 (ix2 (0 : Fin 1) q)) (0 : Fin 1))) r : S8192x11264.Idx) = ix2 r q :=
    funext fun a => Fin.ext (match a with
      | ⟨0, _⟩ => rfl
      | ⟨1, _⟩ => by show 0 * 11264 + q.val = q.val; omega)
  rw [hidx, val_main_v44_apply, hD, v14_at]
  rfl
include hD in
/-- Placed in its row of the three. -/
theorem v51_at (k : Fin 3) : val_main_v51 (F := Ideal) x0 x1 x2 (ix2 k q) = if k.val = 1 then dw x0 q D (1 : Fin 8) 8192 else 0 := by
  unfold val_main_v51
  have hk := k.isLt
  by_cases h : k.val = 1
  · rw [if_pos h, ← v50_at x0 x1 x2 q D hD]
    exact pad_in (lo := 1) _ _ _ _ _ (0 : Fin 1) q h rfl
  · rw [if_neg h]
    refine (pad_out (lo := 1) _ _ _ _ _ (by show k.val < 1 ∨ 1 + 1 ≤ k.val; omega)).trans ?_
    rw [val_main_cst_9_apply]
    exact Ideal.ofBits_zero_f32

include hD in
/-- The sum over the rows for tap 0. -/
theorem v61_at : val_main_v61 (F := Ideal) x0 x1 x2 (ix2 (0 : Fin 1) q) = dw x0 q D (0 : Fin 8) 8192 := by
  rw [val_main_v61_apply, val_main_v60_apply, Fin.sum_univ_one, val_main_v57_apply, val_main_v56_apply, val_main_cst_12_apply, val_main_cst_10_apply]
  show Ideal.ofBits .f32 0#32 + (Ideal.ofBits .f32 0#32 + _) = _
  rw [Ideal.ofBits_zero_f32, zero_add, zero_add]
  unfold dw
  rw [Finset.sum_range]
  refine Finset.sum_congr rfl fun r _ => ?_
  have hidx : (idx_main_v56 (idx_main_v57 (idx_main_v60 (idx_main_v61 (ix2 (0 : Fin 1) q)) (0 : Fin 1))) r : S8192x11264.Idx) = ix2 r q :=
    funext fun a => Fin.ext (match a with
      | ⟨0, _⟩ => rfl
      | ⟨1, _⟩ => by show 0 * 11264 + q.val = q.val; omega)
  rw [hidx, val_main_v55_apply, hD, v6_at]
  rfl
include hD in
/-- Placed in its row of the three. -/
theorem v62_at (k : Fin 3) : val_main_v62 (F := Ideal) x0 x1 x2 (ix2 k q) = if k.val = 0 then dw x0 q D (0 : Fin 8) 8192 else 0 := by
  unfold val_main_v62
  have hk := k.isLt
  by_cases h : k.val = 0
  · rw [if_pos h, ← v61_at x0 x1 x2 q D hD]
    exact pad_in (lo := 0) _ _ _ _ _ (0 : Fin 1) q h rfl
  · rw [if_neg h]
    refine (pad_out (lo := 0) _ _ _ _ _ (by show k.val < 0 ∨ 0 + 1 ≤ k.val; omega)).trans ?_
    rw [val_main_cst_13_apply]
    exact Ideal.ofBits_zero_f32

include hD in
/-- The three rows. -/
theorem v63_at (k : Fin 3) : val_main_v63 (F := Ideal) x0 x1 x2 (ix2 k q) = dw x0 q D (⟨k.val, by omega⟩ : Fin 8) 8192 := by
  rw [val_main_v63_apply, val_main_v52_apply, v41_at x0 x1 x2 q D hD, v51_at x0 x1 x2 q D hD, v62_at x0 x1 x2 q D hD]
  match k with
  | ⟨0, _⟩ => show ((0 : EReal) + 0) + dw x0 q D 0 8192 = _; rw [zero_add, zero_add]; rfl
  | ⟨1, _⟩ => show ((0 : EReal) + dw x0 q D 1 8192) + 0 = _; rw [zero_add, add_zero]; rfl
  | ⟨2, _⟩ => show (dw x0 q D 2 8192 + (0 : EReal)) + 0 = _; rw [add_zero, add_zero]; rfl

include hD in
/-- The eight rows: three and five zero ones. -/
theorem v67_at (k : Fin 8) : val_main_v67 (F := Ideal) x0 x1 x2 (ix2 k q) = dw x0 q D k 8192 := by
  unfold val_main_v67
  by_cases h : k.val < 3
  · refine (pad_in (lo := 0) _ _ _ _ _ (⟨k.val, h⟩ : Fin 3) q (by show k.val = 0 + k.val; omega) rfl).trans ?_
    exact v63_at x0 x1 x2 q D hD _
  · refine (pad_out (lo := 0) _ _ _ _ _ (Or.inr (by show 0 + 3 ≤ k.val; omega))).trans ?_
    refine Eq.trans ?_ (Finset.sum_eq_zero fun r _ => by unfold tap; rw [if_neg h, mul_zero]).symm
    rw [call2_v0_at]

end Column

/-- Result 0. -/
theorem res0 (x0 : Up) (x1 : Taps) (x2 : Ct) (i : S8192x5632.Idx) : val_main_v68 (F := Ideal) x0 x1 x2 i = o0 x0 x1 x2 i := by
  rw [val_main_v68_apply]
  have hidx : (idx_main_v68 i : S8192x11264.Idx) = ix2 (i 0) (qa (i 1)) := funext fun a => by fin_cases a <;> rfl
  rw [hidx]
  exact v66_at x0 x1 x2 (qa (i 1)) (DA x0 x1 x2 (i 1)) (fun r => v32_a x0 x1 x2 r (i 1)) (DA_zero x0 x1 x2 (i 1)) (i 0)

/-- Result 1. -/
theorem res1 (x0 : Up) (x1 : Taps) (x2 : Ct) (i : S8192x5632.Idx) : val_main_v69 (F := Ideal) x0 x1 x2 i = o1 x0 x1 x2 i := by
  rw [val_main_v69_apply]
  have hidx : (idx_main_v69 i : S8192x11264.Idx) = ix2 (i 0) (qv (i 1)) := funext fun a => by fin_cases a <;> rfl
  rw [hidx]
  exact v66_at x0 x1 x2 (qv (i 1)) (DV x0 x1 x2 (i 1)) (fun r => v32_v x0 x1 x2 r (i 1)) (DV_zero x0 x1 x2 (i 1)) (i 0)

/-- Result 2. -/
theorem res2 (x0 : Up) (x1 : Taps) (x2 : Ct) (i : S8x5632.Idx) : val_main_v70 (F := Ideal) x0 x1 x2 i = o2 x0 x1 x2 i := by
  rw [val_main_v70_apply]
  have hidx : (idx_main_v70 i : S8x11264.Idx) = ix2 (i 0) (qa (i 1)) := funext fun a => by fin_cases a <;> rfl
  rw [hidx]
  exact v67_at x0 x1 x2 (qa (i 1)) (DA x0 x1 x2 (i 1)) (fun r => v32_a x0 x1 x2 r (i 1)) (i 0)

/-- Result 3. -/
theorem res3 (x0 : Up) (x1 : Taps) (x2 : Ct) (i : S8x5632.Idx) : val_main_v71 (F := Ideal) x0 x1 x2 i = o3 x0 x1 x2 i := by
  rw [val_main_v71_apply]
  have hidx : (idx_main_v71 i : S8x11264.Idx) = ix2 (i 0) (qv (i 1)) := funext fun a => by fin_cases a <;> rfl
  rw [hidx]
  exact v67_at x0 x1 x2 (qv (i 1)) (DV x0 x1 x2 (i 1)) (fun r => v32_v x0 x1 x2 r (i 1)) (i 0)

end Cert.ReferenceIdeal.RefRead

end
-- ==== Proof.FfnClaim.lean ====
/-
  The feed-forward mix's gradient: the kernel's run and the reference's run end with the same four arrays.
-/
module

public import proofs.«01_k».proof.Defs
public import proofs.«01_k».proof.Proof.FfnKernel
public import proofs.«01_k».proof.Proof.FfnRef
public import Idealize.ShloMosaic.Lib.Quiescent

@[expose] public section

noncomputable section

namespace Cert.Proof

open Idealize.ShloMosaic Idealize.ShloMosaic.TcCoe Idealize.SL.Sem Cert.FfnSpec

/-- The reference terminates, leaves its arguments alone and has no semaphores. -/
theorem frame_ref : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems rfl r.2⟩) (Cert.ReferenceIdeal.Value.run (F := Ideal) m ρ)

/-- The kernel's four results and the reference's are the same functions of the arguments. -/
theorem algebraic : Cert.algebraic_KernelIdeal_ReferenceIdeal (hKernelIdeal := Cert.KernelIdeal.Gen.facts)
    (hReferenceIdeal := Cert.ReferenceIdeal.Gen.facts) := by
  intro m ρ m' ρ' _ hm
  refine ⟨fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  obtain ⟨a0, a1, a2⟩ := hm c
  obtain ⟨h0, h1, h2, h3, hk⟩ := h c
  refine ⟨h0.trans ?_, h1.trans ?_, h2.trans ?_, h3.trans ?_, hk⟩
  · refine ((Cert.ReferenceIdeal.Read.val_main_v68_eq m' c).trans ?_).trans (Cert.KernelIdeal.Blk.fin10 m c).symm
    rw [a0, a1, a2]
    exact funext fun i => Cert.ReferenceIdeal.RefRead.res0 _ _ _ i
  · refine ((Cert.ReferenceIdeal.Read.val_main_v69_eq m' c).trans ?_).trans (Cert.KernelIdeal.Blk.fin11 m c).symm
    rw [a0, a1, a2]
    exact funext fun i => Cert.ReferenceIdeal.RefRead.res1 _ _ _ i
  · refine ((Cert.ReferenceIdeal.Read.val_main_v70_eq m' c).trans ?_).trans (Cert.KernelIdeal.Blk.fin12 m c).symm
    rw [a0, a1, a2]
    exact funext fun i => Cert.ReferenceIdeal.RefRead.res2 _ _ _ i
  · refine ((Cert.ReferenceIdeal.Read.val_main_v71_eq m' c).trans ?_).trans (Cert.KernelIdeal.Blk.fin13 m c).symm
    rw [a0, a1, a2]
    exact funext fun i => Cert.ReferenceIdeal.RefRead.res3 _ _ _ i

end Cert.Proof

end
-- ==== Proof.Prod.lean ====
/-
  A product computed in stretches of its contracted axis: a running sum that the first stretch starts, the middle ones add to
  and the last one hands over is the sum over the whole axis. Matrices are read at plain row and column numbers.
-/
module

public import Idealize.ShloMosaic.Lib.Pointwise
public import Idealize.ShloMosaic.Lib.ValueIdx

@[expose] public section

noncomputable section

open Idealize.ShloMosaic Finset

namespace Cert.Prod

/-- A matrix at row `r` and column `c`, zero outside it. -/
def tot {R C : ℕ} (X : (⟨2, ![R, C]⟩ : Shape).Idx → EReal) (r c : ℕ) : EReal :=
  if h : r < R ∧ c < C then X (ix2 (⟨r, h.1⟩ : Fin R) (⟨c, h.2⟩ : Fin C)) else 0

/-- Inside, it is the matrix. -/
theorem tot_in {R C : ℕ} (X : (⟨2, ![R, C]⟩ : Shape).Idx → EReal) {r c : ℕ} (hr : r < R) (hc : c < C) :
    tot X r c = X (ix2 (⟨r, hr⟩ : Fin R) (⟨c, hc⟩ : Fin C)) := dif_pos ⟨hr, hc⟩

/-- At an index given by its coordinates. -/
theorem tot_idx {R C : ℕ} (X : (⟨2, ![R, C]⟩ : Shape).Idx → EReal) (i : (⟨2, ![R, C]⟩ : Shape).Idx) {r c : ℕ}
    (hr : (i 0).val = r) (hc : (i 1).val = c) : X i = tot X r c := by
  subst hr hc
  rw [tot_in X (i 0).isLt (i 1).isLt]
  exact congrArg X (funext fun a => match a with | ⟨0, _⟩ => rfl | ⟨1, _⟩ => rfl)

/-- The sum of `n` terms of a function from its place `n * s`. -/
abbrev stretch (n : ℕ) (g : ℕ → EReal) (s : ℕ) : EReal := ∑ k ∈ range n, g (n * s + k)

/-- The first `s` stretches together. -/
theorem sum_stretches (n : ℕ) (g : ℕ → EReal) : ∀ s : ℕ, ∑ k ∈ range (n * s), g k + stretch n g s = ∑ k ∈ range (n * (s + 1)), g k := by
  intro s
  rw [Nat.mul_succ, sum_range_add]

/-- Points come in runs of `J`. The first of a run leaves its stretch in `S`, the next ones add theirs, and the last one
    leaves in `O` the total: the sum over the whole axis. -/
theorem run_total {ι : Type*} {N : ℕ} (J n : ℕ) (hJ : 2 ≤ J) (S O : (t : ℕ) → t < N → ι → EReal) (f : ℕ → ι → ℕ → EReal)
    (hA : ∀ (t : ℕ) (h : t < N), t % J = 0 → ∀ i, S t h i = stretch n (f (t / J) i) (t % J))
    (hB : ∀ (t : ℕ) (h : t < N) (h' : t - 1 < N), 1 ≤ t % J → t % J + 2 ≤ J → ∀ i, S t h i = S (t - 1) h' i + stretch n (f (t / J) i) (t % J))
    (hC : ∀ (t : ℕ) (h : t < N) (h' : t - 1 < N), t % J + 1 = J → ∀ i, O t h i = S (t - 1) h' i + stretch n (f (t / J) i) (t % J))
    (t : ℕ) (h : t < N) (hl : t % J + 1 = J) (i : ι) : O t h i = ∑ k ∈ range (n * J), f (t / J) i k := by
  have key : ∀ (s : ℕ), s + 2 ≤ J → ∀ (hs : J * (t / J) + s < N), S (J * (t / J) + s) hs i = ∑ k ∈ range (n * (s + 1)), f (t / J) i k := by
    intro s
    induction s with
    | zero =>
      intro _ hs
      have e1 : (J * (t / J) + 0) % J = 0 := by rw [Nat.add_zero, Nat.mul_mod_right]
      have e2 : (J * (t / J) + 0) / J = t / J := by rw [Nat.add_zero, Nat.mul_div_cancel_left _ (by omega)]
      rw [hA _ hs e1, e1, e2]
      simp [stretch]
    | succ s ih =>
      intro hsJ hs
      have e1 : (J * (t / J) + (s + 1)) % J = s + 1 := by rw [Nat.mul_add_mod, Nat.mod_eq_of_lt (by omega)]
      have e2 : (J * (t / J) + (s + 1)) / J = t / J := by
        rw [Nat.mul_add_div (by omega), Nat.div_eq_of_lt (a := s + 1) (by omega), Nat.add_zero]
      rw [hB _ hs (lt_of_le_of_lt (Nat.sub_le _ _) hs) (by rw [e1]; omega) (by rw [e1]; omega), e1, e2, ← sum_stretches]
      exact congrArg (· + _) (ih (by omega) (Nat.lt_of_succ_lt hs))
  have ht := Nat.div_add_mod t J
  rw [hC t h (by omega) hl]
  obtain ⟨s, hs⟩ : ∃ s, J = s + 2 := ⟨J - 2, by omega⟩
  have e : t - 1 = J * (t / J) + s := by omega
  have hk := key s (by omega) (by omega)
  have hS : ∀ (u : ℕ) (hu : u < N), u = J * (t / J) + s → S u hu i = ∑ k ∈ range (n * (s + 1)), f (t / J) i k := by
    intro u hu eu; subst eu; exact hk
  rw [hS (t - 1) _ e, show t % J = s + 1 by omega, sum_stretches]
  rw [show s + 1 + 1 = J by omega]

end Cert.Prod

end
-- ==== Proof.UpX.lean ====
/-
  The gradient of the up-projection's input: what the blocked product of the call leaves, as a sum over the 11264 columns.
-/
module

public import proofs.«01_k».proof.Proof.Gen.UpXIdeal.Value
public import proofs.«01_k».proof.Proof.Prod
public import proofs.«01_k».proof.Defs
public import proofs.«01_k».proof.Proof.Gen.UpXRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.UpXIdeal.Blk

open Cert.UpXIdeal Cert.UpXIdeal.Gen Cert.UpXIdeal.Value Cert.Prod

variable (m : (ℓ : Loc nD τ sig) → Buf (Elt Ideal) ℓ) (c : Dev nD)

/-- The arguments that the call reads: the weights and the cotangent. -/
abbrev mW : Vec Ideal S2048x11264 .f32 := m ((c.tc : Thread nD τ).loc main_arg1)
abbrev mG : Vec Ideal S8192x11264 .f32 := m ((c.tc : Thread nD τ).loc main_arg2)

/-- The block indices of the windows at a grid point, decided over the grid. -/
theorem idx : ∀ t : Fin grid0.N,
    (win0_0.index t 0 = t.val / 4 / 2 ∧ win0_0.index t 1 = t.val % 4)
    ∧ (win0_1.index t 0 = t.val / 4 % 2 ∧ win0_1.index t 1 = t.val % 4) := by
  decide +kernel

/-- The block of the cotangent. -/
theorem blk0 (t : Fin cfg0.N) (y : S1024x2816.Idx) :
    (iblk m c 0 t : Vec Ideal S1024x2816 .bf16) y = tot (mG m c) (1024 * (t.val / 4 / 2) + (y 0).val) (2816 * (t.val % 4) + (y 1).val) := by
  unfold iblk
  rw [View.read_apply]
  have hi := (idx t).1
  refine Eq.trans (b := mG m c (((cfg0.win 0).blk t).view.emb y)) ?_ (tot_idx _ _ ?_ ?_)
  · rfl
  · show win0_0.index t 0 * 1024 + 1 * (y 0).val = _; rw [hi.1]; omega
  · show win0_0.index t 1 * 2816 + 1 * (y 1).val = _; rw [hi.2]; omega

/-- The block of the weights. -/
theorem blk1 (t : Fin cfg0.N) (y : S1024x2816.Idx) :
    (iblk m c 1 t : Vec Ideal S1024x2816 .bf16) y = tot (mW m c) (1024 * (t.val / 4 % 2) + (y 0).val) (2816 * (t.val % 4) + (y 1).val) := by
  unfold iblk
  rw [View.read_apply]
  have hi := (idx t).2
  refine Eq.trans (b := mW m c (((cfg0.win 1).blk t).view.emb y)) ?_ (tot_idx _ _ ?_ ?_)
  · rfl
  · show win0_1.index t 0 * 1024 + 1 * (y 0).val = _; rw [hi.1]; omega
  · show win0_1.index t 1 * 2816 + 1 * (y 1).val = _; rw [hi.2]; omega

/-- One block's product at an entry. -/
theorem pay (x0 x1 : Vec Ideal S1024x2816 .bf16) (y : S1024x1024.Idx) :
    k0_pay1 (F := Ideal) x0 x1 y = ∑ k : Fin 2816, x0 (ix2 (y 0) k) * x1 (ix2 (y 1) k) := by
  unfold k0_pay1
  pointwise

/-- The product's terms at an entry of the block that run `q` of points writes. -/
abbrev term (q : ℕ) (y : S1024x1024.Idx) (k : ℕ) : EReal :=
  tot (mG m c) (1024 * (q / 2) + (y 0).val) k * tot (mW m c) (1024 * (q % 2) + (y 1).val) k

/-- What a point's product adds. -/
theorem pay_at (t : Fin cfg0.N) (y : S1024x1024.Idx) :
    k0_pay1 (F := Ideal) (iblk m c 0 t) (iblk m c 1 t) y = stretch 2816 (term m c (t.val / 4) y) (t.val % 4) := by
  rw [pay, stretch, ← Fin.sum_univ_eq_sum_range]
  exact Finset.sum_congr rfl fun k _ => congrArg₂ (· * ·) (blk0 m c t _) (blk1 m c t _)

/-- What a first point stores, and what a later point stores over `v`. -/
theorem pay2_at (x0 x1 : Vec Ideal S1024x2816 .bf16) (y : S1024x1024.Idx) : k0_pay2 (F := Ideal) x0 x1 y = k0_pay1 (F := Ideal) x0 x1 y := by
  unfold k0_pay2; pointwise
theorem pay3_at (x0 x1 : Vec Ideal S1024x2816 .bf16) (v : Vec Ideal S1024x1024 .f32) (y : S1024x1024.Idx) :
    k0_pay3 (F := Ideal) x0 x1 v y = v y + k0_pay1 (F := Ideal) x0 x1 y := by
  unfold k0_pay3; pointwise
theorem pay4_at (x0 x1 : Vec Ideal S1024x2816 .bf16) (v : Vec Ideal S1024x1024 .f32) (y : S1024x1024.Idx) :
    k0_pay4 (F := Ideal) x0 x1 v y = v y + k0_pay1 (F := Ideal) x0 x1 y := by
  unfold k0_pay4; pointwise

/-- The running sum after a first point and after a middle one, and the block that the last point leaves. -/
theorem first_at (t : Fin cfg0.N) (h0 : t.val % 4 = 0) (y : S1024x1024.Idx) :
    (outsAt0 m c t.val t.isLt).2 y = stretch 2816 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1024x1024.Idx) :
    (outsAt0 m c t.val t.isLt).2 y = (outsAt0 m c (t.val - 1) h').2 y + stretch 2816 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (y : S1024x1024.Idx) :
    (outsAt0 m c t.val t.isLt).1 y = (outsAt0 m c (t.val - 1) h').2 y + stretch 2816 (term m c (t.val / 4) y) (t.val % 4) := by
  rw [outsAt0_C m c t (by omega) (by omega) (by omega), ← pay_at m c t]
  frame_out
  refine (pay4_at _ _ _ y).trans ?_
  rw [(Memref.isWhole_whole _).read_unread]

/-- A block of the result, after its last point. -/
theorem out_last (n : ℕ) (h : n < cfg0.N) (hl : n % 4 + 1 = 4) (y : S1024x1024.Idx) :
    (outsAt0 m c n h).1 y = ∑ k ∈ Finset.range 11264, term m c (n / 4) y k :=
  run_total (N := cfg0.N) 4 2816 (by decide) (fun n h => (outsAt0 m c n h).2) (fun n h => (outsAt0 m c n h).1) (term m c)
    (fun n h h0 y => first_at m c ⟨n, h⟩ h0 y) (fun n h h' h1 h2 y => mid_at m c ⟨n, h⟩ h1 h2 h' y)
    (fun n h h' h1 y => last_at m c ⟨n, h⟩ h1 h' y) n h hl y

/-- The result array. -/
theorem fin2 : (dats m 0 c).arrAt 2 cfg0.N
    = fun i : S8192x2048.Idx => ∑ k ∈ Finset.range 11264, tot (mG m c) (i 0).val k * tot (mW m c) (i 1).val k := by
  rw [final2]
  funext (i : S8192x2048.Idx)
  have h0 : (i 0).val < 8192 := (i 0).isLt
  have h1 : (i 1).val < 2048 := (i 1).isLt
  have hp : pt2Of i < cfg0.N := lt_of_lt_of_eq (by simp only [pt2Of, run2Of]; omega) N_0.symm
  have H := out_last m c (pt2Of i) hp (by simp only [pt2Of]; omega) (loc2Of i)
  rw [outsAt0_sweep] at H
  unfold G2
  rw [dif_pos hp]
  refine H.trans (Finset.sum_congr rfl fun k _ => ?_)
  have e0 : 1024 * (pt2Of i / 4 / 2) + (loc2Of i 0).val = (i 0).val := by
    show 1024 * (pt2Of i / 4 / 2) + (i 0).val % 1024 = _
    simp only [pt2Of, run2Of]; omega
  have e1 : 1024 * (pt2Of i / 4 % 2) + (loc2Of i 1).val = (i 1).val := by
    show 1024 * (pt2Of i / 4 % 2) + (i 1).val % 1024 = _
    simp only [pt2Of, run2Of]; omega
  simp only [term, e0, e1]

end Cert.UpXIdeal.Blk

namespace Cert.UpXProof

open Cert.Prod

/-- The reference terminates, leaves its arguments alone and has no semaphores. -/
theorem frame_ref : Cert.quiescent_UpXRefIdeal (hUpXRefIdeal := Cert.UpXRefIdeal.Gen.facts) := fun m ρ _ =>
  (θ_run Cert.UpXRefIdeal.defs _ _).mono
    (fun r h => ⟨fun c => (h c).2, sem_eq_zero_of_no_sems rfl r.2⟩) (Cert.UpXRefIdeal.Value.run (F := Ideal) m ρ)

/-- The reference's product is the same sum. -/
theorem ref_apply (x1 : Vec Ideal Cert.UpXRefIdeal.S2048x11264 .f32) (x2 : Vec Ideal Cert.UpXRefIdeal.S8192x11264 .f32) (i : Cert.UpXRefIdeal.S8192x2048.Idx) :
    Cert.UpXRefIdeal.Read.val_main_v3 (F := Ideal) x1 x2 i
      = ∑ k ∈ Finset.range 11264, tot x2 (i 0).val k * tot x1 (i 1).val k := by
  rw [Cert.UpXRefIdeal.Read.val_main_v3_apply, ← Fin.sum_univ_eq_sum_range (fun k => tot x2 (i 0).val k * tot x1 (i 1).val k)]
  exact Finset.sum_congr rfl fun k _ => congrArg₂ (· * ·) (tot_idx _ _ rfl rfl) (tot_idx _ _ rfl rfl)

/-- The call computes the derivative. -/
theorem algebraic : Cert.algebraic_UpXIdeal_UpXRefIdeal (hUpXIdeal := Cert.UpXIdeal.Gen.facts)
    (hUpXRefIdeal := Cert.UpXRefIdeal.Gen.facts) := by
  intro m ρ m' ρ' _ hm
  refine ⟨fun c => (Cert.UpXIdeal.Gen.dats m 0 c).arrAt 2 Cert.UpXIdeal.cfg0.N, Cert.UpXIdeal.Value.run_blocks m ρ, ?_⟩
  refine (θ_run Cert.UpXRefIdeal.defs _ _).mono (fun r h c => ⟨(h c).1.trans ?_, (h c).2⟩) (Cert.UpXRefIdeal.Value.run (F := Ideal) m' ρ')
  obtain ⟨a0, a1, a2⟩ := hm c
  refine ((Cert.UpXRefIdeal.Read.val_main_v3_eq _ _).trans ?_).trans (Cert.UpXIdeal.Blk.fin2 m c).symm
  rw [a1, a2]
  exact funext fun i => ref_apply _ _ i

end Cert.UpXProof

end
-- ==== Proof.UpW.lean ====
/-
  The gradient of the up-projection's weights: what the blocked product of the call leaves in the layer's part of the placed
  array, as a sum over the 8192 rows.
-/
module

public import proofs.«01_k».proof.Proof.Gen.UpWIdeal.Value
public import proofs.«01_k».proof.Proof.Prod
public import proofs.«01_k».proof.Defs
public import proofs.«01_k».proof.Proof.Gen.UpWRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.UpWIdeal.Blk

open Cert.UpWIdeal Cert.UpWIdeal.Gen Cert.UpWIdeal.Value Cert.Prod

variable (m : (ℓ : Loc nD τ sig) → Buf (Elt Ideal) ℓ) (c : Dev nD)

/-- The arguments that the call reads: the normed rows, the cotangent and the
    array that the layer's part is placed in. -/
abbrev mH : Vec Ideal S8192x2048 .f32 := m ((c.tc : Thread nD τ).loc main_arg0)
abbrev mG : Vec Ideal S8192x11264 .f32 := m ((c.tc : Thread nD τ).loc main_arg2)
abbrev mB : Vec Ideal S2x4x8192x1408 .bf16 := m ((c.tc : Thread nD τ).loc main_arg3)

/-- The block indices of the windows at a grid point, decided over the grid. -/
theorem idx : ∀ t : Fin grid0.N,
    (win0_0.index t 0 = t.val % 4 ∧ win0_0.index t 1 = t.val / 4 / 8)
    ∧ (win0_1.index t 0 = t.val % 4 ∧ win0_1.index t 1 = t.val / 4 % 8)
    ∧ (win0_2.index t 0 = t.val / 4 % 8 % 2 ∧ win0_2.index t 1 = t.val / 4 % 8 / 2 ∧ win0_2.index t 2 = 4 + t.val / 4 / 8 ∧ win0_2.index t 3 = 0) := by
  decide +kernel

/-- The block of the normed rows. -/
theorem blk0 (t : Fin cfg0.N) (y : S2048x1024.Idx) :
    (iblk m c 0 t : Vec Ideal S2048x1024 .bf16) y = tot (mH m c) (2048 * (t.val % 4) + (y 0).val) (1024 * (t.val / 4 / 8) + (y 1).val) := by
  unfold iblk
  rw [View.read_apply]
  have hi := (idx t).1
  refine Eq.trans (b := mH m c (((cfg0.win 0).blk t).view.emb y)) ?_ (tot_idx _ _ ?_ ?_)
  · rfl
  · show win0_0.index t 0 * 2048 + 1 * (y 0).val = _; rw [hi.1]; omega
  · show win0_0.index t 1 * 1024 + 1 * (y 1).val = _; rw [hi.2]; omega

/-- The block of the cotangent. -/
theorem blk1 (t : Fin cfg0.N) (y : S2048x1408.Idx) :
    (iblk m c 1 t : Vec Ideal S2048x1408 .bf16) y = tot (mG m c) (2048 * (t.val % 4) + (y 0).val) (1408 * (t.val / 4 % 8) + (y 1).val) := by
  unfold iblk
  rw [View.read_apply]
  have hi := (idx t).2.1
  refine Eq.trans (b := mG m c (((cfg0.win 1).blk t).view.emb y)) ?_ (tot_idx _ _ ?_ ?_)
  · rfl
  · show win0_1.index t 0 * 2048 + 1 * (y 0).val = _; rw [hi.1]; omega
  · show win0_1.index t 1 * 1408 + 1 * (y 1).val = _; rw [hi.2]; omega

/-- One block's product at an entry. -/
theorem pay (x0 : Vec Ideal S2048x1024 .bf16) (x1 : Vec Ideal S2048x1408 .bf16) (y : S1024x1408.Idx) :
    k0_pay1 (F := Ideal) x0 x1 y = ∑ k : Fin 2048, x0 (ix2 k (y 0)) * x1 (ix2 k (y 1)) := by
  unfold k0_pay1
  pointwise

/-- The product's terms at an entry of the block that run `q` of points writes. -/
abbrev term (q : ℕ) (y : S1024x1408.Idx) (k : ℕ) : EReal :=
  tot (mH m c) k (1024 * (q / 8) + (y 0).val) * tot (mG m c) k (1408 * (q % 8) + (y 1).val)

/-- What a point's product adds. -/
theorem pay_at (t : Fin cfg0.N) (y : S1024x1408.Idx) :
    k0_pay1 (F := Ideal) (iblk m c 0 t) (iblk m c 1 t) y = stretch 2048 (term m c (t.val / 4) y) (t.val % 4) := by
  rw [pay, stretch, ← Fin.sum_univ_eq_sum_range]
  exact Finset.sum_congr rfl fun k _ => congrArg₂ (· * ·) (blk0 m c t _) (blk1 m c t _)

/-- The row and the column inside a block of the placed array. -/
abbrev inner (z : S1x1x1024x1408.Idx) : S1024x1408.Idx := fun a => match a with
  | ⟨0, _⟩ => ⟨(z 2).val, (z 2).isLt⟩
  | ⟨1, _⟩ => ⟨(z 3).val, (z 3).isLt⟩

/-- What a first point stores, and what a later point stores over `v`. -/
theorem pay2_at (x0 : Vec Ideal S2048x1024 .bf16) (x1 : Vec Ideal S2048x1408 .bf16) (y : S1024x1408.Idx) : k0_pay2 (F := Ideal) x0 x1 y = k0_pay1 (F := Ideal) x0 x1 y := by
  unfold k0_pay2; pointwise
theorem pay3_at (x0 : Vec Ideal S2048x1024 .bf16) (x1 : Vec Ideal S2048x1408 .bf16) (v : Vec Ideal S1024x1408 .f32) (y : S1024x1408.Idx) :
    k0_pay3 (F := Ideal) x0 x1 v y = v y + k0_pay1 (F := Ideal) x0 x1 y := by
  unfold k0_pay3; pointwise
theorem pay4_at (x0 : Vec Ideal S2048x1024 .bf16) (x1 : Vec Ideal S2048x1408 .bf16) (v : Vec Ideal S1024x1408 .f32) (z : S1x1x1024x1408.Idx) :
    k0_pay4 (F := Ideal) x0 x1 v z = v (inner z) + k0_pay1 (F := Ideal) x0 x1 (inner z) := by
  unfold k0_pay4
  refine (shapeCast_apply _ _ z (inner z) ?_).trans rfl
  have h0 : (z 0).val < 1 := (z 0).isLt
  have h1 : (z 1).val < 1 := (z 1).isLt
  rw [Shape.rowMajor_val_two, Shape.rowMajor_val_four]
  show (z 2).val * 1408 + (z 3).val = (((z 0).val * 1 + (z 1).val) * 1024 + (z 2).val) * 1408 + (z 3).val
  omega

/-- The running sum after a first point and after a middle one, and the block that the last point leaves. -/
theorem first_at (t : Fin cfg0.N) (h0 : t.val % 4 = 0) (y : S1024x1408.Idx) :
    (outsAt0 m c t.val t.isLt).2 y = stretch 2048 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1024x1408.Idx) :
    (outsAt0 m c t.val t.isLt).2 y = (outsAt0 m c (t.val - 1) h').2 y + stretch 2048 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (z : S1x1x1024x1408.Idx) :
    (outsAt0 m c t.val t.isLt).1 z = (outsAt0 m c (t.val - 1) h').2 (inner z) + stretch 2048 (term m c (t.val / 4) (inner z)) (t.val % 4) := by
  rw [outsAt0_C m c t (by omega) (by omega) (by omega), ← pay_at m c t]
  frame_out
  refine (pay4_at _ _ _ z).trans ?_
  rw [(Memref.isWhole_whole _).read_unread]

/-- A block of the result, after its last point. -/
theorem out_last (n : ℕ) (h : n < cfg0.N) (hl : n % 4 + 1 = 4) (z : S1x1x1024x1408.Idx) :
    (outsAt0 m c n h).1 z = ∑ k ∈ Finset.range 8192, term m c (n / 4) (inner z) k :=
  run_total (N := cfg0.N) 4 2048 (by decide) (fun n h z => (outsAt0 m c n h).2 (inner z)) (fun n h => (outsAt0 m c n h).1)
    (fun q z => term m c q (inner z)) (fun n h h0 z => first_at m c ⟨n, h⟩ h0 (inner z))
    (fun n h h' h1 h2 z => mid_at m c ⟨n, h⟩ h1 h2 h' (inner z)) (fun n h h' h1 z => last_at m c ⟨n, h⟩ h1 h' z) n h hl z

/-- An entry of the product. -/
abbrev cell (r q : ℕ) : EReal := ∑ k ∈ Finset.range 8192, tot (mH m c) k r * tot (mG m c) k q

/-- The placed array: the layer's 2048 rows of the product, each chip's columns in turn, and the other rows as they came. -/
abbrev val (i : S2x4x8192x1408.Idx) : EReal :=
  if 4096 ≤ (i 2).val ∧ (i 2).val < 6144 then cell m c ((i 2).val - 4096) (1408 * (2 * (i 1).val + (i 0).val) + (i 3).val) else mB m c i

theorem val_in (i : S2x4x8192x1408.Idx) (r q : ℕ) (hr : r < 2048) (h2 : (i 2).val = 4096 + r) (hq : 1408 * (2 * (i 1).val + (i 0).val) + (i 3).val = q) :
    cell m c r q = val m c i := by
  have e : (i 2).val - 4096 = r := by omega
  rw [val, if_pos (by omega), hq, e]

/-- What a last point writes back. -/
theorem fl2 (t : Fin cfg0.N) (hf : (cfg0.win 2).flush t = true) : (dats m 0 c).flushed 2 t
    = ((cfg0.win 2).blk t).view.read (Elt Ideal) (fun i => val m c i : Buf (Elt Ideal) ((c : Thread nD τ).loc main_v2)) := by
  have h3 := (flush0_2 t).mp hf
  have hN : t.val < 64 := lt_of_lt_of_eq t.isLt N_0
  rw [flushed2]
  refine funext fun (j : S1x1x1024x1408.Idx) => ?_
  rw [View.read_apply]
  have hi := (idx t).2.2
  have j0 : (j 0).val < 1 := (j 0).isLt
  have j1 : (j 1).val < 1 := (j 1).isLt
  have j2 : (j 2).val < 1024 := (j 2).isLt
  refine (out_last m c t.val t.isLt (by omega) j).trans (val_in m c _ _ _ ?_ ?_ ?_)
  · show 1024 * (t.val / 4 / 8) + (j 2).val < 2048; omega
  · show win0_2.index t 2 * 1024 + 1 * (j 2).val = 4096 + (1024 * (t.val / 4 / 8) + (j 2).val); rw [hi.2.2.1]; omega
  · show 1408 * (2 * (win0_2.index t 1 * 1 + 1 * (j 1).val) + (win0_2.index t 0 * 1 + 1 * (j 0).val)) + (win0_2.index t 3 * 1408 + 1 * (j 3).val) = 1408 * (t.val / 4 % 8) + (j 3).val
    rw [hi.1, hi.2.1, hi.2.2.2]; omega

/-- The result array. -/
theorem fin2 : (dats m 0 c).arrAt 2 cfg0.N = (fun i => val m c i : Buf (Elt Ideal) ((c : Thread nD τ).loc main_v2)) := by
  funext (i : S2x4x8192x1408.Idx)
  rw [(dats m 0 c).arrAt_eq_piecewise 2 _ (fun t hf => fl2 m c t hf)]
  split
  · rfl
  · rename_i hno
    have b0 : (i 0).val < 2 := (i 0).isLt
    have b1 : (i 1).val < 4 := (i 1).isLt
    have b3 : (i 3).val < 1408 := (i 3).isLt
    have hN : cfg0.N = 64 := N_0
    refine Eq.trans ?_ (if_neg ?_).symm
    · rw [A_eq]; rfl
    · intro h
      refine hno ⟨⟨((i 2).val - 4096) / 1024 * 32 + (2 * (i 1).val + (i 0).val) * 4 + 3, by rw [hN]; omega⟩, (flush0_2 _).mpr ?_, ?_⟩
      · show (((i 2).val - 4096) / 1024 * 32 + (2 * (i 1).val + (i 0).val) * 4 + 3) % 4 = 3; omega
      · generalize ht : (⟨((i 2).val - 4096) / 1024 * 32 + (2 * (i 1).val + (i 0).val) * 4 + 3, _⟩ : Fin cfg0.N) = t
        have hv : t.val = ((i 2).val - 4096) / 1024 * 32 + (2 * (i 1).val + (i 0).val) * 4 + 3 := by rw [← ht]
        have hi := (idx t).2.2
        show i ∈ ((View.whole main_v2).slice (win0_2.rect t)).set
        rw [View.set_slice_whole, Rect.mem_set_unit]
        intro a
        match a with
        | ⟨0, _⟩ => show win0_2.index t 0 * 1 ≤ (i 0).val ∧ (i 0).val < win0_2.index t 0 * 1 + 1; rw [hi.1]; omega
        | ⟨1, _⟩ => show win0_2.index t 1 * 1 ≤ (i 1).val ∧ (i 1).val < win0_2.index t 1 * 1 + 1; rw [hi.2.1]; omega
        | ⟨2, _⟩ => show win0_2.index t 2 * 1024 ≤ (i 2).val ∧ (i 2).val < win0_2.index t 2 * 1024 + 1024; rw [hi.2.2.1]; omega
        | ⟨3, _⟩ => show win0_2.index t 3 * 1408 ≤ (i 3).val ∧ (i 3).val < win0_2.index t 3 * 1408 + 1408; rw [hi.2.2.2]; omega

end Cert.UpWIdeal.Blk

namespace Cert.UpWProof

open Cert.Prod

/-- The reference terminates, leaves its arguments alone and has no semaphores. -/
theorem frame_ref : Cert.quiescent_UpWRefIdeal (hUpWRefIdeal := Cert.UpWRefIdeal.Gen.facts) := fun m ρ _ =>
  (θ_run Cert.UpWRefIdeal.defs _ _).mono
    (fun r h => ⟨fun c => (h c).2, sem_eq_zero_of_no_sems rfl r.2⟩) (Cert.UpWRefIdeal.Value.run (F := Ideal) m ρ)

/-- The reference's product is the same sum. -/
theorem ref_apply (x0 : Vec Ideal Cert.UpWRefIdeal.S8192x2048 .f32) (x2 : Vec Ideal Cert.UpWRefIdeal.S8192x11264 .f32) (i : Cert.UpWRefIdeal.S2x4x2048x1408.Idx)
    (r q : ℕ) (hr : (i 2).val = r) (hq : 1408 * (2 * (i 1).val + (i 0).val) + (i 3).val = q) :
    Cert.UpWRefIdeal.Read.val_main_v6 (F := Ideal) x0 x2 i = ∑ k ∈ Finset.range 8192, tot x0 k r * tot x2 k q := by
  rw [Cert.UpWRefIdeal.Read.val_main_v6_apply, Cert.UpWRefIdeal.Read.val_main_v5_apply, Cert.UpWRefIdeal.Read.val_main_v4_apply,
    Cert.UpWRefIdeal.Read.val_main_v2_apply]
  refine (Cert.UpWRefIdeal.Read.val_main_v1_apply _ _ _).trans ?_
  rw [← Fin.sum_univ_eq_sum_range (fun k => tot x0 k r * tot x2 k q)]
  have b0 : (i 0).val < 2 := (i 0).isLt
  have b1 : (i 1).val < 4 := (i 1).isLt
  have b3 : (i 3).val < 1408 := (i 3).isLt
  refine Finset.sum_congr rfl fun k _ => (congrArg₂ (· * ·) (tot_idx _ _ rfl ?_) (tot_idx _ _ rfl ?_)).trans (mul_comm _ _)
  · show ((((i 2).val * 4 + (i 1).val) * 2 + (i 0).val) * 1408 + (i 3).val) % 11264 = q; omega
  · show ((((i 2).val * 4 + (i 1).val) * 2 + (i 0).val) * 1408 + (i 3).val) / 11264 = r; omega

/-- The reference's placed array. -/
theorem ref_placed (x0 : Vec Ideal Cert.UpWRefIdeal.S8192x2048 .f32) (x2 : Vec Ideal Cert.UpWRefIdeal.S8192x11264 .f32)
    (x3 : Vec Ideal Cert.UpWRefIdeal.S2x4x8192x1408 .bf16) (i : Cert.UpWRefIdeal.S2x4x8192x1408.Idx) :
    Cert.UpWRefIdeal.Read.val_main_v7 (F := Ideal) x0 x2 x3 i
      = if 4096 ≤ (i 2).val ∧ (i 2).val < 6144 then ∑ k ∈ Finset.range 8192, tot x0 k ((i 2).val - 4096) * tot x2 k (1408 * (2 * (i 1).val + (i 0).val) + (i 3).val) else x3 i := by
  unfold Cert.UpWRefIdeal.Read.val_main_v7
  rw [Host.dynamicUpdateSlice_eq_updateSlice _ _ _ _ ![0, 0, 4096, 0] (fun a => by fin_cases a <;> rfl) (by decide), updateSlice_apply]
  have b0 : (i 0).val < 2 := (i 0).isLt
  have b1 : (i 1).val < 4 := (i 1).isLt
  have b3 : (i 3).val < 1408 := (i 3).isLt
  by_cases h : 4096 ≤ (i 2).val ∧ (i 2).val < 6144
  · rw [if_pos h, dif_pos (fun a => match a with
      | ⟨0, _⟩ => ⟨Nat.zero_le _, by show (i 0).val < 0 + 2; omega⟩
      | ⟨1, _⟩ => ⟨Nat.zero_le _, by show (i 1).val < 0 + 4; omega⟩
      | ⟨2, _⟩ => ⟨h.1, by show (i 2).val < 4096 + 2048; omega⟩
      | ⟨3, _⟩ => ⟨Nat.zero_le _, by show (i 3).val < 0 + 1408; omega⟩)]
    exact ref_apply _ _ _ _ _ rfl rfl
  · rw [if_neg h, dif_neg (fun hin => h ⟨(hin 2).1, (hin 2).2⟩)]

/-- The call computes the derivative. -/
theorem algebraic : Cert.algebraic_UpWIdeal_UpWRefIdeal (hUpWIdeal := Cert.UpWIdeal.Gen.facts)
    (hUpWRefIdeal := Cert.UpWRefIdeal.Gen.facts) := by
  intro m ρ m' ρ' _ hm
  refine ⟨fun c => (Cert.UpWIdeal.Gen.dats m 0 c).arrAt 2 Cert.UpWIdeal.cfg0.N, Cert.UpWIdeal.Value.run_blocks m ρ, ?_⟩
  refine (θ_run Cert.UpWRefIdeal.defs _ _).mono (fun r h c => ⟨(h c).1.trans ?_, (h c).2⟩) (Cert.UpWRefIdeal.Value.run (F := Ideal) m' ρ')
  obtain ⟨a0, a1, a2, a3⟩ := hm c
  refine ((Cert.UpWRefIdeal.Read.val_main_v7_eq _ _ _).trans ?_).trans (Cert.UpWIdeal.Blk.fin2 m c).symm
  rw [a0, a2, a3]
  exact funext fun i => ref_placed _ _ _ i

end Cert.UpWProof

end
-- ==== Proof.DownX.lean ====
/-
  The gradient of the down-projection's input: what the blocked product of the call leaves, as a sum over the 2048 columns.
-/
module

public import proofs.«01_k».proof.Proof.Gen.DownXIdeal.Value
public import proofs.«01_k».proof.Proof.Prod
public import proofs.«01_k».proof.Defs
public import proofs.«01_k».proof.Proof.Gen.DownXRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.DownXIdeal.Blk

open Cert.DownXIdeal Cert.DownXIdeal.Gen Cert.DownXIdeal.Value Cert.Prod

variable (m : (ℓ : Loc nD τ sig) → Buf (Elt Ideal) ℓ) (c : Dev nD)

/-- The arguments that the call reads: the weights and the cotangent. -/
abbrev mW : Vec Ideal S5632x2048 .f32 := m ((c.tc : Thread nD τ).loc main_arg1)
abbrev mG : Vec Ideal S8192x2048 .f32 := m ((c.tc : Thread nD τ).loc main_arg2)

/-- The block indices of the windows at a grid point, decided over the grid. -/
theorem idx : ∀ t : Fin grid0.N,
    (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4) := by
  decide +kernel

/-- The block of the cotangent. -/
theorem blk0 (t : Fin cfg0.N) (y : S1024x2048.Idx) :
    (iblk m c 0 t : Vec Ideal S1024x2048 .bf16) y = tot (mG m c) (1024 * (t.val / 4) + (y 0).val) (y 1).val := by
  unfold iblk
  rw [View.read_apply]
  have hi := (idx t).1
  refine Eq.trans (b := mG m c (((cfg0.win 0).blk t).view.emb y)) ?_ (tot_idx _ _ ?_ ?_)
  · rfl
  · show win0_0.index t 0 * 1024 + 1 * (y 0).val = _; rw [hi.1]; omega
  · show win0_0.index t 1 * 2048 + 1 * (y 1).val = _; rw [hi.2]; omega

/-- The block of the weights. -/
theorem blk1 (t : Fin cfg0.N) (y : S1408x2048.Idx) :
    (iblk m c 1 t : Vec Ideal S1408x2048 .bf16) y = tot (mW m c) (1408 * (t.val % 4) + (y 0).val) (y 1).val := by
  unfold iblk
  rw [View.read_apply]
  have hi := (idx t).2.1
  refine Eq.trans (b := mW m c (((cfg0.win 1).blk t).view.emb y)) ?_ (tot_idx _ _ ?_ ?_)
  · rfl
  · show win0_1.index t 0 * 1408 + 1 * (y 0).val = _; rw [hi.1]; omega
  · show win0_1.index t 1 * 2048 + 1 * (y 1).val = _; rw [hi.2]; omega

/-- One block's product at an entry. -/
theorem pay (x0 : Vec Ideal S1024x2048 .bf16) (x1 : Vec Ideal S1408x2048 .bf16) (y : S1024x1408.Idx) :
    k0_pay1 (F := Ideal) x0 x1 y = ∑ k : Fin 2048, x0 (ix2 (y 0) k) * x1 (ix2 (y 1) k) := by
  unfold k0_pay1
  pointwise

/-- The result at an index. -/
abbrev val (i : S8192x5632.Idx) : EReal := ∑ k ∈ Finset.range 2048, tot (mG m c) (i 0).val k * tot (mW m c) (i 1).val k

/-- A block of the result. -/
theorem out_at (t : Fin cfg0.N) (y : S1024x1408.Idx) (r q : ℕ) (hr : 1024 * (t.val / 4) + (y 0).val = r) (hq : 1408 * (t.val % 4) + (y 1).val = q) :
    (outsAt0 m c t : Vec Ideal S1024x1408 .f32) y = ∑ k ∈ Finset.range 2048, tot (mG m c) r k * tot (mW m c) q k := by
  unfold outsAt0
  frame_out
  rw [pay, ← Fin.sum_univ_eq_sum_range (fun k => tot (mG m c) r k * tot (mW m c) q k), ← hr, ← hq]
  exact Finset.sum_congr rfl fun k _ => congrArg₂ (· * ·) (blk0 m c t _) (blk1 m c t _)

/-- What a point writes back. -/
theorem fl2 (t : Fin cfg0.N) : (dats m 0 c).flushed 2 t
    = ((cfg0.win 2).blk t).view.read (Elt Ideal) (fun i => val m c i : Buf (Elt Ideal) ((c : Thread nD τ).loc main_v2)) := by
  rw [flushed2]
  refine funext fun (j : S1024x1408.Idx) => ?_
  rw [View.read_apply]
  have hi := (idx t).2.2
  refine out_at m c t j _ _ ?_ ?_
  · show _ = win0_2.index t 0 * 1024 + 1 * (j 0).val; rw [hi.1]; omega
  · show _ = win0_2.index t 1 * 1408 + 1 * (j 1).val; rw [hi.2]; omega

/-- The result array: the blocks cover it. -/
theorem fin2 : (dats m 0 c).arrAt 2 cfg0.N = (fun i => val m c i : Buf (Elt Ideal) ((c : Thread nD τ).loc main_v2)) :=
  (dats m 0 c).arrAt_eq_of_cover 2 _ (fun t _ => fl2 m c t) fun i => by
    have b0 : (i 0).val < 8192 := (i 0).isLt
    have b1 : (i 1).val < 5632 := (i 1).isLt
    have hN : cfg0.N = 32 := N_0
    let t : Fin cfg0.N := ⟨(i 0).val / 1024 * 4 + (i 1).val / 1408, by rw [hN]; omega⟩
    have hi := (idx t).2.2
    have e0 : t.val / 4 = (i 0).val / 1024 := by show ((i 0).val / 1024 * 4 + (i 1).val / 1408) / 4 = _; omega
    have e1 : t.val % 4 = (i 1).val / 1408 := by show ((i 0).val / 1024 * 4 + (i 1).val / 1408) % 4 = _; omega
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1, e0]; omega
    | ⟨1, _⟩ => show win0_2.index t 1 * 1408 ≤ (i 1).val ∧ (i 1).val < win0_2.index t 1 * 1408 + 1408; rw [hi.2, e1]; omega

end Cert.DownXIdeal.Blk

namespace Cert.DownXProof

open Cert.Prod

/-- The reference terminates, leaves its arguments alone and has no semaphores. -/
theorem frame_ref : Cert.quiescent_DownXRefIdeal (hDownXRefIdeal := Cert.DownXRefIdeal.Gen.facts) := fun m ρ _ =>
  (θ_run Cert.DownXRefIdeal.defs _ _).mono
    (fun r h => ⟨fun c => (h c).2, sem_eq_zero_of_no_sems rfl r.2⟩) (Cert.DownXRefIdeal.Value.run (F := Ideal) m ρ)

/-- The reference's product is the same sum. -/
theorem ref_apply (x1 : Vec Ideal Cert.DownXRefIdeal.S5632x2048 .f32) (x2 : Vec Ideal Cert.DownXRefIdeal.S8192x2048 .f32) (i : Cert.DownXRefIdeal.S8192x5632.Idx) :
    Cert.DownXRefIdeal.Read.val_main_v3 (F := Ideal) x1 x2 i
      = ∑ k ∈ Finset.range 2048, tot x2 (i 0).val k * tot x1 (i 1).val k := by
  rw [Cert.DownXRefIdeal.Read.val_main_v3_apply, ← Fin.sum_univ_eq_sum_range (fun k => tot x2 (i 0).val k * tot x1 (i 1).val k)]
  exact Finset.sum_congr rfl fun k _ => congrArg₂ (· * ·) (tot_idx _ _ rfl rfl) (tot_idx _ _ rfl rfl)

/-- The call computes the derivative. -/
theorem algebraic : Cert.algebraic_DownXIdeal_DownXRefIdeal (hDownXIdeal := Cert.DownXIdeal.Gen.facts)
    (hDownXRefIdeal := Cert.DownXRefIdeal.Gen.facts) := by
  intro m ρ m' ρ' _ hm
  refine ⟨fun c => (Cert.DownXIdeal.Gen.dats m 0 c).arrAt 2 Cert.DownXIdeal.cfg0.N, Cert.DownXIdeal.Value.run_blocks m ρ, ?_⟩
  refine (θ_run Cert.DownXRefIdeal.defs _ _).mono (fun r h c => ⟨(h c).1.trans ?_, (h c).2⟩) (Cert.DownXRefIdeal.Value.run (F := Ideal) m' ρ')
  obtain ⟨a0, a1, a2⟩ := hm c
  refine ((Cert.DownXRefIdeal.Read.val_main_v3_eq _ _).trans ?_).trans (Cert.DownXIdeal.Blk.fin2 m c).symm
  rw [a1, a2]
  exact funext fun i => ref_apply _ _ i

end Cert.DownXProof

end
-- ==== Proof.DownW.lean ====
/-
  The gradient of the down-projection's weights: what the blocked product of the call leaves, as a sum over the 8192 rows.
-/
module

public import proofs.«01_k».proof.Proof.Gen.DownWIdeal.Value
public import proofs.«01_k».proof.Proof.Prod
public import proofs.«01_k».proof.Defs
public import proofs.«01_k».proof.Proof.Gen.DownWRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.DownWIdeal.Blk

open Cert.DownWIdeal Cert.DownWIdeal.Gen Cert.DownWIdeal.Value Cert.Prod

variable (m : (ℓ : Loc nD τ sig) → Buf (Elt Ideal) ℓ) (c : Dev nD)

/-- The arguments that the call reads: the hidden rows and the cotangent. -/
abbrev mH : Vec Ideal S8192x5632 .f32 := m ((c.tc : Thread nD τ).loc main_arg0)
abbrev mG : Vec Ideal S8192x2048 .f32 := m ((c.tc : Thread nD τ).loc main_arg2)

/-- The block indices of the windows at a grid point, decided over the grid. -/
theorem idx : ∀ t : Fin grid0.N,
    (win0_0.index t 0 = t.val % 4 ∧ win0_0.index t 1 = t.val / 4 / 2)
    ∧ (win0_1.index t 0 = t.val % 4 ∧ win0_1.index t 1 = t.val / 4 % 2) := by
  decide +kernel

/-- The block of the hidden rows. -/
theorem blk0 (t : Fin cfg0.N) (y : S2048x1408.Idx) :
    (iblk m c 0 t : Vec Ideal S2048x1408 .bf16) y = tot (mH m c) (2048 * (t.val % 4) + (y 0).val) (1408 * (t.val / 4 / 2) + (y 1).val) := by
  unfold iblk
  rw [View.read_apply]
  have hi := (idx t).1
  refine Eq.trans (b := mH m c (((cfg0.win 0).blk t).view.emb y)) ?_ (tot_idx _ _ ?_ ?_)
  · rfl
  · show win0_0.index t 0 * 2048 + 1 * (y 0).val = _; rw [hi.1]; omega
  · show win0_0.index t 1 * 1408 + 1 * (y 1).val = _; rw [hi.2]; omega

/-- The block of the cotangent. -/
theorem blk1 (t : Fin cfg0.N) (y : S2048x1024.Idx) :
    (iblk m c 1 t : Vec Ideal S2048x1024 .bf16) y = tot (mG m c) (2048 * (t.val % 4) + (y 0).val) (1024 * (t.val / 4 % 2) + (y 1).val) := by
  unfold iblk
  rw [View.read_apply]
  have hi := (idx t).2
  refine Eq.trans (b := mG m c (((cfg0.win 1).blk t).view.emb y)) ?_ (tot_idx _ _ ?_ ?_)
  · rfl
  · show win0_1.index t 0 * 2048 + 1 * (y 0).val = _; rw [hi.1]; omega
  · show win0_1.index t 1 * 1024 + 1 * (y 1).val = _; rw [hi.2]; omega

/-- One block's product at an entry. -/
theorem pay (x0 : Vec Ideal S2048x1408 .bf16) (x1 : Vec Ideal S2048x1024 .bf16) (y : S1408x1024.Idx) :
    k0_pay1 (F := Ideal) x0 x1 y = ∑ k : Fin 2048, x0 (ix2 k (y 0)) * x1 (ix2 k (y 1)) := by
  unfold k0_pay1
  pointwise

/-- The product's terms at an entry of the block that run `q` of points writes. -/
abbrev term (q : ℕ) (y : S1408x1024.Idx) (k : ℕ) : EReal :=
  tot (mH m c) k (1408 * (q / 2) + (y 0).val) * tot (mG m c) k (1024 * (q % 2) + (y 1).val)

/-- What a point's product adds. -/
theorem pay_at (t : Fin cfg0.N) (y : S1408x1024.Idx) :
    k0_pay1 (F := Ideal) (iblk m c 0 t) (iblk m c 1 t) y = stretch 2048 (term m c (t.val / 4) y) (t.val % 4) := by
  rw [pay, stretch, ← Fin.sum_univ_eq_sum_range]
  exact Finset.sum_congr rfl fun k _ => congrArg₂ (· * ·) (blk0 m c t _) (blk1 m c t _)

/-- What a first point stores, and what a later point stores over `v`. -/
theorem pay2_at (x0 : Vec Ideal S2048x1408 .bf16) (x1 : Vec Ideal S2048x1024 .bf16) (y : S1408x1024.Idx) : k0_pay2 (F := Ideal) x0 x1 y = k0_pay1 (F := Ideal) x0 x1 y := by
  unfold k0_pay2; pointwise
theorem pay3_at (x0 : Vec Ideal S2048x1408 .bf16) (x1 : Vec Ideal S2048x1024 .bf16) (v : Vec Ideal S1408x1024 .f32) (y : S1408x1024.Idx) :
    k0_pay3 (F := Ideal) x0 x1 v y = v y + k0_pay1 (F := Ideal) x0 x1 y := by
  unfold k0_pay3; pointwise
theorem pay4_at (x0 : Vec Ideal S2048x1408 .bf16) (x1 : Vec Ideal S2048x1024 .bf16) (v : Vec Ideal S1408x1024 .f32) (y : S1408x1024.Idx) :
    k0_pay4 (F := Ideal) x0 x1 v y = v y + k0_pay1 (F := Ideal) x0 x1 y := by
  unfold k0_pay4; pointwise

/-- The running sum after a first point and after a middle one, and the block that the last point leaves. -/
theorem first_at (t : Fin cfg0.N) (h0 : t.val % 4 = 0) (y : S1408x1024.Idx) :
    (outsAt0 m c t.val t.isLt).2 y = stretch 2048 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1408x1024.Idx) :
    (outsAt0 m c t.val t.isLt).2 y = (outsAt0 m c (t.val - 1) h').2 y + stretch 2048 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (y : S1408x1024.Idx) :
    (outsAt0 m c t.val t.isLt).1 y = (outsAt0 m c (t.val - 1) h').2 y + stretch 2048 (term m c (t.val / 4) y) (t.val % 4) := by
  rw [outsAt0_C m c t (by omega) (by omega) (by omega), ← pay_at m c t]
  frame_out
  refine (pay4_at _ _ _ y).trans ?_
  rw [(Memref.isWhole_whole _).read_unread]

/-- A block of the result, after its last point. -/
theorem out_last (n : ℕ) (h : n < cfg0.N) (hl : n % 4 + 1 = 4) (y : S1408x1024.Idx) :
    (outsAt0 m c n h).1 y = ∑ k ∈ Finset.range 8192, term m c (n / 4) y k :=
  run_total (N := cfg0.N) 4 2048 (by decide) (fun n h => (outsAt0 m c n h).2) (fun n h => (outsAt0 m c n h).1) (term m c)
    (fun n h h0 y => first_at m c ⟨n, h⟩ h0 y) (fun n h h' h1 h2 y => mid_at m c ⟨n, h⟩ h1 h2 h' y)
    (fun n h h' h1 y => last_at m c ⟨n, h⟩ h1 h' y) n h hl y

/-- The result array. -/
theorem fin2 : (dats m 0 c).arrAt 2 cfg0.N
    = fun i : S5632x2048.Idx => ∑ k ∈ Finset.range 8192, tot (mH m c) k (i 0).val * tot (mG m c) k (i 1).val := by
  rw [final2]
  funext (i : S5632x2048.Idx)
  have h0 : (i 0).val < 5632 := (i 0).isLt
  have h1 : (i 1).val < 2048 := (i 1).isLt
  have hp : pt2Of i < cfg0.N := lt_of_lt_of_eq (by simp only [pt2Of, run2Of]; omega) N_0.symm
  have H := out_last m c (pt2Of i) hp (by simp only [pt2Of]; omega) (loc2Of i)
  rw [outsAt0_sweep] at H
  unfold G2
  rw [dif_pos hp]
  refine H.trans (Finset.sum_congr rfl fun k _ => ?_)
  have e0 : 1408 * (pt2Of i / 4 / 2) + (loc2Of i 0).val = (i 0).val := by
    show 1408 * (pt2Of i / 4 / 2) + (i 0).val % 1408 = _
    simp only [pt2Of, run2Of]; omega
  have e1 : 1024 * (pt2Of i / 4 % 2) + (loc2Of i 1).val = (i 1).val := by
    show 1024 * (pt2Of i / 4 % 2) + (i 1).val % 1024 = _
    simp only [pt2Of, run2Of]; omega
  simp only [term, e0, e1]

end Cert.DownWIdeal.Blk

namespace Cert.DownWProof

open Cert.Prod

/-- The reference terminates, leaves its arguments alone and has no semaphores. -/
theorem frame_ref : Cert.quiescent_DownWRefIdeal (hDownWRefIdeal := Cert.DownWRefIdeal.Gen.facts) := fun m ρ _ =>
  (θ_run Cert.DownWRefIdeal.defs _ _).mono
    (fun r h => ⟨fun c => (h c).2, sem_eq_zero_of_no_sems rfl r.2⟩) (Cert.DownWRefIdeal.Value.run (F := Ideal) m ρ)

/-- The reference's product is the same sum. -/
theorem ref_apply (x0 : Vec Ideal Cert.DownWRefIdeal.S8192x5632 .f32) (x2 : Vec Ideal Cert.DownWRefIdeal.S8192x2048 .f32) (i : Cert.DownWRefIdeal.S5632x2048.Idx) :
    Cert.DownWRefIdeal.Read.val_main_v4 (F := Ideal) x0 x2 i
      = ∑ k ∈ Finset.range 8192, tot x0 k (i 0).val * tot x2 k (i 1).val := by
  rw [Cert.DownWRefIdeal.Read.val_main_v4_apply, Cert.DownWRefIdeal.Read.val_main_v2_apply]
  refine (Cert.DownWRefIdeal.Read.val_main_v1_apply _ _ _).trans ?_
  rw [← Fin.sum_univ_eq_sum_range (fun k => tot x0 k (i 0).val * tot x2 k (i 1).val)]
  exact Finset.sum_congr rfl fun k _ => (congrArg₂ (· * ·) (tot_idx _ _ rfl rfl) (tot_idx _ _ rfl rfl)).trans (mul_comm _ _)

/-- The call computes the derivative. -/
theorem algebraic : Cert.algebraic_DownWIdeal_DownWRefIdeal (hDownWIdeal := Cert.DownWIdeal.Gen.facts)
    (hDownWRefIdeal := Cert.DownWRefIdeal.Gen.facts) := by
  intro m ρ m' ρ' _ hm
  refine ⟨fun c => (Cert.DownWIdeal.Gen.dats m 0 c).arrAt 2 Cert.DownWIdeal.cfg0.N, Cert.DownWIdeal.Value.run_blocks m ρ, ?_⟩
  refine (θ_run Cert.DownWRefIdeal.defs _ _).mono (fun r h c => ⟨(h c).1.trans ?_, (h c).2⟩) (Cert.DownWRefIdeal.Value.run (F := Ideal) m' ρ')
  obtain ⟨a0, a1, a2⟩ := hm c
  refine ((Cert.DownWRefIdeal.Read.val_main_v4_eq _ _).trans ?_).trans (Cert.DownWIdeal.Blk.fin2 m c).symm
  rw [a0, a2]
  exact funext fun i => ref_apply _ _ i

end Cert.DownWProof

end
-- ==== Proof.ProjX.lean ====
/-
  The gradient of the rows that the input projection reads: what the blocked product of the call leaves, as a sum over the 9216 columns.
-/
module

public import proofs.«01_k».proof.Proof.Gen.ProjXIdeal.Value
public import proofs.«01_k».proof.Proof.Prod
public import proofs.«01_k».proof.Defs
public import proofs.«01_k».proof.Proof.Gen.ProjXRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.ProjXIdeal.Blk

open Cert.ProjXIdeal Cert.ProjXIdeal.Gen Cert.ProjXIdeal.Value Cert.Prod

variable (m : (ℓ : Loc nD τ sig) → Buf (Elt Ideal) ℓ) (c : Dev nD)

/-- The arguments that the call reads: the weights and the cotangent. -/
abbrev mW : Vec Ideal S2048x9216 .f32 := m ((c.tc : Thread nD τ).loc main_arg1)
abbrev mG : Vec Ideal S8192x9216 .f32 := m ((c.tc : Thread nD τ).loc main_arg2)

/-- The block indices of the windows at a grid point, decided over the grid. -/
theorem idx : ∀ t : Fin grid0.N,
    (win0_0.index t 0 = t.val / 4 / 2 ∧ win0_0.index t 1 = t.val % 4)
    ∧ (win0_1.index t 0 = t.val / 4 % 2 ∧ win0_1.index t 1 = t.val % 4) := by
  decide +kernel

/-- The block of the cotangent. -/
theorem blk0 (t : Fin cfg0.N) (y : S1024x2304.Idx) :
    (iblk m c 0 t : Vec Ideal S1024x2304 .bf16) y = tot (mG m c) (1024 * (t.val / 4 / 2) + (y 0).val) (2304 * (t.val % 4) + (y 1).val) := by
  unfold iblk
  rw [View.read_apply]
  have hi := (idx t).1
  refine Eq.trans (b := mG m c (((cfg0.win 0).blk t).view.emb y)) ?_ (tot_idx _ _ ?_ ?_)
  · rfl
  · show win0_0.index t 0 * 1024 + 1 * (y 0).val = _; rw [hi.1]; omega
  · show win0_0.index t 1 * 2304 + 1 * (y 1).val = _; rw [hi.2]; omega

/-- The block of the weights. -/
theorem blk1 (t : Fin cfg0.N) (y : S1024x2304.Idx) :
    (iblk m c 1 t : Vec Ideal S1024x2304 .bf16) y = tot (mW m c) (1024 * (t.val / 4 % 2) + (y 0).val) (2304 * (t.val % 4) + (y 1).val) := by
  unfold iblk
  rw [View.read_apply]
  have hi := (idx t).2
  refine Eq.trans (b := mW m c (((cfg0.win 1).blk t).view.emb y)) ?_ (tot_idx _ _ ?_ ?_)
  · rfl
  · show win0_1.index t 0 * 1024 + 1 * (y 0).val = _; rw [hi.1]; omega
  · show win0_1.index t 1 * 2304 + 1 * (y 1).val = _; rw [hi.2]; omega

/-- One block's product at an entry. -/
theorem pay (x0 x1 : Vec Ideal S1024x2304 .bf16) (y : S1024x1024.Idx) :
    k0_pay1 (F := Ideal) x0 x1 y = ∑ k : Fin 2304, x0 (ix2 (y 0) k) * x1 (ix2 (y 1) k) := by
  unfold k0_pay1
  pointwise

/-- The product's terms at an entry of the block that run `q` of points writes. -/
abbrev term (q : ℕ) (y : S1024x1024.Idx) (k : ℕ) : EReal :=
  tot (mG m c) (1024 * (q / 2) + (y 0).val) k * tot (mW m c) (1024 * (q % 2) + (y 1).val) k

/-- What a point's product adds. -/
theorem pay_at (t : Fin cfg0.N) (y : S1024x1024.Idx) :
    k0_pay1 (F := Ideal) (iblk m c 0 t) (iblk m c 1 t) y = stretch 2304 (term m c (t.val / 4) y) (t.val % 4) := by
  rw [pay, stretch, ← Fin.sum_univ_eq_sum_range]
  exact Finset.sum_congr rfl fun k _ => congrArg₂ (· * ·) (blk0 m c t _) (blk1 m c t _)

/-- What a first point stores, and what a later point stores over `v`. -/
theorem pay2_at (x0 x1 : Vec Ideal S1024x2304 .bf16) (y : S1024x1024.Idx) : k0_pay2 (F := Ideal) x0 x1 y = k0_pay1 (F := Ideal) x0 x1 y := by
  unfold k0_pay2; pointwise
theorem pay3_at (x0 x1 : Vec Ideal S1024x2304 .bf16) (v : Vec Ideal S1024x1024 .f32) (y : S1024x1024.Idx) :
    k0_pay3 (F := Ideal) x0 x1 v y = v y + k0_pay1 (F := Ideal) x0 x1 y := by
  unfold k0_pay3; pointwise
theorem pay4_at (x0 x1 : Vec Ideal S1024x2304 .bf16) (v : Vec Ideal S1024x1024 .f32) (y : S1024x1024.Idx) :
    k0_pay4 (F := Ideal) x0 x1 v y = v y + k0_pay1 (F := Ideal) x0 x1 y := by
  unfold k0_pay4; pointwise

/-- The running sum after a first point and after a middle one, and the block that the last point leaves. -/
theorem first_at (t : Fin cfg0.N) (h0 : t.val % 4 = 0) (y : S1024x1024.Idx) :
    (outsAt0 m c t.val t.isLt).2 y = stretch 2304 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1024x1024.Idx) :
    (outsAt0 m c t.val t.isLt).2 y = (outsAt0 m c (t.val - 1) h').2 y + stretch 2304 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (y : S1024x1024.Idx) :
    (outsAt0 m c t.val t.isLt).1 y = (outsAt0 m c (t.val - 1) h').2 y + stretch 2304 (term m c (t.val / 4) y) (t.val % 4) := by
  rw [outsAt0_C m c t (by omega) (by omega) (by omega), ← pay_at m c t]
  frame_out
  refine (pay4_at _ _ _ y).trans ?_
  rw [(Memref.isWhole_whole _).read_unread]

/-- A block of the result, after its last point. -/
theorem out_last (n : ℕ) (h : n < cfg0.N) (hl : n % 4 + 1 = 4) (y : S1024x1024.Idx) :
    (outsAt0 m c n h).1 y = ∑ k ∈ Finset.range 9216, term m c (n / 4) y k :=
  run_total (N := cfg0.N) 4 2304 (by decide) (fun n h => (outsAt0 m c n h).2) (fun n h => (outsAt0 m c n h).1) (term m c)
    (fun n h h0 y => first_at m c ⟨n, h⟩ h0 y) (fun n h h' h1 h2 y => mid_at m c ⟨n, h⟩ h1 h2 h' y)
    (fun n h h' h1 y => last_at m c ⟨n, h⟩ h1 h' y) n h hl y

/-- The result array. -/
theorem fin2 : (dats m 0 c).arrAt 2 cfg0.N
    = fun i : S8192x2048.Idx => ∑ k ∈ Finset.range 9216, tot (mG m c) (i 0).val k * tot (mW m c) (i 1).val k := by
  rw [final2]
  funext (i : S8192x2048.Idx)
  have h0 : (i 0).val < 8192 := (i 0).isLt
  have h1 : (i 1).val < 2048 := (i 1).isLt
  have hp : pt2Of i < cfg0.N := lt_of_lt_of_eq (by simp only [pt2Of, run2Of]; omega) N_0.symm
  have H := out_last m c (pt2Of i) hp (by simp only [pt2Of]; omega) (loc2Of i)
  rw [outsAt0_sweep] at H
  unfold G2
  rw [dif_pos hp]
  refine H.trans (Finset.sum_congr rfl fun k _ => ?_)
  have e0 : 1024 * (pt2Of i / 4 / 2) + (loc2Of i 0).val = (i 0).val := by
    show 1024 * (pt2Of i / 4 / 2) + (i 0).val % 1024 = _
    simp only [pt2Of, run2Of]; omega
  have e1 : 1024 * (pt2Of i / 4 % 2) + (loc2Of i 1).val = (i 1).val := by
    show 1024 * (pt2Of i / 4 % 2) + (i 1).val % 1024 = _
    simp only [pt2Of, run2Of]; omega
  simp only [term, e0, e1]

end Cert.ProjXIdeal.Blk

namespace Cert.ProjXProof

open Cert.Prod

/-- The reference terminates, leaves its arguments alone and has no semaphores. -/
theorem frame_ref : Cert.quiescent_ProjXRefIdeal (hProjXRefIdeal := Cert.ProjXRefIdeal.Gen.facts) := fun m ρ _ =>
  (θ_run Cert.ProjXRefIdeal.defs _ _).mono
    (fun r h => ⟨fun c => (h c).2, sem_eq_zero_of_no_sems rfl r.2⟩) (Cert.ProjXRefIdeal.Value.run (F := Ideal) m ρ)

/-- The reference's product is the same sum. -/
theorem ref_apply (x1 : Vec Ideal Cert.ProjXRefIdeal.S2048x9216 .f32) (x2 : Vec Ideal Cert.ProjXRefIdeal.S8192x9216 .f32) (i : Cert.ProjXRefIdeal.S8192x2048.Idx) :
    Cert.ProjXRefIdeal.Read.val_main_v3 (F := Ideal) x1 x2 i
      = ∑ k ∈ Finset.range 9216, tot x2 (i 0).val k * tot x1 (i 1).val k := by
  rw [Cert.ProjXRefIdeal.Read.val_main_v3_apply, ← Fin.sum_univ_eq_sum_range (fun k => tot x2 (i 0).val k * tot x1 (i 1).val k)]
  exact Finset.sum_congr rfl fun k _ => congrArg₂ (· * ·) (tot_idx _ _ rfl rfl) (tot_idx _ _ rfl rfl)

/-- The call computes the derivative. -/
theorem algebraic : Cert.algebraic_ProjXIdeal_ProjXRefIdeal (hProjXIdeal := Cert.ProjXIdeal.Gen.facts)
    (hProjXRefIdeal := Cert.ProjXRefIdeal.Gen.facts) := by
  intro m ρ m' ρ' _ hm
  refine ⟨fun c => (Cert.ProjXIdeal.Gen.dats m 0 c).arrAt 2 Cert.ProjXIdeal.cfg0.N, Cert.ProjXIdeal.Value.run_blocks m ρ, ?_⟩
  refine (θ_run Cert.ProjXRefIdeal.defs _ _).mono (fun r h c => ⟨(h c).1.trans ?_, (h c).2⟩) (Cert.ProjXRefIdeal.Value.run (F := Ideal) m' ρ')
  obtain ⟨a0, a1, a2⟩ := hm c
  refine ((Cert.ProjXRefIdeal.Read.val_main_v3_eq _ _).trans ?_).trans (Cert.ProjXIdeal.Blk.fin2 m c).symm
  rw [a1, a2]
  exact funext fun i => ref_apply _ _ i

end Cert.ProjXProof

end
-- ==== Proof.ProjW.lean ====
/-
  The gradient of the input projection's weights: what the blocked product of the call leaves, as a sum over the 8192 rows.
-/
module

public import proofs.«01_k».proof.Proof.Gen.ProjWIdeal.Value
public import proofs.«01_k».proof.Proof.Prod
public import proofs.«01_k».proof.Defs
public import proofs.«01_k».proof.Proof.Gen.ProjWRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.ProjWIdeal.Blk

open Cert.ProjWIdeal Cert.ProjWIdeal.Gen Cert.ProjWIdeal.Value Cert.Prod

variable (m : (ℓ : Loc nD τ sig) → Buf (Elt Ideal) ℓ) (c : Dev nD)

/-- The arguments that the call reads: the normed rows and the cotangent. -/
abbrev mH : Vec Ideal S8192x2048 .f32 := m ((c.tc : Thread nD τ).loc main_arg0)
abbrev mG : Vec Ideal S8192x9216 .f32 := m ((c.tc : Thread nD τ).loc main_arg2)

/-- The block indices of the windows at a grid point, decided over the grid. -/
theorem idx : ∀ t : Fin grid0.N,
    (win0_0.index t 0 = t.val % 4 ∧ win0_0.index t 1 = t.val / 4 / 9)
    ∧ (win0_1.index t 0 = t.val % 4 ∧ win0_1.index t 1 = t.val / 4 % 9) := by
  decide +kernel

/-- The block of the normed rows. -/
theorem blk0 (t : Fin cfg0.N) (y : S2048x1024.Idx) :
    (iblk m c 0 t : Vec Ideal S2048x1024 .bf16) y = tot (mH m c) (2048 * (t.val % 4) + (y 0).val) (1024 * (t.val / 4 / 9) + (y 1).val) := by
  unfold iblk
  rw [View.read_apply]
  have hi := (idx t).1
  refine Eq.trans (b := mH m c (((cfg0.win 0).blk t).view.emb y)) ?_ (tot_idx _ _ ?_ ?_)
  · rfl
  · show win0_0.index t 0 * 2048 + 1 * (y 0).val = _; rw [hi.1]; omega
  · show win0_0.index t 1 * 1024 + 1 * (y 1).val = _; rw [hi.2]; omega

/-- The block of the cotangent. -/
theorem blk1 (t : Fin cfg0.N) (y : S2048x1024.Idx) :
    (iblk m c 1 t : Vec Ideal S2048x1024 .bf16) y = tot (mG m c) (2048 * (t.val % 4) + (y 0).val) (1024 * (t.val / 4 % 9) + (y 1).val) := by
  unfold iblk
  rw [View.read_apply]
  have hi := (idx t).2
  refine Eq.trans (b := mG m c (((cfg0.win 1).blk t).view.emb y)) ?_ (tot_idx _ _ ?_ ?_)
  · rfl
  · show win0_1.index t 0 * 2048 + 1 * (y 0).val = _; rw [hi.1]; omega
  · show win0_1.index t 1 * 1024 + 1 * (y 1).val = _; rw [hi.2]; omega

/-- One block's product at an entry. -/
theorem pay (x0 : Vec Ideal S2048x1024 .bf16) (x1 : Vec Ideal S2048x1024 .bf16) (y : S1024x1024.Idx) :
    k0_pay1 (F := Ideal) x0 x1 y = ∑ k : Fin 2048, x0 (ix2 k (y 0)) * x1 (ix2 k (y 1)) := by
  unfold k0_pay1
  pointwise

/-- The product's terms at an entry of the block that run `q` of points writes. -/
abbrev term (q : ℕ) (y : S1024x1024.Idx) (k : ℕ) : EReal :=
  tot (mH m c) k (1024 * (q / 9) + (y 0).val) * tot (mG m c) k (1024 * (q % 9) + (y 1).val)

/-- What a point's product adds. -/
theorem pay_at (t : Fin cfg0.N) (y : S1024x1024.Idx) :
    k0_pay1 (F := Ideal) (iblk m c 0 t) (iblk m c 1 t) y = stretch 2048 (term m c (t.val / 4) y) (t.val % 4) := by
  rw [pay, stretch, ← Fin.sum_univ_eq_sum_range]
  exact Finset.sum_congr rfl fun k _ => congrArg₂ (· * ·) (blk0 m c t _) (blk1 m c t _)

/-- What a first point stores, and what a later point stores over `v`. -/
theorem pay2_at (x0 : Vec Ideal S2048x1024 .bf16) (x1 : Vec Ideal S2048x1024 .bf16) (y : S1024x1024.Idx) : k0_pay2 (F := Ideal) x0 x1 y = k0_pay1 (F := Ideal) x0 x1 y := by
  unfold k0_pay2; pointwise
theorem pay3_at (x0 : Vec Ideal S2048x1024 .bf16) (x1 : Vec Ideal S2048x1024 .bf16) (v : Vec Ideal S1024x1024 .f32) (y : S1024x1024.Idx) :
    k0_pay3 (F := Ideal) x0 x1 v y = v y + k0_pay1 (F := Ideal) x0 x1 y := by
  unfold k0_pay3; pointwise
theorem pay4_at (x0 : Vec Ideal S2048x1024 .bf16) (x1 : Vec Ideal S2048x1024 .bf16) (v : Vec Ideal S1024x1024 .f32) (y : S1024x1024.Idx) :
    k0_pay4 (F := Ideal) x0 x1 v y = v y + k0_pay1 (F := Ideal) x0 x1 y := by
  unfold k0_pay4; pointwise

/-- The running sum after a first point and after a middle one, and the block that the last point leaves. -/
theorem first_at (t : Fin cfg0.N) (h0 : t.val % 4 = 0) (y : S1024x1024.Idx) :
    (outsAt0 m c t.val t.isLt).2 y = stretch 2048 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1024x1024.Idx) :
    (outsAt0 m c t.val t.isLt).2 y = (outsAt0 m c (t.val - 1) h').2 y + stretch 2048 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (y : S1024x1024.Idx) :
    (outsAt0 m c t.val t.isLt).1 y = (outsAt0 m c (t.val - 1) h').2 y + stretch 2048 (term m c (t.val / 4) y) (t.val % 4) := by
  rw [outsAt0_C m c t (by omega) (by omega) (by omega), ← pay_at m c t]
  frame_out
  refine (pay4_at _ _ _ y).trans ?_
  rw [(Memref.isWhole_whole _).read_unread]

/-- A block of the result, after its last point. -/
theorem out_last (n : ℕ) (h : n < cfg0.N) (hl : n % 4 + 1 = 4) (y : S1024x1024.Idx) :
    (outsAt0 m c n h).1 y = ∑ k ∈ Finset.range 8192, term m c (n / 4) y k :=
  run_total (N := cfg0.N) 4 2048 (by decide) (fun n h => (outsAt0 m c n h).2) (fun n h => (outsAt0 m c n h).1) (term m c)
    (fun n h h0 y => first_at m c ⟨n, h⟩ h0 y) (fun n h h' h1 h2 y => mid_at m c ⟨n, h⟩ h1 h2 h' y)
    (fun n h h' h1 y => last_at m c ⟨n, h⟩ h1 h' y) n h hl y

/-- The result array. -/
theorem fin2 : (dats m 0 c).arrAt 2 cfg0.N
    = fun i : S2048x9216.Idx => ∑ k ∈ Finset.range 8192, tot (mH m c) k (i 0).val * tot (mG m c) k (i 1).val := by
  rw [final2]
  funext (i : S2048x9216.Idx)
  have h0 : (i 0).val < 2048 := (i 0).isLt
  have h1 : (i 1).val < 9216 := (i 1).isLt
  have hp : pt2Of i < cfg0.N := lt_of_lt_of_eq (by simp only [pt2Of, run2Of]; omega) N_0.symm
  have H := out_last m c (pt2Of i) hp (by simp only [pt2Of]; omega) (loc2Of i)
  rw [outsAt0_sweep] at H
  unfold G2
  rw [dif_pos hp]
  refine H.trans (Finset.sum_congr rfl fun k _ => ?_)
  have e0 : 1024 * (pt2Of i / 4 / 9) + (loc2Of i 0).val = (i 0).val := by
    show 1024 * (pt2Of i / 4 / 9) + (i 0).val % 1024 = _
    simp only [pt2Of, run2Of]; omega
  have e1 : 1024 * (pt2Of i / 4 % 9) + (loc2Of i 1).val = (i 1).val := by
    show 1024 * (pt2Of i / 4 % 9) + (i 1).val % 1024 = _
    simp only [pt2Of, run2Of]; omega
  simp only [term, e0, e1]

end Cert.ProjWIdeal.Blk

namespace Cert.ProjWProof

open Cert.Prod

/-- The reference terminates, leaves its arguments alone and has no semaphores. -/
theorem frame_ref : Cert.quiescent_ProjWRefIdeal (hProjWRefIdeal := Cert.ProjWRefIdeal.Gen.facts) := fun m ρ _ =>
  (θ_run Cert.ProjWRefIdeal.defs _ _).mono
    (fun r h => ⟨fun c => (h c).2, sem_eq_zero_of_no_sems rfl r.2⟩) (Cert.ProjWRefIdeal.Value.run (F := Ideal) m ρ)

/-- The reference's product is the same sum. -/
theorem ref_apply (x0 : Vec Ideal Cert.ProjWRefIdeal.S8192x2048 .f32) (x2 : Vec Ideal Cert.ProjWRefIdeal.S8192x9216 .f32) (i : Cert.ProjWRefIdeal.S2048x9216.Idx) :
    Cert.ProjWRefIdeal.Read.val_main_v4 (F := Ideal) x0 x2 i
      = ∑ k ∈ Finset.range 8192, tot x0 k (i 0).val * tot x2 k (i 1).val := by
  rw [Cert.ProjWRefIdeal.Read.val_main_v4_apply, Cert.ProjWRefIdeal.Read.val_main_v2_apply]
  refine (Cert.ProjWRefIdeal.Read.val_main_v1_apply _ _ _).trans ?_
  rw [← Fin.sum_univ_eq_sum_range (fun k => tot x0 k (i 0).val * tot x2 k (i 1).val)]
  exact Finset.sum_congr rfl fun k _ => (congrArg₂ (· * ·) (tot_idx _ _ rfl rfl) (tot_idx _ _ rfl rfl)).trans (mul_comm _ _)

/-- The call computes the derivative. -/
theorem algebraic : Cert.algebraic_ProjWIdeal_ProjWRefIdeal (hProjWIdeal := Cert.ProjWIdeal.Gen.facts)
    (hProjWRefIdeal := Cert.ProjWRefIdeal.Gen.facts) := by
  intro m ρ m' ρ' _ hm
  refine ⟨fun c => (Cert.ProjWIdeal.Gen.dats m 0 c).arrAt 2 Cert.ProjWIdeal.cfg0.N, Cert.ProjWIdeal.Value.run_blocks m ρ, ?_⟩
  refine (θ_run Cert.ProjWRefIdeal.defs _ _).mono (fun r h c => ⟨(h c).1.trans ?_, (h c).2⟩) (Cert.ProjWRefIdeal.Value.run (F := Ideal) m' ρ')
  obtain ⟨a0, a1, a2⟩ := hm c
  refine ((Cert.ProjWRefIdeal.Read.val_main_v4_eq _ _).trans ?_).trans (Cert.ProjWIdeal.Blk.fin2 m c).symm
  rw [a0, a2]
  exact funext fun i => ref_apply _ _ i

end Cert.ProjWProof

end
-- ==== Proof.UpY.lean ====
/-
  The feed-forward's up-projection: what the blocked product of the call leaves, as a sum over the 2048 rows of the weights.
-/
module

public import proofs.«01_k».proof.Proof.Gen.UpYIdeal.Value
public import proofs.«01_k».proof.Proof.Prod
public import proofs.«01_k».proof.Defs
public import proofs.«01_k».proof.Proof.Gen.UpYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.UpYIdeal.Blk

open Cert.UpYIdeal Cert.UpYIdeal.Gen Cert.UpYIdeal.Value Cert.Prod

variable (m : (ℓ : Loc nD τ sig) → Buf (Elt Ideal) ℓ) (c : Dev nD)

/-- The arguments that the call reads: the weights and the normed rows. -/
abbrev mW : Vec Ideal S2048x11264 .f32 := m ((c.tc : Thread nD τ).loc main_arg1)
abbrev mH : Vec Ideal S8192x2048 .f32 := m ((c.tc : Thread nD τ).loc main_arg0)

/-- The block indices of the windows at a grid point, decided over the grid. -/
theorem idx : ∀ t : Fin grid0.N,
    (win0_0.index t 0 = t.val / 11 ∧ win0_0.index t 1 = 0)
    ∧ (win0_1.index t 0 = 0 ∧ win0_1.index t 1 = t.val % 11)
    ∧ (win0_2.index t 0 = t.val / 11 ∧ win0_2.index t 1 = t.val % 11) := by
  decide +kernel

/-- The block of the normed rows. -/
theorem blk0 (t : Fin cfg0.N) (y : S1024x2048.Idx) :
    (iblk m c 0 t : Vec Ideal S1024x2048 .bf16) y = tot (mH m c) (1024 * (t.val / 11) + (y 0).val) (y 1).val := by
  unfold iblk
  rw [View.read_apply]
  have hi := (idx t).1
  refine Eq.trans (b := mH m c (((cfg0.win 0).blk t).view.emb y)) ?_ (tot_idx _ _ ?_ ?_)
  · rfl
  · show win0_0.index t 0 * 1024 + 1 * (y 0).val = _; rw [hi.1]; omega
  · show win0_0.index t 1 * 2048 + 1 * (y 1).val = _; rw [hi.2]; omega

/-- The block of the weights. -/
theorem blk1 (t : Fin cfg0.N) (y : S2048x1024.Idx) :
    (iblk m c 1 t : Vec Ideal S2048x1024 .bf16) y = tot (mW m c) (y 0).val (1024 * (t.val % 11) + (y 1).val) := by
  unfold iblk
  rw [View.read_apply]
  have hi := (idx t).2.1
  refine Eq.trans (b := mW m c (((cfg0.win 1).blk t).view.emb y)) ?_ (tot_idx _ _ ?_ ?_)
  · rfl
  · show win0_1.index t 0 * 2048 + 1 * (y 0).val = _; rw [hi.1]; omega
  · show win0_1.index t 1 * 1024 + 1 * (y 1).val = _; rw [hi.2]; omega

/-- One block's product at an entry. -/
theorem pay (x0 : Vec Ideal S1024x2048 .bf16) (x1 : Vec Ideal S2048x1024 .bf16) (y : S1024x1024.Idx) :
    k0_pay1 (F := Ideal) x0 x1 y = ∑ k : Fin 2048, x0 (ix2 (y 0) k) * x1 (ix2 k (y 1)) := by
  unfold k0_pay1
  pointwise

/-- The result at an index. -/
abbrev val (i : S8192x11264.Idx) : EReal := ∑ k ∈ Finset.range 2048, tot (mH m c) (i 0).val k * tot (mW m c) k (i 1).val

/-- A block of the result. -/
theorem out_at (t : Fin cfg0.N) (y : S1024x1024.Idx) (r q : ℕ) (hr : 1024 * (t.val / 11) + (y 0).val = r) (hq : 1024 * (t.val % 11) + (y 1).val = q) :
    (outsAt0 m c t : Vec Ideal S1024x1024 .f32) y = ∑ k ∈ Finset.range 2048, tot (mH m c) r k * tot (mW m c) k q := by
  unfold outsAt0
  frame_out
  rw [pay, ← Fin.sum_univ_eq_sum_range (fun k => tot (mH m c) r k * tot (mW m c) k q), ← hr, ← hq]
  exact Finset.sum_congr rfl fun k _ => congrArg₂ (· * ·) (blk0 m c t _) (blk1 m c t _)

/-- What a point writes back. -/
theorem fl2 (t : Fin cfg0.N) : (dats m 0 c).flushed 2 t
    = ((cfg0.win 2).blk t).view.read (Elt Ideal) (fun i => val m c i : Buf (Elt Ideal) ((c : Thread nD τ).loc main_v2)) := by
  rw [flushed2]
  refine funext fun (j : S1024x1024.Idx) => ?_
  rw [View.read_apply]
  have hi := (idx t).2.2
  refine out_at m c t j _ _ ?_ ?_
  · show _ = win0_2.index t 0 * 1024 + 1 * (j 0).val; rw [hi.1]; omega
  · show _ = win0_2.index t 1 * 1024 + 1 * (j 1).val; rw [hi.2]; omega

/-- The result array: the blocks cover it. -/
theorem fin2 : (dats m 0 c).arrAt 2 cfg0.N = (fun i => val m c i : Buf (Elt Ideal) ((c : Thread nD τ).loc main_v2)) :=
  (dats m 0 c).arrAt_eq_of_cover 2 _ (fun t _ => fl2 m c t) fun i => by
    have b0 : (i 0).val < 8192 := (i 0).isLt
    have b1 : (i 1).val < 11264 := (i 1).isLt
    have hN : cfg0.N = 88 := N_0
    let t : Fin cfg0.N := ⟨(i 0).val / 1024 * 11 + (i 1).val / 1024, by rw [hN]; omega⟩
    have hi := (idx t).2.2
    have e0 : t.val / 11 = (i 0).val / 1024 := by show ((i 0).val / 1024 * 11 + (i 1).val / 1024) / 11 = _; omega
    have e1 : t.val % 11 = (i 1).val / 1024 := by show ((i 0).val / 1024 * 11 + (i 1).val / 1024) % 11 = _; omega
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1, e0]; omega
    | ⟨1, _⟩ => show win0_2.index t 1 * 1024 ≤ (i 1).val ∧ (i 1).val < win0_2.index t 1 * 1024 + 1024; rw [hi.2, e1]; omega

end Cert.UpYIdeal.Blk

namespace Cert.UpYProof

open Cert.Prod

/-- The reference terminates, leaves its arguments alone and has no semaphores. -/
theorem frame_ref : Cert.quiescent_UpYRefIdeal (hUpYRefIdeal := Cert.UpYRefIdeal.Gen.facts) := fun m ρ _ =>
  (θ_run Cert.UpYRefIdeal.defs _ _).mono
    (fun r h => ⟨fun c => (h c).2, sem_eq_zero_of_no_sems rfl r.2⟩) (Cert.UpYRefIdeal.Value.run (F := Ideal) m ρ)

/-- The reference's product is the same sum. -/
theorem ref_apply (x0 : Vec Ideal Cert.UpYRefIdeal.S8192x2048 .f32) (x1 : Vec Ideal Cert.UpYRefIdeal.S2048x11264 .f32) (i : Cert.UpYRefIdeal.S8192x11264.Idx) :
    Cert.UpYRefIdeal.Read.val_main_v0 (F := Ideal) x0 x1 i
      = ∑ k ∈ Finset.range 2048, tot x0 (i 0).val k * tot x1 k (i 1).val := by
  rw [Cert.UpYRefIdeal.Read.val_main_v0_apply, ← Fin.sum_univ_eq_sum_range (fun k => tot x0 (i 0).val k * tot x1 k (i 1).val)]
  exact Finset.sum_congr rfl fun k _ => congrArg₂ (· * ·) (tot_idx _ _ rfl rfl) (tot_idx _ _ rfl rfl)

/-- The call computes the product. -/
theorem algebraic : Cert.algebraic_UpYIdeal_UpYRefIdeal (hUpYIdeal := Cert.UpYIdeal.Gen.facts)
    (hUpYRefIdeal := Cert.UpYRefIdeal.Gen.facts) := by
  intro m ρ m' ρ' _ hm
  refine ⟨fun c => (Cert.UpYIdeal.Gen.dats m 0 c).arrAt 2 Cert.UpYIdeal.cfg0.N, Cert.UpYIdeal.Value.run_blocks m ρ, ?_⟩
  refine (θ_run Cert.UpYRefIdeal.defs _ _).mono (fun r h c => ⟨(h c).1.trans ?_, (h c).2⟩) (Cert.UpYRefIdeal.Value.run (F := Ideal) m' ρ')
  obtain ⟨a0, a1⟩ := hm c
  refine ((Cert.UpYRefIdeal.Read.val_main_v0_eq _ _).trans ?_).trans (Cert.UpYIdeal.Blk.fin2 m c).symm
  rw [a0, a1]
  exact funext fun i => ref_apply _ _ i

end Cert.UpYProof

end
-- ==== Proof.DownY.lean ====
/-
  The feed-forward's down-projection with its residual: what the blocked product of the call leaves, as a sum over the 5632
  rows of the weights.
-/
module

public import proofs.«01_k».proof.Proof.Gen.DownYIdeal.Value
public import proofs.«01_k».proof.Proof.Prod
public import proofs.«01_k».proof.Defs
public import proofs.«01_k».proof.Proof.Gen.DownYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.DownYIdeal.Blk

open Cert.DownYIdeal Cert.DownYIdeal.Gen Cert.DownYIdeal.Value Cert.Prod

variable (m : (ℓ : Loc nD τ sig) → Buf (Elt Ideal) ℓ) (c : Dev nD)

/-- The arguments that the call reads: the weights, the hidden rows and the residual. -/
abbrev mW : Vec Ideal S5632x2048 .f32 := m ((c.tc : Thread nD τ).loc main_arg1)
abbrev mH : Vec Ideal S8192x5632 .f32 := m ((c.tc : Thread nD τ).loc main_arg0)
abbrev mX : Vec Ideal S8192x2048 .f32 := m ((c.tc : Thread nD τ).loc main_arg2)

/-- The block indices of the windows at a grid point, decided over the grid. -/
theorem idx : ∀ t : Fin grid0.N,
    (win0_0.index t 0 = t.val / 4 / 2 ∧ win0_0.index t 1 = t.val % 4)
    ∧ (win0_1.index t 0 = t.val % 4 ∧ win0_1.index t 1 = t.val / 4 % 2)
    ∧ (win0_2.index t 0 = t.val / 4 / 2 ∧ win0_2.index t 1 = t.val / 4 % 2) := by
  decide +kernel

/-- The block of the hidden rows. -/
theorem blk0 (t : Fin cfg0.N) (y : S1024x1408.Idx) :
    (iblk m c 0 t : Vec Ideal S1024x1408 .bf16) y = tot (mH m c) (1024 * (t.val / 4 / 2) + (y 0).val) (1408 * (t.val % 4) + (y 1).val) := by
  unfold iblk
  rw [View.read_apply]
  have hi := (idx t).1
  refine Eq.trans (b := mH m c (((cfg0.win 0).blk t).view.emb y)) ?_ (tot_idx _ _ ?_ ?_)
  · rfl
  · show win0_0.index t 0 * 1024 + 1 * (y 0).val = _; rw [hi.1]; omega
  · show win0_0.index t 1 * 1408 + 1 * (y 1).val = _; rw [hi.2]; omega

/-- The block of the weights. -/
theorem blk1 (t : Fin cfg0.N) (y : S1408x1024.Idx) :
    (iblk m c 1 t : Vec Ideal S1408x1024 .bf16) y = tot (mW m c) (1408 * (t.val % 4) + (y 0).val) (1024 * (t.val / 4 % 2) + (y 1).val) := by
  unfold iblk
  rw [View.read_apply]
  have hi := (idx t).2.1
  refine Eq.trans (b := mW m c (((cfg0.win 1).blk t).view.emb y)) ?_ (tot_idx _ _ ?_ ?_)
  · rfl
  · show win0_1.index t 0 * 1408 + 1 * (y 0).val = _; rw [hi.1]; omega
  · show win0_1.index t 1 * 1024 + 1 * (y 1).val = _; rw [hi.2]; omega

/-- The block of the residual. -/
theorem blk2 (t : Fin cfg0.N) (y : S1024x1024.Idx) :
    (iblk m c 2 t : Vec Ideal S1024x1024 .f32) y = tot (mX m c) (1024 * (t.val / 4 / 2) + (y 0).val) (1024 * (t.val / 4 % 2) + (y 1).val) := by
  unfold iblk
  rw [View.read_apply]
  have hi := (idx t).2.2
  refine Eq.trans (b := mX m c (((cfg0.win 2).blk t).view.emb y)) ?_ (tot_idx _ _ ?_ ?_)
  · rfl
  · show win0_2.index t 0 * 1024 + 1 * (y 0).val = _; rw [hi.1]; omega
  · show win0_2.index t 1 * 1024 + 1 * (y 1).val = _; rw [hi.2]; omega

/-- One block's product at an entry. -/
theorem pay (x0 : Vec Ideal S1024x1408 .bf16) (x1 : Vec Ideal S1408x1024 .bf16) (y : S1024x1024.Idx) :
    k0_pay1 (F := Ideal) x0 x1 y = ∑ k : Fin 1408, x0 (ix2 (y 0) k) * x1 (ix2 k (y 1)) := by
  unfold k0_pay1
  pointwise

/-- The product's terms at an entry of the block that run `q` of points writes. -/
abbrev term (q : ℕ) (y : S1024x1024.Idx) (k : ℕ) : EReal :=
  tot (mH m c) (1024 * (q / 2) + (y 0).val) k * tot (mW m c) k (1024 * (q % 2) + (y 1).val)

/-- What a point's product adds. -/
theorem pay_at (t : Fin cfg0.N) (y : S1024x1024.Idx) :
    k0_pay1 (F := Ideal) (iblk m c 0 t) (iblk m c 1 t) y = stretch 1408 (term m c (t.val / 4) y) (t.val % 4) := by
  rw [pay, stretch, ← Fin.sum_univ_eq_sum_range]
  exact Finset.sum_congr rfl fun k _ => congrArg₂ (· * ·) (blk0 m c t _) (blk1 m c t _)

/-- What a first point stores, and what a later point stores over `v`. -/
theorem pay2_at (x0 : Vec Ideal S1024x1408 .bf16) (x1 : Vec Ideal S1408x1024 .bf16) (y : S1024x1024.Idx) : k0_pay2 (F := Ideal) x0 x1 y = k0_pay1 (F := Ideal) x0 x1 y := by
  unfold k0_pay2; pointwise
theorem pay3_at (x0 : Vec Ideal S1024x1408 .bf16) (x1 : Vec Ideal S1408x1024 .bf16) (v : Vec Ideal S1024x1024 .f32) (y : S1024x1024.Idx) :
    k0_pay3 (F := Ideal) x0 x1 v y = v y + k0_pay1 (F := Ideal) x0 x1 y := by
  unfold k0_pay3; pointwise
theorem pay4_at (x0 : Vec Ideal S1024x1408 .bf16) (x1 : Vec Ideal S1408x1024 .bf16) (v x : Vec Ideal S1024x1024 .f32) (y : S1024x1024.Idx) :
    k0_pay4 (F := Ideal) x0 x1 v x y = v y + k0_pay1 (F := Ideal) x0 x1 y + x y := by
  unfold k0_pay4; pointwise

/-- The running sum after a first point and after a middle one, and the block that the last point leaves. -/
theorem first_at (t : Fin cfg0.N) (h0 : t.val % 4 = 0) (y : S1024x1024.Idx) :
    (outsAt0 m c t.val t.isLt).2 y = stretch 1408 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1024x1024.Idx) :
    (outsAt0 m c t.val t.isLt).2 y = (outsAt0 m c (t.val - 1) h').2 y + stretch 1408 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (y : S1024x1024.Idx) :
    (outsAt0 m c t.val t.isLt).1 y = (outsAt0 m c (t.val - 1) h').2 y + stretch 1408 (term m c (t.val / 4) y) (t.val % 4)
      + tot (mX m c) (1024 * (t.val / 4 / 2) + (y 0).val) (1024 * (t.val / 4 % 2) + (y 1).val) := by
  rw [outsAt0_C m c t (by omega) (by omega) (by omega), ← pay_at m c t, ← blk2 m c t]
  frame_out
  refine (pay4_at _ _ _ _ y).trans ?_
  rw [(Memref.isWhole_whole _).read_unread]

/-- A block of the result, after its last point. -/
theorem out_last (n : ℕ) (h : n < cfg0.N) (hl : n % 4 + 1 = 4) (y : S1024x1024.Idx) :
    (outsAt0 m c n h).1 y = ∑ k ∈ Finset.range 5632, term m c (n / 4) y k
      + tot (mX m c) (1024 * (n / 4 / 2) + (y 0).val) (1024 * (n / 4 % 2) + (y 1).val) :=
  (last_at m c ⟨n, h⟩ hl (lt_of_le_of_lt (Nat.sub_le _ _) h) y).trans (congrArg (· + _)
    (run_total (N := cfg0.N) 4 1408 (by decide) (fun n h => (outsAt0 m c n h).2)
      (fun n h y => (outsAt0 m c (n - 1) (lt_of_le_of_lt (Nat.sub_le _ _) h)).2 y + stretch 1408 (term m c (n / 4) y) (n % 4)) (term m c)
      (fun n h h0 y => first_at m c ⟨n, h⟩ h0 y) (fun n h h' h1 h2 y => mid_at m c ⟨n, h⟩ h1 h2 h' y)
      (fun n h h' h1 y => rfl) n h hl y))

/-- The result array. -/
theorem fin3 : (dats m 0 c).arrAt 3 cfg0.N
    = fun i : S8192x2048.Idx => ∑ k ∈ Finset.range 5632, tot (mH m c) (i 0).val k * tot (mW m c) k (i 1).val
      + mX m c i := by
  rw [final3]
  funext (i : S8192x2048.Idx)
  have h0 : (i 0).val < 8192 := (i 0).isLt
  have h1 : (i 1).val < 2048 := (i 1).isLt
  have hp : pt3Of i < cfg0.N := lt_of_lt_of_eq (by simp only [pt3Of, run3Of]; omega) N_0.symm
  have H := out_last m c (pt3Of i) hp (by simp only [pt3Of]; omega) (loc3Of i)
  rw [outsAt0_sweep] at H
  unfold G3
  rw [dif_pos hp]
  have e0 : 1024 * (pt3Of i / 4 / 2) + (loc3Of i 0).val = (i 0).val := by
    show 1024 * (pt3Of i / 4 / 2) + (i 0).val % 1024 = _
    simp only [pt3Of, run3Of]; omega
  have e1 : 1024 * (pt3Of i / 4 % 2) + (loc3Of i 1).val = (i 1).val := by
    show 1024 * (pt3Of i / 4 % 2) + (i 1).val % 1024 = _
    simp only [pt3Of, run3Of]; omega
  refine H.trans ?_
  simp only [term, e0, e1]
  exact congrArg (_ + ·) (tot_idx _ _ rfl rfl).symm

end Cert.DownYIdeal.Blk

namespace Cert.DownYProof

open Cert.Prod

/-- The reference terminates, leaves its arguments alone and has no semaphores. -/
theorem frame_ref : Cert.quiescent_DownYRefIdeal (hDownYRefIdeal := Cert.DownYRefIdeal.Gen.facts) := fun m ρ _ =>
  (θ_run Cert.DownYRefIdeal.defs _ _).mono
    (fun r h => ⟨fun c => (h c).2, sem_eq_zero_of_no_sems rfl r.2⟩) (Cert.DownYRefIdeal.Value.run (F := Ideal) m ρ)

/-- The reference's product and residual are the same sum. -/
theorem ref_apply (x0 : Vec Ideal Cert.DownYRefIdeal.S8192x5632 .f32) (x1 : Vec Ideal Cert.DownYRefIdeal.S5632x2048 .f32)
    (x2 : Vec Ideal Cert.DownYRefIdeal.S8192x2048 .f32) (i : Cert.DownYRefIdeal.S8192x2048.Idx) :
    Cert.DownYRefIdeal.Read.val_main_v1 (F := Ideal) x0 x1 x2 i
      = ∑ k ∈ Finset.range 5632, tot x0 (i 0).val k * tot x1 k (i 1).val + x2 i := by
  rw [Cert.DownYRefIdeal.Read.val_main_v1_apply, Cert.DownYRefIdeal.Read.val_main_v0_apply,
    ← Fin.sum_univ_eq_sum_range (fun k => tot x0 (i 0).val k * tot x1 k (i 1).val)]
  refine (add_comm (x2 i) _).trans (congrArg (fun s : EReal => s + x2 i) ?_)
  exact Finset.sum_congr rfl fun k _ => congrArg₂ (· * ·) (tot_idx _ _ rfl rfl) (tot_idx _ _ rfl rfl)

/-- The call computes the product with its residual. -/
theorem algebraic : Cert.algebraic_DownYIdeal_DownYRefIdeal (hDownYIdeal := Cert.DownYIdeal.Gen.facts)
    (hDownYRefIdeal := Cert.DownYRefIdeal.Gen.facts) := by
  intro m ρ m' ρ' _ hm
  refine ⟨fun c => (Cert.DownYIdeal.Gen.dats m 0 c).arrAt 3 Cert.DownYIdeal.cfg0.N, Cert.DownYIdeal.Value.run_blocks m ρ, ?_⟩
  refine (θ_run Cert.DownYRefIdeal.defs _ _).mono (fun r h c => ⟨(h c).1.trans ?_, (h c).2⟩) (Cert.DownYRefIdeal.Value.run (F := Ideal) m' ρ')
  obtain ⟨a0, a1, a2⟩ := hm c
  refine ((Cert.DownYRefIdeal.Read.val_main_v1_eq _ _ _).trans ?_).trans (Cert.DownYIdeal.Blk.fin3 m c).symm
  rw [a0, a1, a2]
  exact funext fun i => ref_apply _ _ _ i

end Cert.DownYProof

end
-- ==== Proof.ProjY.lean ====
/-
  The input projection: what the blocked product of the call leaves, as a sum over the 2048 rows of the weights.
-/
module

public import proofs.«01_k».proof.Proof.Gen.ProjYIdeal.Value
public import proofs.«01_k».proof.Proof.Prod
public import proofs.«01_k».proof.Defs
public import proofs.«01_k».proof.Proof.Gen.ProjYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.ProjYIdeal.Blk

open Cert.ProjYIdeal Cert.ProjYIdeal.Gen Cert.ProjYIdeal.Value Cert.Prod

variable (m : (ℓ : Loc nD τ sig) → Buf (Elt Ideal) ℓ) (c : Dev nD)

/-- The arguments that the call reads: the weights and the normed rows. -/
abbrev mW : Vec Ideal S2048x9216 .f32 := m ((c.tc : Thread nD τ).loc main_arg1)
abbrev mH : Vec Ideal S8192x2048 .f32 := m ((c.tc : Thread nD τ).loc main_arg0)

/-- The block indices of the windows at a grid point, decided over the grid. -/
theorem idx : ∀ t : Fin grid0.N,
    (win0_0.index t 0 = t.val / 9 ∧ win0_0.index t 1 = 0)
    ∧ (win0_1.index t 0 = 0 ∧ win0_1.index t 1 = t.val % 9)
    ∧ (win0_2.index t 0 = t.val / 9 ∧ win0_2.index t 1 = t.val % 9) := by
  decide +kernel

/-- The block of the normed rows. -/
theorem blk0 (t : Fin cfg0.N) (y : S1024x2048.Idx) :
    (iblk m c 0 t : Vec Ideal S1024x2048 .bf16) y = tot (mH m c) (1024 * (t.val / 9) + (y 0).val) (y 1).val := by
  unfold iblk
  rw [View.read_apply]
  have hi := (idx t).1
  refine Eq.trans (b := mH m c (((cfg0.win 0).blk t).view.emb y)) ?_ (tot_idx _ _ ?_ ?_)
  · rfl
  · show win0_0.index t 0 * 1024 + 1 * (y 0).val = _; rw [hi.1]; omega
  · show win0_0.index t 1 * 2048 + 1 * (y 1).val = _; rw [hi.2]; omega

/-- The block of the weights. -/
theorem blk1 (t : Fin cfg0.N) (y : S2048x1024.Idx) :
    (iblk m c 1 t : Vec Ideal S2048x1024 .bf16) y = tot (mW m c) (y 0).val (1024 * (t.val % 9) + (y 1).val) := by
  unfold iblk
  rw [View.read_apply]
  have hi := (idx t).2.1
  refine Eq.trans (b := mW m c (((cfg0.win 1).blk t).view.emb y)) ?_ (tot_idx _ _ ?_ ?_)
  · rfl
  · show win0_1.index t 0 * 2048 + 1 * (y 0).val = _; rw [hi.1]; omega
  · show win0_1.index t 1 * 1024 + 1 * (y 1).val = _; rw [hi.2]; omega

/-- One block's product at an entry. -/
theorem pay (x0 : Vec Ideal S1024x2048 .bf16) (x1 : Vec Ideal S2048x1024 .bf16) (y : S1024x1024.Idx) :
    k0_pay1 (F := Ideal) x0 x1 y = ∑ k : Fin 2048, x0 (ix2 (y 0) k) * x1 (ix2 k (y 1)) := by
  unfold k0_pay1
  pointwise

/-- The result at an index. -/
abbrev val (i : S8192x9216.Idx) : EReal := ∑ k ∈ Finset.range 2048, tot (mH m c) (i 0).val k * tot (mW m c) k (i 1).val

/-- A block of the result. -/
theorem out_at (t : Fin cfg0.N) (y : S1024x1024.Idx) (r q : ℕ) (hr : 1024 * (t.val / 9) + (y 0).val = r) (hq : 1024 * (t.val % 9) + (y 1).val = q) :
    (outsAt0 m c t : Vec Ideal S1024x1024 .f32) y = ∑ k ∈ Finset.range 2048, tot (mH m c) r k * tot (mW m c) k q := by
  unfold outsAt0
  frame_out
  rw [pay, ← Fin.sum_univ_eq_sum_range (fun k => tot (mH m c) r k * tot (mW m c) k q), ← hr, ← hq]
  exact Finset.sum_congr rfl fun k _ => congrArg₂ (· * ·) (blk0 m c t _) (blk1 m c t _)

/-- What a point writes back. -/
theorem fl2 (t : Fin cfg0.N) : (dats m 0 c).flushed 2 t
    = ((cfg0.win 2).blk t).view.read (Elt Ideal) (fun i => val m c i : Buf (Elt Ideal) ((c : Thread nD τ).loc main_v2)) := by
  rw [flushed2]
  refine funext fun (j : S1024x1024.Idx) => ?_
  rw [View.read_apply]
  have hi := (idx t).2.2
  refine out_at m c t j _ _ ?_ ?_
  · show _ = win0_2.index t 0 * 1024 + 1 * (j 0).val; rw [hi.1]; omega
  · show _ = win0_2.index t 1 * 1024 + 1 * (j 1).val; rw [hi.2]; omega

/-- The result array: the blocks cover it. -/
theorem fin2 : (dats m 0 c).arrAt 2 cfg0.N = (fun i => val m c i : Buf (Elt Ideal) ((c : Thread nD τ).loc main_v2)) :=
  (dats m 0 c).arrAt_eq_of_cover 2 _ (fun t _ => fl2 m c t) fun i => by
    have b0 : (i 0).val < 8192 := (i 0).isLt
    have b1 : (i 1).val < 9216 := (i 1).isLt
    have hN : cfg0.N = 72 := N_0
    let t : Fin cfg0.N := ⟨(i 0).val / 1024 * 9 + (i 1).val / 1024, by rw [hN]; omega⟩
    have hi := (idx t).2.2
    have e0 : t.val / 9 = (i 0).val / 1024 := by show ((i 0).val / 1024 * 9 + (i 1).val / 1024) / 9 = _; omega
    have e1 : t.val % 9 = (i 1).val / 1024 := by show ((i 0).val / 1024 * 9 + (i 1).val / 1024) % 9 = _; omega
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1, e0]; omega
    | ⟨1, _⟩ => show win0_2.index t 1 * 1024 ≤ (i 1).val ∧ (i 1).val < win0_2.index t 1 * 1024 + 1024; rw [hi.2, e1]; omega

end Cert.ProjYIdeal.Blk

namespace Cert.ProjYProof

open Cert.Prod

/-- The reference terminates, leaves its arguments alone and has no semaphores. -/
theorem frame_ref : Cert.quiescent_ProjYRefIdeal (hProjYRefIdeal := Cert.ProjYRefIdeal.Gen.facts) := fun m ρ _ =>
  (θ_run Cert.ProjYRefIdeal.defs _ _).mono
    (fun r h => ⟨fun c => (h c).2, sem_eq_zero_of_no_sems rfl r.2⟩) (Cert.ProjYRefIdeal.Value.run (F := Ideal) m ρ)

/-- The reference's product is the same sum. -/
theorem ref_apply (x0 : Vec Ideal Cert.ProjYRefIdeal.S8192x2048 .f32) (x1 : Vec Ideal Cert.ProjYRefIdeal.S2048x9216 .f32) (i : Cert.ProjYRefIdeal.S8192x9216.Idx) :
    Cert.ProjYRefIdeal.Read.val_main_v0 (F := Ideal) x0 x1 i
      = ∑ k ∈ Finset.range 2048, tot x0 (i 0).val k * tot x1 k (i 1).val := by
  rw [Cert.ProjYRefIdeal.Read.val_main_v0_apply, ← Fin.sum_univ_eq_sum_range (fun k => tot x0 (i 0).val k * tot x1 k (i 1).val)]
  exact Finset.sum_congr rfl fun k _ => congrArg₂ (· * ·) (tot_idx _ _ rfl rfl) (tot_idx _ _ rfl rfl)

/-- The call computes the product. -/
theorem algebraic : Cert.algebraic_ProjYIdeal_ProjYRefIdeal (hProjYIdeal := Cert.ProjYIdeal.Gen.facts)
    (hProjYRefIdeal := Cert.ProjYRefIdeal.Gen.facts) := by
  intro m ρ m' ρ' _ hm
  refine ⟨fun c => (Cert.ProjYIdeal.Gen.dats m 0 c).arrAt 2 Cert.ProjYIdeal.cfg0.N, Cert.ProjYIdeal.Value.run_blocks m ρ, ?_⟩
  refine (θ_run Cert.ProjYRefIdeal.defs _ _).mono (fun r h c => ⟨(h c).1.trans ?_, (h c).2⟩) (Cert.ProjYRefIdeal.Value.run (F := Ideal) m' ρ')
  obtain ⟨a0, a1⟩ := hm c
  refine ((Cert.ProjYRefIdeal.Read.val_main_v0_eq _ _).trans ?_).trans (Cert.ProjYIdeal.Blk.fin2 m c).symm
  rw [a0, a1]
  exact funext fun i => ref_apply _ _ i

end Cert.ProjYProof

end
-- ==== Proof.OutY.lean ====
/-
  The output projection with its residual: what the blocked product of the call leaves, as a sum over the 2048 rows of the weights.
-/
module

public import proofs.«01_k».proof.Proof.Gen.OutYIdeal.Value
public import proofs.«01_k».proof.Proof.Prod
public import proofs.«01_k».proof.Defs
public import proofs.«01_k».proof.Proof.Gen.OutYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.OutYIdeal.Blk

open Cert.OutYIdeal Cert.OutYIdeal.Gen Cert.OutYIdeal.Value Cert.Prod

variable (m : (ℓ : Loc nD τ sig) → Buf (Elt Ideal) ℓ) (c : Dev nD)

/-- The arguments that the call reads: the weights, the merged rows and the residual. -/
abbrev mW : Vec Ideal S2048x2048 .f32 := m ((c.tc : Thread nD τ).loc main_arg1)
abbrev mH : Vec Ideal S8192x2048 .f32 := m ((c.tc : Thread nD τ).loc main_arg0)
abbrev mX : Vec Ideal S8192x2048 .f32 := m ((c.tc : Thread nD τ).loc main_arg2)

/-- The block indices of the windows at a grid point, decided over the grid. -/
theorem idx : ∀ t : Fin grid0.N,
    (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2)
    ∧ (win0_3.index t 0 = t.val / 2 ∧ win0_3.index t 1 = t.val % 2) := by
  decide +kernel

/-- The block of the merged rows. -/
theorem blk0 (t : Fin cfg0.N) (y : S1024x2048.Idx) :
    (iblk m c 0 t : Vec Ideal S1024x2048 .bf16) y = tot (mH m c) (1024 * (t.val / 2) + (y 0).val) (y 1).val := by
  unfold iblk
  rw [View.read_apply]
  have hi := (idx t).1
  refine Eq.trans (b := mH m c (((cfg0.win 0).blk t).view.emb y)) ?_ (tot_idx _ _ ?_ ?_)
  · rfl
  · show win0_0.index t 0 * 1024 + 1 * (y 0).val = _; rw [hi.1]; omega
  · show win0_0.index t 1 * 2048 + 1 * (y 1).val = _; rw [hi.2]; omega

/-- The block of the weights. -/
theorem blk1 (t : Fin cfg0.N) (y : S2048x1024.Idx) :
    (iblk m c 1 t : Vec Ideal S2048x1024 .bf16) y = tot (mW m c) (y 0).val (1024 * (t.val % 2) + (y 1).val) := by
  unfold iblk
  rw [View.read_apply]
  have hi := (idx t).2.1
  refine Eq.trans (b := mW m c (((cfg0.win 1).blk t).view.emb y)) ?_ (tot_idx _ _ ?_ ?_)
  · rfl
  · show win0_1.index t 0 * 2048 + 1 * (y 0).val = _; rw [hi.1]; omega
  · show win0_1.index t 1 * 1024 + 1 * (y 1).val = _; rw [hi.2]; omega

/-- The block of the residual. -/
theorem blk2 (t : Fin cfg0.N) (y : S1024x1024.Idx) :
    (iblk m c 2 t : Vec Ideal S1024x1024 .f32) y = tot (mX m c) (1024 * (t.val / 2) + (y 0).val) (1024 * (t.val % 2) + (y 1).val) := by
  unfold iblk
  rw [View.read_apply]
  have hi := (idx t).2.2.1
  refine Eq.trans (b := mX m c (((cfg0.win 2).blk t).view.emb y)) ?_ (tot_idx _ _ ?_ ?_)
  · rfl
  · show win0_2.index t 0 * 1024 + 1 * (y 0).val = _; rw [hi.1]; omega
  · show win0_2.index t 1 * 1024 + 1 * (y 1).val = _; rw [hi.2]; omega

/-- One block's product and residual at an entry. -/
theorem pay (x0 : Vec Ideal S1024x2048 .bf16) (x1 : Vec Ideal S2048x1024 .bf16) (x2 : Vec Ideal S1024x1024 .f32) (y : S1024x1024.Idx) :
    k0_pay1 (F := Ideal) x0 x1 x2 y = ∑ k : Fin 2048, x0 (ix2 (y 0) k) * x1 (ix2 k (y 1)) + x2 y := by
  unfold k0_pay1
  pointwise

/-- The result at an index. -/
abbrev val (i : S8192x2048.Idx) : EReal := ∑ k ∈ Finset.range 2048, tot (mH m c) (i 0).val k * tot (mW m c) k (i 1).val
  + tot (mX m c) (i 0).val (i 1).val

/-- A block of the result. -/
theorem out_at (t : Fin cfg0.N) (y : S1024x1024.Idx) (r q : ℕ) (hr : 1024 * (t.val / 2) + (y 0).val = r) (hq : 1024 * (t.val % 2) + (y 1).val = q) :
    (outsAt0 m c t : Vec Ideal S1024x1024 .f32) y = ∑ k ∈ Finset.range 2048, tot (mH m c) r k * tot (mW m c) k q
      + tot (mX m c) r q := by
  unfold outsAt0
  frame_out
  rw [pay, ← Fin.sum_univ_eq_sum_range (fun k => tot (mH m c) r k * tot (mW m c) k q), ← hr, ← hq]
  exact congrArg₂ (· + ·) (Finset.sum_congr rfl fun k _ => congrArg₂ (· * ·) (blk0 m c t _) (blk1 m c t _)) (blk2 m c t y)

/-- What a point writes back. -/
theorem fl3 (t : Fin cfg0.N) : (dats m 0 c).flushed 3 t
    = ((cfg0.win 3).blk t).view.read (Elt Ideal) (fun i => val m c i : Buf (Elt Ideal) ((c : Thread nD τ).loc main_v2)) := by
  rw [flushed3]
  refine funext fun (j : S1024x1024.Idx) => ?_
  rw [View.read_apply]
  have hi := (idx t).2.2.2
  refine out_at m c t j _ _ ?_ ?_
  · show _ = win0_3.index t 0 * 1024 + 1 * (j 0).val; rw [hi.1]; omega
  · show _ = win0_3.index t 1 * 1024 + 1 * (j 1).val; rw [hi.2]; omega

/-- The result array: the blocks cover it. -/
theorem fin3 : (dats m 0 c).arrAt 3 cfg0.N = (fun i => val m c i : Buf (Elt Ideal) ((c : Thread nD τ).loc main_v2)) :=
  (dats m 0 c).arrAt_eq_of_cover 3 _ (fun t _ => fl3 m c t) fun i => by
    have b0 : (i 0).val < 8192 := (i 0).isLt
    have b1 : (i 1).val < 2048 := (i 1).isLt
    have hN : cfg0.N = 16 := N_0
    let t : Fin cfg0.N := ⟨(i 0).val / 1024 * 2 + (i 1).val / 1024, by rw [hN]; omega⟩
    have hi := (idx t).2.2.2
    have e0 : t.val / 2 = (i 0).val / 1024 := by show ((i 0).val / 1024 * 2 + (i 1).val / 1024) / 2 = _; omega
    have e1 : t.val % 2 = (i 1).val / 1024 := by show ((i 0).val / 1024 * 2 + (i 1).val / 1024) % 2 = _; omega
    refine ⟨t, flush0_3 t, ?_⟩
    show i ∈ ((View.whole main_v2).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [hi.1, e0]; omega
    | ⟨1, _⟩ => show win0_3.index t 1 * 1024 ≤ (i 1).val ∧ (i 1).val < win0_3.index t 1 * 1024 + 1024; rw [hi.2, e1]; omega

end Cert.OutYIdeal.Blk

namespace Cert.OutYProof

open Cert.Prod

/-- The reference terminates, leaves its arguments alone and has no semaphores. -/
theorem frame_ref : Cert.quiescent_OutYRefIdeal (hOutYRefIdeal := Cert.OutYRefIdeal.Gen.facts) := fun m ρ _ =>
  (θ_run Cert.OutYRefIdeal.defs _ _).mono
    (fun r h => ⟨fun c => (h c).2, sem_eq_zero_of_no_sems rfl r.2⟩) (Cert.OutYRefIdeal.Value.run (F := Ideal) m ρ)

/-- The reference's product and residual are the same sum. -/
theorem ref_apply (x0 : Vec Ideal Cert.OutYRefIdeal.S8192x2048 .f32) (x1 : Vec Ideal Cert.OutYRefIdeal.S2048x2048 .f32)
    (x2 : Vec Ideal Cert.OutYRefIdeal.S8192x2048 .f32) (i : Cert.OutYRefIdeal.S8192x2048.Idx) :
    Cert.OutYRefIdeal.Read.val_main_v1 (F := Ideal) x0 x1 x2 i
      = ∑ k ∈ Finset.range 2048, tot x0 (i 0).val k * tot x1 k (i 1).val + tot x2 (i 0).val (i 1).val := by
  rw [Cert.OutYRefIdeal.Read.val_main_v1_apply, Cert.OutYRefIdeal.Read.val_main_v0_apply,
    ← Fin.sum_univ_eq_sum_range (fun k => tot x0 (i 0).val k * tot x1 k (i 1).val)]
  refine (add_comm (x2 i) _).trans (congrArg₂ (· + ·) ?_ (tot_idx _ _ rfl rfl))
  exact Finset.sum_congr rfl fun k _ => congrArg₂ (· * ·) (tot_idx _ _ rfl rfl) (tot_idx _ _ rfl rfl)

/-- The call computes the product with its residual. -/
theorem algebraic : Cert.algebraic_OutYIdeal_OutYRefIdeal (hOutYIdeal := Cert.OutYIdeal.Gen.facts)
    (hOutYRefIdeal := Cert.OutYRefIdeal.Gen.facts) := by
  intro m ρ m' ρ' _ hm
  refine ⟨fun c => (Cert.OutYIdeal.Gen.dats m 0 c).arrAt 3 Cert.OutYIdeal.cfg0.N, Cert.OutYIdeal.Value.run_blocks m ρ, ?_⟩
  refine (θ_run Cert.OutYRefIdeal.defs _ _).mono (fun r h c => ⟨(h c).1.trans ?_, (h c).2⟩) (Cert.OutYRefIdeal.Value.run (F := Ideal) m' ρ')
  obtain ⟨a0, a1, a2⟩ := hm c
  refine ((Cert.OutYRefIdeal.Read.val_main_v1_eq _ _ _).trans ?_).trans (Cert.OutYIdeal.Blk.fin3 m c).symm
  rw [a0, a1, a2]
  exact funext fun i => ref_apply _ _ _ i

end Cert.OutYProof

end
-- ==== Proof.OutX.lean ====
/-
  The gradient of the output projection's input: what the blocked product of the call leaves, as a sum over the 2048 columns.
-/
module

public import proofs.«01_k».proof.Proof.Gen.OutXIdeal.Value
public import proofs.«01_k».proof.Proof.Prod
public import proofs.«01_k».proof.Defs
public import proofs.«01_k».proof.Proof.Gen.OutXRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.OutXIdeal.Blk

open Cert.OutXIdeal Cert.OutXIdeal.Gen Cert.OutXIdeal.Value Cert.Prod

variable (m : (ℓ : Loc nD τ sig) → Buf (Elt Ideal) ℓ) (c : Dev nD)

/-- The arguments that the call reads: the weights and the cotangent. -/
abbrev mW : Vec Ideal S2048x2048 .f32 := m ((c.tc : Thread nD τ).loc main_arg1)
abbrev mG : Vec Ideal S8192x2048 .f32 := m ((c.tc : Thread nD τ).loc main_arg2)

/-- The block indices of the windows at a grid point, decided over the grid. -/
theorem idx : ∀ t : Fin grid0.N,
    (win0_0.index t 0 = t.val / 2 ∧ win0_0.index t 1 = 0)
    ∧ (win0_1.index t 0 = t.val % 2 ∧ win0_1.index t 1 = 0)
    ∧ (win0_2.index t 0 = t.val / 2 ∧ win0_2.index t 1 = t.val % 2) := by
  decide +kernel

/-- The block of the cotangent. -/
theorem blk0 (t : Fin cfg0.N) (y : S1024x2048.Idx) :
    (iblk m c 0 t : Vec Ideal S1024x2048 .bf16) y = tot (mG m c) (1024 * (t.val / 2) + (y 0).val) (y 1).val := by
  unfold iblk
  rw [View.read_apply]
  have hi := (idx t).1
  refine Eq.trans (b := mG m c (((cfg0.win 0).blk t).view.emb y)) ?_ (tot_idx _ _ ?_ ?_)
  · rfl
  · show win0_0.index t 0 * 1024 + 1 * (y 0).val = _; rw [hi.1]; omega
  · show win0_0.index t 1 * 2048 + 1 * (y 1).val = _; rw [hi.2]; omega

/-- The block of the weights. -/
theorem blk1 (t : Fin cfg0.N) (y : S1024x2048.Idx) :
    (iblk m c 1 t : Vec Ideal S1024x2048 .bf16) y = tot (mW m c) (1024 * (t.val % 2) + (y 0).val) (y 1).val := by
  unfold iblk
  rw [View.read_apply]
  have hi := (idx t).2.1
  refine Eq.trans (b := mW m c (((cfg0.win 1).blk t).view.emb y)) ?_ (tot_idx _ _ ?_ ?_)
  · rfl
  · show win0_1.index t 0 * 1024 + 1 * (y 0).val = _; rw [hi.1]; omega
  · show win0_1.index t 1 * 2048 + 1 * (y 1).val = _; rw [hi.2]; omega

/-- One block's product at an entry. -/
theorem pay (x0 : Vec Ideal S1024x2048 .bf16) (x1 : Vec Ideal S1024x2048 .bf16) (y : S1024x1024.Idx) :
    k0_pay1 (F := Ideal) x0 x1 y = ∑ k : Fin 2048, x0 (ix2 (y 0) k) * x1 (ix2 (y 1) k) := by
  unfold k0_pay1
  pointwise

/-- The result at an index. -/
abbrev val (i : S8192x2048.Idx) : EReal := ∑ k ∈ Finset.range 2048, tot (mG m c) (i 0).val k * tot (mW m c) (i 1).val k

/-- A block of the result. -/
theorem out_at (t : Fin cfg0.N) (y : S1024x1024.Idx) (r q : ℕ) (hr : 1024 * (t.val / 2) + (y 0).val = r) (hq : 1024 * (t.val % 2) + (y 1).val = q) :
    (outsAt0 m c t : Vec Ideal S1024x1024 .f32) y = ∑ k ∈ Finset.range 2048, tot (mG m c) r k * tot (mW m c) q k := by
  unfold outsAt0
  frame_out
  rw [pay, ← Fin.sum_univ_eq_sum_range (fun k => tot (mG m c) r k * tot (mW m c) q k), ← hr, ← hq]
  exact Finset.sum_congr rfl fun k _ => congrArg₂ (· * ·) (blk0 m c t _) (blk1 m c t _)

/-- What a point writes back. -/
theorem fl2 (t : Fin cfg0.N) : (dats m 0 c).flushed 2 t
    = ((cfg0.win 2).blk t).view.read (Elt Ideal) (fun i => val m c i : Buf (Elt Ideal) ((c : Thread nD τ).loc main_v2)) := by
  rw [flushed2]
  refine funext fun (j : S1024x1024.Idx) => ?_
  rw [View.read_apply]
  have hi := (idx t).2.2
  refine out_at m c t j _ _ ?_ ?_
  · show _ = win0_2.index t 0 * 1024 + 1 * (j 0).val; rw [hi.1]; omega
  · show _ = win0_2.index t 1 * 1024 + 1 * (j 1).val; rw [hi.2]; omega

/-- The result array: the blocks cover it. -/
theorem fin2 : (dats m 0 c).arrAt 2 cfg0.N = (fun i => val m c i : Buf (Elt Ideal) ((c : Thread nD τ).loc main_v2)) :=
  (dats m 0 c).arrAt_eq_of_cover 2 _ (fun t _ => fl2 m c t) fun i => by
    have b0 : (i 0).val < 8192 := (i 0).isLt
    have b1 : (i 1).val < 2048 := (i 1).isLt
    have hN : cfg0.N = 16 := N_0
    let t : Fin cfg0.N := ⟨(i 0).val / 1024 * 2 + (i 1).val / 1024, by rw [hN]; omega⟩
    have hi := (idx t).2.2
    have e0 : t.val / 2 = (i 0).val / 1024 := by show ((i 0).val / 1024 * 2 + (i 1).val / 1024) / 2 = _; omega
    have e1 : t.val % 2 = (i 1).val / 1024 := by show ((i 0).val / 1024 * 2 + (i 1).val / 1024) % 2 = _; omega
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1, e0]; omega
    | ⟨1, _⟩ => show win0_2.index t 1 * 1024 ≤ (i 1).val ∧ (i 1).val < win0_2.index t 1 * 1024 + 1024; rw [hi.2, e1]; omega

end Cert.OutXIdeal.Blk

namespace Cert.OutXProof

open Cert.Prod

/-- The reference terminates, leaves its arguments alone and has no semaphores. -/
theorem frame_ref : Cert.quiescent_OutXRefIdeal (hOutXRefIdeal := Cert.OutXRefIdeal.Gen.facts) := fun m ρ _ =>
  (θ_run Cert.OutXRefIdeal.defs _ _).mono
    (fun r h => ⟨fun c => (h c).2, sem_eq_zero_of_no_sems rfl r.2⟩) (Cert.OutXRefIdeal.Value.run (F := Ideal) m ρ)

/-- The reference's product is the same sum. -/
theorem ref_apply (x1 : Vec Ideal Cert.OutXRefIdeal.S2048x2048 .f32) (x2 : Vec Ideal Cert.OutXRefIdeal.S8192x2048 .f32) (i : Cert.OutXRefIdeal.S8192x2048.Idx) :
    Cert.OutXRefIdeal.Read.val_main_v3 (F := Ideal) x1 x2 i
      = ∑ k ∈ Finset.range 2048, tot x2 (i 0).val k * tot x1 (i 1).val k := by
  rw [Cert.OutXRefIdeal.Read.val_main_v3_apply, ← Fin.sum_univ_eq_sum_range (fun k => tot x2 (i 0).val k * tot x1 (i 1).val k)]
  exact Finset.sum_congr rfl fun k _ => congrArg₂ (· * ·) (tot_idx _ _ rfl rfl) (tot_idx _ _ rfl rfl)

/-- The call computes the derivative. -/
theorem algebraic : Cert.algebraic_OutXIdeal_OutXRefIdeal (hOutXIdeal := Cert.OutXIdeal.Gen.facts)
    (hOutXRefIdeal := Cert.OutXRefIdeal.Gen.facts) := by
  intro m ρ m' ρ' _ hm
  refine ⟨fun c => (Cert.OutXIdeal.Gen.dats m 0 c).arrAt 2 Cert.OutXIdeal.cfg0.N, Cert.OutXIdeal.Value.run_blocks m ρ, ?_⟩
  refine (θ_run Cert.OutXRefIdeal.defs _ _).mono (fun r h c => ⟨(h c).1.trans ?_, (h c).2⟩) (Cert.OutXRefIdeal.Value.run (F := Ideal) m' ρ')
  obtain ⟨a0, a1, a2⟩ := hm c
  refine ((Cert.OutXRefIdeal.Read.val_main_v3_eq _ _).trans ?_).trans (Cert.OutXIdeal.Blk.fin2 m c).symm
  rw [a1, a2]
  exact funext fun i => ref_apply _ _ i

end Cert.OutXProof

end
-- ==== Proof.OutW.lean ====
/-
  The gradient of the output projection's weights: what the blocked product of the call leaves in the layer's part of the placed
  array, as a sum over the 8192 rows.
-/
module

public import proofs.«01_k».proof.Proof.Gen.OutWIdeal.Value
public import proofs.«01_k».proof.Proof.Prod
public import proofs.«01_k».proof.Defs
public import proofs.«01_k».proof.Proof.Gen.OutWRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.OutWIdeal.Blk

open Cert.OutWIdeal Cert.OutWIdeal.Gen Cert.OutWIdeal.Value Cert.Prod

variable (m : (ℓ : Loc nD τ sig) → Buf (Elt Ideal) ℓ) (c : Dev nD)

/-- The arguments that the call reads: the merged rows, the cotangent and the
    array that the layer's part is placed in. -/
abbrev mH : Vec Ideal S8192x2048 .f32 := m ((c.tc : Thread nD τ).loc main_arg0)
abbrev mG : Vec Ideal S8192x2048 .f32 := m ((c.tc : Thread nD τ).loc main_arg2)
abbrev mB : Vec Ideal S2x4x1024x2048 .bf16 := m ((c.tc : Thread nD τ).loc main_arg3)

/-- The block indices of the windows at a grid point, decided over the grid. -/
theorem idx : ∀ t : Fin grid0.N,
    (win0_0.index t 0 = t.val % 4 ∧ win0_0.index t 1 = t.val / 4 / 2)
    ∧ (win0_1.index t 0 = t.val % 4 ∧ win0_1.index t 1 = t.val / 4 % 2)
    ∧ (win0_2.index t 0 = t.val / 4 / 2 % 2 ∧ win0_2.index t 1 = t.val / 4 / 2 / 2 ∧ win0_2.index t 2 = 2 ∧ win0_2.index t 3 = t.val / 4 % 2) := by
  decide +kernel

/-- The block of the merged rows. -/
theorem blk0 (t : Fin cfg0.N) (y : S2048x256.Idx) :
    (iblk m c 0 t : Vec Ideal S2048x256 .bf16) y = tot (mH m c) (2048 * (t.val % 4) + (y 0).val) (256 * (t.val / 4 / 2) + (y 1).val) := by
  unfold iblk
  rw [View.read_apply]
  have hi := (idx t).1
  refine Eq.trans (b := mH m c (((cfg0.win 0).blk t).view.emb y)) ?_ (tot_idx _ _ ?_ ?_)
  · rfl
  · show win0_0.index t 0 * 2048 + 1 * (y 0).val = _; rw [hi.1]; omega
  · show win0_0.index t 1 * 256 + 1 * (y 1).val = _; rw [hi.2]; omega

/-- The block of the cotangent. -/
theorem blk1 (t : Fin cfg0.N) (y : S2048x1024.Idx) :
    (iblk m c 1 t : Vec Ideal S2048x1024 .bf16) y = tot (mG m c) (2048 * (t.val % 4) + (y 0).val) (1024 * (t.val / 4 % 2) + (y 1).val) := by
  unfold iblk
  rw [View.read_apply]
  have hi := (idx t).2.1
  refine Eq.trans (b := mG m c (((cfg0.win 1).blk t).view.emb y)) ?_ (tot_idx _ _ ?_ ?_)
  · rfl
  · show win0_1.index t 0 * 2048 + 1 * (y 0).val = _; rw [hi.1]; omega
  · show win0_1.index t 1 * 1024 + 1 * (y 1).val = _; rw [hi.2]; omega

/-- One block's product at an entry. -/
theorem pay (x0 : Vec Ideal S2048x256 .bf16) (x1 : Vec Ideal S2048x1024 .bf16) (y : S256x1024.Idx) :
    k0_pay1 (F := Ideal) x0 x1 y = ∑ k : Fin 2048, x0 (ix2 k (y 0)) * x1 (ix2 k (y 1)) := by
  unfold k0_pay1
  pointwise

/-- The product's terms at an entry of the block that run `q` of points writes. -/
abbrev term (q : ℕ) (y : S256x1024.Idx) (k : ℕ) : EReal :=
  tot (mH m c) k (256 * (q / 2) + (y 0).val) * tot (mG m c) k (1024 * (q % 2) + (y 1).val)

/-- What a point's product adds. -/
theorem pay_at (t : Fin cfg0.N) (y : S256x1024.Idx) :
    k0_pay1 (F := Ideal) (iblk m c 0 t) (iblk m c 1 t) y = stretch 2048 (term m c (t.val / 4) y) (t.val % 4) := by
  rw [pay, stretch, ← Fin.sum_univ_eq_sum_range]
  exact Finset.sum_congr rfl fun k _ => congrArg₂ (· * ·) (blk0 m c t _) (blk1 m c t _)

/-- The row and the column inside a block of the placed array. -/
abbrev inner (z : S1x1x256x1024.Idx) : S256x1024.Idx := fun a => match a with
  | ⟨0, _⟩ => ⟨(z 2).val, (z 2).isLt⟩
  | ⟨1, _⟩ => ⟨(z 3).val, (z 3).isLt⟩

/-- What a first point stores, and what a later point stores over `v`. -/
theorem pay2_at (x0 : Vec Ideal S2048x256 .bf16) (x1 : Vec Ideal S2048x1024 .bf16) (y : S256x1024.Idx) : k0_pay2 (F := Ideal) x0 x1 y = k0_pay1 (F := Ideal) x0 x1 y := by
  unfold k0_pay2; pointwise
theorem pay3_at (x0 : Vec Ideal S2048x256 .bf16) (x1 : Vec Ideal S2048x1024 .bf16) (v : Vec Ideal S256x1024 .f32) (y : S256x1024.Idx) :
    k0_pay3 (F := Ideal) x0 x1 v y = v y + k0_pay1 (F := Ideal) x0 x1 y := by
  unfold k0_pay3; pointwise
theorem pay4_at (x0 : Vec Ideal S2048x256 .bf16) (x1 : Vec Ideal S2048x1024 .bf16) (v : Vec Ideal S256x1024 .f32) (z : S1x1x256x1024.Idx) :
    k0_pay4 (F := Ideal) x0 x1 v z = v (inner z) + k0_pay1 (F := Ideal) x0 x1 (inner z) := by
  unfold k0_pay4
  refine (shapeCast_apply _ _ z (inner z) ?_).trans rfl
  have h0 : (z 0).val < 1 := (z 0).isLt
  have h1 : (z 1).val < 1 := (z 1).isLt
  rw [Shape.rowMajor_val_two, Shape.rowMajor_val_four]
  show (z 2).val * 1024 + (z 3).val = (((z 0).val * 1 + (z 1).val) * 256 + (z 2).val) * 1024 + (z 3).val
  omega

/-- The running sum after a first point and after a middle one, and the block that the last point leaves. -/
theorem first_at (t : Fin cfg0.N) (h0 : t.val % 4 = 0) (y : S256x1024.Idx) :
    (outsAt0 m c t.val t.isLt).2 y = stretch 2048 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S256x1024.Idx) :
    (outsAt0 m c t.val t.isLt).2 y = (outsAt0 m c (t.val - 1) h').2 y + stretch 2048 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (z : S1x1x256x1024.Idx) :
    (outsAt0 m c t.val t.isLt).1 z = (outsAt0 m c (t.val - 1) h').2 (inner z) + stretch 2048 (term m c (t.val / 4) (inner z)) (t.val % 4) := by
  rw [outsAt0_C m c t (by omega) (by omega) (by omega), ← pay_at m c t]
  frame_out
  refine (pay4_at _ _ _ z).trans ?_
  rw [(Memref.isWhole_whole _).read_unread]

/-- A block of the result, after its last point. -/
theorem out_last (n : ℕ) (h : n < cfg0.N) (hl : n % 4 + 1 = 4) (z : S1x1x256x1024.Idx) :
    (outsAt0 m c n h).1 z = ∑ k ∈ Finset.range 8192, term m c (n / 4) (inner z) k :=
  run_total (N := cfg0.N) 4 2048 (by decide) (fun n h z => (outsAt0 m c n h).2 (inner z)) (fun n h => (outsAt0 m c n h).1)
    (fun q z => term m c q (inner z)) (fun n h h0 z => first_at m c ⟨n, h⟩ h0 (inner z))
    (fun n h h' h1 h2 z => mid_at m c ⟨n, h⟩ h1 h2 h' (inner z)) (fun n h h' h1 z => last_at m c ⟨n, h⟩ h1 h' z) n h hl z

/-- An entry of the product. -/
abbrev cell (r q : ℕ) : EReal := ∑ k ∈ Finset.range 8192, tot (mH m c) k r * tot (mG m c) k q

/-- The placed array: the layer's rows of the product, 256 to each chip, and the other rows as they came. -/
abbrev val (i : S2x4x1024x2048.Idx) : EReal :=
  if 512 ≤ (i 2).val ∧ (i 2).val < 768 then cell m c (256 * (2 * (i 1).val + (i 0).val) + ((i 2).val - 512)) (i 3).val else mB m c i

theorem val_in (i : S2x4x1024x2048.Idx) (r q : ℕ) (u : ℕ) (hu : u < 256) (h2 : (i 2).val = 512 + u)
    (hr : 256 * (2 * (i 1).val + (i 0).val) + u = r) (hq : (i 3).val = q) :
    cell m c r q = val m c i := by
  have e : (i 2).val - 512 = u := by omega
  rw [val, if_pos (by omega), e, hr, hq]

/-- What a last point writes back. -/
theorem fl2 (t : Fin cfg0.N) (hf : (cfg0.win 2).flush t = true) : (dats m 0 c).flushed 2 t
    = ((cfg0.win 2).blk t).view.read (Elt Ideal) (fun i => val m c i : Buf (Elt Ideal) ((c : Thread nD τ).loc main_v2)) := by
  have h3 := (flush0_2 t).mp hf
  have hN : t.val < 64 := lt_of_lt_of_eq t.isLt N_0
  rw [flushed2]
  refine funext fun (j : S1x1x256x1024.Idx) => ?_
  rw [View.read_apply]
  have hi := (idx t).2.2
  have j0 : (j 0).val < 1 := (j 0).isLt
  have j1 : (j 1).val < 1 := (j 1).isLt
  have j2 : (j 2).val < 256 := (j 2).isLt
  refine (out_last m c t.val t.isLt (by omega) j).trans (val_in m c _ _ _ (j 2).val j2 ?_ ?_ ?_)
  · show win0_2.index t 2 * 256 + 1 * (j 2).val = 512 + (j 2).val; rw [hi.2.2.1]; omega
  · show 256 * (2 * (win0_2.index t 1 * 1 + 1 * (j 1).val) + (win0_2.index t 0 * 1 + 1 * (j 0).val)) + (j 2).val = 256 * (t.val / 4 / 2) + (j 2).val
    rw [hi.1, hi.2.1]; omega
  · show win0_2.index t 3 * 1024 + 1 * (j 3).val = 1024 * (t.val / 4 % 2) + (j 3).val; rw [hi.2.2.2]; omega

/-- The result array. -/
theorem fin2 : (dats m 0 c).arrAt 2 cfg0.N = (fun i => val m c i : Buf (Elt Ideal) ((c : Thread nD τ).loc main_v2)) := by
  funext (i : S2x4x1024x2048.Idx)
  rw [(dats m 0 c).arrAt_eq_piecewise 2 _ (fun t hf => fl2 m c t hf)]
  split
  · rfl
  · rename_i hno
    have b0 : (i 0).val < 2 := (i 0).isLt
    have b1 : (i 1).val < 4 := (i 1).isLt
    have b3 : (i 3).val < 2048 := (i 3).isLt
    have hN : cfg0.N = 64 := N_0
    refine Eq.trans ?_ (if_neg ?_).symm
    · rw [A_eq]; rfl
    · intro h
      refine hno ⟨⟨(2 * (i 1).val + (i 0).val) * 8 + (i 3).val / 1024 * 4 + 3, by rw [hN]; omega⟩, (flush0_2 _).mpr ?_, ?_⟩
      · show ((2 * (i 1).val + (i 0).val) * 8 + (i 3).val / 1024 * 4 + 3) % 4 = 3; omega
      · generalize ht : (⟨(2 * (i 1).val + (i 0).val) * 8 + (i 3).val / 1024 * 4 + 3, _⟩ : Fin cfg0.N) = t
        have hv : t.val = (2 * (i 1).val + (i 0).val) * 8 + (i 3).val / 1024 * 4 + 3 := by rw [← ht]
        have hi := (idx t).2.2
        show i ∈ ((View.whole main_v2).slice (win0_2.rect t)).set
        rw [View.set_slice_whole, Rect.mem_set_unit]
        intro a
        match a with
        | ⟨0, _⟩ => show win0_2.index t 0 * 1 ≤ (i 0).val ∧ (i 0).val < win0_2.index t 0 * 1 + 1; rw [hi.1]; omega
        | ⟨1, _⟩ => show win0_2.index t 1 * 1 ≤ (i 1).val ∧ (i 1).val < win0_2.index t 1 * 1 + 1; rw [hi.2.1]; omega
        | ⟨2, _⟩ => show win0_2.index t 2 * 256 ≤ (i 2).val ∧ (i 2).val < win0_2.index t 2 * 256 + 256; rw [hi.2.2.1]; omega
        | ⟨3, _⟩ => show win0_2.index t 3 * 1024 ≤ (i 3).val ∧ (i 3).val < win0_2.index t 3 * 1024 + 1024; rw [hi.2.2.2]; omega

end Cert.OutWIdeal.Blk

namespace Cert.OutWProof

open Cert.Prod

/-- The reference terminates, leaves its arguments alone and has no semaphores. -/
theorem frame_ref : Cert.quiescent_OutWRefIdeal (hOutWRefIdeal := Cert.OutWRefIdeal.Gen.facts) := fun m ρ _ =>
  (θ_run Cert.OutWRefIdeal.defs _ _).mono
    (fun r h => ⟨fun c => (h c).2, sem_eq_zero_of_no_sems rfl r.2⟩) (Cert.OutWRefIdeal.Value.run (F := Ideal) m ρ)

/-- The reference's product is the same sum. -/
theorem ref_apply (x0 : Vec Ideal Cert.OutWRefIdeal.S8192x2048 .f32) (x2 : Vec Ideal Cert.OutWRefIdeal.S8192x2048 .f32) (i : Cert.OutWRefIdeal.S2x4x256x2048.Idx)
    (r q : ℕ) (hr : 256 * (2 * (i 1).val + (i 0).val) + (i 2).val = r) (hq : (i 3).val = q) :
    Cert.OutWRefIdeal.Read.val_main_v6 (F := Ideal) x0 x2 i = ∑ k ∈ Finset.range 8192, tot x0 k r * tot x2 k q := by
  rw [Cert.OutWRefIdeal.Read.val_main_v6_apply, Cert.OutWRefIdeal.Read.val_main_v5_apply, Cert.OutWRefIdeal.Read.val_main_v4_apply,
    Cert.OutWRefIdeal.Read.val_main_v2_apply]
  refine (Cert.OutWRefIdeal.Read.val_main_v1_apply _ _ _).trans ?_
  rw [← Fin.sum_univ_eq_sum_range (fun k => tot x0 k r * tot x2 k q)]
  have b0 : (i 0).val < 2 := (i 0).isLt
  have b1 : (i 1).val < 4 := (i 1).isLt
  have b2 : (i 2).val < 256 := (i 2).isLt
  have b3 : (i 3).val < 2048 := (i 3).isLt
  refine Finset.sum_congr rfl fun k _ => (congrArg₂ (· * ·) (tot_idx _ _ rfl ?_) (tot_idx _ _ rfl ?_)).trans (mul_comm _ _)
  · show ((((i 1).val * 2 + (i 0).val) * 256 + (i 2).val) * 2048 + (i 3).val) % 2048 = q; omega
  · show ((((i 1).val * 2 + (i 0).val) * 256 + (i 2).val) * 2048 + (i 3).val) / 2048 = r; omega

/-- The reference's placed array. -/
theorem ref_placed (x0 : Vec Ideal Cert.OutWRefIdeal.S8192x2048 .f32) (x2 : Vec Ideal Cert.OutWRefIdeal.S8192x2048 .f32)
    (x3 : Vec Ideal Cert.OutWRefIdeal.S2x4x1024x2048 .bf16) (i : Cert.OutWRefIdeal.S2x4x1024x2048.Idx) :
    Cert.OutWRefIdeal.Read.val_main_v7 (F := Ideal) x0 x2 x3 i
      = if 512 ≤ (i 2).val ∧ (i 2).val < 768 then ∑ k ∈ Finset.range 8192, tot x0 k (256 * (2 * (i 1).val + (i 0).val) + ((i 2).val - 512)) * tot x2 k (i 3).val else x3 i := by
  unfold Cert.OutWRefIdeal.Read.val_main_v7
  rw [Host.dynamicUpdateSlice_eq_updateSlice _ _ _ _ ![0, 0, 512, 0] (fun a => by fin_cases a <;> rfl) (by decide), updateSlice_apply]
  have b0 : (i 0).val < 2 := (i 0).isLt
  have b1 : (i 1).val < 4 := (i 1).isLt
  have b3 : (i 3).val < 2048 := (i 3).isLt
  by_cases h : 512 ≤ (i 2).val ∧ (i 2).val < 768
  · rw [if_pos h, dif_pos (fun a => match a with
      | ⟨0, _⟩ => ⟨Nat.zero_le _, by show (i 0).val < 0 + 2; omega⟩
      | ⟨1, _⟩ => ⟨Nat.zero_le _, by show (i 1).val < 0 + 4; omega⟩
      | ⟨2, _⟩ => ⟨h.1, by show (i 2).val < 512 + 256; omega⟩
      | ⟨3, _⟩ => ⟨Nat.zero_le _, by show (i 3).val < 0 + 2048; omega⟩)]
    exact ref_apply _ _ _ _ _ rfl rfl
  · rw [if_neg h, dif_neg (fun hin => h ⟨(hin 2).1, (hin 2).2⟩)]

/-- The call computes the derivative. -/
theorem algebraic : Cert.algebraic_OutWIdeal_OutWRefIdeal (hOutWIdeal := Cert.OutWIdeal.Gen.facts)
    (hOutWRefIdeal := Cert.OutWRefIdeal.Gen.facts) := by
  intro m ρ m' ρ' _ hm
  refine ⟨fun c => (Cert.OutWIdeal.Gen.dats m 0 c).arrAt 2 Cert.OutWIdeal.cfg0.N, Cert.OutWIdeal.Value.run_blocks m ρ, ?_⟩
  refine (θ_run Cert.OutWRefIdeal.defs _ _).mono (fun r h c => ⟨(h c).1.trans ?_, (h c).2⟩) (Cert.OutWRefIdeal.Value.run (F := Ideal) m' ρ')
  obtain ⟨a0, a1, a2, a3⟩ := hm c
  refine ((Cert.OutWRefIdeal.Read.val_main_v7_eq _ _ _).trans ?_).trans (Cert.OutWIdeal.Blk.fin2 m c).symm
  rw [a0, a2, a3]
  exact funext fun i => ref_placed _ _ _ i

end Cert.OutWProof

end
-- ==== Proof.GluY.lean ====
/-
  The S5 branch's gated projection: what the blocked product of the call leaves, as a sum over the 1024 rows of the weights.
-/
module

public import proofs.«01_k».proof.Proof.Gen.GluYIdeal.Value
public import proofs.«01_k».proof.Proof.Prod
public import proofs.«01_k».proof.Defs
public import proofs.«01_k».proof.Proof.Gen.GluYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.GluYIdeal.Blk

open Cert.GluYIdeal Cert.GluYIdeal.Gen Cert.GluYIdeal.Value Cert.Prod

variable (m : (ℓ : Loc nD τ sig) → Buf (Elt Ideal) ℓ) (c : Dev nD)

/-- The arguments that the call reads: the weights and the scan's rows. -/
abbrev mW : Vec Ideal S1024x4096 .f32 := m ((c.tc : Thread nD τ).loc main_arg1)
abbrev mY : Vec Ideal S8192x1024 .f32 := m ((c.tc : Thread nD τ).loc main_arg0)

/-- The block indices of the windows at a grid point, decided over the grid. -/
theorem idx : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) := by
  decide +kernel

/-- The block of the scan's rows. -/
theorem blk0 (t : Fin cfg0.N) (y : S1024x1024.Idx) :
    (iblk m c 0 t : Vec Ideal S1024x1024 .bf16) y = tot (mY m c) (1024 * (t.val / 4) + (y 0).val) (y 1).val := by
  unfold iblk
  rw [View.read_apply]
  have hi := (idx t).1
  refine Eq.trans (b := mY m c (((cfg0.win 0).blk t).view.emb y)) ?_ (tot_idx _ _ ?_ ?_)
  · rfl
  · show win0_0.index t 0 * 1024 + 1 * (y 0).val = _; rw [hi.1]; omega
  · show win0_0.index t 1 * 1024 + 1 * (y 1).val = _; rw [hi.2]; omega

/-- The block of the weights. -/
theorem blk1 (t : Fin cfg0.N) (y : S1024x1024.Idx) :
    (iblk m c 1 t : Vec Ideal S1024x1024 .bf16) y = tot (mW m c) (y 0).val (1024 * (t.val % 4) + (y 1).val) := by
  unfold iblk
  rw [View.read_apply]
  have hi := (idx t).2.1
  refine Eq.trans (b := mW m c (((cfg0.win 1).blk t).view.emb y)) ?_ (tot_idx _ _ ?_ ?_)
  · rfl
  · show win0_1.index t 0 * 1024 + 1 * (y 0).val = _; rw [hi.1]; omega
  · show win0_1.index t 1 * 1024 + 1 * (y 1).val = _; rw [hi.2]; omega

/-- One block's product at an entry. -/
theorem pay (x0 : Vec Ideal S1024x1024 .bf16) (x1 : Vec Ideal S1024x1024 .bf16) (y : S1024x1024.Idx) :
    k0_pay1 (F := Ideal) x0 x1 y = ∑ k : Fin 1024, x0 (ix2 (y 0) k) * x1 (ix2 k (y 1)) := by
  unfold k0_pay1
  pointwise

/-- The result at an index. -/
abbrev val (i : S8192x4096.Idx) : EReal := ∑ k ∈ Finset.range 1024, tot (mY m c) (i 0).val k * tot (mW m c) k (i 1).val

/-- A block of the result. -/
theorem out_at (t : Fin cfg0.N) (y : S1024x1024.Idx) (r q : ℕ) (hr : 1024 * (t.val / 4) + (y 0).val = r) (hq : 1024 * (t.val % 4) + (y 1).val = q) :
    (outsAt0 m c t : Vec Ideal S1024x1024 .f32) y = ∑ k ∈ Finset.range 1024, tot (mY m c) r k * tot (mW m c) k q := by
  unfold outsAt0
  frame_out
  rw [pay, ← Fin.sum_univ_eq_sum_range (fun k => tot (mY m c) r k * tot (mW m c) k q), ← hr, ← hq]
  exact Finset.sum_congr rfl fun k _ => congrArg₂ (· * ·) (blk0 m c t _) (blk1 m c t _)

/-- What a point writes back. -/
theorem fl2 (t : Fin cfg0.N) : (dats m 0 c).flushed 2 t
    = ((cfg0.win 2).blk t).view.read (Elt Ideal) (fun i => val m c i : Buf (Elt Ideal) ((c : Thread nD τ).loc main_v2)) := by
  rw [flushed2]
  refine funext fun (j : S1024x1024.Idx) => ?_
  rw [View.read_apply]
  have hi := (idx t).2.2
  refine out_at m c t j _ _ ?_ ?_
  · show _ = win0_2.index t 0 * 1024 + 1 * (j 0).val; rw [hi.1]; omega
  · show _ = win0_2.index t 1 * 1024 + 1 * (j 1).val; rw [hi.2]; omega

/-- The result array: the blocks cover it. -/
theorem fin2 : (dats m 0 c).arrAt 2 cfg0.N = (fun i => val m c i : Buf (Elt Ideal) ((c : Thread nD τ).loc main_v2)) :=
  (dats m 0 c).arrAt_eq_of_cover 2 _ (fun t _ => fl2 m c t) fun i => by
    have b0 : (i 0).val < 8192 := (i 0).isLt
    have b1 : (i 1).val < 4096 := (i 1).isLt
    have hN : cfg0.N = 32 := N_0
    let t : Fin cfg0.N := ⟨(i 0).val / 1024 * 4 + (i 1).val / 1024, by rw [hN]; omega⟩
    have hi := (idx t).2.2
    have e0 : t.val / 4 = (i 0).val / 1024 := by show ((i 0).val / 1024 * 4 + (i 1).val / 1024) / 4 = _; omega
    have e1 : t.val % 4 = (i 1).val / 1024 := by show ((i 0).val / 1024 * 4 + (i 1).val / 1024) % 4 = _; omega
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1, e0]; omega
    | ⟨1, _⟩ => show win0_2.index t 1 * 1024 ≤ (i 1).val ∧ (i 1).val < win0_2.index t 1 * 1024 + 1024; rw [hi.2, e1]; omega

end Cert.GluYIdeal.Blk

namespace Cert.GluYProof

open Cert.Prod

/-- The reference terminates, leaves its arguments alone and has no semaphores. -/
theorem frame_ref : Cert.quiescent_GluYRefIdeal (hGluYRefIdeal := Cert.GluYRefIdeal.Gen.facts) := fun m ρ _ =>
  (θ_run Cert.GluYRefIdeal.defs _ _).mono
    (fun r h => ⟨fun c => (h c).2, sem_eq_zero_of_no_sems rfl r.2⟩) (Cert.GluYRefIdeal.Value.run (F := Ideal) m ρ)

/-- The reference's product is the same sum. -/
theorem ref_apply (x0 : Vec Ideal Cert.GluYRefIdeal.S8192x1024 .f32) (x1 : Vec Ideal Cert.GluYRefIdeal.S1024x4096 .f32) (i : Cert.GluYRefIdeal.S8192x4096.Idx) :
    Cert.GluYRefIdeal.Read.val_main_v0 (F := Ideal) x0 x1 i
      = ∑ k ∈ Finset.range 1024, tot x0 (i 0).val k * tot x1 k (i 1).val := by
  rw [Cert.GluYRefIdeal.Read.val_main_v0_apply, ← Fin.sum_univ_eq_sum_range (fun k => tot x0 (i 0).val k * tot x1 k (i 1).val)]
  exact Finset.sum_congr rfl fun k _ => congrArg₂ (· * ·) (tot_idx _ _ rfl rfl) (tot_idx _ _ rfl rfl)

/-- The call computes the product. -/
theorem algebraic : Cert.algebraic_GluYIdeal_GluYRefIdeal (hGluYIdeal := Cert.GluYIdeal.Gen.facts)
    (hGluYRefIdeal := Cert.GluYRefIdeal.Gen.facts) := by
  intro m ρ m' ρ' _ hm
  refine ⟨fun c => (Cert.GluYIdeal.Gen.dats m 0 c).arrAt 2 Cert.GluYIdeal.cfg0.N, Cert.GluYIdeal.Value.run_blocks m ρ, ?_⟩
  refine (θ_run Cert.GluYRefIdeal.defs _ _).mono (fun r h c => ⟨(h c).1.trans ?_, (h c).2⟩) (Cert.GluYRefIdeal.Value.run (F := Ideal) m' ρ')
  obtain ⟨a0, a1⟩ := hm c
  refine ((Cert.GluYRefIdeal.Read.val_main_v0_eq _ _).trans ?_).trans (Cert.GluYIdeal.Blk.fin2 m c).symm
  rw [a0, a1]
  exact funext fun i => ref_apply _ _ i

end Cert.GluYProof

end
-- ==== Proof.GluX.lean ====
/-
  The gradient of the S5 branch's gated projection's input: what the blocked product of the call leaves, as a sum over the 4096 columns.
-/
module

public import proofs.«01_k».proof.Proof.Gen.GluXIdeal.Value
public import proofs.«01_k».proof.Proof.Prod
public import proofs.«01_k».proof.Defs
public import proofs.«01_k».proof.Proof.Gen.GluXRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.GluXIdeal.Blk

open Cert.GluXIdeal Cert.GluXIdeal.Gen Cert.GluXIdeal.Value Cert.Prod

variable (m : (ℓ : Loc nD τ sig) → Buf (Elt Ideal) ℓ) (c : Dev nD)

/-- The arguments that the call reads: the weights and the cotangent. -/
abbrev mW : Vec Ideal S1024x4096 .f32 := m ((c.tc : Thread nD τ).loc main_arg1)
abbrev mG : Vec Ideal S8192x4096 .f32 := m ((c.tc : Thread nD τ).loc main_arg2)

/-- The block indices of the windows at a grid point, decided over the grid. -/
theorem idx : ∀ t : Fin grid0.N,
    (win0_0.index t 0 = t.val / 2 ∧ win0_0.index t 1 = t.val % 2)
    ∧ (win0_1.index t 0 = 0 ∧ win0_1.index t 1 = t.val % 2) := by
  decide +kernel

/-- The block of the cotangent. -/
theorem blk0 (t : Fin cfg0.N) (y : S1024x2048.Idx) :
    (iblk m c 0 t : Vec Ideal S1024x2048 .bf16) y = tot (mG m c) (1024 * (t.val / 2) + (y 0).val) (2048 * (t.val % 2) + (y 1).val) := by
  unfold iblk
  rw [View.read_apply]
  have hi := (idx t).1
  refine Eq.trans (b := mG m c (((cfg0.win 0).blk t).view.emb y)) ?_ (tot_idx _ _ ?_ ?_)
  · rfl
  · show win0_0.index t 0 * 1024 + 1 * (y 0).val = _; rw [hi.1]; omega
  · show win0_0.index t 1 * 2048 + 1 * (y 1).val = _; rw [hi.2]; omega

/-- The block of the weights. -/
theorem blk1 (t : Fin cfg0.N) (y : S1024x2048.Idx) :
    (iblk m c 1 t : Vec Ideal S1024x2048 .bf16) y = tot (mW m c) ((y 0).val) (2048 * (t.val % 2) + (y 1).val) := by
  unfold iblk
  rw [View.read_apply]
  have hi := (idx t).2
  refine Eq.trans (b := mW m c (((cfg0.win 1).blk t).view.emb y)) ?_ (tot_idx _ _ ?_ ?_)
  · rfl
  · show win0_1.index t 0 * 1024 + 1 * (y 0).val = _; rw [hi.1]; omega
  · show win0_1.index t 1 * 2048 + 1 * (y 1).val = _; rw [hi.2]; omega

/-- One block's product at an entry. -/
theorem pay (x0 x1 : Vec Ideal S1024x2048 .bf16) (y : S1024x1024.Idx) :
    k0_pay1 (F := Ideal) x0 x1 y = ∑ k : Fin 2048, x0 (ix2 (y 0) k) * x1 (ix2 (y 1) k) := by
  unfold k0_pay1
  pointwise

/-- The product's terms at an entry of the block that run `q` of points writes. -/
abbrev term (q : ℕ) (y : S1024x1024.Idx) (k : ℕ) : EReal :=
  tot (mG m c) (1024 * q + (y 0).val) k * tot (mW m c) (y 1).val k

/-- What a point's product adds. -/
theorem pay_at (t : Fin cfg0.N) (y : S1024x1024.Idx) :
    k0_pay1 (F := Ideal) (iblk m c 0 t) (iblk m c 1 t) y = stretch 2048 (term m c (t.val / 2) y) (t.val % 2) := by
  rw [pay, stretch, ← Fin.sum_univ_eq_sum_range]
  exact Finset.sum_congr rfl fun k _ => congrArg₂ (· * ·) (blk0 m c t _) (blk1 m c t _)

/-- What a first point stores, and what a later point stores over `v`. -/
theorem pay2_at (x0 x1 : Vec Ideal S1024x2048 .bf16) (y : S1024x1024.Idx) : k0_pay2 (F := Ideal) x0 x1 y = k0_pay1 (F := Ideal) x0 x1 y := by
  unfold k0_pay2; pointwise
theorem pay4_at (x0 x1 : Vec Ideal S1024x2048 .bf16) (v : Vec Ideal S1024x1024 .f32) (y : S1024x1024.Idx) :
    k0_pay4 (F := Ideal) x0 x1 v y = v y + k0_pay1 (F := Ideal) x0 x1 y := by
  unfold k0_pay4; pointwise

/-- The running sum after a first point, and the block that the last point leaves. -/
theorem first_at (t : Fin cfg0.N) (h0 : t.val % 2 = 0) (y : S1024x1024.Idx) :
    (outsAt0 m c t.val t.isLt).2 y = stretch 2048 (term m c (t.val / 2) y) (t.val % 2) := by
  rw [outsAt0_A m c t h0 (by omega), ← pay_at m c t]
  frame_out
  exact pay2_at _ _ y
theorem last_at (t : Fin cfg0.N) (h1 : t.val % 2 + 1 = 2) (h' : t.val - 1 < cfg0.N) (y : S1024x1024.Idx) :
    (outsAt0 m c t.val t.isLt).1 y = (outsAt0 m c (t.val - 1) h').2 y + stretch 2048 (term m c (t.val / 2) y) (t.val % 2) := by
  rw [outsAt0_B m c t (by omega) (by omega), ← pay_at m c t]
  frame_out
  refine (pay4_at _ _ _ y).trans ?_
  rw [(Memref.isWhole_whole _).read_unread]

/-- A block of the result, after its last point. -/
theorem out_last (n : ℕ) (h : n < cfg0.N) (hl : n % 2 + 1 = 2) (y : S1024x1024.Idx) :
    (outsAt0 m c n h).1 y = ∑ k ∈ Finset.range 4096, term m c (n / 2) y k :=
  run_total (N := cfg0.N) 2 2048 (by decide) (fun n h => (outsAt0 m c n h).2) (fun n h => (outsAt0 m c n h).1) (term m c)
    (fun n h h0 y => first_at m c ⟨n, h⟩ h0 y) (fun n h h' h1 h2 y => absurd h2 (by omega))
    (fun n h h' h1 y => last_at m c ⟨n, h⟩ h1 h' y) n h hl y

/-- The result array. -/
theorem fin2 : (dats m 0 c).arrAt 2 cfg0.N
    = fun i : S8192x1024.Idx => ∑ k ∈ Finset.range 4096, tot (mG m c) (i 0).val k * tot (mW m c) (i 1).val k := by
  rw [final2]
  funext (i : S8192x1024.Idx)
  have h0 : (i 0).val < 8192 := (i 0).isLt
  have h1 : (i 1).val < 1024 := (i 1).isLt
  have hp : pt2Of i < cfg0.N := lt_of_lt_of_eq (by simp only [pt2Of, run2Of]; omega) N_0.symm
  have H := out_last m c (pt2Of i) hp (by simp only [pt2Of]; omega) (loc2Of i)
  rw [outsAt0_sweep] at H
  unfold G2
  rw [dif_pos hp]
  refine H.trans (Finset.sum_congr rfl fun k _ => ?_)
  have e0 : 1024 * (pt2Of i / 2) + (loc2Of i 0).val = (i 0).val := by
    show 1024 * (pt2Of i / 2) + (i 0).val % 1024 = _
    simp only [pt2Of, run2Of]; omega
  have e1 : (i 1).val % 1024 = (i 1).val := Nat.mod_eq_of_lt h1
  simp only [term, e0, e1]

end Cert.GluXIdeal.Blk

namespace Cert.GluXProof

open Cert.Prod

/-- The reference terminates, leaves its arguments alone and has no semaphores. -/
theorem frame_ref : Cert.quiescent_GluXRefIdeal (hGluXRefIdeal := Cert.GluXRefIdeal.Gen.facts) := fun m ρ _ =>
  (θ_run Cert.GluXRefIdeal.defs _ _).mono
    (fun r h => ⟨fun c => (h c).2, sem_eq_zero_of_no_sems rfl r.2⟩) (Cert.GluXRefIdeal.Value.run (F := Ideal) m ρ)

/-- The reference's product is the same sum. -/
theorem ref_apply (x1 : Vec Ideal Cert.GluXRefIdeal.S1024x4096 .f32) (x2 : Vec Ideal Cert.GluXRefIdeal.S8192x4096 .f32) (i : Cert.GluXRefIdeal.S8192x1024.Idx) :
    Cert.GluXRefIdeal.Read.val_main_v3 (F := Ideal) x1 x2 i
      = ∑ k ∈ Finset.range 4096, tot x2 (i 0).val k * tot x1 (i 1).val k := by
  rw [Cert.GluXRefIdeal.Read.val_main_v3_apply, ← Fin.sum_univ_eq_sum_range (fun k => tot x2 (i 0).val k * tot x1 (i 1).val k)]
  exact Finset.sum_congr rfl fun k _ => congrArg₂ (· * ·) (tot_idx _ _ rfl rfl) (tot_idx _ _ rfl rfl)

/-- The call computes the derivative. -/
theorem algebraic : Cert.algebraic_GluXIdeal_GluXRefIdeal (hGluXIdeal := Cert.GluXIdeal.Gen.facts)
    (hGluXRefIdeal := Cert.GluXRefIdeal.Gen.facts) := by
  intro m ρ m' ρ' _ hm
  refine ⟨fun c => (Cert.GluXIdeal.Gen.dats m 0 c).arrAt 2 Cert.GluXIdeal.cfg0.N, Cert.GluXIdeal.Value.run_blocks m ρ, ?_⟩
  refine (θ_run Cert.GluXRefIdeal.defs _ _).mono (fun r h c => ⟨(h c).1.trans ?_, (h c).2⟩) (Cert.GluXRefIdeal.Value.run (F := Ideal) m' ρ')
  obtain ⟨a0, a1, a2⟩ := hm c
  refine ((Cert.GluXRefIdeal.Read.val_main_v3_eq _ _).trans ?_).trans (Cert.GluXIdeal.Blk.fin2 m c).symm
  rw [a1, a2]
  exact funext fun i => ref_apply _ _ i

end Cert.GluXProof

end
-- ==== Proof.GluW.lean ====
/-
  The gradient of the S5 branch's gated projection's weights: what the blocked product of the call leaves in the layer's part of the placed
  array, as a sum over the 8192 rows.
-/
module

public import proofs.«01_k».proof.Proof.Gen.GluWIdeal.Value
public import proofs.«01_k».proof.Proof.Prod
public import proofs.«01_k».proof.Defs
public import proofs.«01_k».proof.Proof.Gen.GluWRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.GluWIdeal.Blk

open Cert.GluWIdeal Cert.GluWIdeal.Gen Cert.GluWIdeal.Value Cert.Prod

variable (m : (ℓ : Loc nD τ sig) → Buf (Elt Ideal) ℓ) (c : Dev nD)

/-- The arguments that the call reads: the branch's rows, the cotangent and the
    array that the layer's part is placed in. -/
abbrev mH : Vec Ideal S8192x1024 .f32 := m ((c.tc : Thread nD τ).loc main_arg0)
abbrev mG : Vec Ideal S8192x4096 .f32 := m ((c.tc : Thread nD τ).loc main_arg2)
abbrev mB : Vec Ideal S2x4x4096x512 .bf16 := m ((c.tc : Thread nD τ).loc main_arg3)

/-- The block indices of the windows at a grid point, decided over the grid. -/
theorem idx : ∀ t : Fin grid0.N,
    (win0_0.index t 0 = t.val % 4 ∧ win0_0.index t 1 = 0)
    ∧ (win0_1.index t 0 = t.val % 4 ∧ win0_1.index t 1 = t.val / 4)
    ∧ (win0_2.index t 0 = t.val / 4 % 2 ∧ win0_2.index t 1 = t.val / 4 / 2 ∧ win0_2.index t 2 = 2 ∧ win0_2.index t 3 = 0) := by
  decide +kernel

/-- The block of the branch's rows. -/
theorem blk0 (t : Fin cfg0.N) (y : S2048x1024.Idx) :
    (iblk m c 0 t : Vec Ideal S2048x1024 .bf16) y = tot (mH m c) (2048 * (t.val % 4) + (y 0).val) (y 1).val := by
  unfold iblk
  rw [View.read_apply]
  have hi := (idx t).1
  refine Eq.trans (b := mH m c (((cfg0.win 0).blk t).view.emb y)) ?_ (tot_idx _ _ ?_ ?_)
  · rfl
  · show win0_0.index t 0 * 2048 + 1 * (y 0).val = _; rw [hi.1]; omega
  · show win0_0.index t 1 * 1024 + 1 * (y 1).val = _; rw [hi.2]; omega

/-- The block of the cotangent. -/
theorem blk1 (t : Fin cfg0.N) (y : S2048x512.Idx) :
    (iblk m c 1 t : Vec Ideal S2048x512 .bf16) y = tot (mG m c) (2048 * (t.val % 4) + (y 0).val) (512 * (t.val / 4) + (y 1).val) := by
  unfold iblk
  rw [View.read_apply]
  have hi := (idx t).2.1
  refine Eq.trans (b := mG m c (((cfg0.win 1).blk t).view.emb y)) ?_ (tot_idx _ _ ?_ ?_)
  · rfl
  · show win0_1.index t 0 * 2048 + 1 * (y 0).val = _; rw [hi.1]; omega
  · show win0_1.index t 1 * 512 + 1 * (y 1).val = _; rw [hi.2]; omega

/-- One block's product at an entry. -/
theorem pay (x0 : Vec Ideal S2048x1024 .bf16) (x1 : Vec Ideal S2048x512 .bf16) (y : S1024x512.Idx) :
    k0_pay1 (F := Ideal) x0 x1 y = ∑ k : Fin 2048, x0 (ix2 k (y 0)) * x1 (ix2 k (y 1)) := by
  unfold k0_pay1
  pointwise

/-- The product's terms at an entry of the block that run `q` of points writes. -/
abbrev term (q : ℕ) (y : S1024x512.Idx) (k : ℕ) : EReal :=
  tot (mH m c) k (y 0).val * tot (mG m c) k (512 * (q) + (y 1).val)

/-- What a point's product adds. -/
theorem pay_at (t : Fin cfg0.N) (y : S1024x512.Idx) :
    k0_pay1 (F := Ideal) (iblk m c 0 t) (iblk m c 1 t) y = stretch 2048 (term m c (t.val / 4) y) (t.val % 4) := by
  rw [pay, stretch, ← Fin.sum_univ_eq_sum_range]
  exact Finset.sum_congr rfl fun k _ => congrArg₂ (· * ·) (blk0 m c t _) (blk1 m c t _)

/-- The row and the column inside a block of the placed array. -/
abbrev inner (z : S1x1x1024x512.Idx) : S1024x512.Idx := fun a => match a with
  | ⟨0, _⟩ => ⟨(z 2).val, (z 2).isLt⟩
  | ⟨1, _⟩ => ⟨(z 3).val, (z 3).isLt⟩

/-- What a first point stores, and what a later point stores over `v`. -/
theorem pay2_at (x0 : Vec Ideal S2048x1024 .bf16) (x1 : Vec Ideal S2048x512 .bf16) (y : S1024x512.Idx) : k0_pay2 (F := Ideal) x0 x1 y = k0_pay1 (F := Ideal) x0 x1 y := by
  unfold k0_pay2; pointwise
theorem pay3_at (x0 : Vec Ideal S2048x1024 .bf16) (x1 : Vec Ideal S2048x512 .bf16) (v : Vec Ideal S1024x512 .f32) (y : S1024x512.Idx) :
    k0_pay3 (F := Ideal) x0 x1 v y = v y + k0_pay1 (F := Ideal) x0 x1 y := by
  unfold k0_pay3; pointwise
theorem pay4_at (x0 : Vec Ideal S2048x1024 .bf16) (x1 : Vec Ideal S2048x512 .bf16) (v : Vec Ideal S1024x512 .f32) (z : S1x1x1024x512.Idx) :
    k0_pay4 (F := Ideal) x0 x1 v z = v (inner z) + k0_pay1 (F := Ideal) x0 x1 (inner z) := by
  unfold k0_pay4
  refine (shapeCast_apply _ _ z (inner z) ?_).trans rfl
  have h0 : (z 0).val < 1 := (z 0).isLt
  have h1 : (z 1).val < 1 := (z 1).isLt
  rw [Shape.rowMajor_val_two, Shape.rowMajor_val_four]
  show (z 2).val * 512 + (z 3).val = (((z 0).val * 1 + (z 1).val) * 1024 + (z 2).val) * 512 + (z 3).val
  omega

/-- The running sum after a first point and after a middle one, and the block that the last point leaves. -/
theorem first_at (t : Fin cfg0.N) (h0 : t.val % 4 = 0) (y : S1024x512.Idx) :
    (outsAt0 m c t.val t.isLt).2 y = stretch 2048 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1024x512.Idx) :
    (outsAt0 m c t.val t.isLt).2 y = (outsAt0 m c (t.val - 1) h').2 y + stretch 2048 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (z : S1x1x1024x512.Idx) :
    (outsAt0 m c t.val t.isLt).1 z = (outsAt0 m c (t.val - 1) h').2 (inner z) + stretch 2048 (term m c (t.val / 4) (inner z)) (t.val % 4) := by
  rw [outsAt0_C m c t (by omega) (by omega) (by omega), ← pay_at m c t]
  frame_out
  refine (pay4_at _ _ _ z).trans ?_
  rw [(Memref.isWhole_whole _).read_unread]

/-- A block of the result, after its last point. -/
theorem out_last (n : ℕ) (h : n < cfg0.N) (hl : n % 4 + 1 = 4) (z : S1x1x1024x512.Idx) :
    (outsAt0 m c n h).1 z = ∑ k ∈ Finset.range 8192, term m c (n / 4) (inner z) k :=
  run_total (N := cfg0.N) 4 2048 (by decide) (fun n h z => (outsAt0 m c n h).2 (inner z)) (fun n h => (outsAt0 m c n h).1)
    (fun q z => term m c q (inner z)) (fun n h h0 z => first_at m c ⟨n, h⟩ h0 (inner z))
    (fun n h h' h1 h2 z => mid_at m c ⟨n, h⟩ h1 h2 h' (inner z)) (fun n h h' h1 z => last_at m c ⟨n, h⟩ h1 h' z) n h hl z

/-- An entry of the product. -/
abbrev cell (r q : ℕ) : EReal := ∑ k ∈ Finset.range 8192, tot (mH m c) k r * tot (mG m c) k q

/-- The placed array: the layer's 1024 rows of the product, each chip's columns in turn, and the other rows as they came. -/
abbrev val (i : S2x4x4096x512.Idx) : EReal :=
  if 2048 ≤ (i 2).val ∧ (i 2).val < 3072 then cell m c ((i 2).val - 2048) (512 * (2 * (i 1).val + (i 0).val) + (i 3).val) else mB m c i

theorem val_in (i : S2x4x4096x512.Idx) (r q : ℕ) (hr : r < 1024) (h2 : (i 2).val = 2048 + r) (hq : 512 * (2 * (i 1).val + (i 0).val) + (i 3).val = q) :
    cell m c r q = val m c i := by
  have e : (i 2).val - 2048 = r := by omega
  rw [val, if_pos (by omega), hq, e]

/-- What a last point writes back. -/
theorem fl2 (t : Fin cfg0.N) (hf : (cfg0.win 2).flush t = true) : (dats m 0 c).flushed 2 t
    = ((cfg0.win 2).blk t).view.read (Elt Ideal) (fun i => val m c i : Buf (Elt Ideal) ((c : Thread nD τ).loc main_v2)) := by
  have h3 := (flush0_2 t).mp hf
  have hN : t.val < 32 := lt_of_lt_of_eq t.isLt N_0
  rw [flushed2]
  refine funext fun (j : S1x1x1024x512.Idx) => ?_
  rw [View.read_apply]
  have hi := (idx t).2.2
  have j0 : (j 0).val < 1 := (j 0).isLt
  have j1 : (j 1).val < 1 := (j 1).isLt
  have j2 : (j 2).val < 1024 := (j 2).isLt
  refine (out_last m c t.val t.isLt (by omega) j).trans (val_in m c _ _ _ ?_ ?_ ?_)
  · exact j2
  · show win0_2.index t 2 * 1024 + 1 * (j 2).val = 2048 + (j 2).val; rw [hi.2.2.1]; omega
  · show 512 * (2 * (win0_2.index t 1 * 1 + 1 * (j 1).val) + (win0_2.index t 0 * 1 + 1 * (j 0).val)) + (win0_2.index t 3 * 512 + 1 * (j 3).val) = 512 * (t.val / 4) + (j 3).val
    rw [hi.1, hi.2.1, hi.2.2.2]; omega

/-- The result array. -/
theorem fin2 : (dats m 0 c).arrAt 2 cfg0.N = (fun i => val m c i : Buf (Elt Ideal) ((c : Thread nD τ).loc main_v2)) := by
  funext (i : S2x4x4096x512.Idx)
  rw [(dats m 0 c).arrAt_eq_piecewise 2 _ (fun t hf => fl2 m c t hf)]
  split
  · rfl
  · rename_i hno
    have b0 : (i 0).val < 2 := (i 0).isLt
    have b1 : (i 1).val < 4 := (i 1).isLt
    have b3 : (i 3).val < 512 := (i 3).isLt
    have hN : cfg0.N = 32 := N_0
    refine Eq.trans ?_ (if_neg ?_).symm
    · rw [A_eq]; rfl
    · intro h
      refine hno ⟨⟨(2 * (i 1).val + (i 0).val) * 4 + 3, by rw [hN]; omega⟩, (flush0_2 _).mpr ?_, ?_⟩
      · show ((2 * (i 1).val + (i 0).val) * 4 + 3) % 4 = 3; omega
      · generalize ht : (⟨(2 * (i 1).val + (i 0).val) * 4 + 3, _⟩ : Fin cfg0.N) = t
        have hv : t.val = (2 * (i 1).val + (i 0).val) * 4 + 3 := by rw [← ht]
        have hi := (idx t).2.2
        show i ∈ ((View.whole main_v2).slice (win0_2.rect t)).set
        rw [View.set_slice_whole, Rect.mem_set_unit]
        intro a
        match a with
        | ⟨0, _⟩ => show win0_2.index t 0 * 1 ≤ (i 0).val ∧ (i 0).val < win0_2.index t 0 * 1 + 1; rw [hi.1]; omega
        | ⟨1, _⟩ => show win0_2.index t 1 * 1 ≤ (i 1).val ∧ (i 1).val < win0_2.index t 1 * 1 + 1; rw [hi.2.1]; omega
        | ⟨2, _⟩ => show win0_2.index t 2 * 1024 ≤ (i 2).val ∧ (i 2).val < win0_2.index t 2 * 1024 + 1024; rw [hi.2.2.1]; omega
        | ⟨3, _⟩ => show win0_2.index t 3 * 512 ≤ (i 3).val ∧ (i 3).val < win0_2.index t 3 * 512 + 512; rw [hi.2.2.2]; omega

end Cert.GluWIdeal.Blk

namespace Cert.GluWProof

open Cert.Prod

/-- The reference terminates, leaves its arguments alone and has no semaphores. -/
theorem frame_ref : Cert.quiescent_GluWRefIdeal (hGluWRefIdeal := Cert.GluWRefIdeal.Gen.facts) := fun m ρ _ =>
  (θ_run Cert.GluWRefIdeal.defs _ _).mono
    (fun r h => ⟨fun c => (h c).2, sem_eq_zero_of_no_sems rfl r.2⟩) (Cert.GluWRefIdeal.Value.run (F := Ideal) m ρ)

/-- The reference's product is the same sum. -/
theorem ref_apply (x0 : Vec Ideal Cert.GluWRefIdeal.S8192x1024 .f32) (x2 : Vec Ideal Cert.GluWRefIdeal.S8192x4096 .f32) (i : Cert.GluWRefIdeal.S2x4x1024x512.Idx)
    (r q : ℕ) (hr : (i 2).val = r) (hq : 512 * (2 * (i 1).val + (i 0).val) + (i 3).val = q) :
    Cert.GluWRefIdeal.Read.val_main_v6 (F := Ideal) x0 x2 i = ∑ k ∈ Finset.range 8192, tot x0 k r * tot x2 k q := by
  rw [Cert.GluWRefIdeal.Read.val_main_v6_apply, Cert.GluWRefIdeal.Read.val_main_v5_apply, Cert.GluWRefIdeal.Read.val_main_v4_apply,
    Cert.GluWRefIdeal.Read.val_main_v2_apply]
  refine (Cert.GluWRefIdeal.Read.val_main_v1_apply _ _ _).trans ?_
  rw [← Fin.sum_univ_eq_sum_range (fun k => tot x0 k r * tot x2 k q)]
  have b0 : (i 0).val < 2 := (i 0).isLt
  have b1 : (i 1).val < 4 := (i 1).isLt
  have b3 : (i 3).val < 512 := (i 3).isLt
  refine Finset.sum_congr rfl fun k _ => (congrArg₂ (· * ·) (tot_idx _ _ rfl ?_) (tot_idx _ _ rfl ?_)).trans (mul_comm _ _)
  · show ((((i 2).val * 4 + (i 1).val) * 2 + (i 0).val) * 512 + (i 3).val) % 4096 = q; omega
  · show ((((i 2).val * 4 + (i 1).val) * 2 + (i 0).val) * 512 + (i 3).val) / 4096 = r; omega

/-- The reference's placed array. -/
theorem ref_placed (x0 : Vec Ideal Cert.GluWRefIdeal.S8192x1024 .f32) (x2 : Vec Ideal Cert.GluWRefIdeal.S8192x4096 .f32)
    (x3 : Vec Ideal Cert.GluWRefIdeal.S2x4x4096x512 .bf16) (i : Cert.GluWRefIdeal.S2x4x4096x512.Idx) :
    Cert.GluWRefIdeal.Read.val_main_v7 (F := Ideal) x0 x2 x3 i
      = if 2048 ≤ (i 2).val ∧ (i 2).val < 3072 then ∑ k ∈ Finset.range 8192, tot x0 k ((i 2).val - 2048) * tot x2 k (512 * (2 * (i 1).val + (i 0).val) + (i 3).val) else x3 i := by
  unfold Cert.GluWRefIdeal.Read.val_main_v7
  rw [Host.dynamicUpdateSlice_eq_updateSlice _ _ _ _ ![0, 0, 2048, 0] (fun a => by fin_cases a <;> rfl) (by decide), updateSlice_apply]
  have b0 : (i 0).val < 2 := (i 0).isLt
  have b1 : (i 1).val < 4 := (i 1).isLt
  have b3 : (i 3).val < 512 := (i 3).isLt
  by_cases h : 2048 ≤ (i 2).val ∧ (i 2).val < 3072
  · rw [if_pos h, dif_pos (fun a => match a with
      | ⟨0, _⟩ => ⟨Nat.zero_le _, by show (i 0).val < 0 + 2; omega⟩
      | ⟨1, _⟩ => ⟨Nat.zero_le _, by show (i 1).val < 0 + 4; omega⟩
      | ⟨2, _⟩ => ⟨h.1, by show (i 2).val < 2048 + 1024; omega⟩
      | ⟨3, _⟩ => ⟨Nat.zero_le _, by show (i 3).val < 0 + 512; omega⟩)]
    exact ref_apply _ _ _ _ _ rfl rfl
  · rw [if_neg h, dif_neg (fun hin => h ⟨(hin 2).1, (hin 2).2⟩)]

/-- The call computes the derivative. -/
theorem algebraic : Cert.algebraic_GluWIdeal_GluWRefIdeal (hGluWIdeal := Cert.GluWIdeal.Gen.facts)
    (hGluWRefIdeal := Cert.GluWRefIdeal.Gen.facts) := by
  intro m ρ m' ρ' _ hm
  refine ⟨fun c => (Cert.GluWIdeal.Gen.dats m 0 c).arrAt 2 Cert.GluWIdeal.cfg0.N, Cert.GluWIdeal.Value.run_blocks m ρ, ?_⟩
  refine (θ_run Cert.GluWRefIdeal.defs _ _).mono (fun r h c => ⟨(h c).1.trans ?_, (h c).2⟩) (Cert.GluWRefIdeal.Value.run (F := Ideal) m' ρ')
  obtain ⟨a0, a1, a2, a3⟩ := hm c
  refine ((Cert.GluWRefIdeal.Read.val_main_v7_eq _ _ _).trans ?_).trans (Cert.GluWIdeal.Blk.fin2 m c).symm
  rw [a0, a2, a3]
  exact funext fun i => ref_placed _ _ _ i

end Cert.GluWProof

end
-- ==== Proof.DnY.lean ====
/-
  The DeltaNet branch's projection: what the blocked product of the call leaves, as a sum over the 1024 rows of the weights.
-/
module

public import proofs.«01_k».proof.Proof.Gen.DnYIdeal.Value
public import proofs.«01_k».proof.Proof.Prod
public import proofs.«01_k».proof.Defs
public import proofs.«01_k».proof.Proof.Gen.DnYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.DnYIdeal.Blk

open Cert.DnYIdeal Cert.DnYIdeal.Gen Cert.DnYIdeal.Value Cert.Prod

variable (m : (ℓ : Loc nD τ sig) → Buf (Elt Ideal) ℓ) (c : Dev nD)

/-- The arguments that the call reads: the weights and the branch's rows. -/
abbrev mW : Vec Ideal S1024x2048 .f32 := m ((c.tc : Thread nD τ).loc main_arg1)
abbrev mY : Vec Ideal S8192x1024 .f32 := m ((c.tc : Thread nD τ).loc main_arg0)

/-- The block indices of the windows at a grid point, decided over the grid. -/
theorem idx : ∀ t : Fin grid0.N,
    (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2) := by
  decide +kernel

/-- The block of the branch's rows. -/
theorem blk0 (t : Fin cfg0.N) (y : S1024x1024.Idx) :
    (iblk m c 0 t : Vec Ideal S1024x1024 .bf16) y = tot (mY m c) (1024 * (t.val / 2) + (y 0).val) (y 1).val := by
  unfold iblk
  rw [View.read_apply]
  have hi := (idx t).1
  refine Eq.trans (b := mY m c (((cfg0.win 0).blk t).view.emb y)) ?_ (tot_idx _ _ ?_ ?_)
  · rfl
  · show win0_0.index t 0 * 1024 + 1 * (y 0).val = _; rw [hi.1]; omega
  · show win0_0.index t 1 * 1024 + 1 * (y 1).val = _; rw [hi.2]; omega

/-- The block of the weights. -/
theorem blk1 (t : Fin cfg0.N) (y : S1024x1024.Idx) :
    (iblk m c 1 t : Vec Ideal S1024x1024 .bf16) y = tot (mW m c) (y 0).val (1024 * (t.val % 2) + (y 1).val) := by
  unfold iblk
  rw [View.read_apply]
  have hi := (idx t).2.1
  refine Eq.trans (b := mW m c (((cfg0.win 1).blk t).view.emb y)) ?_ (tot_idx _ _ ?_ ?_)
  · rfl
  · show win0_1.index t 0 * 1024 + 1 * (y 0).val = _; rw [hi.1]; omega
  · show win0_1.index t 1 * 1024 + 1 * (y 1).val = _; rw [hi.2]; omega

/-- One block's product at an entry. -/
theorem pay (x0 : Vec Ideal S1024x1024 .bf16) (x1 : Vec Ideal S1024x1024 .bf16) (y : S1024x1024.Idx) :
    k0_pay1 (F := Ideal) x0 x1 y = ∑ k : Fin 1024, x0 (ix2 (y 0) k) * x1 (ix2 k (y 1)) := by
  unfold k0_pay1
  pointwise

/-- The result at an index. -/
abbrev val (i : S8192x2048.Idx) : EReal := ∑ k ∈ Finset.range 1024, tot (mY m c) (i 0).val k * tot (mW m c) k (i 1).val

/-- A block of the result. -/
theorem out_at (t : Fin cfg0.N) (y : S1024x1024.Idx) (r q : ℕ) (hr : 1024 * (t.val / 2) + (y 0).val = r) (hq : 1024 * (t.val % 2) + (y 1).val = q) :
    (outsAt0 m c t : Vec Ideal S1024x1024 .f32) y = ∑ k ∈ Finset.range 1024, tot (mY m c) r k * tot (mW m c) k q := by
  unfold outsAt0
  frame_out
  rw [pay, ← Fin.sum_univ_eq_sum_range (fun k => tot (mY m c) r k * tot (mW m c) k q), ← hr, ← hq]
  exact Finset.sum_congr rfl fun k _ => congrArg₂ (· * ·) (blk0 m c t _) (blk1 m c t _)

/-- What a point writes back. -/
theorem fl2 (t : Fin cfg0.N) : (dats m 0 c).flushed 2 t
    = ((cfg0.win 2).blk t).view.read (Elt Ideal) (fun i => val m c i : Buf (Elt Ideal) ((c : Thread nD τ).loc main_v2)) := by
  rw [flushed2]
  refine funext fun (j : S1024x1024.Idx) => ?_
  rw [View.read_apply]
  have hi := (idx t).2.2
  refine out_at m c t j _ _ ?_ ?_
  · show _ = win0_2.index t 0 * 1024 + 1 * (j 0).val; rw [hi.1]; omega
  · show _ = win0_2.index t 1 * 1024 + 1 * (j 1).val; rw [hi.2]; omega

/-- The result array: the blocks cover it. -/
theorem fin2 : (dats m 0 c).arrAt 2 cfg0.N = (fun i => val m c i : Buf (Elt Ideal) ((c : Thread nD τ).loc main_v2)) :=
  (dats m 0 c).arrAt_eq_of_cover 2 _ (fun t _ => fl2 m c t) fun i => by
    have b0 : (i 0).val < 8192 := (i 0).isLt
    have b1 : (i 1).val < 2048 := (i 1).isLt
    have hN : cfg0.N = 16 := N_0
    let t : Fin cfg0.N := ⟨(i 0).val / 1024 * 2 + (i 1).val / 1024, by rw [hN]; omega⟩
    have hi := (idx t).2.2
    have e0 : t.val / 2 = (i 0).val / 1024 := by show ((i 0).val / 1024 * 2 + (i 1).val / 1024) / 2 = _; omega
    have e1 : t.val % 2 = (i 1).val / 1024 := by show ((i 0).val / 1024 * 2 + (i 1).val / 1024) % 2 = _; omega
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1, e0]; omega
    | ⟨1, _⟩ => show win0_2.index t 1 * 1024 ≤ (i 1).val ∧ (i 1).val < win0_2.index t 1 * 1024 + 1024; rw [hi.2, e1]; omega

end Cert.DnYIdeal.Blk

namespace Cert.DnYProof

open Cert.Prod

/-- The reference terminates, leaves its arguments alone and has no semaphores. -/
theorem frame_ref : Cert.quiescent_DnYRefIdeal (hDnYRefIdeal := Cert.DnYRefIdeal.Gen.facts) := fun m ρ _ =>
  (θ_run Cert.DnYRefIdeal.defs _ _).mono
    (fun r h => ⟨fun c => (h c).2, sem_eq_zero_of_no_sems rfl r.2⟩) (Cert.DnYRefIdeal.Value.run (F := Ideal) m ρ)

/-- The reference's product is the same sum. -/
theorem ref_apply (x0 : Vec Ideal Cert.DnYRefIdeal.S8192x1024 .f32) (x1 : Vec Ideal Cert.DnYRefIdeal.S1024x2048 .f32) (i : Cert.DnYRefIdeal.S8192x2048.Idx) :
    Cert.DnYRefIdeal.Read.val_main_v0 (F := Ideal) x0 x1 i
      = ∑ k ∈ Finset.range 1024, tot x0 (i 0).val k * tot x1 k (i 1).val := by
  rw [Cert.DnYRefIdeal.Read.val_main_v0_apply, ← Fin.sum_univ_eq_sum_range (fun k => tot x0 (i 0).val k * tot x1 k (i 1).val)]
  exact Finset.sum_congr rfl fun k _ => congrArg₂ (· * ·) (tot_idx _ _ rfl rfl) (tot_idx _ _ rfl rfl)

/-- The call computes the product. -/
theorem algebraic : Cert.algebraic_DnYIdeal_DnYRefIdeal (hDnYIdeal := Cert.DnYIdeal.Gen.facts)
    (hDnYRefIdeal := Cert.DnYRefIdeal.Gen.facts) := by
  intro m ρ m' ρ' _ hm
  refine ⟨fun c => (Cert.DnYIdeal.Gen.dats m 0 c).arrAt 2 Cert.DnYIdeal.cfg0.N, Cert.DnYIdeal.Value.run_blocks m ρ, ?_⟩
  refine (θ_run Cert.DnYRefIdeal.defs _ _).mono (fun r h c => ⟨(h c).1.trans ?_, (h c).2⟩) (Cert.DnYRefIdeal.Value.run (F := Ideal) m' ρ')
  obtain ⟨a0, a1⟩ := hm c
  refine ((Cert.DnYRefIdeal.Read.val_main_v0_eq _ _).trans ?_).trans (Cert.DnYIdeal.Blk.fin2 m c).symm
  rw [a0, a1]
  exact funext fun i => ref_apply _ _ i

end Cert.DnYProof

end
-- ==== Proof.DnX.lean ====
/-
  The gradient of the DeltaNet branch projection's input: what the blocked product of the call leaves, as a sum over the 2048 columns.
-/
module

public import proofs.«01_k».proof.Proof.Gen.DnXIdeal.Value
public import proofs.«01_k».proof.Proof.Prod
public import proofs.«01_k».proof.Defs
public import proofs.«01_k».proof.Proof.Gen.DnXRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.DnXIdeal.Blk

open Cert.DnXIdeal Cert.DnXIdeal.Gen Cert.DnXIdeal.Value Cert.Prod

variable (m : (ℓ : Loc nD τ sig) → Buf (Elt Ideal) ℓ) (c : Dev nD)

/-- The arguments that the call reads: the weights and the cotangent. -/
abbrev mW : Vec Ideal S1024x2048 .f32 := m ((c.tc : Thread nD τ).loc main_arg1)
abbrev mG : Vec Ideal S8192x2048 .f32 := m ((c.tc : Thread nD τ).loc main_arg2)

/-- The block indices of the windows at a grid point, decided over the grid. -/
theorem idx : ∀ t : Fin grid0.N,
    (win0_0.index t 0 = t.val / 1 ∧ win0_0.index t 1 = 0)
    ∧ (win0_1.index t 0 = t.val % 1 ∧ win0_1.index t 1 = 0)
    ∧ (win0_2.index t 0 = t.val / 1 ∧ win0_2.index t 1 = t.val % 1) := by
  decide +kernel

/-- The block of the cotangent. -/
theorem blk0 (t : Fin cfg0.N) (y : S1024x2048.Idx) :
    (iblk m c 0 t : Vec Ideal S1024x2048 .bf16) y = tot (mG m c) (1024 * (t.val / 1) + (y 0).val) (y 1).val := by
  unfold iblk
  rw [View.read_apply]
  have hi := (idx t).1
  refine Eq.trans (b := mG m c (((cfg0.win 0).blk t).view.emb y)) ?_ (tot_idx _ _ ?_ ?_)
  · rfl
  · show win0_0.index t 0 * 1024 + 1 * (y 0).val = _; rw [hi.1]; omega
  · show win0_0.index t 1 * 2048 + 1 * (y 1).val = _; rw [hi.2]; omega

/-- The block of the weights. -/
theorem blk1 (t : Fin cfg0.N) (y : S1024x2048.Idx) :
    (iblk m c 1 t : Vec Ideal S1024x2048 .bf16) y = tot (mW m c) (1024 * (t.val % 1) + (y 0).val) (y 1).val := by
  unfold iblk
  rw [View.read_apply]
  have hi := (idx t).2.1
  refine Eq.trans (b := mW m c (((cfg0.win 1).blk t).view.emb y)) ?_ (tot_idx _ _ ?_ ?_)
  · rfl
  · show win0_1.index t 0 * 1024 + 1 * (y 0).val = _; rw [hi.1]; omega
  · show win0_1.index t 1 * 2048 + 1 * (y 1).val = _; rw [hi.2]; omega

/-- One block's product at an entry. -/
theorem pay (x0 : Vec Ideal S1024x2048 .bf16) (x1 : Vec Ideal S1024x2048 .bf16) (y : S1024x1024.Idx) :
    k0_pay1 (F := Ideal) x0 x1 y = ∑ k : Fin 2048, x0 (ix2 (y 0) k) * x1 (ix2 (y 1) k) := by
  unfold k0_pay1
  pointwise

/-- The result at an index. -/
abbrev val (i : S8192x1024.Idx) : EReal := ∑ k ∈ Finset.range 2048, tot (mG m c) (i 0).val k * tot (mW m c) (i 1).val k

/-- A block of the result. -/
theorem out_at (t : Fin cfg0.N) (y : S1024x1024.Idx) (r q : ℕ) (hr : 1024 * (t.val / 1) + (y 0).val = r) (hq : 1024 * (t.val % 1) + (y 1).val = q) :
    (outsAt0 m c t : Vec Ideal S1024x1024 .f32) y = ∑ k ∈ Finset.range 2048, tot (mG m c) r k * tot (mW m c) q k := by
  unfold outsAt0
  frame_out
  rw [pay, ← Fin.sum_univ_eq_sum_range (fun k => tot (mG m c) r k * tot (mW m c) q k), ← hr, ← hq]
  exact Finset.sum_congr rfl fun k _ => congrArg₂ (· * ·) (blk0 m c t _) (blk1 m c t _)

/-- What a point writes back. -/
theorem fl2 (t : Fin cfg0.N) : (dats m 0 c).flushed 2 t
    = ((cfg0.win 2).blk t).view.read (Elt Ideal) (fun i => val m c i : Buf (Elt Ideal) ((c : Thread nD τ).loc main_v2)) := by
  rw [flushed2]
  refine funext fun (j : S1024x1024.Idx) => ?_
  rw [View.read_apply]
  have hi := (idx t).2.2
  refine out_at m c t j _ _ ?_ ?_
  · show _ = win0_2.index t 0 * 1024 + 1 * (j 0).val; rw [hi.1]; omega
  · show _ = win0_2.index t 1 * 1024 + 1 * (j 1).val; rw [hi.2]; omega

/-- The result array: the blocks cover it. -/
theorem fin2 : (dats m 0 c).arrAt 2 cfg0.N = (fun i => val m c i : Buf (Elt Ideal) ((c : Thread nD τ).loc main_v2)) :=
  (dats m 0 c).arrAt_eq_of_cover 2 _ (fun t _ => fl2 m c t) fun i => by
    have b0 : (i 0).val < 8192 := (i 0).isLt
    have b1 : (i 1).val < 1024 := (i 1).isLt
    have hN : cfg0.N = 8 := N_0
    let t : Fin cfg0.N := ⟨(i 0).val / 1024 * 1 + (i 1).val / 1024, by rw [hN]; omega⟩
    have hi := (idx t).2.2
    have e0 : t.val / 1 = (i 0).val / 1024 := by show ((i 0).val / 1024 * 1 + (i 1).val / 1024) / 1 = _; omega
    have e1 : t.val % 1 = (i 1).val / 1024 := by show ((i 0).val / 1024 * 1 + (i 1).val / 1024) % 1 = _; omega
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1, e0]; omega
    | ⟨1, _⟩ => show win0_2.index t 1 * 1024 ≤ (i 1).val ∧ (i 1).val < win0_2.index t 1 * 1024 + 1024; rw [hi.2, e1]; omega

end Cert.DnXIdeal.Blk

namespace Cert.DnXProof

open Cert.Prod

/-- The reference terminates, leaves its arguments alone and has no semaphores. -/
theorem frame_ref : Cert.quiescent_DnXRefIdeal (hDnXRefIdeal := Cert.DnXRefIdeal.Gen.facts) := fun m ρ _ =>
  (θ_run Cert.DnXRefIdeal.defs _ _).mono
    (fun r h => ⟨fun c => (h c).2, sem_eq_zero_of_no_sems rfl r.2⟩) (Cert.DnXRefIdeal.Value.run (F := Ideal) m ρ)

/-- The reference's product is the same sum. -/
theorem ref_apply (x1 : Vec Ideal Cert.DnXRefIdeal.S1024x2048 .f32) (x2 : Vec Ideal Cert.DnXRefIdeal.S8192x2048 .f32) (i : Cert.DnXRefIdeal.S8192x1024.Idx) :
    Cert.DnXRefIdeal.Read.val_main_v3 (F := Ideal) x1 x2 i
      = ∑ k ∈ Finset.range 2048, tot x2 (i 0).val k * tot x1 (i 1).val k := by
  rw [Cert.DnXRefIdeal.Read.val_main_v3_apply, ← Fin.sum_univ_eq_sum_range (fun k => tot x2 (i 0).val k * tot x1 (i 1).val k)]
  exact Finset.sum_congr rfl fun k _ => congrArg₂ (· * ·) (tot_idx _ _ rfl rfl) (tot_idx _ _ rfl rfl)

/-- The call computes the derivative. -/
theorem algebraic : Cert.algebraic_DnXIdeal_DnXRefIdeal (hDnXIdeal := Cert.DnXIdeal.Gen.facts)
    (hDnXRefIdeal := Cert.DnXRefIdeal.Gen.facts) := by
  intro m ρ m' ρ' _ hm
  refine ⟨fun c => (Cert.DnXIdeal.Gen.dats m 0 c).arrAt 2 Cert.DnXIdeal.cfg0.N, Cert.DnXIdeal.Value.run_blocks m ρ, ?_⟩
  refine (θ_run Cert.DnXRefIdeal.defs _ _).mono (fun r h c => ⟨(h c).1.trans ?_, (h c).2⟩) (Cert.DnXRefIdeal.Value.run (F := Ideal) m' ρ')
  obtain ⟨a0, a1, a2⟩ := hm c
  refine ((Cert.DnXRefIdeal.Read.val_main_v3_eq _ _).trans ?_).trans (Cert.DnXIdeal.Blk.fin2 m c).symm
  rw [a1, a2]
  exact funext fun i => ref_apply _ _ i

end Cert.DnXProof

end
-- ==== Proof.DnW.lean ====
/-
  The gradient of the DeltaNet branch's projection's weights: what the blocked product of the call leaves in the layer's part of the placed
  array, as a sum over the 8192 rows.
-/
module

public import proofs.«01_k».proof.Proof.Gen.DnWIdeal.Value
public import proofs.«01_k».proof.Proof.Prod
public import proofs.«01_k».proof.Defs
public import proofs.«01_k».proof.Proof.Gen.DnWRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.DnWIdeal.Blk

open Cert.DnWIdeal Cert.DnWIdeal.Gen Cert.DnWIdeal.Value Cert.Prod

variable (m : (ℓ : Loc nD τ sig) → Buf (Elt Ideal) ℓ) (c : Dev nD)

/-- The arguments that the call reads: the branch's rows, the cotangent and the
    array that the layer's part is placed in. -/
abbrev mH : Vec Ideal S8192x1024 .f32 := m ((c.tc : Thread nD τ).loc main_arg0)
abbrev mG : Vec Ideal S8192x2048 .f32 := m ((c.tc : Thread nD τ).loc main_arg2)
abbrev mB : Vec Ideal S2x4x4096x256 .bf16 := m ((c.tc : Thread nD τ).loc main_arg3)

/-- The block indices of the windows at a grid point, decided over the grid. -/
theorem idx : ∀ t : Fin grid0.N,
    (win0_0.index t 0 = t.val % 4 ∧ win0_0.index t 1 = 0)
    ∧ (win0_1.index t 0 = t.val % 4 ∧ win0_1.index t 1 = t.val / 4)
    ∧ (win0_2.index t 0 = t.val / 4 % 2 ∧ win0_2.index t 1 = t.val / 4 / 2 ∧ win0_2.index t 2 = 2 ∧ win0_2.index t 3 = 0) := by
  decide +kernel

/-- The block of the branch's rows. -/
theorem blk0 (t : Fin cfg0.N) (y : S2048x1024.Idx) :
    (iblk m c 0 t : Vec Ideal S2048x1024 .bf16) y = tot (mH m c) (2048 * (t.val % 4) + (y 0).val) (y 1).val := by
  unfold iblk
  rw [View.read_apply]
  have hi := (idx t).1
  refine Eq.trans (b := mH m c (((cfg0.win 0).blk t).view.emb y)) ?_ (tot_idx _ _ ?_ ?_)
  · rfl
  · show win0_0.index t 0 * 2048 + 1 * (y 0).val = _; rw [hi.1]; omega
  · show win0_0.index t 1 * 1024 + 1 * (y 1).val = _; rw [hi.2]; omega

/-- The block of the cotangent. -/
theorem blk1 (t : Fin cfg0.N) (y : S2048x256.Idx) :
    (iblk m c 1 t : Vec Ideal S2048x256 .bf16) y = tot (mG m c) (2048 * (t.val % 4) + (y 0).val) (256 * (t.val / 4) + (y 1).val) := by
  unfold iblk
  rw [View.read_apply]
  have hi := (idx t).2.1
  refine Eq.trans (b := mG m c (((cfg0.win 1).blk t).view.emb y)) ?_ (tot_idx _ _ ?_ ?_)
  · rfl
  · show win0_1.index t 0 * 2048 + 1 * (y 0).val = _; rw [hi.1]; omega
  · show win0_1.index t 1 * 256 + 1 * (y 1).val = _; rw [hi.2]; omega

/-- One block's product at an entry. -/
theorem pay (x0 : Vec Ideal S2048x1024 .bf16) (x1 : Vec Ideal S2048x256 .bf16) (y : S1024x256.Idx) :
    k0_pay1 (F := Ideal) x0 x1 y = ∑ k : Fin 2048, x0 (ix2 k (y 0)) * x1 (ix2 k (y 1)) := by
  unfold k0_pay1
  pointwise

/-- The product's terms at an entry of the block that run `q` of points writes. -/
abbrev term (q : ℕ) (y : S1024x256.Idx) (k : ℕ) : EReal :=
  tot (mH m c) k (y 0).val * tot (mG m c) k (256 * (q) + (y 1).val)

/-- What a point's product adds. -/
theorem pay_at (t : Fin cfg0.N) (y : S1024x256.Idx) :
    k0_pay1 (F := Ideal) (iblk m c 0 t) (iblk m c 1 t) y = stretch 2048 (term m c (t.val / 4) y) (t.val % 4) := by
  rw [pay, stretch, ← Fin.sum_univ_eq_sum_range]
  exact Finset.sum_congr rfl fun k _ => congrArg₂ (· * ·) (blk0 m c t _) (blk1 m c t _)

/-- The row and the column inside a block of the placed array. -/
abbrev inner (z : S1x1x1024x256.Idx) : S1024x256.Idx := fun a => match a with
  | ⟨0, _⟩ => ⟨(z 2).val, (z 2).isLt⟩
  | ⟨1, _⟩ => ⟨(z 3).val, (z 3).isLt⟩

/-- What a first point stores, and what a later point stores over `v`. -/
theorem pay2_at (x0 : Vec Ideal S2048x1024 .bf16) (x1 : Vec Ideal S2048x256 .bf16) (y : S1024x256.Idx) : k0_pay2 (F := Ideal) x0 x1 y = k0_pay1 (F := Ideal) x0 x1 y := by
  unfold k0_pay2; pointwise
theorem pay3_at (x0 : Vec Ideal S2048x1024 .bf16) (x1 : Vec Ideal S2048x256 .bf16) (v : Vec Ideal S1024x256 .f32) (y : S1024x256.Idx) :
    k0_pay3 (F := Ideal) x0 x1 v y = v y + k0_pay1 (F := Ideal) x0 x1 y := by
  unfold k0_pay3; pointwise
theorem pay4_at (x0 : Vec Ideal S2048x1024 .bf16) (x1 : Vec Ideal S2048x256 .bf16) (v : Vec Ideal S1024x256 .f32) (z : S1x1x1024x256.Idx) :
    k0_pay4 (F := Ideal) x0 x1 v z = v (inner z) + k0_pay1 (F := Ideal) x0 x1 (inner z) := by
  unfold k0_pay4
  refine (shapeCast_apply _ _ z (inner z) ?_).trans rfl
  have h0 : (z 0).val < 1 := (z 0).isLt
  have h1 : (z 1).val < 1 := (z 1).isLt
  rw [Shape.rowMajor_val_two, Shape.rowMajor_val_four]
  show (z 2).val * 256 + (z 3).val = (((z 0).val * 1 + (z 1).val) * 1024 + (z 2).val) * 256 + (z 3).val
  omega

/-- The running sum after a first point and after a middle one, and the block that the last point leaves. -/
theorem first_at (t : Fin cfg0.N) (h0 : t.val % 4 = 0) (y : S1024x256.Idx) :
    (outsAt0 m c t.val t.isLt).2 y = stretch 2048 (term m c (t.val / 4) y) (t.val % 4) := by
  rw [outsAt0_A m c t h0 (by omega) (by omega), ← pay_at m c t]
  frame_out
  exact pay2_at _ _ y
theorem mid_at (t : Fin cfg0.N) (h1 : 1 ≤ t.val % 4) (h2 : t.val % 4 + 2 ≤ 4) (h' : t.val - 1 < cfg0.N) (y : S1024x256.Idx) :
    (outsAt0 m c t.val t.isLt).2 y = (outsAt0 m c (t.val - 1) h').2 y + stretch 2048 (term m c (t.val / 4) y) (t.val % 4) := by
  rw [outsAt0_B m c t (by omega) (by omega) (by omega), ← pay_at m c t]
  frame_out
  refine (pay3_at _ _ _ y).trans ?_
  rw [(Memref.isWhole_whole _).read_unread]
theorem last_at (t : Fin cfg0.N) (h1 : t.val % 4 + 1 = 4) (h' : t.val - 1 < cfg0.N) (z : S1x1x1024x256.Idx) :
    (outsAt0 m c t.val t.isLt).1 z = (outsAt0 m c (t.val - 1) h').2 (inner z) + stretch 2048 (term m c (t.val / 4) (inner z)) (t.val % 4) := by
  rw [outsAt0_C m c t (by omega) (by omega) (by omega), ← pay_at m c t]
  frame_out
  refine (pay4_at _ _ _ z).trans ?_
  rw [(Memref.isWhole_whole _).read_unread]

/-- A block of the result, after its last point. -/
theorem out_last (n : ℕ) (h : n < cfg0.N) (hl : n % 4 + 1 = 4) (z : S1x1x1024x256.Idx) :
    (outsAt0 m c n h).1 z = ∑ k ∈ Finset.range 8192, term m c (n / 4) (inner z) k :=
  run_total (N := cfg0.N) 4 2048 (by decide) (fun n h z => (outsAt0 m c n h).2 (inner z)) (fun n h => (outsAt0 m c n h).1)
    (fun q z => term m c q (inner z)) (fun n h h0 z => first_at m c ⟨n, h⟩ h0 (inner z))
    (fun n h h' h1 h2 z => mid_at m c ⟨n, h⟩ h1 h2 h' (inner z)) (fun n h h' h1 z => last_at m c ⟨n, h⟩ h1 h' z) n h hl z

/-- An entry of the product. -/
abbrev cell (r q : ℕ) : EReal := ∑ k ∈ Finset.range 8192, tot (mH m c) k r * tot (mG m c) k q

/-- The placed array: the layer's 1024 rows of the product, each chip's columns in turn, and the other rows as they came. -/
abbrev val (i : S2x4x4096x256.Idx) : EReal :=
  if 2048 ≤ (i 2).val ∧ (i 2).val < 3072 then cell m c ((i 2).val - 2048) (256 * (2 * (i 1).val + (i 0).val) + (i 3).val) else mB m c i

theorem val_in (i : S2x4x4096x256.Idx) (r q : ℕ) (hr : r < 1024) (h2 : (i 2).val = 2048 + r) (hq : 256 * (2 * (i 1).val + (i 0).val) + (i 3).val = q) :
    cell m c r q = val m c i := by
  have e : (i 2).val - 2048 = r := by omega
  rw [val, if_pos (by omega), hq, e]

/-- What a last point writes back. -/
theorem fl2 (t : Fin cfg0.N) (hf : (cfg0.win 2).flush t = true) : (dats m 0 c).flushed 2 t
    = ((cfg0.win 2).blk t).view.read (Elt Ideal) (fun i => val m c i : Buf (Elt Ideal) ((c : Thread nD τ).loc main_v2)) := by
  have h3 := (flush0_2 t).mp hf
  have hN : t.val < 32 := lt_of_lt_of_eq t.isLt N_0
  rw [flushed2]
  refine funext fun (j : S1x1x1024x256.Idx) => ?_
  rw [View.read_apply]
  have hi := (idx t).2.2
  have j0 : (j 0).val < 1 := (j 0).isLt
  have j1 : (j 1).val < 1 := (j 1).isLt
  have j2 : (j 2).val < 1024 := (j 2).isLt
  refine (out_last m c t.val t.isLt (by omega) j).trans (val_in m c _ _ _ ?_ ?_ ?_)
  · exact j2
  · show win0_2.index t 2 * 1024 + 1 * (j 2).val = 2048 + (j 2).val; rw [hi.2.2.1]; omega
  · show 256 * (2 * (win0_2.index t 1 * 1 + 1 * (j 1).val) + (win0_2.index t 0 * 1 + 1 * (j 0).val)) + (win0_2.index t 3 * 256 + 1 * (j 3).val) = 256 * (t.val / 4) + (j 3).val
    rw [hi.1, hi.2.1, hi.2.2.2]; omega

/-- The result array. -/
theorem fin2 : (dats m 0 c).arrAt 2 cfg0.N = (fun i => val m c i : Buf (Elt Ideal) ((c : Thread nD τ).loc main_v2)) := by
  funext (i : S2x4x4096x256.Idx)
  rw [(dats m 0 c).arrAt_eq_piecewise 2 _ (fun t hf => fl2 m c t hf)]
  split
  · rfl
  · rename_i hno
    have b0 : (i 0).val < 2 := (i 0).isLt
    have b1 : (i 1).val < 4 := (i 1).isLt
    have b3 : (i 3).val < 256 := (i 3).isLt
    have hN : cfg0.N = 32 := N_0
    refine Eq.trans ?_ (if_neg ?_).symm
    · rw [A_eq]; rfl
    · intro h
      refine hno ⟨⟨(2 * (i 1).val + (i 0).val) * 4 + 3, by rw [hN]; omega⟩, (flush0_2 _).mpr ?_, ?_⟩
      · show ((2 * (i 1).val + (i 0).val) * 4 + 3) % 4 = 3; omega
      · generalize ht : (⟨(2 * (i 1).val + (i 0).val) * 4 + 3, _⟩ : Fin cfg0.N) = t
        have hv : t.val = (2 * (i 1).val + (i 0).val) * 4 + 3 := by rw [← ht]
        have hi := (idx t).2.2
        show i ∈ ((View.whole main_v2).slice (win0_2.rect t)).set
        rw [View.set_slice_whole, Rect.mem_set_unit]
        intro a
        match a with
        | ⟨0, _⟩ => show win0_2.index t 0 * 1 ≤ (i 0).val ∧ (i 0).val < win0_2.index t 0 * 1 + 1; rw [hi.1]; omega
        | ⟨1, _⟩ => show win0_2.index t 1 * 1 ≤ (i 1).val ∧ (i 1).val < win0_2.index t 1 * 1 + 1; rw [hi.2.1]; omega
        | ⟨2, _⟩ => show win0_2.index t 2 * 1024 ≤ (i 2).val ∧ (i 2).val < win0_2.index t 2 * 1024 + 1024; rw [hi.2.2.1]; omega
        | ⟨3, _⟩ => show win0_2.index t 3 * 256 ≤ (i 3).val ∧ (i 3).val < win0_2.index t 3 * 256 + 256; rw [hi.2.2.2]; omega

end Cert.DnWIdeal.Blk

namespace Cert.DnWProof

open Cert.Prod

/-- The reference terminates, leaves its arguments alone and has no semaphores. -/
theorem frame_ref : Cert.quiescent_DnWRefIdeal (hDnWRefIdeal := Cert.DnWRefIdeal.Gen.facts) := fun m ρ _ =>
  (θ_run Cert.DnWRefIdeal.defs _ _).mono
    (fun r h => ⟨fun c => (h c).2, sem_eq_zero_of_no_sems rfl r.2⟩) (Cert.DnWRefIdeal.Value.run (F := Ideal) m ρ)

/-- The reference's product is the same sum. -/
theorem ref_apply (x0 : Vec Ideal Cert.DnWRefIdeal.S8192x1024 .f32) (x2 : Vec Ideal Cert.DnWRefIdeal.S8192x2048 .f32) (i : Cert.DnWRefIdeal.S2x4x1024x256.Idx)
    (r q : ℕ) (hr : (i 2).val = r) (hq : 256 * (2 * (i 1).val + (i 0).val) + (i 3).val = q) :
    Cert.DnWRefIdeal.Read.val_main_v6 (F := Ideal) x0 x2 i = ∑ k ∈ Finset.range 8192, tot x0 k r * tot x2 k q := by
  rw [Cert.DnWRefIdeal.Read.val_main_v6_apply, Cert.DnWRefIdeal.Read.val_main_v5_apply, Cert.DnWRefIdeal.Read.val_main_v4_apply,
    Cert.DnWRefIdeal.Read.val_main_v2_apply]
  refine (Cert.DnWRefIdeal.Read.val_main_v1_apply _ _ _).trans ?_
  rw [← Fin.sum_univ_eq_sum_range (fun k => tot x0 k r * tot x2 k q)]
  have b0 : (i 0).val < 2 := (i 0).isLt
  have b1 : (i 1).val < 4 := (i 1).isLt
  have b3 : (i 3).val < 256 := (i 3).isLt
  refine Finset.sum_congr rfl fun k _ => (congrArg₂ (· * ·) (tot_idx _ _ rfl ?_) (tot_idx _ _ rfl ?_)).trans (mul_comm _ _)
  · show ((((i 2).val * 4 + (i 1).val) * 2 + (i 0).val) * 256 + (i 3).val) % 2048 = q; omega
  · show ((((i 2).val * 4 + (i 1).val) * 2 + (i 0).val) * 256 + (i 3).val) / 2048 = r; omega

/-- The reference's placed array. -/
theorem ref_placed (x0 : Vec Ideal Cert.DnWRefIdeal.S8192x1024 .f32) (x2 : Vec Ideal Cert.DnWRefIdeal.S8192x2048 .f32)
    (x3 : Vec Ideal Cert.DnWRefIdeal.S2x4x4096x256 .bf16) (i : Cert.DnWRefIdeal.S2x4x4096x256.Idx) :
    Cert.DnWRefIdeal.Read.val_main_v7 (F := Ideal) x0 x2 x3 i
      = if 2048 ≤ (i 2).val ∧ (i 2).val < 3072 then ∑ k ∈ Finset.range 8192, tot x0 k ((i 2).val - 2048) * tot x2 k (256 * (2 * (i 1).val + (i 0).val) + (i 3).val) else x3 i := by
  unfold Cert.DnWRefIdeal.Read.val_main_v7
  rw [Host.dynamicUpdateSlice_eq_updateSlice _ _ _ _ ![0, 0, 2048, 0] (fun a => by fin_cases a <;> rfl) (by decide), updateSlice_apply]
  have b0 : (i 0).val < 2 := (i 0).isLt
  have b1 : (i 1).val < 4 := (i 1).isLt
  have b3 : (i 3).val < 256 := (i 3).isLt
  by_cases h : 2048 ≤ (i 2).val ∧ (i 2).val < 3072
  · rw [if_pos h, dif_pos (fun a => match a with
      | ⟨0, _⟩ => ⟨Nat.zero_le _, by show (i 0).val < 0 + 2; omega⟩
      | ⟨1, _⟩ => ⟨Nat.zero_le _, by show (i 1).val < 0 + 4; omega⟩
      | ⟨2, _⟩ => ⟨h.1, by show (i 2).val < 2048 + 1024; omega⟩
      | ⟨3, _⟩ => ⟨Nat.zero_le _, by show (i 3).val < 0 + 256; omega⟩)]
    exact ref_apply _ _ _ _ _ rfl rfl
  · rw [if_neg h, dif_neg (fun hin => h ⟨(hin 2).1, (hin 2).2⟩)]

/-- The call computes the derivative. -/
theorem algebraic : Cert.algebraic_DnWIdeal_DnWRefIdeal (hDnWIdeal := Cert.DnWIdeal.Gen.facts)
    (hDnWRefIdeal := Cert.DnWRefIdeal.Gen.facts) := by
  intro m ρ m' ρ' _ hm
  refine ⟨fun c => (Cert.DnWIdeal.Gen.dats m 0 c).arrAt 2 Cert.DnWIdeal.cfg0.N, Cert.DnWIdeal.Value.run_blocks m ρ, ?_⟩
  refine (θ_run Cert.DnWRefIdeal.defs _ _).mono (fun r h c => ⟨(h c).1.trans ?_, (h c).2⟩) (Cert.DnWRefIdeal.Value.run (F := Ideal) m' ρ')
  obtain ⟨a0, a1, a2, a3⟩ := hm c
  refine ((Cert.DnWRefIdeal.Read.val_main_v7_eq _ _ _).trans ?_).trans (Cert.DnWIdeal.Blk.fin2 m c).symm
  rw [a0, a2, a3]
  exact funext fun i => ref_placed _ _ _ i

end Cert.DnWProof

end
-- ==== Proof.NormSpec.lean ====
/-
  Normalisation by the root of the mean square of a row, and its derivative: the formulas, over the extended reals.
-/
module

public import Idealize.ShloMosaic.Lib.Pointwise

@[expose] public section

noncomputable section

namespace Cert.NormSpec

open Idealize.ShloMosaic

/-- A row of weights at a column, zero past the end. -/
def wt {n : ℕ} (w : (⟨1, ![n]⟩ : Shape).Idx → EReal) (p : ℕ) : EReal := if h : p < n then w (ix1 (⟨p, h⟩ : Fin n)) else 0
theorem wt_in {n : ℕ} (w : (⟨1, ![n]⟩ : Shape).Idx → EReal) (k : Fin n) : w (ix1 k) = wt w k.val := by
  unfold wt; rw [dif_pos k.isLt]

/-- The number added to the mean square, and minus one half. -/
def ep : EReal := Ideal.ofBits FTy.f32 897988541#32
def mh : EReal := Ideal.ofBits FTy.f32 3204448256#32

/-- The sum of the squares of `n` entries over `cn`, plus `ep`; its inverse square root. -/
def ms (n : ℕ) (cn : EReal) (X : ℕ → EReal) : EReal := Ideal.div (∑ k : Fin n, X k.val * X k.val) cn + ep
def rs (n : ℕ) (cn : EReal) (X : ℕ → EReal) : EReal := Ideal.rsqrt (ms n cn X)

/-- What comes back through the mean, when `H` arrives at the normalised row. -/
def back (n : ℕ) (cn : EReal) (X H : ℕ → EReal) : EReal :=
  Ideal.div ((∑ k : Fin n, X k.val * H k.val) * (mh * Ideal.div (rs n cn X) (ms n cn X))) cn

/-- The cotangent of the row at entry `p`. -/
def dx (n : ℕ) (cn : EReal) (X H : ℕ → EReal) (p : ℕ) : EReal :=
  H p * rs n cn X + X p * back n cn X H + back n cn X H * X p

end Cert.NormSpec

end
-- ==== Proof.NormB.lean ====
/-
  The gradient of the normalisation before the feed-forward block, with the residual's cotangent added.
-/
module

public import proofs.«01_k».proof.Proof.Gen.NormBIdeal.Value
public import proofs.«01_k».proof.Proof.Prod
public import proofs.«01_k».proof.Proof.NormSpec
public import proofs.«01_k».proof.Defs
public import proofs.«01_k».proof.Proof.Gen.NormBRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.NormBSpec

open Cert.Prod Cert.NormSpec

/-- The row length as the programs spell it. -/
def cn : EReal := Ideal.ofBits FTy.f32 1157627904#32

section

variable (x : (⟨2, ![8192, 2048]⟩ : Shape).Idx → EReal) (w : ℕ → EReal) (g a : (⟨2, ![8192, 2048]⟩ : Shape).Idx → EReal)

/-- The cotangent of the input at row `r` and column `p`, `a` the residual's. -/
def o0 (r p : ℕ) : EReal := dx 2048 cn (tot x r) (fun k => tot g r k * w k) p + tot a r p

/-- What row `r` contributes to the weight's cotangent at column `p`. -/
def o1 (p r : ℕ) : EReal := tot x r p * rs 2048 cn (tot x r) * tot g r p

/-- The weight's cotangent at column `p`. -/
@[irreducible] def o1sum (p : ℕ) : EReal := ∑ r ∈ Finset.range 8192, o1 x g p r
theorem o1sum_of {n : ℕ} (hn : n = 8192) {p q : ℕ} (hp : p = q) : ∑ r ∈ Finset.range n, o1 x g p r = o1sum x g q := by
  subst hn hp; unfold o1sum; rfl

end

end Cert.NormBSpec

namespace Cert.NormBIdeal.Blk

open Cert.NormBIdeal Cert.NormBIdeal.Gen Cert.NormBIdeal.Value Cert.Prod Cert.NormSpec Cert.NormBSpec

variable (m : (ℓ : Loc nD τ sig) → Buf (Elt Ideal) ℓ) (c : Dev nD)

/-- The arguments: the rows, the weight, the cotangent and the residual's. -/
abbrev mX : Vec Ideal S8192x2048 .f32 := m ((c.tc : Thread nD τ).loc main_arg0)
abbrev mW : Vec Ideal S2048 .f32 := m ((c.tc : Thread nD τ).loc main_arg1)
abbrev mG : Vec Ideal S8192x2048 .f32 := m ((c.tc : Thread nD τ).loc main_arg2)
abbrev mA : Vec Ideal S8192x2048 .f32 := m ((c.tc : Thread nD τ).loc main_arg3)

/-- The block indices of the windows at a grid point, decided over the grid. -/
theorem idx : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0) := by
  decide +kernel

/-- The blocks of the arguments at a point. -/
theorem blk0 (t : Fin cfg0.N) (y : S256x2048.Idx) :
    (iblk m c 0 t : Vec Ideal S256x2048 .f32) y = tot (mX m c) (256 * t.val + (y 0).val) (y 1).val := by
  unfold iblk
  rw [View.read_apply]
  have hi := (idx t).1
  refine Eq.trans (b := mX m c (((cfg0.win 0).blk t).view.emb y)) (congrFun (V_main_arg0 m c) _) (tot_idx _ _ ?_ ?_)
  · show win0_0.index t 0 * 256 + 1 * (y 0).val = _; rw [hi.1]; omega
  · show win0_0.index t 1 * 2048 + 1 * (y 1).val = _; rw [hi.2]; omega
theorem blk2 (t : Fin cfg0.N) (y : S256x2048.Idx) :
    (iblk m c 2 t : Vec Ideal S256x2048 .f32) y = tot (mG m c) (256 * t.val + (y 0).val) (y 1).val := by
  unfold iblk
  rw [View.read_apply]
  have hi := (idx t).2.2.1
  refine Eq.trans (b := mG m c (((cfg0.win 2).blk t).view.emb y)) (congrFun (V_main_arg2 m c) _) (tot_idx _ _ ?_ ?_)
  · show win0_2.index t 0 * 256 + 1 * (y 0).val = _; rw [hi.1]; omega
  · show win0_2.index t 1 * 2048 + 1 * (y 1).val = _; rw [hi.2]; omega
theorem blk3 (t : Fin cfg0.N) (y : S256x2048.Idx) :
    (iblk m c 3 t : Vec Ideal S256x2048 .f32) y = tot (mA m c) (256 * t.val + (y 0).val) (y 1).val := by
  unfold iblk
  rw [View.read_apply]
  have hi := (idx t).2.2.2.1
  refine Eq.trans (b := mA m c (((cfg0.win 3).blk t).view.emb y)) (congrFun (V_main_arg3 m c) _) (tot_idx _ _ ?_ ?_)
  · show win0_3.index t 0 * 256 + 1 * (y 0).val = _; rw [hi.1]; omega
  · show win0_3.index t 1 * 2048 + 1 * (y 1).val = _; rw [hi.2]; omega

/-- The host lays the weight out as one row. -/
theorem V_w : (V m c main_v0 : Vec Ideal S1x2048 .f32) = broadcastInDim S1x2048 ![1] bcast_S2048_S1x2048_1 (mW m c) := by
  unfold V
  after_results_simp <;> rfl
theorem blk1 (t : Fin cfg0.N) (y : S1x2048.Idx) : (iblk m c 1 t : Vec Ideal S1x2048 .f32) y = wt (mW m c) (y 1).val := by
  unfold iblk
  rw [View.read_apply]
  have hi := (idx t).2.1
  have h1 : (y 1).val < 2048 := (y 1).isLt
  refine (congrFun (V_w m c) (((cfg0.win 1).blk t).view.emb y)).trans ?_
  unfold wt
  rw [dif_pos h1]
  refine broadcastInDim_apply _ _ _ _ _ (fun a => match a with | ⟨0, _⟩ => ?_)
  show (y 1).val = if (2048 : ℕ) = 1 then 0 else win0_1.index t 1 * 2048 + 1 * (y 1).val
  rw [if_neg (by decide), hi.2]; omega

/-- The mean square of a row, what a block's rows contribute to the weight's cotangent, and the row's cotangent. -/
theorem pay2_at (x : Vec Ideal S256x2048 .f32) (y : S256x1.Idx) {X : ℕ → EReal} (hX : ∀ k : Fin 2048, x (ix2 (y 0) k) = X k.val) :
    k0_pay2 (F := Ideal) x y = ms 2048 cn X := by
  unfold k0_pay2 ms cn ep
  pointwise
  simp only [hX]
theorem pay4_at (x g : Vec Ideal S256x2048 .f32) (y : S1x2048.Idx) {X G : ℕ → ℕ → EReal}
    (hX : ∀ (e : Fin 256) (k : Fin 2048), x (ix2 e k) = X e.val k.val) (hG : ∀ (e : Fin 256) (k : Fin 2048), g (ix2 e k) = G e.val k.val) :
    k0_pay4 (F := Ideal) x g y = ∑ e : Fin 256, X e.val (y 1).val * rs 2048 cn (X e.val) * G e.val (y 1).val := by
  unfold k0_pay4 k0_pay3 rs
  pointwise
  refine Finset.sum_congr rfl fun e _ => ?_
  have e1 : x (ix2 e (y 1)) = X e.val (y 1).val := hX e (y 1)
  have e2 : g (ix2 e (y 1)) = G e.val (y 1).val := hG e (y 1)
  rw [pay2_at x (ix2 e 0) (fun k => hX e k), e1, e2]
theorem pay5_at (x g a : Vec Ideal S256x2048 .f32) (w : Vec Ideal S1x2048 .f32) (y : S256x2048.Idx) {X G W : ℕ → EReal}
    (hX : ∀ k : Fin 2048, x (ix2 (y 0) k) = X k.val) (hG : ∀ k : Fin 2048, g (ix2 (y 0) k) = G k.val)
    (hW : ∀ k : Fin 2048, w (ix2 0 k) = W k.val) :
    k0_pay5 (F := Ideal) x w g a y = dx 2048 cn X (fun k => G k * W k) (y 1).val + a y := by
  have hy : y = ix2 (y 0) (y 1) := funext fun a => match a with | ⟨0, _⟩ => rfl | ⟨1, _⟩ => rfl
  have e1 : x y = X (y 1).val := (congrArg x hy).trans (hX _)
  have e2 : g y = G (y 1).val := (congrArg g hy).trans (hG _)
  have e3 : w (ix2 0 (y 1)) = W (y 1).val := hW _
  have hp : ∀ z : Fin 1, k0_pay2 (F := Ideal) x (ix2 (y 0) z) = ms 2048 cn X := fun z => pay2_at x (ix2 (y 0) z) hX
  unfold k0_pay5 k0_pay3 dx back rs
  pointwise
  simp only [hp, hX, hG, hW, e1, e2, e3, Fin.sum_univ_one]
  rfl

/-- One entry of the input's cotangent, from a point's blocks. -/
theorem dx_at (t : Fin cfg0.N) (y : S256x2048.Idx) :
    k0_pay5 (F := Ideal) (iblk m c 0 t) (iblk m c 1 t) (iblk m c 2 t) (iblk m c 3 t) y
      = o0 (mX m c) (wt (mW m c)) (mG m c) (mA m c) (256 * t.val + (y 0).val) (y 1).val := by
  refine (pay5_at _ _ _ _ y (X := tot (mX m c) (256 * t.val + (y 0).val)) (G := tot (mG m c) (256 * t.val + (y 0).val)) (W := wt (mW m c)) (fun k => blk0 m c t _) (fun k => blk2 m c t _) (fun k => blk1 m c t _)).trans ?_
  rw [blk3]
  rfl

/-- The rows of a point's block, in the weight's cotangent. -/
theorem dw_at (t : Fin cfg0.N) (y : S1x2048.Idx) :
    k0_pay4 (F := Ideal) (iblk m c 0 t) (iblk m c 2 t) y = stretch 256 (o1 (mX m c) (mG m c) (y 1).val) t.val := by
  rw [stretch, ← Fin.sum_univ_eq_sum_range]
  exact pay4_at (iblk m c 0 t) (iblk m c 2 t) y (X := fun e => tot (mX m c) (256 * t.val + e)) (G := fun e => tot (mG m c) (256 * t.val + e)) (fun e k => blk0 m c t _) (fun e k => blk2 m c t _)

/-- The input's cotangent, at every point. -/
theorem out4 (t : Fin cfg0.N) (y : S256x2048.Idx) : ((outsAt0 m c t.val t.isLt).1 : Vec Ideal S256x2048 .f32) y
    = o0 (mX m c) (wt (mW m c)) (mG m c) (mA m c) (256 * t.val + (y 0).val) (y 1).val := by
  rw [← dx_at m c t]
  have hN : t.val < 32 := lt_of_lt_of_eq t.isLt N_0
  by_cases h0 : t.val % 32 = 0
  · rw [outsAt0_A m c t h0 (by omega)]
    frame_out
  · rw [outsAt0_B m c t h0 (by omega)]
    frame_out

/-- The weight's cotangent after point `n`: the rows so far. -/
theorem out5 (n : ℕ) (h : n < cfg0.N) (y : S1x2048.Idx) : ((outsAt0 m c n h).2 : Vec Ideal S1x2048 .f32) y
    = ∑ r ∈ Finset.range (256 * (n + 1)), o1 (mX m c) (mG m c) (y 1).val r := by
  have hN : n < 32 := lt_of_lt_of_eq h N_0
  rw [← sum_stretches]
  induction n with
  | zero =>
    rw [outsAt0_A m c ⟨0, h⟩ rfl (by show ¬1 ≤ 0; omega)]
    frame_out
    rw [Nat.mul_zero, Finset.sum_range_zero, zero_add]
    exact dw_at m c ⟨0, h⟩ y
  | succ n ih =>
    rw [outsAt0_B m c ⟨n + 1, h⟩ (by show ¬(n + 1) % 32 = 0; omega) (by show 1 ≤ n + 1; omega)]
    frame_out
    have e : ∀ u v : Vec Ideal S1x2048 .f32, k0_pay1 (F := Ideal) u v y = v y + u y := fun u v => by unfold k0_pay1; pointwise
    refine (e _ _).trans ?_
    rw [dw_at m c ⟨n + 1, h⟩ y, ← sum_stretches, ← ih (Nat.lt_of_succ_lt h) (by omega)]
    rfl

/-- The two result arrays. -/
theorem fin4 : (dats m 0 c).arrAt 4 cfg0.N
    = (fun i => o0 (mX m c) (wt (mW m c)) (mG m c) (mA m c) (i 0).val (i 1).val : Buf (Elt Ideal) ((c : Thread nD τ).loc main_v1_0)) := by
  refine (dats m 0 c).arrAt_eq_of_cover 4 _ (fun t _ => ?_) fun i => ?_
  · rw [flushed4]
    refine funext fun (y : S256x2048.Idx) => ?_
    rw [View.read_apply]
    have hi := (idx t).2.2.2.2.1
    refine (out4 m c t y).trans (congrArg₂ _ ?_ ?_)
    · show _ = win0_4.index t 0 * 256 + 1 * (y 0).val; rw [hi.1]; omega
    · show _ = win0_4.index t 1 * 2048 + 1 * (y 1).val; rw [hi.2]; omega
  · have b0 : (i 0).val < 8192 := (i 0).isLt
    have b1 : (i 1).val < 2048 := (i 1).isLt
    let t : Fin cfg0.N := ⟨(i 0).val / 256, lt_of_lt_of_eq (by omega) N_0.symm⟩
    have hi := (idx t).2.2.2.2.1
    have ht : t.val = (i 0).val / 256 := rfl
    refine ⟨t, flush0_4 t, ?_⟩
    show i ∈ ((View.whole main_v1_0).slice (win0_4.rect t)).set
    rw [View.set_slice_whole, Rect.mem_set_unit]
    intro a
    match a with
    | ⟨0, _⟩ => show win0_4.index t 0 * 256 ≤ (i 0).val ∧ (i 0).val < win0_4.index t 0 * 256 + 256; rw [hi.1, ht]; omega
    | ⟨1, _⟩ => show win0_4.index t 1 * 2048 ≤ (i 1).val ∧ (i 1).val < win0_4.index t 1 * 2048 + 2048; rw [hi.2]; omega
theorem fin5 : (dats m 0 c).arrAt 5 cfg0.N
    = (fun i => o1sum (mX m c) (mG m c) (i 1).val : Buf (Elt Ideal) ((c : Thread nD τ).loc main_v1_1)) := by
  refine (dats m 0 c).arrAt_eq_of_cover 5 _ (fun t hf => ?_) fun i => ?_
  · rw [flushed5]
    refine funext fun (y : S1x2048.Idx) => ?_
    rw [View.read_apply]
    have hi := (idx t).2.2.2.2.2
    have ht := (flush0_5 t).mp hf
    have hN : t.val < 32 := lt_of_lt_of_eq t.isLt N_0
    have e0 : 256 * (t.val + 1) = 8192 := by omega
    have e1 : (y 1).val = ((((cfg0.win 5).blk t).view.emb y) 1).val := by
      show _ = win0_5.index t 1 * 2048 + 1 * (y 1).val; rw [hi.2]; omega
    exact (out5 m c t.val t.isLt y).trans (o1sum_of (mX m c) (mG m c) e0 e1)
  · have b0 : (i 0).val < 1 := (i 0).isLt
    have b1 : (i 1).val < 2048 := (i 1).isLt
    let t : Fin cfg0.N := ⟨31, lt_of_lt_of_eq (by omega) N_0.symm⟩
    have hi := (idx t).2.2.2.2.2
    refine ⟨t, (flush0_5 t).mpr rfl, ?_⟩
    show i ∈ ((View.whole main_v1_1).slice (win0_5.rect t)).set
    rw [View.set_slice_whole, Rect.mem_set_unit]
    intro a
    match a with
    | ⟨0, _⟩ => show win0_5.index t 0 * 1 ≤ (i 0).val ∧ (i 0).val < win0_5.index t 0 * 1 + 1; rw [hi.1]; omega
    | ⟨1, _⟩ => show win0_5.index t 1 * 2048 ≤ (i 1).val ∧ (i 1).val < win0_5.index t 1 * 2048 + 2048; rw [hi.2]; omega

end Cert.NormBIdeal.Blk

namespace Cert.NormBProof

open Cert.Prod Cert.NormSpec Cert.NormBSpec Cert.NormBRefIdeal Cert.NormBRefIdeal.Read

/-- The reference terminates, leaves its arguments alone and has no semaphores. -/
theorem frame_ref : Cert.quiescent_NormBRefIdeal (hNormBRefIdeal := Cert.NormBRefIdeal.Gen.facts) := fun m ρ _ =>
  (θ_run Cert.NormBRefIdeal.defs _ _).mono
    (fun r h => ⟨fun c => (h c).2.2, sem_eq_zero_of_no_sems rfl r.2⟩) (Cert.NormBRefIdeal.Value.run (F := Ideal) m ρ)

section Ref

variable (x0 : Vec Ideal S8192x2048 .f32) (x1 : Vec Ideal S2048 .f32) (x2 x3 : Vec Ideal S8192x2048 .f32)

/-- The reference's mean square of a row. -/
theorem r6 (e : Fin 8192) (z : Fin 1) : val_main_v6 (F := Ideal) x0 (ix2 e z) = ms 2048 cn (tot x0 e.val) := by
  have hX : ∀ k : Fin 2048, x0 (ix2 e k) = tot x0 e.val k.val := fun k => tot_idx _ _ rfl rfl
  unfold val_main_v6 val_main_v5 val_main_v4 val_main_v3 val_main_v2 val_main_v1 val_main_v0 val_main_cst val_main_cst_0 val_main_cst_1 ms cn ep
  pointwise
  simp only [hX]

/-- The reference's two results. -/
theorem r36 (i : S8192x2048.Idx) : val_main_v36 (F := Ideal) x0 x1 x2 x3 i
    = o0 x0 (wt x1) x2 x3 (i 0).val (i 1).val := by
  have hX : ∀ k : Fin 2048, x0 (ix2 (i 0) k) = tot x0 (i 0).val k.val := fun k => tot_idx _ _ rfl rfl
  have hG : ∀ k : Fin 2048, x2 (ix2 (i 0) k) = tot x2 (i 0).val k.val := fun k => tot_idx _ _ rfl rfl
  have hW : ∀ k : Fin 2048, x1 (ix1 k) = wt x1 k.val := fun k => wt_in x1 k
  have e0 : x0 i = tot x0 (i 0).val (i 1).val := tot_idx _ _ rfl rfl
  have e1 : x1 (ix1 (i 1)) = wt x1 (i 1).val := hW _
  have e2 : x2 i = tot x2 (i 0).val (i 1).val := tot_idx _ _ rfl rfl
  have e3 : x3 i = tot x3 (i 0).val (i 1).val := tot_idx _ _ rfl rfl
  have h6 : ∀ z : Fin 1, val_main_v6 (F := Ideal) x0 (ix2 (i 0) z) = ms 2048 cn (tot x0 (i 0).val) := fun z => r6 x0 (i 0) z
  unfold val_main_v36 val_main_v35 val_main_v34 val_main_v33 val_main_v32 val_main_v31 val_main_v30 val_main_v29 val_main_v28
    val_main_v27 val_main_v26 val_main_v25 val_main_v24 val_main_v23 val_main_v22 val_main_v20 val_main_v19 val_main_v13
    val_main_v10 val_main_v9 val_main_v8 val_main_v7 val_main_cst_2 val_main_cst_5 val_main_cst_6 val_main_cst_7 o0 dx back rs
  pointwise
  simp only [h6, hX, hG, hW, e0, e1, e2, e3, Fin.sum_univ_one]
  refine Eq.trans ?_ (add_comm _ _)
  rw [← add_assoc, ← add_assoc]
  rfl
theorem r37 (i : S1x2048.Idx) : val_main_v37 (F := Ideal) x0 x2 i = o1sum x0 x2 (i 1).val := by
  unfold o1sum
  rw [← Fin.sum_univ_eq_sum_range (fun r => o1 x0 x2 (i 1).val r)]
  unfold val_main_v37 val_main_v21 val_main_v18 val_main_v17 val_main_v16 val_main_v12 val_main_v11 val_main_v7 val_main_cst_3 val_main_cst_4
  pointwise
  refine (Fin.sum_univ_one _).trans (Finset.sum_congr rfl fun e _ => ?_)
  rw [r6]
  exact congrArg₂ (fun u v : EReal => u * Ideal.rsqrt (ms 2048 cn (tot x0 e.val)) * v) (tot_idx _ _ rfl rfl) (tot_idx _ _ rfl rfl)

end Ref

/-- The call computes the derivatives. -/
theorem algebraic : Cert.algebraic_NormBIdeal_NormBRefIdeal (hNormBIdeal := Cert.NormBIdeal.Gen.facts)
    (hNormBRefIdeal := Cert.NormBRefIdeal.Gen.facts) := by
  intro m ρ m' ρ' _ hm
  refine ⟨_, _, Cert.NormBIdeal.Value.run_blocks m ρ, ?_⟩
  refine (θ_run Cert.NormBRefIdeal.defs _ _).mono (fun r h c => ?_) (Cert.NormBRefIdeal.Value.run (F := Ideal) m' ρ')
  obtain ⟨a0, a1, a2, a3⟩ := hm c
  obtain ⟨h0, h1, hk⟩ := h c
  refine ⟨h0.trans ?_, h1.trans ?_, hk⟩
  · refine ((val_main_v36_eq _ _ _ _).trans ?_).trans (Cert.NormBIdeal.Blk.fin4 m c).symm
    rw [a0, a1, a2, a3]; exact funext fun i => r36 _ _ _ _ i
  · refine ((val_main_v37_eq _ _).trans ?_).trans (Cert.NormBIdeal.Blk.fin5 m c).symm
    rw [a0, a2]; exact funext fun i => r37 _ _ i

end Cert.NormBProof

end
-- ==== Proof.MergeB.lean ====
/-
  The gradient of the gated sum of the two branches: every result is a function of one entry of each argument.
-/
module

public import proofs.«01_k».proof.Proof.Gen.MergeBIdeal.Value
public import proofs.«01_k».proof.Proof.Prod
public import proofs.«01_k».proof.Proof.Silu
public import proofs.«01_k».proof.Defs
public import proofs.«01_k».proof.Proof.Gen.MergeBRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.MergeSpec

open Cert.Prod Cert.Silu

/-- The five derivatives at one entry: `a` and `b` are the two halves of the gated product, `d` the other branch, `s` and
    `n` the two gates, `g` the cotangent. -/
def dA (_a b _d s _n g : EReal) : EReal := sg s * g * sg b
def dB (a b _d s _n g : EReal) : EReal := a * (sg s * g) * (sg b * (1 - sg b))
def dD (_a _b _d _s n g : EReal) : EReal := sg n * g
def dS (a b _d s _n g : EReal) : EReal := g * (a * sg b) * (sg s * (1 - sg s))
def dN (_a _b d _s n g : EReal) : EReal := g * d * (sg n * (1 - sg n))

/-- A function of the six entries, read from the four arguments at row `r` and column `p`. -/
def at6 (f : EReal → EReal → EReal → EReal → EReal → EReal → EReal) (x0 : (⟨2, ![8192, 4096]⟩ : Shape).Idx → EReal)
    (x1 : (⟨2, ![8192, 2048]⟩ : Shape).Idx → EReal) (x2 : (⟨2, ![8192, 9216]⟩ : Shape).Idx → EReal)
    (x3 : (⟨2, ![8192, 2048]⟩ : Shape).Idx → EReal) (r p : ℕ) : EReal :=
  f (tot x0 r p) (tot x0 r (2048 + p)) (tot x1 r p) (tot x2 r (5120 + p)) (tot x2 r (7168 + p)) (tot x3 r p)

end Cert.MergeSpec

namespace Cert.MergeBIdeal.Blk

open Cert.MergeBIdeal Cert.MergeBIdeal.Gen Cert.MergeBIdeal.Value Cert.Prod Cert.Silu Cert.MergeSpec

variable (m : (ℓ : Loc nD τ sig) → Buf (Elt Ideal) ℓ) (c : Dev nD)

/-- The arguments. -/
abbrev m0 : Vec Ideal S8192x4096 .f32 := m ((c.tc : Thread nD τ).loc main_arg0)
abbrev m1 : Vec Ideal S8192x2048 .f32 := m ((c.tc : Thread nD τ).loc main_arg1)
abbrev m2 : Vec Ideal S8192x9216 .f32 := m ((c.tc : Thread nD τ).loc main_arg2)
abbrev m3 : Vec Ideal S8192x2048 .f32 := m ((c.tc : Thread nD τ).loc main_arg3)

/-- The block indices of the windows at a grid point, decided over the grid. -/
theorem idx : ∀ t : Fin grid0.N,
    (win0_0.index t 0 = t.val % 16 ∧ win0_0.index t 1 = t.val / 16)
    ∧ (win0_1.index t 0 = t.val % 16 ∧ win0_1.index t 1 = t.val / 16 + 4)
    ∧ (win0_2.index t 0 = t.val % 16 ∧ win0_2.index t 1 = t.val / 16)
    ∧ (win0_3.index t 0 = t.val % 16 ∧ win0_3.index t 1 = t.val / 16 + 10)
    ∧ (win0_4.index t 0 = t.val % 16 ∧ win0_4.index t 1 = t.val / 16 + 14)
    ∧ (win0_5.index t 0 = t.val % 16 ∧ win0_5.index t 1 = t.val / 16) := by
  decide +kernel
theorem idx_out : ∀ t : Fin grid0.N,
    (win0_6.index t 0 = t.val % 16 ∧ win0_6.index t 1 = t.val / 16)
    ∧ (win0_7.index t 0 = t.val % 16 ∧ win0_7.index t 1 = t.val / 16)
    ∧ (win0_8.index t 0 = t.val % 16 ∧ win0_8.index t 1 = t.val / 16)
    ∧ (win0_9.index t 0 = t.val % 16 ∧ win0_9.index t 1 = t.val / 16)
    ∧ (win0_10.index t 0 = t.val % 16 ∧ win0_10.index t 1 = t.val / 16) := by
  decide +kernel

/-- The blocks of the arguments at a point. -/
theorem blk0 (t : Fin cfg0.N) (y : S512x512.Idx) :
    (iblk m c 0 t : Vec Ideal S512x512 .f32) y = tot (m0 m c) (512 * (t.val % 16) + (y 0).val) (512 * (t.val / 16) + (y 1).val) := by
  unfold iblk
  rw [View.read_apply]
  have hi := (idx t).1
  refine Eq.trans (b := m0 m c (((cfg0.win 0).blk t).view.emb y)) rfl (tot_idx _ _ ?_ ?_)
  · show win0_0.index t 0 * 512 + 1 * (y 0).val = _; rw [hi.1]; omega
  · show win0_0.index t 1 * 512 + 1 * (y 1).val = _; rw [hi.2]; omega
theorem blk1 (t : Fin cfg0.N) (y : S512x512.Idx) :
    (iblk m c 1 t : Vec Ideal S512x512 .f32) y = tot (m0 m c) (512 * (t.val % 16) + (y 0).val) (2048 + (512 * (t.val / 16) + (y 1).val)) := by
  unfold iblk
  rw [View.read_apply]
  have hi := (idx t).2.1
  refine Eq.trans (b := m0 m c (((cfg0.win 1).blk t).view.emb y)) rfl (tot_idx _ _ ?_ ?_)
  · show win0_1.index t 0 * 512 + 1 * (y 0).val = _; rw [hi.1]; omega
  · show win0_1.index t 1 * 512 + 1 * (y 1).val = _; rw [hi.2]; omega
theorem blk2 (t : Fin cfg0.N) (y : S512x512.Idx) :
    (iblk m c 2 t : Vec Ideal S512x512 .f32) y = tot (m1 m c) (512 * (t.val % 16) + (y 0).val) (512 * (t.val / 16) + (y 1).val) := by
  unfold iblk
  rw [View.read_apply]
  have hi := (idx t).2.2.1
  refine Eq.trans (b := m1 m c (((cfg0.win 2).blk t).view.emb y)) rfl (tot_idx _ _ ?_ ?_)
  · show win0_2.index t 0 * 512 + 1 * (y 0).val = _; rw [hi.1]; omega
  · show win0_2.index t 1 * 512 + 1 * (y 1).val = _; rw [hi.2]; omega
theorem blk3 (t : Fin cfg0.N) (y : S512x512.Idx) :
    (iblk m c 3 t : Vec Ideal S512x512 .f32) y = tot (m2 m c) (512 * (t.val % 16) + (y 0).val) (5120 + (512 * (t.val / 16) + (y 1).val)) := by
  unfold iblk
  rw [View.read_apply]
  have hi := (idx t).2.2.2.1
  refine Eq.trans (b := m2 m c (((cfg0.win 3).blk t).view.emb y)) rfl (tot_idx _ _ ?_ ?_)
  · show win0_3.index t 0 * 512 + 1 * (y 0).val = _; rw [hi.1]; omega
  · show win0_3.index t 1 * 512 + 1 * (y 1).val = _; rw [hi.2]; omega
theorem blk4 (t : Fin cfg0.N) (y : S512x512.Idx) :
    (iblk m c 4 t : Vec Ideal S512x512 .f32) y = tot (m2 m c) (512 * (t.val % 16) + (y 0).val) (7168 + (512 * (t.val / 16) + (y 1).val)) := by
  unfold iblk
  rw [View.read_apply]
  have hi := (idx t).2.2.2.2.1
  refine Eq.trans (b := m2 m c (((cfg0.win 4).blk t).view.emb y)) rfl (tot_idx _ _ ?_ ?_)
  · show win0_4.index t 0 * 512 + 1 * (y 0).val = _; rw [hi.1]; omega
  · show win0_4.index t 1 * 512 + 1 * (y 1).val = _; rw [hi.2]; omega
theorem blk5 (t : Fin cfg0.N) (y : S512x512.Idx) :
    (iblk m c 5 t : Vec Ideal S512x512 .f32) y = tot (m3 m c) (512 * (t.val % 16) + (y 0).val) (512 * (t.val / 16) + (y 1).val) := by
  unfold iblk
  rw [View.read_apply]
  have hi := (idx t).2.2.2.2.2
  refine Eq.trans (b := m3 m c (((cfg0.win 5).blk t).view.emb y)) rfl (tot_idx _ _ ?_ ?_)
  · show win0_5.index t 0 * 512 + 1 * (y 0).val = _; rw [hi.1]; omega
  · show win0_5.index t 1 * 512 + 1 * (y 1).val = _; rw [hi.2]; omega

/-- What the body leaves in each of the five blocks, at an entry. -/
theorem out6 (x0 x1 x2 x3 x4 x5 : Vec Ideal S512x512 .f32) (y : S512x512.Idx) :
    out0_6 (F := Ideal) x0 x1 x2 x3 x4 x5 y = dA (x0 y) (x1 y) (x2 y) (x3 y) (x4 y) (x5 y) := by
  unfold_out out0_6
  rw [canon6_eq]
  pointwise
  unfold dA; rw [sg_eq, sg_eq]
theorem out7 (x0 x1 x2 x3 x4 x5 : Vec Ideal S512x512 .f32) (y : S512x512.Idx) :
    out0_7 (F := Ideal) x0 x1 x2 x3 x4 x5 y = dB (x0 y) (x1 y) (x2 y) (x3 y) (x4 y) (x5 y) := by
  unfold_out out0_7
  rw [canon7_eq]
  pointwise
  unfold dB; rw [sg_eq, back_eq]
theorem out8 (x0 x1 x2 x3 x4 x5 : Vec Ideal S512x512 .f32) (y : S512x512.Idx) :
    out0_8 (F := Ideal) x0 x1 x2 x3 x4 x5 y = dD (x0 y) (x1 y) (x2 y) (x3 y) (x4 y) (x5 y) := by
  unfold_out out0_8
  rw [canon8_eq]
  pointwise
  unfold dD; rw [sg_eq]
theorem out9 (x0 x1 x2 x3 x4 x5 : Vec Ideal S512x512 .f32) (y : S512x512.Idx) :
    out0_9 (F := Ideal) x0 x1 x2 x3 x4 x5 y = dS (x0 y) (x1 y) (x2 y) (x3 y) (x4 y) (x5 y) := by
  unfold_out out0_9
  rw [canon9_eq]
  pointwise
  unfold dS; rw [sg_eq, back_eq]
theorem out10 (x0 x1 x2 x3 x4 x5 : Vec Ideal S512x512 .f32) (y : S512x512.Idx) :
    out0_10 (F := Ideal) x0 x1 x2 x3 x4 x5 y = dN (x0 y) (x1 y) (x2 y) (x3 y) (x4 y) (x5 y) := by
  unfold_out out0_10
  rw [canon10_eq]
  pointwise
  unfold dN; rw [back_eq]

/-- One entry of a result's block, from the blocks of the arguments, is the same function of the arguments. -/
theorem at_blk (f : EReal → EReal → EReal → EReal → EReal → EReal → EReal) (t : Fin cfg0.N) (y : S512x512.Idx) {r p : ℕ}
    (hr : r = 512 * (t.val % 16) + (y 0).val) (hp : p = 512 * (t.val / 16) + (y 1).val) :
    f ((iblk m c 0 t : Vec Ideal S512x512 .f32) y) ((iblk m c 1 t : Vec Ideal S512x512 .f32) y) ((iblk m c 2 t : Vec Ideal S512x512 .f32) y)
        ((iblk m c 3 t : Vec Ideal S512x512 .f32) y) ((iblk m c 4 t : Vec Ideal S512x512 .f32) y) ((iblk m c 5 t : Vec Ideal S512x512 .f32) y)
      = at6 f (m0 m c) (m1 m c) (m2 m c) (m3 m c) r p := by
  subst hr hp
  rw [blk0, blk1, blk2, blk3, blk4, blk5]
  rfl

/-- The point whose blocks hold an entry of the results. -/
theorem covers (i : S8192x2048.Idx) : ∃ t : Fin cfg0.N,
    (t.val % 16 * 512 ≤ (i 0).val ∧ (i 0).val < t.val % 16 * 512 + 512)
    ∧ (t.val / 16 * 512 ≤ (i 1).val ∧ (i 1).val < t.val / 16 * 512 + 512) := by
  have h0 : (i 0).val < 8192 := (i 0).isLt
  have h1 : (i 1).val < 2048 := (i 1).isLt
  refine ⟨⟨(i 1).val / 512 * 16 + (i 0).val / 512, lt_of_lt_of_eq (by omega) N_0.symm⟩, ?_⟩
  show ((((i 1).val / 512 * 16 + (i 0).val / 512) % 16 * 512 ≤ (i 0).val ∧ (i 0).val < ((i 1).val / 512 * 16 + (i 0).val / 512) % 16 * 512 + 512)
    ∧ (((i 1).val / 512 * 16 + (i 0).val / 512) / 16 * 512 ≤ (i 1).val ∧ (i 1).val < ((i 1).val / 512 * 16 + (i 0).val / 512) / 16 * 512 + 512))
  omega

/-- The five result arrays. -/
theorem fin6 : (dats m 0 c).arrAt 6 cfg0.N
    = (fun i => at6 dA (m0 m c) (m1 m c) (m2 m c) (m3 m c) (i 0).val (i 1).val : Buf (Elt Ideal) ((c : Thread nD τ).loc main_v0_0)) := by
  refine (dats m 0 c).arrAt_eq_of_cover 6 _ (fun t _ => ?_) fun i => ?_
  · rw [flushed6]
    refine funext fun (y : S512x512.Idx) => ?_
    rw [View.read_apply]
    have hi := (idx_out t).1
    refine (out6 _ _ _ _ _ _ y).trans (at_blk m c dA t y ?_ ?_)
    · show win0_6.index t 0 * 512 + 1 * (y 0).val = _; rw [hi.1]; omega
    · show win0_6.index t 1 * 512 + 1 * (y 1).val = _; rw [hi.2]; omega
  · obtain ⟨t, ht⟩ := covers i
    have hi := (idx_out t).1
    refine ⟨t, flush0_6 t, ?_⟩
    show i ∈ ((View.whole main_v0_0).slice (win0_6.rect t)).set
    rw [View.set_slice_whole, Rect.mem_set_unit]
    intro a
    match a with
    | ⟨0, _⟩ => show win0_6.index t 0 * 512 ≤ (i 0).val ∧ (i 0).val < win0_6.index t 0 * 512 + 512; rw [hi.1]; exact ht.1
    | ⟨1, _⟩ => show win0_6.index t 1 * 512 ≤ (i 1).val ∧ (i 1).val < win0_6.index t 1 * 512 + 512; rw [hi.2]; exact ht.2
theorem fin7 : (dats m 0 c).arrAt 7 cfg0.N
    = (fun i => at6 dB (m0 m c) (m1 m c) (m2 m c) (m3 m c) (i 0).val (i 1).val : Buf (Elt Ideal) ((c : Thread nD τ).loc main_v0_1)) := by
  refine (dats m 0 c).arrAt_eq_of_cover 7 _ (fun t _ => ?_) fun i => ?_
  · rw [flushed7]
    refine funext fun (y : S512x512.Idx) => ?_
    rw [View.read_apply]
    have hi := (idx_out t).2.1
    refine (out7 _ _ _ _ _ _ y).trans (at_blk m c dB t y ?_ ?_)
    · show win0_7.index t 0 * 512 + 1 * (y 0).val = _; rw [hi.1]; omega
    · show win0_7.index t 1 * 512 + 1 * (y 1).val = _; rw [hi.2]; omega
  · obtain ⟨t, ht⟩ := covers i
    have hi := (idx_out t).2.1
    refine ⟨t, flush0_7 t, ?_⟩
    show i ∈ ((View.whole main_v0_1).slice (win0_7.rect t)).set
    rw [View.set_slice_whole, Rect.mem_set_unit]
    intro a
    match a with
    | ⟨0, _⟩ => show win0_7.index t 0 * 512 ≤ (i 0).val ∧ (i 0).val < win0_7.index t 0 * 512 + 512; rw [hi.1]; exact ht.1
    | ⟨1, _⟩ => show win0_7.index t 1 * 512 ≤ (i 1).val ∧ (i 1).val < win0_7.index t 1 * 512 + 512; rw [hi.2]; exact ht.2
theorem fin8 : (dats m 0 c).arrAt 8 cfg0.N
    = (fun i => at6 dD (m0 m c) (m1 m c) (m2 m c) (m3 m c) (i 0).val (i 1).val : Buf (Elt Ideal) ((c : Thread nD τ).loc main_v0_2)) := by
  refine (dats m 0 c).arrAt_eq_of_cover 8 _ (fun t _ => ?_) fun i => ?_
  · rw [flushed8]
    refine funext fun (y : S512x512.Idx) => ?_
    rw [View.read_apply]
    have hi := (idx_out t).2.2.1
    refine (out8 _ _ _ _ _ _ y).trans (at_blk m c dD t y ?_ ?_)
    · show win0_8.index t 0 * 512 + 1 * (y 0).val = _; rw [hi.1]; omega
    · show win0_8.index t 1 * 512 + 1 * (y 1).val = _; rw [hi.2]; omega
  · obtain ⟨t, ht⟩ := covers i
    have hi := (idx_out t).2.2.1
    refine ⟨t, flush0_8 t, ?_⟩
    show i ∈ ((View.whole main_v0_2).slice (win0_8.rect t)).set
    rw [View.set_slice_whole, Rect.mem_set_unit]
    intro a
    match a with
    | ⟨0, _⟩ => show win0_8.index t 0 * 512 ≤ (i 0).val ∧ (i 0).val < win0_8.index t 0 * 512 + 512; rw [hi.1]; exact ht.1
    | ⟨1, _⟩ => show win0_8.index t 1 * 512 ≤ (i 1).val ∧ (i 1).val < win0_8.index t 1 * 512 + 512; rw [hi.2]; exact ht.2
theorem fin9 : (dats m 0 c).arrAt 9 cfg0.N
    = (fun i => at6 dS (m0 m c) (m1 m c) (m2 m c) (m3 m c) (i 0).val (i 1).val : Buf (Elt Ideal) ((c : Thread nD τ).loc main_v0_3)) := by
  refine (dats m 0 c).arrAt_eq_of_cover 9 _ (fun t _ => ?_) fun i => ?_
  · rw [flushed9]
    refine funext fun (y : S512x512.Idx) => ?_
    rw [View.read_apply]
    have hi := (idx_out t).2.2.2.1
    refine (out9 _ _ _ _ _ _ y).trans (at_blk m c dS t y ?_ ?_)
    · show win0_9.index t 0 * 512 + 1 * (y 0).val = _; rw [hi.1]; omega
    · show win0_9.index t 1 * 512 + 1 * (y 1).val = _; rw [hi.2]; omega
  · obtain ⟨t, ht⟩ := covers i
    have hi := (idx_out t).2.2.2.1
    refine ⟨t, flush0_9 t, ?_⟩
    show i ∈ ((View.whole main_v0_3).slice (win0_9.rect t)).set
    rw [View.set_slice_whole, Rect.mem_set_unit]
    intro a
    match a with
    | ⟨0, _⟩ => show win0_9.index t 0 * 512 ≤ (i 0).val ∧ (i 0).val < win0_9.index t 0 * 512 + 512; rw [hi.1]; exact ht.1
    | ⟨1, _⟩ => show win0_9.index t 1 * 512 ≤ (i 1).val ∧ (i 1).val < win0_9.index t 1 * 512 + 512; rw [hi.2]; exact ht.2
theorem fin10 : (dats m 0 c).arrAt 10 cfg0.N
    = (fun i => at6 dN (m0 m c) (m1 m c) (m2 m c) (m3 m c) (i 0).val (i 1).val : Buf (Elt Ideal) ((c : Thread nD τ).loc main_v0_4)) := by
  refine (dats m 0 c).arrAt_eq_of_cover 10 _ (fun t _ => ?_) fun i => ?_
  · rw [flushed10]
    refine funext fun (y : S512x512.Idx) => ?_
    rw [View.read_apply]
    have hi := (idx_out t).2.2.2.2
    refine (out10 _ _ _ _ _ _ y).trans (at_blk m c dN t y ?_ ?_)
    · show win0_10.index t 0 * 512 + 1 * (y 0).val = _; rw [hi.1]; omega
    · show win0_10.index t 1 * 512 + 1 * (y 1).val = _; rw [hi.2]; omega
  · obtain ⟨t, ht⟩ := covers i
    have hi := (idx_out t).2.2.2.2
    refine ⟨t, flush0_10 t, ?_⟩
    show i ∈ ((View.whole main_v0_4).slice (win0_10.rect t)).set
    rw [View.set_slice_whole, Rect.mem_set_unit]
    intro a
    match a with
    | ⟨0, _⟩ => show win0_10.index t 0 * 512 ≤ (i 0).val ∧ (i 0).val < win0_10.index t 0 * 512 + 512; rw [hi.1]; exact ht.1
    | ⟨1, _⟩ => show win0_10.index t 1 * 512 ≤ (i 1).val ∧ (i 1).val < win0_10.index t 1 * 512 + 512; rw [hi.2]; exact ht.2

end Cert.MergeBIdeal.Blk

namespace Cert.MergeBProof

open Cert.Prod Cert.Silu Cert.MergeSpec Cert.MergeBRefIdeal Cert.MergeBRefIdeal.Read

/-- The reference terminates, leaves its arguments alone and has no semaphores. -/
theorem frame_ref : Cert.quiescent_MergeBRefIdeal (hMergeBRefIdeal := Cert.MergeBRefIdeal.Gen.facts) := fun m ρ _ =>
  (θ_run Cert.MergeBRefIdeal.defs _ _).mono
    (fun r h => ⟨fun c => (h c).2.2.2.2.2, sem_eq_zero_of_no_sems rfl r.2⟩) (Cert.MergeBRefIdeal.Value.run (F := Ideal) m ρ)

section Ref

variable (x0 : Vec Ideal S8192x4096 .f32) (x1 : Vec Ideal S8192x2048 .f32) (x2 : Vec Ideal S8192x9216 .f32) (x3 : Vec Ideal S8192x2048 .f32)
  (i : S8192x2048.Idx)

/-- The six entries that the reference reads. -/
theorem r0 : val_main_v0 (F := Ideal) x0 i = tot x0 (i 0).val (i 1).val := (val_main_v0_apply x0 i).trans (tot_idx _ _ rfl rfl)
theorem r1 : val_main_v1 (F := Ideal) x0 i = tot x0 (i 0).val (2048 + (i 1).val) := (val_main_v1_apply x0 i).trans (tot_idx _ _ rfl rfl)
theorem r2 : val_main_v2 (F := Ideal) x2 i = tot x2 (i 0).val (5120 + (i 1).val) := (val_main_v2_apply x2 i).trans (tot_idx _ _ rfl rfl)
theorem r3 : val_main_v3 (F := Ideal) x2 i = tot x2 (i 0).val (7168 + (i 1).val) := (val_main_v3_apply x2 i).trans (tot_idx _ _ rfl rfl)
theorem rd : x1 i = tot x1 (i 0).val (i 1).val := tot_idx _ _ rfl rfl
theorem split_row (a b : ℕ) (h : b < 2048) : (a * 2048 + b) / 2048 = a := by omega
theorem split_col (a b : ℕ) (h : b < 2048) : (a * 2048 + b) % 2048 = b := by omega
theorem r35 : val_main_v35 (F := Ideal) x3 i = tot x3 (i 0).val (i 1).val :=
  (val_main_v35_apply x3 i).trans (tot_idx _ _ (split_row _ _ (i 1).isLt) (split_col _ _ (i 1).isLt))
theorem r36 : val_main_v36 (F := Ideal) x3 i = tot x3 (i 0).val (i 1).val :=
  (val_main_v36_apply x3 i).trans (tot_idx _ _ (split_row _ _ (i 1).isLt) (split_col _ _ (i 1).isLt))

/-- Its three logistic functions and what comes back through them. -/
theorem r9 : val_main_v9 (F := Ideal) x0 i = sg (tot x0 (i 0).val (2048 + (i 1).val)) := by
  rw [← r1]; unfold val_main_v9 val_main_v7 val_main_v5 val_main_v4 val_main_v8 val_main_v6 val_main_cst val_main_cst_0; pointwise; rfl
theorem r19 : val_main_v19 (F := Ideal) x2 i = sg (tot x2 (i 0).val (5120 + (i 1).val)) := by
  rw [← r2]; unfold val_main_v19 val_main_v17 val_main_v15 val_main_v14 val_main_v18 val_main_v16 val_main_cst_2 val_main_cst_3; pointwise; rfl
theorem r29 : val_main_v29 (F := Ideal) x2 i = sg (tot x2 (i 0).val (7168 + (i 1).val)) := by
  rw [← r3]; unfold val_main_v29 val_main_v27 val_main_v25 val_main_v24 val_main_v28 val_main_v26 val_main_cst_5 val_main_cst_6; pointwise; rfl
theorem r12 : val_main_v12 (F := Ideal) x0 i = sg (tot x0 (i 0).val (2048 + (i 1).val)) * (1 - sg (tot x0 (i 0).val (2048 + (i 1).val))) := by
  rw [← r9]; unfold val_main_v12 val_main_v11 val_main_v10 val_main_cst_1; pointwise
theorem r22 : val_main_v22 (F := Ideal) x2 i = sg (tot x2 (i 0).val (5120 + (i 1).val)) * (1 - sg (tot x2 (i 0).val (5120 + (i 1).val))) := by
  rw [← r19]; unfold val_main_v22 val_main_v21 val_main_v20 val_main_cst_4; pointwise
theorem r32 : val_main_v32 (F := Ideal) x2 i = sg (tot x2 (i 0).val (7168 + (i 1).val)) * (1 - sg (tot x2 (i 0).val (7168 + (i 1).val))) := by
  rw [← r29]; unfold val_main_v32 val_main_v31 val_main_v30 val_main_cst_7; pointwise

/-- The five results. -/
theorem r46 : val_main_v46 (F := Ideal) x0 x2 x3 i = at6 dA x0 x1 x2 x3 (i 0).val (i 1).val := by
  unfold at6 dA; rw [← r9, ← r19, ← r35]; unfold val_main_v46 val_main_v44 val_main_v40; pointwise
theorem r47 : val_main_v47 (F := Ideal) x0 x2 x3 i = at6 dB x0 x1 x2 x3 (i 0).val (i 1).val := by
  unfold at6 dB; rw [← r12, ← r19, ← r35, ← r0]; unfold val_main_v47 val_main_v45 val_main_v43 val_main_v40; pointwise
theorem r48 : val_main_v48 (F := Ideal) x2 x3 i = at6 dD x0 x1 x2 x3 (i 0).val (i 1).val := by
  unfold at6 dD; rw [← r29, ← r36]; unfold val_main_v48 val_main_v37; pointwise
theorem r49 : val_main_v49 (F := Ideal) x0 x2 x3 i = at6 dS x0 x1 x2 x3 (i 0).val (i 1).val := by
  unfold at6 dS; rw [← r22, ← r9, ← r35, ← r0]; unfold val_main_v49 val_main_v42 val_main_v41 val_main_v13; pointwise
theorem r50 : val_main_v50 (F := Ideal) x1 x2 x3 i = at6 dN x0 x1 x2 x3 (i 0).val (i 1).val := by
  unfold at6 dN; rw [← r32, ← r36, ← rd x1]; unfold val_main_v50 val_main_v39 val_main_v38; pointwise

end Ref

/-- The call computes the derivatives. -/
theorem algebraic : Cert.algebraic_MergeBIdeal_MergeBRefIdeal (hMergeBIdeal := Cert.MergeBIdeal.Gen.facts)
    (hMergeBRefIdeal := Cert.MergeBRefIdeal.Gen.facts) := by
  intro m ρ m' ρ' _ hm
  refine ⟨_, _, _, _, _, Cert.MergeBIdeal.Value.run_blocks m ρ, ?_⟩
  refine (θ_run Cert.MergeBRefIdeal.defs _ _).mono (fun r h c => ?_) (Cert.MergeBRefIdeal.Value.run (F := Ideal) m' ρ')
  obtain ⟨a0, a1, a2, a3⟩ := hm c
  obtain ⟨h0, h1, h2, h3, h4, hk⟩ := h c
  refine ⟨h0.trans ?_, h1.trans ?_, h2.trans ?_, h3.trans ?_, h4.trans ?_, hk⟩
  · refine ((val_main_v46_eq _ _ _).trans ?_).trans (Cert.MergeBIdeal.Blk.fin6 m c).symm
    rw [a0, a2, a3]; exact funext fun i => r46 _ (Cert.MergeBIdeal.Blk.m1 m c) _ _ i
  · refine ((val_main_v47_eq _ _ _).trans ?_).trans (Cert.MergeBIdeal.Blk.fin7 m c).symm
    rw [a0, a2, a3]; exact funext fun i => r47 _ (Cert.MergeBIdeal.Blk.m1 m c) _ _ i
  · refine ((val_main_v48_eq _ _).trans ?_).trans (Cert.MergeBIdeal.Blk.fin8 m c).symm
    rw [a2, a3]; exact funext fun i => r48 (Cert.MergeBIdeal.Blk.m0 m c) (Cert.MergeBIdeal.Blk.m1 m c) _ _ i
  · refine ((val_main_v49_eq _ _ _).trans ?_).trans (Cert.MergeBIdeal.Blk.fin9 m c).symm
    rw [a0, a2, a3]; exact funext fun i => r49 _ (Cert.MergeBIdeal.Blk.m1 m c) _ _ i
  · refine ((val_main_v50_eq _ _ _).trans ?_).trans (Cert.MergeBIdeal.Blk.fin10 m c).symm
    rw [a1, a2, a3]; exact funext fun i => r50 (Cert.MergeBIdeal.Blk.m0 m c) _ _ _ i

end Cert.MergeBProof

end
-- ==== Proof.PostB.lean ====
/-
  The gradient of the normalisation and gate of the recurrence's heads.
-/
module

public import proofs.«01_k».proof.Proof.Gen.PostBIdeal.Value
public import proofs.«01_k».proof.Proof.Prod
public import proofs.«01_k».proof.Proof.NormSpec
public import proofs.«01_k».proof.Proof.Silu
public import proofs.«01_k».proof.Defs
public import proofs.«01_k».proof.Proof.Gen.PostBRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.PostBSpec

open Cert.Prod Cert.NormSpec Cert.Silu

/-- The row length as the programs spell it. -/
def cn : EReal := Ideal.ofBits FTy.f32 1124073472#32

/-- The cotangents of a head's row `O`, of its gate's row `Z` and, per row, of the weight `w`, at a lane, from the row `D`. -/
def hh (Z D : ℕ → EReal) (k : ℕ) : EReal := D k * (Z k * sg (Z k))
def d0 (O Z w D : ℕ → EReal) (k : ℕ) : EReal := dx 128 cn O (fun k => hh Z D k * w k) k
def d1 (O Z w D : ℕ → EReal) (k : ℕ) : EReal := dact (Z k) (O k * rs 128 cn O * w k * D k)
def d2 (O Z D : ℕ → EReal) (k : ℕ) : EReal := O k * rs 128 cn O * hh Z D k

section

variable (x : (⟨2, ![8192, 1024]⟩ : Shape).Idx → EReal) (z : (⟨2, ![8192, 9216]⟩ : Shape).Idx → EReal) (w : ℕ → EReal)
    (g : (⟨2, ![8192, 1024]⟩ : Shape).Idx → EReal)

/-- Row `r` of head `q`. -/
def rO (r q k : ℕ) : EReal := tot x r (128 * q + k)
def rZ (r q k : ℕ) : EReal := tot z r (4096 + (128 * q + k))

/-- The cotangents at row `r` and column `p`. -/
def o0 (r p : ℕ) : EReal := d0 (rO x r (p / 128)) (rZ z r (p / 128)) w (rO g r (p / 128)) (p % 128)
def o1 (r p : ℕ) : EReal := d1 (rO x r (p / 128)) (rZ z r (p / 128)) w (rO g r (p / 128)) (p % 128)

/-- The weight's cotangent: head after head, the sum over the rows. -/
def o2 (k n : ℕ) : EReal := d2 (rO x (n % 8192) (n / 8192)) (rZ z (n % 8192) (n / 8192)) (rO g (n % 8192) (n / 8192)) k
@[irreducible] def o2sum (k : ℕ) : EReal := ∑ n ∈ Finset.range (8192 * 8), o2 x z g k n
theorem o2sum_of {n : ℕ} (hn : n = 8192 * 8) {p q : ℕ} (hp : p = q) : ∑ r ∈ Finset.range n, o2 x z g p r = o2sum x z g q := by
  subst hn hp; unfold o2sum; rfl

end

/-- A sum over `a * b` places is the sum over `b` stretches of `a`. -/
theorem sum_pairs (a b : ℕ) (ha : 0 < a) (f : ℕ → ℕ → EReal) :
    ∑ n ∈ Finset.range (a * b), f (n % a) (n / a) = ∑ r ∈ Finset.range a, ∑ q ∈ Finset.range b, f r q := by
  rw [Finset.sum_comm]
  induction b with
  | zero => rfl
  | succ b ih =>
    rw [← sum_stretches, ih, Finset.sum_range_succ]
    congr 1
    refine Finset.sum_congr rfl fun k hk => ?_
    have h := Finset.mem_range.mp hk
    show f ((a * b + k) % a) ((a * b + k) / a) = f k b
    rw [Nat.mul_add_mod, Nat.mod_eq_of_lt h, Nat.mul_add_div ha, Nat.div_eq_of_lt h, Nat.add_zero]

/-- The host's sum over the first two axes of three, at a lane. -/
theorem reduce2 {a b n : ℕ} {t : Shape} (h : (⟨3, ![a, b, n]⟩ : Shape).ReducesTo [0, 1] t) (v : (⟨3, ![a, b, n]⟩ : Shape).Idx → EReal)
    (i0 : EReal) (j : t.Idx) (k : Fin n) (hk : ∀ i : (⟨3, ![a, b, n]⟩ : Shape).Idx, h.drop i = j ↔ (i 2).val = k.val) :
    Ideal.hostReduceAdd h v i0 j = i0 + ∑ r : Fin a, ∑ q : Fin b, v (ix3 r q k) := by
  refine congrArg (i0 + ·) ?_
  refine (Finset.sum_filter_eq_sum_of_fiber _ (fun e : Fin a × Fin b => ix3 e.1 e.2 k) (fun _ _ e => Prod.ext (congrFun e 0) (congrFun e 1))
    (fun i => (hk i).trans ⟨fun e => ⟨(i 0, i 1), ?_⟩, ?_⟩) v).trans ?_
  · funext c
    match c with
    | ⟨0, _⟩ => rfl
    | ⟨1, _⟩ => rfl
    | ⟨2, _⟩ => exact Fin.ext e.symm
  · rintro ⟨e, rfl⟩; rfl
  · simp only [Fintype.sum_prod_type]

end Cert.PostBSpec

namespace Cert.PostBIdeal.Blk

open Cert.PostBIdeal Cert.PostBIdeal.Gen Cert.PostBIdeal.Value Cert.Prod Cert.NormSpec Cert.PostBSpec Cert.Silu

variable (m : (ℓ : Loc nD τ sig) → Buf (Elt Ideal) ℓ) (c : Dev nD)

/-- The arguments: the heads, the projection with the gate, the weight and the cotangent. -/
abbrev mX : Vec Ideal S8192x1024 .f32 := m ((c.tc : Thread nD τ).loc main_arg0)
abbrev mZ : Vec Ideal S8192x9216 .f32 := m ((c.tc : Thread nD τ).loc main_arg1)
abbrev mW : Vec Ideal S128 .f32 := m ((c.tc : Thread nD τ).loc main_arg2)
abbrev mG : Vec Ideal S8192x1024 .f32 := m ((c.tc : Thread nD τ).loc main_arg3)

/-- The block indices of the windows at a grid point, decided over the grid. -/
theorem idx : ∀ t : Fin grid0.N,
    (win0_0.index t 0 = t.val % 16 ∧ win0_0.index t 1 = t.val / 16) ∧ (win0_1.index t 0 = t.val % 16 ∧ win0_1.index t 1 = 32 + t.val / 16)
    ∧ (win0_2.index t 0 = 0 ∧ win0_2.index t 1 = 0) ∧ (win0_3.index t 0 = t.val % 16 ∧ win0_3.index t 1 = t.val / 16)
    ∧ (win0_4.index t 0 = t.val % 16 ∧ win0_4.index t 1 = t.val / 16) ∧ (win0_5.index t 0 = t.val % 16 ∧ win0_5.index t 1 = t.val / 16)
    ∧ (win0_6.index t 0 = 0 ∧ win0_6.index t 1 = 0) := by
  decide +kernel

/-- The blocks of the arguments at a point. -/
theorem blk0 (t : Fin cfg0.N) (y : S512x128.Idx) :
    (iblk m c 0 t : Vec Ideal S512x128 .f32) y = rO (mX m c) (512 * (t.val % 16) + (y 0).val) (t.val / 16) (y 1).val := by
  unfold iblk
  rw [View.read_apply]
  have hi := (idx t).1
  refine Eq.trans (b := mX m c (((cfg0.win 0).blk t).view.emb y)) (congrFun (V_main_arg0 m c) _) (tot_idx _ _ ?_ ?_)
  · show win0_0.index t 0 * 512 + 1 * (y 0).val = _; rw [hi.1]; omega
  · show win0_0.index t 1 * 128 + 1 * (y 1).val = _; rw [hi.2]; omega
theorem blk1 (t : Fin cfg0.N) (y : S512x128.Idx) :
    (iblk m c 1 t : Vec Ideal S512x128 .f32) y = rZ (mZ m c) (512 * (t.val % 16) + (y 0).val) (t.val / 16) (y 1).val := by
  unfold iblk
  rw [View.read_apply]
  have hi := (idx t).2.1
  refine Eq.trans (b := mZ m c (((cfg0.win 1).blk t).view.emb y)) (congrFun (V_main_arg1 m c) _) (tot_idx _ _ ?_ ?_)
  · show win0_1.index t 0 * 512 + 1 * (y 0).val = _; rw [hi.1]; omega
  · show win0_1.index t 1 * 128 + 1 * (y 1).val = _; rw [hi.2]; omega
theorem blk3 (t : Fin cfg0.N) (y : S512x128.Idx) :
    (iblk m c 3 t : Vec Ideal S512x128 .f32) y = rO (mG m c) (512 * (t.val % 16) + (y 0).val) (t.val / 16) (y 1).val := by
  unfold iblk
  rw [View.read_apply]
  have hi := (idx t).2.2.2.1
  refine Eq.trans (b := mG m c (((cfg0.win 3).blk t).view.emb y)) (congrFun (V_main_arg3 m c) _) (tot_idx _ _ ?_ ?_)
  · show win0_3.index t 0 * 512 + 1 * (y 0).val = _; rw [hi.1]; omega
  · show win0_3.index t 1 * 128 + 1 * (y 1).val = _; rw [hi.2]; omega

/-- The host lays the weight out as one row. -/
theorem V_w : (V m c main_v0 : Vec Ideal S1x128 .f32) = broadcastInDim S1x128 ![1] bcast_S128_S1x128_1 (mW m c) := by
  unfold V
  after_results_simp <;> rfl
theorem blk2 (t : Fin cfg0.N) (y : S1x128.Idx) : (iblk m c 2 t : Vec Ideal S1x128 .f32) y = wt (mW m c) (y 1).val := by
  unfold iblk
  rw [View.read_apply]
  have hi := (idx t).2.2.1
  have h1 : (y 1).val < 128 := (y 1).isLt
  refine (congrFun (V_w m c) (((cfg0.win 2).blk t).view.emb y)).trans ?_
  unfold wt
  rw [dif_pos h1]
  refine broadcastInDim_apply _ _ _ _ _ (fun a => match a with | ⟨0, _⟩ => ?_)
  show (y 1).val = if (128 : ℕ) = 1 then 0 else win0_2.index t 1 * 128 + 1 * (y 1).val
  rw [if_neg (by decide), hi.2]; omega

section

variable (x z g : Vec Ideal S512x128 .f32) (w : Vec Ideal S1x128 .f32)

/-- The values a block's rows share: the mean square, the logistic function, and what arrives at the normalised row. -/
theorem pay6_at (y : S512x1.Idx) {X : ℕ → EReal} (hX : ∀ k : Fin 128, x (ix2 (y 0) k) = X k.val) :
    k0_pay6 (F := Ideal) x y = ms 128 cn X := by
  unfold k0_pay6 ms cn ep
  pointwise
  simp only [hX]
theorem pay12_at (y : S512x128.Idx) : k0_pay12 (F := Ideal) z y = sg (z y) := by
  unfold k0_pay12 k0_pay11 k0_pay10
  pointwise
  exact sg_eq _
theorem pay14_at (y : S512x128.Idx) : k0_pay14 (F := Ideal) z g y = g y * (z y * sg (z y)) := by
  have e := pay12_at z y
  unfold k0_pay14
  pointwise
  rw [e]

/-- The three values of a block's row at a lane. -/
theorem pay2_at (y : S512x128.Idx) {X Z D W : ℕ → EReal} (hX : ∀ k : Fin 128, x (ix2 (y 0) k) = X k.val)
    (hZ : ∀ k : Fin 128, z (ix2 (y 0) k) = Z k.val) (hD : ∀ k : Fin 128, g (ix2 (y 0) k) = D k.val) (hW : ∀ k : Fin 128, w (ix2 0 k) = W k.val) :
    k0_pay2 (F := Ideal) x (k0_pay5 (F := Ideal) w) (k0_pay7 (F := Ideal) x) (k0_pay8 (F := Ideal) x) (k0_pay14 (F := Ideal) z g) y = d0 X Z W D (y 1).val := by
  have hy : y = ix2 (y 0) (y 1) := funext fun a => match a with | ⟨0, _⟩ => rfl | ⟨1, _⟩ => rfl
  have e1 : x y = X (y 1).val := (congrArg x hy).trans (hX _)
  have e3 : w (ix2 0 (y 1)) = W (y 1).val := hW _
  have h6 : ∀ u : Fin 1, k0_pay6 (F := Ideal) x (ix2 (y 0) u) = ms 128 cn X := fun u => pay6_at x (ix2 (y 0) u) hX
  have h14 : ∀ k : Fin 128, k0_pay14 (F := Ideal) z g (ix2 (y 0) k) = hh Z D k.val := fun k => (pay14_at z g _).trans (by rw [hZ k, hD k]; rfl)
  have e14 : k0_pay14 (F := Ideal) z g y = hh Z D (y 1).val := (congrArg _ hy).trans (h14 _)
  unfold k0_pay2 k0_pay5 k0_pay8 k0_pay7 d0 dx back rs
  pointwise
  simp only [h6, h14, e14, hX, hW, e1, e3, Fin.sum_univ_one]
  rfl
theorem pay3_at (y : S512x128.Idx) {X Z D W : ℕ → EReal} (hX : ∀ k : Fin 128, x (ix2 (y 0) k) = X k.val)
    (hZ : ∀ k : Fin 128, z (ix2 (y 0) k) = Z k.val) (hD : ∀ k : Fin 128, g (ix2 (y 0) k) = D k.val) (hW : ∀ k : Fin 128, w (ix2 0 k) = W k.val) :
    k0_pay3 (F := Ideal) (k0_pay10 (F := Ideal) z) (k0_pay15 (F := Ideal) x z w g) (k0_pay16 (F := Ideal) x z w g) y = d1 X Z W D (y 1).val := by
  have hy : y = ix2 (y 0) (y 1) := funext fun a => match a with | ⟨0, _⟩ => rfl | ⟨1, _⟩ => rfl
  have e1 : x y = X (y 1).val := (congrArg x hy).trans (hX _)
  have e2 : z y = Z (y 1).val := (congrArg z hy).trans (hZ _)
  have e3 : w (ix2 0 (y 1)) = W (y 1).val := hW _
  have e4 : g y = D (y 1).val := (congrArg g hy).trans (hD _)
  have h6 : ∀ u : Fin 1, k0_pay6 (F := Ideal) x (ix2 (y 0) u) = ms 128 cn X := fun u => pay6_at x (ix2 (y 0) u) hX
  unfold k0_pay3 k0_pay15 k0_pay16 k0_pay13 k0_pay12 k0_pay11 k0_pay10 k0_pay9 k0_pay7 k0_pay5 d1 rs
  pointwise
  simp only [h6, e1, e2, e3, e4, sg_eq, back_eq]
  rfl
theorem pay1_at (y : S1x128.Idx) {X Z D : ℕ → ℕ → EReal} (hX : ∀ (e : Fin 512) (k : Fin 128), x (ix2 e k) = X e.val k.val)
    (hZ : ∀ (e : Fin 512) (k : Fin 128), z (ix2 e k) = Z e.val k.val) (hD : ∀ (e : Fin 512) (k : Fin 128), g (ix2 e k) = D e.val k.val) :
    k0_pay1 (F := Ideal) (k0_pay9 (F := Ideal) x) (k0_pay14 (F := Ideal) z g) y = ∑ e : Fin 512, d2 (X e.val) (Z e.val) (D e.val) (y 1).val := by
  unfold k0_pay1 k0_pay9 k0_pay7 d2 rs hh
  pointwise
  refine Finset.sum_congr rfl fun e _ => ?_
  have e1 : x (ix2 e (y 1)) = X e.val (y 1).val := hX e (y 1)
  have e2 : z (ix2 e (y 1)) = Z e.val (y 1).val := hZ e (y 1)
  have e3 : g (ix2 e (y 1)) = D e.val (y 1).val := hD e (y 1)
  rw [pay6_at x (ix2 e 0) (fun k => hX e k), pay14_at, e1, e2, e3]

end

/-- The weight's cotangent from a point's block. -/
theorem dw_at (t : Fin cfg0.N) (y : S1x128.Idx) :
    k0_pay1 (F := Ideal) (k0_pay9 (F := Ideal) (iblk m c 0 t)) (k0_pay14 (F := Ideal) (iblk m c 1 t) (iblk m c 3 t)) y
      = stretch 512 (o2 (mX m c) (mZ m c) (mG m c) (y 1).val) t.val := by
  rw [stretch, ← Fin.sum_univ_eq_sum_range (fun e => o2 (mX m c) (mZ m c) (mG m c) (y 1).val (512 * t.val + e))]
  refine (pay1_at (iblk m c 0 t) (iblk m c 1 t) (iblk m c 3 t) y (X := fun e => rO (mX m c) (512 * (t.val % 16) + e) (t.val / 16))
    (Z := fun e => rZ (mZ m c) (512 * (t.val % 16) + e) (t.val / 16)) (D := fun e => rO (mG m c) (512 * (t.val % 16) + e) (t.val / 16))
    (fun e k => blk0 m c t _) (fun e k => blk1 m c t _) (fun e k => blk3 m c t _)).trans (Finset.sum_congr rfl fun e _ => ?_)
  have he := e.isLt
  unfold o2
  rw [show (512 * t.val + e.val) % 8192 = 512 * (t.val % 16) + e.val by omega, show (512 * t.val + e.val) / 8192 = t.val / 16 by omega]

/-- The two cotangents of the rows, at every point. -/
theorem out4 (t : Fin cfg0.N) (y : S512x128.Idx) : ((outsAt0 m c t.val t.isLt).1 : Vec Ideal S512x128 .f32) y
    = o0 (mX m c) (mZ m c) (wt (mW m c)) (mG m c) (512 * (t.val % 16) + (y 0).val) (128 * (t.val / 16) + (y 1).val) := by
  have hN : t.val < 128 := lt_of_lt_of_eq t.isLt N_0
  have h1 : (y 1).val < 128 := (y 1).isLt
  unfold o0
  rw [show (128 * (t.val / 16) + (y 1).val) / 128 = t.val / 16 by omega, show (128 * (t.val / 16) + (y 1).val) % 128 = (y 1).val by omega]
  refine Eq.trans ?_ (pay2_at (iblk m c 0 t) (iblk m c 1 t) (iblk m c 3 t) (iblk m c 2 t) y (fun k => blk0 m c t _) (fun k => blk1 m c t _) (fun k => blk3 m c t _) (fun k => blk2 m c t _))
  by_cases h0 : t.val % 128 = 0
  · rw [outsAt0_A m c t h0 (by omega)]
    frame_out
  · rw [outsAt0_B m c t h0 (by omega)]
    frame_out
theorem out5 (t : Fin cfg0.N) (y : S512x128.Idx) : ((outsAt0 m c t.val t.isLt).2.1 : Vec Ideal S512x128 .bf16) y
    = o1 (mX m c) (mZ m c) (wt (mW m c)) (mG m c) (512 * (t.val % 16) + (y 0).val) (128 * (t.val / 16) + (y 1).val) := by
  have hN : t.val < 128 := lt_of_lt_of_eq t.isLt N_0
  have h1 : (y 1).val < 128 := (y 1).isLt
  unfold o1
  rw [show (128 * (t.val / 16) + (y 1).val) / 128 = t.val / 16 by omega, show (128 * (t.val / 16) + (y 1).val) % 128 = (y 1).val by omega]
  refine Eq.trans ?_ (pay3_at (iblk m c 0 t) (iblk m c 1 t) (iblk m c 3 t) (iblk m c 2 t) y (fun k => blk0 m c t _) (fun k => blk1 m c t _) (fun k => blk3 m c t _) (fun k => blk2 m c t _))
  by_cases h0 : t.val % 128 = 0
  · rw [outsAt0_A m c t h0 (by omega)]
    frame_out
  · rw [outsAt0_B m c t h0 (by omega)]
    frame_out

/-- The weight's cotangent after point `n`: the rows so far. -/
theorem out6 (n : ℕ) (h : n < cfg0.N) (y : S1x128.Idx) : ((outsAt0 m c n h).2.2 : Vec Ideal S1x128 .f32) y
    = ∑ r ∈ Finset.range (512 * (n + 1)), o2 (mX m c) (mZ m c) (mG m c) (y 1).val r := by
  have hN : n < 128 := lt_of_lt_of_eq h N_0
  rw [← sum_stretches]
  induction n with
  | zero =>
    rw [outsAt0_A m c ⟨0, h⟩ rfl (by show ¬1 ≤ 0; omega)]
    frame_out
    rw [Nat.mul_zero, Finset.sum_range_zero, zero_add]
    exact dw_at m c ⟨0, h⟩ y
  | succ n ih =>
    rw [outsAt0_B m c ⟨n + 1, h⟩ (by show ¬(n + 1) % 128 = 0; omega) (by show 1 ≤ n + 1; omega)]
    frame_out
    have e : ∀ (u v : Vec Ideal S512x128 .f32) (s : Vec Ideal S1x128 .f32), k0_pay4 (F := Ideal) u v s y = s y + k0_pay1 (F := Ideal) u v y :=
      fun u v s => by unfold k0_pay4; pointwise
    refine (e _ _ _).trans ?_
    rw [dw_at m c ⟨n + 1, h⟩ y, ← sum_stretches, ← ih (Nat.lt_of_succ_lt h) (by omega)]
    rfl

/-- The three result arrays. -/
theorem fin4 : (dats m 0 c).arrAt 4 cfg0.N
    = (fun i => o0 (mX m c) (mZ m c) (wt (mW m c)) (mG m c) (i 0).val (i 1).val : Buf (Elt Ideal) ((c : Thread nD τ).loc main_v1_0)) := by
  refine (dats m 0 c).arrAt_eq_of_cover 4 _ (fun t _ => ?_) fun i => ?_
  · rw [flushed4]
    refine funext fun (y : S512x128.Idx) => ?_
    rw [View.read_apply]
    have hi := (idx t).2.2.2.2.1
    refine (out4 m c t y).trans (congrArg₂ _ ?_ ?_)
    · show _ = win0_4.index t 0 * 512 + 1 * (y 0).val; rw [hi.1]; omega
    · show _ = win0_4.index t 1 * 128 + 1 * (y 1).val; rw [hi.2]; omega
  · have b0 : (i 0).val < 8192 := (i 0).isLt
    have b1 : (i 1).val < 1024 := (i 1).isLt
    let t : Fin cfg0.N := ⟨16 * ((i 1).val / 128) + (i 0).val / 512, lt_of_lt_of_eq (by omega) N_0.symm⟩
    have hi := (idx t).2.2.2.2.1
    have ht : t.val = 16 * ((i 1).val / 128) + (i 0).val / 512 := rfl
    refine ⟨t, flush0_4 t, ?_⟩
    show i ∈ ((View.whole main_v1_0).slice (win0_4.rect t)).set
    rw [View.set_slice_whole, Rect.mem_set_unit]
    intro a
    match a with
    | ⟨0, _⟩ => show win0_4.index t 0 * 512 ≤ (i 0).val ∧ (i 0).val < win0_4.index t 0 * 512 + 512; rw [hi.1, ht]; omega
    | ⟨1, _⟩ => show win0_4.index t 1 * 128 ≤ (i 1).val ∧ (i 1).val < win0_4.index t 1 * 128 + 128; rw [hi.2, ht]; omega
theorem fin5 : (dats m 0 c).arrAt 5 cfg0.N
    = (fun i => o1 (mX m c) (mZ m c) (wt (mW m c)) (mG m c) (i 0).val (i 1).val : Buf (Elt Ideal) ((c : Thread nD τ).loc main_v1_1)) := by
  refine (dats m 0 c).arrAt_eq_of_cover 5 _ (fun t _ => ?_) fun i => ?_
  · rw [flushed5]
    refine funext fun (y : S512x128.Idx) => ?_
    rw [View.read_apply]
    have hi := (idx t).2.2.2.2.2.1
    refine (out5 m c t y).trans (congrArg₂ _ ?_ ?_)
    · show _ = win0_5.index t 0 * 512 + 1 * (y 0).val; rw [hi.1]; omega
    · show _ = win0_5.index t 1 * 128 + 1 * (y 1).val; rw [hi.2]; omega
  · have b0 : (i 0).val < 8192 := (i 0).isLt
    have b1 : (i 1).val < 1024 := (i 1).isLt
    let t : Fin cfg0.N := ⟨16 * ((i 1).val / 128) + (i 0).val / 512, lt_of_lt_of_eq (by omega) N_0.symm⟩
    have hi := (idx t).2.2.2.2.2.1
    have ht : t.val = 16 * ((i 1).val / 128) + (i 0).val / 512 := rfl
    refine ⟨t, flush0_5 t, ?_⟩
    show i ∈ ((View.whole main_v1_1).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1, ht]; omega
    | ⟨1, _⟩ => show win0_5.index t 1 * 128 ≤ (i 1).val ∧ (i 1).val < win0_5.index t 1 * 128 + 128; rw [hi.2, ht]; omega
theorem fin6 : (dats m 0 c).arrAt 6 cfg0.N
    = (fun i => o2sum (mX m c) (mZ m c) (mG m c) (i 1).val : Buf (Elt Ideal) ((c : Thread nD τ).loc main_v1_2)) := by
  refine (dats m 0 c).arrAt_eq_of_cover 6 _ (fun t hf => ?_) fun i => ?_
  · rw [flushed6]
    refine funext fun (y : S1x128.Idx) => ?_
    rw [View.read_apply]
    have hi := (idx t).2.2.2.2.2.2
    have ht := (flush0_6 t).mp hf
    have hN : t.val < 128 := lt_of_lt_of_eq t.isLt N_0
    have e0 : 512 * (t.val + 1) = 8192 * 8 := by omega
    have e1 : (y 1).val = ((((cfg0.win 6).blk t).view.emb y) 1).val := by
      show _ = win0_6.index t 1 * 128 + 1 * (y 1).val; rw [hi.2]; omega
    exact (out6 m c t.val t.isLt y).trans (o2sum_of (mX m c) (mZ m c) (mG m c) e0 e1)
  · have b0 : (i 0).val < 1 := (i 0).isLt
    have b1 : (i 1).val < 128 := (i 1).isLt
    let t : Fin cfg0.N := ⟨127, lt_of_lt_of_eq (by omega) N_0.symm⟩
    have hi := (idx t).2.2.2.2.2.2
    refine ⟨t, (flush0_6 t).mpr rfl, ?_⟩
    show i ∈ ((View.whole main_v1_2).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 128 ≤ (i 1).val ∧ (i 1).val < win0_6.index t 1 * 128 + 128; rw [hi.2]; omega

end Cert.PostBIdeal.Blk

namespace Cert.PostBProof

open Cert.Prod Cert.NormSpec Cert.PostBSpec Cert.Silu Cert.PostBRefIdeal Cert.PostBRefIdeal.Read

/-- The reference terminates, leaves its arguments alone and has no semaphores. -/
theorem frame_ref : Cert.quiescent_PostBRefIdeal (hPostBRefIdeal := Cert.PostBRefIdeal.Gen.facts) := fun m ρ _ =>
  (θ_run Cert.PostBRefIdeal.defs _ _).mono
    (fun r h => ⟨fun c => (h c).2.2.2, sem_eq_zero_of_no_sems rfl r.2⟩) (Cert.PostBRefIdeal.Value.run (F := Ideal) m ρ)

section Ref

variable (x0 : Vec Ideal S8192x1024 .f32) (x1 : Vec Ideal S8192x9216 .f32) (x2 : Vec Ideal S128 .f32) (x3 : Vec Ideal S8192x1024 .f32)

/-- The arguments split into heads. -/
theorem r1 (i : S8192x8x128.Idx) : val_main_v1 (F := Ideal) x0 i = rO x0 (i 0).val (i 1).val (i 2).val := by
  have h0 : (i 0).val < 8192 := (i 0).isLt
  have h1 : (i 1).val < 8 := (i 1).isLt
  have h2 : (i 2).val < 128 := (i 2).isLt
  rw [val_main_v1_apply]
  refine tot_idx _ _ ?_ ?_
  · show (((i 0).val * 8 + (i 1).val) * 128 + (i 2).val) / 1024 = _; omega
  · show (((i 0).val * 8 + (i 1).val) * 128 + (i 2).val) % 1024 = _; omega
theorem r21 (i : S8192x8x128.Idx) : val_main_v21 (F := Ideal) x3 i = rO x3 (i 0).val (i 1).val (i 2).val := r1 x3 i
theorem r2 (i : S8192x8x128.Idx) : val_main_v2 (F := Ideal) x1 i = rZ x1 (i 0).val (i 1).val (i 2).val := by
  have h0 : (i 0).val < 8192 := (i 0).isLt
  have h1 : (i 1).val < 8 := (i 1).isLt
  have h2 : (i 2).val < 128 := (i 2).isLt
  rw [val_main_v2_apply, val_main_v0_apply]
  refine tot_idx _ _ ?_ ?_
  · show (((i 0).val * 8 + (i 1).val) * 128 + (i 2).val) / 1024 = _; omega
  · show 4096 + (((i 0).val * 8 + (i 1).val) * 128 + (i 2).val) % 1024 = _; omega

/-- The mean square, the logistic function, and what arrives at the normalised row. -/
theorem r9 (e : Fin 8192) (q : Fin 8) (u : Fin 1) : val_main_v9 (F := Ideal) x0 (ix3 e q u) = ms 128 cn (rO x0 e.val q.val) := by
  have hX : ∀ k : Fin 128, val_main_v1 (F := Ideal) x0 (ix3 e q k) = rO x0 e.val q.val k.val := fun k => r1 x0 _
  unfold val_main_v9 val_main_v8 val_main_v7 val_main_v6 val_main_v5 val_main_v4 val_main_v3 val_main_cst val_main_cst_0 val_main_cst_1 ms cn ep
  pointwise
  simp only [hX]
theorem r19 (i : S8192x8x128.Idx) : val_main_v19_2 (F := Ideal) x1 i = sg (rZ x1 (i 0).val (i 1).val (i 2).val) := by
  rw [← r2 x1 i]
  unfold val_main_v19_2 val_main_call0_v4 val_main_call0_v3 val_main_call0_v2 val_main_call0_v1 val_main_call0_v0 val_main_call0_cst val_main_call0_cst_0 sg
  pointwise
theorem r23 (i : S8192x8x128.Idx) : val_main_v23 (F := Ideal) x1 x3 i = hh (rZ x1 (i 0).val (i 1).val) (rO x3 (i 0).val (i 1).val) (i 2).val := by
  have e1 := r19 x1 i
  have e2 := r2 x1 i
  have e3 := r21 x3 i
  unfold val_main_v23 val_main_v19_0 hh
  pointwise
  rw [e1, e2, e3]

/-- The three cotangents by head and lane. -/
theorem r44 (r : Fin 8192) (q : Fin 8) (k : Fin 128) : val_main_v44 (F := Ideal) x0 x1 x2 x3 (ix3 r q k)
    = d0 (rO x0 r.val q.val) (rZ x1 r.val q.val) (wt x2) (rO x3 r.val q.val) k.val := by
  have hX : ∀ k : Fin 128, val_main_v1 (F := Ideal) x0 (ix3 r q k) = rO x0 r.val q.val k.val := fun k => r1 x0 _
  have hH : ∀ k : Fin 128, val_main_v23 (F := Ideal) x1 x3 (ix3 r q k) = hh (rZ x1 r.val q.val) (rO x3 r.val q.val) k.val := fun k => r23 x1 x3 _
  have hW : ∀ k : Fin 128, x2 (ix1 k) = wt x2 k.val := fun k => wt_in x2 k
  have h9 : ∀ u : Fin 1, val_main_v9 (F := Ideal) x0 (ix3 r q u) = ms 128 cn (rO x0 r.val q.val) := fun u => r9 x0 r q u
  unfold val_main_v44 val_main_v43 val_main_v42 val_main_v41 val_main_v40 val_main_v39 val_main_v38 val_main_v37 val_main_v36 val_main_v35
    val_main_v34 val_main_v33 val_main_v32 val_main_v31 val_main_v29 val_main_v28 val_main_v16 val_main_v13 val_main_v12 val_main_v11 val_main_v10
    val_main_cst_2 val_main_cst_5 val_main_cst_6 val_main_cst_7 d0 dx back rs
  pointwise
  simp only [h9, hX, hH, hW, Fin.sum_univ_one]
  rfl
theorem r24 (r : Fin 8192) (q : Fin 8) (k : Fin 128) : val_main_v24 (F := Ideal) x0 x1 x2 x3 (ix3 r q k)
    = d1 (rO x0 r.val q.val) (rZ x1 r.val q.val) (wt x2) (rO x3 r.val q.val) k.val := by
  have e0 : val_main_v1 (F := Ideal) x0 (ix3 r q k) = rO x0 r.val q.val k.val := r1 x0 _
  have e1 : val_main_v2 (F := Ideal) x1 (ix3 r q k) = rZ x1 r.val q.val k.val := r2 x1 _
  have e2 : x2 (ix1 k) = wt x2 k.val := wt_in x2 k
  have e3 : val_main_v21 (F := Ideal) x3 (ix3 r q k) = rO x3 r.val q.val k.val := r21 x3 _
  have e4 : val_main_v19_2 (F := Ideal) x1 (ix3 r q k) = sg (rZ x1 r.val q.val k.val) := r19 x1 _
  have h9 : ∀ u : Fin 1, val_main_v9 (F := Ideal) x0 (ix3 r q u) = ms 128 cn (rO x0 r.val q.val) := fun u => r9 x0 r q u
  unfold val_main_v24 val_main_call1_v2 val_main_call1_v1 val_main_call1_v0 val_main_v22 val_main_v19_1 val_main_call0_v7 val_main_call0_v6
    val_main_call0_cst_1 val_main_v18 val_main_v17 val_main_v16 val_main_v15 val_main_v14 val_main_v10 d1 dact rs
  pointwise
  simp only [h9, e0, e1, e2, e3, e4]
theorem r25 (r : Fin 8192) (q : Fin 8) (k : Fin 128) : val_main_v25 (F := Ideal) x0 x1 x3 (ix3 r q k)
    = d2 (rO x0 r.val q.val) (rZ x1 r.val q.val) (rO x3 r.val q.val) k.val := by
  have e0 : val_main_v1 (F := Ideal) x0 (ix3 r q k) = rO x0 r.val q.val k.val := r1 x0 _
  have hH : val_main_v23 (F := Ideal) x1 x3 (ix3 r q k) = hh (rZ x1 r.val q.val) (rO x3 r.val q.val) k.val := r23 x1 x3 _
  have h9 : ∀ u : Fin 1, val_main_v9 (F := Ideal) x0 (ix3 r q u) = ms 128 cn (rO x0 r.val q.val) := fun u => r9 x0 r q u
  unfold val_main_v25 val_main_v15 val_main_v14 val_main_v10 d2 rs
  pointwise
  simp only [h9, e0, hH]

/-- The reference's three results. -/
theorem r45 (i : S8192x1024.Idx) : val_main_v45 (F := Ideal) x0 x1 x2 x3 i = o0 x0 x1 (wt x2) x3 (i 0).val (i 1).val := by
  have h0 : (i 0).val < 8192 := (i 0).isLt
  have h1 : (i 1).val < 1024 := (i 1).isLt
  refine (val_main_v45_apply x0 x1 x2 x3 i).trans ?_
  refine Eq.trans (congrArg _ (?_ : _ = ix3 (⟨(i 0).val, h0⟩ : Fin 8192) (⟨(i 1).val / 128, by omega⟩ : Fin 8) (⟨(i 1).val % 128, by omega⟩ : Fin 128))) (r44 x0 x1 x2 x3 _ _ _)
  funext a
  match a with
  | ⟨0, _⟩ => refine Fin.ext ?_; show ((i 0).val * 1024 + (i 1).val) / 1024 = (i 0).val; omega
  | ⟨1, _⟩ => refine Fin.ext ?_; show ((i 0).val * 1024 + (i 1).val) / 128 % 8 = (i 1).val / 128; omega
  | ⟨2, _⟩ => refine Fin.ext ?_; show ((i 0).val * 1024 + (i 1).val) % 128 = (i 1).val % 128; omega
theorem r47 (i : S8192x1024.Idx) : val_main_v47 (F := Ideal) x0 x1 x2 x3 i = o1 x0 x1 (wt x2) x3 (i 0).val (i 1).val := by
  have h0 : (i 0).val < 8192 := (i 0).isLt
  have h1 : (i 1).val < 1024 := (i 1).isLt
  refine (val_main_v46_apply x0 x1 x2 x3 i).trans ?_
  refine Eq.trans (congrArg _ (?_ : _ = ix3 (⟨(i 0).val, h0⟩ : Fin 8192) (⟨(i 1).val / 128, by omega⟩ : Fin 8) (⟨(i 1).val % 128, by omega⟩ : Fin 128))) (r24 x0 x1 x2 x3 _ _ _)
  funext a
  match a with
  | ⟨0, _⟩ => refine Fin.ext ?_; show ((i 0).val * 1024 + (i 1).val) / 1024 = (i 0).val; omega
  | ⟨1, _⟩ => refine Fin.ext ?_; show ((i 0).val * 1024 + (i 1).val) / 128 % 8 = (i 1).val / 128; omega
  | ⟨2, _⟩ => refine Fin.ext ?_; show ((i 0).val * 1024 + (i 1).val) % 128 = (i 1).val % 128; omega
theorem drop_at {a b : ℕ} (h : (⟨3, ![a, b, 128]⟩ : Shape).ReducesTo [0, 1] S128) (i : (⟨3, ![a, b, 128]⟩ : Shape).Idx) (j : S128.Idx) :
    h.drop i = j ↔ (i 2).val = (j 0).val :=
  ⟨fun e => (congrArg (fun u : S128.Idx => (u 0).val) e : (h.drop i 0).val = (j 0).val), fun e => funext fun a => match a with | ⟨0, _⟩ => Fin.ext e⟩
theorem r26 (k : Fin 128) : val_main_v26 (F := Ideal) x0 x1 x3 (ix1 k) = o2sum x0 x1 x3 k.val := by
  unfold o2sum o2
  rw [sum_pairs 8192 8 (by omega) (fun r q => d2 (rO x0 r q) (rZ x1 r q) (rO x3 r q) k.val),
    ← Fin.sum_univ_eq_sum_range (fun r => ∑ q ∈ Finset.range 8, d2 (rO x0 r q) (rZ x1 r q) (rO x3 r q) k.val)]
  refine (reduce2 _ _ _ _ k (fun i => drop_at _ i _)).trans ?_
  refine Eq.trans (congrArg₂ _ ?_ (Finset.sum_congr rfl fun r _ => ?_)) (zero_add _)
  · unfold val_main_cst_3; pointwise
  · rw [← Fin.sum_univ_eq_sum_range (fun q => d2 (rO x0 r.val q) (rZ x1 r.val q) (rO x3 r.val q) k.val)]
    exact Finset.sum_congr rfl fun q _ => r25 x0 x1 x3 r q k
theorem r48 (i : S1x128.Idx) : val_main_v48 (F := Ideal) x0 x1 x3 i = o2sum x0 x1 x3 (i 1).val := by
  refine Eq.trans ?_ (r26 x0 x1 x3 (i 1))
  refine (val_main_v48_apply x0 x1 x3 i).trans ?_
  refine (reduce2 (n := 128) _ _ _ _ (i 1) (fun u => drop_at _ u _)).trans ?_
  refine Eq.trans (congrArg₂ _ ?_ ?_) (zero_add _)
  · unfold val_main_cst_4; pointwise
  · refine (Fin.sum_univ_one _).trans ((Fin.sum_univ_one _).trans ((val_main_v27_apply x0 x1 x3 _).trans ?_))
    refine congrArg _ (funext fun a => match a with | ⟨0, _⟩ => Fin.ext ?_)
    show (0 * 1 + 0) * 128 + (i 1).val = (i 1).val
    omega

end Ref

/-- The call computes the derivatives. -/
theorem algebraic : Cert.algebraic_PostBIdeal_PostBRefIdeal (hPostBIdeal := Cert.PostBIdeal.Gen.facts)
    (hPostBRefIdeal := Cert.PostBRefIdeal.Gen.facts) := by
  intro m ρ m' ρ' _ hm
  refine ⟨_, _, _, Cert.PostBIdeal.Value.run_blocks m ρ, ?_⟩
  refine (θ_run Cert.PostBRefIdeal.defs _ _).mono (fun r h c => ?_) (Cert.PostBRefIdeal.Value.run (F := Ideal) m' ρ')
  obtain ⟨a0, a1, a2, a3⟩ := hm c
  obtain ⟨h0, h1, h2, hk⟩ := h c
  refine ⟨h0.trans ?_, h1.trans ?_, h2.trans ?_, hk⟩
  · refine ((val_main_v45_eq m' c).trans ?_).trans (Cert.PostBIdeal.Blk.fin4 m c).symm
    rw [a0, a1, a2, a3]; exact funext fun i => r45 _ _ _ _ i
  · refine ((val_main_v47_eq _ _ _ _).trans ?_).trans (Cert.PostBIdeal.Blk.fin5 m c).symm
    rw [a0, a1, a2, a3]; exact funext fun i => r47 _ _ _ _ i
  · refine ((val_main_v48_eq _ _ _).trans ?_).trans (Cert.PostBIdeal.Blk.fin6 m c).symm
    rw [a0, a1, a3]; exact funext fun i => r48 _ _ _ i

end Cert.PostBProof

end
-- ==== Proof.PreSpec.lean ====
/-
  The mathematics of the heads' preparation and its backward pass, one column at a time over extended reals: a causal
  four-tap convolution of 3072 columns of the projection, the logistic gate, and in each head of 128 columns of the first
  two thirds the division by the length; its gradients are those of the projection's columns and of the taps.
-/
module

public import proofs.«01_k».proof.Proof.Silu
public import proofs.«01_k».proof.Proof.NormSpec

@[expose] public section

noncomputable section

namespace Cert.PreSpec

open Idealize.ShloMosaic Cert.NormSpec

/-- The projection, the taps and a cotangent. -/
abbrev Proj := (⟨2, ![8192, 9216]⟩ : Shape).Idx → EReal
abbrev Taps := (⟨2, ![4, 3072]⟩ : Shape).Idx → EReal
abbrev Ct := (⟨2, ![8192, 1024]⟩ : Shape).Idx → EReal

/-- Column `1024 + q` of the projection with three zero rows above it (row `n` is the array's row `n - 3`) and zeros below. -/
def xs (x : Proj) (q : Fin 3072) (n : ℕ) : EReal :=
  if h : 3 ≤ n ∧ n < 8195 then x (ix2 (⟨n - 3, by omega⟩ : Fin 8192) (⟨1024 + q.val, by omega⟩ : Fin 9216)) else 0

/-- Column `p` of a cotangent, zero below the last row. -/
def gt (g : Ct) (p : Fin 1024) (r : ℕ) : EReal := if h : r < 8192 then g (ix2 (⟨r, h⟩ : Fin 8192) p) else 0

theorem xs_in (x : Proj) (q : Fin 3072) (n : ℕ) (r : Fin 8192) (p : Fin 9216) (h : n = r.val + 3) (hp : p.val = 1024 + q.val) :
    xs x q n = x (ix2 r p) := by
  subst h; unfold xs; rw [dif_pos (by omega)]
  exact congrArg x (funext fun a => Fin.ext (match a with | ⟨0, _⟩ => Nat.add_sub_cancel _ _ | ⟨1, _⟩ => hp.symm))
theorem xs_out (x : Proj) (q : Fin 3072) (n : ℕ) (h : n < 3 ∨ 8195 ≤ n) : xs x q n = 0 := by
  unfold xs; rw [dif_neg (by omega)]
theorem gt_in (g : Ct) (p : Fin 1024) (n : ℕ) (r : Fin 8192) (h : n = r.val) : gt g p n = g (ix2 r p) := by
  subst h; unfold gt; rw [dif_pos r.isLt]
theorem gt_out (g : Ct) (p : Fin 1024) (n : ℕ) (h : 8192 ≤ n) : gt g p n = 0 := by
  unfold gt; rw [dif_neg (by omega)]

/-- The causal convolution of column `q`, at row `r`. -/
def cv (x : Proj) (w : Taps) (q : Fin 3072) (r : ℕ) : EReal :=
  w (ix2 (3 : Fin 4) q) * xs x q (r + 3) + w (ix2 (2 : Fin 4) q) * xs x q (r + 2) + w (ix2 (1 : Fin 4) q) * xs x q (r + 1)
    + w (ix2 (0 : Fin 4) q) * xs x q r

/-- A head's entry after the gate, and what arrives at it from the head's division by its length. -/
def us (X : Fin 128 → EReal) (l : Fin 128) : EReal := X l * Cert.Silu.sg (X l)
def hs (X : Fin 128 → EReal) : EReal := (∑ k : Fin 128, us X k * us X k) + ep
def hz (X G : Fin 128 → EReal) : EReal := (∑ k : Fin 128, us X k * G k) * (mh * Ideal.div (Ideal.rsqrt (hs X)) (hs X))
def hd (X G : Fin 128 → EReal) (l : Fin 128) : EReal := (G l * Ideal.rsqrt (hs X) + us X l * hz X G) + hz X G * us X l

/-- The scale of the first third. -/
def kq : EReal := Ideal.ofBits FTy.f32 0x3DB504F3#32

/-- What arrives at a head's convolution outputs `X` from its cotangent `G`: the first third is scaled, the last not divided. -/
def dq (X G : Fin 128 → EReal) (l : Fin 128) : EReal := Cert.Silu.dact (X l) (hd X (fun k => G k * kq) l)
def dk (X G : Fin 128 → EReal) (l : Fin 128) : EReal := Cert.Silu.dact (X l) (hd X G l)
def dv (X G : Fin 128 → EReal) (l : Fin 128) : EReal := Cert.Silu.dact (X l) (G l)

/-- Without a cotangent nothing arrives. -/
theorem hd_zero (X : Fin 128 → EReal) (l : Fin 128) : hd X (fun _ => 0) l = 0 := by
  unfold hd hz
  simp only [mul_zero, zero_mul, Finset.sum_const_zero, add_zero]
theorem dq_zero (X : Fin 128 → EReal) (l : Fin 128) : dq X (fun _ => 0) l = 0 := by
  unfold dq; simp only [zero_mul, hd_zero, Cert.Silu.dact_zero]
theorem dk_zero (X : Fin 128 → EReal) (l : Fin 128) : dk X (fun _ => 0) l = 0 := by
  unfold dk; rw [hd_zero, Cert.Silu.dact_zero]
theorem dv_zero (X : Fin 128 → EReal) (l : Fin 128) : dv X (fun _ => 0) l = 0 := Cert.Silu.dact_zero _

/-- Column `l` of head `j` of the 24, and of head `j` of one third. -/
def hc (j : Fin 24) (l : Fin 128) : Fin 3072 := ⟨128 * j.val + l.val, by omega⟩
def tc (j : Fin 24) (l : Fin 128) : Fin 1024 := ⟨128 * (j.val % 8) + l.val, by omega⟩

/-- The cotangent of the convolution's column `hc j l` at row `r`. -/
def D (x : Proj) (w : Taps) (gq gk gv : Ct) (j : Fin 24) (l : Fin 128) (r : ℕ) : EReal :=
  if j.val < 8 then dq (fun k => cv x w (hc j k) r) (fun k => gt gq (tc j k) r) l
  else if j.val < 16 then dk (fun k => cv x w (hc j k) r) (fun k => gt gk (tc j k) r) l
  else dv (fun k => cv x w (hc j k) r) (fun k => gt gv (tc j k) r) l

theorem D_zero (x : Proj) (w : Taps) (gq gk gv : Ct) (j : Fin 24) (l : Fin 128) (r : ℕ) (h : 8192 ≤ r) : D x w gq gk gv j l r = 0 := by
  unfold D
  simp only [gt_out _ _ r h, dq_zero, dk_zero, dv_zero, ite_self]

/-- The transposed convolution of a cotangent column. -/
def dx (w : Taps) (q : Fin 3072) (D : ℕ → EReal) (r : ℕ) : EReal :=
  w (ix2 (3 : Fin 4) q) * D r + w (ix2 (2 : Fin 4) q) * D (r + 1) + w (ix2 (1 : Fin 4) q) * D (r + 2) + w (ix2 (0 : Fin 4) q) * D (r + 3)

/-- What row `k` of the taps' gradient pairs with row `r` of the cotangent, and its sum over the first `n` rows. -/
def tap (f : ℕ → EReal) (k : Fin 8) (r : ℕ) : EReal := if k.val < 4 then f (r + k.val) else 0
def dw (f D : ℕ → EReal) (k : Fin 8) (n : ℕ) : EReal := ∑ r ∈ Finset.range n, D r * tap f k r

/-- 1024 more rows of a tap's gradient. -/
theorem dw_block (f D : ℕ → EReal) (k : Fin 8) (o : ℕ) :
    dw f D k (o + 1024) = dw f D k o + ∑ e : Fin 1024, D (o + e.val) * tap f k (o + e.val) := by
  unfold dw
  rw [Finset.sum_range_add, ← Finset.sum_range fun e => D (o + e) * tap f k (o + e)]

/-- The head and the place in it of a column. -/
def jh (q : Fin 3072) : Fin 24 := ⟨q.val / 128, by omega⟩
def lh (q : Fin 3072) : Fin 128 := ⟨q.val % 128, Nat.mod_lt _ (by decide)⟩
theorem hc_jh (q : Fin 3072) : hc (jh q) (lh q) = q := Fin.ext (Nat.div_add_mod _ _)

/-- The two results. -/
def o0 (x : Proj) (w : Taps) (gq gk gv : Ct) (i : (⟨2, ![8192, 3072]⟩ : Shape).Idx) : EReal :=
  dx w (i 1) (D x w gq gk gv (jh (i 1)) (lh (i 1))) (i 0).val
def o1 (x : Proj) (w : Taps) (gq gk gv : Ct) (i : (⟨2, ![8, 3072]⟩ : Shape).Idx) : EReal :=
  dw (xs x (i 1)) (D x w gq gk gv (jh (i 1)) (lh (i 1))) (i 0) 8192

end Cert.PreSpec

end
-- ==== Proof.PrePay.lean ====
/-
  The payloads of one grid point of the heads' backward pass read at an index: the block with the next rows appended, the
  convolution on it, the three kinds of cotangent, their transposed convolution, and the row sums of the taps' gradient.
-/
module

public import proofs.«01_k».proof.Proof.Gen.PreBIdeal.Value
public import proofs.«01_k».proof.Proof.Shift
public import proofs.«01_k».proof.Proof.PreSpec

@[expose] public section

noncomputable section

open Idealize.ShloMosaic Idealize.ShloMosaic.TcCoe Idealize.SL.Sem

namespace Cert.PreBIdeal.Blk

open Cert.PreBIdeal Cert.PreBIdeal.Gen Cert.PreSpec

/-- Whether a grid point is the last, and the first, of its column. -/
abbrev lastB (i : grid0.Coords) : BitVec 1 := Scalar.cmpi .eq (BitVec.ofNat 32 (i 1).val) 7#32
abbrev firstB (i : grid0.Coords) : BitVec 1 := Scalar.cmpi .eq (BitVec.ofNat 32 (i 1).val) 0#32

/-- Rows followed by eight more, or by zeros. -/
abbrev ext (b : BitVec 1) (X : FVec Ideal S1024x128 .f32) (Y : FVec Ideal S8x128 .f32) : FVec Ideal S1032x128 .f32 :=
  concatenate S1032x128 0 [⟨S1024x128, X⟩, ⟨S8x128, Scalar.select b (broadcast S8x128 (Scalar.ofBits (F := Ideal) .f32 0x00000000#32)) Y⟩]
    concatenates_S1024x128_S8x128_S1032x128_d0

/-- A choice between two vectors on one bit, read at an index. -/
theorem sel_zero {s : Shape} (b : BitVec 1) (Y : FVec Ideal s .f32) (i : s.Idx) :
    (Scalar.select b (broadcast s (Scalar.ofBits (F := Ideal) .f32 0x00000000#32)) Y : FVec Ideal s .f32) i = Scalar.select b 0 (Y i) := by
  rw [← Ideal.ofBits_zero_f32]
  unfold Scalar.select; split <;> rfl

/-- They hold the columns `f` from row `o` on, when each part does. -/
theorem ext_apply (b : BitVec 1) (X : FVec Ideal S1024x128 .f32) (Y : FVec Ideal S8x128 .f32) (f : Fin 128 → ℕ → EReal) (o : ℕ)
    (hX : ∀ (e : Fin 1024) (l : Fin 128), X (ix2 e l) = f l (e.val + o))
    (hY : ∀ (e : Fin 8) (l : Fin 128), Scalar.select b 0 (Y (ix2 e l)) = f l (1024 + e.val + o))
    (e : Fin 1032) (l : Fin 128) : ext b X Y (ix2 e l) = f l (e.val + o) := by
  by_cases h : e.val < 1024
  · exact (concatenate_pair_apply_left (t := S1032x128) (s₁ := S1024x128) (s₂ := S8x128) (0 : Fin 2) _ _ _ _ rfl
      (ix2 (⟨e.val, h⟩ : Fin 1024) l) (fun b => match b with | ⟨0, _⟩ => rfl | ⟨1, _⟩ => rfl)).trans (hX ⟨e.val, h⟩ l)
  · refine (concatenate_pair_apply_right (t := S1032x128) (s₁ := S1024x128) (s₂ := S8x128) (0 : Fin 2) _ _ _ _ rfl rfl
      (ix2 (⟨e.val - 1024, by omega⟩ : Fin 8) l) (fun b => match b with
        | ⟨0, _⟩ => fun hne => absurd rfl hne
        | ⟨1, _⟩ => fun _ => rfl) (by show e.val - 1024 + 1024 = e.val; omega)).trans ?_
    rw [sel_zero, hY]
    exact congrArg (f l) (by show 1024 + (e.val - 1024) + o = _; omega)

/-- The appended block read at an index, by rows. -/
theorem ext_read (b : BitVec 1) (X : FVec Ideal S1024x128 .f32) (Y : FVec Ideal S8x128 .f32) (e : Fin 1032) (l : Fin 128) :
    ext b X Y (ix2 e l)
      = if h : e.val < 1024 then X (ix2 (⟨e.val, h⟩ : Fin 1024) l) else Scalar.select b 0 (Y (ix2 (⟨e.val - 1024, by omega⟩ : Fin 8) l)) := by
  unfold ext
  pointwise

/-- The input blocks of a point: `f l n` is a column of the projection, row `n` counted from three rows above the block. -/
structure Holds (i : grid0.Coords) (x0 : Vec Ideal S1024x128 .f32) (x1 x2 : Vec Ideal S8x128 .f32) (f : Fin 128 → ℕ → EReal) : Prop where
  rows : ∀ (e : Fin 1024) (l : Fin 128), x0 (ix2 e l) = f l (e.val + 3)
  next : ∀ (e : Fin 8) (l : Fin 128), Scalar.select (lastB i) 0 (x2 (ix2 e l)) = f l (1024 + e.val + 3)
  prev : ∀ (e : Fin 8) (l : Fin 128), 5 ≤ e.val → Scalar.select (firstB i) 0 (x1 (ix2 e l)) = f l (e.val - 5)

/-- And of a cotangent, counted from the block's first row. -/
structure HoldsC (i : grid0.Coords) (x : Vec Ideal S1024x128 .f32) (y : Vec Ideal S8x128 .f32) (G : Fin 128 → ℕ → EReal) : Prop where
  rows : ∀ (e : Fin 1024) (l : Fin 128), x (ix2 e l) = G l (e.val + 0)
  next : ∀ (e : Fin 8) (l : Fin 128), Scalar.select (lastB i) 0 (y (ix2 e l)) = G l (1024 + e.val + 0)

/-- A row of taps. -/
abbrev tapRow3 (x : Vec Ideal S4x128 .f32) : Vec Ideal S1x128 .f32 := View.ld x (Rect.unit ![3, 0] ![1, 128] inb_S4x128_S1x128_3_0)
abbrev tapRow2 (x : Vec Ideal S4x128 .f32) : Vec Ideal S1x128 .f32 := View.ld x (Rect.unit ![2, 0] ![1, 128] inb_S4x128_S1x128_2_0)
abbrev tapRow1 (x : Vec Ideal S4x128 .f32) : Vec Ideal S1x128 .f32 := View.ld x (Rect.unit ![1, 0] ![1, 128] inb_S4x128_S1x128_1_0)
abbrev tapRow0 (x : Vec Ideal S4x128 .f32) : Vec Ideal S1x128 .f32 := View.ld x (Rect.unit ![0, 0] ![1, 128] inb_S4x128_S1x128_0_0)

/-- The taps' convolution of the column `f` as it runs: row `e` sees rows `e + 3` to `e`. -/
def cvl (w : Vec Ideal S4x128 .f32) (f : Fin 128 → ℕ → EReal) (l : Fin 128) (e : ℕ) : EReal :=
  tapRow3 w (ix2 (0 : Fin 1) l) * f l (e + 3) + tapRow2 w (ix2 (0 : Fin 1) l) * f l (e + 2) + tapRow1 w (ix2 (0 : Fin 1) l) * f l (e + 1)
    + tapRow0 w (ix2 (0 : Fin 1) l) * f l e

/-- The printed shift of a block, with the rows before it put in front. -/
theorem shift1032 {k : ℕ} (hk : k < 4) (E : FVec Ideal S1032x128 .f32) (P : FVec Ideal S8x128 .f32) (f : Fin 128 → ℕ → EReal)
    (hE : ∀ (e : Fin 1032) (l : Fin 128), E (ix2 e l) = f l (e.val + 3))
    (hP : ∀ (e : Fin 8) (l : Fin 128), 5 ≤ e.val → P (ix2 e l) = f l (e.val - 5)) (e : Fin 1032) (l : Fin 128) :
    concatenate S1032x128 0 [⟨S8x128, select (cmpi .slt (iota .tc S8x128 32 [0] iota_S8x128_d0_w32) (broadcast S8x128 (BitVec.ofNat 32 k)))
            (dynamicRotate 0 (BitVec.ofNat 32 k) none P rotates_S8x128_d0)
            (extractStridedSlice S8x128 ![0, 0] (dynamicRotate 0 (BitVec.ofNat 32 k) none E rotates_S1032x128_d0) slices_S1032x128_o0_0_S8x128)⟩,
          ⟨S1024x128, extractStridedSlice S1024x128 ![8, 0] (dynamicRotate 0 (BitVec.ofNat 32 k) none E rotates_S1032x128_d0) slices_S1032x128_o8_0_S1024x128⟩]
          concatenates_S8x128_S1024x128_S1032x128_d0 (ix2 e l)
      = f l (e.val + 3 - k) := by
  refine (Cert.Shift.shift_apply (N := 1032) (M := 1024) (L := 128) rfl (by omega) E P _ _ _ _ _ _ e l).trans ?_
  by_cases h : e.val < k
  · rw [dif_pos h, hP _ _ (by show 5 ≤ 8 - k + e.val; omega)]
    exact congrArg (f l) (by show 8 - k + e.val - 5 = _; omega)
  · rw [dif_neg h, hE]
    exact congrArg (f l) (by show e.val - k + 3 = _; omega)
theorem shift1024 {k : ℕ} (hk : k < 4) (E : FVec Ideal S1024x128 .f32) (P : FVec Ideal S8x128 .f32) (f : Fin 128 → ℕ → EReal)
    (hE : ∀ (e : Fin 1024) (l : Fin 128), E (ix2 e l) = f l (e.val + 3))
    (hP : ∀ (e : Fin 8) (l : Fin 128), 5 ≤ e.val → P (ix2 e l) = f l (e.val - 5)) (e : Fin 1024) (l : Fin 128) :
    concatenate S1024x128 0 [⟨S8x128, select (cmpi .slt (iota .tc S8x128 32 [0] iota_S8x128_d0_w32) (broadcast S8x128 (BitVec.ofNat 32 k)))
            (dynamicRotate 0 (BitVec.ofNat 32 k) none P rotates_S8x128_d0)
            (extractStridedSlice S8x128 ![0, 0] (dynamicRotate 0 (BitVec.ofNat 32 k) none E rotates_S1024x128_d0) slices_S1024x128_o0_0_S8x128)⟩,
          ⟨S1016x128, extractStridedSlice S1016x128 ![8, 0] (dynamicRotate 0 (BitVec.ofNat 32 k) none E rotates_S1024x128_d0) slices_S1024x128_o8_0_S1016x128⟩]
          concatenates_S8x128_S1016x128_S1024x128_d0 (ix2 e l)
      = f l (e.val + 3 - k) := by
  refine (Cert.Shift.shift_apply (N := 1024) (M := 1016) (L := 128) rfl (by omega) E P _ _ _ _ _ _ e l).trans ?_
  by_cases h : e.val < k
  · rw [dif_pos h, hP _ _ (by show 5 ≤ 8 - k + e.val; omega)]
    exact congrArg (f l) (by show 8 - k + e.val - 5 = _; omega)
  · rw [dif_neg h, hE]
    exact congrArg (f l) (by show e.val - k + 3 = _; omega)

/-- A row broadcast down a block. -/
theorem row1032 (w : FVec Ideal S1x128 .f32) (e : Fin 1032) (l : Fin 128) :
    broadcastTo S1032x128 w broadcasts_S1x128_S1032x128 (ix2 e l) = w (ix2 (0 : Fin 1) l) := by
  pointwise
theorem row1024 (w : FVec Ideal S1x128 .f32) (e : Fin 1024) (l : Fin 128) :
    broadcastTo S1024x128 w broadcasts_S1x128_S1024x128 (ix2 e l) = w (ix2 (0 : Fin 1) l) := by
  pointwise

section Read

variable {i : grid0.Coords} {x0 : Vec Ideal S1024x128 .f32} {x1 x2 : Vec Ideal S8x128 .f32} {f : Fin 128 → ℕ → EReal}
  (h : Holds i x0 x1 x2 f)

/-- The convolution over the block and the next rows. -/
abbrev kC (i : grid0.Coords) (x0 : Vec Ideal S1024x128 .f32) (x1 x2 : Vec Ideal S8x128 .f32) (x3 : Vec Ideal S4x128 .f32) : FVec Ideal S1032x128 .f32 :=
  k0_pay1 (k0_pay52 i x1) (k0_pay53 i x0 x2) (k0_pay54 i x0 x1 x2 (tapRow3 x3) (tapRow2 x3)) (tapRow1 x3) (k0_pay55 i x0 x2) k0_pay56
    (k0_pay57 i x1) (tapRow0 x3)

include h in
theorem prev_apply (e : Fin 8) (l : Fin 128) (he : 5 ≤ e.val) : k0_pay52 i x1 (ix2 e l) = f l (e.val - 5) :=
  (sel_zero _ _ _).trans (h.prev e l he)

include h in
theorem kC_apply (x3 : Vec Ideal S4x128 .f32) (e : Fin 1032) (l : Fin 128) : kC i x0 x1 x2 x3 (ix2 e l) = cvl x3 f l e.val := by
  have h0 : ∀ (e : Fin 1032) (l : Fin 128), k0_pay53 i x0 x2 (ix2 e l) = f l (e.val + 3) := ext_apply (lastB i) x0 x2 f 3 h.rows h.next
  have h1 := shift1032 (k := 1) (by omega) _ _ f h0 (prev_apply h) e l
  have h2 := shift1032 (k := 2) (by omega) _ _ f h0 (prev_apply h) e l
  have h3 := shift1032 (k := 3) (by omega) _ _ f h0 (prev_apply h) e l
  rw [show e.val + 3 - 1 = e.val + 2 from rfl] at h1
  rw [show e.val + 3 - 2 = e.val + 1 from rfl] at h2
  rw [show e.val + 3 - 3 = e.val from rfl] at h3
  unfold cvl
  rw [← row1032 (tapRow3 x3) e l, ← row1032 (tapRow2 x3) e l, ← row1032 (tapRow1 x3) e l, ← row1032 (tapRow0 x3) e l, ← h0 e l, ← h1, ← h2, ← h3]
  rfl

/-- The three kinds of cotangent at a row of the block and the next rows. -/
abbrev kq' (b : BitVec 1) (C : FVec Ideal S1032x128 .f32) (x : Vec Ideal S1024x128 .f32) (y : Vec Ideal S8x128 .f32) : FVec Ideal S1032x128 .f32 :=
  k0_pay16 (k0_pay9 C) (k0_pay13 b C x y) (k0_pay14 b C x y) k0_pay15
abbrev kk' (b : BitVec 1) (C : FVec Ideal S1032x128 .f32) (x : Vec Ideal S1024x128 .f32) (y : Vec Ideal S8x128 .f32) : FVec Ideal S1032x128 .f32 :=
  k0_pay34 (k0_pay27 C) (k0_pay31 b C x y) (k0_pay32 b C x y) k0_pay33

theorem kq_apply (b : BitVec 1) (C : FVec Ideal S1032x128 .f32) (x : Vec Ideal S1024x128 .f32) (y : Vec Ideal S8x128 .f32) (e : Fin 1032)
    {X G : Fin 128 → EReal} (hX : ∀ l : Fin 128, C (ix2 e l) = X l) (hG : ∀ l : Fin 128, ext b x y (ix2 e l) = G l) (l : Fin 128) :
    kq' b C x y (ix2 e l) = dq X G l := by
  unfold dq
  rw [← Cert.Silu.dact_eq]
  unfold hd hz hs us kq Cert.NormSpec.ep Cert.NormSpec.mh
  simp only [← Cert.Silu.sg_eq]
  unfold kq' k0_pay16 k0_pay13 k0_pay14 k0_pay15 k0_pay12 k0_pay11 k0_pay10 k0_pay9
  have hG' := fun l => (ext_read b x y e l).symm.trans (hG l)
  pointwise
  simp only [hX, hG', Fin.sum_univ_one]

theorem kk_apply (b : BitVec 1) (C : FVec Ideal S1032x128 .f32) (x : Vec Ideal S1024x128 .f32) (y : Vec Ideal S8x128 .f32) (e : Fin 1032)
    {X G : Fin 128 → EReal} (hX : ∀ l : Fin 128, C (ix2 e l) = X l) (hG : ∀ l : Fin 128, ext b x y (ix2 e l) = G l) (l : Fin 128) :
    kk' b C x y (ix2 e l) = dk X G l := by
  unfold dk
  rw [← Cert.Silu.dact_eq]
  unfold hd hz hs us Cert.NormSpec.ep Cert.NormSpec.mh
  simp only [← Cert.Silu.sg_eq]
  unfold kk' k0_pay34 k0_pay31 k0_pay32 k0_pay33 k0_pay30 k0_pay29 k0_pay28 k0_pay27
  have hG' := fun l => (ext_read b x y e l).symm.trans (hG l)
  pointwise
  simp only [hX, hG', Fin.sum_univ_one]

theorem kv_apply (b : BitVec 1) (C : FVec Ideal S1032x128 .f32) (x : Vec Ideal S1024x128 .f32) (y : Vec Ideal S8x128 .f32) (e : Fin 1032)
    {X G : Fin 128 → EReal} (hX : ∀ l : Fin 128, C (ix2 e l) = X l) (hG : ∀ l : Fin 128, ext b x y (ix2 e l) = G l) (l : Fin 128) :
    k0_pay43 b C x y (ix2 e l) = dv X G l := by
  unfold dv
  rw [← Cert.Silu.dact_eq]
  unfold k0_pay43
  have hG' := fun l => (ext_read b x y e l).symm.trans (hG l)
  pointwise
  simp only [hX, hG']

/-- The first 1024 rows of a block and the next rows. -/
theorem top1024 (X : FVec Ideal S1032x128 .f32) (e : Fin 1024) (l : Fin 128) :
    extractStridedSlice S1024x128 ![0, 0] X slices_S1032x128_o0_0_S1024x128 (ix2 e l) = X (ix2 (⟨e.val, by omega⟩ : Fin 1032) l) :=
  extractStridedSlice_apply ![0, 0] X _ (ix2 e l) (ix2 (⟨e.val, by omega⟩ : Fin 1032) l) fun b => match b with
    | ⟨0, _⟩ => (Nat.zero_add _).symm
    | ⟨1, _⟩ => (Nat.zero_add _).symm

/-- The transposed convolution as it runs: row `e` sees rows `e` to `e + 3` of the cotangent. -/
def dxl (w : Vec Ideal S4x128 .f32) (D : Fin 128 → ℕ → EReal) (l : Fin 128) (e : ℕ) : EReal :=
  tapRow3 w (ix2 (0 : Fin 1) l) * D l e + tapRow2 w (ix2 (0 : Fin 1) l) * D l (e + 1) + tapRow1 w (ix2 (0 : Fin 1) l) * D l (e + 2)
    + tapRow0 w (ix2 (0 : Fin 1) l) * D l (e + 3)

/-- The printed transposed convolution of a cotangent block with four rows of taps. -/
def dxv (X : FVec Ideal S1032x128 .f32) (w3 w2 w1 w0 : Vec Ideal S1x128 .f32) : FVec Ideal S1024x128 .bf16 :=
  truncf (F := Ideal) .bf16 (addf (addf (addf (mulf (broadcastTo S1024x128 w3 broadcasts_S1x128_S1024x128)
      (extractStridedSlice S1024x128 ![0, 0] X slices_S1032x128_o0_0_S1024x128))
    (mulf (broadcastTo S1024x128 w2 broadcasts_S1x128_S1024x128)
      (extractStridedSlice S1024x128 ![0, 0] (dynamicRotate 0 1031#32 none X rotates_S1032x128_d0) slices_S1032x128_o0_0_S1024x128)))
    (mulf (broadcastTo S1024x128 w1 broadcasts_S1x128_S1024x128)
      (extractStridedSlice S1024x128 ![0, 0] (dynamicRotate 0 1030#32 none X rotates_S1032x128_d0) slices_S1032x128_o0_0_S1024x128)))
    (mulf (broadcastTo S1024x128 w0 broadcasts_S1x128_S1024x128)
      (extractStridedSlice S1024x128 ![0, 0] (dynamicRotate 0 1029#32 none X rotates_S1032x128_d0) slices_S1032x128_o0_0_S1024x128)))
    bitsLt_bf16_f32

theorem dx_apply (X : FVec Ideal S1032x128 .f32) (w : Vec Ideal S4x128 .f32) (D : Fin 128 → ℕ → EReal)
    (hX : ∀ (e : Fin 1032) (l : Fin 128), X (ix2 e l) = D l e.val) (e : Fin 1024) (l : Fin 128) :
    dxv X (tapRow3 w) (tapRow2 w) (tapRow1 w) (tapRow0 w) (ix2 e l)
      = dxl w D l e.val := by
  have h0 := (top1024 X e l).trans (hX _ l)
  have h1 := (Cert.Shift.up_apply (N := 1032) (M := 1024) (L := 128) (k := 1) (by omega) (by omega) (by omega) X rotates_S1032x128_d0
    slices_S1032x128_o0_0_S1024x128 e l).trans (hX _ l)
  have h2 := (Cert.Shift.up_apply (N := 1032) (M := 1024) (L := 128) (k := 2) (by omega) (by omega) (by omega) X rotates_S1032x128_d0
    slices_S1032x128_o0_0_S1024x128 e l).trans (hX _ l)
  have h3 := (Cert.Shift.up_apply (N := 1032) (M := 1024) (L := 128) (k := 3) (by omega) (by omega) (by omega) X rotates_S1032x128_d0
    slices_S1032x128_o0_0_S1024x128 e l).trans (hX _ l)
  dsimp only at h0 h1 h2 h3
  unfold dxl
  rw [← row1024 (tapRow3 w) e l, ← row1024 (tapRow2 w) e l, ← row1024 (tapRow1 w) e l, ← row1024 (tapRow0 w) e l, ← h0, ← h1, ← h2, ← h3]
  rfl

/-- A row of the taps' gradient: what it held plus the column's sum of products. -/
theorem sum_apply (acc : Vec Ideal S1x128 .f32) (X : FVec Ideal S1024x128 .f32) (l : Fin 128) :
    addf (shapeCast S1x128 acc shapeCasts_S1x128_S1x128)
      (shapeCast S1x128 (multiReduction .add [0] S128 X 0x00000000#32 reduces_S1024x128_S128 (.inl rfl) rfl) shapeCasts_S128_S1x128)
      (ix2 (0 : Fin 1) l)
      = acc (ix2 (0 : Fin 1) l) + ∑ e : Fin 1024, X (ix2 e l) := by
  pointwise

/-- A row of the taps' gradient after a point: the rows of the block unshifted, and shifted by `k`. -/
def row0 (acc : Vec Ideal S1x128 .f32) (X : FVec Ideal S1032x128 .f32) (x0 : Vec Ideal S1024x128 .f32) : FVec Ideal S1x128 .f32 :=
  addf (shapeCast S1x128 acc shapeCasts_S1x128_S1x128)
    (shapeCast S1x128 (multiReduction .add [0] S128 (mulf (extractStridedSlice S1024x128 ![0, 0] X slices_S1032x128_o0_0_S1024x128) x0)
      0x00000000#32 reduces_S1024x128_S128 (.inl rfl) rfl) shapeCasts_S128_S1x128)
def rowk (k : BitVec 32) (acc : Vec Ideal S1x128 .f32) (X : FVec Ideal S1032x128 .f32) (x0 : Vec Ideal S1024x128 .f32) (P : FVec Ideal S8x128 .f32) :
    FVec Ideal S1x128 .f32 :=
  addf (shapeCast S1x128 acc shapeCasts_S1x128_S1x128)
    (shapeCast S1x128 (multiReduction .add [0] S128 (mulf (extractStridedSlice S1024x128 ![0, 0] X slices_S1032x128_o0_0_S1024x128)
      (concatenate S1024x128 0 [⟨S8x128, select (cmpi .slt (iota .tc S8x128 32 [0] iota_S8x128_d0_w32) (broadcast S8x128 k))
            (dynamicRotate 0 k none P rotates_S8x128_d0)
            (extractStridedSlice S8x128 ![0, 0] (dynamicRotate 0 k none x0 rotates_S1024x128_d0) slices_S1024x128_o0_0_S8x128)⟩,
          ⟨S1016x128, extractStridedSlice S1016x128 ![8, 0] (dynamicRotate 0 k none x0 rotates_S1024x128_d0) slices_S1024x128_o8_0_S1016x128⟩]
          concatenates_S8x128_S1016x128_S1024x128_d0))
      0x00000000#32 reduces_S1024x128_S128 (.inl rfl) rfl) shapeCasts_S128_S1x128)

include h in
theorem row0_apply (acc : Vec Ideal S1x128 .f32) (X : FVec Ideal S1032x128 .f32) (D : Fin 128 → ℕ → EReal)
    (hX : ∀ (e : Fin 1032) (l : Fin 128), X (ix2 e l) = D l e.val) (l : Fin 128) :
    row0 acc X x0 (ix2 (0 : Fin 1) l) = acc (ix2 (0 : Fin 1) l) + ∑ e : Fin 1024, D l e.val * f l (e.val + 3) := by
  refine (sum_apply acc _ l).trans (congrArg _ (Finset.sum_congr rfl fun e _ => ?_))
  exact congrArg₂ (fun a b : EReal => a * b) ((top1024 X e l).trans (hX _ l)) (h.rows e l)

include h in
theorem rowk_apply {k : ℕ} (hk : k < 4) (acc : Vec Ideal S1x128 .f32) (X : FVec Ideal S1032x128 .f32) (D : Fin 128 → ℕ → EReal)
    (hX : ∀ (e : Fin 1032) (l : Fin 128), X (ix2 e l) = D l e.val) (l : Fin 128) :
    rowk (BitVec.ofNat 32 k) acc X x0 (k0_pay52 i x1) (ix2 (0 : Fin 1) l)
      = acc (ix2 (0 : Fin 1) l) + ∑ e : Fin 1024, D l e.val * f l (e.val + 3 - k) := by
  refine (sum_apply acc _ l).trans (congrArg _ (Finset.sum_congr rfl fun e _ => ?_))
  exact congrArg₂ (fun a b : EReal => a * b) ((top1024 X e l).trans (hX _ l)) (shift1024 hk x0 _ f h.rows (prev_apply h) e l)

end Read

section Same

variable (b : BitVec 1) (C A B E H : FVec Ideal S1032x128 .f32) (x x0 : Vec Ideal S1024x128 .f32) (y : Vec Ideal S8x128 .f32) (P : FVec Ideal S8x128 .f32)
  (acc w3 w2 w1 w0 : Vec Ideal S1x128 .f32)

/-- The printed rows and convolutions of the three kinds are these. -/
theorem q3 : k0_pay18 x0 A B E H acc = row0 acc (k0_pay16 A B E H) x0 := rfl
theorem q2 : k0_pay20 x0 P A B E H acc = rowk 1#32 acc (k0_pay16 A B E H) x0 P := rfl
theorem q1 : k0_pay21 x0 P (k0_pay17 A B E H) acc = rowk 2#32 acc (k0_pay16 A B E H) x0 P := rfl
theorem q0 : k0_pay2 (k0_pay17 A B E H) (k0_pay23 acc) (k0_pay25 x0 P) (k0_pay26 x0) = rowk 3#32 acc (k0_pay16 A B E H) x0 P := rfl
theorem qx : k0_pay3 (k0_pay22 (k0_pay16 A B E H) (k0_pay19 A B E H w3 w2) w1 w0) = dxv (k0_pay16 A B E H) w3 w2 w1 w0 := rfl
theorem k3 : k0_pay36 x0 A B E H acc = row0 acc (k0_pay34 A B E H) x0 := rfl
theorem k2 : k0_pay38 x0 P A B E H acc = rowk 1#32 acc (k0_pay34 A B E H) x0 P := rfl
theorem k1 : k0_pay39 x0 P (k0_pay35 A B E H) acc = rowk 2#32 acc (k0_pay34 A B E H) x0 P := rfl
theorem k0 : k0_pay4 (k0_pay41 acc) (k0_pay42 x0 P (k0_pay35 A B E H)) = rowk 3#32 acc (k0_pay34 A B E H) x0 P := rfl
theorem kx : k0_pay5 (k0_pay40 (k0_pay34 A B E H) (k0_pay37 A B E H w3 w2) w1 w0) = dxv (k0_pay34 A B E H) w3 w2 w1 w0 := rfl
theorem v3 : k0_pay46 b x0 C x y acc = row0 acc (k0_pay43 b C x y) x0 := rfl
theorem v2 : k0_pay47 x0 P (k0_pay44 b C x y) acc = rowk 1#32 acc (k0_pay43 b C x y) x0 P := rfl
theorem v1 : k0_pay6 (k0_pay49 acc) (k0_pay50 x0 P (k0_pay44 b C x y)) = rowk 2#32 acc (k0_pay43 b C x y) x0 P := rfl
theorem v0 : k0_pay7 x0 P (k0_pay44 b C x y) acc = rowk 3#32 acc (k0_pay43 b C x y) x0 P := rfl
theorem vx : k0_pay8 (k0_pay43 b C x y) (k0_pay48 (k0_pay43 b C x y) (k0_pay45 b C x y w3) w2 w1) w0 = dxv (k0_pay43 b C x y) w3 w2 w1 w0 := rfl

end Same

end Cert.PreBIdeal.Blk

end
-- ==== Proof.PreCase.lean ====
/-
  The six cases of the body of the heads' backward pass, by the third a head is in and whether a row block is its column's
  first: what each leaves in the two output blocks, read at an index.
-/
module

public import proofs.«01_k».proof.Proof.PrePay
public import Idealize.ShloMosaic.Lib.WritesUnit
public import Idealize.ShloMosaic.Lib.Tactic

@[expose] public section

noncomputable section

open Idealize.ShloMosaic Idealize.ShloMosaic.TcCoe Idealize.SL.Sem

namespace Cert.PreBIdeal.Blk

open Cert.PreBIdeal Cert.PreBIdeal.Gen Cert.PreSpec

/-- What row `k` of the taps' gradient pairs with row `e` of a block's cotangent. -/
def tapl (f : Fin 128 → ℕ → EReal) (k : Fin 8) (l : Fin 128) (e : ℕ) : EReal := if k.val < 4 then f l (e + k.val) else 0

/-- A box of one row of the eight. -/
abbrev rowBox (o : ℕ) (inb : ∀ a, (![o, 0] : Fin 2 → Nat) a + (![1, 128] : Fin 2 → Nat) a ≤ S8x128.size a) : Rect S8x128 := Rect.unit ![o, 0] ![1, 128] inb

/-- Four rows of an eight-row block stored over what it held: the rows read the stores, the others what was there. -/
theorem four_rows {κ : Kind} {sp : Space} (v : View sig κ sp S8x128 .f32) (f : v.ty.Contents (Elt Ideal))
    (L : List (View.Piece (Elt Ideal) S8x128 .f32)) (p0 p1 p2 p3 : Vec Ideal S1x128 .f32) (D : ℕ → EReal) (g : Fin 128 → ℕ → EReal)
    (base : Fin 8 → EReal) (k : Fin 8) (l : Fin 128)
    (h0 : p0 (ix2 (0 : Fin 1) l) = base 0 + ∑ e : Fin 1024, D e.val * g l (e.val + 0))
    (h1 : p1 (ix2 (0 : Fin 1) l) = base 1 + ∑ e : Fin 1024, D e.val * g l (e.val + 1))
    (h2 : p2 (ix2 (0 : Fin 1) l) = base 2 + ∑ e : Fin 1024, D e.val * g l (e.val + 2))
    (h3 : p3 (ix2 (0 : Fin 1) l) = base 3 + ∑ e : Fin 1024, D e.val * g l (e.val + 3))
    (hz : v.read (Elt Ideal) (v.writes (Elt Ideal) f L) (ix2 k l) = base k) :
    v.read (Elt Ideal) (v.writes (Elt Ideal) f
      (⟨rowBox 0 inb_S8x128_S1x128_0_0, p0⟩ :: ⟨rowBox 1 inb_S8x128_S1x128_1_0, p1⟩ :: ⟨rowBox 2 inb_S8x128_S1x128_2_0, p2⟩
        :: ⟨rowBox 3 inb_S8x128_S1x128_3_0, p3⟩ :: L)) (ix2 k l)
      = base k + ∑ e : Fin 1024, D e.val * tapl g k l e.val := by
  have hit : ∀ (o : ℕ) (inb) (p : Vec Ideal S1x128 .f32) (L : List (View.Piece (Elt Ideal) S8x128 .f32)), k.val = o →
      v.read (Elt Ideal) (v.writes (Elt Ideal) f (⟨rowBox o inb, p⟩ :: L)) (ix2 k l) = p (ix2 (0 : Fin 1) l) := fun o inb p L h =>
    View.read_writes_cons_rows_of_mem v f (o := o) inb p _ (ix2 k l) (ix2 (0 : Fin 1) l) rfl h rfl
  have miss : ∀ (o : ℕ) (inb) (p : Vec Ideal S1x128 .f32) (L : List (View.Piece (Elt Ideal) S8x128 .f32)), o < k.val →
      v.read (Elt Ideal) (v.writes (Elt Ideal) f (⟨rowBox o inb, p⟩ :: L)) (ix2 k l) = v.read (Elt Ideal) (v.writes (Elt Ideal) f L) (ix2 k l) :=
    fun o inb p L h => View.read_writes_cons_rows_of_not_mem v f (o := o) (W := 1) inb p _ (ix2 k l) rfl rfl (Or.inr h)
  have tap : k.val < 4 → ∑ e : Fin 1024, D e.val * tapl g k l e.val = ∑ e : Fin 1024, D e.val * g l (e.val + k.val) := fun h => by
    simp only [tapl, if_pos h]
  by_cases e0 : k.val = 0
  · rw [hit _ _ _ _ e0, h0, tap (by omega), e0, show k = 0 from Fin.ext e0]
  rw [miss _ _ _ _ (by omega)]
  by_cases e1 : k.val = 1
  · rw [hit _ _ _ _ e1, h1, tap (by omega), e1, show k = 1 from Fin.ext e1]
  rw [miss _ _ _ _ (by omega)]
  by_cases e2 : k.val = 2
  · rw [hit _ _ _ _ e2, h2, tap (by omega), e2, show k = 2 from Fin.ext e2]
  rw [miss _ _ _ _ (by omega)]
  by_cases e3 : k.val = 3
  · rw [hit _ _ _ _ e3, h3, tap (by omega), e3, show k = 3 from Fin.ext e3]
  rw [miss _ _ _ _ (by omega), hz]
  have : ∀ e : Fin 1024, D e.val * tapl g k l e.val = 0 := fun e => by
    simp only [tapl, if_neg (show ¬k.val < 4 by omega), mul_zero]
  rw [Finset.sum_congr rfl fun e _ => this e, Finset.sum_const_zero, add_zero]

theorem hz : (![0, 0] : Fin 2 → ℕ) = fun _ => 0 := funext fun a => by fin_cases a <;> rfl

section Zero

variable {κ : Kind} {sp : Space} (v : View sig κ sp S8x128 .f32) (inb : ∀ a, (![0, 0] : Fin 2 → Nat) a + (![8, 128] : Fin 2 → Nat) a ≤ S8x128.size a)
  (w : Vec Ideal S8x128 .f32) (hw : ∀ j, w j = 0)

include hw

/-- An eight-row block filled with zeros reads zero; -/
theorem zero_read (j : S8x128.Idx) :
    v.read (Elt Ideal) (v.writes (Elt Ideal) v.junk [⟨Rect.unit ![0, 0] ![8, 128] inb, w⟩]) j = 0 := by
  rw [View.read_writes_junk_apply_eq_canon]
  exact (congrFun (View.canon_unit_zero (S := S8x128) hz inb w) j).trans (hw j)

omit hw in
/-- a row is read past a store into a later one; -/
theorem skip (o o' : ℕ) (h : o < o') (inb inb') (p : Vec Ideal S1x128 .f32) (L : List (View.Piece (Elt Ideal) S8x128 .f32)) (j : (rowBox o inb).shape.Idx) :
    v.readCov (⟨rowBox o' inb', p⟩ :: L) (rowBox o inb).toLoadRect j = v.readCov L (rowBox o inb).toLoadRect j := by
  have hj : (j 0).val < 1 := (j 0).isLt
  exact View.read_writes_cons_rows_of_not_mem v _ (o := o') (W := 1) inb' p _ _ rfl rfl (Or.inl (by show o + 1 * (j 0).val < o'; omega))

/-- so the rows still to be stored read zero. -/
theorem zero_cov3 (j) : v.readCov [⟨Rect.unit ![0, 0] ![8, 128] inb, w⟩] (rowBox 3 inb_S8x128_S1x128_3_0).toLoadRect j = 0 := zero_read v inb w hw _
theorem zero_cov2 (p3 j) : v.readCov [⟨rowBox 3 inb_S8x128_S1x128_3_0, p3⟩, ⟨Rect.unit ![0, 0] ![8, 128] inb, w⟩]
    (rowBox 2 inb_S8x128_S1x128_2_0).toLoadRect j = 0 :=
  (skip v 2 3 (by omega) _ _ p3 _ j).trans (zero_read v inb w hw _)
theorem zero_cov1 (p2 p3 j) : v.readCov [⟨rowBox 2 inb_S8x128_S1x128_2_0, p2⟩, ⟨rowBox 3 inb_S8x128_S1x128_3_0, p3⟩, ⟨Rect.unit ![0, 0] ![8, 128] inb, w⟩]
    (rowBox 1 inb_S8x128_S1x128_1_0).toLoadRect j = 0 :=
  (skip v 1 2 (by omega) _ _ p2 _ j).trans ((skip v 1 3 (by omega) _ _ p3 _ j).trans (zero_read v inb w hw _))
theorem zero_cov0 (p1 p2 p3 j) : v.readCov [⟨rowBox 1 inb_S8x128_S1x128_1_0, p1⟩, ⟨rowBox 2 inb_S8x128_S1x128_2_0, p2⟩,
      ⟨rowBox 3 inb_S8x128_S1x128_3_0, p3⟩, ⟨Rect.unit ![0, 0] ![8, 128] inb, w⟩]
    (rowBox 0 inb_S8x128_S1x128_0_0).toLoadRect j = 0 :=
  (skip v 0 1 (by omega) _ _ p1 _ j).trans ((skip v 0 2 (by omega) _ _ p2 _ j).trans ((skip v 0 3 (by omega) _ _ p3 _ j).trans (zero_read v inb w hw _)))

end Zero

theorem pay51_zero (j : S8x128.Idx) : (k0_pay51 : FVec Ideal S8x128 .f32) j = 0 := Ideal.ofBits_zero_f32

/-- A row of the block before, read through its box. -/
theorem old_row (y : Vec Ideal S8x128 .f32) (o : Fin 8) (inb) (l : Fin 128) : View.ld y (rowBox o.val inb) (ix2 (0 : Fin 1) l) = y (ix2 o l) :=
  congrArg y (funext fun a => Fin.ext (match a with
    | ⟨0, _⟩ => rfl
    | ⟨1, _⟩ => by show 0 + 1 * l.val = l.val; omega))

section Cases

variable {i : grid0.Coords} {x0 x4 x6 x8 : Vec Ideal S1024x128 .f32} {x1 x2 x5 x7 x9 : Vec Ideal S8x128 .f32} (x3 : Vec Ideal S4x128 .f32)
  {f G : Fin 128 → ℕ → EReal} (h : Holds i x0 x1 x2 f)

include h

/-- The three kinds of cotangent on the block and the next rows. -/
theorem cq (g : HoldsC i x4 x5 G) (e : Fin 1032) (l : Fin 128) : kq' (lastB i) (kC i x0 x1 x2 x3) x4 x5 (ix2 e l)
    = dq (fun k => cvl x3 f k e.val) (fun k => G k e.val) l :=
  kq_apply _ _ _ _ e (fun l => kC_apply h x3 e l) (fun l => ext_apply _ _ _ G 0 g.rows g.next e l) l
theorem ck (g : HoldsC i x6 x7 G) (e : Fin 1032) (l : Fin 128) : kk' (lastB i) (kC i x0 x1 x2 x3) x6 x7 (ix2 e l)
    = dk (fun k => cvl x3 f k e.val) (fun k => G k e.val) l :=
  kk_apply _ _ _ _ e (fun l => kC_apply h x3 e l) (fun l => ext_apply _ _ _ G 0 g.rows g.next e l) l
theorem cv' (g : HoldsC i x8 x9 G) (e : Fin 1032) (l : Fin 128) : k0_pay43 (lastB i) (kC i x0 x1 x2 x3) x8 x9 (ix2 e l)
    = dv (fun k => cvl x3 f k e.val) (fun k => G k e.val) l :=
  kv_apply _ _ _ _ e (fun l => kC_apply h x3 e l) (fun l => ext_apply _ _ _ G 0 g.rows g.next e l) l

variable (c : Dev nD)
  (a2 : Memref sig .tc .vmem S1024x128 .f32) (h2 : a2.IsWhole)
  (a3 : Memref sig .tc .vmem S8x128 .f32) (h3 : a3.IsWhole)
  (a4 : Memref sig .tc .vmem S8x128 .f32) (h4 : a4.IsWhole)
  (a5 : Memref sig .tc .vmem S4x128 .f32) (h5 : a5.IsWhole)
  (a6 : Memref sig .tc .vmem S1024x128 .f32) (h6 : a6.IsWhole)
  (a7 : Memref sig .tc .vmem S8x128 .f32) (h7 : a7.IsWhole)
  (a8 : Memref sig .tc .vmem S1024x128 .f32) (h8 : a8.IsWhole)
  (a9 : Memref sig .tc .vmem S8x128 .f32) (h9 : a9.IsWhole)
  (a10 : Memref sig .tc .vmem S1024x128 .f32) (h10 : a10.IsWhole)
  (a11 : Memref sig .tc .vmem S8x128 .f32) (h11 : a11.IsWhole)
  (a12 : Memref sig .tc .vmem S1024x128 .bf16) (h12 : a12.IsWhole)
  (a13 : Memref sig .tc .vmem S8x128 .f32) (h13 : a13.IsWhole)

/-- A first row block of a head in the first third. -/
theorem case_A (g : HoldsC i x4 x5 G) (c0 : cond0_0 i) (c1 : cond0_1 i) (c2 : ¬cond0_2 i) (c3 : ¬cond0_3 i) (D : Fin 128 → ℕ → EReal)
    (hD : D = fun l e => dq (fun k => cvl x3 f k e) (fun k => G k e) l) :
    (∀ (e : Fin 1024) (l : Fin 128), out0_A_10 c i a2 h2 a3 h3 a4 h4 a5 h5 a6 h6 a7 h7 a8 h8 a9 h9 a10 h10 a11 h11 a12 h12 a13 h13 c0 c1 c2 c3 x0 x1 x2 x3 x4 x5 x6 x7 x8 x9 (ix2 e l) = dxl x3 D l e.val)
    ∧ ∀ (k : Fin 8) (l : Fin 128), out0_A_11 c i a2 h2 a3 h3 a4 h4 a5 h5 a6 h6 a7 h7 a8 h8 a9 h9 a10 h10 a11 h11 a12 h12 a13 h13 c0 c1 c2 c3 x0 x1 x2 x3 x4 x5 x6 x7 x8 x9 (ix2 k l)
      = 0 + ∑ e : Fin 1024, D l e.val * tapl f k l e.val := by
  have hX := fun e l => (cq x3 h g e l).trans (congrFun (congrFun hD.symm l) e.val)
  constructor
  · intro e l
    unfold out0_A_10
    rw [View.read_writes_eq_canon _ _ _ (cover0_A_10 c i a2 h2 a3 h3 a4 h4 a5 h5 a6 h6 a7 h7 a8 h8 a9 h9 a10 h10 a11 h11 a12 h12 a13 h13 c0 c1 c2 c3 x0 x1 x2 x3 x4 x5 x6 x7 x8 x9)]
    unfold kernelRun0_A
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, qx]
    exact dx_apply _ x3 D hX e l
  · intro k l
    unfold out0_A_11
    unfold kernelRun0_A
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, q0, q1, q2, q3]
    refine four_rows _ _ _ _ _ _ _ (D l) f (fun _ => 0) k l ?_ ?_ ?_ ?_ ?_
    · exact (rowk_apply h (k := 3) (by omega) _ _ D hX l).trans (congrArg (· + _) (zero_cov0 _ _ _ pay51_zero _ _ _ _))
    · exact (rowk_apply h (k := 2) (by omega) _ _ D hX l).trans (congrArg (· + _) (zero_cov1 _ _ _ pay51_zero _ _ _))
    · exact (rowk_apply h (k := 1) (by omega) _ _ D hX l).trans (congrArg (· + _) (zero_cov2 _ _ _ pay51_zero _ _))
    · exact (row0_apply h _ _ D hX l).trans (congrArg (· + _) (zero_cov3 _ _ _ pay51_zero _))
    · exact zero_read _ _ _ pay51_zero _

/-- A later row block of a head in the first third. -/
theorem case_B (g : HoldsC i x4 x5 G) (c0 : ¬cond0_0 i) (c1 : cond0_1 i) (c2 : ¬cond0_2 i) (c3 : ¬cond0_3 i) (y : Vec Ideal S8x128 .f32) (D : Fin 128 → ℕ → EReal)
    (hD : D = fun l e => dq (fun k => cvl x3 f k e) (fun k => G k e) l) :
    (∀ (e : Fin 1024) (l : Fin 128), out0_B_10 c i a2 h2 a3 h3 a4 h4 a5 h5 a6 h6 a7 h7 a8 h8 a9 h9 a10 h10 a11 h11 a12 h12 a13 h13 c0 c1 c2 c3 x0 x1 x2 x3 x4 x5 x6 x7 x8 x9 y (ix2 e l) = dxl x3 D l e.val)
    ∧ ∀ (k : Fin 8) (l : Fin 128), out0_B_11 c i a2 h2 a3 h3 a4 h4 a5 h5 a6 h6 a7 h7 a8 h8 a9 h9 a10 h10 a11 h11 a12 h12 a13 h13 c0 c1 c2 c3 x0 x1 x2 x3 x4 x5 x6 x7 x8 x9 y (ix2 k l)
      = y (ix2 k l) + ∑ e : Fin 1024, D l e.val * tapl f k l e.val := by
  have hX := fun e l => (cq x3 h g e l).trans (congrFun (congrFun hD.symm l) e.val)
  constructor
  · intro e l
    unfold out0_B_10
    rw [View.read_writes_eq_canon _ _ _ (cover0_B_10 c i a2 h2 a3 h3 a4 h4 a5 h5 a6 h6 a7 h7 a8 h8 a9 h9 a10 h10 a11 h11 a12 h12 a13 h13 c0 c1 c2 c3 x0 x1 x2 x3 x4 x5 x6 x7 x8 x9 y)]
    unfold kernelRun0_B
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, qx]
    exact dx_apply _ x3 D hX e l
  · intro k l
    unfold out0_B_11
    unfold kernelRun0_B
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, q0, q1, q2, q3]
    refine four_rows _ _ _ _ _ _ _ (D l) f (fun r => y (ix2 r l)) k l ?_ ?_ ?_ ?_ ?_
    · exact (rowk_apply h (k := 3) (by omega) _ _ D hX l).trans (congrArg (· + _) (old_row y 0 _ l))
    · exact (rowk_apply h (k := 2) (by omega) _ _ D hX l).trans (congrArg (· + _) (old_row y 1 _ l))
    · exact (rowk_apply h (k := 1) (by omega) _ _ D hX l).trans (congrArg (· + _) (old_row y 2 _ l))
    · exact (row0_apply h _ _ D hX l).trans (congrArg (· + _) (old_row y 3 _ l))
    · exact congrFun (h13.read_unread _) _

/-- A first row block of a head in the second third. -/
theorem case_C (g : HoldsC i x6 x7 G) (c0 : cond0_0 i) (c1 : ¬cond0_1 i) (c2 : cond0_2 i) (c3 : ¬cond0_3 i) (D : Fin 128 → ℕ → EReal)
    (hD : D = fun l e => dk (fun k => cvl x3 f k e) (fun k => G k e) l) :
    (∀ (e : Fin 1024) (l : Fin 128), out0_C_10 c i a2 h2 a3 h3 a4 h4 a5 h5 a6 h6 a7 h7 a8 h8 a9 h9 a10 h10 a11 h11 a12 h12 a13 h13 c0 c1 c2 c3 x0 x1 x2 x3 x4 x5 x6 x7 x8 x9 (ix2 e l) = dxl x3 D l e.val)
    ∧ ∀ (k : Fin 8) (l : Fin 128), out0_C_11 c i a2 h2 a3 h3 a4 h4 a5 h5 a6 h6 a7 h7 a8 h8 a9 h9 a10 h10 a11 h11 a12 h12 a13 h13 c0 c1 c2 c3 x0 x1 x2 x3 x4 x5 x6 x7 x8 x9 (ix2 k l)
      = 0 + ∑ e : Fin 1024, D l e.val * tapl f k l e.val := by
  have hX := fun e l => (ck x3 h g e l).trans (congrFun (congrFun hD.symm l) e.val)
  constructor
  · intro e l
    unfold out0_C_10
    rw [View.read_writes_eq_canon _ _ _ (cover0_C_10 c i a2 h2 a3 h3 a4 h4 a5 h5 a6 h6 a7 h7 a8 h8 a9 h9 a10 h10 a11 h11 a12 h12 a13 h13 c0 c1 c2 c3 x0 x1 x2 x3 x4 x5 x6 x7 x8 x9)]
    unfold kernelRun0_C
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, kx]
    exact dx_apply _ x3 D hX e l
  · intro k l
    unfold out0_C_11
    unfold kernelRun0_C
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, k0, k1, k2, k3]
    refine four_rows _ _ _ _ _ _ _ (D l) f (fun _ => 0) k l ?_ ?_ ?_ ?_ ?_
    · exact (rowk_apply h (k := 3) (by omega) _ _ D hX l).trans (congrArg (· + _) (zero_cov0 _ _ _ pay51_zero _ _ _ _))
    · exact (rowk_apply h (k := 2) (by omega) _ _ D hX l).trans (congrArg (· + _) (zero_cov1 _ _ _ pay51_zero _ _ _))
    · exact (rowk_apply h (k := 1) (by omega) _ _ D hX l).trans (congrArg (· + _) (zero_cov2 _ _ _ pay51_zero _ _))
    · exact (row0_apply h _ _ D hX l).trans (congrArg (· + _) (zero_cov3 _ _ _ pay51_zero _))
    · exact zero_read _ _ _ pay51_zero _

/-- A later row block of a head in the second third. -/
theorem case_D (g : HoldsC i x6 x7 G) (c0 : ¬cond0_0 i) (c1 : ¬cond0_1 i) (c2 : cond0_2 i) (c3 : ¬cond0_3 i) (y : Vec Ideal S8x128 .f32) (D : Fin 128 → ℕ → EReal)
    (hD : D = fun l e => dk (fun k => cvl x3 f k e) (fun k => G k e) l) :
    (∀ (e : Fin 1024) (l : Fin 128), out0_D_10 c i a2 h2 a3 h3 a4 h4 a5 h5 a6 h6 a7 h7 a8 h8 a9 h9 a10 h10 a11 h11 a12 h12 a13 h13 c0 c1 c2 c3 x0 x1 x2 x3 x4 x5 x6 x7 x8 x9 y (ix2 e l) = dxl x3 D l e.val)
    ∧ ∀ (k : Fin 8) (l : Fin 128), out0_D_11 c i a2 h2 a3 h3 a4 h4 a5 h5 a6 h6 a7 h7 a8 h8 a9 h9 a10 h10 a11 h11 a12 h12 a13 h13 c0 c1 c2 c3 x0 x1 x2 x3 x4 x5 x6 x7 x8 x9 y (ix2 k l)
      = y (ix2 k l) + ∑ e : Fin 1024, D l e.val * tapl f k l e.val := by
  have hX := fun e l => (ck x3 h g e l).trans (congrFun (congrFun hD.symm l) e.val)
  constructor
  · intro e l
    unfold out0_D_10
    rw [View.read_writes_eq_canon _ _ _ (cover0_D_10 c i a2 h2 a3 h3 a4 h4 a5 h5 a6 h6 a7 h7 a8 h8 a9 h9 a10 h10 a11 h11 a12 h12 a13 h13 c0 c1 c2 c3 x0 x1 x2 x3 x4 x5 x6 x7 x8 x9 y)]
    unfold kernelRun0_D
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, kx]
    exact dx_apply _ x3 D hX e l
  · intro k l
    unfold out0_D_11
    unfold kernelRun0_D
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, k0, k1, k2, k3]
    refine four_rows _ _ _ _ _ _ _ (D l) f (fun r => y (ix2 r l)) k l ?_ ?_ ?_ ?_ ?_
    · exact (rowk_apply h (k := 3) (by omega) _ _ D hX l).trans (congrArg (· + _) (old_row y 0 _ l))
    · exact (rowk_apply h (k := 2) (by omega) _ _ D hX l).trans (congrArg (· + _) (old_row y 1 _ l))
    · exact (rowk_apply h (k := 1) (by omega) _ _ D hX l).trans (congrArg (· + _) (old_row y 2 _ l))
    · exact (row0_apply h _ _ D hX l).trans (congrArg (· + _) (old_row y 3 _ l))
    · exact congrFun (h13.read_unread _) _

/-- A first row block of a head in the last third. -/
theorem case_E (g : HoldsC i x8 x9 G) (c0 : cond0_0 i) (c1 : ¬cond0_1 i) (c2 : ¬cond0_2 i) (c3 : cond0_3 i) (D : Fin 128 → ℕ → EReal)
    (hD : D = fun l e => dv (fun k => cvl x3 f k e) (fun k => G k e) l) :
    (∀ (e : Fin 1024) (l : Fin 128), out0_E_10 c i a2 h2 a3 h3 a4 h4 a5 h5 a6 h6 a7 h7 a8 h8 a9 h9 a10 h10 a11 h11 a12 h12 a13 h13 c0 c1 c2 c3 x0 x1 x2 x3 x4 x5 x6 x7 x8 x9 (ix2 e l) = dxl x3 D l e.val)
    ∧ ∀ (k : Fin 8) (l : Fin 128), out0_E_11 c i a2 h2 a3 h3 a4 h4 a5 h5 a6 h6 a7 h7 a8 h8 a9 h9 a10 h10 a11 h11 a12 h12 a13 h13 c0 c1 c2 c3 x0 x1 x2 x3 x4 x5 x6 x7 x8 x9 (ix2 k l)
      = 0 + ∑ e : Fin 1024, D l e.val * tapl f k l e.val := by
  have hX := fun e l => (cv' x3 h g e l).trans (congrFun (congrFun hD.symm l) e.val)
  constructor
  · intro e l
    unfold out0_E_10
    rw [View.read_writes_eq_canon _ _ _ (cover0_E_10 c i a2 h2 a3 h3 a4 h4 a5 h5 a6 h6 a7 h7 a8 h8 a9 h9 a10 h10 a11 h11 a12 h12 a13 h13 c0 c1 c2 c3 x0 x1 x2 x3 x4 x5 x6 x7 x8 x9)]
    unfold kernelRun0_E
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, vx]
    exact dx_apply _ x3 D hX e l
  · intro k l
    unfold out0_E_11
    unfold kernelRun0_E
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, v0, v1, v2, v3]
    refine four_rows _ _ _ _ _ _ _ (D l) f (fun _ => 0) k l ?_ ?_ ?_ ?_ ?_
    · exact (rowk_apply h (k := 3) (by omega) _ _ D hX l).trans (congrArg (· + _) (zero_cov0 _ _ _ pay51_zero _ _ _ _))
    · exact (rowk_apply h (k := 2) (by omega) _ _ D hX l).trans (congrArg (· + _) (zero_cov1 _ _ _ pay51_zero _ _ _))
    · exact (rowk_apply h (k := 1) (by omega) _ _ D hX l).trans (congrArg (· + _) (zero_cov2 _ _ _ pay51_zero _ _))
    · exact (row0_apply h _ _ D hX l).trans (congrArg (· + _) (zero_cov3 _ _ _ pay51_zero _))
    · exact zero_read _ _ _ pay51_zero _

/-- A later row block of a head in the last third. -/
theorem case_F (g : HoldsC i x8 x9 G) (c0 : ¬cond0_0 i) (c1 : ¬cond0_1 i) (c2 : ¬cond0_2 i) (c3 : cond0_3 i) (y : Vec Ideal S8x128 .f32) (D : Fin 128 → ℕ → EReal)
    (hD : D = fun l e => dv (fun k => cvl x3 f k e) (fun k => G k e) l) :
    (∀ (e : Fin 1024) (l : Fin 128), out0_F_10 c i a2 h2 a3 h3 a4 h4 a5 h5 a6 h6 a7 h7 a8 h8 a9 h9 a10 h10 a11 h11 a12 h12 a13 h13 c0 c1 c2 c3 x0 x1 x2 x3 x4 x5 x6 x7 x8 x9 y (ix2 e l) = dxl x3 D l e.val)
    ∧ ∀ (k : Fin 8) (l : Fin 128), out0_F_11 c i a2 h2 a3 h3 a4 h4 a5 h5 a6 h6 a7 h7 a8 h8 a9 h9 a10 h10 a11 h11 a12 h12 a13 h13 c0 c1 c2 c3 x0 x1 x2 x3 x4 x5 x6 x7 x8 x9 y (ix2 k l)
      = y (ix2 k l) + ∑ e : Fin 1024, D l e.val * tapl f k l e.val := by
  have hX := fun e l => (cv' x3 h g e l).trans (congrFun (congrFun hD.symm l) e.val)
  constructor
  · intro e l
    unfold out0_F_10
    rw [View.read_writes_eq_canon _ _ _ (cover0_F_10 c i a2 h2 a3 h3 a4 h4 a5 h5 a6 h6 a7 h7 a8 h8 a9 h9 a10 h10 a11 h11 a12 h12 a13 h13 c0 c1 c2 c3 x0 x1 x2 x3 x4 x5 x6 x7 x8 x9 y)]
    unfold kernelRun0_F
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, vx]
    exact dx_apply _ x3 D hX e l
  · intro k l
    unfold out0_F_11
    unfold kernelRun0_F
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1024x128) hz, View.ld_unit_zero (S := S8x128) hz, View.canon_unit_zero (S := S1024x128) hz, v0, v1, v2, v3]
    refine four_rows _ _ _ _ _ _ _ (D l) f (fun r => y (ix2 r l)) k l ?_ ?_ ?_ ?_ ?_
    · exact (rowk_apply h (k := 3) (by omega) _ _ D hX l).trans (congrArg (· + _) (old_row y 0 _ l))
    · exact (rowk_apply h (k := 2) (by omega) _ _ D hX l).trans (congrArg (· + _) (old_row y 1 _ l))
    · exact (rowk_apply h (k := 1) (by omega) _ _ D hX l).trans (congrArg (· + _) (old_row y 2 _ l))
    · exact (row0_apply h _ _ D hX l).trans (congrArg (· + _) (old_row y 3 _ l))
    · exact congrFun (h13.read_unread _) _

end Cases

end Cert.PreBIdeal.Blk

end
-- ==== Proof.PreKernel.lean ====
/-
  The two results of the heads' backward pass as functions of the arguments: what the windows hold at a grid point, what each
  point leaves in its output blocks, the running sums of the taps' gradient down a column of blocks, and the arrays they make up.
-/
module

public import proofs.«01_k».proof.Proof.PreCase

@[expose] public section

noncomputable section

open Idealize.ShloMosaic Idealize.ShloMosaic.TcCoe Idealize.SL.Sem

namespace Cert.PreBIdeal.Blk

open Cert.PreBIdeal Cert.PreBIdeal.Gen Cert.PreSpec Cert.PreBIdeal.Value
open Idealize.ShloMosaic.Pipeline (Dat)

variable (m : (ℓ : Loc nD τ sig) → Buf (Elt Ideal) ℓ) (c : Dev nD)

/-- The five arguments of a device. -/
abbrev mP : Proj := m ((c.tc : Thread nD τ).loc main_arg0)
abbrev mW : Taps := m ((c.tc : Thread nD τ).loc main_arg1)
abbrev mQ : Ct := m ((c.tc : Thread nD τ).loc main_arg2)
abbrev mK : Ct := m ((c.tc : Thread nD τ).loc main_arg3)
abbrev mV : Ct := m ((c.tc : Thread nD τ).loc main_arg4)

/-- The block indices of the windows at a grid point, decided over the grid. -/
theorem idx_in : ∀ t : Fin grid0.N,
    (win0_0.index t 0 = t.val % 8 ∧ win0_0.index t 1 = t.val / 8 + 8)
    ∧ (win0_1.index t 0 = t.val % 8 * 128 - 1 ∧ win0_1.index t 1 = t.val / 8 + 8)
    ∧ (win0_2.index t 0 = min (t.val % 8 * 128 + 128) 1023 ∧ win0_2.index t 1 = t.val / 8 + 8)
    ∧ (win0_3.index t 0 = 0 ∧ win0_3.index t 1 = t.val / 8)
    ∧ (win0_4.index t 0 = t.val % 8 ∧ win0_4.index t 1 = min (t.val / 8) 7)
    ∧ (win0_5.index t 0 = min (t.val % 8 * 128 + 128) 1023 ∧ win0_5.index t 1 = min (t.val / 8) 7)
    ∧ (win0_6.index t 0 = t.val % 8 ∧ win0_6.index t 1 = min (t.val / 8 - 8) 7)
    ∧ (win0_7.index t 0 = min (t.val % 8 * 128 + 128) 1023 ∧ win0_7.index t 1 = min (t.val / 8 - 8) 7)
    ∧ (win0_8.index t 0 = t.val % 8 ∧ win0_8.index t 1 = min (t.val / 8 - 16) 7)
    ∧ (win0_9.index t 0 = min (t.val % 8 * 128 + 128) 1023 ∧ win0_9.index t 1 = min (t.val / 8 - 16) 7) := by
  decide +kernel
theorem idx_out : ∀ t : Fin grid0.N,
    (win0_10.index t 0 = t.val % 8 ∧ win0_10.index t 1 = t.val / 8) ∧ (win0_11.index t 0 = 0 ∧ win0_11.index t 1 = t.val / 8) := by
  decide +kernel

/-- The second grid coordinate, and the two tests on it. -/
theorem bits_in : ∀ t : Fin grid0.N,
    lastB (grid0.coords t) = (if t.val % 8 = 7 then 1#1 else 0#1) ∧ firstB (grid0.coords t) = (if t.val % 8 = 0 then 1#1 else 0#1) := by
  decide +kernel

section Reads

variable (t : Fin cfg0.N)

/-- Input window 0 at a point. -/
theorem blk0 (e : Fin 1024) (l : Fin 128) (r : Fin 8192) (q : Fin 9216) (hr : r.val = 1024 * (t.val % 8) + e.val) (hq : q.val = 128 * (t.val / 8 + 8) + l.val) :
    (iblk m c 0 t : Vec Ideal S1024x128 .f32) (ix2 e l) = mP m c (ix2 r q) := by
  unfold iblk
  rw [View.read_apply]
  show V m c main_arg0 _ = _
  unfold V
  refine congrArg (m _) (funext fun a => Fin.ext ?_)
  have hi := (idx_in t).1
  match a with
  | ⟨0, _⟩ => show win0_0.index t 0 * 1024 + 1 * e.val = r.val; rw [hi.1]; omega
  | ⟨1, _⟩ => show win0_0.index t 1 * 128 + 1 * l.val = q.val; rw [hi.2]; omega

/-- Input window 1 at a point. -/
theorem blk1 (e : Fin 8) (l : Fin 128) (r : Fin 8192) (q : Fin 9216) (hr : r.val = 8 * (t.val % 8 * 128 - 1) + e.val) (hq : q.val = 128 * (t.val / 8 + 8) + l.val) :
    (iblk m c 1 t : Vec Ideal S8x128 .f32) (ix2 e l) = mP m c (ix2 r q) := by
  unfold iblk
  rw [View.read_apply]
  show V m c main_arg0 _ = _
  unfold V
  refine congrArg (m _) (funext fun a => Fin.ext ?_)
  have hi := (idx_in t).2.1
  match a with
  | ⟨0, _⟩ => show win0_1.index t 0 * 8 + 1 * e.val = r.val; rw [hi.1]; omega
  | ⟨1, _⟩ => show win0_1.index t 1 * 128 + 1 * l.val = q.val; rw [hi.2]; omega

/-- Input window 2 at a point. -/
theorem blk2 (e : Fin 8) (l : Fin 128) (r : Fin 8192) (q : Fin 9216) (hr : r.val = 8 * min (t.val % 8 * 128 + 128) 1023 + e.val) (hq : q.val = 128 * (t.val / 8 + 8) + l.val) :
    (iblk m c 2 t : Vec Ideal S8x128 .f32) (ix2 e l) = mP m c (ix2 r q) := by
  unfold iblk
  rw [View.read_apply]
  show V m c main_arg0 _ = _
  unfold V
  refine congrArg (m _) (funext fun a => Fin.ext ?_)
  have hi := (idx_in t).2.2.1
  match a with
  | ⟨0, _⟩ => show win0_2.index t 0 * 8 + 1 * e.val = r.val; rw [hi.1]; omega
  | ⟨1, _⟩ => show win0_2.index t 1 * 128 + 1 * l.val = q.val; rw [hi.2]; omega

/-- Input window 3 at a point. -/
theorem blk3 (e : Fin 4) (l : Fin 128) (r : Fin 4) (q : Fin 3072) (hr : r.val = 0 + e.val) (hq : q.val = 128 * (t.val / 8) + l.val) :
    (iblk m c 3 t : Vec Ideal S4x128 .f32) (ix2 e l) = mW m c (ix2 r q) := by
  unfold iblk
  rw [View.read_apply]
  show V m c main_arg1 _ = _
  unfold V
  refine congrArg (m _) (funext fun a => Fin.ext ?_)
  have hi := (idx_in t).2.2.2.1
  match a with
  | ⟨0, _⟩ => show win0_3.index t 0 * 4 + 1 * e.val = r.val; rw [hi.1]; omega
  | ⟨1, _⟩ => show win0_3.index t 1 * 128 + 1 * l.val = q.val; rw [hi.2]; omega

/-- Input window 4 at a point. -/
theorem blk4 (e : Fin 1024) (l : Fin 128) (r : Fin 8192) (q : Fin 1024) (hr : r.val = 1024 * (t.val % 8) + e.val) (hq : q.val = 128 * (min (t.val / 8) 7) + l.val) :
    (iblk m c 4 t : Vec Ideal S1024x128 .f32) (ix2 e l) = mQ m c (ix2 r q) := by
  unfold iblk
  rw [View.read_apply]
  show V m c main_arg2 _ = _
  unfold V
  refine congrArg (m _) (funext fun a => Fin.ext ?_)
  have hi := (idx_in t).2.2.2.2.1
  match a with
  | ⟨0, _⟩ => show win0_4.index t 0 * 1024 + 1 * e.val = r.val; rw [hi.1]; omega
  | ⟨1, _⟩ => show win0_4.index t 1 * 128 + 1 * l.val = q.val; rw [hi.2]; omega

/-- Input window 5 at a point. -/
theorem blk5 (e : Fin 8) (l : Fin 128) (r : Fin 8192) (q : Fin 1024) (hr : r.val = 8 * min (t.val % 8 * 128 + 128) 1023 + e.val) (hq : q.val = 128 * (min (t.val / 8) 7) + l.val) :
    (iblk m c 5 t : Vec Ideal S8x128 .f32) (ix2 e l) = mQ m c (ix2 r q) := by
  unfold iblk
  rw [View.read_apply]
  show V m c main_arg2 _ = _
  unfold V
  refine congrArg (m _) (funext fun a => Fin.ext ?_)
  have hi := (idx_in t).2.2.2.2.2.1
  match a with
  | ⟨0, _⟩ => show win0_5.index t 0 * 8 + 1 * e.val = r.val; rw [hi.1]; omega
  | ⟨1, _⟩ => show win0_5.index t 1 * 128 + 1 * l.val = q.val; rw [hi.2]; omega

/-- Input window 6 at a point. -/
theorem blk6 (e : Fin 1024) (l : Fin 128) (r : Fin 8192) (q : Fin 1024) (hr : r.val = 1024 * (t.val % 8) + e.val) (hq : q.val = 128 * (min (t.val / 8 - 8) 7) + l.val) :
    (iblk m c 6 t : Vec Ideal S1024x128 .f32) (ix2 e l) = mK m c (ix2 r q) := by
  unfold iblk
  rw [View.read_apply]
  show V m c main_arg3 _ = _
  unfold V
  refine congrArg (m _) (funext fun a => Fin.ext ?_)
  have hi := (idx_in t).2.2.2.2.2.2.1
  match a with
  | ⟨0, _⟩ => show win0_6.index t 0 * 1024 + 1 * e.val = r.val; rw [hi.1]; omega
  | ⟨1, _⟩ => show win0_6.index t 1 * 128 + 1 * l.val = q.val; rw [hi.2]; omega

/-- Input window 7 at a point. -/
theorem blk7 (e : Fin 8) (l : Fin 128) (r : Fin 8192) (q : Fin 1024) (hr : r.val = 8 * min (t.val % 8 * 128 + 128) 1023 + e.val) (hq : q.val = 128 * (min (t.val / 8 - 8) 7) + l.val) :
    (iblk m c 7 t : Vec Ideal S8x128 .f32) (ix2 e l) = mK m c (ix2 r q) := by
  unfold iblk
  rw [View.read_apply]
  show V m c main_arg3 _ = _
  unfold V
  refine congrArg (m _) (funext fun a => Fin.ext ?_)
  have hi := (idx_in t).2.2.2.2.2.2.2.1
  match a with
  | ⟨0, _⟩ => show win0_7.index t 0 * 8 + 1 * e.val = r.val; rw [hi.1]; omega
  | ⟨1, _⟩ => show win0_7.index t 1 * 128 + 1 * l.val = q.val; rw [hi.2]; omega

/-- Input window 8 at a point. -/
theorem blk8 (e : Fin 1024) (l : Fin 128) (r : Fin 8192) (q : Fin 1024) (hr : r.val = 1024 * (t.val % 8) + e.val) (hq : q.val = 128 * (min (t.val / 8 - 16) 7) + l.val) :
    (iblk m c 8 t : Vec Ideal S1024x128 .f32) (ix2 e l) = mV m c (ix2 r q) := by
  unfold iblk
  rw [View.read_apply]
  show V m c main_arg4 _ = _
  unfold V
  refine congrArg (m _) (funext fun a => Fin.ext ?_)
  have hi := (idx_in t).2.2.2.2.2.2.2.2.1
  match a with
  | ⟨0, _⟩ => show win0_8.index t 0 * 1024 + 1 * e.val = r.val; rw [hi.1]; omega
  | ⟨1, _⟩ => show win0_8.index t 1 * 128 + 1 * l.val = q.val; rw [hi.2]; omega

/-- Input window 9 at a point. -/
theorem blk9 (e : Fin 8) (l : Fin 128) (r : Fin 8192) (q : Fin 1024) (hr : r.val = 8 * min (t.val % 8 * 128 + 128) 1023 + e.val) (hq : q.val = 128 * (min (t.val / 8 - 16) 7) + l.val) :
    (iblk m c 9 t : Vec Ideal S8x128 .f32) (ix2 e l) = mV m c (ix2 r q) := by
  unfold iblk
  rw [View.read_apply]
  show V m c main_arg4 _ = _
  unfold V
  refine congrArg (m _) (funext fun a => Fin.ext ?_)
  have hi := (idx_in t).2.2.2.2.2.2.2.2.2
  match a with
  | ⟨0, _⟩ => show win0_9.index t 0 * 8 + 1 * e.val = r.val; rw [hi.1]; omega
  | ⟨1, _⟩ => show win0_9.index t 1 * 128 + 1 * l.val = q.val; rw [hi.2]; omega

theorem lt_N : t.val < 192 := lt_of_lt_of_eq t.isLt N_0

/-- The head of a point, and its first row. -/
def jt : Fin 24 := ⟨t.val / 8, by have h := lt_N t; omega⟩
abbrev ot : ℕ := 1024 * (t.val % 8)

omit m c t in
theorem one (x y : EReal) : Scalar.select 1#1 x y = x := rfl
omit m c t in
theorem zero (x y : EReal) : Scalar.select 0#1 x y = y := rfl

/-- The projection's blocks at a point hold its columns from the point's first row on. -/
theorem holds : Holds (grid0.coords t) (iblk m c 0 t) (iblk m c 1 t) (iblk m c 2 t) (fun l n => xs (mP m c) (hc (jt t) l) (ot t + n)) := by
  have hN := lt_N t
  have hb := bits_in t
  have ho : ot t = 1024 * (t.val % 8) := rfl
  have hj : ∀ l : Fin 128, (hc (jt t) l).val = 128 * (t.val / 8) + l.val := fun _ => rfl
  refine ⟨fun e l => ?_, fun e l => ?_, fun e l h5 => ?_⟩
  · have he := e.isLt
    have := hj l
    exact (blk0 m c t e l ⟨ot t + e.val, by omega⟩ ⟨1024 + (hc (jt t) l).val, by omega⟩ rfl (by dsimp only; omega)).trans
      (xs_in _ _ _ _ _ rfl rfl).symm
  · have he := e.isLt
    have := hj l
    rw [hb.1]
    by_cases h : t.val % 8 = 7
    · rw [if_pos h, one]
      exact (xs_out _ _ _ (by omega)).symm
    · rw [if_neg h, zero]
      exact (blk2 m c t e l ⟨ot t + 1024 + e.val, by omega⟩ ⟨1024 + (hc (jt t) l).val, by omega⟩ (by dsimp only; omega) (by dsimp only; omega)).trans
        (xs_in _ _ _ _ _ (by dsimp only; omega) rfl).symm
  · have he := e.isLt
    have := hj l
    rw [hb.2]
    by_cases h : t.val % 8 = 0
    · rw [if_pos h, one]
      exact (xs_out _ _ _ (by omega)).symm
    · rw [if_neg h, zero]
      exact (blk1 m c t e l ⟨ot t + e.val - 8, by omega⟩ ⟨1024 + (hc (jt t) l).val, by omega⟩ (by dsimp only; omega) (by dsimp only; omega)).trans
        (xs_in _ _ _ _ _ (by dsimp only; omega) rfl).symm

/-- The cotangent's blocks at a point of the first third hold its columns. -/
theorem holdsQ (hk : t.val < 64) : HoldsC (grid0.coords t) (iblk m c 4 t) (iblk m c 5 t) (fun l n => gt (mQ m c) (tc (jt t) l) (ot t + n)) := by
  have hN := lt_N t
  have ho : ot t = 1024 * (t.val % 8) := rfl
  have hj : ∀ l : Fin 128, (tc (jt t) l).val = 128 * (t.val / 8 % 8) + l.val := fun _ => rfl
  refine ⟨fun e l => ?_, fun e l => ?_⟩
  · have he := e.isLt
    have := hj l
    exact (blk4 m c t e l ⟨ot t + e.val, by omega⟩ (tc (jt t) l) rfl (by omega)).trans (gt_in _ _ _ _ rfl).symm
  · have he := e.isLt
    have := hj l
    rw [(bits_in t).1]
    by_cases h : t.val % 8 = 7
    · rw [if_pos h, one]
      exact (gt_out _ _ _ (by omega)).symm
    · rw [if_neg h, zero]
      exact (blk5 m c t e l ⟨ot t + 1024 + e.val, by omega⟩ (tc (jt t) l) (by dsimp only; omega) (by omega)).trans
        (gt_in _ _ _ _ (by dsimp only; omega)).symm

/-- The cotangent's blocks at a point of the second third hold its columns. -/
theorem holdsK (hk : 8 ≤ t.val / 8 % 24 ∧ t.val / 8 % 24 ≤ 15) : HoldsC (grid0.coords t) (iblk m c 6 t) (iblk m c 7 t) (fun l n => gt (mK m c) (tc (jt t) l) (ot t + n)) := by
  have hN := lt_N t
  have ho : ot t = 1024 * (t.val % 8) := rfl
  have hj : ∀ l : Fin 128, (tc (jt t) l).val = 128 * (t.val / 8 % 8) + l.val := fun _ => rfl
  refine ⟨fun e l => ?_, fun e l => ?_⟩
  · have he := e.isLt
    have := hj l
    exact (blk6 m c t e l ⟨ot t + e.val, by omega⟩ (tc (jt t) l) rfl (by omega)).trans (gt_in _ _ _ _ rfl).symm
  · have he := e.isLt
    have := hj l
    rw [(bits_in t).1]
    by_cases h : t.val % 8 = 7
    · rw [if_pos h, one]
      exact (gt_out _ _ _ (by omega)).symm
    · rw [if_neg h, zero]
      exact (blk7 m c t e l ⟨ot t + 1024 + e.val, by omega⟩ (tc (jt t) l) (by dsimp only; omega) (by omega)).trans
        (gt_in _ _ _ _ (by dsimp only; omega)).symm

/-- The cotangent's blocks at a point of the last third hold its columns. -/
theorem holdsV (hk : 128 ≤ t.val) : HoldsC (grid0.coords t) (iblk m c 8 t) (iblk m c 9 t) (fun l n => gt (mV m c) (tc (jt t) l) (ot t + n)) := by
  have hN := lt_N t
  have ho : ot t = 1024 * (t.val % 8) := rfl
  have hj : ∀ l : Fin 128, (tc (jt t) l).val = 128 * (t.val / 8 % 8) + l.val := fun _ => rfl
  refine ⟨fun e l => ?_, fun e l => ?_⟩
  · have he := e.isLt
    have := hj l
    exact (blk8 m c t e l ⟨ot t + e.val, by omega⟩ (tc (jt t) l) rfl (by omega)).trans (gt_in _ _ _ _ rfl).symm
  · have he := e.isLt
    have := hj l
    rw [(bits_in t).1]
    by_cases h : t.val % 8 = 7
    · rw [if_pos h, one]
      exact (gt_out _ _ _ (by omega)).symm
    · rw [if_neg h, zero]
      exact (blk9 m c t e l ⟨ot t + 1024 + e.val, by omega⟩ (tc (jt t) l) (by dsimp only; omega) (by omega)).trans
        (gt_in _ _ _ _ (by dsimp only; omega)).symm

/-- The taps of a point's columns. -/
theorem tap_row (k : Fin 4) (inb) (l : Fin 128) : View.ld (iblk m c 3 t : Vec Ideal S4x128 .f32) (Rect.unit ![k.val, 0] ![1, 128] inb) (ix2 (0 : Fin 1) l)
    = mW m c (ix2 k (hc (jt t) l)) := by
  refine Eq.trans (congrArg (iblk m c 3 t : Vec Ideal S4x128 .f32) (funext fun a => Fin.ext ?_)) (blk3 m c t k l k (hc (jt t) l) (Nat.zero_add _).symm rfl)
  match a with
  | ⟨0, _⟩ => rfl
  | ⟨1, _⟩ => show 0 + 1 * l.val = l.val; omega

theorem cvl_eq (l : Fin 128) (e : ℕ) : cvl (iblk m c 3 t) (fun l n => xs (mP m c) (hc (jt t) l) (ot t + n)) l e
    = cv (mP m c) (mW m c) (hc (jt t) l) (ot t + e) := by
  unfold cvl cv
  rw [← tap_row m c t 3 inb_S4x128_S1x128_3_0 l, ← tap_row m c t 2 inb_S4x128_S1x128_2_0 l, ← tap_row m c t 1 inb_S4x128_S1x128_1_0 l,
    ← tap_row m c t 0 inb_S4x128_S1x128_0_0 l]
  rfl

/-- The cotangent of the convolution at a point. -/
abbrev Dt (l : Fin 128) (r : ℕ) : EReal := D (mP m c) (mW m c) (mQ m c) (mK m c) (mV m c) (jt t) l r

theorem dxl_eq (l : Fin 128) (e : ℕ) : dxl (iblk m c 3 t) (fun l e => Dt m c t l (ot t + e)) l e
    = dx (mW m c) (hc (jt t) l) (Dt m c t l) (ot t + e) := by
  unfold dxl dx
  rw [← tap_row m c t 3 inb_S4x128_S1x128_3_0 l, ← tap_row m c t 2 inb_S4x128_S1x128_2_0 l, ← tap_row m c t 1 inb_S4x128_S1x128_1_0 l,
    ← tap_row m c t 0 inb_S4x128_S1x128_0_0 l]
  rfl

omit m c t in
theorem tapl_eq (f : Fin 128 → ℕ → EReal) (s : ℕ) (k : Fin 8) (l : Fin 128) (e : ℕ) : tapl (fun l n => f l (s + n)) k l e = tap (f l) k (s + e) := by
  unfold tapl tap; rw [Nat.add_assoc]

theorem Dq (hk : t.val < 64) : (fun l e => Dt m c t l (ot t + e)) = fun l e => dq (fun k => cvl (iblk m c 3 t) (fun l n => xs (mP m c) (hc (jt t) l) (ot t + n)) k e)
    (fun k => gt (mQ m c) (tc (jt t) k) (ot t + e)) l := by
  have hN := lt_N t
  funext l e
  simp only [cvl_eq]
  unfold Dt D
  rw [if_pos (show (jt t).val < 8 by show t.val / 8 < 8; omega)]

theorem Dk (hk : 8 ≤ t.val / 8 % 24 ∧ t.val / 8 % 24 ≤ 15) : (fun l e => Dt m c t l (ot t + e)) = fun l e => dk (fun k => cvl (iblk m c 3 t) (fun l n => xs (mP m c) (hc (jt t) l) (ot t + n)) k e)
    (fun k => gt (mK m c) (tc (jt t) k) (ot t + e)) l := by
  have hN := lt_N t
  funext l e
  simp only [cvl_eq]
  unfold Dt D
  rw [if_neg (show ¬(jt t).val < 8 by show ¬t.val / 8 < 8; omega), if_pos (show (jt t).val < 16 by show t.val / 8 < 16; omega)]

theorem Dv (hk : 128 ≤ t.val) : (fun l e => Dt m c t l (ot t + e)) = fun l e => dv (fun k => cvl (iblk m c 3 t) (fun l n => xs (mP m c) (hc (jt t) l) (ot t + n)) k e)
    (fun k => gt (mV m c) (tc (jt t) k) (ot t + e)) l := by
  have hN := lt_N t
  funext l e
  simp only [cvl_eq]
  unfold Dt D
  rw [if_neg (show ¬(jt t).val < 8 by show ¬t.val / 8 < 8; omega), if_neg (show ¬(jt t).val < 16 by show ¬t.val / 8 < 16; omega)]

/-- The rows of a point added to a row of the taps' gradient. -/
theorem sum_eq (k : Fin 8) (l : Fin 128) : ∑ e : Fin 1024, Dt m c t l (ot t + e.val) * tapl (fun l n => xs (mP m c) (hc (jt t) l) (ot t + n)) k l e.val
    = ∑ e : Fin 1024, Dt m c t l (ot t + e.val) * tap (xs (mP m c) (hc (jt t) l)) k (ot t + e.val) :=
  Finset.sum_congr rfl fun e _ => congrArg _ (tapl_eq (fun l => xs (mP m c) (hc (jt t) l)) (ot t) k l e.val)

/-- What point `t` leaves in its two output blocks: the gradient of the projection's columns, and its rows' sum over what the second
    block held. -/
def Leaves (base : Fin 8 → Fin 128 → EReal) : Prop :=
  (∀ (e : Fin 1024) (l : Fin 128), ((outsAt0 m c t.val t.isLt).1 : Vec Ideal S1024x128 .bf16) (ix2 e l)
      = dx (mW m c) (hc (jt t) l) (Dt m c t l) (ot t + e.val))
    ∧ ∀ (k : Fin 8) (l : Fin 128), ((outsAt0 m c t.val t.isLt).2 : Vec Ideal S8x128 .f32) (ix2 k l)
      = base k l + ∑ e : Fin 1024, Dt m c t l (ot t + e.val) * tap (xs (mP m c) (hc (jt t) l)) k (ot t + e.val)

/-- A column's first block starts from nothing. -/
theorem at_first (h0 : t.val % 8 = 0) : Leaves m c t fun _ _ => 0 := by
  have hN := lt_N t
  have S := sum_eq m c t
  by_cases h1 : t.val < 64
  · have h2 : ¬(8 ≤ t.val / 8 % 24 ∧ t.val / 8 % 24 ≤ 15) := by omega
    have h3 : ¬128 ≤ t.val := by omega
    have H := case_A (x4 := iblk m c 4 t) (x5 := iblk m c 5 t) (x6 := iblk m c 6 t) (x7 := iblk m c 7 t) (x8 := iblk m c 8 t) (x9 := iblk m c 9 t) (iblk m c 3 t) (holds m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (holdsQ m c t h1) ((hcond0_0 t).mpr h0) ((hcond0_1 t).mpr h1) (fun h => h2 ((hcond0_2 t).mp h)) (fun h => h3 ((hcond0_3 t).mp h)) _ (Dq m c t h1)
    constructor
    · intro e l
      rw [outsAt0_A m c t h0 h1 h2 h3]
      dsimp only
      rw [H.1 e l, dxl_eq]
    · intro k l
      rw [outsAt0_A m c t h0 h1 h2 h3]
      dsimp only
      rw [H.2 k l, S]
  by_cases h3 : 128 ≤ t.val
  · have h2 : ¬(8 ≤ t.val / 8 % 24 ∧ t.val / 8 % 24 ≤ 15) := by omega
    have H := case_E (x4 := iblk m c 4 t) (x5 := iblk m c 5 t) (x6 := iblk m c 6 t) (x7 := iblk m c 7 t) (x8 := iblk m c 8 t) (x9 := iblk m c 9 t) (iblk m c 3 t) (holds m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (holdsV m c t h3) ((hcond0_0 t).mpr h0) (fun h => h1 ((hcond0_1 t).mp h)) (fun h => h2 ((hcond0_2 t).mp h)) ((hcond0_3 t).mpr h3) _ (Dv m c t h3)
    constructor
    · intro e l
      rw [outsAt0_E m c t h0 h1 h2 h3]
      dsimp only
      rw [H.1 e l, dxl_eq]
    · intro k l
      rw [outsAt0_E m c t h0 h1 h2 h3]
      dsimp only
      rw [H.2 k l, S]
  · have h2 : 8 ≤ t.val / 8 % 24 ∧ t.val / 8 % 24 ≤ 15 := by omega
    have H := case_C (x4 := iblk m c 4 t) (x5 := iblk m c 5 t) (x6 := iblk m c 6 t) (x7 := iblk m c 7 t) (x8 := iblk m c 8 t) (x9 := iblk m c 9 t) (iblk m c 3 t) (holds m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (holdsK m c t h2) ((hcond0_0 t).mpr h0) (fun h => h1 ((hcond0_1 t).mp h)) ((hcond0_2 t).mpr h2) (fun h => h3 ((hcond0_3 t).mp h)) _ (Dk m c t h2)
    constructor
    · intro e l
      rw [outsAt0_C m c t h0 h1 h2 h3]
      dsimp only
      rw [H.1 e l, dxl_eq]
    · intro k l
      rw [outsAt0_C m c t h0 h1 h2 h3]
      dsimp only
      rw [H.2 k l, S]

/-- A later one adds to what the point before left. -/
theorem at_later (h0 : ¬t.val % 8 = 0) : Leaves m c t fun k l =>
    ((outsAt0 m c (t.val - 1) (lt_of_le_of_lt (Nat.sub_le _ _) t.isLt)).2 : Vec Ideal S8x128 .f32) (ix2 k l) := by
  have hN := lt_N t
  have S := sum_eq m c t
  by_cases h1 : t.val < 64
  · have h2 : ¬(8 ≤ t.val / 8 % 24 ∧ t.val / 8 % 24 ≤ 15) := by omega
    have h3 : ¬128 ≤ t.val := by omega
    have H := case_B (x4 := iblk m c 4 t) (x5 := iblk m c 5 t) (x6 := iblk m c 6 t) (x7 := iblk m c 7 t) (x8 := iblk m c 8 t) (x9 := iblk m c 9 t) (iblk m c 3 t) (holds m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (holdsQ m c t h1) (fun h => h0 ((hcond0_0 t).mp h)) ((hcond0_1 t).mpr h1) (fun h => h2 ((hcond0_2 t).mp h)) (fun h => h3 ((hcond0_3 t).mp h)) (outsAt0 m c (t.val - 1) (lt_of_le_of_lt (Nat.sub_le _ _) t.isLt)).2 _ (Dq m c t h1)
    constructor
    · intro e l
      rw [outsAt0_B m c t h0 h1 h2 h3]
      dsimp only
      rw [H.1 e l, dxl_eq]
    · intro k l
      rw [outsAt0_B m c t h0 h1 h2 h3]
      dsimp only
      rw [H.2 k l, S]
  by_cases h3 : 128 ≤ t.val
  · have h2 : ¬(8 ≤ t.val / 8 % 24 ∧ t.val / 8 % 24 ≤ 15) := by omega
    have H := case_F (x4 := iblk m c 4 t) (x5 := iblk m c 5 t) (x6 := iblk m c 6 t) (x7 := iblk m c 7 t) (x8 := iblk m c 8 t) (x9 := iblk m c 9 t) (iblk m c 3 t) (holds m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (holdsV m c t h3) (fun h => h0 ((hcond0_0 t).mp h)) (fun h => h1 ((hcond0_1 t).mp h)) (fun h => h2 ((hcond0_2 t).mp h)) ((hcond0_3 t).mpr h3) (outsAt0 m c (t.val - 1) (lt_of_le_of_lt (Nat.sub_le _ _) t.isLt)).2 _ (Dv m c t h3)
    constructor
    · intro e l
      rw [outsAt0_F m c t h0 h1 h2 h3]
      dsimp only
      rw [H.1 e l, dxl_eq]
    · intro k l
      rw [outsAt0_F m c t h0 h1 h2 h3]
      dsimp only
      rw [H.2 k l, S]
  · have h2 : 8 ≤ t.val / 8 % 24 ∧ t.val / 8 % 24 ≤ 15 := by omega
    have H := case_D (x4 := iblk m c 4 t) (x5 := iblk m c 5 t) (x6 := iblk m c 6 t) (x7 := iblk m c 7 t) (x8 := iblk m c 8 t) (x9 := iblk m c 9 t) (iblk m c 3 t) (holds m c t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (holdsK m c t h2) (fun h => h0 ((hcond0_0 t).mp h)) (fun h => h1 ((hcond0_1 t).mp h)) ((hcond0_2 t).mpr h2) (fun h => h3 ((hcond0_3 t).mp h)) (outsAt0 m c (t.val - 1) (lt_of_le_of_lt (Nat.sub_le _ _) t.isLt)).2 _ (Dk m c t h2)
    constructor
    · intro e l
      rw [outsAt0_D m c t h0 h1 h2 h3]
      dsimp only
      rw [H.1 e l, dxl_eq]
    · intro k l
      rw [outsAt0_D m c t h0 h1 h2 h3]
      dsimp only
      rw [H.2 k l, S]

/-- Every point leaves the same first block. -/
theorem at10 (e : Fin 1024) (l : Fin 128) : ((outsAt0 m c t.val t.isLt).1 : Vec Ideal S1024x128 .bf16) (ix2 e l)
    = dx (mW m c) (hc (jt t) l) (Dt m c t l) (ot t + e.val) := by
  by_cases h0 : t.val % 8 = 0
  · exact (at_first m c t h0).1 e l
  · exact (at_later m c t h0).1 e l

end Reads

/-- After point `n` the block of the taps' gradient holds the sum over the column's rows so far. -/
theorem at11 : ∀ (n : ℕ) (h : n < cfg0.N) (k : Fin 8) (l : Fin 128), ((outsAt0 m c n h).2 : Vec Ideal S8x128 .f32) (ix2 k l)
    = dw (xs (mP m c) (hc (jt ⟨n, h⟩) l)) (Dt m c ⟨n, h⟩ l) k (1024 * (n % 8) + 1024) := by
  intro n
  induction n with
  | zero =>
    intro h k l
    rw [dw_block]
    exact ((at_first m c ⟨0, h⟩ rfl).2 k l).trans (congrArg (· + _) (Finset.sum_range_zero _).symm)
  | succ n ih =>
    intro h k l
    rw [dw_block]
    by_cases h0 : (n + 1) % 8 = 0
    · refine ((at_first m c ⟨n + 1, h⟩ h0).2 k l).trans (congrArg (· + _) ?_)
      rw [h0]
      exact (Finset.sum_range_zero _).symm
    · refine ((at_later m c ⟨n + 1, h⟩ h0).2 k l).trans (congrArg (· + _) ?_)
      have hj : jt ⟨n, Nat.lt_of_succ_lt h⟩ = jt ⟨n + 1, h⟩ := Fin.ext (by show n / 8 = (n + 1) / 8; omega)
      refine (ih (Nat.lt_of_succ_lt h) k l).trans ?_
      unfold Dt
      rw [hj, show 1024 * (n % 8) + 1024 = 1024 * ((n + 1) % 8) by omega]

/-- Reading a result's formula at an index with given coordinates. -/
theorem jl (j : Fin 24) (l : Fin 128) : jh (hc j l) = j ∧ lh (hc j l) = l :=
  ⟨Fin.ext (by show (128 * j.val + l.val) / 128 = j.val; omega), Fin.ext (by show (128 * j.val + l.val) % 128 = l.val; omega)⟩
theorem o0_at (i : (⟨2, ![8192, 3072]⟩ : Shape).Idx) (t : Fin cfg0.N) (l : Fin 128) (r : ℕ) (h0 : (i 0).val = r) (h1 : i 1 = hc (jt t) l) :
    dx (mW m c) (hc (jt t) l) (Dt m c t l) r = o0 (mP m c) (mW m c) (mQ m c) (mK m c) (mV m c) i := by
  unfold o0; rw [h1, (jl _ _).1, (jl _ _).2, h0]
theorem o1_at (i : (⟨2, ![8, 3072]⟩ : Shape).Idx) (t : Fin cfg0.N) (k : Fin 8) (l : Fin 128) (n : ℕ) (hn : n = 8192) (h0 : i 0 = k) (h1 : i 1 = hc (jt t) l) :
    dw (xs (mP m c) (hc (jt t) l)) (Dt m c t l) k n = o1 (mP m c) (mW m c) (mQ m c) (mK m c) (mV m c) i := by
  unfold o1; rw [h1, (jl _ _).1, (jl _ _).2, h0, hn]

/-- Every index is the pair of its coordinates. -/
theorem pair1024 (j : S1024x128.Idx) : j = ix2 (j 0) (j 1) := funext fun a => by fin_cases a <;> rfl
theorem pair8 (j : S8x128.Idx) : j = ix2 (j 0) (j 1) := funext fun a => by fin_cases a <;> rfl

/-- Point `t` writes back its block of result 0. -/
theorem fl10 (t : Fin cfg0.N) : (dats m 0 c).flushed 10 t
    = ((cfg0.win 10).blk t).view.read (Elt Ideal) (fun i => o0 (mP m c) (mW m c) (mQ m c) (mK m c) (mV m c) i : Buf (Elt Ideal) ((c : Thread nD τ).loc main_v0_0)) := by
  rw [flushed10]
  refine funext fun (j : S1024x128.Idx) => ?_
  rw [View.read_apply]
  have hi := (idx_out t).1
  refine (congrArg ((outsAt0 m c t.val t.isLt).1 : Vec Ideal S1024x128 .bf16) (pair1024 j)).trans ((at10 m c t (j 0) (j 1)).trans ?_)
  refine o0_at m c _ t _ _ ?_ (Fin.ext ?_)
  · show win0_10.index t 0 * 1024 + 1 * (j 0).val = 1024 * (t.val % 8) + (j 0).val; rw [hi.1]; omega
  · show win0_10.index t 1 * 128 + 1 * (j 1).val = 128 * (t.val / 8) + (j 1).val; rw [hi.2]; omega

/-- Result 0: the blocks cover the array. -/
theorem fin10 : (dats m 0 c).arrAt 10 cfg0.N = (fun i => o0 (mP m c) (mW m c) (mQ m c) (mK m c) (mV m c) i : Buf (Elt Ideal) ((c : Thread nD τ).loc main_v0_0)) :=
  (dats m 0 c).arrAt_eq_of_cover 10 _ (fun t _ => fl10 m c t) fun i => by
    have b0 : (i 0).val < 8192 := (i 0).isLt
    have b1 : (i 1).val < 3072 := (i 1).isLt
    have hN : cfg0.N = 192 := N_0
    let t : Fin cfg0.N := ⟨(i 1).val / 128 * 8 + (i 0).val / 1024, by rw [hN]; omega⟩
    have hi := (idx_out t).1
    have e0 : t.val % 8 = (i 0).val / 1024 := by show ((i 1).val / 128 * 8 + (i 0).val / 1024) % 8 = _; omega
    have e1 : t.val / 8 = (i 1).val / 128 := by show ((i 1).val / 128 * 8 + (i 0).val / 1024) / 8 = _; omega
    refine ⟨t, flush0_10 t, ?_⟩
    show i ∈ ((View.whole main_v0_0).slice (win0_10.rect t)).set
    rw [View.set_slice_whole, Rect.mem_set_unit]
    intro a
    match a with
    | ⟨0, _⟩ => show win0_10.index t 0 * 1024 ≤ (i 0).val ∧ (i 0).val < win0_10.index t 0 * 1024 + 1024; rw [hi.1, e0]; omega
    | ⟨1, _⟩ => show win0_10.index t 1 * 128 ≤ (i 1).val ∧ (i 1).val < win0_10.index t 1 * 128 + 128; rw [hi.2, e1]; omega

/-- The last point of a column of blocks writes back its block of result 1. -/
theorem fl11 (t : Fin cfg0.N) (hf : (cfg0.win 11).flush t = true) : (dats m 0 c).flushed 11 t
    = ((cfg0.win 11).blk t).view.read (Elt Ideal) (fun i => o1 (mP m c) (mW m c) (mQ m c) (mK m c) (mV m c) i : Buf (Elt Ideal) ((c : Thread nD τ).loc main_v0_1)) := by
  have h7 := (flush0_11 t).mp hf
  rw [flushed11]
  refine funext fun (j : S8x128.Idx) => ?_
  rw [View.read_apply]
  have hi := (idx_out t).2
  refine (congrArg ((outsAt0 m c t.val t.isLt).2 : Vec Ideal S8x128 .f32) (pair8 j)).trans ((at11 m c t.val t.isLt (j 0) (j 1)).trans ?_)
  refine Eq.trans ?_ (cast_eq _ _).symm
  refine o1_at m c (((cfg0.win 11).blk t).view.emb j) t (j 0) (j 1) (1024 * (t.val % 8) + 1024) (by omega) ?_ ?_
  all_goals refine Fin.ext ?_
  · show win0_11.index t 0 * 8 + 1 * (j 0).val = (j 0).val; rw [hi.1]; omega
  · show win0_11.index t 1 * 128 + 1 * (j 1).val = 128 * (t.val / 8) + (j 1).val; rw [hi.2]; omega

/-- Result 1: those blocks cover the array. -/
theorem fin11 : (dats m 0 c).arrAt 11 cfg0.N = (fun i => o1 (mP m c) (mW m c) (mQ m c) (mK m c) (mV m c) i : Buf (Elt Ideal) ((c : Thread nD τ).loc main_v0_1)) :=
  (dats m 0 c).arrAt_eq_of_cover 11 _ (fl11 m c) fun i => by
    have b0 : (i 0).val < 8 := (i 0).isLt
    have b1 : (i 1).val < 3072 := (i 1).isLt
    have hN : cfg0.N = 192 := N_0
    let t : Fin cfg0.N := ⟨(i 1).val / 128 * 8 + 7, by rw [hN]; omega⟩
    have hi := (idx_out t).2
    have e0 : t.val % 8 = 7 := by show ((i 1).val / 128 * 8 + 7) % 8 = _; omega
    have e1 : t.val / 8 = (i 1).val / 128 := by show ((i 1).val / 128 * 8 + 7) / 8 = _; omega
    refine ⟨t, (flush0_11 t).mpr e0, ?_⟩
    show i ∈ ((View.whole main_v0_1).slice (win0_11.rect t)).set
    rw [View.set_slice_whole, Rect.mem_set_unit]
    intro a
    match a with
    | ⟨0, _⟩ => show win0_11.index t 0 * 8 ≤ (i 0).val ∧ (i 0).val < win0_11.index t 0 * 8 + 8; rw [hi.1]; omega
    | ⟨1, _⟩ => show win0_11.index t 1 * 128 ≤ (i 1).val ∧ (i 1).val < win0_11.index t 1 * 128 + 128; rw [hi.2, e1]; omega

end Cert.PreBIdeal.Blk

end
-- ==== Proof.PreRef.lean ====
/-
  The reference's two results of the heads' preparation's gradient, read at an index: the causal convolution, the heads'
  division by their length and its derivative, the transposed convolution and the taps' gradient.
-/
module

public import proofs.«01_k».proof.Proof.PreSpec
public import proofs.«01_k».proof.Proof.FfnRef
public import proofs.«01_k».proof.Proof.Gen.PreBRefIdeal.Read
public import Idealize.ShloMosaic.Lib.Pipeline.Value
public import Idealize.ShloMosaic.Lib.KernelVsHost

@[expose] public section

noncomputable section

open Idealize.ShloMosaic Idealize.ShloMosaic.TcCoe Idealize.SL.Sem

namespace Cert.PreBRefIdeal.RefRead

open Cert.PreBRefIdeal Cert.PreBRefIdeal.Gen Cert.PreBRefIdeal.Read Cert.PreSpec Cert.NormSpec
open Cert.ReferenceIdeal.RefRead (pad_in pad_out)

variable (x0 : Proj) (x1 : Taps) (x2 x3 x4 : Ct)

/-- The columns with three zero rows above them. -/
theorem r2 (n : Fin 8195) (q : Fin 3072) : val_main_v2 (F := Ideal) x0 (ix2 n q) = xs x0 q n.val := by
  unfold val_main_v2
  by_cases h : n.val < 3
  · rw [xs_out _ _ _ (.inl h)]
    refine (concatenate_pair_apply_left (t := S8195x3072) (s₁ := S3x3072) (s₂ := S8192x3072) (0 : Fin 2) _ _
      _ _ rfl (ix2 (⟨n.val, h⟩ : Fin 3) q) (fun b => match b with
        | ⟨0, _⟩ => rfl
        | ⟨1, _⟩ => rfl)).trans ?_
    rw [val_main_v1_apply, val_main_cst_apply]
    exact Ideal.ofBits_zero_f32
  · have hr : n.val - 3 < 8192 := by omega
    refine (concatenate_pair_apply_right (t := S8195x3072) (s₁ := S3x3072) (s₂ := S8192x3072) (0 : Fin 2) _ _
      _ _ rfl rfl (ix2 (⟨n.val - 3, hr⟩ : Fin 8192) q) (fun b => match b with
        | ⟨0, _⟩ => fun hne => absurd rfl hne
        | ⟨1, _⟩ => fun _ => rfl) (by show n.val - 3 + 3 = n.val; omega)).trans ?_
    rw [val_main_v0_apply]
    refine Eq.trans (congrArg x0 ?_) (xs_in x0 q n.val (⟨n.val - 3, hr⟩ : Fin 8192) (⟨1024 + q.val, by omega⟩ : Fin 9216)
      (by show n.val = n.val - 3 + 3; omega) rfl).symm
    exact funext fun a => match a with | ⟨0, _⟩ => rfl | ⟨1, _⟩ => rfl

theorem r2_at (i : S8195x3072.Idx) : val_main_v2 (F := Ideal) x0 i = xs x0 (i 1) (i 0).val :=
  (congrArg (val_main_v2 (F := Ideal) x0) (show i = ix2 (i 0) (i 1) from funext fun a => match a with | ⟨0, _⟩ => rfl | ⟨1, _⟩ => rfl)).trans (r2 x0 (i 0) (i 1))

/-- The four rows a tap reads. -/
theorem g0 (r : Fin 8192) (q : Fin 3072) : val_main_v6 (F := Ideal) x0 (ix2 r q) = xs x0 q r.val := by
  rw [val_main_v6_apply, r2_at]; rfl
theorem g1 (r : Fin 8192) (q : Fin 3072) : val_main_v12 (F := Ideal) x0 (ix2 r q) = xs x0 q (r.val + 1) := by
  rw [val_main_v12_apply, r2_at]; exact congrArg (xs x0 q) (Nat.add_comm 1 r.val)
theorem g2 (r : Fin 8192) (q : Fin 3072) : val_main_v19 (F := Ideal) x0 (ix2 r q) = xs x0 q (r.val + 2) := by
  rw [val_main_v19_apply, r2_at]; exact congrArg (xs x0 q) (Nat.add_comm 2 r.val)
theorem g3 (r : Fin 8192) (q : Fin 3072) : val_main_v26 (F := Ideal) x0 (ix2 r q) = xs x0 q (r.val + 3) := by
  rw [val_main_v26_apply, r2_at]; exact congrArg (xs x0 q) (Nat.add_comm 3 r.val)

/-- The causal convolution. -/
theorem r30 (r : Fin 8192) (q : Fin 3072) : val_main_v30 (F := Ideal) x0 x1 (ix2 r q) = cv x0 x1 q r.val := by
  have key : ∀ a b c d : EReal, a + b + c + d = d + c + b + a := fun a b c d => by
    rw [add_comm, add_comm (a + b), add_comm a, ← add_assoc, ← add_assoc]
  have h0 := g0 x0 r q
  have h1 := g1 x0 r q
  have h2 := g2 x0 r q
  have h3 := g3 x0 r q
  unfold val_main_v30 val_main_v29 val_main_v28 val_main_v27 val_main_v25 val_main_v24 val_main_v23 val_main_v22 val_main_v21 val_main_v20
    val_main_v18 val_main_v17 val_main_v16 val_main_v15 val_main_v14 val_main_v13 val_main_v11 val_main_v10 val_main_v9 val_main_v8
    val_main_v7 val_main_v5 val_main_v4 cv
  pointwise
  simp only [h0, h1, h2, h3]
  exact key _ _ _ _

/-- Its logistic function, and the gated column. -/
theorem rs (r : Fin 8192) (q : Fin 3072) : val_main_v31_2 (F := Ideal) x0 x1 (ix2 r q) = Cert.Silu.sg (cv x0 x1 q r.val) := by
  have h := r30 x0 x1 r q
  unfold val_main_v31_2 val_main_call0_v4 val_main_call0_v3 val_main_call0_v2 val_main_call0_v1 val_main_call0_v0 val_main_call0_cst
    val_main_call0_cst_0 Cert.Silu.sg
  pointwise
  simp only [h]
theorem ru (j : Fin 24) (r : Fin 8192) (l : Fin 128) (i : S8192x3072.Idx) (h0 : (i 0).val = r.val) (h1 : (i 1).val = 128 * j.val + l.val) :
    val_main_v31_0 (F := Ideal) x0 x1 i = us (fun k => cv x0 x1 (hc j k) r.val) l := by
  have hi : i = ix2 r (hc j l) := funext fun a => Fin.ext (match a with | ⟨0, _⟩ => h0 | ⟨1, _⟩ => h1)
  subst hi
  have e := rs x0 x1 r (hc j l)
  have h := r30 x0 x1 r (hc j l)
  unfold val_main_v31_0 us
  pointwise
  simp only [e, h]

/-- Head `h` of the first and of the second third; its entries and its cotangents. -/
def jq (h : Fin 8) : Fin 24 := ⟨h.val, by omega⟩
def jk (h : Fin 8) : Fin 24 := ⟨8 + h.val, by omega⟩
theorem uq (r : Fin 8192) (h : Fin 8) (l : Fin 128) : val_main_v35 (F := Ideal) x0 x1 (ix3 r h l) = us (fun k => cv x0 x1 (hc (jq h) k) r.val) l := by
  rw [val_main_v35_apply, val_main_v32_apply]
  refine ru x0 x1 (jq h) r l _ ?_ ?_
  · show ((r.val * 8 + h.val) * 128 + l.val) / 1024 = r.val; omega
  · show ((r.val * 8 + h.val) * 128 + l.val) % 1024 = 128 * h.val + l.val; omega
theorem uk (r : Fin 8192) (h : Fin 8) (l : Fin 128) : val_main_v49 (F := Ideal) x0 x1 (ix3 r h l) = us (fun k => cv x0 x1 (hc (jk h) k) r.val) l := by
  rw [val_main_v49_apply, val_main_v33_apply]
  refine ru x0 x1 (jk h) r l _ ?_ ?_
  · show ((r.val * 8 + h.val) * 128 + l.val) / 1024 = r.val; omega
  · show 1024 + ((r.val * 8 + h.val) * 128 + l.val) % 1024 = 128 * (8 + h.val) + l.val; omega
theorem gh (g : Ct) (j : Fin 24) (h : Fin 8) (hj : j.val % 8 = h.val) (r : Fin 8192) (l : Fin 128) :
    val_main_v62 (F := Ideal) g (ix3 r h l) = gt g (tc j l) r.val := by
  rw [val_main_v62_apply]
  refine Eq.trans (congrArg g (funext fun a => Fin.ext ?_)) (gt_in g (tc j l) r.val r rfl).symm
  match a with
  | ⟨0, _⟩ => show ((r.val * 8 + h.val) * 128 + l.val) / 1024 = r.val; omega
  | ⟨1, _⟩ => show ((r.val * 8 + h.val) * 128 + l.val) % 1024 = 128 * (j.val % 8) + l.val; omega

/-- What comes back through the division by the length. -/
theorem r77 (r : Fin 8192) (h : Fin 8) (l : Fin 128) : val_main_v77 (F := Ideal) x0 x1 x3 (ix3 r h l)
    = hd (fun k => cv x0 x1 (hc (jk h) k) r.val) (fun k => gt x3 (tc (jk h) k) r.val) l := by
  have hX : ∀ k, _ := fun k => uk x0 x1 r h k
  have hG : ∀ k, val_main_v63 (F := Ideal) x3 (ix3 r h k) = _ := fun k => gh x3 (jk h) h (by show (8 + h.val) % 8 = h.val; omega) r k
  unfold val_main_v77 val_main_v76 val_main_v75 val_main_v74 val_main_v73 val_main_v72 val_main_v71 val_main_v70 val_main_v69 val_main_v68
    val_main_v67 val_main_v66 val_main_v58 val_main_v57 val_main_v56 val_main_v55 val_main_v54 val_main_v53 val_main_v52 val_main_v51
    val_main_v50 val_main_cst_5 val_main_cst_6 val_main_cst_7 val_main_cst_8 val_main_cst_9 hd hz hs mh ep
  pointwise
  simp only [hX, hG, Fin.sum_univ_one]
theorem r92 (r : Fin 8192) (h : Fin 8) (l : Fin 128) : val_main_v92 (F := Ideal) x0 x1 x2 (ix3 r h l)
    = hd (fun k => cv x0 x1 (hc (jq h) k) r.val) (fun k => gt x2 (tc (jq h) k) r.val * kq) l := by
  have hX : ∀ k, _ := fun k => uq x0 x1 r h k
  have hG : ∀ k, val_main_v62 (F := Ideal) x2 (ix3 r h k) = _ := fun k => gh x2 (jq h) h (by show h.val % 8 = h.val; omega) r k
  unfold val_main_v92 val_main_v91 val_main_v90 val_main_v89 val_main_v88 val_main_v87 val_main_v86 val_main_v85 val_main_v84 val_main_v83
    val_main_v82 val_main_v81 val_main_v80 val_main_v79 val_main_v44 val_main_v43 val_main_v42 val_main_v41 val_main_v40 val_main_v39
    val_main_v38 val_main_v37 val_main_v36 val_main_cst_1 val_main_cst_2 val_main_cst_3 val_main_cst_10 val_main_cst_11 val_main_cst_12
    hd hz hs mh ep kq
  pointwise
  simp only [hX, hG, Fin.sum_univ_one]

/-- Column `128 h + l` of a third, as an index by head and lane. -/
theorem r78 (r : Fin 8192) (h : Fin 8) (l : Fin 128) (p : Fin 1024) (hp : p.val = 128 * h.val + l.val) :
    (idx_main_v78 (ix2 r p) : S8192x8x128.Idx) = ix3 r h l := funext fun a => Fin.ext (match a with
  | ⟨0, _⟩ => by show (r.val * 1024 + p.val) / 1024 = r.val; omega
  | ⟨1, _⟩ => by show (r.val * 1024 + p.val) / 128 % 8 = h.val; omega
  | ⟨2, _⟩ => by show (r.val * 1024 + p.val) % 128 = l.val; omega)

/-- The three thirds side by side. -/
theorem r94 (j : Fin 24) (r : Fin 8192) (l : Fin 128) : val_main_v94 (F := Ideal) x0 x1 x2 x3 x4 (ix2 r (hc j l))
    = if j.val < 8 then hd (fun k => cv x0 x1 (hc j k) r.val) (fun k => gt x2 (tc j k) r.val * kq) l
      else if j.val < 16 then hd (fun k => cv x0 x1 (hc j k) r.val) (fun k => gt x3 (tc j k) r.val) l
      else gt x4 (tc j l) r.val := by
  have hv : (hc j l).val = 128 * j.val + l.val := rfl
  unfold val_main_v94
  pointwise
  by_cases h8 : j.val < 8
  · rw [dif_pos (by omega), if_pos h8, val_main_v93_apply]
    exact (congrArg _ (r78 r (⟨j.val, h8⟩ : Fin 8) l _ hv)).trans (r92 x0 x1 x2 r ⟨j.val, h8⟩ l)
  · rw [dif_neg (by omega), if_neg h8]
    by_cases h16 : j.val < 16
    · rw [dif_pos (by omega), if_pos h16, val_main_v78_apply]
      have hj : jk (⟨j.val - 8, by omega⟩ : Fin 8) = j := Fin.ext (by show 8 + (j.val - 8) = j.val; omega)
      refine (congrArg _ (r78 r (⟨j.val - 8, by omega⟩ : Fin 8) l _ (by show (hc j l).val - 1024 = 128 * (j.val - 8) + l.val; omega))).trans ?_
      exact (r77 x0 x1 x3 r ⟨j.val - 8, by omega⟩ l).trans (by rw [hj])
    · rw [dif_neg (by omega), if_neg h16, val_main_v65_apply]
      refine (congrArg _ (r78 r (⟨j.val - 16, by omega⟩ : Fin 8) l _ (by show (hc j l).val - 1024 - 1024 = 128 * (j.val - 16) + l.val; omega))).trans ?_
      exact gh x4 j ⟨j.val - 16, by omega⟩ (by show j.val % 8 = j.val - 16; omega) r l

/-- The cotangent of the convolution. -/
theorem r95 (r : Fin 8192) (q : Fin 3072) : val_main_v95 (F := Ideal) x0 x1 x2 x3 x4 (ix2 r q) = D x0 x1 x2 x3 x4 (jh q) (lh q) r.val := by
  have e := rs x0 x1 r q
  have h := r30 x0 x1 r q
  have h94 := r94 x0 x1 x2 x3 x4 (jh q) r (lh q)
  rw [hc_jh] at h94
  unfold val_main_v95 val_main_call1_v2 val_main_call1_v1 val_main_call1_v0 val_main_v31_1 val_main_call0_v7 val_main_call0_v6 val_main_call0_cst_1
    D dq dk dv Cert.Silu.dact
  pointwise
  simp only [e, h, h94, hc_jh]
  split
  · rfl
  · split <;> rfl

section Column

variable (q : Fin 3072) (d : ℕ → EReal)

/-- A tap's share of the transposed convolution, three rows further down the padded array. -/
theorem share {lo hi : ℕ} (k : ℕ) (hk : k + lo = 3) (y : S8192x3072.Idx → EReal) (z : S_.Idx → EReal)
    (hp : S8192x3072.Pads (![lo, 0] : Fin 2 → ℕ) ![hi, 0] ![0, 0] S8195x3072) (hu : 0 < S_.numel) (hz : ∀ u, z u = 0) (w : EReal)
    (hy : ∀ r : Fin 8192, y (ix2 r q) = w * d r.val) (hd0 : ∀ r, 8192 ≤ r → d r = 0) (r : Fin 8192) (i : S8195x3072.Idx)
    (h0 : (i 0).val = 3 + r.val) (h1 : i 1 = q) :
    pad S8195x3072 ![lo, 0] ![hi, 0] ![0, 0] y z hp hu i = w * d (r.val + k) := by
  by_cases h : r.val + k < 8192
  · exact (pad_in (lo := lo) y z hp hu i (⟨r.val + k, h⟩ : Fin 8192) q (by show (i 0).val = lo + (r.val + k); omega) (congrArg Fin.val h1)).trans (hy _)
  · rw [hd0 _ (by omega), mul_zero]
    exact (pad_out (lo := lo) y z hp hu i (by omega)).trans (hz _)

/-- One row placed among four. -/
theorem place {lo hi : ℕ} (y : S1x3072.Idx → EReal) (z : S_.Idx → EReal)
    (hp : S1x3072.Pads (![lo, 0] : Fin 2 → ℕ) ![hi, 0] ![0, 0] S4x3072) (hu : 0 < S_.numel) (hz : ∀ u, z u = 0) (k : Fin 4) :
    pad S4x3072 ![lo, 0] ![hi, 0] ![0, 0] y z hp hu (ix2 k q) = if k.val = lo then y (ix2 (0 : Fin 1) q) else 0 := by
  by_cases h : k.val = lo
  · rw [if_pos h]
    exact pad_in (lo := lo) y z hp hu _ (0 : Fin 1) q h rfl
  · rw [if_neg h]
    exact (pad_out (lo := lo) y z hp hu _ (by show k.val < lo ∨ lo + 1 ≤ k.val; omega)).trans (hz _)

/-- A tap's gradient as a sum over the rows. -/
theorem dw_sum (k : Fin 8) (hk : k.val < 4) (f : ℕ → EReal) : (∑ r : Fin 8192, d r.val * f (r.val + k.val)) = dw f d k 8192 := by
  unfold dw tap
  rw [Finset.sum_range]
  exact Finset.sum_congr rfl fun r _ => by rw [if_pos hk]

variable (hD : ∀ r : Fin 8192, val_main_v95 (F := Ideal) x0 x1 x2 x3 x4 (ix2 r q) = d r.val)

include hD in
/-- The transposed convolution. -/
theorem r140 (hd0 : ∀ r, 8192 ≤ r → d r = 0) (r : Fin 8192) : val_main_v140 (F := Ideal) x0 x1 x2 x3 x4 (ix2 r q) = dx x1 q d r.val := by
  rw [val_main_v140_apply, val_main_v139_apply, val_main_v134_apply, val_main_v123_apply, val_main_v112_apply]
  have s3 := share q d 0 rfl (val_main_v97 (F := Ideal) x0 x1 x2 x3 x4) (val_main_cst_15 (F := Ideal)) pads_S8192x3072_S8195x3072_300_000 h_S_
    (fun _ => Ideal.ofBits_zero_f32) (x1 (ix2 (3 : Fin 4) q))
    (fun r => by
      have h := hD r
      unfold val_main_v97 val_main_v96 val_main_v27 val_main_v25 val_main_v24
      pointwise
      simp only [h]) hd0 r (idx_main_v139 (ix2 r q)) rfl rfl
  have s2 := share q d 1 rfl (val_main_v106 (F := Ideal) x0 x1 x2 x3 x4) (val_main_cst_19 (F := Ideal)) pads_S8192x3072_S8195x3072_210_000 h_S_
    (fun _ => Ideal.ofBits_zero_f32) (x1 (ix2 (2 : Fin 4) q))
    (fun r => by
      have h := hD r
      unfold val_main_v106 val_main_v105 val_main_v20 val_main_v18 val_main_v17
      pointwise
      simp only [h]) hd0 r (idx_main_v139 (ix2 r q)) rfl rfl
  have s1 := share q d 2 rfl (val_main_v117 (F := Ideal) x0 x1 x2 x3 x4) (val_main_cst_23 (F := Ideal)) pads_S8192x3072_S8195x3072_120_000 h_S_
    (fun _ => Ideal.ofBits_zero_f32) (x1 (ix2 (1 : Fin 4) q))
    (fun r => by
      have h := hD r
      unfold val_main_v117 val_main_v116 val_main_v13 val_main_v11 val_main_v10
      pointwise
      simp only [h]) hd0 r (idx_main_v139 (ix2 r q)) rfl rfl
  have s0 := share q d 3 rfl (val_main_v128 (F := Ideal) x0 x1 x2 x3 x4) (val_main_cst_27 (F := Ideal)) pads_S8192x3072_S8195x3072_030_000 h_S_
    (fun _ => Ideal.ofBits_zero_f32) (x1 (ix2 (0 : Fin 4) q))
    (fun r => by
      have h := hD r
      unfold val_main_v128 val_main_v127 val_main_v7 val_main_v5 val_main_v4
      pointwise
      simp only [h]) hd0 r (idx_main_v139 (ix2 r q)) rfl rfl
  unfold val_main_v102 val_main_v111 val_main_v122 val_main_v133
  rw [s3, s2, s1, s0]
  rfl

include hD in
/-- The four rows of the taps' gradient. -/
theorem r137 (k : Fin 4) : val_main_v137 (F := Ideal) x0 x1 x2 x3 x4 (ix2 k q) = dw (xs x0 q) d (⟨k.val, by omega⟩ : Fin 8) 8192 := by
  have t3 : val_main_v103 (F := Ideal) x0 x1 x2 x3 x4 (ix2 (0 : Fin 1) q) = dw (xs x0 q) d (3 : Fin 8) 8192 := by
    have hg := fun r => g3 x0 r q
    rw [← dw_sum d (3 : Fin 8) (by decide)]
    unfold val_main_v103 val_main_v101 val_main_v100 val_main_v99 val_main_v98 val_main_cst_13 val_main_cst_14
    pointwise
    simp only [hD, hg, Fin.sum_univ_one]
  have t2 : val_main_v113 (F := Ideal) x0 x1 x2 x3 x4 (ix2 (0 : Fin 1) q) = dw (xs x0 q) d (2 : Fin 8) 8192 := by
    have hg := fun r => g2 x0 r q
    rw [← dw_sum d (2 : Fin 8) (by decide)]
    unfold val_main_v113 val_main_v110 val_main_v109 val_main_v108 val_main_v107 val_main_cst_17 val_main_cst_18
    pointwise
    simp only [hD, hg, Fin.sum_univ_one]
  have t1 : val_main_v124 (F := Ideal) x0 x1 x2 x3 x4 (ix2 (0 : Fin 1) q) = dw (xs x0 q) d (1 : Fin 8) 8192 := by
    have hg := fun r => g1 x0 r q
    rw [← dw_sum d (1 : Fin 8) (by decide)]
    unfold val_main_v124 val_main_v121 val_main_v120 val_main_v119 val_main_v118 val_main_cst_21 val_main_cst_22
    pointwise
    simp only [hD, hg, Fin.sum_univ_one]
  have t0 : val_main_v135 (F := Ideal) x0 x1 x2 x3 x4 (ix2 (0 : Fin 1) q) = dw (xs x0 q) d (0 : Fin 8) 8192 := by
    have hg := fun r => g0 x0 r q
    rw [← dw_sum d (0 : Fin 8) (by decide)]
    unfold val_main_v135 val_main_v132 val_main_v131 val_main_v130 val_main_v129 val_main_cst_25 val_main_cst_26
    pointwise
    simp only [hD, hg, Fin.sum_univ_one]
  rw [val_main_v137_apply, val_main_v126_apply, val_main_v115_apply]
  unfold val_main_v104 val_main_v114 val_main_v125 val_main_v136
  rw [place q _ (val_main_cst_16 (F := Ideal)) _ _ (fun _ => Ideal.ofBits_zero_f32), place q _ (val_main_cst_20 (F := Ideal)) _ _ (fun _ => Ideal.ofBits_zero_f32),
    place q _ (val_main_cst_24 (F := Ideal)) _ _ (fun _ => Ideal.ofBits_zero_f32), place q _ (val_main_cst_28 (F := Ideal)) _ _ (fun _ => Ideal.ofBits_zero_f32),
    t3, t2, t1, t0]
  match k with
  | ⟨0, _⟩ => show (((0 : EReal) + 0) + 0) + dw (xs x0 q) d 0 8192 = _; rw [zero_add, zero_add, zero_add]; rfl
  | ⟨1, _⟩ => show (((0 : EReal) + 0) + dw (xs x0 q) d 1 8192) + 0 = _; rw [zero_add, zero_add, add_zero]; rfl
  | ⟨2, _⟩ => show (((0 : EReal) + dw (xs x0 q) d 2 8192) + 0) + 0 = _; rw [zero_add, add_zero, add_zero]; rfl
  | ⟨3, _⟩ => show ((dw (xs x0 q) d 3 8192 + (0 : EReal)) + 0) + 0 = _; rw [add_zero, add_zero, add_zero]; rfl

include hD in
/-- The eight rows: those and four zero ones. -/
theorem r142 (k : Fin 8) : val_main_v142 (F := Ideal) x0 x1 x2 x3 x4 (ix2 k q) = dw (xs x0 q) d k 8192 := by
  have h137 := fun k => r137 x0 x1 x2 x3 x4 q d hD k
  unfold val_main_v142 val_main_v141 val_main_cst_29
  pointwise
  by_cases h : k.val < 4
  · rw [dif_pos h]; exact h137 _
  · rw [dif_neg h]
    exact (Finset.sum_eq_zero fun r _ => by unfold tap; rw [if_neg h, mul_zero]).symm

end Column

/-- The reference's two results. -/
theorem res0 (i : S8192x3072.Idx) : val_main_v140 (F := Ideal) x0 x1 x2 x3 x4 i = o0 x0 x1 x2 x3 x4 i :=
  (congrArg (val_main_v140 (F := Ideal) x0 x1 x2 x3 x4) (show i = ix2 (i 0) (i 1) from funext fun a => match a with | ⟨0, _⟩ => rfl | ⟨1, _⟩ => rfl)).trans
    (r140 x0 x1 x2 x3 x4 (i 1) _ (fun r => r95 x0 x1 x2 x3 x4 r (i 1)) (D_zero x0 x1 x2 x3 x4 _ _) (i 0))
theorem res1 (i : S8x3072.Idx) : val_main_v142 (F := Ideal) x0 x1 x2 x3 x4 i = o1 x0 x1 x2 x3 x4 i :=
  (congrArg (val_main_v142 (F := Ideal) x0 x1 x2 x3 x4) (show i = ix2 (i 0) (i 1) from funext fun a => match a with | ⟨0, _⟩ => rfl | ⟨1, _⟩ => rfl)).trans
    (r142 x0 x1 x2 x3 x4 (i 1) _ (fun r => r95 x0 x1 x2 x3 x4 r (i 1)) (i 0))

end Cert.PreBRefIdeal.RefRead

end
-- ==== Proof.PreB.lean ====
/-
  The heads' preparation's gradient: the kernel's run and the reference's run end with the same two arrays.
-/
module

public import proofs.«01_k».proof.Defs
public import proofs.«01_k».proof.Proof.PreKernel
public import proofs.«01_k».proof.Proof.PreRef
public import Idealize.ShloMosaic.Lib.Quiescent

@[expose] public section

noncomputable section

namespace Cert.PreBProof

open Idealize.ShloMosaic Idealize.ShloMosaic.TcCoe Idealize.SL.Sem Cert.PreBRefIdeal.Read Cert.PreBRefIdeal.RefRead

/-- The reference terminates, leaves its arguments alone and has no semaphores. -/
theorem frame_ref : Cert.quiescent_PreBRefIdeal (hPreBRefIdeal := Cert.PreBRefIdeal.Gen.facts) := fun m ρ _ =>
  (θ_run Cert.PreBRefIdeal.defs _ _).mono
    (fun r h => ⟨fun c => (h c).2.2, sem_eq_zero_of_no_sems rfl r.2⟩) (Cert.PreBRefIdeal.Value.run (F := Ideal) m ρ)

/-- The call computes the derivatives. -/
theorem algebraic : Cert.algebraic_PreBIdeal_PreBRefIdeal (hPreBIdeal := Cert.PreBIdeal.Gen.facts)
    (hPreBRefIdeal := Cert.PreBRefIdeal.Gen.facts) := by
  intro m ρ m' ρ' _ hm
  refine ⟨_, _, Cert.PreBIdeal.Value.run_blocks m ρ, ?_⟩
  refine (θ_run Cert.PreBRefIdeal.defs _ _).mono (fun r h c => ?_) (Cert.PreBRefIdeal.Value.run (F := Ideal) m' ρ')
  obtain ⟨a0, a1, a2, a3, a4⟩ := hm c
  obtain ⟨h0, h1, hk⟩ := h c
  refine ⟨h0.trans ?_, h1.trans ?_, hk⟩
  · refine ((val_main_v140_eq (StableHlo.launchContents m' c)).trans ?_).trans (Cert.PreBIdeal.Blk.fin10 m c).symm
    change val_main_v140 (F := Ideal) (m' ((c.tc : Thread Cert.PreBRefIdeal.nD Cert.PreBRefIdeal.τ).loc Cert.PreBRefIdeal.main_arg0))
      (m' ((c.tc : Thread Cert.PreBRefIdeal.nD Cert.PreBRefIdeal.τ).loc Cert.PreBRefIdeal.main_arg1))
      (m' ((c.tc : Thread Cert.PreBRefIdeal.nD Cert.PreBRefIdeal.τ).loc Cert.PreBRefIdeal.main_arg2))
      (m' ((c.tc : Thread Cert.PreBRefIdeal.nD Cert.PreBRefIdeal.τ).loc Cert.PreBRefIdeal.main_arg3))
      (m' ((c.tc : Thread Cert.PreBRefIdeal.nD Cert.PreBRefIdeal.τ).loc Cert.PreBRefIdeal.main_arg4)) = _
    rw [a0, a1, a2, a3, a4]; exact funext fun i => res0 _ _ _ _ _ i
  · refine ((val_main_v142_eq (StableHlo.launchContents m' c)).trans ?_).trans (Cert.PreBIdeal.Blk.fin11 m c).symm
    change val_main_v142 (F := Ideal) (m' ((c.tc : Thread Cert.PreBRefIdeal.nD Cert.PreBRefIdeal.τ).loc Cert.PreBRefIdeal.main_arg0))
      (m' ((c.tc : Thread Cert.PreBRefIdeal.nD Cert.PreBRefIdeal.τ).loc Cert.PreBRefIdeal.main_arg1))
      (m' ((c.tc : Thread Cert.PreBRefIdeal.nD Cert.PreBRefIdeal.τ).loc Cert.PreBRefIdeal.main_arg2))
      (m' ((c.tc : Thread Cert.PreBRefIdeal.nD Cert.PreBRefIdeal.τ).loc Cert.PreBRefIdeal.main_arg3))
      (m' ((c.tc : Thread Cert.PreBRefIdeal.nD Cert.PreBRefIdeal.τ).loc Cert.PreBRefIdeal.main_arg4)) = _
    rw [a0, a1, a2, a3, a4]; exact funext fun i => res1 _ _ _ _ _ i

end Cert.PreBProof

end
-- ==== Proof.FfnY.lean ====
/-
  The forward pass of the gated feed-forward mix: the causal three-tap convolution of every column, and the product of one
  half's logistic-gated columns with the other half's.
-/
module

public import proofs.«01_k».proof.Proof.Gen.FfnYIdeal.Value
public import proofs.«01_k».proof.Proof.FfnPay
public import proofs.«01_k».proof.Proof.FfnSpec
public import proofs.«01_k».proof.Defs
public import proofs.«01_k».proof.Proof.Gen.FfnYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.FfnSpec

/-- The gated product at row `r` and column `p`. -/
def fy (up : Up) (w : Taps) (p : Fin 5632) (r : ℕ) : EReal :=
  (cv up w (qa p) r * Cert.Silu.sg (cv up w (qa p) r)) * cv up w (qv p) r

end Cert.FfnSpec

namespace Cert.FfnYIdeal.Blk

open Cert.FfnYIdeal Cert.FfnYIdeal.Gen Cert.FfnYIdeal.Value Cert.FfnSpec
open Cert.KernelIdeal.Blk (cvl shift512 sel_apply)

variable (m : (ℓ : Loc nD τ sig) → Buf (Elt Ideal) ℓ) (c : Dev nD)

/-- The arguments: the up-projection and the taps. -/
abbrev mUp : Up := m ((c.tc : Thread nD τ).loc main_arg0)
abbrev mW : Taps := m ((c.tc : Thread nD τ).loc main_arg1)

/-- Whether a point is the first of its column. -/
abbrev firstB (i : grid0.Coords) : BitVec 1 := Scalar.cmpi .eq (BitVec.ofNat 32 (i 1).val) 0#32

/-- The block indices of the windows at a grid point, decided over the grid. -/
theorem idx : ∀ t : Fin grid0.N,
    ((win0_0.index t 0 = t.val % 16 ∧ win0_0.index t 1 = t.val / 16)
      ∧ (win0_1.index t 0 = t.val % 16 ∧ win0_1.index t 1 = t.val / 16 + 11))
    ∧ ((win0_2.index t 0 = t.val % 16 * 64 - 1 ∧ win0_2.index t 1 = t.val / 16)
      ∧ (win0_3.index t 0 = t.val % 16 * 64 - 1 ∧ win0_3.index t 1 = t.val / 16 + 11))
    ∧ ((win0_4.index t 0 = 0 ∧ win0_4.index t 1 = t.val / 16)
      ∧ (win0_5.index t 0 = 0 ∧ win0_5.index t 1 = t.val / 16 + 11))
    ∧ (win0_6.index t 0 = t.val % 16 ∧ win0_6.index t 1 = t.val / 16) := by
  decide +kernel

theorem first : ∀ t : Fin grid0.N, firstB (grid0.coords t) = if t.val % 16 = 0 then 1#1 else 0#1 := by decide +kernel

/-- The zero offsets as the printed loads spell them. -/
theorem hz : (![0, 0] : Fin 2 → Nat) = fun _ => 0 := funext fun a => by fin_cases a <;> rfl

/-- A block's rows and the rows before it hold the columns `f` from their rows 2 and 0 on. -/
structure Holds (b : BitVec 1) (x : Vec Ideal S512x512 .f32) (p : Vec Ideal S8x512 .f32) (f : Fin 512 → ℕ → EReal) : Prop where
  rows : ∀ (e l : Fin 512), x (ix2 e l) = f l (e.val + 2)
  prev : ∀ (e : Fin 8) (l : Fin 512), 6 ≤ e.val → Scalar.select b 0 (p (ix2 e l)) = f l (e.val - 6)

/-- The rows before a block, or zeros. -/
abbrev before (b : BitVec 1) (p : Vec Ideal S8x512 .f32) : FVec Ideal S8x512 .f32 :=
  Scalar.select b (broadcast S8x512 (Scalar.ofBits (F := Ideal) .f32 0x00000000#32)) p

theorem before_apply {b : BitVec 1} {x : Vec Ideal S512x512 .f32} {p : Vec Ideal S8x512 .f32} {f : Fin 512 → ℕ → EReal}
    (h : Holds b x p f) (e : Fin 8) (l : Fin 512) (he : 6 ≤ e.val) : before b p (ix2 e l) = f l (e.val - 6) := by
  rw [← h.prev e l he, ← Ideal.ofBits_zero_f32]
  exact sel_apply b _ p (ix2 e l)

/-- A row broadcast down a block. -/
theorem row512 (w : FVec Ideal S1x512 .f32) (e : Fin 512) (l : Fin 512) :
    broadcastTo S512x512 w broadcasts_S1x512_S512x512 (ix2 e l) = w (ix2 (0 : Fin 1) l) := by
  pointwise

/-- What the body leaves, at an entry. -/
theorem out6 (i : grid0.Coords) (x0 x1 : Vec Ideal S512x512 .f32) (x2 x3 : Vec Ideal S8x512 .f32) (x4 x5 : Vec Ideal S3x512 .f32)
    {f g : Fin 512 → ℕ → EReal} (hA : Holds (firstB i) x0 x2 f) (hV : Holds (firstB i) x1 x3 g) (e l : Fin 512) :
    out0_6 (F := Ideal) i x0 x1 x2 x3 x4 x5 (ix2 e l)
      = (cvl (View.ld x4 r0_2) (View.ld x4 r0_3) (View.ld x4 r0_4) f l e.val
          * Cert.Silu.sg (cvl (View.ld x4 r0_2) (View.ld x4 r0_3) (View.ld x4 r0_4) f l e.val))
        * cvl (View.ld x5 r0_2) (View.ld x5 r0_3) (View.ld x5 r0_4) g l e.val := by
  have a1 := shift512 (k := 1) (by omega) x0 (before (firstB i) x2) f hA.rows (before_apply hA) e l
  have a2 := shift512 (k := 2) (by omega) x0 (before (firstB i) x2) f hA.rows (before_apply hA) e l
  have v1 := shift512 (k := 1) (by omega) x1 (before (firstB i) x3) g hV.rows (before_apply hV) e l
  have v2 := shift512 (k := 2) (by omega) x1 (before (firstB i) x3) g hV.rows (before_apply hV) e l
  rw [show e.val + 2 - 1 = e.val + 1 from rfl] at a1 v1
  rw [show e.val + 2 - 2 = e.val from rfl] at a2 v2
  unfold out0_6
  rw [View.canon_unit_zero (S := S512x512) hz]
  simp only [View.ld_unit_zero (S := S512x512) hz, View.ld_unit_zero (S := S8x512) hz]
  rw [← Cert.Silu.sg_eq]
  unfold cvl
  rw [← row512 (View.ld x4 r0_2) e l, ← row512 (View.ld x4 r0_3) e l, ← row512 (View.ld x4 r0_4) e l,
    ← row512 (View.ld x5 r0_2) e l, ← row512 (View.ld x5 r0_3) e l, ← row512 (View.ld x5 r0_4) e l,
    ← hA.rows e l, ← hV.rows e l, ← a1, ← a2, ← v1, ← v2, ← Ideal.ofBits_zero_f32, ← Ideal.ofBits_one_f32]
  rfl

section Point

variable (t : Fin cfg0.N)

/-- The column of the gated product that a point's column `l` is. -/
def col (l : Fin 512) : Fin 5632 := ⟨512 * (t.val / 16) + l.val, by
  have h : t.val < 176 := lt_of_lt_of_eq t.isLt N_0; omega⟩

/-- The blocks of the up-projection at a point hold its columns, from row `512 * (t % 16)` on. -/
theorem holds (q : Fin 5632 → Fin 11264) (x : Vec Ideal S512x512 .f32) (p : Vec Ideal S8x512 .f32)
    (hx : ∀ (e l : Fin 512) (r : Fin 8192), r.val = 512 * (t.val % 16) + e.val → x (ix2 e l) = mUp m c (ix2 r (q (col t l))))
    (hp : ∀ (e : Fin 8) (l : Fin 512) (r : Fin 8192), r.val = 8 * (t.val % 16 * 64 - 1) + e.val → p (ix2 e l) = mUp m c (ix2 r (q (col t l)))) :
    Holds (firstB (grid0.coords t)) x p (fun l n => xs (mUp m c) (q (col t l)) (512 * (t.val % 16) + n)) := by
  refine ⟨fun e l => ?_, fun e l h6 => ?_⟩
  · have he := e.isLt
    exact (hx e l ⟨512 * (t.val % 16) + e.val, by omega⟩ rfl).trans (xs_in _ _ _ _ rfl).symm
  · have he := e.isLt
    rw [first t]
    by_cases h : t.val % 16 = 0
    · rw [if_pos h, show ∀ a b : EReal, Scalar.select 1#1 a b = a from fun _ _ => rfl]
      exact (xs_out _ _ _ (by omega)).symm
    · rw [if_neg h, show ∀ a b : EReal, Scalar.select 0#1 a b = b from fun _ _ => rfl]
      exact (hp e l ⟨512 * (t.val % 16) + e.val - 8, by omega⟩ (by show _ - 8 = _; omega)).trans
        (xs_in _ _ _ _ (by show _ = 512 * (t.val % 16) + e.val - 8 + 2; omega)).symm

theorem holdsA : Holds (firstB (grid0.coords t)) (iblk m c 0 t : Vec Ideal S512x512 .f32) (iblk m c 2 t : Vec Ideal S8x512 .f32)
    (fun l n => xs (mUp m c) (qa (col t l)) (512 * (t.val % 16) + n)) := by
  refine holds m c t qa _ _ (fun e l r hr => ?_) fun e l r hr => ?_
  · unfold iblk
    rw [View.read_apply]
    refine Eq.trans (b := mUp m c (((cfg0.win 0).blk t).view.emb (ix2 e l))) (congrFun (V_main_arg0 m c) _)
      (congrArg (mUp m c) (funext fun a => Fin.ext ?_))
    have hi := (idx t).1.1
    match a with
    | ⟨0, _⟩ => show win0_0.index t 0 * 512 + 1 * e.val = r.val; rw [hi.1]; omega
    | ⟨1, _⟩ => show win0_0.index t 1 * 512 + 1 * l.val = 512 * (t.val / 16) + l.val; rw [hi.2]; omega
  · unfold iblk
    rw [View.read_apply]
    refine Eq.trans (b := mUp m c (((cfg0.win 2).blk t).view.emb (ix2 e l))) (congrFun (V_main_arg0 m c) _)
      (congrArg (mUp m c) (funext fun a => Fin.ext ?_))
    have hi := (idx t).2.1.1
    match a with
    | ⟨0, _⟩ => show win0_2.index t 0 * 8 + 1 * e.val = r.val; rw [hi.1]; omega
    | ⟨1, _⟩ => show win0_2.index t 1 * 512 + 1 * l.val = 512 * (t.val / 16) + l.val; rw [hi.2]; omega

theorem holdsV : Holds (firstB (grid0.coords t)) (iblk m c 1 t : Vec Ideal S512x512 .f32) (iblk m c 3 t : Vec Ideal S8x512 .f32)
    (fun l n => xs (mUp m c) (qv (col t l)) (512 * (t.val % 16) + n)) := by
  refine holds m c t qv _ _ (fun e l r hr => ?_) fun e l r hr => ?_
  · unfold iblk
    rw [View.read_apply]
    refine Eq.trans (b := mUp m c (((cfg0.win 1).blk t).view.emb (ix2 e l))) (congrFun (V_main_arg0 m c) _)
      (congrArg (mUp m c) (funext fun a => Fin.ext ?_))
    have hi := (idx t).1.2
    match a with
    | ⟨0, _⟩ => show win0_1.index t 0 * 512 + 1 * e.val = r.val; rw [hi.1]; omega
    | ⟨1, _⟩ => show win0_1.index t 1 * 512 + 1 * l.val = 5632 + (512 * (t.val / 16) + l.val); rw [hi.2]; omega
  · unfold iblk
    rw [View.read_apply]
    refine Eq.trans (b := mUp m c (((cfg0.win 3).blk t).view.emb (ix2 e l))) (congrFun (V_main_arg0 m c) _)
      (congrArg (mUp m c) (funext fun a => Fin.ext ?_))
    have hi := (idx t).2.1.2
    match a with
    | ⟨0, _⟩ => show win0_3.index t 0 * 8 + 1 * e.val = r.val; rw [hi.1]; omega
    | ⟨1, _⟩ => show win0_3.index t 1 * 512 + 1 * l.val = 5632 + (512 * (t.val / 16) + l.val); rw [hi.2]; omega

/-- The taps' blocks at a point. -/
theorem tapA (k : Fin 3) (l : Fin 512) : (iblk m c 4 t : Vec Ideal S3x512 .f32) (ix2 k l) = mW m c (ix2 k (qa (col t l))) := by
  unfold iblk
  rw [View.read_apply]
  refine Eq.trans (b := mW m c (((cfg0.win 4).blk t).view.emb (ix2 k l))) (congrFun (V_main_arg1 m c) _)
    (congrArg (mW m c) (funext fun a => Fin.ext ?_))
  have hi := (idx t).2.2.1.1
  match a with
  | ⟨0, _⟩ => show win0_4.index t 0 * 3 + 1 * k.val = k.val; rw [hi.1]; omega
  | ⟨1, _⟩ => show win0_4.index t 1 * 512 + 1 * l.val = 512 * (t.val / 16) + l.val; rw [hi.2]; omega
theorem tapV (k : Fin 3) (l : Fin 512) : (iblk m c 5 t : Vec Ideal S3x512 .f32) (ix2 k l) = mW m c (ix2 k (qv (col t l))) := by
  unfold iblk
  rw [View.read_apply]
  refine Eq.trans (b := mW m c (((cfg0.win 5).blk t).view.emb (ix2 k l))) (congrFun (V_main_arg1 m c) _)
    (congrArg (mW m c) (funext fun a => Fin.ext ?_))
  have hi := (idx t).2.2.1.2
  match a with
  | ⟨0, _⟩ => show win0_5.index t 0 * 3 + 1 * k.val = k.val; rw [hi.1]; omega
  | ⟨1, _⟩ => show win0_5.index t 1 * 512 + 1 * l.val = 5632 + (512 * (t.val / 16) + l.val); rw [hi.2]; omega

/-- A block's convolution is the array's column's. -/
theorem cvl_eq (x : Vec Ideal S3x512 .f32) (q : Fin 11264) (o : ℕ) (l : Fin 512)
    (hw : ∀ k : Fin 3, x (ix2 k l) = mW m c (ix2 k q)) (f : Fin 512 → ℕ → EReal) (hf : ∀ n, f l n = xs (mUp m c) q (o + n)) (e : ℕ) :
    cvl (View.ld x r0_2) (View.ld x r0_3) (View.ld x r0_4) f l e = cv (mUp m c) (mW m c) q (o + e) := by
  have h2 : (View.ld x r0_2 : FVec Ideal S1x512 .f32) (ix2 (0 : Fin 1) l) = mW m c (ix2 (2 : Fin 3) q) := by
    refine Eq.trans (congrArg x (funext fun a => Fin.ext ?_)) (hw 2)
    match a with
    | ⟨0, _⟩ => rfl
    | ⟨1, _⟩ => show 0 + 1 * l.val = l.val; omega
  have h1 : (View.ld x r0_3 : FVec Ideal S1x512 .f32) (ix2 (0 : Fin 1) l) = mW m c (ix2 (1 : Fin 3) q) := by
    refine Eq.trans (congrArg x (funext fun a => Fin.ext ?_)) (hw 1)
    match a with
    | ⟨0, _⟩ => rfl
    | ⟨1, _⟩ => show 0 + 1 * l.val = l.val; omega
  have h0 : (View.ld x r0_4 : FVec Ideal S1x512 .f32) (ix2 (0 : Fin 1) l) = mW m c (ix2 (0 : Fin 3) q) := by
    refine Eq.trans (congrArg x (funext fun a => Fin.ext ?_)) (hw 0)
    match a with
    | ⟨0, _⟩ => rfl
    | ⟨1, _⟩ => show 0 + 1 * l.val = l.val; omega
  unfold cvl cv
  rw [h2, h1, h0, hf, hf, hf]
  rfl

end Point

/-- The result array. -/
theorem fin : (dats m 0 c).arrAt 6 cfg0.N
    = (fun i => fy (mUp m c) (mW m c) (i 1) (i 0).val : Buf (Elt Ideal) ((c : Thread nD τ).loc main_v0)) := by
  refine (dats m 0 c).arrAt_eq_of_cover 6 _ (fun t _ => ?_) fun i => ?_
  · rw [flushed6]
    refine funext fun (y : S512x512.Idx) => ?_
    rw [View.read_apply]
    have hi := (idx t).2.2.2
    have hy : y = ix2 (y 0) (y 1) := funext fun a => match a with | ⟨0, _⟩ => rfl | ⟨1, _⟩ => rfl
    refine ((congrArg (out0_6 (F := Ideal) _ _ _ _ _ _ _) hy).trans (out6 _ _ _ _ _ _ _ (holdsA m c t) (holdsV m c t) (y 0) (y 1))).trans ?_
    rw [cvl_eq m c (iblk m c 4 t) (qa (col t (y 1))) (512 * (t.val % 16)) (y 1) (fun k => tapA m c t k _) _ (fun _ => rfl),
      cvl_eq m c (iblk m c 5 t) (qv (col t (y 1))) (512 * (t.val % 16)) (y 1) (fun k => tapV m c t k _) _ (fun _ => rfl)]
    refine Eq.trans (b := fy (mUp m c) (mW m c) (col t (y 1)) (512 * (t.val % 16) + (y 0).val)) rfl (congrArg₂ _ (Fin.ext ?_) ?_)
    · show 512 * (t.val / 16) + (y 1).val = win0_6.index t 1 * 512 + 1 * (y 1).val; rw [hi.2]; omega
    · show _ = win0_6.index t 0 * 512 + 1 * (y 0).val; rw [hi.1]; omega
  · have b0 : (i 0).val < 8192 := (i 0).isLt
    have b1 : (i 1).val < 5632 := (i 1).isLt
    let t : Fin cfg0.N := ⟨16 * ((i 1).val / 512) + (i 0).val / 512, lt_of_lt_of_eq (by omega) N_0.symm⟩
    have hi := (idx t).2.2.2
    have ht : t.val = 16 * ((i 1).val / 512) + (i 0).val / 512 := rfl
    refine ⟨t, flush0_6 t, ?_⟩
    show i ∈ ((View.whole main_v0).slice (win0_6.rect t)).set
    rw [View.set_slice_whole, Rect.mem_set_unit]
    intro a
    match a with
    | ⟨0, _⟩ => show win0_6.index t 0 * 512 ≤ (i 0).val ∧ (i 0).val < win0_6.index t 0 * 512 + 512; rw [hi.1, ht]; omega
    | ⟨1, _⟩ => show win0_6.index t 1 * 512 ≤ (i 1).val ∧ (i 1).val < win0_6.index t 1 * 512 + 512; rw [hi.2, ht]; omega

end Cert.FfnYIdeal.Blk

namespace Cert.FfnYProof

open Cert.FfnSpec Cert.FfnYRefIdeal Cert.FfnYRefIdeal.Read

/-- The reference terminates, leaves its arguments alone and has no semaphores. -/
theorem frame_ref : Cert.quiescent_FfnYRefIdeal (hFfnYRefIdeal := Cert.FfnYRefIdeal.Gen.facts) := fun m ρ _ =>
  (θ_run Cert.FfnYRefIdeal.defs _ _).mono
    (fun r h => ⟨fun c => (h c).2, sem_eq_zero_of_no_sems rfl r.2⟩) (Cert.FfnYRefIdeal.Value.run (F := Ideal) m ρ)

section Ref

variable (x0 : Up) (x1 : Taps)

/-- The rows with two zero rows above them. -/
theorem r1 (n : Fin 8194) (q : Fin 11264) : val_main_v1 (F := Ideal) x0 (ix2 n q) = xs x0 q n.val := by
  unfold val_main_v1
  by_cases h : n.val < 2
  · rw [xs_out _ _ _ (.inl h)]
    refine (concatenate_pair_apply_left (t := S8194x11264) (s₁ := S2x11264) (s₂ := S8192x11264) (0 : Fin 2) _ _
      _ _ rfl (ix2 (⟨n.val, h⟩ : Fin 2) q) (fun b => match b with
        | ⟨0, _⟩ => rfl
        | ⟨1, _⟩ => rfl)).trans ?_
    rw [val_main_v0_apply, val_main_cst_apply]
    exact Ideal.ofBits_zero_f32
  · have hr : n.val - 2 < 8192 := by omega
    refine (concatenate_pair_apply_right (t := S8194x11264) (s₁ := S2x11264) (s₂ := S8192x11264) (0 : Fin 2) _ _
      _ _ rfl rfl (ix2 (⟨n.val - 2, hr⟩ : Fin 8192) q) (fun b => match b with
        | ⟨0, _⟩ => fun hne => absurd rfl hne
        | ⟨1, _⟩ => fun _ => rfl) (by show n.val - 2 + 2 = n.val; omega)).trans ?_
    exact (xs_in _ _ _ (⟨n.val - 2, hr⟩ : Fin 8192) (by show n.val = n.val - 2 + 2; omega)).symm

theorem r1_at (i : S8194x11264.Idx) : val_main_v1 (F := Ideal) x0 i = xs x0 (i 1) (i 0).val :=
  (congrArg (val_main_v1 (F := Ideal) x0) (show i = ix2 (i 0) (i 1) from funext fun a => match a with | ⟨0, _⟩ => rfl | ⟨1, _⟩ => rfl)).trans (r1 x0 (i 0) (i 1))

/-- The causal convolution. -/
theorem r23 (r : Fin 8192) (q : Fin 11264) : val_main_v23 (F := Ideal) x0 x1 (ix2 r q) = cv x0 x1 q r.val := by
  have key : ∀ a b c : EReal, a + b + c = c + b + a := fun a b c => by rw [add_comm, add_comm a, ← add_assoc]
  have g0 : val_main_v5 (F := Ideal) x0 (ix2 r q) = xs x0 q r.val := by
    rw [val_main_v5_apply, r1_at]; rfl
  have g1 : val_main_v13 (F := Ideal) x0 (ix2 r q) = xs x0 q (r.val + 1) := by
    rw [val_main_v13_apply, r1_at]; exact congrArg (xs x0 q) (Nat.add_comm 1 r.val)
  have g2 : val_main_v20 (F := Ideal) x0 (ix2 r q) = xs x0 q (r.val + 2) := by
    rw [val_main_v20_apply, r1_at]; exact congrArg (xs x0 q) (Nat.add_comm 2 r.val)
  unfold val_main_v23 val_main_v22 val_main_v21 val_main_v19 val_main_v18 val_main_v17 val_main_v16 val_main_v15 val_main_v14
    val_main_v12 val_main_v11 val_main_v10 val_main_v9 val_main_v8 val_main_cst_0 val_main_v7 val_main_v6 val_main_v4 val_main_v3
    val_main_v2 cv
  pointwise
  simp only [g0, g1, g2]
  exact key _ _ _

/-- The reference's result. -/
theorem r28 (i : S8192x5632.Idx) : val_main_v28 (F := Ideal) x0 x1 i = fy x0 x1 (i 1) (i 0).val := by
  have h24 : val_main_v24 (F := Ideal) x0 x1 i = cv x0 x1 (qa (i 1)) (i 0).val := by

    rw [val_main_v24_apply]
    exact (congrArg (val_main_v23 (F := Ideal) x0 x1) (show idx_main_v24 i = ix2 (i 0) (qa (i 1)) from
      funext fun a => match a with | ⟨0, _⟩ => rfl | ⟨1, _⟩ => rfl)).trans (r23 x0 x1 (i 0) (qa (i 1)))
  have h25 : val_main_v25 (F := Ideal) x0 x1 i = cv x0 x1 (qv (i 1)) (i 0).val := by

    rw [val_main_v25_apply]
    exact (congrArg (val_main_v23 (F := Ideal) x0 x1) (show idx_main_v25 i = ix2 (i 0) (qv (i 1)) from
      funext fun a => match a with | ⟨0, _⟩ => rfl | ⟨1, _⟩ => rfl)).trans (r23 x0 x1 (i 0) (qv (i 1)))
  unfold val_main_v28 val_main_v27 val_main_v26 val_main_call0_v5 val_main_call0_v4 val_main_call0_cst_0 val_main_call0_v3 val_main_call0_v2
    val_main_call0_cst val_main_call0_v1 val_main_call0_v0 fy Cert.Silu.sg
  pointwise
  simp only [h24, h25]

end Ref

/-- The call computes the reference's result. -/
theorem algebraic : Cert.algebraic_FfnYIdeal_FfnYRefIdeal (hFfnYIdeal := Cert.FfnYIdeal.Gen.facts)
    (hFfnYRefIdeal := Cert.FfnYRefIdeal.Gen.facts) := by
  intro m ρ m' ρ' _ hm
  refine ⟨_, Cert.FfnYIdeal.Value.run_blocks m ρ, ?_⟩
  refine (θ_run Cert.FfnYRefIdeal.defs _ _).mono (fun r h c => ?_) (Cert.FfnYRefIdeal.Value.run (F := Ideal) m' ρ')
  obtain ⟨a0, a1⟩ := hm c
  obtain ⟨h0, hk⟩ := h c
  refine ⟨h0.trans ?_, hk⟩
  refine ((val_main_v28_eq _ _).trans ?_).trans (Cert.FfnYIdeal.Blk.fin m c).symm
  rw [a0, a1]; exact funext fun i => r28 _ _ i

end Cert.FfnYProof

end
-- ==== Proof.NormY.lean ====
/-
  The normalisation before the feed-forward block.
-/
module

public import proofs.«01_k».proof.Proof.Gen.NormYIdeal.Value
public import proofs.«01_k».proof.Proof.Prod
public import proofs.«01_k».proof.Proof.NormSpec
public import proofs.«01_k».proof.Defs
public import proofs.«01_k».proof.Proof.Gen.NormYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.NormYSpec

open Cert.Prod Cert.NormSpec

/-- The row length as the programs spell it. -/
def cn : EReal := Ideal.ofBits FTy.f32 1157627904#32

/-- The normalised entry at row `r` and column `p`. -/
def ny (x : (⟨2, ![8192, 2048]⟩ : Shape).Idx → EReal) (w : ℕ → EReal) (r p : ℕ) : EReal := tot x r p * rs 2048 cn (tot x r) * w p

end Cert.NormYSpec

namespace Cert.NormYIdeal.Blk

open Cert.NormYIdeal Cert.NormYIdeal.Gen Cert.NormYIdeal.Value Cert.Prod Cert.NormSpec Cert.NormYSpec

variable (m : (ℓ : Loc nD τ sig) → Buf (Elt Ideal) ℓ) (c : Dev nD)

/-- The arguments: the rows and the weight. -/
abbrev mX : Vec Ideal S8192x2048 .f32 := m ((c.tc : Thread nD τ).loc main_arg0)
abbrev mW : Vec Ideal S2048 .f32 := m ((c.tc : Thread nD τ).loc main_arg1)

/-- The block indices of the windows at a grid point, decided over the grid. -/
theorem idx : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

/-- The blocks of the rows at a point. -/
theorem blk0 (t : Fin cfg0.N) (y : S256x2048.Idx) :
    (iblk m c 0 t : Vec Ideal S256x2048 .f32) y = tot (mX m c) (256 * t.val + (y 0).val) (y 1).val := by
  unfold iblk
  rw [View.read_apply]
  have hi := (idx t).1
  refine Eq.trans (b := mX m c (((cfg0.win 0).blk t).view.emb y)) (congrFun (V_main_arg0 m c) _) (tot_idx _ _ ?_ ?_)
  · show win0_0.index t 0 * 256 + 1 * (y 0).val = _; rw [hi.1]; omega
  · show win0_0.index t 1 * 2048 + 1 * (y 1).val = _; rw [hi.2]; omega

/-- The host lays the weight out as one row. -/
theorem V_w : (V m c main_v0 : Vec Ideal S1x2048 .f32) = broadcastInDim S1x2048 ![1] bcast_S2048_S1x2048_1 (mW m c) := by
  unfold V
  after_results_simp <;> rfl
theorem blk1 (t : Fin cfg0.N) (y : S1x2048.Idx) : (iblk m c 1 t : Vec Ideal S1x2048 .f32) y = wt (mW m c) (y 1).val := by
  unfold iblk
  rw [View.read_apply]
  have hi := (idx t).2.1
  have h1 : (y 1).val < 2048 := (y 1).isLt
  refine (congrFun (V_w m c) (((cfg0.win 1).blk t).view.emb y)).trans ?_
  unfold wt
  rw [dif_pos h1]
  refine broadcastInDim_apply _ _ _ _ _ (fun a => match a with | ⟨0, _⟩ => ?_)
  show (y 1).val = if (2048 : ℕ) = 1 then 0 else win0_1.index t 1 * 2048 + 1 * (y 1).val
  rw [if_neg (by decide), hi.2]; omega

/-- What the body leaves, at an entry. -/
theorem out2 (x : Vec Ideal S256x2048 .f32) (w : Vec Ideal S1x2048 .f32) (y : S256x2048.Idx) {X W : ℕ → EReal}
    (hX : ∀ k : Fin 2048, x (ix2 (y 0) k) = X k.val) (hW : ∀ k : Fin 2048, w (ix2 0 k) = W k.val) :
    out0_2 (F := Ideal) x w y = X (y 1).val * rs 2048 cn X * W (y 1).val := by
  have hy : y = ix2 (y 0) (y 1) := funext fun a => match a with | ⟨0, _⟩ => rfl | ⟨1, _⟩ => rfl
  have e1 : x y = X (y 1).val := (congrArg x hy).trans (hX _)
  have e3 : w (ix2 0 (y 1)) = W (y 1).val := hW _
  unfold out0_2
  rw [canon2_eq]
  pointwise
  simp only [hX, e1, e3]
  rfl

/-- The result array. -/
theorem fin : (dats m 0 c).arrAt 2 cfg0.N
    = (fun i => ny (mX m c) (wt (mW m c)) (i 0).val (i 1).val : Buf (Elt Ideal) ((c : Thread nD τ).loc main_v1)) := by
  refine (dats m 0 c).arrAt_eq_of_cover 2 _ (fun t _ => ?_) fun i => ?_
  · rw [flushed2]
    refine funext fun (y : S256x2048.Idx) => ?_
    rw [View.read_apply]
    have hi := (idx t).2.2
    refine (out2 _ _ y (X := tot (mX m c) (256 * t.val + (y 0).val)) (W := wt (mW m c)) (fun k => blk0 m c t _) (fun k => blk1 m c t _)).trans ?_
    refine Eq.trans (b := ny (mX m c) (wt (mW m c)) (256 * t.val + (y 0).val) (y 1).val) rfl (congrArg₂ _ ?_ ?_)
    · show _ = win0_2.index t 0 * 256 + 1 * (y 0).val; rw [hi.1]; omega
    · show _ = win0_2.index t 1 * 2048 + 1 * (y 1).val; rw [hi.2]; omega
  · have b0 : (i 0).val < 8192 := (i 0).isLt
    have b1 : (i 1).val < 2048 := (i 1).isLt
    let t : Fin cfg0.N := ⟨(i 0).val / 256, lt_of_lt_of_eq (by omega) N_0.symm⟩
    have hi := (idx t).2.2
    have ht : t.val = (i 0).val / 256 := rfl
    refine ⟨t, flush0_2 t, ?_⟩
    show i ∈ ((View.whole main_v1).slice (win0_2.rect t)).set
    rw [View.set_slice_whole, Rect.mem_set_unit]
    intro a
    match a with
    | ⟨0, _⟩ => show win0_2.index t 0 * 256 ≤ (i 0).val ∧ (i 0).val < win0_2.index t 0 * 256 + 256; rw [hi.1, ht]; omega
    | ⟨1, _⟩ => show win0_2.index t 1 * 2048 ≤ (i 1).val ∧ (i 1).val < win0_2.index t 1 * 2048 + 2048; rw [hi.2]; omega

end Cert.NormYIdeal.Blk

namespace Cert.NormYProof

open Cert.Prod Cert.NormSpec Cert.NormYSpec Cert.NormYRefIdeal Cert.NormYRefIdeal.Read

/-- The reference terminates, leaves its arguments alone and has no semaphores. -/
theorem frame_ref : Cert.quiescent_NormYRefIdeal (hNormYRefIdeal := Cert.NormYRefIdeal.Gen.facts) := fun m ρ _ =>
  (θ_run Cert.NormYRefIdeal.defs _ _).mono
    (fun r h => ⟨fun c => (h c).2, sem_eq_zero_of_no_sems rfl r.2⟩) (Cert.NormYRefIdeal.Value.run (F := Ideal) m ρ)

section Ref

variable (x0 : Vec Ideal S8192x2048 .f32) (x1 : Vec Ideal S2048 .f32)

/-- The reference's mean square of a row. -/
theorem r6 (e : Fin 8192) (z : Fin 1) : val_main_v6 (F := Ideal) x0 (ix2 e z) = ms 2048 cn (tot x0 e.val) := by
  have hX : ∀ k : Fin 2048, x0 (ix2 e k) = tot x0 e.val k.val := fun k => tot_idx _ _ rfl rfl
  unfold val_main_v6 val_main_v5 val_main_v4 val_main_v3 val_main_v2 val_main_v1 val_main_v0 val_main_cst val_main_cst_0 val_main_cst_1 ms cn ep
  pointwise
  simp only [hX]

/-- The reference's result. -/
theorem r13 (i : S8192x2048.Idx) : val_main_v13 (F := Ideal) x0 x1 i = ny x0 (wt x1) (i 0).val (i 1).val := by
  have hW : x1 (ix1 (i 1)) = wt x1 (i 1).val := wt_in x1 (i 1)
  have e0 : x0 i = tot x0 (i 0).val (i 1).val := tot_idx _ _ rfl rfl
  have h6 : ∀ z : Fin 1, val_main_v6 (F := Ideal) x0 (ix2 (i 0) z) = ms 2048 cn (tot x0 (i 0).val) := fun z => r6 x0 (i 0) z
  unfold val_main_v13 val_main_v12 val_main_v11 val_main_v10 val_main_v9 val_main_v8 val_main_v7 ny rs
  pointwise
  simp only [h6, hW, e0]

end Ref

/-- The call computes the reference's result. -/
theorem algebraic : Cert.algebraic_NormYIdeal_NormYRefIdeal (hNormYIdeal := Cert.NormYIdeal.Gen.facts)
    (hNormYRefIdeal := Cert.NormYRefIdeal.Gen.facts) := by
  intro m ρ m' ρ' _ hm
  refine ⟨_, Cert.NormYIdeal.Value.run_blocks m ρ, ?_⟩
  refine (θ_run Cert.NormYRefIdeal.defs _ _).mono (fun r h c => ?_) (Cert.NormYRefIdeal.Value.run (F := Ideal) m' ρ')
  obtain ⟨a0, a1⟩ := hm c
  obtain ⟨h0, hk⟩ := h c
  refine ⟨h0.trans ?_, hk⟩
  refine ((val_main_v13_eq _ _).trans ?_).trans (Cert.NormYIdeal.Blk.fin m c).symm
  rw [a0, a1]; exact funext fun i => r13 _ _ i

end Cert.NormYProof

end
-- ==== Proof.MergeY.lean ====
/-
  The gated sum of the two branches: every entry of the result is a function of one entry of each argument.
-/
module

public import proofs.«01_k».proof.Proof.Gen.MergeYIdeal.Value
public import proofs.«01_k».proof.Proof.Prod
public import proofs.«01_k».proof.Proof.Silu
public import proofs.«01_k».proof.Defs
public import proofs.«01_k».proof.Proof.Gen.MergeYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.MergeYSpec

open Cert.Prod Cert.Silu

/-- One entry: `a` and `b` are the two halves of the gated product, `d` the other branch, `s` and `n` the two gates. -/
def my (a b d s n : EReal) : EReal := sg s * (a * sg b) + sg n * d

/-- A function of the five entries, read from the three arguments at row `r` and column `p`. -/
def at5 (f : EReal → EReal → EReal → EReal → EReal → EReal) (x0 : (⟨2, ![8192, 4096]⟩ : Shape).Idx → EReal)
    (x1 : (⟨2, ![8192, 2048]⟩ : Shape).Idx → EReal) (x2 : (⟨2, ![8192, 9216]⟩ : Shape).Idx → EReal) (r p : ℕ) : EReal :=
  f (tot x0 r p) (tot x0 r (2048 + p)) (tot x1 r p) (tot x2 r (5120 + p)) (tot x2 r (7168 + p))

end Cert.MergeYSpec

namespace Cert.MergeYIdeal.Blk

open Cert.MergeYIdeal Cert.MergeYIdeal.Gen Cert.MergeYIdeal.Value Cert.Prod Cert.Silu Cert.MergeYSpec

variable (m : (ℓ : Loc nD τ sig) → Buf (Elt Ideal) ℓ) (c : Dev nD)

/-- The arguments. -/
abbrev m0 : Vec Ideal S8192x4096 .f32 := m ((c.tc : Thread nD τ).loc main_arg0)
abbrev m1 : Vec Ideal S8192x2048 .f32 := m ((c.tc : Thread nD τ).loc main_arg1)
abbrev m2 : Vec Ideal S8192x9216 .f32 := m ((c.tc : Thread nD τ).loc main_arg2)

/-- The result array. -/
theorem fin : (dats m 0 c).arrAt 5 cfg0.N
    = (fun i => at5 my (m0 m c) (m1 m c) (m2 m c) (i 0).val (i 1).val : Buf (Elt Ideal) ((c : Thread nD τ).loc main_v0)) := by
  refine (final5 m c).trans (funext fun i => ?_)
  have e0 : m0 m c (inIdx5_0 i) = tot (m0 m c) (i 0).val (i 1).val := tot_idx _ _ rfl rfl
  have e1 : m0 m c (inIdx5_1 i) = tot (m0 m c) (i 0).val (2048 + (i 1).val) := tot_idx _ _ rfl (Nat.add_comm _ _)
  have e2 : m1 m c i = tot (m1 m c) (i 0).val (i 1).val := tot_idx _ _ rfl rfl
  have e3 : m2 m c (inIdx5_3 i) = tot (m2 m c) (i 0).val (5120 + (i 1).val) := tot_idx _ _ rfl (Nat.add_comm _ _)
  have e4 : m2 m c (inIdx5_4 i) = tot (m2 m c) (i 0).val (7168 + (i 1).val) := tot_idx _ _ rfl (Nat.add_comm _ _)
  unfold at5 my
  rw [← e0, ← e1, ← e2, ← e3, ← e4, ← sg_eq, ← sg_eq, ← sg_eq]
  unfold G5
  pointwise

end Cert.MergeYIdeal.Blk

namespace Cert.MergeYProof

open Cert.Prod Cert.Silu Cert.MergeYSpec Cert.MergeYRefIdeal Cert.MergeYRefIdeal.Read

/-- The reference terminates, leaves its arguments alone and has no semaphores. -/
theorem frame_ref : Cert.quiescent_MergeYRefIdeal (hMergeYRefIdeal := Cert.MergeYRefIdeal.Gen.facts) := fun m ρ _ =>
  (θ_run Cert.MergeYRefIdeal.defs _ _).mono
    (fun r h => ⟨fun c => (h c).2, sem_eq_zero_of_no_sems rfl r.2⟩) (Cert.MergeYRefIdeal.Value.run (F := Ideal) m ρ)

/-- The reference's result. -/
theorem r26 (x0 : Vec Ideal S8192x4096 .f32) (x1 : Vec Ideal S8192x2048 .f32) (x2 : Vec Ideal S8192x9216 .f32) (i : S8192x2048.Idx) :
    val_main_v26 (F := Ideal) x0 x1 x2 i = at5 my x0 x1 x2 (i 0).val (i 1).val := by
  have e0 : val_main_v0 (F := Ideal) x0 i = tot x0 (i 0).val (i 1).val := (val_main_v0_apply x0 i).trans (tot_idx _ _ rfl rfl)
  have e1 : val_main_v1 (F := Ideal) x0 i = tot x0 (i 0).val (2048 + (i 1).val) := (val_main_v1_apply x0 i).trans (tot_idx _ _ rfl rfl)
  have e2 : x1 i = tot x1 (i 0).val (i 1).val := tot_idx _ _ rfl rfl
  have e3 : val_main_v2 (F := Ideal) x2 i = tot x2 (i 0).val (5120 + (i 1).val) := (val_main_v2_apply x2 i).trans (tot_idx _ _ rfl rfl)
  have e4 : val_main_v3 (F := Ideal) x2 i = tot x2 (i 0).val (7168 + (i 1).val) := (val_main_v3_apply x2 i).trans (tot_idx _ _ rfl rfl)
  unfold at5 my sg
  rw [← e0, ← e1, ← e2, ← e3, ← e4]
  unfold val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6
    val_main_v5 val_main_v4 val_main_cst val_main_cst_0 val_main_cst_1 val_main_cst_2 val_main_cst_3 val_main_cst_4
  generalize val_main_v0 (F := Ideal) x0 = u0, val_main_v1 (F := Ideal) x0 = u1, val_main_v2 (F := Ideal) x2 = u2, val_main_v3 (F := Ideal) x2 = u3
  pointwise

/-- The call computes the reference's result. -/
theorem algebraic : Cert.algebraic_MergeYIdeal_MergeYRefIdeal (hMergeYIdeal := Cert.MergeYIdeal.Gen.facts)
    (hMergeYRefIdeal := Cert.MergeYRefIdeal.Gen.facts) := by
  intro m ρ m' ρ' _ hm
  refine ⟨_, Cert.MergeYIdeal.Value.run_blocks m ρ, ?_⟩
  refine (θ_run Cert.MergeYRefIdeal.defs _ _).mono (fun r h c => ?_) (Cert.MergeYRefIdeal.Value.run (F := Ideal) m' ρ')
  obtain ⟨a0, a1, a2⟩ := hm c
  obtain ⟨h0, hk⟩ := h c
  refine ⟨h0.trans ?_, hk⟩
  refine ((val_main_v26_eq _ _ _).trans ?_).trans (Cert.MergeYIdeal.Blk.fin m c).symm
  rw [a0, a1, a2]; exact funext fun i => r26 _ _ _ i

end Cert.MergeYProof

end
-- ==== Proof.LossB.lean ====
/-
  The loss head: the squared distance of the normalised rows from the target, and its gradient.
-/
module

public import proofs.«01_k».proof.Proof.Gen.LossBIdeal.Value
public import proofs.«01_k».proof.Proof.Prod
public import proofs.«01_k».proof.Proof.NormSpec
public import proofs.«01_k».proof.Defs
public import proofs.«01_k».proof.Proof.Gen.LossBRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.LossBSpec

open Cert.Prod Cert.NormSpec

/-- The row length, its inverse, one half and two, as the programs spell them. -/
def cn : EReal := Ideal.ofBits FTy.f32 1157627904#32
def iv : EReal := Ideal.ofBits FTy.f32 973078528#32
def hf : EReal := Ideal.ofBits FTy.f32 1056964608#32
def tw : EReal := Ideal.ofBits FTy.f32 1073741824#32

theorem cn_eq : cn = ((2048 : ℝ) : EReal) := by
  unfold cn; simp [Ideal.ofBits, Ideal.ieee, -EReal.coe_mul]; norm_num
theorem iv_eq : iv = ((1 / 2048 : ℝ) : EReal) := by
  unfold iv; simp [Ideal.ofBits, Ideal.ieee, -EReal.coe_mul]; norm_num
theorem hf_eq : hf = ((1 / 2 : ℝ) : EReal) := by
  unfold hf; simp [Ideal.ofBits, Ideal.ieee, -EReal.coe_mul]; norm_num
theorem tw_eq : tw = ((2 : ℝ) : EReal) := by
  unfold tw; simp [Ideal.ofBits, Ideal.ieee, -EReal.coe_mul]; norm_num

/-- One half goes into a sum, and the reference's factors of the error make the call's one. -/
theorem hf_add (a b : EReal) : hf * a + hf * b = hf * (a + b) := by
  rw [hf_eq]
  exact (EReal.left_distrib_of_nonneg_of_ne_top (EReal.coe_nonneg.mpr (by norm_num)) (EReal.coe_ne_top _) a b).symm
theorem ct_eq (e : EReal) : Ideal.div (hf * 1) cn * (tw * e) = e * iv := by
  unfold Ideal.div
  rw [if_neg (by rw [cn_eq]; exact EReal.coe_ne_zero.mpr (by norm_num)), mul_one, ← mul_assoc, mul_comm e]
  congr 1
  rw [cn_eq, hf_eq, tw_eq, iv_eq, ← EReal.coe_inv, ← EReal.coe_mul, ← EReal.coe_mul]
  norm_num

/-- The error of a row `X` at column `k`, with weight `W` and target `T`, and the row's mean square error. -/
def er (X W T : ℕ → EReal) (k : ℕ) : EReal := X k * rs 2048 cn X * W k - T k
def me (X W T : ℕ → EReal) : EReal := Ideal.div (∑ k : Fin 2048, er X W T k.val * er X W T k.val) cn

section

variable (x : (⟨2, ![8192, 2048]⟩ : Shape).Idx → EReal) (w : ℕ → EReal) (g : (⟨2, ![8192, 2048]⟩ : Shape).Idx → EReal)

/-- The cotangent of the input at row `r` and column `p`. -/
def o0 (r p : ℕ) : EReal := dx 2048 cn (tot x r) (fun k => er (tot x r) w (tot g r) k * iv * w k) p

/-- What row `r` contributes to the weight's cotangent at column `p`, and to the loss. -/
def o1 (p r : ℕ) : EReal := tot x r p * rs 2048 cn (tot x r) * (er (tot x r) w (tot g r) p * iv)
def o2 (r : ℕ) : EReal := me (tot x r) w (tot g r)

/-- The weight's cotangent at column `p`, and the loss. -/
@[irreducible] def o1sum (p : ℕ) : EReal := ∑ r ∈ Finset.range 8192, o1 x w g p r
theorem o1sum_of {n : ℕ} (hn : n = 8192) {p q : ℕ} (hp : p = q) : ∑ r ∈ Finset.range n, o1 x w g p r = o1sum x w g q := by
  subst hn hp; unfold o1sum; rfl
@[irreducible] def o2sum : EReal := hf * ∑ r ∈ Finset.range 8192, o2 x w g r
theorem o2sum_of {n : ℕ} (hn : n = 8192) : hf * ∑ r ∈ Finset.range n, o2 x w g r = o2sum x w g := by
  subst hn; unfold o2sum; rfl

end

end Cert.LossBSpec

namespace Cert.LossBIdeal.Blk

open Cert.LossBIdeal Cert.LossBIdeal.Gen Cert.LossBIdeal.Value Cert.Prod Cert.NormSpec Cert.LossBSpec

variable (m : (ℓ : Loc nD τ sig) → Buf (Elt Ideal) ℓ) (c : Dev nD)

/-- The arguments: the rows, the weight and the target. -/
abbrev mX : Vec Ideal S8192x2048 .f32 := m ((c.tc : Thread nD τ).loc main_arg0)
abbrev mW : Vec Ideal S2048 .f32 := m ((c.tc : Thread nD τ).loc main_arg1)
abbrev mG : Vec Ideal S8192x2048 .f32 := m ((c.tc : Thread nD τ).loc main_arg2)

/-- The block indices of the windows at a grid point, decided over the grid. -/
theorem idx : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0) := by
  decide +kernel

/-- The blocks of the arguments at a point. -/
theorem blk0 (t : Fin cfg0.N) (y : S256x2048.Idx) :
    (iblk m c 0 t : Vec Ideal S256x2048 .f32) y = tot (mX m c) (256 * t.val + (y 0).val) (y 1).val := by
  unfold iblk
  rw [View.read_apply]
  have hi := (idx t).1
  refine Eq.trans (b := mX m c (((cfg0.win 0).blk t).view.emb y)) (congrFun (V_main_arg0 m c) _) (tot_idx _ _ ?_ ?_)
  · show win0_0.index t 0 * 256 + 1 * (y 0).val = _; rw [hi.1]; omega
  · show win0_0.index t 1 * 2048 + 1 * (y 1).val = _; rw [hi.2]; omega
theorem blk2 (t : Fin cfg0.N) (y : S256x2048.Idx) :
    (iblk m c 2 t : Vec Ideal S256x2048 .f32) y = tot (mG m c) (256 * t.val + (y 0).val) (y 1).val := by
  unfold iblk
  rw [View.read_apply]
  have hi := (idx t).2.2.1
  refine Eq.trans (b := mG m c (((cfg0.win 2).blk t).view.emb y)) (congrFun (V_main_arg2 m c) _) (tot_idx _ _ ?_ ?_)
  · show win0_2.index t 0 * 256 + 1 * (y 0).val = _; rw [hi.1]; omega
  · show win0_2.index t 1 * 2048 + 1 * (y 1).val = _; rw [hi.2]; omega

/-- The host lays the weight out as one row. -/
theorem V_w : (V m c main_v0 : Vec Ideal S1x2048 .f32) = broadcastInDim S1x2048 ![1] bcast_S2048_S1x2048_1 (mW m c) := by
  unfold V
  after_results_simp <;> rfl
theorem blk1 (t : Fin cfg0.N) (y : S1x2048.Idx) : (iblk m c 1 t : Vec Ideal S1x2048 .f32) y = wt (mW m c) (y 1).val := by
  unfold iblk
  rw [View.read_apply]
  have hi := (idx t).2.1
  have h1 : (y 1).val < 2048 := (y 1).isLt
  refine (congrFun (V_w m c) (((cfg0.win 1).blk t).view.emb y)).trans ?_
  unfold wt
  rw [dif_pos h1]
  refine broadcastInDim_apply _ _ _ _ _ (fun a => match a with | ⟨0, _⟩ => ?_)
  show (y 1).val = if (2048 : ℕ) = 1 then 0 else win0_1.index t 1 * 2048 + 1 * (y 1).val
  rw [if_neg (by decide), hi.2]; omega

section

variable (x g : Vec Ideal S256x2048 .f32) (w : Vec Ideal S1x2048 .f32) {X G : ℕ → ℕ → EReal} {W : ℕ → EReal}
  (hX : ∀ (e : Fin 256) (k : Fin 2048), x (ix2 e k) = X e.val k.val) (hG : ∀ (e : Fin 256) (k : Fin 2048), g (ix2 e k) = G e.val k.val)
  (hW : ∀ k : Fin 2048, w (ix2 0 k) = W k.val)

include hX in
/-- The mean square of a block's row. -/
theorem pay6_at (e : Fin 256) (u : Fin 1) : k0_pay6 (F := Ideal) x (ix2 e u) = ms 2048 cn (X e.val) := by
  unfold k0_pay6 ms cn ep
  pointwise
  simp only [hX]

include hX hG hW in
/-- The error at a block's row and column, and the values made of it: the loss of the block, what comes to the weight, and what comes to the row. -/
theorem pay9_at (e : Fin 256) (k : Fin 2048) : k0_pay9 (F := Ideal) x w g (ix2 e k) = er (X e.val) W (G e.val) k.val := by
  have h6 : ∀ u : Fin 1, k0_pay6 (F := Ideal) x (ix2 e u) = ms 2048 cn (X e.val) := fun u => pay6_at x hX e u
  unfold k0_pay9 k0_pay8 k0_pay7 k0_pay5 er rs
  pointwise
  simp only [h6, hX, hG, hW]
include hX hG hW in
theorem pay10_at (y : S1x1.Idx) : k0_pay10 (F := Ideal) x w g y = hf * ∑ e : Fin 256, me (X e.val) W (G e.val) := by
  have h9 : ∀ (e : Fin 256) (k : Fin 2048), k0_pay9 (F := Ideal) x w g (ix2 e k) = er (X e.val) W (G e.val) k.val := pay9_at x g w hX hG hW
  unfold k0_pay10 me hf cn
  pointwise
  simp only [h9]
include hX hG hW in
theorem pay12_at (y : S1x2048.Idx) : k0_pay12 (F := Ideal) x w g y
    = ∑ e : Fin 256, X e.val (y 1).val * rs 2048 cn (X e.val) * (er (X e.val) W (G e.val) (y 1).val * iv) := by
  unfold k0_pay12 k0_pay11 k0_pay8 k0_pay7 rs iv
  pointwise
  refine Finset.sum_congr rfl fun e _ => ?_
  have e1 : x (ix2 e (y 1)) = X e.val (y 1).val := hX e (y 1)
  have e2 : k0_pay9 (F := Ideal) x w g (ix2 e (y 1)) = er (X e.val) W (G e.val) (y 1).val := pay9_at x g w hX hG hW e (y 1)
  rw [pay6_at x hX e 0, e1, e2]
include hX hG hW in
theorem pay1_at (y : S256x2048.Idx) : k0_pay1 (F := Ideal) x (k0_pay14 (F := Ideal) x w g) (k0_pay15 (F := Ideal) x w g) y
    = dx 2048 cn (X (y 0).val) (fun k => er (X (y 0).val) W (G (y 0).val) k * iv * W k) (y 1).val := by
  have hy : y = ix2 (y 0) (y 1) := funext fun a => match a with | ⟨0, _⟩ => rfl | ⟨1, _⟩ => rfl
  have h6 : ∀ u : Fin 1, k0_pay6 (F := Ideal) x (ix2 (y 0) u) = ms 2048 cn (X (y 0).val) := fun u => pay6_at x hX (y 0) u
  have h9 : ∀ k : Fin 2048, k0_pay9 (F := Ideal) x w g (ix2 (y 0) k) = er (X (y 0).val) W (G (y 0).val) k.val := fun k => pay9_at x g w hX hG hW (y 0) k
  have e9 : k0_pay9 (F := Ideal) x w g y = er (X (y 0).val) W (G (y 0).val) (y 1).val := (congrArg _ hy).trans (h9 _)
  have hx : ∀ k : Fin 2048, x (ix2 (y 0) k) = X (y 0).val k.val := fun k => hX (y 0) k
  have e1 : x y = X (y 0).val (y 1).val := (congrArg x hy).trans (hX (y 0) (y 1))
  have e3 : w (ix2 0 (y 1)) = W (y 1).val := hW (y 1)
  unfold k0_pay1 k0_pay14 k0_pay15 k0_pay13 k0_pay11 k0_pay7 k0_pay5 dx back rs iv
  pointwise
  simp only [h6, h9, e9, hx, hW, e1, e3, Fin.sum_univ_one]
  rfl

end

/-- The three values of a point's blocks. -/
theorem dx_at (t : Fin cfg0.N) (y : S256x2048.Idx) :
    k0_pay1 (F := Ideal) (iblk m c 0 t) (k0_pay14 (F := Ideal) (iblk m c 0 t) (iblk m c 1 t) (iblk m c 2 t)) (k0_pay15 (F := Ideal) (iblk m c 0 t) (iblk m c 1 t) (iblk m c 2 t)) y
      = o0 (mX m c) (wt (mW m c)) (mG m c) (256 * t.val + (y 0).val) (y 1).val :=
  pay1_at (iblk m c 0 t) (iblk m c 2 t) (iblk m c 1 t) (X := fun e => tot (mX m c) (256 * t.val + e)) (G := fun e => tot (mG m c) (256 * t.val + e)) (W := wt (mW m c))
    (fun e k => blk0 m c t _) (fun e k => blk2 m c t _) (fun k => blk1 m c t _) y
theorem dw_at (t : Fin cfg0.N) (y : S1x2048.Idx) :
    k0_pay12 (F := Ideal) (iblk m c 0 t) (iblk m c 1 t) (iblk m c 2 t) y = stretch 256 (o1 (mX m c) (wt (mW m c)) (mG m c) (y 1).val) t.val := by
  rw [stretch, ← Fin.sum_univ_eq_sum_range]
  exact pay12_at (iblk m c 0 t) (iblk m c 2 t) (iblk m c 1 t) (X := fun e => tot (mX m c) (256 * t.val + e)) (G := fun e => tot (mG m c) (256 * t.val + e)) (W := wt (mW m c))
    (fun e k => blk0 m c t _) (fun e k => blk2 m c t _) (fun k => blk1 m c t _) y
theorem ls_at (t : Fin cfg0.N) (y : S1x1.Idx) :
    k0_pay10 (F := Ideal) (iblk m c 0 t) (iblk m c 1 t) (iblk m c 2 t) y = hf * stretch 256 (o2 (mX m c) (wt (mW m c)) (mG m c)) t.val := by
  rw [stretch, ← Fin.sum_univ_eq_sum_range]
  exact pay10_at (iblk m c 0 t) (iblk m c 2 t) (iblk m c 1 t) (X := fun e => tot (mX m c) (256 * t.val + e)) (G := fun e => tot (mG m c) (256 * t.val + e)) (W := wt (mW m c))
    (fun e k => blk0 m c t _) (fun e k => blk2 m c t _) (fun k => blk1 m c t _) y

/-- The input's cotangent, at every point. -/
theorem out3 (t : Fin cfg0.N) (y : S256x2048.Idx) : ((outsAt0 m c t.val t.isLt).1 : Vec Ideal S256x2048 .f32) y
    = o0 (mX m c) (wt (mW m c)) (mG m c) (256 * t.val + (y 0).val) (y 1).val := by
  rw [← dx_at m c t]
  have hN : t.val < 32 := lt_of_lt_of_eq t.isLt N_0
  by_cases h0 : t.val % 32 = 0
  · rw [outsAt0_A m c t h0 (by omega)]
    frame_out
  · rw [outsAt0_B m c t h0 (by omega)]
    frame_out

/-- The weight's cotangent and the loss after point `n`: the rows so far. -/
theorem out4 (n : ℕ) (h : n < cfg0.N) (y : S1x2048.Idx) : ((outsAt0 m c n h).2.1 : Vec Ideal S1x2048 .f32) y
    = ∑ r ∈ Finset.range (256 * (n + 1)), o1 (mX m c) (wt (mW m c)) (mG m c) (y 1).val r := by
  have hN : n < 32 := lt_of_lt_of_eq h N_0
  rw [← sum_stretches]
  induction n with
  | zero =>
    rw [outsAt0_A m c ⟨0, h⟩ rfl (by show ¬1 ≤ 0; omega)]
    frame_out
    rw [Nat.mul_zero, Finset.sum_range_zero, zero_add]
    exact dw_at m c ⟨0, h⟩ y
  | succ n ih =>
    rw [outsAt0_B m c ⟨n + 1, h⟩ (by show ¬(n + 1) % 32 = 0; omega) (by show 1 ≤ n + 1; omega)]
    frame_out
    have e : ∀ u v : Vec Ideal S1x2048 .f32, k0_pay3 (F := Ideal) u v y = v y + u y := fun u v => by unfold k0_pay3; pointwise
    refine (e _ _).trans ?_
    rw [dw_at m c ⟨n + 1, h⟩ y, ← sum_stretches, ← ih (Nat.lt_of_succ_lt h) (by omega)]
    rfl
theorem out5 (n : ℕ) (h : n < cfg0.N) (y : S8x128.Idx) : ((outsAt0 m c n h).2.2 : Vec Ideal S8x128 .f32) y
    = hf * ∑ r ∈ Finset.range (256 * (n + 1)), o2 (mX m c) (wt (mW m c)) (mG m c) r := by
  have hN : n < 32 := lt_of_lt_of_eq h N_0
  rw [← sum_stretches, ← hf_add]
  induction n with
  | zero =>
    rw [outsAt0_A m c ⟨0, h⟩ rfl (by show ¬1 ≤ 0; omega)]
    frame_out
    have e : ∀ u : FVec Ideal S1x1 .f32, k0_pay2 (F := Ideal) u y = u (ix2 0 0) := fun u => by unfold k0_pay2; pointwise
    rw [Nat.mul_zero, Finset.sum_range_zero, mul_zero, zero_add]
    exact (e _).trans (ls_at m c ⟨0, h⟩ _)
  | succ n ih =>
    rw [outsAt0_B m c ⟨n + 1, h⟩ (by show ¬(n + 1) % 32 = 0; omega) (by show 1 ≤ n + 1; omega)]
    frame_out
    have e : ∀ (u : FVec Ideal S1x1 .f32) (v : Vec Ideal S8x128 .f32), k0_pay4 (F := Ideal) u v y = v y + u (ix2 0 0) := fun u v => by unfold k0_pay4; pointwise
    refine (e _ _).trans ?_
    rw [ls_at m c ⟨n + 1, h⟩ _, ← sum_stretches, ← hf_add, ← ih (Nat.lt_of_succ_lt h) (by omega)]
    rfl

/-- The three result arrays. -/
theorem fin3 : (dats m 0 c).arrAt 3 cfg0.N
    = (fun i => o0 (mX m c) (wt (mW m c)) (mG m c) (i 0).val (i 1).val : Buf (Elt Ideal) ((c : Thread nD τ).loc main_v1_0)) := by
  refine (dats m 0 c).arrAt_eq_of_cover 3 _ (fun t _ => ?_) fun i => ?_
  · rw [flushed3]
    refine funext fun (y : S256x2048.Idx) => ?_
    rw [View.read_apply]
    have hi := (idx t).2.2.2.1
    refine (out3 m c t y).trans (congrArg₂ _ ?_ ?_)
    · show _ = win0_3.index t 0 * 256 + 1 * (y 0).val; rw [hi.1]; omega
    · show _ = win0_3.index t 1 * 2048 + 1 * (y 1).val; rw [hi.2]; omega
  · have b0 : (i 0).val < 8192 := (i 0).isLt
    have b1 : (i 1).val < 2048 := (i 1).isLt
    let t : Fin cfg0.N := ⟨(i 0).val / 256, lt_of_lt_of_eq (by omega) N_0.symm⟩
    have hi := (idx t).2.2.2.1
    have ht : t.val = (i 0).val / 256 := rfl
    refine ⟨t, flush0_3 t, ?_⟩
    show i ∈ ((View.whole main_v1_0).slice (win0_3.rect t)).set
    rw [View.set_slice_whole, Rect.mem_set_unit]
    intro a
    match a with
    | ⟨0, _⟩ => show win0_3.index t 0 * 256 ≤ (i 0).val ∧ (i 0).val < win0_3.index t 0 * 256 + 256; rw [hi.1, ht]; omega
    | ⟨1, _⟩ => show win0_3.index t 1 * 2048 ≤ (i 1).val ∧ (i 1).val < win0_3.index t 1 * 2048 + 2048; rw [hi.2]; omega
theorem fin4 : (dats m 0 c).arrAt 4 cfg0.N
    = (fun i => o1sum (mX m c) (wt (mW m c)) (mG m c) (i 1).val : Buf (Elt Ideal) ((c : Thread nD τ).loc main_v1_1)) := by
  refine (dats m 0 c).arrAt_eq_of_cover 4 _ (fun t hf => ?_) fun i => ?_
  · rw [flushed4]
    refine funext fun (y : S1x2048.Idx) => ?_
    rw [View.read_apply]
    have hi := (idx t).2.2.2.2.1
    have ht := (flush0_4 t).mp hf
    have hN : t.val < 32 := lt_of_lt_of_eq t.isLt N_0
    have e0 : 256 * (t.val + 1) = 8192 := by omega
    have e1 : (y 1).val = ((((cfg0.win 4).blk t).view.emb y) 1).val := by
      show _ = win0_4.index t 1 * 2048 + 1 * (y 1).val; rw [hi.2]; omega
    exact (out4 m c t.val t.isLt y).trans (o1sum_of (mX m c) (wt (mW m c)) (mG m c) e0 e1)
  · have b0 : (i 0).val < 1 := (i 0).isLt
    have b1 : (i 1).val < 2048 := (i 1).isLt
    let t : Fin cfg0.N := ⟨31, lt_of_lt_of_eq (by omega) N_0.symm⟩
    have hi := (idx t).2.2.2.2.1
    refine ⟨t, (flush0_4 t).mpr rfl, ?_⟩
    show i ∈ ((View.whole main_v1_1).slice (win0_4.rect t)).set
    rw [View.set_slice_whole, Rect.mem_set_unit]
    intro a
    match a with
    | ⟨0, _⟩ => show win0_4.index t 0 * 1 ≤ (i 0).val ∧ (i 0).val < win0_4.index t 0 * 1 + 1; rw [hi.1]; omega
    | ⟨1, _⟩ => show win0_4.index t 1 * 2048 ≤ (i 1).val ∧ (i 1).val < win0_4.index t 1 * 2048 + 2048; rw [hi.2]; omega
theorem fin5 : (dats m 0 c).arrAt 5 cfg0.N
    = (fun _ => o2sum (mX m c) (wt (mW m c)) (mG m c) : Buf (Elt Ideal) ((c : Thread nD τ).loc main_v1_2)) := by
  refine (dats m 0 c).arrAt_eq_of_cover 5 _ (fun t hf => ?_) fun i => ?_
  · rw [flushed5]
    refine funext fun (y : S8x128.Idx) => ?_
    rw [View.read_apply]
    have ht := (flush0_5 t).mp hf
    have hN : t.val < 32 := lt_of_lt_of_eq t.isLt N_0
    have e0 : 256 * (t.val + 1) = 8192 := by omega
    exact (out5 m c t.val t.isLt y).trans (o2sum_of (mX m c) (wt (mW m c)) (mG m c) e0)
  · have b0 : (i 0).val < 8 := (i 0).isLt
    have b1 : (i 1).val < 128 := (i 1).isLt
    let t : Fin cfg0.N := ⟨31, lt_of_lt_of_eq (by omega) N_0.symm⟩
    have hi := (idx t).2.2.2.2.2
    refine ⟨t, (flush0_5 t).mpr rfl, ?_⟩
    show i ∈ ((View.whole main_v1_2).slice (win0_5.rect t)).set
    rw [View.set_slice_whole, Rect.mem_set_unit]
    intro a
    match a with
    | ⟨0, _⟩ => show win0_5.index t 0 * 8 ≤ (i 0).val ∧ (i 0).val < win0_5.index t 0 * 8 + 8; rw [hi.1]; omega
    | ⟨1, _⟩ => show win0_5.index t 1 * 128 ≤ (i 1).val ∧ (i 1).val < win0_5.index t 1 * 128 + 128; rw [hi.2]; omega

end Cert.LossBIdeal.Blk

namespace Cert.LossBProof

open Cert.Prod Cert.NormSpec Cert.LossBSpec Cert.LossBRefIdeal Cert.LossBRefIdeal.Read

/-- The reference terminates, leaves its arguments alone and has no semaphores. -/
theorem frame_ref : Cert.quiescent_LossBRefIdeal (hLossBRefIdeal := Cert.LossBRefIdeal.Gen.facts) := fun m ρ _ =>
  (θ_run Cert.LossBRefIdeal.defs _ _).mono
    (fun r h => ⟨fun c => (h c).2.2.2, sem_eq_zero_of_no_sems rfl r.2⟩) (Cert.LossBRefIdeal.Value.run (F := Ideal) m ρ)

section Ref

variable (x0 : Vec Ideal S8192x2048 .f32) (x1 : Vec Ideal S2048 .f32) (x2 : Vec Ideal S8192x2048 .f32)

/-- The reference's mean square of a row, its error, and what comes to the error. -/
theorem r6 (e : Fin 8192) (z : Fin 1) : val_main_v6 (F := Ideal) x0 (ix2 e z) = ms 2048 cn (tot x0 e.val) := by
  have hX : ∀ k : Fin 2048, x0 (ix2 e k) = tot x0 e.val k.val := fun k => tot_idx _ _ rfl rfl
  unfold val_main_v6 val_main_v5 val_main_v4 val_main_v3 val_main_v2 val_main_v1 val_main_v0 val_main_cst val_main_cst_0 val_main_cst_1 ms cn ep
  pointwise
  simp only [hX]
theorem r16 (e : Fin 8192) (k : Fin 2048) : val_main_v16 (F := Ideal) x0 x1 x2 (ix2 e k) = er (tot x0 e.val) (wt x1) (tot x2 e.val) k.val := by
  have hX : x0 (ix2 e k) = tot x0 e.val k.val := tot_idx _ _ rfl rfl
  have hG : x2 (ix2 e k) = tot x2 e.val k.val := tot_idx _ _ rfl rfl
  have hW : x1 (ix1 k) = wt x1 k.val := wt_in x1 k
  have h6 : ∀ z : Fin 1, val_main_v6 (F := Ideal) x0 (ix2 e z) = ms 2048 cn (tot x0 e.val) := fun z => r6 x0 e z
  unfold val_main_v16 val_main_v15 val_main_v14 val_main_v13 val_main_v12 val_main_v11 val_main_v7 er rs
  pointwise
  simp only [h6, hX, hG, hW]
theorem r30 (e : Fin 8192) (k : Fin 2048) : val_main_v30 (F := Ideal) x0 x1 x2 (ix2 e k) = er (tot x0 e.val) (wt x1) (tot x2 e.val) k.val * iv := by
  rw [← ct_eq, ← r16]
  unfold val_main_v30 val_main_v29 val_main_v28 val_main_v27 val_main_v26 val_main_v25 val_main_v19 val_main_v18 val_main_cst_3 val_main_cst_8 val_main_cst_9 val_main_cst_10
    hf cn tw
  pointwise

/-- The reference's three results. -/
theorem r50 (i : S8192x2048.Idx) : val_main_v50 (F := Ideal) x0 x1 x2 i = o0 x0 (wt x1) x2 (i 0).val (i 1).val := by
  have hy : i = ix2 (i 0) (i 1) := funext fun a => match a with | ⟨0, _⟩ => rfl | ⟨1, _⟩ => rfl
  have hX : ∀ k : Fin 2048, x0 (ix2 (i 0) k) = tot x0 (i 0).val k.val := fun k => tot_idx _ _ rfl rfl
  have hW : ∀ k : Fin 2048, x1 (ix1 k) = wt x1 k.val := fun k => wt_in x1 k
  have e0 : x0 i = tot x0 (i 0).val (i 1).val := tot_idx _ _ rfl rfl
  have e1 : x1 (ix1 (i 1)) = wt x1 (i 1).val := hW _
  have h6 : ∀ z : Fin 1, val_main_v6 (F := Ideal) x0 (ix2 (i 0) z) = ms 2048 cn (tot x0 (i 0).val) := fun z => r6 x0 (i 0) z
  have h30 : ∀ k : Fin 2048, val_main_v30 (F := Ideal) x0 x1 x2 (ix2 (i 0) k) = er (tot x0 (i 0).val) (wt x1) (tot x2 (i 0).val) k.val * iv := fun k => r30 x0 x1 x2 (i 0) k
  have e30 : val_main_v30 (F := Ideal) x0 x1 x2 i = er (tot x0 (i 0).val) (wt x1) (tot x2 (i 0).val) (i 1).val * iv := (congrArg _ hy).trans (h30 _)
  unfold val_main_v50 val_main_v49 val_main_v48 val_main_v47 val_main_v46 val_main_v45 val_main_v44 val_main_v43 val_main_v42 val_main_v41 val_main_v40
    val_main_v39 val_main_v38 val_main_v37 val_main_v35 val_main_v34 val_main_v13 val_main_v10 val_main_v9 val_main_v8 val_main_v7
    val_main_cst_2 val_main_cst_13 val_main_cst_14 val_main_cst_15 o0 dx back rs
  pointwise
  simp only [h6, h30, hX, hW, e0, e1, e30, Fin.sum_univ_one]
  rfl
theorem r51 (i : S1x2048.Idx) : val_main_v51 (F := Ideal) x0 x1 x2 i = o1sum x0 (wt x1) x2 (i 1).val := by
  unfold o1sum
  rw [← Fin.sum_univ_eq_sum_range (fun r => o1 x0 (wt x1) x2 (i 1).val r)]
  unfold val_main_v51 val_main_v36 val_main_v33 val_main_v32 val_main_v31 val_main_v12 val_main_v11 val_main_v7 val_main_cst_11 val_main_cst_12
  pointwise
  refine (Fin.sum_univ_one _).trans (Finset.sum_congr rfl fun e _ => ?_)
  have e1 : val_main_v30 (F := Ideal) x0 x1 x2 (ix2 e (i 1)) = er (tot x0 e.val) (wt x1) (tot x2 e.val) (i 1).val * iv := r30 x0 x1 x2 e (i 1)
  rw [r6, e1]
  exact congrArg (fun u : EReal => u * Ideal.rsqrt (ms 2048 cn (tot x0 e.val)) * _) (tot_idx _ _ rfl rfl)
theorem r22 (e : Fin 8192) : val_main_v22 (F := Ideal) x0 x1 x2 (ix1 e) = o2 x0 (wt x1) x2 e.val := by
  have h16 : ∀ k : Fin 2048, val_main_v16 (F := Ideal) x0 x1 x2 (ix2 e k) = er (tot x0 e.val) (wt x1) (tot x2 e.val) k.val := fun k => r16 x0 x1 x2 e k
  unfold val_main_v22 val_main_v21 val_main_v20 val_main_v17 val_main_cst_4 val_main_cst_5 o2 me cn
  pointwise
  simp only [h16]
theorem r52 (i : S8x128.Idx) : val_main_v52 (F := Ideal) x0 x1 x2 i = o2sum x0 (wt x1) x2 := by
  unfold o2sum
  rw [← Fin.sum_univ_eq_sum_range (fun r => o2 x0 (wt x1) x2 r)]
  unfold val_main_v52 val_main_v24 val_main_v23 val_main_cst_6 val_main_cst_7 hf
  pointwise
  simp only [r22]

end Ref

/-- The call computes the loss and its derivatives. -/
theorem algebraic : Cert.algebraic_LossBIdeal_LossBRefIdeal (hLossBIdeal := Cert.LossBIdeal.Gen.facts)
    (hLossBRefIdeal := Cert.LossBRefIdeal.Gen.facts) := by
  intro m ρ m' ρ' _ hm
  refine ⟨_, _, _, Cert.LossBIdeal.Value.run_blocks m ρ, ?_⟩
  refine (θ_run Cert.LossBRefIdeal.defs _ _).mono (fun r h c => ?_) (Cert.LossBRefIdeal.Value.run (F := Ideal) m' ρ')
  obtain ⟨a0, a1, a2⟩ := hm c
  obtain ⟨h0, h1, h2, hk⟩ := h c
  refine ⟨h0.trans ?_, h1.trans ?_, h2.trans ?_, hk⟩
  · refine ((val_main_v50_eq m' c).trans ?_).trans (Cert.LossBIdeal.Blk.fin3 m c).symm
    rw [a0, a1, a2]; exact funext fun i => r50 _ _ _ i
  · refine ((val_main_v51_eq _ _ _).trans ?_).trans (Cert.LossBIdeal.Blk.fin4 m c).symm
    rw [a0, a1, a2]; exact funext fun i => r51 _ _ _ i
  · refine ((val_main_v52_eq _ _ _).trans ?_).trans (Cert.LossBIdeal.Blk.fin5 m c).symm
    rw [a0, a1, a2]; exact funext fun i => r52 _ _ _ i

end Cert.LossBProof

end
-- ==== Proof.PostY.lean ====
/-
  The normalisation and gate of the recurrence's heads.
-/
module

public import proofs.«01_k».proof.Proof.Gen.PostYIdeal.Value
public import proofs.«01_k».proof.Proof.PostB
public import proofs.«01_k».proof.Defs
public import proofs.«01_k».proof.Proof.Gen.PostYRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.PostYSpec

open Cert.Prod Cert.NormSpec Cert.Silu Cert.PostBSpec

/-- A head's row `O`, normalised with weight `w` and gated by the row `Z`, at a lane. -/
def ny (O Z w : ℕ → EReal) (k : ℕ) : EReal := O k * rs 128 cn O * w k * (Z k * sg (Z k))

/-- The result at row `r` and column `p`. -/
def py (x : (⟨2, ![8192, 1024]⟩ : Shape).Idx → EReal) (z : (⟨2, ![8192, 9216]⟩ : Shape).Idx → EReal) (w : ℕ → EReal) (r p : ℕ) : EReal :=
  ny (rO x r (p / 128)) (rZ z r (p / 128)) w (p % 128)

end Cert.PostYSpec

namespace Cert.PostYIdeal.Blk

open Cert.PostYIdeal Cert.PostYIdeal.Gen Cert.PostYIdeal.Value Cert.Prod Cert.NormSpec Cert.Silu Cert.PostBSpec Cert.PostYSpec

variable (m : (ℓ : Loc nD τ sig) → Buf (Elt Ideal) ℓ) (c : Dev nD)

/-- The arguments: the heads, the projection with the gate, and the weight. -/
abbrev mX : Vec Ideal S8192x1024 .f32 := m ((c.tc : Thread nD τ).loc main_arg0)
abbrev mZ : Vec Ideal S8192x9216 .f32 := m ((c.tc : Thread nD τ).loc main_arg1)
abbrev mW : Vec Ideal S128 .f32 := m ((c.tc : Thread nD τ).loc main_arg2)

/-- The block indices of the windows at a grid point, decided over the grid. -/
theorem idx : ∀ t : Fin grid0.N,
    (win0_0.index t 0 = t.val % 16 ∧ win0_0.index t 1 = t.val / 16) ∧ (win0_1.index t 0 = t.val % 16 ∧ win0_1.index t 1 = 32 + t.val / 16)
    ∧ (win0_2.index t 0 = 0 ∧ win0_2.index t 1 = 0) ∧ (win0_3.index t 0 = t.val % 16 ∧ win0_3.index t 1 = t.val / 16) := by
  decide +kernel

/-- The blocks of the arguments at a point. -/
theorem blk0 (t : Fin cfg0.N) (y : S512x128.Idx) :
    (iblk m c 0 t : Vec Ideal S512x128 .f32) y = rO (mX m c) (512 * (t.val % 16) + (y 0).val) (t.val / 16) (y 1).val := by
  unfold iblk
  rw [View.read_apply]
  have hi := (idx t).1
  refine Eq.trans (b := mX m c (((cfg0.win 0).blk t).view.emb y)) (congrFun (V_main_arg0 m c) _) (tot_idx _ _ ?_ ?_)
  · show win0_0.index t 0 * 512 + 1 * (y 0).val = _; rw [hi.1]; omega
  · show win0_0.index t 1 * 128 + 1 * (y 1).val = _; rw [hi.2]; omega
theorem blk1 (t : Fin cfg0.N) (y : S512x128.Idx) :
    (iblk m c 1 t : Vec Ideal S512x128 .f32) y = rZ (mZ m c) (512 * (t.val % 16) + (y 0).val) (t.val / 16) (y 1).val := by
  unfold iblk
  rw [View.read_apply]
  have hi := (idx t).2.1
  refine Eq.trans (b := mZ m c (((cfg0.win 1).blk t).view.emb y)) (congrFun (V_main_arg1 m c) _) (tot_idx _ _ ?_ ?_)
  · show win0_1.index t 0 * 512 + 1 * (y 0).val = _; rw [hi.1]; omega
  · show win0_1.index t 1 * 128 + 1 * (y 1).val = _; rw [hi.2]; omega

/-- The host lays the weight out as one row. -/
theorem V_w : (V m c main_v0 : Vec Ideal S1x128 .f32) = broadcastInDim S1x128 ![1] bcast_S128_S1x128_1 (mW m c) := by
  unfold V
  after_results_simp <;> rfl
theorem blk2 (t : Fin cfg0.N) (y : S1x128.Idx) : (iblk m c 2 t : Vec Ideal S1x128 .f32) y = wt (mW m c) (y 1).val := by
  unfold iblk
  rw [View.read_apply]
  have hi := (idx t).2.2.1
  have h1 : (y 1).val < 128 := (y 1).isLt
  refine (congrFun (V_w m c) (((cfg0.win 2).blk t).view.emb y)).trans ?_
  unfold wt
  rw [dif_pos h1]
  refine broadcastInDim_apply _ _ _ _ _ (fun a => match a with | ⟨0, _⟩ => ?_)
  show (y 1).val = if (128 : ℕ) = 1 then 0 else win0_2.index t 1 * 128 + 1 * (y 1).val
  rw [if_neg (by decide), hi.2]; omega

/-- What the body leaves, at an entry. -/
theorem out3 (x : Vec Ideal S512x128 .f32) (z : Vec Ideal S512x128 .f32) (w : Vec Ideal S1x128 .f32) (y : S512x128.Idx) {O Z W : ℕ → EReal}
    (hO : ∀ k : Fin 128, x (ix2 (y 0) k) = O k.val) (hZ : ∀ k : Fin 128, z (ix2 (y 0) k) = Z k.val) (hW : ∀ k : Fin 128, w (ix2 0 k) = W k.val) :
    out0_3 (F := Ideal) x z w y = ny O Z W (y 1).val := by
  have hy : y = ix2 (y 0) (y 1) := funext fun a => match a with | ⟨0, _⟩ => rfl | ⟨1, _⟩ => rfl
  have e1 : x y = O (y 1).val := (congrArg x hy).trans (hO _)
  have e2 : z y = Z (y 1).val := (congrArg z hy).trans (hZ _)
  have e3 : w (ix2 0 (y 1)) = W (y 1).val := hW _
  unfold out0_3 ny
  rw [canon3_eq, ← sg_eq]
  pointwise
  simp only [hO, e1, e2, e3]
  rfl

/-- The result array. -/
theorem fin : (dats m 0 c).arrAt 3 cfg0.N
    = (fun i => py (mX m c) (mZ m c) (wt (mW m c)) (i 0).val (i 1).val : Buf (Elt Ideal) ((c : Thread nD τ).loc main_v1)) := by
  refine (dats m 0 c).arrAt_eq_of_cover 3 _ (fun t _ => ?_) fun i => ?_
  · rw [flushed3]
    refine funext fun (y : S512x128.Idx) => ?_
    rw [View.read_apply]
    have hi := (idx t).2.2.2
    have h1 : (y 1).val < 128 := (y 1).isLt
    refine (out3 _ _ _ y (O := rO (mX m c) (512 * (t.val % 16) + (y 0).val) (t.val / 16)) (Z := rZ (mZ m c) (512 * (t.val % 16) + (y 0).val) (t.val / 16))
      (W := wt (mW m c)) (fun k => blk0 m c t _) (fun k => blk1 m c t _) (fun k => blk2 m c t _)).trans ?_
    have e0 : ((((cfg0.win 3).blk t).view.emb y) 0).val = 512 * (t.val % 16) + (y 0).val := by
      show win0_3.index t 0 * 512 + 1 * (y 0).val = _; rw [hi.1]; omega
    have e1 : ((((cfg0.win 3).blk t).view.emb y) 1).val = 128 * (t.val / 16) + (y 1).val := by
      show win0_3.index t 1 * 128 + 1 * (y 1).val = _; rw [hi.2]; omega
    refine Eq.symm ((congrArg₂ (py (mX m c) (mZ m c) (wt (mW m c))) e0 e1).trans ?_)
    unfold py
    rw [show (128 * (t.val / 16) + (y 1).val) / 128 = t.val / 16 by omega, show (128 * (t.val / 16) + (y 1).val) % 128 = (y 1).val by omega]
  · have b0 : (i 0).val < 8192 := (i 0).isLt
    have b1 : (i 1).val < 1024 := (i 1).isLt
    let t : Fin cfg0.N := ⟨16 * ((i 1).val / 128) + (i 0).val / 512, lt_of_lt_of_eq (by omega) N_0.symm⟩
    have hi := (idx t).2.2.2
    have ht : t.val = 16 * ((i 1).val / 128) + (i 0).val / 512 := rfl
    refine ⟨t, flush0_3 t, ?_⟩
    show i ∈ ((View.whole main_v1).slice (win0_3.rect t)).set
    rw [View.set_slice_whole, Rect.mem_set_unit]
    intro a
    match a with
    | ⟨0, _⟩ => show win0_3.index t 0 * 512 ≤ (i 0).val ∧ (i 0).val < win0_3.index t 0 * 512 + 512; rw [hi.1, ht]; omega
    | ⟨1, _⟩ => show win0_3.index t 1 * 128 ≤ (i 1).val ∧ (i 1).val < win0_3.index t 1 * 128 + 128; rw [hi.2, ht]; omega

end Cert.PostYIdeal.Blk

namespace Cert.PostYProof

open Cert.Prod Cert.NormSpec Cert.Silu Cert.PostBSpec Cert.PostYSpec Cert.PostYRefIdeal Cert.PostYRefIdeal.Read

/-- The reference terminates, leaves its arguments alone and has no semaphores. -/
theorem frame_ref : Cert.quiescent_PostYRefIdeal (hPostYRefIdeal := Cert.PostYRefIdeal.Gen.facts) := fun m ρ _ =>
  (θ_run Cert.PostYRefIdeal.defs _ _).mono
    (fun r h => ⟨fun c => (h c).2, sem_eq_zero_of_no_sems rfl r.2⟩) (Cert.PostYRefIdeal.Value.run (F := Ideal) m ρ)

section Ref

variable (x0 : Vec Ideal S8192x1024 .f32) (x1 : Vec Ideal S8192x9216 .f32) (x2 : Vec Ideal S128 .f32)

/-- The heads are split as in the gradient's reference. -/
theorem r0 (i : S8192x8x128.Idx) : val_main_v0 (F := Ideal) x0 i = rO x0 (i 0).val (i 1).val (i 2).val := Cert.PostBProof.r1 x0 i
theorem r2 (i : S8192x8x128.Idx) : val_main_v2 (F := Ideal) x1 i = rZ x1 (i 0).val (i 1).val (i 2).val := Cert.PostBProof.r2 x1 i

/-- The reference's normalised and gated entry by head and lane. -/
theorem r17 (r : Fin 8192) (q : Fin 8) (k : Fin 128) : val_main_v17 (F := Ideal) x0 x1 x2 (ix3 r q k)
    = ny (rO x0 r.val q.val) (rZ x1 r.val q.val) (wt x2) k.val := by
  have hX : ∀ k : Fin 128, val_main_v0 (F := Ideal) x0 (ix3 r q k) = rO x0 r.val q.val k.val := fun k => r0 x0 _
  have hZ : val_main_v2 (F := Ideal) x1 (ix3 r q k) = rZ x1 r.val q.val k.val := r2 x1 _
  have hW : x2 (ix1 k) = wt x2 k.val := wt_in x2 k
  unfold val_main_v17 val_main_v16 val_main_v15 val_main_v14 val_main_v13 val_main_v12 val_main_v11 val_main_v10 val_main_v9 val_main_v8 val_main_v7
    val_main_v6 val_main_v5 val_main_v4 val_main_v3 val_main_cst val_main_cst_0 val_main_cst_1 val_main_call0_v5 val_main_call0_v4 val_main_call0_v3
    val_main_call0_v2 val_main_call0_v1 val_main_call0_v0 val_main_call0_cst val_main_call0_cst_0 ny sg rs ms cn ep
  pointwise
  simp only [hX, hZ, hW]

/-- The reference's result. -/
theorem r19 (i : S8192x1024.Idx) : val_main_v19 (F := Ideal) x0 x1 x2 i = py x0 x1 (wt x2) (i 0).val (i 1).val := by
  have h0 : (i 0).val < 8192 := (i 0).isLt
  have h1 : (i 1).val < 1024 := (i 1).isLt
  refine (val_main_v18_apply x0 x1 x2 i).trans ?_
  refine Eq.trans (congrArg _ (?_ : _ = ix3 (⟨(i 0).val, h0⟩ : Fin 8192) (⟨(i 1).val / 128, by omega⟩ : Fin 8) (⟨(i 1).val % 128, by omega⟩ : Fin 128))) (r17 x0 x1 x2 _ _ _)
  funext a
  match a with
  | ⟨0, _⟩ => refine Fin.ext ?_; show ((i 0).val * 1024 + (i 1).val) / 1024 = (i 0).val; omega
  | ⟨1, _⟩ => refine Fin.ext ?_; show ((i 0).val * 1024 + (i 1).val) / 128 % 8 = (i 1).val / 128; omega
  | ⟨2, _⟩ => refine Fin.ext ?_; show ((i 0).val * 1024 + (i 1).val) % 128 = (i 1).val % 128; omega

end Ref

/-- The call computes the reference's result. -/
theorem algebraic : Cert.algebraic_PostYIdeal_PostYRefIdeal (hPostYIdeal := Cert.PostYIdeal.Gen.facts)
    (hPostYRefIdeal := Cert.PostYRefIdeal.Gen.facts) := by
  intro m ρ m' ρ' _ hm
  refine ⟨_, Cert.PostYIdeal.Value.run_blocks m ρ, ?_⟩
  refine (θ_run Cert.PostYRefIdeal.defs _ _).mono (fun r h c => ?_) (Cert.PostYRefIdeal.Value.run (F := Ideal) m' ρ')
  obtain ⟨a0, a1, a2⟩ := hm c
  obtain ⟨h0, hk⟩ := h c
  refine ⟨h0.trans ?_, hk⟩
  refine ((val_main_v19_eq _ _ _).trans ?_).trans (Cert.PostYIdeal.Blk.fin m c).symm
  rw [a0, a1, a2]; exact funext fun i => r19 _ _ _ i

end Cert.PostYProof

end
-- ==== Proof.PreY.lean ====
/-
  The heads' preparation: the causal convolution, the gate, and in the first two thirds the division by the length.
-/
module

public import proofs.«01_k».proof.Proof.Gen.PreYIdeal.Value
public import proofs.«01_k».proof.Proof.PrePay
public import proofs.«01_k».proof.Proof.PreRef
public import proofs.«01_k».proof.Defs
public import proofs.«01_k».proof.Proof.Gen.PreYRefIdeal.Read
public import Idealize.ShloMosaic.Lib.Quiescent
public import Idealize.ShloMosaic.Lib.WritesUnit
public import Idealize.ShloMosaic.Lib.Tactic

@[expose] public section

noncomputable section

open Idealize.ShloMosaic Idealize.ShloMosaic.TcCoe Idealize.SL.Sem

namespace Cert.PreYSpec

open Cert.PreSpec

/-- A head's entry divided by the head's length. -/
def un (X : Fin 128 → EReal) (l : Fin 128) : EReal := us X l * Ideal.rsqrt (hs X)

/-- Entry `l` of head `j`, from the head's convolution outputs. -/
def yh (j : Fin 24) (X : Fin 128 → EReal) (l : Fin 128) : EReal := if j.val < 8 then un X l * kq else if j.val < 16 then un X l else us X l

/-- The result. -/
def ph (x : Proj) (w : Taps) (j : Fin 24) (l : Fin 128) (r : ℕ) : EReal := yh j (fun k => cv x w (hc j k) r) l
def py (x : Proj) (w : Taps) (i : (⟨2, ![8192, 3072]⟩ : Shape).Idx) : EReal := ph x w (jh (i 1)) (lh (i 1)) (i 0).val
theorem py_at (x : Proj) (w : Taps) (j : Fin 24) (l : Fin 128) (r : ℕ) (i : (⟨2, ![8192, 3072]⟩ : Shape).Idx) (h0 : (i 0).val = r)
    (h1 : (i 1).val = 128 * j.val + l.val) : py x w i = ph x w j l r := by
  unfold py
  rw [h0, show jh (i 1) = j from Fin.ext (by show (i 1).val / 128 = j.val; omega),
    show lh (i 1) = l from Fin.ext (by show (i 1).val % 128 = l.val; omega)]

end Cert.PreYSpec

namespace Cert.PreYIdeal.Blk

open Cert.PreYIdeal Cert.PreYIdeal.Gen Cert.PreYIdeal.Value Cert.PreSpec Cert.PreYSpec
open Cert.PreBIdeal.Blk (firstB sel_zero shift1024 row1024 tapRow3 tapRow2 tapRow1 tapRow0 cvl)

/-- The input blocks of a point: `f l n` is a column of the projection, row `n` counted from three rows above the block. -/
structure Holds (i : grid0.Coords) (x0 : Vec Ideal S1024x128 .f32) (x1 : Vec Ideal S8x128 .f32) (f : Fin 128 → ℕ → EReal) : Prop where
  rows : ∀ (e : Fin 1024) (l : Fin 128), x0 (ix2 e l) = f l (e.val + 3)
  prev : ∀ (e : Fin 8) (l : Fin 128), 5 ≤ e.val → k0_pay5 (F := Ideal) i x1 (ix2 e l) = f l (e.val - 5)

/-- The convolution over the block. -/
abbrev kC (i : grid0.Coords) (x0 : Vec Ideal S1024x128 .f32) (x1 : Vec Ideal S8x128 .f32) (x2 : Vec Ideal S4x128 .f32) : FVec Ideal S1024x128 .f32 :=
  k0_pay1 (k0_pay5 i x1) (k0_pay6 i x0 x1 (tapRow3 x2) (tapRow2 x2) (tapRow1 x2)) (tapRow0 x2) (k0_pay7 x0) (iota .tc S8x128 32 [0] iota_S8x128_d0_w32)

section Read

variable {i : grid0.Coords} {x0 : Vec Ideal S1024x128 .f32} {x1 : Vec Ideal S8x128 .f32} {f : Fin 128 → ℕ → EReal} (h : Holds i x0 x1 f)
  (x2 : Vec Ideal S4x128 .f32)

include h in
theorem kC_apply (e : Fin 1024) (l : Fin 128) : kC i x0 x1 x2 (ix2 e l) = cvl x2 f l e.val := by
  have h1 := shift1024 (k := 1) (by omega) x0 (k0_pay5 i x1) f h.rows h.prev e l
  have h2 := shift1024 (k := 2) (by omega) x0 (k0_pay5 i x1) f h.rows h.prev e l
  have h3 := shift1024 (k := 3) (by omega) x0 (k0_pay5 i x1) f h.rows h.prev e l
  rw [show e.val + 3 - 1 = e.val + 2 from rfl] at h1
  rw [show e.val + 3 - 2 = e.val + 1 from rfl] at h2
  rw [show e.val + 3 - 3 = e.val from rfl] at h3
  unfold cvl
  rw [← row1024 (tapRow3 x2) e l, ← row1024 (tapRow2 x2) e l, ← row1024 (tapRow1 x2) e l, ← row1024 (tapRow0 x2) e l, ← h.rows e l, ← h1, ← h2, ← h3]
  rfl

/-- The three kinds of result, from a row of the convolution. -/
theorem pay4_apply (a : FVec Ideal S8x128 .f32) (b d : FVec Ideal S1024x128 .f32) (w : Vec Ideal S1x128 .f32) (n : IVec S8x128 32) (e : Fin 1024)
    {X : Fin 128 → EReal} (hX : ∀ l : Fin 128, k0_pay1 (F := Ideal) a b w d n (ix2 e l) = X l) (l : Fin 128) :
    k0_pay4 (F := Ideal) a b w d n (ix2 e l) = us X l := by
  unfold us
  rw [← Cert.Silu.sg_eq]
  unfold k0_pay4
  pointwise
  simp only [hX]
theorem pay3_apply (a : FVec Ideal S8x128 .f32) (b d : FVec Ideal S1024x128 .f32) (w : Vec Ideal S1x128 .f32) (n : IVec S8x128 32) (e : Fin 1024)
    {X : Fin 128 → EReal} (hX : ∀ l : Fin 128, k0_pay1 (F := Ideal) a b w d n (ix2 e l) = X l) (l : Fin 128) :
    k0_pay3 (F := Ideal) a b w d n (ix2 e l) = un X l := by
  unfold un hs us Cert.NormSpec.ep
  simp only [← Cert.Silu.sg_eq]
  unfold k0_pay3
  pointwise
  simp only [hX]
theorem pay2_apply (a : FVec Ideal S8x128 .f32) (b d : FVec Ideal S1024x128 .f32) (w : Vec Ideal S1x128 .f32) (n : IVec S8x128 32) (e : Fin 1024)
    {X : Fin 128 → EReal} (hX : ∀ l : Fin 128, k0_pay1 (F := Ideal) a b w d n (ix2 e l) = X l) (l : Fin 128) :
    k0_pay2 (F := Ideal) a b w d n (ix2 e l) = un X l * kq := by
  rw [← pay3_apply a b d w n e hX l]
  rfl

end Read

theorem hz : (![0, 0] : Fin 2 → ℕ) = fun _ => 0 := funext fun a => by fin_cases a <;> rfl

section Cases

variable {i : grid0.Coords} {x0 : Vec Ideal S1024x128 .f32} {x1 : Vec Ideal S8x128 .f32} {x2 : Vec Ideal S4x128 .f32} {X : Fin 128 → EReal} (e : Fin 1024)
  (hX : ∀ l : Fin 128, kC i x0 x1 x2 (ix2 e l) = X l) (l : Fin 128)
  (c : Dev nD)
  (a2 : Memref sig .tc .vmem S1024x128 .f32) (h2 : a2.IsWhole)
  (a3 : Memref sig .tc .vmem S8x128 .f32) (h3 : a3.IsWhole)
  (a4 : Memref sig .tc .vmem S4x128 .f32) (h4 : a4.IsWhole)
  (a5 : Memref sig .tc .vmem S1024x128 .f32) (h5 : a5.IsWhole)

include hX

/-- A point of the first, of the second and of the last third. -/
theorem case_A (c0 : cond0_0 i) (c1 : ¬cond0_1 i) (c2 : ¬cond0_2 i) :
    out0_A_3 c i a2 h2 a3 h3 a4 h4 a5 h5 c0 c1 c2 x0 x1 x2 (ix2 e l) = un X l * kq := by
  unfold out0_A_3
  rw [View.read_writes_eq_canon _ _ _ (cover0_A_3 c i a2 h2 a3 h3 a4 h4 a5 h5 c0 c1 c2 x0 x1 x2)]
  unfold kernelRun0_A
  dsimp only
  sl_unfold_words
  simp only [View.readAt_eq_ld, h2.read_unread, h3.read_unread, h4.read_unread, View.ld_unit_zero (S := S1024x128) hz, View.ld_unit_zero (S := S8x128) hz, View.canon_unit_zero (S := S1024x128) hz]
  exact pay2_apply _ _ _ _ _ e hX l
theorem case_B (c0 : ¬cond0_0 i) (c1 : cond0_1 i) (c2 : ¬cond0_2 i) :
    out0_B_3 c i a2 h2 a3 h3 a4 h4 a5 h5 c0 c1 c2 x0 x1 x2 (ix2 e l) = un X l := by
  unfold out0_B_3
  rw [View.read_writes_eq_canon _ _ _ (cover0_B_3 c i a2 h2 a3 h3 a4 h4 a5 h5 c0 c1 c2 x0 x1 x2)]
  unfold kernelRun0_B
  dsimp only
  sl_unfold_words
  simp only [View.readAt_eq_ld, h2.read_unread, h3.read_unread, h4.read_unread, View.ld_unit_zero (S := S1024x128) hz, View.ld_unit_zero (S := S8x128) hz, View.canon_unit_zero (S := S1024x128) hz]
  exact pay3_apply _ _ _ _ _ e hX l
theorem case_C (c0 : ¬cond0_0 i) (c1 : ¬cond0_1 i) (c2 : cond0_2 i) :
    out0_C_3 c i a2 h2 a3 h3 a4 h4 a5 h5 c0 c1 c2 x0 x1 x2 (ix2 e l) = us X l := by
  unfold out0_C_3
  rw [View.read_writes_eq_canon _ _ _ (cover0_C_3 c i a2 h2 a3 h3 a4 h4 a5 h5 c0 c1 c2 x0 x1 x2)]
  unfold kernelRun0_C
  dsimp only
  sl_unfold_words
  simp only [View.readAt_eq_ld, h2.read_unread, h3.read_unread, h4.read_unread, View.ld_unit_zero (S := S1024x128) hz, View.ld_unit_zero (S := S8x128) hz, View.canon_unit_zero (S := S1024x128) hz]
  exact pay4_apply _ _ _ _ _ e hX l

end Cases

variable (m : (ℓ : Loc nD τ sig) → Buf (Elt Ideal) ℓ) (c : Dev nD)

/-- The two arguments of a device. -/
abbrev mP : Proj := m ((c.tc : Thread nD τ).loc main_arg0)
abbrev mW : Taps := m ((c.tc : Thread nD τ).loc main_arg1)

/-- The block indices of the windows at a grid point, and the test on the second coordinate, decided over the grid. -/
theorem idx : ∀ t : Fin grid0.N,
    (win0_0.index t 0 = t.val % 8 ∧ win0_0.index t 1 = t.val / 8 + 8)
    ∧ (win0_1.index t 0 = t.val % 8 * 128 - 1 ∧ win0_1.index t 1 = t.val / 8 + 8)
    ∧ (win0_2.index t 0 = 0 ∧ win0_2.index t 1 = t.val / 8) ∧ (win0_3.index t 0 = t.val % 8 ∧ win0_3.index t 1 = t.val / 8)
    ∧ Scalar.cmpi .eq (BitVec.ofNat 32 (grid0.coords t 1).val) 0#32 = (if t.val % 8 = 0 then 1#1 else 0#1) := by
  decide +kernel

section Reads

variable (t : Fin cfg0.N)

/-- The input windows at a point. -/
theorem blk0 (e : Fin 1024) (l : Fin 128) (r : Fin 8192) (q : Fin 9216) (hr : r.val = 1024 * (t.val % 8) + e.val) (hq : q.val = 128 * (t.val / 8 + 8) + l.val) :
    (iblk m c 0 t : Vec Ideal S1024x128 .f32) (ix2 e l) = mP m c (ix2 r q) := by
  unfold iblk
  rw [View.read_apply]
  show V m c main_arg0 _ = _
  unfold V
  refine congrArg (m _) (funext fun a => Fin.ext ?_)
  have hi := (idx t).1
  match a with
  | ⟨0, _⟩ => show win0_0.index t 0 * 1024 + 1 * e.val = r.val; rw [hi.1]; omega
  | ⟨1, _⟩ => show win0_0.index t 1 * 128 + 1 * l.val = q.val; rw [hi.2]; omega
theorem blk1 (e : Fin 8) (l : Fin 128) (r : Fin 8192) (q : Fin 9216) (hr : r.val = 8 * (t.val % 8 * 128 - 1) + e.val) (hq : q.val = 128 * (t.val / 8 + 8) + l.val) :
    (iblk m c 1 t : Vec Ideal S8x128 .f32) (ix2 e l) = mP m c (ix2 r q) := by
  unfold iblk
  rw [View.read_apply]
  show V m c main_arg0 _ = _
  unfold V
  refine congrArg (m _) (funext fun a => Fin.ext ?_)
  have hi := (idx t).2.1
  match a with
  | ⟨0, _⟩ => show win0_1.index t 0 * 8 + 1 * e.val = r.val; rw [hi.1]; omega
  | ⟨1, _⟩ => show win0_1.index t 1 * 128 + 1 * l.val = q.val; rw [hi.2]; omega
theorem blk2 (e : Fin 4) (l : Fin 128) (q : Fin 3072) (hq : q.val = 128 * (t.val / 8) + l.val) :
    (iblk m c 2 t : Vec Ideal S4x128 .f32) (ix2 e l) = mW m c (ix2 e q) := by
  unfold iblk
  rw [View.read_apply]
  show V m c main_arg1 _ = _
  unfold V
  refine congrArg (m _) (funext fun a => Fin.ext ?_)
  have hi := (idx t).2.2.1
  match a with
  | ⟨0, _⟩ => show win0_2.index t 0 * 4 + 1 * e.val = e.val; rw [hi.1]; omega
  | ⟨1, _⟩ => show win0_2.index t 1 * 128 + 1 * l.val = q.val; rw [hi.2]; omega

theorem lt_N : t.val < 192 := lt_of_lt_of_eq t.isLt N_0

/-- The head of a point, and its first row. -/
def jt : Fin 24 := ⟨t.val / 8, by have h := lt_N t; omega⟩
abbrev ot : ℕ := 1024 * (t.val % 8)

/-- The projection's blocks at a point hold its columns from the point's first row on. -/
theorem holds : Holds (grid0.coords t) (iblk m c 0 t) (iblk m c 1 t) (fun l n => xs (mP m c) (hc (jt t) l) (ot t + n)) := by
  have hN := lt_N t
  have ho : ot t = 1024 * (t.val % 8) := rfl
  have hj : ∀ l : Fin 128, (hc (jt t) l).val = 128 * (t.val / 8) + l.val := fun _ => rfl
  refine ⟨fun e l => ?_, fun e l h5 => ?_⟩
  · have he := e.isLt
    have := hj l
    exact (blk0 m c t e l ⟨ot t + e.val, by omega⟩ ⟨1024 + (hc (jt t) l).val, by omega⟩ rfl (by dsimp only; omega)).trans
      (xs_in _ _ _ _ _ rfl rfl).symm
  · have he := e.isLt
    have := hj l
    refine (sel_zero (Scalar.cmpi .eq (BitVec.ofNat 32 (grid0.coords t 1).val) 0#32) _ _).trans ?_
    rw [(idx t).2.2.2.2]
    by_cases h : t.val % 8 = 0
    · rw [if_pos h]
      exact (xs_out _ _ _ (by omega)).symm
    · rw [if_neg h]
      exact (blk1 m c t e l ⟨ot t + e.val - 8, by omega⟩ ⟨1024 + (hc (jt t) l).val, by omega⟩ (by dsimp only; omega) (by dsimp only; omega)).trans
        (xs_in _ _ _ _ _ (by dsimp only; omega) rfl).symm

/-- The taps of a point's columns, and the convolution there. -/
theorem tap_row (k : Fin 4) (inb) (l : Fin 128) : View.ld (iblk m c 2 t : Vec Ideal S4x128 .f32) (Rect.unit ![k.val, 0] ![1, 128] inb) (ix2 (0 : Fin 1) l)
    = mW m c (ix2 k (hc (jt t) l)) := by
  refine Eq.trans (congrArg (iblk m c 2 t : Vec Ideal S4x128 .f32) (funext fun a => Fin.ext ?_)) (blk2 m c t k l (hc (jt t) l) rfl)
  match a with
  | ⟨0, _⟩ => rfl
  | ⟨1, _⟩ => show 0 + 1 * l.val = l.val; omega
theorem kC_eq (e : Fin 1024) (l : Fin 128) : kC (grid0.coords t) (iblk m c 0 t) (iblk m c 1 t) (iblk m c 2 t) (ix2 e l)
    = cv (mP m c) (mW m c) (hc (jt t) l) (ot t + e.val) := by
  refine (kC_apply (holds m c t) (iblk m c 2 t) e l).trans ?_
  unfold cvl cv
  rw [← tap_row m c t 3 inb_S4x128_S1x128_3_0 l, ← tap_row m c t 2 inb_S4x128_S1x128_2_0 l, ← tap_row m c t 1 inb_S4x128_S1x128_1_0 l,
    ← tap_row m c t 0 inb_S4x128_S1x128_0_0 l]
  rfl

/-- What a point leaves in its output block. -/
theorem out3 (e : Fin 1024) (l : Fin 128) : (outsAt0 m c t.val t.isLt : Vec Ideal S1024x128 .f32) (ix2 e l) = ph (mP m c) (mW m c) (jt t) l (ot t + e.val) := by
  have hN := lt_N t
  have hX := kC_eq m c t e
  have hj : (jt t).val = t.val / 8 := rfl
  unfold ph yh
  by_cases h0 : t.val < 64
  · rw [outsAt0_A m c t h0 (by omega) (by omega), if_pos (by omega)]
    exact case_A e hX l c _ _ _ _ _ _ _ _ _ _ _
  · by_cases h2 : 128 ≤ t.val
    · rw [outsAt0_C m c t h0 (by omega) h2, if_neg (by omega), if_neg (by omega)]
      exact case_C e hX l c _ _ _ _ _ _ _ _ _ _ _
    · rw [outsAt0_B m c t h0 (by omega) h2, if_neg (by omega), if_pos (by omega)]
      exact case_B e hX l c _ _ _ _ _ _ _ _ _ _ _

end Reads

/-- The result array. -/
theorem fin : (dats m 0 c).arrAt 3 cfg0.N = (fun i => py (mP m c) (mW m c) i : Buf (Elt Ideal) ((c : Thread nD τ).loc main_v0)) := by
  refine (dats m 0 c).arrAt_eq_of_cover 3 _ (fun t _ => ?_) fun i => ?_
  · rw [flushed3]
    refine funext fun (j : S1024x128.Idx) => ?_
    rw [View.read_apply]
    have hi := (idx t).2.2.2.1
    have hj : j = ix2 (j 0) (j 1) := funext fun a => match a with | ⟨0, _⟩ => rfl | ⟨1, _⟩ => rfl
    refine (congrArg (outsAt0 m c t.val t.isLt : Vec Ideal S1024x128 .f32) hj).trans ((out3 m c t (j 0) (j 1)).trans ?_)
    refine (py_at _ _ _ _ _ _ ?_ ?_).symm
    · show win0_3.index t 0 * 1024 + 1 * (j 0).val = 1024 * (t.val % 8) + (j 0).val; rw [hi.1]; omega
    · show win0_3.index t 1 * 128 + 1 * (j 1).val = 128 * (t.val / 8) + (j 1).val; rw [hi.2]; omega
  · have b0 : (i 0).val < 8192 := (i 0).isLt
    have b1 : (i 1).val < 3072 := (i 1).isLt
    let t : Fin cfg0.N := ⟨(i 1).val / 128 * 8 + (i 0).val / 1024, lt_of_lt_of_eq (by omega) N_0.symm⟩
    have hi := (idx t).2.2.2.1
    have ht : t.val = (i 1).val / 128 * 8 + (i 0).val / 1024 := rfl
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [hi.1, ht]; omega
    | ⟨1, _⟩ => show win0_3.index t 1 * 128 ≤ (i 1).val ∧ (i 1).val < win0_3.index t 1 * 128 + 128; rw [hi.2, ht]; omega

end Cert.PreYIdeal.Blk

namespace Cert.PreYProof

open Cert.PreSpec Cert.PreYSpec Cert.NormSpec Cert.PreYRefIdeal Cert.PreYRefIdeal.Read
open Cert.PreBRefIdeal.RefRead (jq jk uq uk ru)

/-- The reference terminates, leaves its arguments alone and has no semaphores. -/
theorem frame_ref : Cert.quiescent_PreYRefIdeal (hPreYRefIdeal := Cert.PreYRefIdeal.Gen.facts) := fun m ρ _ =>
  (θ_run Cert.PreYRefIdeal.defs _ _).mono
    (fun r h => ⟨fun c => (h c).2, sem_eq_zero_of_no_sems rfl r.2⟩) (Cert.PreYRefIdeal.Value.run (F := Ideal) m ρ)

section Ref

variable (x0 : Proj) (x1 : Taps)

/-- The gated columns are those of the gradient's reference, and so are their heads. -/
theorem r30 (i : S8192x3072.Idx) : val_main_v30 (F := Ideal) x0 x1 i = Cert.PreBRefIdeal.Read.val_main_v31_0 (F := Ideal) x0 x1 i := rfl
theorem r34 (r : Fin 8192) (h : Fin 8) (l : Fin 128) : val_main_v34 (F := Ideal) x0 x1 (ix3 r h l) = us (fun k => cv x0 x1 (hc (jq h) k) r.val) l := uq x0 x1 r h l
theorem r45 (r : Fin 8192) (h : Fin 8) (l : Fin 128) : val_main_v45 (F := Ideal) x0 x1 (ix3 r h l) = us (fun k => cv x0 x1 (hc (jk h) k) r.val) l := uk x0 x1 r h l

/-- The heads of the first two thirds divided by their lengths. -/
theorem r44 (r : Fin 8192) (h : Fin 8) (l : Fin 128) : val_main_v44 (F := Ideal) x0 x1 (ix3 r h l)
    = un (fun k => cv x0 x1 (hc (jq h) k) r.val) l * kq := by
  have hX : ∀ k, _ := fun k => r34 x0 x1 r h k
  unfold val_main_v44 val_main_v43 val_main_v42 val_main_v41 val_main_v40 val_main_v39 val_main_v38 val_main_v37 val_main_v36 val_main_v35
    val_main_cst_0 val_main_cst_1 val_main_cst_2 un hs ep kq
  pointwise
  simp only [hX]
theorem r53 (r : Fin 8192) (h : Fin 8) (l : Fin 128) : val_main_v53 (F := Ideal) x0 x1 (ix3 r h l)
    = un (fun k => cv x0 x1 (hc (jk h) k) r.val) l := by
  have hX : ∀ k, _ := fun k => r45 x0 x1 r h k
  unfold val_main_v53 val_main_v52 val_main_v51 val_main_v50 val_main_v49 val_main_v48 val_main_v47 val_main_v46 val_main_cst_3 val_main_cst_4 un hs ep
  pointwise
  simp only [hX]
theorem r57 (j : Fin 24) (hj : 16 ≤ j.val) (r : Fin 8192) (l : Fin 128) (p : Fin 1024) (hp : p.val + 2048 = 128 * j.val + l.val) :
    val_main_v57 (F := Ideal) x0 x1 (ix2 r p) = us (fun k => cv x0 x1 (hc j k) r.val) l := by
  rw [val_main_v57_apply, val_main_v54_apply, val_main_v33_apply, r30]
  have hr := r.isLt
  have hq := p.isLt
  refine ru x0 x1 j r l _ ?_ ?_
  · show (((r.val * 1024 + p.val) / 1024 * 8 + (r.val * 1024 + p.val) / 128 % 8) * 128 + (r.val * 1024 + p.val) % 128) / 1024 = r.val; omega
  · show 2048 + (((r.val * 1024 + p.val) / 1024 * 8 + (r.val * 1024 + p.val) / 128 % 8) * 128 + (r.val * 1024 + p.val) % 128) % 1024 = 128 * j.val + l.val; omega

/-- Column `128 h + l` of a third, as an index by head and lane. -/
theorem r55 (r : Fin 8192) (h : Fin 8) (l : Fin 128) (p : Fin 1024) (hp : p.val = 128 * h.val + l.val) :
    (idx_main_v55 (ix2 r p) : S8192x8x128.Idx) = ix3 r h l := Cert.PreBRefIdeal.RefRead.r78 r h l p hp

/-- The reference's result. -/
theorem r58 (j : Fin 24) (r : Fin 8192) (l : Fin 128) : val_main_v58 (F := Ideal) x0 x1 (ix2 r (hc j l)) = ph x0 x1 j l r.val := by
  have hv : (hc j l).val = 128 * j.val + l.val := rfl
  unfold val_main_v58 ph yh
  pointwise
  by_cases h8 : j.val < 8
  · rw [dif_pos (by omega), if_pos h8, val_main_v55_apply]
    exact (congrArg _ (r55 r (⟨j.val, h8⟩ : Fin 8) l _ hv)).trans (r44 x0 x1 r ⟨j.val, h8⟩ l)
  · rw [dif_neg (by omega), if_neg h8]
    by_cases h16 : j.val < 16
    · rw [dif_pos (by omega), if_pos h16, val_main_v56_apply]
      have hj : jk (⟨j.val - 8, by omega⟩ : Fin 8) = j := Fin.ext (by show 8 + (j.val - 8) = j.val; omega)
      refine (congrArg _ (r55 r (⟨j.val - 8, by omega⟩ : Fin 8) l _ (by show (hc j l).val - 1024 = 128 * (j.val - 8) + l.val; omega))).trans ?_
      exact (r53 x0 x1 r ⟨j.val - 8, by omega⟩ l).trans (by rw [hj])
    · rw [dif_neg (by omega), if_neg h16]
      exact r57 x0 x1 j (by omega) r l _ (by show (hc j l).val - 1024 - 1024 + 2048 = _; omega)
theorem res (i : S8192x3072.Idx) : val_main_v58 (F := Ideal) x0 x1 i = py x0 x1 i := by
  refine Eq.trans (congrArg _ (?_ : i = ix2 (i 0) (hc (jh (i 1)) (lh (i 1))))) (r58 x0 x1 _ (i 0) _)
  exact funext fun a => match a with | ⟨0, _⟩ => rfl | ⟨1, _⟩ => (hc_jh (i 1)).symm

end Ref

/-- The call computes the reference's result. -/
theorem algebraic : Cert.algebraic_PreYIdeal_PreYRefIdeal (hPreYIdeal := Cert.PreYIdeal.Gen.facts)
    (hPreYRefIdeal := Cert.PreYRefIdeal.Gen.facts) := by
  intro m ρ m' ρ' _ hm
  refine ⟨_, Cert.PreYIdeal.Value.run_blocks m ρ, ?_⟩
  refine (θ_run Cert.PreYRefIdeal.defs _ _).mono (fun r h c => ?_) (Cert.PreYRefIdeal.Value.run (F := Ideal) m' ρ')
  obtain ⟨a0, a1⟩ := hm c
  obtain ⟨h0, hk⟩ := h c
  refine ⟨h0.trans ?_, hk⟩
  refine ((val_main_v58_eq m' c).trans ?_).trans (Cert.PreYIdeal.Blk.fin m c).symm
  rw [a0, a1]; exact funext fun i => res _ _ i

end Cert.PreYProof

end
-- ==== Proof.AdamSpec.lean ====
/-
  The optimiser's step for one entry of a weight, and the reads of a block of stacked parts.
-/
module

public import Idealize.ShloMosaic.Lib.Pointwise
public import Idealize.ShloMosaic.Lib.Pipeline.ValueKit
public import Idealize.ShloMosaic.Lib.WritesUnit
public import Idealize.ShloMosaic.Lib.ValueIdx

@[expose] public section

noncomputable section

namespace Cert.AdamSpec

open Idealize.ShloMosaic

/-- The new first and second moments, and the change of the weight. -/
def nm (g m : EReal) : EReal := Ideal.ofBits .f32 0x3F666666#32 * m + Ideal.ofBits .f32 0x3DCCCCCD#32 * g
def nv (g v : EReal) : EReal := Ideal.ofBits .f32 0x3F7FBE77#32 * v + Ideal.ofBits .f32 0x3A83126F#32 * (g * g)
def dl (g w m v : EReal) : EReal := Ideal.ofBits .f32 0xBA83126F#32 * (Ideal.div (Ideal.div (nm g m) (Ideal.ofBits .f32 0x3F26BD02#32))
  (Ideal.sqrt (Ideal.div (nv g v) (Ideal.ofBits .f32 0x3C231ACC#32)) + Ideal.ofBits .f32 0x322BCC77#32) + Ideal.ofBits .f32 0x3C23D70A#32 * w)

/-- The sum of the four parts of an entry. -/
def gs {n k : ℕ} (x : (⟨3, ![4, n, k]⟩ : Shape).Idx → EReal) (e : Fin n) (l : Fin k) : EReal := x (ix3 0 e l) + x (ix3 1 e l) + x (ix3 2 e l) + x (ix3 3 e l)

/-- Part `s` of a block of `p` stacked parts, as a plane. -/
theorem part {p n k : ℕ} {ty : EltTy} (x : Vec Ideal (⟨3, ![p, n, k]⟩ : Shape) ty) (s : Fin p) (inb) (hc : (⟨3, ![1, n, k]⟩ : Shape).ShapeCasts ⟨2, ![n, k]⟩) (e : Fin n) (l : Fin k) :
    shapeCast (⟨2, ![n, k]⟩ : Shape) (View.ld x (Rect.unit (s := ⟨3, ![p, n, k]⟩) ![s.val, 0, 0] ![1, n, k] inb)) hc (ix2 e l) = x (ix3 s e l) := by
  refine (shapeCast_apply _ hc (ix2 e l) (ix3 (0 : Fin 1) e l) ?_).trans (congrArg x (funext fun a => Fin.ext ?_))
  · rw [Shape.rowMajor_val_three, Shape.rowMajor_val_two]
    show (0 * n + e.val) * k + l.val = e.val * k + l.val
    rw [Nat.zero_mul, Nat.zero_add]
  · match a with
    | ⟨0, _⟩ => rfl
    | ⟨1, _⟩ => show 0 + 1 * e.val = e.val; omega
    | ⟨2, _⟩ => show 0 + 1 * l.val = l.val; omega

/-- Blocks of `t` whole rows, one after another, reach every entry of `R` rows. -/
theorem rows_cover {N R t k : ℕ} (x : Fin N → Fin 2 → ℕ) (hN : N * t = R) (hx : ∀ u : Fin N, x u 0 = u.val ∧ x u 1 = 0)
    (i : (⟨2, ![R, k]⟩ : Shape).Idx) : ∃ u : Fin N, ∀ a : Fin 2, x u a * ![t, k] a ≤ (i a).val ∧ (i a).val < x u a * ![t, k] a + ![t, k] a := by
  have b0 : (i 0).val < N * t := lt_of_lt_of_eq (i 0).isLt hN.symm
  have ht : 0 < t := Nat.pos_of_ne_zero fun h => by subst h; simp at b0
  refine ⟨⟨(i 0).val / t, Nat.div_lt_of_lt_mul (lt_of_lt_of_eq b0 (Nat.mul_comm N t))⟩, fun a => ?_⟩
  match a with
  | ⟨0, _⟩ =>
    show x _ 0 * t ≤ (i 0).val ∧ (i 0).val < x _ 0 * t + t
    rw [(hx _).1]
    exact ⟨Nat.div_mul_le_self _ _, Nat.lt_div_mul_add ht⟩
  | ⟨1, _⟩ =>
    show x _ 1 * k ≤ (i 1).val ∧ (i 1).val < x _ 1 * k + k
    rw [(hx _).2, Nat.zero_mul, Nat.zero_add]
    exact ⟨Nat.zero_le _, (i 1).isLt⟩

/-- `g`, `d`, `a`, `b` are the gradient, the change and the new moments that parts `x`, weight `w` and moments `m`, `v` give. -/
def Step {n k : ℕ} (x : Vec Ideal (⟨3, ![4, n, k]⟩ : Shape) .bf16) (w m v g d a b : Vec Ideal (⟨2, ![n, k]⟩ : Shape) .f32) : Prop :=
  ∀ (e : Fin n) (l : Fin k), g (ix2 e l) = gs x e l ∧ d (ix2 e l) = dl (gs x e l) (w (ix2 e l)) (m (ix2 e l)) (v (ix2 e l))
    ∧ a (ix2 e l) = nm (gs x e l) (m (ix2 e l)) ∧ b (ix2 e l) = nv (gs x e l) (v (ix2 e l))

theorem eta {n k : ℕ} (j : (⟨2, ![n, k]⟩ : Shape).Idx) : ∃ (e : Fin n) (l : Fin k), j = ix2 e l :=
  ⟨j 0, j 1, funext fun a => match a with | ⟨0, _⟩ => rfl | ⟨1, _⟩ => rfl⟩

/-- They are determined. -/
theorem Step.ext {n k : ℕ} {x : Vec Ideal (⟨3, ![4, n, k]⟩ : Shape) .bf16} {w m v g d a b g' d' a' b' : Vec Ideal (⟨2, ![n, k]⟩ : Shape) .f32}
    (h : Step x w m v g d a b) (h' : Step x w m v g' d' a' b') : g = g' ∧ d = d' ∧ a = a' ∧ b = b' := by
  refine ⟨?_, ?_, ?_, ?_⟩ <;> funext j <;> obtain ⟨e, l, rfl⟩ := eta j
  exacts [(h e l).1.trans (h' e l).1.symm, (h e l).2.1.trans (h' e l).2.1.symm, (h e l).2.2.1.trans (h' e l).2.2.1.symm, (h e l).2.2.2.trans (h' e l).2.2.2.symm]

theorem hz : (![0, 0] : Fin 2 → ℕ) = fun _ => 0 := funext fun a => by fin_cases a <;> rfl

end Cert.AdamSpec

end
-- ==== Proof.AdamIn.lean ====
/-
  The optimiser's step of the input projection: the sum of the four chips' parts of the gradient, and the update from it.
-/
module

public import proofs.«01_k».proof.Proof.Gen.AdamInIdeal.Value
public import proofs.«01_k».proof.Proof.AdamSpec
public import proofs.«01_k».proof.Defs
public import proofs.«01_k».proof.Proof.Gen.AdamInRefIdeal.Read
public import Idealize.ShloMosaic.Lib.Tactic

@[expose] public section

noncomputable section

open Idealize.ShloMosaic Idealize.ShloMosaic.TcCoe Idealize.SL.Sem

namespace Cert.AdamInIdeal.Blk

open Cert.AdamInIdeal Cert.AdamInIdeal.Gen Cert.AdamInIdeal.Value Cert.AdamSpec

/-- The four output blocks of a point. -/
theorem outs (x0 : Vec Ideal S4x64x1154 .bf16) (x1 x2 x3 : Vec Ideal S64x1154 .f32) :
    Step x0 x1 x2 x3 (out0_4 x0 x1 x2 x3) (out0_5 x0 x1 x2 x3) (out0_6 x0 x1 x2 x3) (out0_7 x0 x1 x2 x3) := fun e l => by
  rw [← show k0_pay2 (F := Ideal) (View.ld x0 r0_0) (View.ld x0 r0_1) (View.ld x0 r0_2) (View.ld x0 r0_3) (ix2 e l) = gs x0 e l from
    congrArg₂ (· + ·) (congrArg₂ (· + ·) (congrArg₂ (· + ·) (part x0 0 _ _ e l) (part x0 1 _ _ e l)) (part x0 2 _ _ e l)) (part x0 3 _ _ e l)]
  unfold out0_4 out0_5 out0_6 out0_7 k0_pay8
  repeat rw [View.canon_unit_zero (S := S64x1154) hz]
  repeat rw [View.ld_unit_zero (S := S64x1154) hz]
  unfold k0_pay1 k0_pay6 k0_pay7 k0_pay5 k0_pay4 k0_pay3 dl nm nv
  refine ⟨rfl, ?_, ?_, ?_⟩ <;> pointwise

variable (m : (ℓ : Loc nD τ sig) → Buf (Elt Ideal) ℓ) (c : Dev nD)

/-- The parts; the weight and its moments in rows, as the host lays them out. -/
abbrev P : Vec Ideal S4x8192x1154 .bf16 := m (c.tc.loc main_arg0)
abbrev rows (a : Vec Ideal S4x2048x1154 .f32) : Vec Ideal S8192x1154 .f32 := shapeCast _ a shapeCasts_S4x2048x1154_S8192x1154
abbrev g : Vec Ideal S8192x1154 .f32 := fun i => gs (P m c) (i 0) (i 1)
theorem V_w : V m c main_v0 = rows (m (c.tc.loc main_arg1)) ∧ V m c main_v1 = rows (m (c.tc.loc main_arg2)) ∧ V m c main_v2 = rows (m (c.tc.loc main_arg3)) := by
  unfold V
  refine ⟨?_, ?_, ?_⟩ <;> (after_results_simp <;> rfl)

theorem idx : ∀ t : Fin grid0.N, win0_0.index t 0 = 0 ∧ win0_4.index t 0 = t.val ∧ win0_4.index t 1 = 0 := by decide +kernel

/-- The parts of a point's entry are those of the array's entry it is. -/
theorem blk (t : Fin cfg0.N) (e : Fin 64) (l : Fin 1154) (q : S8192x1154.Idx) (hq : q = ((cfg0.win 4).blk t).view.emb (ix2 e l)) :
    gs (iblk m c 0 t : Vec Ideal S4x64x1154 .bf16) e l = gs (P m c) (q 0) (q 1) := by
  have h : ∀ s : Fin 4, (iblk m c 0 t : Vec Ideal S4x64x1154 .bf16) (ix3 s e l) = P m c (ix3 s (q 0) (q 1)) := fun s => by
    subst hq
    unfold iblk
    rw [View.read_apply]
    refine Eq.trans (b := P m c (((cfg0.win 0).blk t).view.emb (ix3 s e l))) (congrFun (V_main_arg0 m c) _) (congrArg (P m c) (funext fun a => Fin.ext ?_))
    match a with
    | ⟨0, _⟩ => show win0_0.index t 0 * 4 + 1 * s.val = s.val; rw [(idx t).1]; omega
    | ⟨1, _⟩ => rfl
    | ⟨2, _⟩ => rfl
  unfold gs
  rw [h, h, h, h]

theorem cover (i : S8192x1154.Idx) : ∃ t : Fin cfg0.N, i ∈ ((View.whole main_v3_0).slice (win0_4.rect t)).set := by
  refine (rows_cover (t := 64) (k := 1154) win0_4.index (by decide) (fun u => (idx u).2) i).imp fun u h => ?_
  rw [View.set_slice_whole, Rect.mem_set_unit]
  exact fun a => match a with | ⟨0, _⟩ => h 0 | ⟨1, _⟩ => h 1

/-- The four result arrays. -/
theorem fin : Step (P m c) (V m c main_v0) (V m c main_v1) (V m c main_v2)
    ((dats m 0 c).arrAt 4 cfg0.N) ((dats m 0 c).arrAt 5 cfg0.N) ((dats m 0 c).arrAt 6 cfg0.N) ((dats m 0 c).arrAt 7 cfg0.N) := by
  refine fun e l => And.imp (congrFun · (ix2 e l)) (And.imp (congrFun · (ix2 e l)) (And.imp (congrFun · (ix2 e l)) (congrFun · (ix2 e l))))
    ⟨(dats m 0 c).arrAt_eq_of_cover 4 (g m c) (fun t _ => (flushed4 m c t).trans (funext fun j => ?_)) fun i => (cover i).imp fun t h => ⟨flush0_4 t, h⟩,
    (dats m 0 c).arrAt_eq_of_cover 5 (fun i => dl (g m c i) (V m c main_v0 i) (V m c main_v1 i) (V m c main_v2 i)) (fun t _ => (flushed5 m c t).trans (funext fun j => ?_)) fun i => (cover i).imp fun t h => ⟨flush0_5 t, h⟩,
    (dats m 0 c).arrAt_eq_of_cover 6 (fun i => nm (g m c i) (V m c main_v1 i)) (fun t _ => (flushed6 m c t).trans (funext fun j => ?_)) fun i => (cover i).imp fun t h => ⟨flush0_6 t, h⟩,
    (dats m 0 c).arrAt_eq_of_cover 7 (fun i => nv (g m c i) (V m c main_v2 i)) (fun t _ => (flushed7 m c t).trans (funext fun j => ?_)) fun i => (cover i).imp fun t h => ⟨flush0_7 t, h⟩⟩
  all_goals
    clear e l
    obtain ⟨e, l, rfl⟩ := eta j
    have ho := outs (iblk m c 0 t) (iblk m c 1 t) (iblk m c 2 t) (iblk m c 3 t) e l
    rw [blk m c t e l _ rfl] at ho
    rw [View.read_apply]
  exacts [ho.1, ho.2.1, ho.2.2.1, ho.2.2.2]

end Cert.AdamInIdeal.Blk

namespace Cert.AdamInProof

open Cert.AdamSpec Cert.AdamInRefIdeal Cert.AdamInRefIdeal.Read Cert.AdamInIdeal.Blk

theorem frame_ref : Cert.quiescent_AdamInRefIdeal (hAdamInRefIdeal := Cert.AdamInRefIdeal.Gen.facts) := fun m ρ _ =>
  (θ_run Cert.AdamInRefIdeal.defs _ _).mono (fun r h => ⟨fun c => (h c).2.2.2.2, sem_eq_zero_of_no_sems rfl r.2⟩) (Cert.AdamInRefIdeal.Value.run (F := Ideal) m ρ)

/-- The reference's results. -/
theorem ref (x : Vec Ideal S4x8192x1154 .bf16) (w y z : Vec Ideal S4x2048x1154 .f32) :
    Step x (rows w) (rows y) (rows z) (val_main_v1 x) (val_main_v28 x w y z) (val_main_v9 x y) (val_main_v15 x z) := fun e l => by
  have h : ∀ k : Fin 4, idx_main_v1 (ix2 e l) k = ix3 k e l := fun k => funext fun a => match a with | ⟨0, _⟩ => rfl | ⟨1, _⟩ => rfl | ⟨2, _⟩ => rfl
  rw [← show val_main_v1 (F := Ideal) x (ix2 e l) = gs x e l by
    rw [val_main_v1_apply, Fin.sum_univ_four, h, h, h, h]
    unfold val_main_cst val_main_v0 gs
    pointwise]
  exact ⟨rfl, rfl, rfl, rfl⟩

/-- The call computes them. -/
theorem algebraic : Cert.algebraic_AdamInIdeal_AdamInRefIdeal (hAdamInIdeal := Cert.AdamInIdeal.Gen.facts)
    (hAdamInRefIdeal := Cert.AdamInRefIdeal.Gen.facts) := by
  intro m ρ m' ρ' _ hm
  refine ⟨_, _, _, _, Cert.AdamInIdeal.Value.run_blocks m ρ, ?_⟩
  refine (θ_run Cert.AdamInRefIdeal.defs _ _).mono (fun r h c => ?_) (Cert.AdamInRefIdeal.Value.run (F := Ideal) m' ρ')
  obtain ⟨a0, a1, a2, a3⟩ := hm c
  obtain ⟨h0, h1, h2, h3, hk⟩ := h c
  obtain ⟨w1, w2, w3⟩ := V_w m c
  have hf := fin m c
  rw [w1, w2, w3] at hf
  obtain ⟨e0, e1, e2, e3⟩ := (ref _ _ _ _).ext hf
  refine ⟨h0.trans (Eq.trans ?_ e0), h1.trans (Eq.trans ?_ e1), h2.trans (Eq.trans ?_ e2), h3.trans (Eq.trans ?_ e3), hk⟩
  · rw [a0, val_main_v1_eq]
  · rw [a0, a1, a2, a3, val_main_v28_eq]
  · rw [a0, a2, val_main_v9_eq]
  · rw [a0, a3, val_main_v15_eq]

end Cert.AdamInProof

end
-- ==== Proof.AdamGlu.lean ====
/-
  The optimiser's step of the S5 branch's gate weight: the sum of the four chips' parts of the gradient, and the update from it.
-/
module

public import proofs.«01_k».proof.Proof.Gen.AdamGluIdeal.Value
public import proofs.«01_k».proof.Proof.AdamSpec
public import proofs.«01_k».proof.Defs
public import proofs.«01_k».proof.Proof.Gen.AdamGluRefIdeal.Read
public import Idealize.ShloMosaic.Lib.Tactic

@[expose] public section

noncomputable section

open Idealize.ShloMosaic Idealize.ShloMosaic.TcCoe Idealize.SL.Sem

namespace Cert.AdamGluIdeal.Blk

open Cert.AdamGluIdeal Cert.AdamGluIdeal.Gen Cert.AdamGluIdeal.Value Cert.AdamSpec

/-- The four output blocks of a point. -/
theorem outs (x0 : Vec Ideal S4x256x512 .bf16) (x1 x2 x3 : Vec Ideal S256x512 .f32) :
    Step x0 x1 x2 x3 (out0_4 x0 x1 x2 x3) (out0_5 x0 x1 x2 x3) (out0_6 x0 x1 x2 x3) (out0_7 x0 x1 x2 x3) := fun e l => by
  rw [← show k0_pay2 (F := Ideal) (View.ld x0 r0_0) (View.ld x0 r0_1) (View.ld x0 r0_2) (View.ld x0 r0_3) (ix2 e l) = gs x0 e l from
    congrArg₂ (· + ·) (congrArg₂ (· + ·) (congrArg₂ (· + ·) (part x0 0 _ _ e l) (part x0 1 _ _ e l)) (part x0 2 _ _ e l)) (part x0 3 _ _ e l)]
  unfold out0_4 out0_5 out0_6 out0_7 k0_pay8
  repeat rw [View.canon_unit_zero (S := S256x512) hz]
  repeat rw [View.ld_unit_zero (S := S256x512) hz]
  unfold k0_pay1 k0_pay6 k0_pay7 k0_pay5 k0_pay4 k0_pay3 dl nm nv
  refine ⟨rfl, ?_, ?_, ?_⟩ <;> pointwise

variable (m : (ℓ : Loc nD τ sig) → Buf (Elt Ideal) ℓ) (c : Dev nD)

/-- The parts; the weight and its moments in rows, as the host lays them out. -/
abbrev P : Vec Ideal S4x4096x512 .bf16 := m (c.tc.loc main_arg0)
abbrev rows (a : Vec Ideal S4x1024x512 .f32) : Vec Ideal S4096x512 .f32 := shapeCast _ a shapeCasts_S4x1024x512_S4096x512
abbrev g : Vec Ideal S4096x512 .f32 := fun i => gs (P m c) (i 0) (i 1)
theorem V_w : V m c main_v0 = rows (m (c.tc.loc main_arg1)) ∧ V m c main_v1 = rows (m (c.tc.loc main_arg2)) ∧ V m c main_v2 = rows (m (c.tc.loc main_arg3)) := by
  unfold V
  refine ⟨?_, ?_, ?_⟩ <;> (after_results_simp <;> rfl)

theorem idx : ∀ t : Fin grid0.N, win0_0.index t 0 = 0 ∧ win0_4.index t 0 = t.val ∧ win0_4.index t 1 = 0 := by decide +kernel

/-- The parts of a point's entry are those of the array's entry it is. -/
theorem blk (t : Fin cfg0.N) (e : Fin 256) (l : Fin 512) (q : S4096x512.Idx) (hq : q = ((cfg0.win 4).blk t).view.emb (ix2 e l)) :
    gs (iblk m c 0 t : Vec Ideal S4x256x512 .bf16) e l = gs (P m c) (q 0) (q 1) := by
  have h : ∀ s : Fin 4, (iblk m c 0 t : Vec Ideal S4x256x512 .bf16) (ix3 s e l) = P m c (ix3 s (q 0) (q 1)) := fun s => by
    subst hq
    unfold iblk
    rw [View.read_apply]
    refine Eq.trans (b := P m c (((cfg0.win 0).blk t).view.emb (ix3 s e l))) (congrFun (V_main_arg0 m c) _) (congrArg (P m c) (funext fun a => Fin.ext ?_))
    match a with
    | ⟨0, _⟩ => show win0_0.index t 0 * 4 + 1 * s.val = s.val; rw [(idx t).1]; omega
    | ⟨1, _⟩ => rfl
    | ⟨2, _⟩ => rfl
  unfold gs
  rw [h, h, h, h]

theorem cover (i : S4096x512.Idx) : ∃ t : Fin cfg0.N, i ∈ ((View.whole main_v3_0).slice (win0_4.rect t)).set := by
  refine (rows_cover (t := 256) (k := 512) win0_4.index (by decide) (fun u => (idx u).2) i).imp fun u h => ?_
  rw [View.set_slice_whole, Rect.mem_set_unit]
  exact fun a => match a with | ⟨0, _⟩ => h 0 | ⟨1, _⟩ => h 1

/-- The four result arrays. -/
theorem fin : Step (P m c) (V m c main_v0) (V m c main_v1) (V m c main_v2)
    ((dats m 0 c).arrAt 4 cfg0.N) ((dats m 0 c).arrAt 5 cfg0.N) ((dats m 0 c).arrAt 6 cfg0.N) ((dats m 0 c).arrAt 7 cfg0.N) := by
  refine fun e l => And.imp (congrFun · (ix2 e l)) (And.imp (congrFun · (ix2 e l)) (And.imp (congrFun · (ix2 e l)) (congrFun · (ix2 e l))))
    ⟨(dats m 0 c).arrAt_eq_of_cover 4 (g m c) (fun t _ => (flushed4 m c t).trans (funext fun j => ?_)) fun i => (cover i).imp fun t h => ⟨flush0_4 t, h⟩,
    (dats m 0 c).arrAt_eq_of_cover 5 (fun i => dl (g m c i) (V m c main_v0 i) (V m c main_v1 i) (V m c main_v2 i)) (fun t _ => (flushed5 m c t).trans (funext fun j => ?_)) fun i => (cover i).imp fun t h => ⟨flush0_5 t, h⟩,
    (dats m 0 c).arrAt_eq_of_cover 6 (fun i => nm (g m c i) (V m c main_v1 i)) (fun t _ => (flushed6 m c t).trans (funext fun j => ?_)) fun i => (cover i).imp fun t h => ⟨flush0_6 t, h⟩,
    (dats m 0 c).arrAt_eq_of_cover 7 (fun i => nv (g m c i) (V m c main_v2 i)) (fun t _ => (flushed7 m c t).trans (funext fun j => ?_)) fun i => (cover i).imp fun t h => ⟨flush0_7 t, h⟩⟩
  all_goals
    clear e l
    obtain ⟨e, l, rfl⟩ := eta j
    have ho := outs (iblk m c 0 t) (iblk m c 1 t) (iblk m c 2 t) (iblk m c 3 t) e l
    rw [blk m c t e l _ rfl] at ho
    rw [View.read_apply]
  exacts [ho.1, ho.2.1, ho.2.2.1, ho.2.2.2]

end Cert.AdamGluIdeal.Blk

namespace Cert.AdamGluProof

open Cert.AdamSpec Cert.AdamGluRefIdeal Cert.AdamGluRefIdeal.Read Cert.AdamGluIdeal.Blk

theorem frame_ref : Cert.quiescent_AdamGluRefIdeal (hAdamGluRefIdeal := Cert.AdamGluRefIdeal.Gen.facts) := fun m ρ _ =>
  (θ_run Cert.AdamGluRefIdeal.defs _ _).mono (fun r h => ⟨fun c => (h c).2.2.2.2, sem_eq_zero_of_no_sems rfl r.2⟩) (Cert.AdamGluRefIdeal.Value.run (F := Ideal) m ρ)

/-- The reference's results. -/
theorem ref (x : Vec Ideal S4x4096x512 .bf16) (w y z : Vec Ideal S4x1024x512 .f32) :
    Step x (rows w) (rows y) (rows z) (val_main_v1 x) (val_main_v28 x w y z) (val_main_v9 x y) (val_main_v15 x z) := fun e l => by
  have h : ∀ k : Fin 4, idx_main_v1 (ix2 e l) k = ix3 k e l := fun k => funext fun a => match a with | ⟨0, _⟩ => rfl | ⟨1, _⟩ => rfl | ⟨2, _⟩ => rfl
  rw [← show val_main_v1 (F := Ideal) x (ix2 e l) = gs x e l by
    rw [val_main_v1_apply, Fin.sum_univ_four, h, h, h, h]
    unfold val_main_cst val_main_v0 gs
    pointwise]
  exact ⟨rfl, rfl, rfl, rfl⟩

/-- The call computes them. -/
theorem algebraic : Cert.algebraic_AdamGluIdeal_AdamGluRefIdeal (hAdamGluIdeal := Cert.AdamGluIdeal.Gen.facts)
    (hAdamGluRefIdeal := Cert.AdamGluRefIdeal.Gen.facts) := by
  intro m ρ m' ρ' _ hm
  refine ⟨_, _, _, _, Cert.AdamGluIdeal.Value.run_blocks m ρ, ?_⟩
  refine (θ_run Cert.AdamGluRefIdeal.defs _ _).mono (fun r h c => ?_) (Cert.AdamGluRefIdeal.Value.run (F := Ideal) m' ρ')
  obtain ⟨a0, a1, a2, a3⟩ := hm c
  obtain ⟨h0, h1, h2, h3, hk⟩ := h c
  obtain ⟨w1, w2, w3⟩ := V_w m c
  have hf := fin m c
  rw [w1, w2, w3] at hf
  obtain ⟨e0, e1, e2, e3⟩ := (ref _ _ _ _).ext hf
  refine ⟨h0.trans (Eq.trans ?_ e0), h1.trans (Eq.trans ?_ e1), h2.trans (Eq.trans ?_ e2), h3.trans (Eq.trans ?_ e3), hk⟩
  · rw [a0, val_main_v1_eq]
  · rw [a0, a1, a2, a3, val_main_v28_eq]
  · rw [a0, a2, val_main_v9_eq]
  · rw [a0, a3, val_main_v15_eq]

end Cert.AdamGluProof

end
-- ==== Proof.AdamDn.lean ====
/-
  The optimiser's step of the delta rule branch's projection: the sum of the four chips' parts of the gradient, and the update from it.
-/
module

public import proofs.«01_k».proof.Proof.Gen.AdamDnIdeal.Value
public import proofs.«01_k».proof.Proof.AdamSpec
public import proofs.«01_k».proof.Defs
public import proofs.«01_k».proof.Proof.Gen.AdamDnRefIdeal.Read
public import Idealize.ShloMosaic.Lib.Tactic

@[expose] public section

noncomputable section

open Idealize.ShloMosaic Idealize.ShloMosaic.TcCoe Idealize.SL.Sem

namespace Cert.AdamDnIdeal.Blk

open Cert.AdamDnIdeal Cert.AdamDnIdeal.Gen Cert.AdamDnIdeal.Value Cert.AdamSpec

/-- The four output blocks of a point. -/
theorem outs (x0 : Vec Ideal S4x512x256 .bf16) (x1 x2 x3 : Vec Ideal S512x256 .f32) :
    Step x0 x1 x2 x3 (out0_4 x0 x1 x2 x3) (out0_5 x0 x1 x2 x3) (out0_6 x0 x1 x2 x3) (out0_7 x0 x1 x2 x3) := fun e l => by
  rw [← show k0_pay2 (F := Ideal) (View.ld x0 r0_0) (View.ld x0 r0_1) (View.ld x0 r0_2) (View.ld x0 r0_3) (ix2 e l) = gs x0 e l from
    congrArg₂ (· + ·) (congrArg₂ (· + ·) (congrArg₂ (· + ·) (part x0 0 _ _ e l) (part x0 1 _ _ e l)) (part x0 2 _ _ e l)) (part x0 3 _ _ e l)]
  unfold out0_4 out0_5 out0_6 out0_7 k0_pay8
  repeat rw [View.canon_unit_zero (S := S512x256) hz]
  repeat rw [View.ld_unit_zero (S := S512x256) hz]
  unfold k0_pay1 k0_pay6 k0_pay7 k0_pay5 k0_pay4 k0_pay3 dl nm nv
  refine ⟨rfl, ?_, ?_, ?_⟩ <;> pointwise

variable (m : (ℓ : Loc nD τ sig) → Buf (Elt Ideal) ℓ) (c : Dev nD)

/-- The parts; the weight and its moments in rows, as the host lays them out. -/
abbrev P : Vec Ideal S4x4096x256 .bf16 := m (c.tc.loc main_arg0)
abbrev rows (a : Vec Ideal S4x1024x256 .f32) : Vec Ideal S4096x256 .f32 := shapeCast _ a shapeCasts_S4x1024x256_S4096x256
abbrev g : Vec Ideal S4096x256 .f32 := fun i => gs (P m c) (i 0) (i 1)
theorem V_w : V m c main_v0 = rows (m (c.tc.loc main_arg1)) ∧ V m c main_v1 = rows (m (c.tc.loc main_arg2)) ∧ V m c main_v2 = rows (m (c.tc.loc main_arg3)) := by
  unfold V
  refine ⟨?_, ?_, ?_⟩ <;> (after_results_simp <;> rfl)

theorem idx : ∀ t : Fin grid0.N, win0_0.index t 0 = 0 ∧ win0_4.index t 0 = t.val ∧ win0_4.index t 1 = 0 := by decide +kernel

/-- The parts of a point's entry are those of the array's entry it is. -/
theorem blk (t : Fin cfg0.N) (e : Fin 512) (l : Fin 256) (q : S4096x256.Idx) (hq : q = ((cfg0.win 4).blk t).view.emb (ix2 e l)) :
    gs (iblk m c 0 t : Vec Ideal S4x512x256 .bf16) e l = gs (P m c) (q 0) (q 1) := by
  have h : ∀ s : Fin 4, (iblk m c 0 t : Vec Ideal S4x512x256 .bf16) (ix3 s e l) = P m c (ix3 s (q 0) (q 1)) := fun s => by
    subst hq
    unfold iblk
    rw [View.read_apply]
    refine Eq.trans (b := P m c (((cfg0.win 0).blk t).view.emb (ix3 s e l))) (congrFun (V_main_arg0 m c) _) (congrArg (P m c) (funext fun a => Fin.ext ?_))
    match a with
    | ⟨0, _⟩ => show win0_0.index t 0 * 4 + 1 * s.val = s.val; rw [(idx t).1]; omega
    | ⟨1, _⟩ => rfl
    | ⟨2, _⟩ => rfl
  unfold gs
  rw [h, h, h, h]

theorem cover (i : S4096x256.Idx) : ∃ t : Fin cfg0.N, i ∈ ((View.whole main_v3_0).slice (win0_4.rect t)).set := by
  refine (rows_cover (t := 512) (k := 256) win0_4.index (by decide) (fun u => (idx u).2) i).imp fun u h => ?_
  rw [View.set_slice_whole, Rect.mem_set_unit]
  exact fun a => match a with | ⟨0, _⟩ => h 0 | ⟨1, _⟩ => h 1

/-- The four result arrays. -/
theorem fin : Step (P m c) (V m c main_v0) (V m c main_v1) (V m c main_v2)
    ((dats m 0 c).arrAt 4 cfg0.N) ((dats m 0 c).arrAt 5 cfg0.N) ((dats m 0 c).arrAt 6 cfg0.N) ((dats m 0 c).arrAt 7 cfg0.N) := by
  refine fun e l => And.imp (congrFun · (ix2 e l)) (And.imp (congrFun · (ix2 e l)) (And.imp (congrFun · (ix2 e l)) (congrFun · (ix2 e l))))
    ⟨(dats m 0 c).arrAt_eq_of_cover 4 (g m c) (fun t _ => (flushed4 m c t).trans (funext fun j => ?_)) fun i => (cover i).imp fun t h => ⟨flush0_4 t, h⟩,
    (dats m 0 c).arrAt_eq_of_cover 5 (fun i => dl (g m c i) (V m c main_v0 i) (V m c main_v1 i) (V m c main_v2 i)) (fun t _ => (flushed5 m c t).trans (funext fun j => ?_)) fun i => (cover i).imp fun t h => ⟨flush0_5 t, h⟩,
    (dats m 0 c).arrAt_eq_of_cover 6 (fun i => nm (g m c i) (V m c main_v1 i)) (fun t _ => (flushed6 m c t).trans (funext fun j => ?_)) fun i => (cover i).imp fun t h => ⟨flush0_6 t, h⟩,
    (dats m 0 c).arrAt_eq_of_cover 7 (fun i => nv (g m c i) (V m c main_v2 i)) (fun t _ => (flushed7 m c t).trans (funext fun j => ?_)) fun i => (cover i).imp fun t h => ⟨flush0_7 t, h⟩⟩
  all_goals
    clear e l
    obtain ⟨e, l, rfl⟩ := eta j
    have ho := outs (iblk m c 0 t) (iblk m c 1 t) (iblk m c 2 t) (iblk m c 3 t) e l
    rw [blk m c t e l _ rfl] at ho
    rw [View.read_apply]
  exacts [ho.1, ho.2.1, ho.2.2.1, ho.2.2.2]

end Cert.AdamDnIdeal.Blk

namespace Cert.AdamDnProof

open Cert.AdamSpec Cert.AdamDnRefIdeal Cert.AdamDnRefIdeal.Read Cert.AdamDnIdeal.Blk

theorem frame_ref : Cert.quiescent_AdamDnRefIdeal (hAdamDnRefIdeal := Cert.AdamDnRefIdeal.Gen.facts) := fun m ρ _ =>
  (θ_run Cert.AdamDnRefIdeal.defs _ _).mono (fun r h => ⟨fun c => (h c).2.2.2.2, sem_eq_zero_of_no_sems rfl r.2⟩) (Cert.AdamDnRefIdeal.Value.run (F := Ideal) m ρ)

/-- The reference's results. -/
theorem ref (x : Vec Ideal S4x4096x256 .bf16) (w y z : Vec Ideal S4x1024x256 .f32) :
    Step x (rows w) (rows y) (rows z) (val_main_v1 x) (val_main_v28 x w y z) (val_main_v9 x y) (val_main_v15 x z) := fun e l => by
  have h : ∀ k : Fin 4, idx_main_v1 (ix2 e l) k = ix3 k e l := fun k => funext fun a => match a with | ⟨0, _⟩ => rfl | ⟨1, _⟩ => rfl | ⟨2, _⟩ => rfl
  rw [← show val_main_v1 (F := Ideal) x (ix2 e l) = gs x e l by
    rw [val_main_v1_apply, Fin.sum_univ_four, h, h, h, h]
    unfold val_main_cst val_main_v0 gs
    pointwise]
  exact ⟨rfl, rfl, rfl, rfl⟩

/-- The call computes them. -/
theorem algebraic : Cert.algebraic_AdamDnIdeal_AdamDnRefIdeal (hAdamDnIdeal := Cert.AdamDnIdeal.Gen.facts)
    (hAdamDnRefIdeal := Cert.AdamDnRefIdeal.Gen.facts) := by
  intro m ρ m' ρ' _ hm
  refine ⟨_, _, _, _, Cert.AdamDnIdeal.Value.run_blocks m ρ, ?_⟩
  refine (θ_run Cert.AdamDnRefIdeal.defs _ _).mono (fun r h c => ?_) (Cert.AdamDnRefIdeal.Value.run (F := Ideal) m' ρ')
  obtain ⟨a0, a1, a2, a3⟩ := hm c
  obtain ⟨h0, h1, h2, h3, hk⟩ := h c
  obtain ⟨w1, w2, w3⟩ := V_w m c
  have hf := fin m c
  rw [w1, w2, w3] at hf
  obtain ⟨e0, e1, e2, e3⟩ := (ref _ _ _ _).ext hf
  refine ⟨h0.trans (Eq.trans ?_ e0), h1.trans (Eq.trans ?_ e1), h2.trans (Eq.trans ?_ e2), h3.trans (Eq.trans ?_ e3), hk⟩
  · rw [a0, val_main_v1_eq]
  · rw [a0, a1, a2, a3, val_main_v28_eq]
  · rw [a0, a2, val_main_v9_eq]
  · rw [a0, a3, val_main_v15_eq]

end Cert.AdamDnProof

end
-- ==== Proof.AdamOut.lean ====
/-
  The optimiser's step of the output projection: the sum of the four chips' parts of the gradient, and the update from it.
-/
module

public import proofs.«01_k».proof.Proof.Gen.AdamOutIdeal.Value
public import proofs.«01_k».proof.Proof.AdamSpec
public import proofs.«01_k».proof.Defs
public import proofs.«01_k».proof.Proof.Gen.AdamOutRefIdeal.Read
public import Idealize.ShloMosaic.Lib.Tactic

@[expose] public section

noncomputable section

open Idealize.ShloMosaic Idealize.ShloMosaic.TcCoe Idealize.SL.Sem

namespace Cert.AdamOutIdeal.Blk

open Cert.AdamOutIdeal Cert.AdamOutIdeal.Gen Cert.AdamOutIdeal.Value Cert.AdamSpec

/-- The four output blocks of a point. -/
theorem outs (x0 : Vec Ideal S4x64x2048 .bf16) (x1 x2 x3 : Vec Ideal S64x2048 .f32) :
    Step x0 x1 x2 x3 (out0_4 x0 x1 x2 x3) (out0_5 x0 x1 x2 x3) (out0_6 x0 x1 x2 x3) (out0_7 x0 x1 x2 x3) := fun e l => by
  rw [← show k0_pay2 (F := Ideal) (View.ld x0 r0_0) (View.ld x0 r0_1) (View.ld x0 r0_2) (View.ld x0 r0_3) (ix2 e l) = gs x0 e l from
    congrArg₂ (· + ·) (congrArg₂ (· + ·) (congrArg₂ (· + ·) (part x0 0 _ _ e l) (part x0 1 _ _ e l)) (part x0 2 _ _ e l)) (part x0 3 _ _ e l)]
  unfold out0_4 out0_5 out0_6 out0_7 k0_pay8
  repeat rw [View.canon_unit_zero (S := S64x2048) hz]
  repeat rw [View.ld_unit_zero (S := S64x2048) hz]
  unfold k0_pay1 k0_pay6 k0_pay7 k0_pay5 k0_pay4 k0_pay3 dl nm nv
  refine ⟨rfl, ?_, ?_, ?_⟩ <;> pointwise

variable (m : (ℓ : Loc nD τ sig) → Buf (Elt Ideal) ℓ) (c : Dev nD)

/-- The parts; the weight and its moments in rows, as the host lays them out. -/
abbrev P : Vec Ideal S4x1024x2048 .bf16 := m (c.tc.loc main_arg0)
abbrev rows (a : Vec Ideal S4x256x2048 .f32) : Vec Ideal S1024x2048 .f32 := shapeCast _ a shapeCasts_S4x256x2048_S1024x2048
abbrev g : Vec Ideal S1024x2048 .f32 := fun i => gs (P m c) (i 0) (i 1)
theorem V_w : V m c main_v0 = rows (m (c.tc.loc main_arg1)) ∧ V m c main_v1 = rows (m (c.tc.loc main_arg2)) ∧ V m c main_v2 = rows (m (c.tc.loc main_arg3)) := by
  unfold V
  refine ⟨?_, ?_, ?_⟩ <;> (after_results_simp <;> rfl)

theorem idx : ∀ t : Fin grid0.N, win0_0.index t 0 = 0 ∧ win0_4.index t 0 = t.val ∧ win0_4.index t 1 = 0 := by decide +kernel

/-- The parts of a point's entry are those of the array's entry it is. -/
theorem blk (t : Fin cfg0.N) (e : Fin 64) (l : Fin 2048) (q : S1024x2048.Idx) (hq : q = ((cfg0.win 4).blk t).view.emb (ix2 e l)) :
    gs (iblk m c 0 t : Vec Ideal S4x64x2048 .bf16) e l = gs (P m c) (q 0) (q 1) := by
  have h : ∀ s : Fin 4, (iblk m c 0 t : Vec Ideal S4x64x2048 .bf16) (ix3 s e l) = P m c (ix3 s (q 0) (q 1)) := fun s => by
    subst hq
    unfold iblk
    rw [View.read_apply]
    refine Eq.trans (b := P m c (((cfg0.win 0).blk t).view.emb (ix3 s e l))) (congrFun (V_main_arg0 m c) _) (congrArg (P m c) (funext fun a => Fin.ext ?_))
    match a with
    | ⟨0, _⟩ => show win0_0.index t 0 * 4 + 1 * s.val = s.val; rw [(idx t).1]; omega
    | ⟨1, _⟩ => rfl
    | ⟨2, _⟩ => rfl
  unfold gs
  rw [h, h, h, h]

theorem cover (i : S1024x2048.Idx) : ∃ t : Fin cfg0.N, i ∈ ((View.whole main_v3_0).slice (win0_4.rect t)).set := by
  refine (rows_cover (t := 64) (k := 2048) win0_4.index (by decide) (fun u => (idx u).2) i).imp fun u h => ?_
  rw [View.set_slice_whole, Rect.mem_set_unit]
  exact fun a => match a with | ⟨0, _⟩ => h 0 | ⟨1, _⟩ => h 1

/-- The four result arrays. -/
theorem fin : Step (P m c) (V m c main_v0) (V m c main_v1) (V m c main_v2)
    ((dats m 0 c).arrAt 4 cfg0.N) ((dats m 0 c).arrAt 5 cfg0.N) ((dats m 0 c).arrAt 6 cfg0.N) ((dats m 0 c).arrAt 7 cfg0.N) := by
  refine fun e l => And.imp (congrFun · (ix2 e l)) (And.imp (congrFun · (ix2 e l)) (And.imp (congrFun · (ix2 e l)) (congrFun · (ix2 e l))))
    ⟨(dats m 0 c).arrAt_eq_of_cover 4 (g m c) (fun t _ => (flushed4 m c t).trans (funext fun j => ?_)) fun i => (cover i).imp fun t h => ⟨flush0_4 t, h⟩,
    (dats m 0 c).arrAt_eq_of_cover 5 (fun i => dl (g m c i) (V m c main_v0 i) (V m c main_v1 i) (V m c main_v2 i)) (fun t _ => (flushed5 m c t).trans (funext fun j => ?_)) fun i => (cover i).imp fun t h => ⟨flush0_5 t, h⟩,
    (dats m 0 c).arrAt_eq_of_cover 6 (fun i => nm (g m c i) (V m c main_v1 i)) (fun t _ => (flushed6 m c t).trans (funext fun j => ?_)) fun i => (cover i).imp fun t h => ⟨flush0_6 t, h⟩,
    (dats m 0 c).arrAt_eq_of_cover 7 (fun i => nv (g m c i) (V m c main_v2 i)) (fun t _ => (flushed7 m c t).trans (funext fun j => ?_)) fun i => (cover i).imp fun t h => ⟨flush0_7 t, h⟩⟩
  all_goals
    clear e l
    obtain ⟨e, l, rfl⟩ := eta j
    have ho := outs (iblk m c 0 t) (iblk m c 1 t) (iblk m c 2 t) (iblk m c 3 t) e l
    rw [blk m c t e l _ rfl] at ho
    rw [View.read_apply]
  exacts [ho.1, ho.2.1, ho.2.2.1, ho.2.2.2]

end Cert.AdamOutIdeal.Blk

namespace Cert.AdamOutProof

open Cert.AdamSpec Cert.AdamOutRefIdeal Cert.AdamOutRefIdeal.Read Cert.AdamOutIdeal.Blk

theorem frame_ref : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems rfl r.2⟩) (Cert.AdamOutRefIdeal.Value.run (F := Ideal) m ρ)

/-- The reference's results. -/
theorem ref (x : Vec Ideal S4x1024x2048 .bf16) (w y z : Vec Ideal S4x256x2048 .f32) :
    Step x (rows w) (rows y) (rows z) (val_main_v1 x) (val_main_v28 x w y z) (val_main_v9 x y) (val_main_v15 x z) := fun e l => by
  have h : ∀ k : Fin 4, idx_main_v1 (ix2 e l) k = ix3 k e l := fun k => funext fun a => match a with | ⟨0, _⟩ => rfl | ⟨1, _⟩ => rfl | ⟨2, _⟩ => rfl
  rw [← show val_main_v1 (F := Ideal) x (ix2 e l) = gs x e l by
    rw [val_main_v1_apply, Fin.sum_univ_four, h, h, h, h]
    unfold val_main_cst val_main_v0 gs
    pointwise]
  exact ⟨rfl, rfl, rfl, rfl⟩

/-- The call computes them. -/
theorem algebraic : Cert.algebraic_AdamOutIdeal_AdamOutRefIdeal (hAdamOutIdeal := Cert.AdamOutIdeal.Gen.facts)
    (hAdamOutRefIdeal := Cert.AdamOutRefIdeal.Gen.facts) := by
  intro m ρ m' ρ' _ hm
  refine ⟨_, _, _, _, Cert.AdamOutIdeal.Value.run_blocks m ρ, ?_⟩
  refine (θ_run Cert.AdamOutRefIdeal.defs _ _).mono (fun r h c => ?_) (Cert.AdamOutRefIdeal.Value.run (F := Ideal) m' ρ')
  obtain ⟨a0, a1, a2, a3⟩ := hm c
  obtain ⟨h0, h1, h2, h3, hk⟩ := h c
  obtain ⟨w1, w2, w3⟩ := V_w m c
  have hf := fin m c
  rw [w1, w2, w3] at hf
  obtain ⟨e0, e1, e2, e3⟩ := (ref _ _ _ _).ext hf
  refine ⟨h0.trans (Eq.trans ?_ e0), h1.trans (Eq.trans ?_ e1), h2.trans (Eq.trans ?_ e2), h3.trans (Eq.trans ?_ e3), hk⟩
  · rw [a0, val_main_v1_eq]
  · rw [a0, a1, a2, a3, val_main_v28_eq]
  · rw [a0, a2, val_main_v9_eq]
  · rw [a0, a3, val_main_v15_eq]

end Cert.AdamOutProof

end
-- ==== Proof.AdamUp.lean ====
/-
  The optimiser's step of the feed-forward network's up projection: the sum of the four chips' parts of the gradient, and the update from it.
-/
module

public import proofs.«01_k».proof.Proof.Gen.AdamUpIdeal.Value
public import proofs.«01_k».proof.Proof.AdamSpec
public import proofs.«01_k».proof.Defs
public import proofs.«01_k».proof.Proof.Gen.AdamUpRefIdeal.Read
public import Idealize.ShloMosaic.Lib.Tactic

@[expose] public section

noncomputable section

open Idealize.ShloMosaic Idealize.ShloMosaic.TcCoe Idealize.SL.Sem

namespace Cert.AdamUpIdeal.Blk

open Cert.AdamUpIdeal Cert.AdamUpIdeal.Gen Cert.AdamUpIdeal.Value Cert.AdamSpec

/-- The four output blocks of a point. -/
theorem outs (x0 : Vec Ideal S4x64x1408 .bf16) (x1 x2 x3 : Vec Ideal S64x1408 .f32) :
    Step x0 x1 x2 x3 (out0_4 x0 x1 x2 x3) (out0_5 x0 x1 x2 x3) (out0_6 x0 x1 x2 x3) (out0_7 x0 x1 x2 x3) := fun e l => by
  rw [← show k0_pay2 (F := Ideal) (View.ld x0 r0_0) (View.ld x0 r0_1) (View.ld x0 r0_2) (View.ld x0 r0_3) (ix2 e l) = gs x0 e l from
    congrArg₂ (· + ·) (congrArg₂ (· + ·) (congrArg₂ (· + ·) (part x0 0 _ _ e l) (part x0 1 _ _ e l)) (part x0 2 _ _ e l)) (part x0 3 _ _ e l)]
  unfold out0_4 out0_5 out0_6 out0_7 k0_pay8
  repeat rw [View.canon_unit_zero (S := S64x1408) hz]
  repeat rw [View.ld_unit_zero (S := S64x1408) hz]
  unfold k0_pay1 k0_pay6 k0_pay7 k0_pay5 k0_pay4 k0_pay3 dl nm nv
  refine ⟨rfl, ?_, ?_, ?_⟩ <;> pointwise

variable (m : (ℓ : Loc nD τ sig) → Buf (Elt Ideal) ℓ) (c : Dev nD)

/-- The parts; the weight and its moments in rows, as the host lays them out. -/
abbrev P : Vec Ideal S4x8192x1408 .bf16 := m (c.tc.loc main_arg0)
abbrev rows (a : Vec Ideal S4x2048x1408 .f32) : Vec Ideal S8192x1408 .f32 := shapeCast _ a shapeCasts_S4x2048x1408_S8192x1408
abbrev g : Vec Ideal S8192x1408 .f32 := fun i => gs (P m c) (i 0) (i 1)
theorem V_w : V m c main_v0 = rows (m (c.tc.loc main_arg1)) ∧ V m c main_v1 = rows (m (c.tc.loc main_arg2)) ∧ V m c main_v2 = rows (m (c.tc.loc main_arg3)) := by
  unfold V
  refine ⟨?_, ?_, ?_⟩ <;> (after_results_simp <;> rfl)

theorem idx : ∀ t : Fin grid0.N, win0_0.index t 0 = 0 ∧ win0_4.index t 0 = t.val ∧ win0_4.index t 1 = 0 := by decide +kernel

/-- The parts of a point's entry are those of the array's entry it is. -/
theorem blk (t : Fin cfg0.N) (e : Fin 64) (l : Fin 1408) (q : S8192x1408.Idx) (hq : q = ((cfg0.win 4).blk t).view.emb (ix2 e l)) :
    gs (iblk m c 0 t : Vec Ideal S4x64x1408 .bf16) e l = gs (P m c) (q 0) (q 1) := by
  have h : ∀ s : Fin 4, (iblk m c 0 t : Vec Ideal S4x64x1408 .bf16) (ix3 s e l) = P m c (ix3 s (q 0) (q 1)) := fun s => by
    subst hq
    unfold iblk
    rw [View.read_apply]
    refine Eq.trans (b := P m c (((cfg0.win 0).blk t).view.emb (ix3 s e l))) (congrFun (V_main_arg0 m c) _) (congrArg (P m c) (funext fun a => Fin.ext ?_))
    match a with
    | ⟨0, _⟩ => show win0_0.index t 0 * 4 + 1 * s.val = s.val; rw [(idx t).1]; omega
    | ⟨1, _⟩ => rfl
    | ⟨2, _⟩ => rfl
  unfold gs
  rw [h, h, h, h]

theorem cover (i : S8192x1408.Idx) : ∃ t : Fin cfg0.N, i ∈ ((View.whole main_v3_0).slice (win0_4.rect t)).set := by
  refine (rows_cover (t := 64) (k := 1408) win0_4.index (by decide) (fun u => (idx u).2) i).imp fun u h => ?_
  rw [View.set_slice_whole, Rect.mem_set_unit]
  exact fun a => match a with | ⟨0, _⟩ => h 0 | ⟨1, _⟩ => h 1

/-- The four result arrays. -/
theorem fin : Step (P m c) (V m c main_v0) (V m c main_v1) (V m c main_v2)
    ((dats m 0 c).arrAt 4 cfg0.N) ((dats m 0 c).arrAt 5 cfg0.N) ((dats m 0 c).arrAt 6 cfg0.N) ((dats m 0 c).arrAt 7 cfg0.N) := by
  refine fun e l => And.imp (congrFun · (ix2 e l)) (And.imp (congrFun · (ix2 e l)) (And.imp (congrFun · (ix2 e l)) (congrFun · (ix2 e l))))
    ⟨(dats m 0 c).arrAt_eq_of_cover 4 (g m c) (fun t _ => (flushed4 m c t).trans (funext fun j => ?_)) fun i => (cover i).imp fun t h => ⟨flush0_4 t, h⟩,
    (dats m 0 c).arrAt_eq_of_cover 5 (fun i => dl (g m c i) (V m c main_v0 i) (V m c main_v1 i) (V m c main_v2 i)) (fun t _ => (flushed5 m c t).trans (funext fun j => ?_)) fun i => (cover i).imp fun t h => ⟨flush0_5 t, h⟩,
    (dats m 0 c).arrAt_eq_of_cover 6 (fun i => nm (g m c i) (V m c main_v1 i)) (fun t _ => (flushed6 m c t).trans (funext fun j => ?_)) fun i => (cover i).imp fun t h => ⟨flush0_6 t, h⟩,
    (dats m 0 c).arrAt_eq_of_cover 7 (fun i => nv (g m c i) (V m c main_v2 i)) (fun t _ => (flushed7 m c t).trans (funext fun j => ?_)) fun i => (cover i).imp fun t h => ⟨flush0_7 t, h⟩⟩
  all_goals
    clear e l
    obtain ⟨e, l, rfl⟩ := eta j
    have ho := outs (iblk m c 0 t) (iblk m c 1 t) (iblk m c 2 t) (iblk m c 3 t) e l
    rw [blk m c t e l _ rfl] at ho
    rw [View.read_apply]
  exacts [ho.1, ho.2.1, ho.2.2.1, ho.2.2.2]

end Cert.AdamUpIdeal.Blk

namespace Cert.AdamUpProof

open Cert.AdamSpec Cert.AdamUpRefIdeal Cert.AdamUpRefIdeal.Read Cert.AdamUpIdeal.Blk

theorem frame_ref : Cert.quiescent_AdamUpRefIdeal (hAdamUpRefIdeal := Cert.AdamUpRefIdeal.Gen.facts) := fun m ρ _ =>
  (θ_run Cert.AdamUpRefIdeal.defs _ _).mono (fun r h => ⟨fun c => (h c).2.2.2.2, sem_eq_zero_of_no_sems rfl r.2⟩) (Cert.AdamUpRefIdeal.Value.run (F := Ideal) m ρ)

/-- The reference's results. -/
theorem ref (x : Vec Ideal S4x8192x1408 .bf16) (w y z : Vec Ideal S4x2048x1408 .f32) :
    Step x (rows w) (rows y) (rows z) (val_main_v1 x) (val_main_v28 x w y z) (val_main_v9 x y) (val_main_v15 x z) := fun e l => by
  have h : ∀ k : Fin 4, idx_main_v1 (ix2 e l) k = ix3 k e l := fun k => funext fun a => match a with | ⟨0, _⟩ => rfl | ⟨1, _⟩ => rfl | ⟨2, _⟩ => rfl
  rw [← show val_main_v1 (F := Ideal) x (ix2 e l) = gs x e l by
    rw [val_main_v1_apply, Fin.sum_univ_four, h, h, h, h]
    unfold val_main_cst val_main_v0 gs
    pointwise]
  exact ⟨rfl, rfl, rfl, rfl⟩

/-- The call computes them. -/
theorem algebraic : Cert.algebraic_AdamUpIdeal_AdamUpRefIdeal (hAdamUpIdeal := Cert.AdamUpIdeal.Gen.facts)
    (hAdamUpRefIdeal := Cert.AdamUpRefIdeal.Gen.facts) := by
  intro m ρ m' ρ' _ hm
  refine ⟨_, _, _, _, Cert.AdamUpIdeal.Value.run_blocks m ρ, ?_⟩
  refine (θ_run Cert.AdamUpRefIdeal.defs _ _).mono (fun r h c => ?_) (Cert.AdamUpRefIdeal.Value.run (F := Ideal) m' ρ')
  obtain ⟨a0, a1, a2, a3⟩ := hm c
  obtain ⟨h0, h1, h2, h3, hk⟩ := h c
  obtain ⟨w1, w2, w3⟩ := V_w m c
  have hf := fin m c
  rw [w1, w2, w3] at hf
  obtain ⟨e0, e1, e2, e3⟩ := (ref _ _ _ _).ext hf
  refine ⟨h0.trans (Eq.trans ?_ e0), h1.trans (Eq.trans ?_ e1), h2.trans (Eq.trans ?_ e2), h3.trans (Eq.trans ?_ e3), hk⟩
  · rw [a0, val_main_v1_eq]
  · rw [a0, a1, a2, a3, val_main_v28_eq]
  · rw [a0, a2, val_main_v9_eq]
  · rw [a0, a3, val_main_v15_eq]

end Cert.AdamUpProof

end
-- ==== Proof.AdamDown.lean ====
/-
  The optimiser's step of the feed-forward network's down projection: the sum of the four chips' parts of the gradient, and the update from it.
-/
module

public import proofs.«01_k».proof.Proof.Gen.AdamDownIdeal.Value
public import proofs.«01_k».proof.Proof.AdamSpec
public import proofs.«01_k».proof.Defs
public import proofs.«01_k».proof.Proof.Gen.AdamDownRefIdeal.Read
public import Idealize.ShloMosaic.Lib.Tactic

@[expose] public section

noncomputable section

open Idealize.ShloMosaic Idealize.ShloMosaic.TcCoe Idealize.SL.Sem

namespace Cert.AdamDownIdeal.Blk

open Cert.AdamDownIdeal Cert.AdamDownIdeal.Gen Cert.AdamDownIdeal.Value Cert.AdamSpec

/-- The four output blocks of a point. -/
theorem outs (x0 : Vec Ideal S4x64x2048 .bf16) (x1 x2 x3 : Vec Ideal S64x2048 .f32) :
    Step x0 x1 x2 x3 (out0_4 x0 x1 x2 x3) (out0_5 x0 x1 x2 x3) (out0_6 x0 x1 x2 x3) (out0_7 x0 x1 x2 x3) := fun e l => by
  rw [← show k0_pay2 (F := Ideal) (View.ld x0 r0_0) (View.ld x0 r0_1) (View.ld x0 r0_2) (View.ld x0 r0_3) (ix2 e l) = gs x0 e l from
    congrArg₂ (· + ·) (congrArg₂ (· + ·) (congrArg₂ (· + ·) (part x0 0 _ _ e l) (part x0 1 _ _ e l)) (part x0 2 _ _ e l)) (part x0 3 _ _ e l)]
  unfold out0_4 out0_5 out0_6 out0_7 k0_pay8
  repeat rw [View.canon_unit_zero (S := S64x2048) hz]
  repeat rw [View.ld_unit_zero (S := S64x2048) hz]
  unfold k0_pay1 k0_pay6 k0_pay7 k0_pay5 k0_pay4 k0_pay3 dl nm nv
  refine ⟨rfl, ?_, ?_, ?_⟩ <;> pointwise

variable (m : (ℓ : Loc nD τ sig) → Buf (Elt Ideal) ℓ) (c : Dev nD)

/-- The parts; the weight and its moments in rows, as the host lays them out. -/
abbrev P : Vec Ideal S4x2816x2048 .bf16 := m (c.tc.loc main_arg0)
abbrev rows (a : Vec Ideal S4x704x2048 .f32) : Vec Ideal S2816x2048 .f32 := shapeCast _ a shapeCasts_S4x704x2048_S2816x2048
abbrev g : Vec Ideal S2816x2048 .f32 := fun i => gs (P m c) (i 0) (i 1)
theorem V_w : V m c main_v0 = rows (m (c.tc.loc main_arg1)) ∧ V m c main_v1 = rows (m (c.tc.loc main_arg2)) ∧ V m c main_v2 = rows (m (c.tc.loc main_arg3)) := by
  unfold V
  refine ⟨?_, ?_, ?_⟩ <;> (after_results_simp <;> rfl)

theorem idx : ∀ t : Fin grid0.N, win0_0.index t 0 = 0 ∧ win0_4.index t 0 = t.val ∧ win0_4.index t 1 = 0 := by decide +kernel

/-- The parts of a point's entry are those of the array's entry it is. -/
theorem blk (t : Fin cfg0.N) (e : Fin 64) (l : Fin 2048) (q : S2816x2048.Idx) (hq : q = ((cfg0.win 4).blk t).view.emb (ix2 e l)) :
    gs (iblk m c 0 t : Vec Ideal S4x64x2048 .bf16) e l = gs (P m c) (q 0) (q 1) := by
  have h : ∀ s : Fin 4, (iblk m c 0 t : Vec Ideal S4x64x2048 .bf16) (ix3 s e l) = P m c (ix3 s (q 0) (q 1)) := fun s => by
    subst hq
    unfold iblk
    rw [View.read_apply]
    refine Eq.trans (b := P m c (((cfg0.win 0).blk t).view.emb (ix3 s e l))) (congrFun (V_main_arg0 m c) _) (congrArg (P m c) (funext fun a => Fin.ext ?_))
    match a with
    | ⟨0, _⟩ => show win0_0.index t 0 * 4 + 1 * s.val = s.val; rw [(idx t).1]; omega
    | ⟨1, _⟩ => rfl
    | ⟨2, _⟩ => rfl
  unfold gs
  rw [h, h, h, h]

theorem cover (i : S2816x2048.Idx) : ∃ t : Fin cfg0.N, i ∈ ((View.whole main_v3_0).slice (win0_4.rect t)).set := by
  refine (rows_cover (t := 64) (k := 2048) win0_4.index (by decide) (fun u => (idx u).2) i).imp fun u h => ?_
  rw [View.set_slice_whole, Rect.mem_set_unit]
  exact fun a => match a with | ⟨0, _⟩ => h 0 | ⟨1, _⟩ => h 1

/-- The four result arrays. -/
theorem fin : Step (P m c) (V m c main_v0) (V m c main_v1) (V m c main_v2)
    ((dats m 0 c).arrAt 4 cfg0.N) ((dats m 0 c).arrAt 5 cfg0.N) ((dats m 0 c).arrAt 6 cfg0.N) ((dats m 0 c).arrAt 7 cfg0.N) := by
  refine fun e l => And.imp (congrFun · (ix2 e l)) (And.imp (congrFun · (ix2 e l)) (And.imp (congrFun · (ix2 e l)) (congrFun · (ix2 e l))))
    ⟨(dats m 0 c).arrAt_eq_of_cover 4 (g m c) (fun t _ => (flushed4 m c t).trans (funext fun j => ?_)) fun i => (cover i).imp fun t h => ⟨flush0_4 t, h⟩,
    (dats m 0 c).arrAt_eq_of_cover 5 (fun i => dl (g m c i) (V m c main_v0 i) (V m c main_v1 i) (V m c main_v2 i)) (fun t _ => (flushed5 m c t).trans (funext fun j => ?_)) fun i => (cover i).imp fun t h => ⟨flush0_5 t, h⟩,
    (dats m 0 c).arrAt_eq_of_cover 6 (fun i => nm (g m c i) (V m c main_v1 i)) (fun t _ => (flushed6 m c t).trans (funext fun j => ?_)) fun i => (cover i).imp fun t h => ⟨flush0_6 t, h⟩,
    (dats m 0 c).arrAt_eq_of_cover 7 (fun i => nv (g m c i) (V m c main_v2 i)) (fun t _ => (flushed7 m c t).trans (funext fun j => ?_)) fun i => (cover i).imp fun t h => ⟨flush0_7 t, h⟩⟩
  all_goals
    clear e l
    obtain ⟨e, l, rfl⟩ := eta j
    have ho := outs (iblk m c 0 t) (iblk m c 1 t) (iblk m c 2 t) (iblk m c 3 t) e l
    rw [blk m c t e l _ rfl] at ho
    rw [View.read_apply]
  exacts [ho.1, ho.2.1, ho.2.2.1, ho.2.2.2]

end Cert.AdamDownIdeal.Blk

namespace Cert.AdamDownProof

open Cert.AdamSpec Cert.AdamDownRefIdeal Cert.AdamDownRefIdeal.Read Cert.AdamDownIdeal.Blk

theorem frame_ref : Cert.quiescent_AdamDownRefIdeal (hAdamDownRefIdeal := Cert.AdamDownRefIdeal.Gen.facts) := fun m ρ _ =>
  (θ_run Cert.AdamDownRefIdeal.defs _ _).mono (fun r h => ⟨fun c => (h c).2.2.2.2, sem_eq_zero_of_no_sems rfl r.2⟩) (Cert.AdamDownRefIdeal.Value.run (F := Ideal) m ρ)

/-- The reference's results. -/
theorem ref (x : Vec Ideal S4x2816x2048 .bf16) (w y z : Vec Ideal S4x704x2048 .f32) :
    Step x (rows w) (rows y) (rows z) (val_main_v1 x) (val_main_v28 x w y z) (val_main_v9 x y) (val_main_v15 x z) := fun e l => by
  have h : ∀ k : Fin 4, idx_main_v1 (ix2 e l) k = ix3 k e l := fun k => funext fun a => match a with | ⟨0, _⟩ => rfl | ⟨1, _⟩ => rfl | ⟨2, _⟩ => rfl
  rw [← show val_main_v1 (F := Ideal) x (ix2 e l) = gs x e l by
    rw [val_main_v1_apply, Fin.sum_univ_four, h, h, h, h]
    unfold val_main_cst val_main_v0 gs
    pointwise]
  exact ⟨rfl, rfl, rfl, rfl⟩

/-- The call computes them. -/
theorem algebraic : Cert.algebraic_AdamDownIdeal_AdamDownRefIdeal (hAdamDownIdeal := Cert.AdamDownIdeal.Gen.facts)
    (hAdamDownRefIdeal := Cert.AdamDownRefIdeal.Gen.facts) := by
  intro m ρ m' ρ' _ hm
  refine ⟨_, _, _, _, Cert.AdamDownIdeal.Value.run_blocks m ρ, ?_⟩
  refine (θ_run Cert.AdamDownRefIdeal.defs _ _).mono (fun r h c => ?_) (Cert.AdamDownRefIdeal.Value.run (F := Ideal) m' ρ')
  obtain ⟨a0, a1, a2, a3⟩ := hm c
  obtain ⟨h0, h1, h2, h3, hk⟩ := h c
  obtain ⟨w1, w2, w3⟩ := V_w m c
  have hf := fin m c
  rw [w1, w2, w3] at hf
  obtain ⟨e0, e1, e2, e3⟩ := (ref _ _ _ _).ext hf
  refine ⟨h0.trans (Eq.trans ?_ e0), h1.trans (Eq.trans ?_ e1), h2.trans (Eq.trans ?_ e2), h3.trans (Eq.trans ?_ e3), hk⟩
  · rw [a0, val_main_v1_eq]
  · rw [a0, a1, a2, a3, val_main_v28_eq]
  · rw [a0, a2, val_main_v9_eq]
  · rw [a0, a3, val_main_v15_eq]

end Cert.AdamDownProof

end
-- ==== Proof.AdamS.lean ====
/-
  The optimiser's step of the small weights.
-/
module

public import proofs.«01_k».proof.Proof.Gen.AdamSIdeal.Value
public import proofs.«01_k».proof.Defs
public import proofs.«01_k».proof.Proof.Gen.AdamSRefIdeal.Read
public import Idealize.ShloMosaic.Lib.Quiescent
public import Idealize.ShloMosaic.Lib.Pipeline.ValueKit

@[expose] public section

noncomputable section

open Idealize.ShloMosaic Idealize.ShloMosaic.TcCoe Idealize.SL.Sem

namespace Cert.AdamSProof

open Cert.AdamSRefIdeal Cert.AdamSRefIdeal.Read

/-- The reference terminates, leaves its arguments alone and has no semaphores. -/
theorem frame_ref : Cert.quiescent_AdamSRefIdeal (hAdamSRefIdeal := Cert.AdamSRefIdeal.Gen.facts) := fun m ρ _ =>
  (θ_run Cert.AdamSRefIdeal.defs _ _).mono
    (fun r h => ⟨fun c => (h c).2.2.2, sem_eq_zero_of_no_sems rfl r.2⟩) (Cert.AdamSRefIdeal.Value.run (F := Ideal) m ρ)

/-- The call computes the reference's three results. -/
theorem algebraic : Cert.algebraic_AdamSIdeal_AdamSRefIdeal (hAdamSIdeal := Cert.AdamSIdeal.Gen.facts)
    (hAdamSRefIdeal := Cert.AdamSRefIdeal.Gen.facts) := by
  intro m ρ m' ρ' _ hm
  refine ⟨_, _, _, Cert.AdamSIdeal.Value.run m ρ, ?_⟩
  refine (θ_run Cert.AdamSRefIdeal.defs _ _).mono (fun r h c => ?_) (Cert.AdamSRefIdeal.Value.run (F := Ideal) m' ρ')
  obtain ⟨a0, a1, a2, a3⟩ := hm c
  obtain ⟨h0, h1, h2, hk⟩ := h c
  refine ⟨h0.trans ?_, h1.trans ?_, h2.trans ?_, hk⟩
  all_goals simp only [a0, a1, a2, a3]; rfl

end Cert.AdamSProof

end
-- ==== Proof.SumS.lean ====
/-
  The sum of the eight devices' parts of the packed small gradients.
-/
module

public import proofs.«01_k».proof.Proof.Gen.SumSIdeal.Value
public import proofs.«01_k».proof.Proof.AdamSpec
public import proofs.«01_k».proof.Defs
public import proofs.«01_k».proof.Proof.Gen.SumSRefIdeal.Read
public import Idealize.ShloMosaic.Lib.Quiescent
public import Idealize.ShloMosaic.Lib.Tactic

@[expose] public section

noncomputable section

open Idealize.ShloMosaic Idealize.ShloMosaic.TcCoe Idealize.SL.Sem

namespace Cert.SumSIdeal.Blk

open Cert.SumSIdeal Cert.SumSIdeal.Gen Cert.SumSIdeal.Value Cert.AdamSpec

/-- The output block of a point. -/
theorem out (x : Vec Ideal S8x1024x128 .f32) (e : Fin 1024) (l : Fin 128) :
    out0_1 (F := Ideal) x (ix2 e l) = ∑ s : Fin 8, x (ix3 s e l) := by
  unfold out0_1
  rw [View.canon_unit_zero (S := S1024x128) hz, Fin.sum_univ_eight]
  have h : ∀ (s : Fin 8) (inb), shapeCast S1024x128 (View.ld x (Rect.unit (s := S8x1024x128) ![s.val, 0, 0] S1x1024x128.size inb))
      shapeCasts_S1x1024x128_S1024x128 (ix2 e l) = x (ix3 s e l) := fun s inb => part x s inb _ e l
  rw [← h 0 inb_S8x1024x128_S1x1024x128_0_0_0, ← h 1 inb_S8x1024x128_S1x1024x128_1_0_0, ← h 2 inb_S8x1024x128_S1x1024x128_2_0_0, ← h 3 inb_S8x1024x128_S1x1024x128_3_0_0,
    ← h 4 inb_S8x1024x128_S1x1024x128_4_0_0, ← h 5 inb_S8x1024x128_S1x1024x128_5_0_0, ← h 6 inb_S8x1024x128_S1x1024x128_6_0_0, ← h 7 inb_S8x1024x128_S1x1024x128_7_0_0]
  rfl

variable (m : (ℓ : Loc nD τ sig) → Buf (Elt Ideal) ℓ) (c : Dev nD)

abbrev P : Vec Ideal S8x10240x128 .f32 := m ((c.tc : Thread nD τ).loc main_arg0)

/-- The windows' block indices. -/
theorem idx : ∀ t : Fin grid0.N, win0_0.index t 0 = 0 ∧ win0_1.index t 0 = t.val ∧ win0_1.index t 1 = 0 := by decide +kernel

/-- The result array. -/
theorem fin : (dats m 0 c).arrAt 1 cfg0.N = (id (fun i => ∑ s : Fin 8, P m c (ix3 s (i 0) (i 1)) : Vec Ideal S10240x128 .f32) : Buf (Elt Ideal) ((c : Thread nD τ).loc main_v0)) := by
  refine (dats m 0 c).arrAt_eq_of_cover 1 _ (fun t _ => (flushed1 m c t).trans (funext fun j => ?_)) fun i =>
    (rows_cover (t := 1024) (k := 128) win0_1.index (by decide) (fun u => (idx u).2) i).imp fun u h => ⟨flush0_1 u, ?_⟩
  · obtain ⟨e, l, rfl⟩ := eta j
    rw [View.read_apply]
    let q : S10240x128.Idx := ((cfg0.win 1).blk t).view.emb (ix2 e l)
    refine (out _ e l).trans (Eq.trans (b := ∑ s : Fin 8, P m c (ix3 s (q 0) (q 1))) (Finset.sum_congr rfl fun s _ => ?_) rfl)
    unfold iblk
    rw [View.read_apply]
    refine Eq.trans (b := P m c (((cfg0.win 0).blk t).view.emb (ix3 s e l))) (congrFun (V_main_arg0 m c) _) (congrArg (P m c) (funext fun a => Fin.ext ?_))
    match a with
    | ⟨0, _⟩ => show win0_0.index t 0 * 8 + 1 * s.val = s.val; rw [(idx t).1]; omega
    | ⟨1, _⟩ => rfl
    | ⟨2, _⟩ => rfl
  · rw [show ((cfg0.win 1).blk u).view.set = ((View.whole main_v0).slice (win0_1.rect u)).set from rfl, View.set_slice_whole, Rect.mem_set_unit]
    exact fun a => match a with | ⟨0, _⟩ => h 0 | ⟨1, _⟩ => h 1

end Cert.SumSIdeal.Blk

namespace Cert.SumSProof

open Cert.AdamSpec Cert.SumSRefIdeal Cert.SumSRefIdeal.Read

/-- The reference terminates, leaves its argument alone and has no semaphores. -/
theorem frame_ref : Cert.quiescent_SumSRefIdeal (hSumSRefIdeal := Cert.SumSRefIdeal.Gen.facts) := fun m ρ _ =>
  (θ_run Cert.SumSRefIdeal.defs _ _).mono
    (fun r h => ⟨fun c => (h c).2, sem_eq_zero_of_no_sems rfl r.2⟩) (Cert.SumSRefIdeal.Value.run (F := Ideal) m ρ)

/-- The reference's sum of the parts. -/
theorem ref_sum (x : Vec Ideal S8x10240x128 .f32) : val_main_v0 (F := Ideal) x = fun i => ∑ s : Fin 8, x (ix3 s (i 0) (i 1)) := funext fun i => by
  have h : ∀ k : Fin 8, idx_main_v0 i k = ix3 k (i 0) (i 1) := fun k => funext fun a => match a with | ⟨0, _⟩ => rfl | ⟨1, _⟩ => rfl | ⟨2, _⟩ => rfl
  rw [val_main_v0_apply]
  simp only [h]
  unfold val_main_cst
  pointwise

/-- The call computes the reference's result. -/
theorem algebraic : Cert.algebraic_SumSIdeal_SumSRefIdeal (hSumSIdeal := Cert.SumSIdeal.Gen.facts)
    (hSumSRefIdeal := Cert.SumSRefIdeal.Gen.facts) := by
  intro m ρ m' ρ' _ hm
  refine ⟨_, Cert.SumSIdeal.Value.run_blocks m ρ, ?_⟩
  refine (θ_run Cert.SumSRefIdeal.defs _ _).mono (fun r h c => ?_) (Cert.SumSRefIdeal.Value.run (F := Ideal) m' ρ')
  obtain ⟨h0, hk⟩ := h c
  refine ⟨h0.trans (((val_main_v0_eq _).trans ?_).trans (Cert.SumSIdeal.Blk.fin m c).symm), hk⟩
  rw [hm c, ref_sum]
  rfl

end Cert.SumSProof

end
-- ==== Proof.lean ====
/-
  The claims: for the gradient of the gated feed-forward mix and for each product, both programs' frames, the reference's, and
  the equality of the kernel's results with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnClaim
public import proofs.«01_k».proof.Proof.UpX
public import proofs.«01_k».proof.Proof.UpW
public import proofs.«01_k».proof.Proof.DownX
public import proofs.«01_k».proof.Proof.DownW
public import proofs.«01_k».proof.Proof.ProjX
public import proofs.«01_k».proof.Proof.ProjW
public import proofs.«01_k».proof.Proof.UpY
public import proofs.«01_k».proof.Proof.DownY
public import proofs.«01_k».proof.Proof.ProjY
public import proofs.«01_k».proof.Proof.OutY
public import proofs.«01_k».proof.Proof.OutX
public import proofs.«01_k».proof.Proof.OutW
public import proofs.«01_k».proof.Proof.GluY
public import proofs.«01_k».proof.Proof.GluX
public import proofs.«01_k».proof.Proof.GluW
public import proofs.«01_k».proof.Proof.DnY
public import proofs.«01_k».proof.Proof.DnX
public import proofs.«01_k».proof.Proof.DnW
public import proofs.«01_k».proof.Proof.NormB
public import proofs.«01_k».proof.Proof.MergeB
public import proofs.«01_k».proof.Proof.PostB
public import proofs.«01_k».proof.Proof.PreB
public import proofs.«01_k».proof.Proof.FfnY
public import proofs.«01_k».proof.Proof.NormY
public import proofs.«01_k».proof.Proof.MergeY
public import proofs.«01_k».proof.Proof.LossB
public import proofs.«01_k».proof.Proof.PostY
public import proofs.«01_k».proof.Proof.PreY
public import proofs.«01_k».proof.Proof.AdamIn
public import proofs.«01_k».proof.Proof.AdamGlu
public import proofs.«01_k».proof.Proof.AdamDn
public import proofs.«01_k».proof.Proof.AdamOut
public import proofs.«01_k».proof.Proof.AdamUp
public import proofs.«01_k».proof.Proof.AdamDown
public import proofs.«01_k».proof.Proof.AdamS
public import proofs.«01_k».proof.Proof.SumS
public import proofs.«01_k».proof.Proof.Gen.UpX.Frame
public import proofs.«01_k».proof.Proof.Gen.UpW.Frame
public import proofs.«01_k».proof.Proof.Gen.DownX.Frame
public import proofs.«01_k».proof.Proof.Gen.DownW.Frame
public import proofs.«01_k».proof.Proof.Gen.ProjX.Frame
public import proofs.«01_k».proof.Proof.Gen.ProjW.Frame
public import proofs.«01_k».proof.Proof.Gen.UpY.Frame
public import proofs.«01_k».proof.Proof.Gen.DownY.Frame
public import proofs.«01_k».proof.Proof.Gen.ProjY.Frame
public import proofs.«01_k».proof.Proof.Gen.OutY.Frame
public import proofs.«01_k».proof.Proof.Gen.OutX.Frame
public import proofs.«01_k».proof.Proof.Gen.OutW.Frame
public import proofs.«01_k».proof.Proof.Gen.GluY.Frame
public import proofs.«01_k».proof.Proof.Gen.GluX.Frame
public import proofs.«01_k».proof.Proof.Gen.GluW.Frame
public import proofs.«01_k».proof.Proof.Gen.DnY.Frame
public import proofs.«01_k».proof.Proof.Gen.DnX.Frame
public import proofs.«01_k».proof.Proof.Gen.DnW.Frame
public import proofs.«01_k».proof.Proof.Gen.NormB.Frame
public import proofs.«01_k».proof.Proof.Gen.MergeB.Frame
public import proofs.«01_k».proof.Proof.Gen.PostB.Frame
public import proofs.«01_k».proof.Proof.Gen.PreB.Frame
public import proofs.«01_k».proof.Proof.Gen.FfnY.Frame
public import proofs.«01_k».proof.Proof.Gen.NormY.Frame
public import proofs.«01_k».proof.Proof.Gen.MergeY.Frame
public import proofs.«01_k».proof.Proof.Gen.LossB.Frame
public import proofs.«01_k».proof.Proof.Gen.PostY.Frame
public import proofs.«01_k».proof.Proof.Gen.PreY.Frame
public import proofs.«01_k».proof.Proof.Gen.AdamIn.Frame
public import proofs.«01_k».proof.Proof.Gen.AdamGlu.Frame
public import proofs.«01_k».proof.Proof.Gen.AdamDn.Frame
public import proofs.«01_k».proof.Proof.Gen.AdamOut.Frame
public import proofs.«01_k».proof.Proof.Gen.AdamUp.Frame
public import proofs.«01_k».proof.Proof.Gen.AdamDown.Frame
public import proofs.«01_k».proof.Proof.Gen.AdamS.Frame
public import proofs.«01_k».proof.Proof.Gen.SumS.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.UpX.Gen.facts, Cert.UpXIdeal.Gen.facts, Cert.UpXRefIdeal.Gen.facts,
  Cert.UpW.Gen.facts, Cert.UpWIdeal.Gen.facts, Cert.UpWRefIdeal.Gen.facts,
  Cert.DownX.Gen.facts, Cert.DownXIdeal.Gen.facts, Cert.DownXRefIdeal.Gen.facts,
  Cert.DownW.Gen.facts, Cert.DownWIdeal.Gen.facts, Cert.DownWRefIdeal.Gen.facts,
  Cert.ProjX.Gen.facts, Cert.ProjXIdeal.Gen.facts, Cert.ProjXRefIdeal.Gen.facts,
  Cert.ProjW.Gen.facts, Cert.ProjWIdeal.Gen.facts, Cert.ProjWRefIdeal.Gen.facts,
  Cert.UpY.Gen.facts, Cert.UpYIdeal.Gen.facts, Cert.UpYRefIdeal.Gen.facts,
  Cert.DownY.Gen.facts, Cert.DownYIdeal.Gen.facts, Cert.DownYRefIdeal.Gen.facts,
  Cert.ProjY.Gen.facts, Cert.ProjYIdeal.Gen.facts, Cert.ProjYRefIdeal.Gen.facts,
  Cert.OutY.Gen.facts, Cert.OutYIdeal.Gen.facts, Cert.OutYRefIdeal.Gen.facts,
  Cert.OutX.Gen.facts, Cert.OutXIdeal.Gen.facts, Cert.OutXRefIdeal.Gen.facts,
  Cert.OutW.Gen.facts, Cert.OutWIdeal.Gen.facts, Cert.OutWRefIdeal.Gen.facts,
  Cert.GluY.Gen.facts, Cert.GluYIdeal.Gen.facts, Cert.GluYRefIdeal.Gen.facts,
  Cert.GluX.Gen.facts, Cert.GluXIdeal.Gen.facts, Cert.GluXRefIdeal.Gen.facts,
  Cert.GluW.Gen.facts, Cert.GluWIdeal.Gen.facts, Cert.GluWRefIdeal.Gen.facts,
  Cert.DnY.Gen.facts, Cert.DnYIdeal.Gen.facts, Cert.DnYRefIdeal.Gen.facts,
  Cert.DnX.Gen.facts, Cert.DnXIdeal.Gen.facts, Cert.DnXRefIdeal.Gen.facts,
  Cert.DnW.Gen.facts, Cert.DnWIdeal.Gen.facts, Cert.DnWRefIdeal.Gen.facts,
  Cert.NormB.Gen.facts, Cert.NormBIdeal.Gen.facts, Cert.NormBRefIdeal.Gen.facts,
  Cert.MergeB.Gen.facts, Cert.MergeBIdeal.Gen.facts, Cert.MergeBRefIdeal.Gen.facts,
  Cert.PostB.Gen.facts, Cert.PostBIdeal.Gen.facts, Cert.PostBRefIdeal.Gen.facts,
  Cert.PreB.Gen.facts, Cert.PreBIdeal.Gen.facts, Cert.PreBRefIdeal.Gen.facts,
  Cert.FfnY.Gen.facts, Cert.FfnYIdeal.Gen.facts, Cert.FfnYRefIdeal.Gen.facts,
  Cert.NormY.Gen.facts, Cert.NormYIdeal.Gen.facts, Cert.NormYRefIdeal.Gen.facts,
  Cert.MergeY.Gen.facts, Cert.MergeYIdeal.Gen.facts, Cert.MergeYRefIdeal.Gen.facts,
  Cert.LossB.Gen.facts, Cert.LossBIdeal.Gen.facts, Cert.LossBRefIdeal.Gen.facts,
  Cert.PostY.Gen.facts, Cert.PostYIdeal.Gen.facts, Cert.PostYRefIdeal.Gen.facts,
  Cert.PreY.Gen.facts, Cert.PreYIdeal.Gen.facts, Cert.PreYRefIdeal.Gen.facts,
  Cert.AdamIn.Gen.facts, Cert.AdamInIdeal.Gen.facts, Cert.AdamInRefIdeal.Gen.facts,
  Cert.AdamGlu.Gen.facts, Cert.AdamGluIdeal.Gen.facts, Cert.AdamGluRefIdeal.Gen.facts,
  Cert.AdamDn.Gen.facts, Cert.AdamDnIdeal.Gen.facts, Cert.AdamDnRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamS.Gen.facts, Cert.AdamSIdeal.Gen.facts, Cert.AdamSRefIdeal.Gen.facts,
  Cert.SumS.Gen.facts, Cert.SumSIdeal.Gen.facts, Cert.SumSRefIdeal.Gen.facts,
  fun m ρ _ => Cert.Kernel.Gen.frame m ρ, fun m ρ _ => Cert.KernelIdeal.Gen.frame m ρ, frame_ref,
  fun m ρ _ => Cert.UpX.Gen.frame m ρ, fun m ρ _ => Cert.UpXIdeal.Gen.frame m ρ, Cert.UpXProof.frame_ref,
  fun m ρ _ => Cert.UpW.Gen.frame m ρ, fun m ρ _ => Cert.UpWIdeal.Gen.frame m ρ, Cert.UpWProof.frame_ref,
  fun m ρ _ => Cert.DownX.Gen.frame m ρ, fun m ρ _ => Cert.DownXIdeal.Gen.frame m ρ, Cert.DownXProof.frame_ref,
  fun m ρ _ => Cert.DownW.Gen.frame m ρ, fun m ρ _ => Cert.DownWIdeal.Gen.frame m ρ, Cert.DownWProof.frame_ref,
  fun m ρ _ => Cert.ProjX.Gen.frame m ρ, fun m ρ _ => Cert.ProjXIdeal.Gen.frame m ρ, Cert.ProjXProof.frame_ref,
  fun m ρ _ => Cert.ProjW.Gen.frame m ρ, fun m ρ _ => Cert.ProjWIdeal.Gen.frame m ρ, Cert.ProjWProof.frame_ref,
  fun m ρ _ => Cert.UpY.Gen.frame m ρ, fun m ρ _ => Cert.UpYIdeal.Gen.frame m ρ, Cert.UpYProof.frame_ref,
  fun m ρ _ => Cert.DownY.Gen.frame m ρ, fun m ρ _ => Cert.DownYIdeal.Gen.frame m ρ, Cert.DownYProof.frame_ref,
  fun m ρ _ => Cert.ProjY.Gen.frame m ρ, fun m ρ _ => Cert.ProjYIdeal.Gen.frame m ρ, Cert.ProjYProof.frame_ref,
  fun m ρ _ => Cert.OutY.Gen.frame m ρ, fun m ρ _ => Cert.OutYIdeal.Gen.frame m ρ, Cert.OutYProof.frame_ref,
  fun m ρ _ => Cert.OutX.Gen.frame m ρ, fun m ρ _ => Cert.OutXIdeal.Gen.frame m ρ, Cert.OutXProof.frame_ref,
  fun m ρ _ => Cert.OutW.Gen.frame m ρ, fun m ρ _ => Cert.OutWIdeal.Gen.frame m ρ, Cert.OutWProof.frame_ref,
  fun m ρ _ => Cert.GluY.Gen.frame m ρ, fun m ρ _ => Cert.GluYIdeal.Gen.frame m ρ, Cert.GluYProof.frame_ref,
  fun m ρ _ => Cert.GluX.Gen.frame m ρ, fun m ρ _ => Cert.GluXIdeal.Gen.frame m ρ, Cert.GluXProof.frame_ref,
  fun m ρ _ => Cert.GluW.Gen.frame m ρ, fun m ρ _ => Cert.GluWIdeal.Gen.frame m ρ, Cert.GluWProof.frame_ref,
  fun m ρ _ => Cert.DnY.Gen.frame m ρ, fun m ρ _ => Cert.DnYIdeal.Gen.frame m ρ, Cert.DnYProof.frame_ref,
  fun m ρ _ => Cert.DnX.Gen.frame m ρ, fun m ρ _ => Cert.DnXIdeal.Gen.frame m ρ, Cert.DnXProof.frame_ref,
  fun m ρ _ => Cert.DnW.Gen.frame m ρ, fun m ρ _ => Cert.DnWIdeal.Gen.frame m ρ, Cert.DnWProof.frame_ref,
  fun m ρ _ => Cert.NormB.Gen.frame m ρ, fun m ρ _ => Cert.NormBIdeal.Gen.frame m ρ, Cert.NormBProof.frame_ref,
  fun m ρ _ => Cert.MergeB.Gen.frame m ρ, fun m ρ _ => Cert.MergeBIdeal.Gen.frame m ρ, Cert.MergeBProof.frame_ref,
  fun m ρ _ => Cert.PostB.Gen.frame m ρ, fun m ρ _ => Cert.PostBIdeal.Gen.frame m ρ, Cert.PostBProof.frame_ref,
  fun m ρ _ => Cert.PreB.Gen.frame m ρ, fun m ρ _ => Cert.PreBIdeal.Gen.frame m ρ, Cert.PreBProof.frame_ref,
  fun m ρ _ => Cert.FfnY.Gen.frame m ρ, fun m ρ _ => Cert.FfnYIdeal.Gen.frame m ρ, Cert.FfnYProof.frame_ref,
  fun m ρ _ => Cert.NormY.Gen.frame m ρ, fun m ρ _ => Cert.NormYIdeal.Gen.frame m ρ, Cert.NormYProof.frame_ref,
  fun m ρ _ => Cert.MergeY.Gen.frame m ρ, fun m ρ _ => Cert.MergeYIdeal.Gen.frame m ρ, Cert.MergeYProof.frame_ref,
  fun m ρ _ => Cert.LossB.Gen.frame m ρ, fun m ρ _ => Cert.LossBIdeal.Gen.frame m ρ, Cert.LossBProof.frame_ref,
  fun m ρ _ => Cert.PostY.Gen.frame m ρ, fun m ρ _ => Cert.PostYIdeal.Gen.frame m ρ, Cert.PostYProof.frame_ref,
  fun m ρ _ => Cert.PreY.Gen.frame m ρ, fun m ρ _ => Cert.PreYIdeal.Gen.frame m ρ, Cert.PreYProof.frame_ref,
  fun m ρ _ => Cert.AdamIn.Gen.frame m ρ, fun m ρ _ => Cert.AdamInIdeal.Gen.frame m ρ, Cert.AdamInProof.frame_ref,
  fun m ρ _ => Cert.AdamGlu.Gen.frame m ρ, fun m ρ _ => Cert.AdamGluIdeal.Gen.frame m ρ, Cert.AdamGluProof.frame_ref,
  fun m ρ _ => Cert.AdamDn.Gen.frame m ρ, fun m ρ _ => Cert.AdamDnIdeal.Gen.frame m ρ, Cert.AdamDnProof.frame_ref,
  fun m ρ _ => Cert.AdamOut.Gen.frame m ρ, fun m ρ _ => Cert.AdamOutIdeal.Gen.frame m ρ, Cert.AdamOutProof.frame_ref,
  fun m ρ _ => Cert.AdamUp.Gen.frame m ρ, fun m ρ _ => Cert.AdamUpIdeal.Gen.frame m ρ, Cert.AdamUpProof.frame_ref,
  fun m ρ _ => Cert.AdamDown.Gen.frame m ρ, fun m ρ _ => Cert.AdamDownIdeal.Gen.frame m ρ, Cert.AdamDownProof.frame_ref,
  fun m ρ _ => Cert.AdamS.Gen.frame m ρ, fun m ρ _ => Cert.AdamSIdeal.Gen.frame m ρ, Cert.AdamSProof.frame_ref,
  fun m ρ _ => Cert.SumS.Gen.frame m ρ, fun m ρ _ => Cert.SumSIdeal.Gen.frame m ρ, Cert.SumSProof.frame_ref,
  trivial, algebraic,
  trivial, Cert.UpXProof.algebraic,
  trivial, Cert.UpWProof.algebraic,
  trivial, Cert.DownXProof.algebraic,
  trivial, Cert.DownWProof.algebraic,
  trivial, Cert.ProjXProof.algebraic,
  trivial, Cert.ProjWProof.algebraic,
  trivial, Cert.UpYProof.algebraic,
  trivial, Cert.DownYProof.algebraic,
  trivial, Cert.ProjYProof.algebraic,
  trivial, Cert.OutYProof.algebraic,
  trivial, Cert.OutXProof.algebraic,
  trivial, Cert.OutWProof.algebraic,
  trivial, Cert.GluYProof.algebraic,
  trivial, Cert.GluXProof.algebraic,
  trivial, Cert.GluWProof.algebraic,
  trivial, Cert.DnYProof.algebraic,
  trivial, Cert.DnXProof.algebraic,
  trivial, Cert.DnWProof.algebraic,
  trivial, Cert.NormBProof.algebraic,
  trivial, Cert.MergeBProof.algebraic,
  trivial, Cert.PostBProof.algebraic,
  trivial, Cert.PreBProof.algebraic,
  trivial, Cert.FfnYProof.algebraic,
  trivial, Cert.NormYProof.algebraic,
  trivial, Cert.MergeYProof.algebraic,
  trivial, Cert.LossBProof.algebraic,
  trivial, Cert.PostYProof.algebraic,
  trivial, Cert.PreYProof.algebraic,
  trivial, Cert.AdamInProof.algebraic,
  trivial, Cert.AdamGluProof.algebraic,
  trivial, Cert.AdamDnProof.algebraic,
  trivial, Cert.AdamOutProof.algebraic,
  trivial, Cert.AdamUpProof.algebraic,
  trivial, Cert.AdamDownProof.algebraic,
  trivial, Cert.AdamSProof.algebraic,
  trivial, Cert.SumSProof.algebraic⟩

end Cert.Proof

end
